-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x7168 : Shape := ⟨3, ![16, 128, 7168]⟩
abbrev S16x128 : Shape := ⟨2, ![16, 128]⟩
abbrev S7168x256 : Shape := ⟨2, ![7168, 256]⟩
abbrev S16x128x8 : Shape := ⟨3, ![16, 128, 8]⟩
abbrev S2048x7168 : Shape := ⟨2, ![2048, 7168]⟩
abbrev S16x8x128 : Shape := ⟨3, ![16, 8, 128]⟩
abbrev S2048x256 : Shape := ⟨2, ![2048, 256]⟩
abbrev S256x7168 : Shape := ⟨2, ![256, 7168]⟩
abbrev S2x256x256 : Shape := ⟨3, ![2, 256, 256]⟩
abbrev S2x256x128 : Shape := ⟨3, ![2, 256, 128]⟩
abbrev S16x256x128 : Shape := ⟨3, ![16, 256, 128]⟩
abbrev S2x256x7168 : Shape := ⟨3, ![2, 256, 7168]⟩
abbrev S7 : Shape := ⟨1, ![7]⟩
abbrev S8 : Shape := ⟨1, ![8]⟩
abbrev S3 : Shape := ⟨1, ![3]⟩
abbrev S2 : Shape := ⟨1, ![2]⟩
abbrev S_ : Shape := ⟨0, ![]⟩
abbrev S1 : Shape := ⟨1, ![1]⟩
abbrev S1024x256 : Shape := ⟨2, ![1024, 256]⟩
abbrev S256x1024 : Shape := ⟨2, ![256, 1024]⟩
abbrev S256x256 : Shape := ⟨2, ![256, 256]⟩
abbrev S1x256x256 : Shape := ⟨3, ![1, 256, 256]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S1x128 : Shape := ⟨2, ![1, 128]⟩
abbrev S128 : Shape := ⟨1, ![128]⟩
abbrev S128x256 : Shape := ⟨2, ![128, 256]⟩
abbrev S1x128x256 : Shape := ⟨3, ![1, 128, 256]⟩
abbrev S128x128 : Shape := ⟨2, ![128, 128]⟩
abbrev S1x128x128 : Shape := ⟨3, ![1, 128, 128]⟩
abbrev S1x256x7168 : Shape := ⟨3, ![1, 256, 7168]⟩
abbrev S256x1 : Shape := ⟨2, ![256, 1]⟩
abbrev S256x512 : Shape := ⟨2, ![256, 512]⟩
abbrev S1x256x512 : Shape := ⟨3, ![1, 256, 512]⟩
abbrev S512x256 : Shape := ⟨2, ![512, 256]⟩

abbrev nBuf : Space → Nat
  | .hbm => 13
  | .vmem => 15
  | .smem => 0
  | _ => 0

abbrev bufTy : (tb : Table) → Fin (tcTables nBuf tb) → BufTy
  | .hbm, ⟨0, _⟩ => ⟨S16x128x7168, .fp8e4m3⟩
  | .hbm, ⟨1, _⟩ => ⟨S16x128, .f32⟩
  | .hbm, ⟨2, _⟩ => ⟨S7168x256, .bf16⟩
  | .hbm, ⟨3, _⟩ => ⟨S16x128x8, .i32⟩
  | .hbm, ⟨4, _⟩ => ⟨S16x128x8, .bf16⟩
  | .hbm, ⟨5, _⟩ => ⟨S2048x7168, .fp8e4m3⟩
  | .hbm, ⟨6, _⟩ => ⟨S16x8x128, .i32⟩
  | .hbm, ⟨7, _⟩ => ⟨S16x8x128, .bf16⟩
  | .hbm, ⟨8, _⟩ => ⟨S2048x7168, .bf16⟩
  | .hbm, ⟨9, _⟩ => ⟨S7168x256, .f32⟩
  | .hbm, ⟨10, _⟩ => ⟨S2048x256, .f32⟩
  | .hbm, ⟨11, _⟩ => ⟨S2048x256, .fp8e5m2⟩
  | .hbm, ⟨12, _⟩ => ⟨S16x128, .f32⟩
  | .local _ .vmem, ⟨0, _⟩ => ⟨S2048x7168, .fp8e4m3⟩
  | .local _ .vmem, ⟨1, _⟩ => ⟨S7168x256, .bf16⟩
  | .local _ .vmem, ⟨2, _⟩ => ⟨S256x7168, .bf16⟩
  | .local _ .vmem, ⟨3, _⟩ => ⟨S16x8x128, .i32⟩
  | .local _ .vmem, ⟨4, _⟩ => ⟨S16x8x128, .bf16⟩
  | .local _ .vmem, ⟨5, _⟩ => ⟨S16x128, .f32⟩
  | .local _ .vmem, ⟨6, _⟩ => ⟨S2x256x256, .f32⟩
  | .local _ .vmem, ⟨7, _⟩ => ⟨S2x256x256, .bf16⟩
  | .local _ .vmem, ⟨8, _⟩ => ⟨S2x256x128, .f32⟩
  | .local _ .vmem, ⟨9, _⟩ => ⟨S16x256x128, .bf16⟩
  | .local _ .vmem, ⟨10, _⟩ => ⟨S2x256x7168, .bf16⟩
  | .local _ .vmem, ⟨11, _⟩ => ⟨S7168x256, .f32⟩
  | .local _ .vmem, ⟨12, _⟩ => ⟨S2048x256, .f32⟩
  | .local _ .vmem, ⟨13, _⟩ => ⟨S2048x256, .fp8e5m2⟩
  | .local _ .vmem, ⟨14, _⟩ => ⟨S16x128, .f32⟩
  | _, _ => ⟨S16x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none

def k0_mult1 : BitVec 32 :=
  let c256_i32 : BitVec 32 := 256#32
  c256_i32
def k0_mult2 : BitVec 32 :=
  let c256_i32_60 : BitVec 32 := 256#32
  c256_i32_60
def k0_mult3 : BitVec 32 :=
  let c512_i32 : BitVec 32 := 512#32
  c512_i32
def k0_mult4 : BitVec 32 :=
  let c512_i32_64 : BitVec 32 := 512#32
  c512_i32_64
def k0_mult5 : BitVec 32 :=
  let c768_i32 : BitVec 32 := 768#32
  c768_i32
def k0_mult6 : BitVec 32 :=
  let c768_i32_68 : BitVec 32 := 768#32
  c768_i32_68
def k0_mult7 : BitVec 32 :=
  let c1024_i32_72 : BitVec 32 := 1024#32
  c1024_i32_72
def k0_mult8 : BitVec 32 :=
  let c1024_i32_73 : BitVec 32 := 1024#32
  c1024_i32_73
def k0_mult9 : BitVec 32 :=
  let c1280_i32 : BitVec 32 := 1280#32
  c1280_i32
def k0_mult10 : BitVec 32 :=
  let c1280_i32_77 : BitVec 32 := 1280#32
  c1280_i32_77
def k0_mult11 : BitVec 32 :=
  let c1536_i32 : BitVec 32 := 1536#32
  c1536_i32
def k0_mult12 : BitVec 32 :=
  let c1536_i32_81 : BitVec 32 := 1536#32
  c1536_i32_81
def k0_mult13 : BitVec 32 :=
  let c1792_i32 : BitVec 32 := 1792#32
  c1792_i32
def k0_mult14 : BitVec 32 :=
  let c1792_i32_85 : BitVec 32 := 1792#32
  c1792_i32_85
def k0_mult15 : BitVec 32 :=
  let c256_i32_205 : BitVec 32 := 256#32
  c256_i32_205
def k0_mult16 : BitVec 32 :=
  let c256_i32_206 : BitVec 32 := 256#32
  c256_i32_206
def k0_mult17 : BitVec 32 :=
  let c256_i32_212 : BitVec 32 := 256#32
  c256_i32_212
def k0_mult18 : BitVec 32 :=
  let c0_i32_283 : BitVec 32 := 0#32
  c0_i32_283
def k0_mult19 : BitVec 32 :=
  let c128_i32_367 : BitVec 32 := 128#32
  c128_i32_367
def k0_mult20 : BitVec 32 :=
  let c0_i32_376 : BitVec 32 := 0#32
  c0_i32_376
def k0_mult21 : BitVec 32 :=
  let c0_i32_377 : BitVec 32 := 0#32
  c0_i32_377
def k0_mult22 : BitVec 32 :=
  let c0_i32_378 : BitVec 32 := 0#32
  c0_i32_378
def k0_mult23 : BitVec 32 :=
  let c0_i32_379 : BitVec 32 := 0#32
  c0_i32_379
@[reducible] def k0_t1_loop : Scf.Loop 32 :=
  let c0_i32_386 : BitVec 32 := 0#32
  let c6_i32_387 : BitVec 32 := 6#32
  let v813 : BitVec 32 := Scalar.addi c0_i32_386 c6_i32_387
  let c1_i32_388 : BitVec 32 := 1#32
  ⟨c0_i32_386, v813, c1_i32_388⟩
def k0_mult24 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c2_i32_976 : BitVec 32 := 2#32
  let v1854 : BitVec 32 := Scalar.addi arg32 c2_i32_976
  let c256_i32_977 : BitVec 32 := 256#32
  let v1855 : BitVec 32 := Scalar.muli v1854 c256_i32_977
  v1855
def k0_mult25 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c2_i32_976 : BitVec 32 := 2#32
  let v1854 : BitVec 32 := Scalar.addi arg32 c2_i32_976
  let c256_i32_978 : BitVec 32 := 256#32
  let v1857 : BitVec 32 := Scalar.muli v1854 c256_i32_978
  v1857
def k0_off1 (k0_t1 : Fin k0_t1_loop.trips) : Fin 1 → Nat :=
  let c0_i32_386 : BitVec 32 := 0#32
  let c1_i32_388 : BitVec 32 := 1#32
  let arg32 : BitVec 32 := Scf.iv c0_i32_386 c1_i32_388 k0_t1
  let c2_i32_976 : BitVec 32 := 2#32
  let v1854 : BitVec 32 := Scalar.addi arg32 c2_i32_976
  ![v1854.toNat]
def k0_off2 (k0_t1 : Fin k0_t1_loop.trips) : Fin 2 → Nat :=
  let c0_i32_386 : BitVec 32 := 0#32
  let c1_i32_388 : BitVec 32 := 1#32
  let arg32 : BitVec 32 := Scf.iv c0_i32_386 c1_i32_388 k0_t1
  let c2_i32_976 : BitVec 32 := 2#32
  let v1854 : BitVec 32 := Scalar.addi arg32 c2_i32_976
  let c256_i32_978 : BitVec 32 := 256#32
  let v1857 : BitVec 32 := Scalar.muli v1854 c256_i32_978
  let v1858 : BitVec 32 := v1857
  let c0_i32_979 : BitVec 32 := 0#32
  ![v1858.toNat, 0]
def k0_cond1 (k0_t1 : Fin k0_t1_loop.trips) : BitVec 1 :=
  let c0_i32_386 : BitVec 32 := 0#32
  let c1_i32_388 : BitVec 32 := 1#32
  let arg32 : BitVec 32 := Scf.iv c0_i32_386 c1_i32_388 k0_t1
  let c2_i32_981 : BitVec 32 := 2#32
  let v1863 : BitVec 1 := Scalar.cmpi .sge arg32 c2_i32_981
  let v1864 : BitVec 32 := Scalar.extui v1863
  let c0_i32_982 : BitVec 32 := 0#32
  let v1865 : BitVec 1 := Scalar.cmpi .ne v1864 c0_i32_982
  v1865

def k0_mult26 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c2_i32_1269 : BitVec 32 := 2#32
  let v2663 : BitVec 32 := Scalar.subi arg32 c2_i32_1269
  let c256_i32_1271 : BitVec 32 := 256#32
  let v2665 : BitVec 32 := Scalar.muli v2663 c256_i32_1271
  v2665
def k0_off3 (k0_t1 : Fin k0_t1_loop.trips) : Fin 1 → Nat :=
  let c0_i32_386 : BitVec 32 := 0#32
  let c1_i32_388 : BitVec 32 := 1#32
  let arg32 : BitVec 32 := Scf.iv c0_i32_386 c1_i32_388 k0_t1
  let c2_i32_1269 : BitVec 32 := 2#32
  let v2663 : BitVec 32 := Scalar.subi arg32 c2_i32_1269
  let c1_i32_1270 : BitVec 32 := 1#32
  let v2664 : BitVec 32 := Scalar.andi v2663 c1_i32_1270
  ![v2664.toNat]
def k0_off4 (k0_t1 : Fin k0_t1_loop.trips) : Fin 2 → Nat :=
  let c0_i32_386 : BitVec 32 := 0#32
  let c1_i32_388 : BitVec 32 := 1#32
  let arg32 : BitVec 32 := Scf.iv c0_i32_386 c1_i32_388 k0_t1
  let c2_i32_1269 : BitVec 32 := 2#32
  let v2663 : BitVec 32 := Scalar.subi arg32 c2_i32_1269
  let c256_i32_1271 : BitVec 32 := 256#32
  let v2665 : BitVec 32 := Scalar.muli v2663 c256_i32_1271
  let v2666 : BitVec 32 := v2665
  let c0_i32_1272 : BitVec 32 := 0#32
  ![v2666.toNat, 0]
def k0_off5 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c2_i32_1269 : BitVec 32 := 2#32
  let v2663 : BitVec 32 := Scalar.subi arg32 c2_i32_1269
  let c1_i32_1270 : BitVec 32 := 1#32
  let v2664 : BitVec 32 := Scalar.andi v2663 c1_i32_1270
  let c0_i32_1273 : BitVec 32 := 0#32
  let c0_i32_1274 : BitVec 32 := 0#32
  ![v2664.toNat, 0, 0]
def k0_mult27 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c2_i32_983 : BitVec 32 := 2#32
  let v1866 : BitVec 32 := Scalar.addi arg32 c2_i32_983
  let c256_i32_986 : BitVec 32 := 256#32
  let v1868 : BitVec 32 := Scalar.muli v1866 c256_i32_986
  v1868
def k0_off6 (k0_t1 : Fin k0_t1_loop.trips) : Fin 2 → Nat :=
  let c0_i32_386 : BitVec 32 := 0#32
  let c1_i32_388 : BitVec 32 := 1#32
  let arg32 : BitVec 32 := Scf.iv c0_i32_386 c1_i32_388 k0_t1
  let c2_i32_983 : BitVec 32 := 2#32
  let v1866 : BitVec 32 := Scalar.addi arg32 c2_i32_983
  let c256_i32_986 : BitVec 32 := 256#32
  let v1868 : BitVec 32 := Scalar.muli v1866 c256_i32_986
  let v1869 : BitVec 32 := v1868
  let v1870 : Index := Scalar.indexCast v1869
  let c0_987 : Index := 0#32
  ![v1870.toNat, 0]
def k0_off7 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c2_i32_983 : BitVec 32 := 2#32
  let v1866 : BitVec 32 := Scalar.addi arg32 c2_i32_983
  let c1_i32_989 : BitVec 32 := 1#32
  let v1873 : BitVec 32 := Scalar.andi v1866 c1_i32_989
  let v1874 : Index := Scalar.indexCast v1873
  let c0_990 : Index := 0#32
  let c0_991 : Index := 0#32
  ![v1874.toNat, 0, 0]
def k0_off8 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c1_i32_993 : BitVec 32 := 1#32
  let v1880 : BitVec 32 := Scalar.andi v1878 c1_i32_993
  let v1883 : Index := Scalar.indexCast v1880
  let c0_996 : Index := 0#32
  let c0_997 : Index := 0#32
  ![v1883.toNat, 0, 0]
def k0_off9 (k0_t1 : Fin k0_t1_loop.trips) (c0_i32_995 : BitVec 32) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c2_i32_994 : BitVec 32 := 2#32
  let v1881 : BitVec 32 := Scalar.muli v1878 c2_i32_994
  let v1882 : BitVec 32 := Scalar.addi v1881 c0_i32_995
  let v1886 : Index := Scalar.indexCast v1882
  let c0_998 : Index := 0#32
  let c0_999 : Index := 0#32
  ![v1886.toNat, 0, 0]
def k0_off10 (k0_t1 : Fin k0_t1_loop.trips) (c0_i32_995 : BitVec 32) : Fin 2 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c2_i32_994 : BitVec 32 := 2#32
  let v1881 : BitVec 32 := Scalar.muli v1878 c2_i32_994
  let v1882 : BitVec 32 := Scalar.addi v1881 c0_i32_995
  let v1893 : Index := Scalar.indexCast v1882
  let c0_1002 : Index := 0#32
  ![v1893.toNat, 0]
def k0_off11 (k0_t1 : Fin k0_t1_loop.trips) (c0_i32_995 : BitVec 32) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c2_i32_994 : BitVec 32 := 2#32
  let v1881 : BitVec 32 := Scalar.muli v1878 c2_i32_994
  let v1882 : BitVec 32 := Scalar.addi v1881 c0_i32_995
  let v2141 : Index := Scalar.indexCast v1882
  let c0_1063 : Index := 0#32
  let c0_1064 : Index := 0#32
  ![v2141.toNat, 0, 0]
def k0_mult28 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c2_i32_994 : BitVec 32 := 2#32
  let v1881 : BitVec 32 := Scalar.muli v1878 c2_i32_994
  let c0_i32_995 : BitVec 32 := 0#32
  let v1882 : BitVec 32 := Scalar.addi v1881 c0_i32_995
  let c128_i32_1066 : BitVec 32 := 128#32
  let v2149 : BitVec 32 := Scalar.muli v1882 c128_i32_1066
  v2149
def k0_off12 (k0_t1 : Fin k0_t1_loop.trips) (c0_i32_995 : BitVec 32) : Fin 2 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c2_i32_994 : BitVec 32 := 2#32
  let v1881 : BitVec 32 := Scalar.muli v1878 c2_i32_994
  let v1882 : BitVec 32 := Scalar.addi v1881 c0_i32_995
  let c128_i32_1066 : BitVec 32 := 128#32
  let v2149 : BitVec 32 := Scalar.muli v1882 c128_i32_1066
  let v2150 : BitVec 32 := v2149
  let v2152 : Index := Scalar.indexCast v2150
  let c0_1067 : Index := 0#32
  ![v2152.toNat, 0]
def k0_off13 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c1_i32_993 : BitVec 32 := 1#32
  let v1880 : BitVec 32 := Scalar.andi v1878 c1_i32_993
  let v2157 : Index := Scalar.indexCast v1880
  let c0_1068 : Index := 0#32
  let c0_1069 : Index := 0#32
  ![v2157.toNat, 0, 0]
def k0_off14 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c1_i32_993 : BitVec 32 := 1#32
  let v1880 : BitVec 32 := Scalar.andi v1878 c1_i32_993
  let v2169 : Index := Scalar.indexCast v1880
  let c0_1071 : Index := 0#32
  let c0_1072 : Index := 0#32
  ![v2169.toNat, 0, 0]
def k0_off15 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c1_i32_993 : BitVec 32 := 1#32
  let v1880 : BitVec 32 := Scalar.andi v1878 c1_i32_993
  let v2175 : Index := Scalar.indexCast v1880
  let c0_1075 : Index := 0#32
  let c128_1076 : Index := 128#32
  ![v2175.toNat, 0, 128]
def k0_mult29 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c2_i32_1073 : BitVec 32 := 2#32
  let v2173 : BitVec 32 := Scalar.muli v1878 c2_i32_1073
  let c1_i32_1074 : BitVec 32 := 1#32
  let v2174 : BitVec 32 := Scalar.addi v2173 c1_i32_1074
  let c128_i32_1145 : BitVec 32 := 128#32
  let v2441 : BitVec 32 := Scalar.muli v2174 c128_i32_1145
  v2441
def k0_off16 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c1_i32_993 : BitVec 32 := 1#32
  let v1880 : BitVec 32 := Scalar.andi v1878 c1_i32_993
  let v2449 : Index := Scalar.indexCast v1880
  let c128_1147 : Index := 128#32
  let c0_1148 : Index := 0#32
  ![v2449.toNat, 128, 0]
def k0_off17 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_992 : BitVec 32 := 1#32
  let v1878 : BitVec 32 := Scalar.addi arg32 c1_i32_992
  let c1_i32_993 : BitVec 32 := 1#32
  let v1880 : BitVec 32 := Scalar.andi v1878 c1_i32_993
  let v2461 : Index := Scalar.indexCast v1880
  let c128_1150 : Index := 128#32
  let c0_1151 : Index := 0#32
  ![v2461.toNat, 128, 0]
def k0_off18 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2466 : Index := Scalar.indexCast v2465
  let c0_1153 : Index := 0#32
  let c0_1154 : Index := 0#32
  ![v2466.toNat, 0, 0]
def k0_off19 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2470 : Index := Scalar.indexCast v2465
  let c0_1155 : Index := 0#32
  let c0_1156 : Index := 0#32
  ![v2470.toNat, 0, 0]
def k0_off20 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2478 : Index := Scalar.indexCast v2465
  let c0_1160 : Index := 0#32
  let c0_1161 : Index := 0#32
  ![v2478.toNat, 0, 0]
def k0_off21 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2490 : Index := Scalar.indexCast v2465
  let c0_1167 : Index := 0#32
  let c512_1168 : Index := 512#32
  ![v2490.toNat, 0, 512]
def k0_off22 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2502 : Index := Scalar.indexCast v2465
  let c0_1174 : Index := 0#32
  let c1024_1175 : Index := 1024#32
  ![v2502.toNat, 0, 1024]
def k0_off23 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2514 : Index := Scalar.indexCast v2465
  let c0_1181 : Index := 0#32
  let c1536_1182 : Index := 1536#32
  ![v2514.toNat, 0, 1536]
def k0_off24 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2526 : Index := Scalar.indexCast v2465
  let c0_1188 : Index := 0#32
  let c2048_1189 : Index := 2048#32
  ![v2526.toNat, 0, 2048]
def k0_off25 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2538 : Index := Scalar.indexCast v2465
  let c0_1195 : Index := 0#32
  let c2560_1196 : Index := 2560#32
  ![v2538.toNat, 0, 2560]
def k0_off26 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2550 : Index := Scalar.indexCast v2465
  let c0_1202 : Index := 0#32
  let c3072_1203 : Index := 3072#32
  ![v2550.toNat, 0, 3072]
def k0_off27 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2562 : Index := Scalar.indexCast v2465
  let c0_1209 : Index := 0#32
  let c3584_1210 : Index := 3584#32
  ![v2562.toNat, 0, 3584]
def k0_off28 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2574 : Index := Scalar.indexCast v2465
  let c0_1216 : Index := 0#32
  let c4096_1217 : Index := 4096#32
  ![v2574.toNat, 0, 4096]
def k0_off29 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2586 : Index := Scalar.indexCast v2465
  let c0_1223 : Index := 0#32
  let c4608_1224 : Index := 4608#32
  ![v2586.toNat, 0, 4608]
def k0_off30 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2598 : Index := Scalar.indexCast v2465
  let c0_1230 : Index := 0#32
  let c5120_1231 : Index := 5120#32
  ![v2598.toNat, 0, 5120]
def k0_off31 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2610 : Index := Scalar.indexCast v2465
  let c0_1237 : Index := 0#32
  let c5632_1238 : Index := 5632#32
  ![v2610.toNat, 0, 5632]
def k0_off32 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2622 : Index := Scalar.indexCast v2465
  let c0_1244 : Index := 0#32
  let c6144_1245 : Index := 6144#32
  ![v2622.toNat, 0, 6144]
def k0_off33 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1152 : BitVec 32 := 1#32
  let v2465 : BitVec 32 := Scalar.andi arg32 c1_i32_1152
  let v2634 : Index := Scalar.indexCast v2465
  let c0_1251 : Index := 0#32
  let c6656_1252 : Index := 6656#32
  ![v2634.toNat, 0, 6656]
def k0_mult30 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c256_i32_1254 : BitVec 32 := 256#32
  let v2639 : BitVec 32 := Scalar.muli arg32 c256_i32_1254
  v2639
def k0_off34 (k0_t1 : Fin k0_t1_loop.trips) : Fin 1 → Nat :=
  let c0_i32_386 : BitVec 32 := 0#32
  let c1_i32_388 : BitVec 32 := 1#32
  let arg32 : BitVec 32 := Scf.iv c0_i32_386 c1_i32_388 k0_t1
  let c1_i32_1253 : BitVec 32 := 1#32
  let v2638 : BitVec 32 := Scalar.andi arg32 c1_i32_1253
  ![v2638.toNat]
def k0_off35 (k0_t1 : Fin k0_t1_loop.trips) : Fin 2 → Nat :=
  let c0_i32_386 : BitVec 32 := 0#32
  let c1_i32_388 : BitVec 32 := 1#32
  let arg32 : BitVec 32 := Scf.iv c0_i32_386 c1_i32_388 k0_t1
  let c256_i32_1254 : BitVec 32 := 256#32
  let v2639 : BitVec 32 := Scalar.muli arg32 c256_i32_1254
  let v2640 : BitVec 32 := v2639
  let c0_i32_1255 : BitVec 32 := 0#32
  ![v2640.toNat, 0]
def k0_off36 (k0_t1 : Fin k0_t1_loop.trips) : Fin 3 → Nat :=
  let c0_i32_386 : BitVec 32 := 0#32
  let c1_i32_388 : BitVec 32 := 1#32
  let arg32 : BitVec 32 := Scf.iv c0_i32_386 c1_i32_388 k0_t1
  let c1_i32_1253 : BitVec 32 := 1#32
  let v2638 : BitVec 32 := Scalar.andi arg32 c1_i32_1253
  let c0_i32_1256 : BitVec 32 := 0#32
  let c0_i32_1257 : BitVec 32 := 0#32
  ![v2638.toNat, 0, 0]
def k0_mult31 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c1_i32_1258 : BitVec 32 := 1#32
  let v2646 : BitVec 32 := Scalar.addi arg32 c1_i32_1258
  let c256_i32_1259 : BitVec 32 := 256#32
  let v2647 : BitVec 32 := Scalar.muli v2646 c256_i32_1259
  v2647
def k0_mult32 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c1_i32_1258 : BitVec 32 := 1#32
  let v2646 : BitVec 32 := Scalar.addi arg32 c1_i32_1258
  let c256_i32_1260 : BitVec 32 := 256#32
  let v2649 : BitVec 32 := Scalar.muli v2646 c256_i32_1260
  v2649
def k0_mult33 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c1_i32_1258 : BitVec 32 := 1#32
  let v2646 : BitVec 32 := Scalar.addi arg32 c1_i32_1258
  let c256_i32_1261 : BitVec 32 := 256#32
  let v2651 : BitVec 32 := Scalar.muli v2646 c256_i32_1261
  v2651
def k0_mult34 (k0_t1 : Fin k0_t1_loop.trips) : BitVec 32 :=
  let c0_i32_386 : BitVec 32 := 0#32
  let c1_i32_388 : BitVec 32 := 1#32
  let arg32 : BitVec 32 := Scf.iv c0_i32_386 c1_i32_388 k0_t1
  let c1_i32_1258 : BitVec 32 := 1#32
  let v2646 : BitVec 32 := Scalar.addi arg32 c1_i32_1258
  let c256_i32_1262 : BitVec 32 := 256#32
  let v2653 : BitVec 32 := Scalar.muli v2646 c256_i32_1262
  v2653
def k0_off37 (k0_t1 : Fin k0_t1_loop.trips) : Fin 2 → Nat :=
  let c0_i32_386 : BitVec 32 := 0#32
  let c1_i32_388 : BitVec 32 := 1#32
  let arg32 : BitVec 32 := Scf.iv c0_i32_386 c1_i32_388 k0_t1
  let c1_i32_1258 : BitVec 32 := 1#32
  let v2646 : BitVec 32 := Scalar.addi arg32 c1_i32_1258
  let c256_i32_1260 : BitVec 32 := 256#32
  let v2649 : BitVec 32 := Scalar.muli v2646 c256_i32_1260
  let v2650 : BitVec 32 := v2649
  let c0_i32_1264 : BitVec 32 := 0#32
  ![v2650.toNat, 0]
def k0_mult35 : BitVec 32 :=
  let c1024_i32_390 : BitVec 32 := 1024#32
  c1024_i32_390
def k0_mult36 : BitVec 32 :=
  let c1792_i32_471 : BitVec 32 := 1792#32
  c1792_i32_471
def k0_mult37 : BitVec 32 :=
  let c1920_i32 : BitVec 32 := 1920#32
  c1920_i32
def k0_mult38 : BitVec 32 :=
  let c1536_i32_685 : BitVec 32 := 1536#32
  c1536_i32_685
def k0_mult39 : BitVec 32 :=
  let c1792_i32_691 : BitVec 32 := 1792#32
  c1792_i32_691
def k0_mult40 : BitVec 32 :=
  let c1792_i32_692 : BitVec 32 := 1792#32
  c1792_i32_692
def k0_mult41 : BitVec 32 :=
  let c1792_i32_693 : BitVec 32 := 1792#32
  c1792_i32_693
def k0_mult42 : BitVec 32 :=
  let c1792_i32_694 : BitVec 32 := 1792#32
  c1792_i32_694
def k0_mult43 : BitVec 32 :=
  let c1280_i32_702 : BitVec 32 := 1280#32
  c1280_i32_702
def k0_mult44 : BitVec 32 :=
  let c1792_i32_837 : BitVec 32 := 1792#32
  c1792_i32_837
@[reducible] def k0_t2_loop : Scf.Loop 32 :=
  let c0_i32_843 : BitVec 32 := 0#32
  let c14_i32 : BitVec 32 := 14#32
  let v1701 : BitVec 32 := Scalar.addi c0_i32_843 c14_i32
  let c1_i32_844 : BitVec 32 := 1#32
  ⟨c0_i32_843, v1701, c1_i32_844⟩
def k0_mult45 (k0_t2 : Fin k0_t2_loop.trips) : BitVec 32 :=
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  v1854
def k0_off38 (k0_t2 : Fin k0_t2_loop.trips) : Fin 2 → Nat :=
  let c0_983 : Index := 0#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1861 : Index := Scalar.indexCast v1855
  ![0, v1861.toNat]
def k0_off39 (k0_t2 : Fin k0_t2_loop.trips) : Fin 2 → Nat :=
  let c256 : Index := 256#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1869 : Index := Scalar.indexCast v1855
  ![256, v1869.toNat]
def k0_off40 (k0_t2 : Fin k0_t2_loop.trips) : Fin 2 → Nat :=
  let c512_994 : Index := 512#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1878 : Index := Scalar.indexCast v1855
  ![512, v1878.toNat]
def k0_off41 (k0_t2 : Fin k0_t2_loop.trips) : Fin 2 → Nat :=
  let c768 : Index := 768#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1887 : Index := Scalar.indexCast v1855
  ![768, v1887.toNat]
def k0_off42 (k0_t2 : Fin k0_t2_loop.trips) : Fin 2 → Nat :=
  let c1024_1005 : Index := 1024#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1896 : Index := Scalar.indexCast v1855
  ![1024, v1896.toNat]
def k0_off43 (k0_t2 : Fin k0_t2_loop.trips) : Fin 2 → Nat :=
  let c1280 : Index := 1280#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1905 : Index := Scalar.indexCast v1855
  ![1280, v1905.toNat]
def k0_off44 (k0_t2 : Fin k0_t2_loop.trips) : Fin 2 → Nat :=
  let c1536_1016 : Index := 1536#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1914 : Index := Scalar.indexCast v1855
  ![1536, v1914.toNat]
def k0_off45 (k0_t2 : Fin k0_t2_loop.trips) : Fin 2 → Nat :=
  let c1792 : Index := 1792#32
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1923 : Index := Scalar.indexCast v1855
  ![1792, v1923.toNat]
def k0_off46 (k0_t2 : Fin k0_t2_loop.trips) : Fin 2 → Nat :=
  let c0_i32_843 : BitVec 32 := 0#32
  let c1_i32_844 : BitVec 32 := 1#32
  let arg32 : BitVec 32 := Scf.iv c0_i32_843 c1_i32_844 k0_t2
  let c512_i32_976 : BitVec 32 := 512#32
  let v1854 : BitVec 32 := Scalar.muli arg32 c512_i32_976
  let v1855 : BitVec 32 := v1854
  let v1928 : Index := Scalar.indexCast v1855
  let c0_1025 : Index := 0#32
  ![v1928.toNat, 0]
def k0_mult46 (k0_t2 : Fin k0_t2_loop.trips) : BitVec 32 :=
  let c0_i32_843 : BitVec 32 := 0#32
  let c1_i32_844 : BitVec 32 := 1#32
  let arg32 : BitVec 32 := Scf.iv c0_i32_843 c1_i32_844 k0_t2
  let c512_i32_1026 : BitVec 32 := 512#32
  let v1932 : BitVec 32 := Scalar.muli arg32 c512_i32_1026
  v1932
def k0_off47 (k0_t2 : Fin k0_t2_loop.trips) : Fin 2 → Nat :=
  let c0_i32_843 : BitVec 32 := 0#32
  let c1_i32_844 : BitVec 32 := 1#32
  let arg32 : BitVec 32 := Scf.iv c0_i32_843 c1_i32_844 k0_t2
  let c512_i32_1026 : BitVec 32 := 512#32
  let v1932 : BitVec 32 := Scalar.muli arg32 c512_i32_1026
  let v1933 : BitVec 32 := v1932
  let c0_i32_1027 : BitVec 32 := 0#32
  ![v1933.toNat, 0]
def k0_mult47 : BitVec 32 :=
  let c1536_i32_846 : BitVec 32 := 1536#32
  c1536_i32_846
def k0_mult48 : BitVec 32 :=
  let c1792_i32_852 : BitVec 32 := 1792#32
  c1792_i32_852
def k0_mult49 : BitVec 32 :=
  let c0_i32_858 : BitVec 32 := 0#32
  c0_i32_858
def k0_mult50 : BitVec 32 :=
  let c0_i32_859 : BitVec 32 := 0#32
  c0_i32_859
def k0_mult51 : BitVec 32 :=
  let c0_i32_860 : BitVec 32 := 0#32
  c0_i32_860
def k0_mult52 : BitVec 32 :=
  let c0_i32_861 : BitVec 32 := 0#32
  c0_i32_861
def k0_mult53 : BitVec 32 :=
  let c256_i32_868 : BitVec 32 := 256#32
  c256_i32_868
def k0_mult54 : BitVec 32 :=
  let c256_i32_869 : BitVec 32 := 256#32
  c256_i32_869
def k0_mult55 : BitVec 32 :=
  let c256_i32_870 : BitVec 32 := 256#32
  c256_i32_870
def k0_mult56 : BitVec 32 :=
  let c256_i32_871 : BitVec 32 := 256#32
  c256_i32_871
def k0_mult57 : BitVec 32 :=
  let c512_i32_878 : BitVec 32 := 512#32
  c512_i32_878
def k0_mult58 : BitVec 32 :=
  let c512_i32_879 : BitVec 32 := 512#32
  c512_i32_879
def k0_mult59 : BitVec 32 :=
  let c512_i32_880 : BitVec 32 := 512#32
  c512_i32_880
def k0_mult60 : BitVec 32 :=
  let c512_i32_881 : BitVec 32 := 512#32
  c512_i32_881
def k0_mult61 : BitVec 32 :=
  let c768_i32_888 : BitVec 32 := 768#32
  c768_i32_888
def k0_mult62 : BitVec 32 :=
  let c768_i32_889 : BitVec 32 := 768#32
  c768_i32_889
def k0_mult63 : BitVec 32 :=
  let c768_i32_890 : BitVec 32 := 768#32
  c768_i32_890
def k0_mult64 : BitVec 32 :=
  let c768_i32_891 : BitVec 32 := 768#32
  c768_i32_891
def k0_mult65 : BitVec 32 :=
  let c1024_i32_898 : BitVec 32 := 1024#32
  c1024_i32_898
def k0_mult66 : BitVec 32 :=
  let c1024_i32_899 : BitVec 32 := 1024#32
  c1024_i32_899
def k0_mult67 : BitVec 32 :=
  let c1024_i32_900 : BitVec 32 := 1024#32
  c1024_i32_900
def k0_mult68 : BitVec 32 :=
  let c1024_i32_901 : BitVec 32 := 1024#32
  c1024_i32_901
def k0_mult69 : BitVec 32 :=
  let c1280_i32_908 : BitVec 32 := 1280#32
  c1280_i32_908
def k0_mult70 : BitVec 32 :=
  let c1280_i32_909 : BitVec 32 := 1280#32
  c1280_i32_909
def k0_mult71 : BitVec 32 :=
  let c1280_i32_910 : BitVec 32 := 1280#32
  c1280_i32_910
def k0_mult72 : BitVec 32 :=
  let c1280_i32_911 : BitVec 32 := 1280#32
  c1280_i32_911
def k0_mult73 : BitVec 32 :=
  let c1536_i32_918 : BitVec 32 := 1536#32
  c1536_i32_918
def k0_mult74 : BitVec 32 :=
  let c1536_i32_919 : BitVec 32 := 1536#32
  c1536_i32_919
def k0_mult75 : BitVec 32 :=
  let c1536_i32_920 : BitVec 32 := 1536#32
  c1536_i32_920
def k0_mult76 : BitVec 32 :=
  let c1536_i32_921 : BitVec 32 := 1536#32
  c1536_i32_921
def k0_mult77 : BitVec 32 :=
  let c1792_i32_928 : BitVec 32 := 1792#32
  c1792_i32_928
def k0_mult78 : BitVec 32 :=
  let c1792_i32_929 : BitVec 32 := 1792#32
  c1792_i32_929
def k0_mult79 : BitVec 32 :=
  let c1792_i32_930 : BitVec 32 := 1792#32
  c1792_i32_930
def k0_mult80 : BitVec 32 :=
  let c1792_i32_931 : BitVec 32 := 1792#32
  c1792_i32_931
def k0_mult81 : BitVec 32 :=
  let c0_i32_939 : BitVec 32 := 0#32
  c0_i32_939
def k0_mult82 : BitVec 32 :=
  let c512_i32_942 : BitVec 32 := 512#32
  c512_i32_942
def k0_mult83 : BitVec 32 :=
  let c1024_i32_945 : BitVec 32 := 1024#32
  c1024_i32_945
def k0_mult84 : BitVec 32 :=
  let c1536_i32_948 : BitVec 32 := 1536#32
  c1536_i32_948
def k0_mult85 : BitVec 32 :=
  let c2048_i32_951 : BitVec 32 := 2048#32
  c2048_i32_951
def k0_mult86 : BitVec 32 :=
  let c2560_i32 : BitVec 32 := 2560#32
  c2560_i32
def k0_mult87 : BitVec 32 :=
  let c3072_i32_956 : BitVec 32 := 3072#32
  c3072_i32_956
def k0_mult88 : BitVec 32 :=
  let c3584_i32 : BitVec 32 := 3584#32
  c3584_i32
def k0_mult89 : BitVec 32 :=
  let c4096_i32_961 : BitVec 32 := 4096#32
  c4096_i32_961
def k0_mult90 : BitVec 32 :=
  let c4608_i32 : BitVec 32 := 4608#32
  c4608_i32
def k0_mult91 : BitVec 32 :=
  let c5120_i32_966 : BitVec 32 := 5120#32
  c5120_i32_966
def k0_mult92 : BitVec 32 :=
  let c5632_i32 : BitVec 32 := 5632#32
  c5632_i32
def k0_mult93 : BitVec 32 :=
  let c6144_i32_971 : BitVec 32 := 6144#32
  c6144_i32_971
def k0_mult94 : BitVec 32 :=
  let c6656_i32 : BitVec 32 := 6656#32
  c6656_i32
-- ==== ReferenceIdeal.lean ====
abbrev S16x128x7168 : Shape := ⟨3, ![16, 128, 7168]⟩
abbrev S16x128 : Shape := ⟨2, ![16, 128]⟩
abbrev S7168x256 : Shape := ⟨2, ![7168, 256]⟩
abbrev S16x128x8 : Shape := ⟨3, ![16, 128, 8]⟩
abbrev S2048x7168 : Shape := ⟨2, ![2048, 7168]⟩
abbrev S2048x1 : Shape := ⟨2, ![2048, 1]⟩
abbrev S2048x8 : Shape := ⟨2, ![2048, 8]⟩
abbrev S2048x256 : Shape := ⟨2, ![2048, 256]⟩
abbrev S2048 : Shape := ⟨1, ![2048]⟩

abbrev nBuf : Space → Nat
  | .hbm => 14
  | .vmem => 10
  | .smem => 0
  | _ => 0

abbrev bufTy : (tb : Table) → Fin (tcTables nBuf tb) → BufTy
  | .hbm, ⟨0, _⟩ => ⟨S16x128x7168, .fp8e4m3⟩
  | .hbm, ⟨1, _⟩ => ⟨S16x128, .f32⟩
  | .hbm, ⟨2, _⟩ => ⟨S7168x256, .bf16⟩
  | .hbm, ⟨3, _⟩ => ⟨S16x128x8, .i32⟩
  | .hbm, ⟨4, _⟩ => ⟨S16x128x8, .bf16⟩
  | .hbm, ⟨5, _⟩ => ⟨S2048x7168, .fp8e4m3⟩
  | .hbm, ⟨6, _⟩ => ⟨S2048x1, .f32⟩
  | .hbm, ⟨7, _⟩ => ⟨S2048x8, .i32⟩
  | .hbm, ⟨8, _⟩ => ⟨S2048x8, .bf16⟩
  | .hbm, ⟨9, _⟩ => ⟨S2048x7168, .bf16⟩
  | .hbm, ⟨10, _⟩ => ⟨S7168x256, .f32⟩
  | .hbm, ⟨11, _⟩ => ⟨S2048x256, .f32⟩
  | .hbm, ⟨12, _⟩ => ⟨S2048x256, .fp8e5m2⟩
  | .hbm, ⟨13, _⟩ => ⟨S16x128, .f32⟩
  | .local _ .vmem, ⟨0, _⟩ => ⟨S2048x7168, .fp8e4m3⟩
  | .local _ .vmem, ⟨1, _⟩ => ⟨S2048x1, .f32⟩
  | .local _ .vmem, ⟨2, _⟩ => ⟨S7168x256, .bf16⟩
  | .local _ .vmem, ⟨3, _⟩ => ⟨S2048x8, .i32⟩
  | .local _ .vmem, ⟨4, _⟩ => ⟨S2048x8, .bf16⟩
  | .local _ .vmem, ⟨5, _⟩ => ⟨S2048x7168, .bf16⟩
  | .local _ .vmem, ⟨6, _⟩ => ⟨S7168x256, .f32⟩
  | .local _ .vmem, ⟨7, _⟩ => ⟨S2048x256, .f32⟩
  | .local _ .vmem, ⟨8, _⟩ => ⟨S2048x256, .fp8e5m2⟩
  | .local _ .vmem, ⟨9, _⟩ => ⟨S16x128, .f32⟩
  | _, _ => ⟨S16x128x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x256 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Hand.Kernel.Base.lean ====
/- The steps of the kernel body: loads, stores, copies and waits on pieces of buffers held by their contents. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Batch
public import Idealize.ShloMosaic.Lib.Tactic
public import Idealize.ShloMosaic.Lib.WordCmp

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The counters of the transfers inside the proof's algebra. -/
abbrev EC : UEmb Counters 𝕄 := countersEmb (U := Pipeline.UD sig nD τ)

/-- The variants: the program's loops are structured, so none are needed. -/
abbrev 𝒱₀ : Variants := Variants.none

/-- The weakest precondition every step below is about. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Elements `S` of buffer `b`, held whole, at contents `f`. -/
abbrev PT (c : Dev nD) (b : Ref sig .tc) (S : Finset (Idx ((c : Thread nD τ).loc b))) (f : Buf (Elt F) ((c : Thread nD τ).loc b)) : sProp 𝕄 :=
  ((c : Thread nD τ).loc b) ↦[S]{fullShare} f

/-- Elements `S` of buffer `b`, held whole, at contents nothing names. -/
abbrev PA (c : Dev nD) (b : Ref sig .tc) (S : Finset (Idx ((c : Thread nD τ).loc b))) : sProp 𝕄 :=
  iprop(∃ f : Buf (Elt F) ((c : Thread nD τ).loc b), PT c b S f)

/-- What the core owes, with the waits it has recorded. -/
abbrev Ow (c : Dev nD) : sProp 𝕄 := iprop(∃ W : Waits sig Unit, owes (c : Thread nD τ) 0 W)

/-- The counter of DMA cell `n` at zero. -/
abbrev SV (c : Dev nD) (n : DmaSem sig) : sProp 𝕄 := semVal ((c : Thread nD τ), SemLoc.dma n) 0

/-- One transfer in flight on DMA cell `n`, of `N` units, that delivers `D`. -/
abbrev FL (c : Dev nD) (n : DmaSem sig) (N : ℕ) (D : sProp 𝕄) : sProp 𝕄 :=
  Transfers.Flight EC (c : Thread nD τ) (SemLoc.dma n) () N D

/-- The box of `z a` consecutive coordinates from `o a` on every axis. -/
def box (s : Shape) (o z : Fin s.rank → ℕ) : Finset s.Idx :=
  Finset.univ.filter fun i => ∀ a, o a ≤ (i a : ℕ) ∧ (i a : ℕ) < o a + z a

theorem mem_box {s : Shape} {o z : Fin s.rank → ℕ} {i : s.Idx} :
    i ∈ box s o z ↔ ∀ a, o a ≤ (i a : ℕ) ∧ (i a : ℕ) < o a + z a := by
  simp [box]

theorem unit_set {s : Shape} {o z : Fin s.rank → ℕ} {inb} : (Rect.unit (s := s) o z inb).set = box s o z := by
  ext i; rw [Rect.mem_set_unit, mem_box]

theorem unit_set' {s : Shape} {o z o' z' : Fin s.rank → ℕ} {inb} (ho : o' = o) (hz : z' = z) :
    (Rect.unit (s := s) o' z' inb).set = box s o z := by subst ho hz; exact unit_set

/-! ## Steps -/

section Steps
variable {c : Dev nD} {α : Type}

/-- A load of a window inside the elements held. -/
theorem ld {Q : α → sProp 𝕄} {i : Fin (sig.nNear .tc .vmem)} {hκ : sig.names .tc .vmem i = true} {r : Rect (sig.tyNear .tc .vmem i).shape}
    {hl : (Memref.whole ⟨.vmem, i, hκ⟩ : Memref sig .tc .vmem _ _).view.LoadsAt r.toLoadRect}
    {k : (r.shape.Idx → Elt F (sig.tyNear .tc .vmem i).elt) → Prog (TpuEff nD τ sig (Elt F) Λ₀ .tc) α}
    {S : Finset (Idx ((c : Thread nD τ).loc ⟨.vmem, i, hκ⟩))} {f : Buf (Elt F) ((c : Thread nD τ).loc ⟨.vmem, i, hκ⟩)}
    (v : r.shape.Idx → Elt F (sig.tyNear .tc .vmem i).elt) (hS : r.set ⊆ S) (hv : ∀ j, f (r.emb j) = v j) :
    PT c ⟨.vmem, i, hκ⟩ S f ⊢ iprop((PT c ⟨.vmem, i, hκ⟩ S f -∗ WP c (k v) Q)
      -∗ WP c ((Prog.lift (.load (Memref.whole ⟨.vmem, i, hκ⟩ : Memref sig .tc .vmem _ _) r.toLoadRect hl) : Prog (TpuEff nD τ sig (Elt F) Λ₀ .tc) _) >>= k) Q) := by
  have e : ((Memref.whole ⟨.vmem, i, hκ⟩ : Memref sig .tc .vmem _ _).access r).read (Elt F) f = v := funext hv
  rw [← e]
  exact wp_load_rect (defs := defs₀ (F := F)) 𝒱₀ (c : Thread nD τ) none Set.univ (Q := Q)
    (m := (Memref.whole ⟨.vmem, i, hκ⟩ : Memref sig .tc .vmem _ _)) (r := r) (hl := hl) (k := k) (q := fullShare) (f := f) (S := S)
    (by rw [show ((Memref.whole ⟨.vmem, i, hκ⟩ : Memref sig .tc .vmem _ _).access r).set = r.set from View.set_slice_whole _ _]; exact hS)

/-- A store of a window that is exactly the elements held: they hold `G` afterwards, if `G` is the payload there. -/
theorem st {Q : α → sProp 𝕄} {i : Fin (sig.nNear .tc .vmem)} {hκ : sig.names .tc .vmem i = true} {r : Rect (sig.tyNear .tc .vmem i).shape}
    {w : r.shape.Idx → Elt F (sig.tyNear .tc .vmem i).elt}
    {hx : ((Memref.whole ⟨.vmem, i, hκ⟩ : Memref sig .tc .vmem _ _).access r).Stores Finset.univ} {hm}
    {k : PUnit → Prog (TpuEff nD τ sig (Elt F) Λ₀ .tc) α}
    {S : Finset (Idx ((c : Thread nD τ).loc ⟨.vmem, i, hκ⟩))}
    (G : Buf (Elt F) ((c : Thread nD τ).loc ⟨.vmem, i, hκ⟩)) (hS : r.set = S) (hG : ∀ j, G (r.emb j) = w j) :
    PA c ⟨.vmem, i, hκ⟩ S ⊢ iprop((PT c ⟨.vmem, i, hκ⟩ S G -∗ WP c (k ⟨⟩) Q)
      -∗ WP c ((Prog.lift (.store (Memref.whole ⟨.vmem, i, hκ⟩ : Memref sig .tc .vmem _ _) r w Finset.univ hx hm) : Prog (TpuEff nD τ sig (Elt F) Λ₀ .tc) _) >>= k) Q) := by
  subst hS
  iintro ⟨%f, H⟩
  have e : (PT c ⟨.vmem, i, hκ⟩ r.set (((Memref.whole ⟨.vmem, i, hκ⟩ : Memref sig .tc .vmem _ _).access r).write (Elt F) f w Finset.univ) : sProp 𝕄)
      = PT c ⟨.vmem, i, hκ⟩ r.set G := pointsTo_congr fun x hx => by
    rw [← Rect.map_emb_univ] at hx
    obtain ⟨j, -, rfl⟩ := Finset.mem_map.mp hx
    rw [hG j]
    exact View.write_emb_of_mem (v := (Memref.whole ⟨.vmem, i, hκ⟩ : Memref sig .tc .vmem _ _).access r) f w (Finset.mem_univ j)
  rw [← e]
  have h : PT c ⟨.vmem, i, hκ⟩ r.set f ⊢ iprop((PT c ⟨.vmem, i, hκ⟩ r.set (((Memref.whole ⟨.vmem, i, hκ⟩ : Memref sig .tc .vmem _ _).access r).write (Elt F) f w Finset.univ) -∗ WP c (k ⟨⟩) Q)
      -∗ WP c ((Prog.lift (.store (Memref.whole ⟨.vmem, i, hκ⟩ : Memref sig .tc .vmem _ _) r w Finset.univ hx hm) : Prog (TpuEff nD τ sig (Elt F) Λ₀ .tc) _) >>= k) Q) :=
    wp_store (defs := defs₀ (F := F)) 𝒱₀ (c : Thread nD τ) none Set.univ (Q := Q)
      (m := (Memref.whole ⟨.vmem, i, hκ⟩ : Memref sig .tc .vmem _ _)) (r := r) (w := w) (Mk := Finset.univ) (hx := hx) (hm := hm) (k := k) (f := f) (S := r.set)
      (by rw [View.setOn_univ, show ((Memref.whole ⟨.vmem, i, hκ⟩ : Memref sig .tc .vmem _ _).access r).set = r.set from View.set_slice_whole _ _])
  iapply h $$ H

/-- The contents the destination of a copy ends with are `G` on its window, if `G` reads there what the source's window reads. -/
theorem copied {sp sp' : Space} {s : Shape} {e : EltTy} {src : Memref sig .tc sp s e} {dst : Memref sig .tc sp' s e}
    {fs : src.view.ty.Contents (Elt F)} {fd G : dst.view.ty.Contents (Elt F)}
    (hG : dst.view.read (Elt F) G = src.view.read (Elt F) fs) :
    ∀ x ∈ dst.view.set, dst.view.write (Elt F) fd (ReadAs.same.apply (src.view.read (Elt F) fs)) Finset.univ x = G x := by
  intro x hx
  obtain ⟨j, -, rfl⟩ := Finset.mem_map.mp hx
  rw [View.write_emb_of_mem _ _ (Finset.mem_univ j)]
  have h2 := congrFun hG j
  rw [View.read_apply] at h2
  show _root_.cast _ (src.view.read (Elt F) fs j) = _
  rw [← h2, cast_cast, cast_eq]

/-- A copy issued on a cell at zero. -/
theorem dma {Q : α → sProp 𝕄} {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) sp (.dma sm) (.here (p := Proc.tc) dst)}
    {k : PUnit → Prog (TpuEff nD τ sig (Elt F) Λ₀ .tc) α}
    (n : DmaSem sig) (N : ℕ) (Ss : Finset src.view.ty.Idx) (Sd : Finset dst.view.ty.Idx) (G : dst.view.ty.Contents (Elt F)) {fs : src.view.ty.Contents (Elt F)}
    (hn : sm = n) (hN : dst.view.dmaCredit = N) (hN0 : 0 < N) (hs : src.view.set = Ss) (hd : dst.view.set = Sd)
    (hG : dst.view.read (Elt F) G = src.view.read (Elt F) fs) :
    iprop((src.view.loc (c : Thread nD τ) ↦[Ss]{fullShare} fs) ∗ (∃ fd : dst.view.ty.Contents (Elt F), dst.view.loc (c : Thread nD τ) ↦[Sd]{fullShare} fd) ∗ SV c n)
      ⊢ iprop((FL c n N iprop((dst.view.loc (c : Thread nD τ) ↦[Sd]{fullShare} G) ∗ (src.view.loc (c : Thread nD τ) ↦[Ss]{fullShare} fs)) -∗ WP c (k ⟨⟩) Q)
        -∗ WP c ((Prog.lift (.enqueueDma src (.here dst) (.dma sm) hsrc hdst hsem) : Prog (TpuEff nD τ sig (Elt F) Λ₀ .tc) _) >>= k) Q) := by
  subst hn hs hd
  iintro ⟨Hs, ⟨%fd, Hd⟩, Hv⟩ Hk
  have h := Transfers.wp_dmaLocal (defs := defs₀ (F := F)) EC 𝒱₀ (c : Thread nD τ) none (src := src) (dst := dst) (via := ReadAs.same) (sm := .dma sm)
    (hsrc := hsrc) (hdst := hdst) (hsem := hsem) (k := k) (Q := Q) (q := fullShare) (fs := fs) (fd := fd) (Sd := dst.view.set) () N hN hN0 subset_rfl
  have e : (dst.view.loc (c : Thread nD τ) ↦[dst.view.set]{fullShare} (dst.view.write (Elt F) fd (ReadAs.same.apply (src.view.read (Elt F) fs)) Finset.univ) : sProp 𝕄)
      = (dst.view.loc (c : Thread nD τ) ↦[dst.view.set]{fullShare} G) := pointsTo_congr (copied hG)
  rw [e] at h
  iapply h $$ [Hs Hd Hv]
  · iframe Hs Hd Hv
  iexact Hk

/-- A copy issued as the next of a batch on one cell. -/
theorem dmaB {Q : α → sProp 𝕄} {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) sp (.dma sm) (.here (p := Proc.tc) dst)}
    {k : PUnit → Prog (TpuEff nD τ sig (Elt F) Λ₀ .tc) α} {nb : ℕ} {D : Fin nb → sProp 𝕄}
    (n : DmaSem sig) (N : ℕ) (j : ℕ) (hj : j < nb) (Ss : Finset src.view.ty.Idx) (Sd : Finset dst.view.ty.Idx) (G : dst.view.ty.Contents (Elt F)) {fs : src.view.ty.Contents (Elt F)}
    (hn : sm = n) (hN : dst.view.dmaCredit = N) (hs : src.view.set = Ss) (hd : dst.view.set = Sd)
    (hG : dst.view.read (Elt F) G = src.view.read (Elt F) fs)
    (hD : D ⟨j, hj⟩ = iprop((dst.view.loc (c : Thread nD τ) ↦[Sd]{fullShare} G) ∗ (src.view.loc (c : Thread nD τ) ↦[Ss]{fullShare} fs))) :
    iprop((src.view.loc (c : Thread nD τ) ↦[Ss]{fullShare} fs) ∗ (∃ fd : dst.view.ty.Contents (Elt F), dst.view.loc (c : Thread nD τ) ↦[Sd]{fullShare} fd)
        ∗ Transfers.Batch EC (c : Thread nD τ) (.dma n) () N D j 0)
      ⊢ iprop((Transfers.Batch EC (c : Thread nD τ) (.dma n) () N D (j + 1) 0 -∗ WP c (k ⟨⟩) Q)
        -∗ WP c ((Prog.lift (.enqueueDma src (.here dst) (.dma sm) hsrc hdst hsem) : Prog (TpuEff nD τ sig (Elt F) Λ₀ .tc) _) >>= k) Q) := by
  subst hn hs hd
  iintro ⟨Hs, ⟨%fd, Hd⟩, Hv⟩ Hk
  have e : (dst.view.loc (c : Thread nD τ) ↦[dst.view.set]{fullShare} (dst.view.write (Elt F) fd (ReadAs.same.apply (src.view.read (Elt F) fs)) Finset.univ) : sProp 𝕄)
      = (dst.view.loc (c : Thread nD τ) ↦[dst.view.set]{fullShare} G) := pointsTo_congr (copied hG)
  have h := Transfers.wp_dmaBatch (defs := defs₀ (F := F)) EC 𝒱₀ (c : Thread nD τ) none (src := src) (dst := dst) (via := ReadAs.same) (sm := .dma sm)
    (hsrc := hsrc) (hdst := hdst) (hsem := hsem) (k := k) (Q := Q) (q := fullShare) (fs := fs) (fd := fd) (Sd := dst.view.set) (D := D) (j := j) (u := 0)
    () N hN subset_rfl hj (Nat.zero_le _) (by rw [e, hD])
  iapply h $$ [Hs Hd Hv]
  · iframe Hs Hd Hv
  iexact Hk

/-- The wait that collects a flight. -/
theorem wt {Q : α → sProp 𝕄} {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α} {D : sProp 𝕄}
    (n : DmaSem sig) {N : ℕ} (hn : sm = n) (hN : dst.view.dmaCredit = N) :
    iprop(FL c n N D ∗ Ow c)
      ⊢ iprop((iprop(D ∗ SV c n ∗ Ow c) -∗ WP c (k ⟨⟩) Q)
        -∗ WP c ((Prog.lift (.waitDma2 sm src dst hsrc hdst) : Prog (TpuEff nD τ sig (Elt F) Λ₀ .tc) _) >>= k) Q) := by
  subst hn
  iintro ⟨HF, ⟨%W, HO⟩⟩ Hk
  have h := Transfers.wp_waitLocal (defs := defs₀ (F := F)) EC 𝒱₀ (c : Thread nD τ) none (srcw := src) (dstw := dst) (sem := sm)
    (hsrc := hsrc) (hdst := hdst) (k := k) (Q := Q) () hN (D := D) (W := W)
  iapply h $$ [HF HO]
  · iframe HF HO
  iintro ⟨HD, HV, HO⟩
  iapply Hk
  isplitl [HD]; · iexact HD
  isplitl [HV]; · iexact HV
  iexists _; iexact HO

/-- A wait on a batch all of whose copies have been issued, and not its last wait. -/
theorem wtB {Q : α → sProp 𝕄} {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α} {nb : ℕ} {D : Fin nb → sProp 𝕄}
    (n : DmaSem sig) {N u : ℕ} (hn : sm = n) (hN : dst.view.dmaCredit = N) (hu : u + N < N * nb) :
    iprop(Transfers.Batch EC (c : Thread nD τ) (.dma n) () N D nb u ∗ Ow c)
      ⊢ iprop((iprop(Transfers.Batch EC (c : Thread nD τ) (.dma n) () N D nb (u + N) ∗ Ow c) -∗ WP c (k ⟨⟩) Q)
        -∗ WP c ((Prog.lift (.waitDma2 sm src dst hsrc hdst) : Prog (TpuEff nD τ sig (Elt F) Λ₀ .tc) _) >>= k) Q) := by
  subst hn
  iintro ⟨HF, ⟨%W, HO⟩⟩ Hk
  have h := Transfers.wp_waitBatch (defs := defs₀ (F := F)) EC 𝒱₀ (c : Thread nD τ) none (srcw := src) (dstw := dst) (sem := sm)
    (hsrc := hsrc) (hdst := hdst) (k := k) (Q := Q) () hN (D := D) (W := W) hu
  iapply h $$ [HF HO]
  · iframe HF HO
  iintro ⟨HD, HO⟩
  iapply Hk
  isplitl [HD]; · iexact HD
  iexists _; iexact HO

/-- The last wait on a batch hands over every delivery. -/
theorem wtBL {Q : α → sProp 𝕄} {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α} {nb : ℕ} {D : Fin nb → sProp 𝕄}
    (n : DmaSem sig) {N u : ℕ} (hn : sm = n) (hN : dst.view.dmaCredit = N) (hN0 : 0 < N) (hu : u + N = N * nb) :
    iprop(Transfers.Batch EC (c : Thread nD τ) (.dma n) () N D nb u ∗ Ow c)
      ⊢ iprop((iprop(bigSep Finset.univ D ∗ SV c n ∗ Ow c) -∗ WP c (k ⟨⟩) Q)
        -∗ WP c ((Prog.lift (.waitDma2 sm src dst hsrc hdst) : Prog (TpuEff nD τ sig (Elt F) Λ₀ .tc) _) >>= k) Q) := by
  subst hn
  iintro ⟨HF, ⟨%W, HO⟩⟩ Hk
  have h := Transfers.wp_waitBatchLast (defs := defs₀ (F := F)) EC 𝒱₀ (c : Thread nD τ) none (srcw := src) (dstw := dst) (sem := sm)
    (hsrc := hsrc) (hdst := hdst) (k := k) (Q := Q) () hN hN0 (D := D) (W := W) hu
  iapply h $$ [HF HO]
  · iframe HF HO
  iintro ⟨HD, HV, HO⟩
  iapply Hk
  isplitl [HD]; · iexact HD
  isplitl [HV]; · iexact HV
  iexists _; iexact HO

/-- A program that only answers. -/
theorem rt {Q : α → sProp 𝕄} (a : α) : Q a ⊢ WP c (pure a : Prog (TpuEff nD τ sig (Elt F) Λ₀ .tc) α) Q := le_wp_ret _ _ _ a Q

/-- A program run before its continuation. -/
theorem bd {β : Type} (p : Prog (TpuEff nD τ sig (Elt F) Λ₀ .tc) α) (k : α → Prog (TpuEff nD τ sig (Elt F) Λ₀ .tc) β) (Q' : β → sProp 𝕄) :
    WP c p (fun a => WP c (k a) Q') ⊢ WP c (p >>= k) Q' := Entails.of_eq (wp_bind _ _ _ p k Q').symm

/-- Naming the contents of a piece away. -/
theorem pa {b : Ref sig .tc} {S : Finset (Idx ((c : Thread nD τ).loc b))} {f : Buf (Elt F) ((c : Thread nD τ).loc b)} : PT c b S f ⊢ PA c b S := by
  iintro H; iexists f; iexact H

end Steps

/-! ## Cutting and joining pieces -/

section Pieces
variable {c : Dev nD}

theorem cut2 {b : Ref sig .tc} {S A B : Finset (Idx ((c : Thread nD τ).loc b))} {f : Buf (Elt F) ((c : Thread nD τ).loc b)}
    (hu : S = A ∪ B) (hd : Disjoint A B) : PT c b S f = iprop(PT c b A f ∗ PT c b B f) := by
  subst hu; have h := pointsTo_union (ℓ := (c : Thread nD τ).loc b) (q := fullShare) (f := f) (Ix := Unit) (Name := ℕ) (U := Pipeline.UD sig nD τ) (Lvl := ℕ) hd
  exact BI.equiv_iff.mp ⟨h.1, h.2⟩

theorem box_cut {s : Shape} {o z o₁ z₁ o₂ z₂ : Fin s.rank → ℕ} (a : Fin s.rank)
    (h1 : o₁ = o) (h2 : z₁ = Function.update z a (z₁ a)) (h3 : o₂ = Function.update o a (o a + z₁ a))
    (h4 : z₂ = Function.update z a (z₂ a)) (hz : z a = z₁ a + z₂ a) :
    box s o z = box s o₁ z₁ ∪ box s o₂ z₂ ∧ Disjoint (box s o₁ z₁) (box s o₂ z₂) := by
  subst h1
  have e1 : ∀ b, b ≠ a → z₁ b = z b := fun b hb => by rw [h2, Function.update_of_ne hb]
  have e2 : ∀ b, b ≠ a → z₂ b = z b := fun b hb => by rw [h4, Function.update_of_ne hb]
  have e3 : ∀ b, b ≠ a → o₂ b = o₁ b := fun b hb => by rw [h3, Function.update_of_ne hb]
  have e4 : o₂ a = o₁ a + z₁ a := by rw [h3, Function.update_self]
  constructor
  · ext i
    rw [Finset.mem_union, mem_box, mem_box, mem_box]
    constructor
    · intro h
      by_cases hi : (i a : ℕ) < o₁ a + z₁ a
      · refine .inl fun b => ?_
        by_cases hb : b = a
        · subst hb; exact ⟨(h b).1, hi⟩
        · rw [e1 b hb]; exact h b
      · refine .inr fun b => ?_
        by_cases hb : b = a
        · subst hb; rw [e4]; have := h b; omega
        · rw [e2 b hb, e3 b hb]; exact h b
    · rintro (h | h) b
      · by_cases hb : b = a
        · subst hb; have := h b; omega
        · rw [← e1 b hb]; exact h b
      · by_cases hb : b = a
        · subst hb; have := h b; rw [e4] at this; omega
        · rw [← e2 b hb, ← e3 b hb]; exact h b
  · rw [Finset.disjoint_left]
    intro i hi hj
    rw [mem_box] at hi hj
    have := hi a; have := hj a; omega

/-- A box cut in two along axis `a`. -/
theorem bcut {b : Ref sig .tc} {f : Buf (Elt F) ((c : Thread nD τ).loc b)} {o z : Fin b.ty.shape.rank → ℕ} (o₁ z₁ o₂ z₂ : Fin b.ty.shape.rank → ℕ) (a : Fin b.ty.shape.rank)
    (h1 : o₁ = o) (h2 : z₁ = Function.update z a (z₁ a)) (h3 : o₂ = Function.update o a (o a + z₁ a))
    (h4 : z₂ = Function.update z a (z₂ a)) (hz : z a = z₁ a + z₂ a) :
    PT c b (box b.ty.shape o z) f = iprop(PT c b (box b.ty.shape o₁ z₁) f ∗ PT c b (box b.ty.shape o₂ z₂) f) :=
  cut2 (box_cut a h1 h2 h3 h4 hz).1 (box_cut a h1 h2 h3 h4 hz).2

theorem box_univ {s : Shape} {o z : Fin s.rank → ℕ} (ho : ∀ a, o a = 0) (hz : ∀ a, z a = s.size a) : box s o z = Finset.univ := by
  ext i; simp only [mem_box, Finset.mem_univ, iff_true]; intro a; rw [ho, hz]; have := (i a).isLt; omega

theorem box_sub {s : Shape} {o z o' z' : Fin s.rank → ℕ} {inb} (h : ∀ a, o a ≤ o' a ∧ o' a + z' a ≤ o a + z a) :
    (Rect.unit (s := s) o' z' inb).set ⊆ box s o z := by
  intro i hi
  rw [Rect.mem_set_unit] at hi; rw [mem_box]
  intro a; have := h a; have := hi a; omega

end Pieces

end Cert.Kernel.Hand
-- ==== Proof.Hand.Kernel.Spec.lean ====
/- The values the kernel computes, named part by part, as functions of what it reads. -/
module

public import proofs.«01_k».proof.Proof.Hand.Kernel.Base

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the logits of the first token block read: the chunks of the weights and of the tokens. -/
structure InP (F : FTy → Type) where
  w : ℕ → Vec F S1024x256 .bf16
  x : ℕ → Vec F S256x1024 .fp8e4m3

/-- What the logits of a later token block read: the transposed weights and the tokens. -/
structure InT (F : FTy → Type) where
  wt : Vec F S256x7168 .bf16
  x : Vec F S256x7168 .fp8e4m3

/-- What the router of one block of 128 tokens reads: logits, expert ids, cotangents, scales. -/
structure InR (F : FTy → Type) where
  lt : Vec F S1x256x128 .f32
  ids : Vec F S1x8x128 .i32
  dg : Vec F S1x8x128 .bf16
  xs : Vec F S1x128 .f32

/-- What `dx` of one block of 256 tokens reads. -/
structure InD (F : FTy → Type) where
  sc : Vec F S1x256x128 .f32
  dlw : Vec F S1x256x256 .bf16
  wt : ℕ → Vec F S256x512 .bf16

/-- What `dw` of one block of 512 rows reads. -/
structure InW (F : FTy → Type) where
  d : ℕ → Vec F S1x256x128 .bf16
  x : ℕ → Vec F S256x512 .fp8e4m3

def s_arg32 (k : Fin k0_t1_loop.trips) : BitVec 32 := Scf.iv 0#32 1#32 k
def s_v1867 (i : InT F) : Vec F S256x7168 .bf16 := i.wt
def s_v1871 (i : InT F) : Vec F S256x7168 .fp8e4m3 := i.x
def s_v1878 (k : Fin k0_t1_loop.trips) : BitVec 32 := Scalar.addi (s_arg32 k) 1#32
def s_v1879 : IVec S256x128 32 := iota .tc S256x128 32 [0] iota_S256x128_d0_w32
def s_v1880 (k : Fin k0_t1_loop.trips) : BitVec 32 := Scalar.andi (s_v1878 k) 1#32
def s_v1881 (k : Fin k0_t1_loop.trips) : BitVec 32 := Scalar.muli (s_v1878 k) 2#32
def s_v1882 (k : Fin k0_t1_loop.trips) : BitVec 32 := Scalar.addi (s_v1881 k) 0#32
def s_v1884 (i : InR F) : Vec F S1x256x128 .f32 := i.lt
def s_v1885 (i : InR F) : FVec F S256x128 .f32 := k0_pay2 (s_v1884 i)
def s_v1887 (i : InR F) : Vec F S1x8x128 .i32 := i.ids
def s_v1890 (i : InR F) : Vec F S1x8x128 .bf16 := i.dg
def s_v1894 (i : InR F) : Vec F S1x128 .f32 := i.xs
def s_v1888 (i : InR F) : IVec S8x128 32 := k0_pay3 (s_v1887 i)
def s_v1892 (i : InR F) : FVec F S8x128 .f32 := k0_pay4 (s_v1890 i)
def s_v1901 (i : InR F) : FVec F S1x128 .f32 := k0_pay5 s_v1879 (s_v1885 i) (s_v1887 i)
def s_v1908 (i : InR F) : FVec F S1x128 .f32 := k0_pay6 s_v1879 (s_v1885 i) (s_v1887 i)
def s_v1915 (i : InR F) : FVec F S1x128 .f32 := k0_pay7 s_v1879 (s_v1885 i) (s_v1887 i)
def s_v1922 (i : InR F) : FVec F S1x128 .f32 := k0_pay8 s_v1879 (s_v1885 i) (s_v1887 i)
def s_v1929 (i : InR F) : FVec F S1x128 .f32 := k0_pay9 s_v1879 (s_v1885 i) (s_v1887 i)
def s_v1932 (i : InR F) : IVec S256x128 1 := k0_pay10 s_v1879 (s_v1887 i)
def s_v1968 (i : InR F) : FVec F S8x128 .f32 := k0_pay11 s_v1879 (s_v1885 i) (s_v1888 i) (s_v1892 i) (s_v1894 i) (s_v1901 i) (s_v1908 i) (s_v1915 i) (s_v1922 i) (s_v1929 i) (s_v1932 i)
def s_v1976 (i : InR F) : FVec F S256x128 .f32 := k0_pay12 s_v1879 (s_v1885 i) (s_v1888 i) (s_v1892 i) (s_v1894 i) (s_v1901 i) (s_v1908 i) (s_v1915 i) (s_v1922 i) (s_v1929 i) (s_v1932 i)
def s_v1979 (i : InR F) : IVec S256x128 1 := k0_pay13 s_v1879 (s_v1888 i)
def s_v1982 (i : InR F) : FVec F S256x128 .f32 := k0_pay14 s_v1879 (s_v1885 i) (s_v1888 i) (s_v1892 i) (s_v1894 i) (s_v1901 i) (s_v1908 i) (s_v1915 i) (s_v1922 i) (s_v1929 i) (s_v1932 i)
def s_v2025 (i : InR F) : FVec F S256x128 .f32 := k0_pay15 s_v1879 (s_v1888 i) (s_v1968 i) (s_v1976 i) (s_v1979 i) (s_v1982 i)
def s_v2028 (i : InR F) : FVec F S1x128 .f32 := k0_pay16 s_v1879 (s_v1888 i) (s_v1968 i) (s_v1976 i) (s_v1979 i) (s_v1982 i)
def s_v2030 (i : InR F) : FVec F S1x128 .f32 := k0_pay17 s_v1879 (s_v1888 i) (s_v1968 i) (s_v1976 i) (s_v1979 i) (s_v1982 i)
def s_v2031 : IVec S1x128 32 := k0_pay18
def s_v2033 : IVec S1x128 32 := k0_pay19
def s_v2037 (i : InR F) : IVec S1x128 1 := k0_pay20 s_v1879 (s_v1888 i) (s_v1968 i) (s_v1976 i) (s_v1979 i) (s_v1982 i)
def s_v2080 (i : InR F) : IVec S1x128 32 := k0_pay21 (s_v2030 i) s_v2031 s_v2033 (s_v2037 i)
def s_v2082 (i : InR F) : IVec S1x128 32 := k0_pay22 (s_v2030 i) s_v2031 s_v2033 (s_v2037 i)
def s_v2083 : IVec S1x128 32 := k0_pay23
def s_v2113 (i : InR F) : FVec F S1x128 .f32 := k0_pay25 (s_v2028 i) (s_v2030 i) (s_v2080 i) (s_v2082 i) s_v2083
def s_v2120 (i : InR F) : IVec S1x128 1 := k0_pay27 (s_v2028 i) (s_v2030 i) (s_v2080 i) (s_v2082 i) s_v2083
def s_v2125 (i : InR F) : IVec S1x128 32 := k0_pay28 (s_v2028 i) (s_v2030 i) (s_v2080 i) (s_v2082 i) s_v2083
def s_v2168 (i : InR F) : FVec F S128x128 .f32 := k0_pay36 (s_v2113 i)
def s_v2173 (k : Fin k0_t1_loop.trips) : BitVec 32 := Scalar.muli (s_v1878 k) 2#32
def s_v2174 (k : Fin k0_t1_loop.trips) : BitVec 32 := Scalar.addi (s_v2173 k) 1#32
def s_v2176 (i : InR F) : Vec F S1x256x128 .f32 := i.lt
def s_v2179 (i : InR F) : Vec F S1x8x128 .i32 := i.ids
def s_v2182 (i : InR F) : Vec F S1x8x128 .bf16 := i.dg
def s_v2186 (i : InR F) : Vec F S1x128 .f32 := i.xs
def s_cst_1088 : F .f32 := Scalar.ofBits .f32 0x00000000#32
def s_v2177 (i : InR F) : FVec F S256x128 .f32 := k0_pay38 (s_v2176 i)
def s_v2180 (i : InR F) : IVec S8x128 32 := k0_pay39 (s_v2179 i)
def s_v2184 (i : InR F) : FVec F S8x128 .f32 := k0_pay40 (s_v2182 i)
def s_v2193 (i : InR F) : FVec F S1x128 .f32 := k0_pay41 s_v1879 (s_v2176 i) (s_v2179 i)
def s_v2200 (i : InR F) : FVec F S1x128 .f32 := k0_pay42 s_v1879 (s_v2176 i) (s_v2179 i)
def s_v2207 (i : InR F) : FVec F S1x128 .f32 := k0_pay43 s_v1879 (s_v2176 i) (s_v2179 i)
def s_v2210 (i : InR F) : IVec S256x128 1 := k0_pay44 s_v1879 (s_v2179 i)
def s_v2254 (i : InR F) : FVec F S8x128 .f32 := k0_pay45 s_v1879 (s_v2177 i) (s_v2180 i) (s_v2186 i) (s_v2193 i) (s_v2200 i) (s_v2207 i) (s_v2210 i) (s_cst_1088 (F := F))
def s_v2258 (i : InR F) : FVec F S8x128 .f32 := k0_pay46 s_v1879 (s_v2177 i) (s_v2180 i) (s_v2184 i) (s_v2186 i) (s_v2193 i) (s_v2200 i) (s_v2207 i) (s_v2210 i) (s_cst_1088 (F := F))
def s_v2317 (i : InR F) : FVec F S256x128 .f32 := k0_pay47 s_v1879 (s_v2180 i) (s_v2184 i) (s_v2254 i) (s_v2258 i)
def s_v2320 (i : InR F) : FVec F S1x128 .f32 := k0_pay48 (s_v2317 i)
def s_v2322 (i : InR F) : FVec F S1x128 .f32 := k0_pay49 (s_v2317 i)
def s_v2358 (i : InR F) : IVec S1x128 32 := k0_pay50 (s_v2317 i)
def s_v2360 (i : InR F) : IVec S1x128 32 := k0_pay51 (s_v2317 i)
def s_v2362 (i : InR F) : IVec S1x128 32 := k0_pay52 (s_v2317 i)
def s_v2392 (i : InR F) : IVec S1x128 32 := k0_pay53 (s_v2320 i) (s_v2322 i) (s_v2358 i) (s_v2360 i) (s_v2362 i)
def s_v2405 (i : InR F) : FVec F S1x128 .f32 := k0_pay54 (s_v2320 i) (s_v2322 i) (s_v2358 i) (s_v2360 i) (s_v2362 i)
def s_c0_i32_1133 : BitVec 32 := 0#32
def s_v2441 (k : Fin k0_t1_loop.trips) : BitVec 32 := Scalar.muli (s_v2174 k) 128#32
def s_v2442 (k : Fin k0_t1_loop.trips) : BitVec 32 := (s_v2441 k)
def s_v2448 (i : InR F) : FVec F S128x256 .bf16 := k0_pay59 (s_v2317 i) (s_v2392 i) s_c0_i32_1133
def s_v2465 (k : Fin k0_t1_loop.trips) : BitVec 32 := Scalar.andi (s_arg32 k) 1#32
def s_v2467 (i : InD F) : Vec F S1x256x128 .f32 := i.sc
def s_v2471 (i : InD F) : Vec F S1x256x256 .bf16 := i.dlw
def s_v2473 (i : InD F) : Vec F S256x512 .bf16 := i.wt 0
def s_v2483 (i : InD F) : Vec F S1x256x256 .bf16 := i.dlw
def s_v2485 (i : InD F) : Vec F S256x512 .bf16 := i.wt 1
def s_cst_1166 : FVec F S256x512 .f32 := constant S256x512 .f32 0x00000000#32
def s_v2469 (i : InD F) : FVec F S256x1 .f32 := k0_pay63 (s_v2467 i)
def s_v2484 (i : InD F) : FVec F S256x256 .bf16 := k0_pay65 (s_v2483 i)
def s_v2495 (i : InD F) : Vec F S1x256x256 .bf16 := i.dlw
def s_v2497 (i : InD F) : Vec F S256x512 .bf16 := i.wt 2
def s_v2507 (i : InD F) : Vec F S1x256x256 .bf16 := i.dlw
def s_v2509 (i : InD F) : Vec F S256x512 .bf16 := i.wt 3
def s_v2519 (i : InD F) : Vec F S1x256x256 .bf16 := i.dlw
def s_v2521 (i : InD F) : Vec F S256x512 .bf16 := i.wt 4
def s_cst_1187 : FVec F S256x512 .f32 := constant S256x512 .f32 0x00000000#32
def s_v2520 (i : InD F) : FVec F S256x256 .bf16 := k0_pay69 (s_v2519 i)
def s_v2531 (i : InD F) : Vec F S1x256x256 .bf16 := i.dlw
def s_v2533 (i : InD F) : Vec F S256x512 .bf16 := i.wt 5
def s_v2543 (i : InD F) : Vec F S1x256x256 .bf16 := i.dlw
def s_v2545 (i : InD F) : Vec F S256x512 .bf16 := i.wt 6
def s_v2555 (i : InD F) : Vec F S1x256x256 .bf16 := i.dlw
def s_v2557 (i : InD F) : Vec F S256x512 .bf16 := i.wt 7
def s_cst_1208 : FVec F S256x512 .f32 := constant S256x512 .f32 0x00000000#32
def s_v2556 (i : InD F) : FVec F S256x256 .bf16 := k0_pay73 (s_v2555 i)
def s_v2567 (i : InD F) : Vec F S1x256x256 .bf16 := i.dlw
def s_v2569 (i : InD F) : Vec F S256x512 .bf16 := i.wt 8
def s_v2579 (i : InD F) : Vec F S1x256x256 .bf16 := i.dlw
def s_v2581 (i : InD F) : Vec F S256x512 .bf16 := i.wt 9
def s_v2591 (i : InD F) : Vec F S1x256x256 .bf16 := i.dlw
def s_v2593 (i : InD F) : Vec F S256x512 .bf16 := i.wt 10
def s_cst_1229 : FVec F S256x512 .f32 := constant S256x512 .f32 0x00000000#32
def s_v2592 (i : InD F) : FVec F S256x256 .bf16 := k0_pay77 (s_v2591 i)
def s_v2603 (i : InD F) : Vec F S1x256x256 .bf16 := i.dlw
def s_v2605 (i : InD F) : Vec F S256x512 .bf16 := i.wt 11
def s_v2615 (i : InD F) : Vec F S1x256x256 .bf16 := i.dlw
def s_v2617 (i : InD F) : Vec F S256x512 .bf16 := i.wt 12
def s_v2627 (i : InD F) : Vec F S1x256x256 .bf16 := i.dlw
def s_v2629 (i : InD F) : Vec F S256x512 .bf16 := i.wt 13
def s_cst_1250 : FVec F S256x512 .f32 := constant S256x512 .f32 0x00000000#32
def s_v2628 (i : InD F) : FVec F S256x256 .bf16 := k0_pay81 (s_v2627 i)
def w_arg32 (k : Fin k0_t2_loop.trips) : BitVec 32 := Scf.iv 0#32 1#32 k
def w_v1854 (k : Fin k0_t2_loop.trips) : BitVec 32 := Scalar.muli (w_arg32 k) 512#32
def w_v1855 (k : Fin k0_t2_loop.trips) : BitVec 32 := (w_v1854 k)
def w_v1856 (i : InW F) : Vec F S1x256x128 .bf16 := i.d 0
def w_v1858 (i : InW F) : Vec F S1x256x128 .bf16 := i.d 1
def w_v1862 (i : InW F) : Vec F S256x512 .fp8e4m3 := i.x 0
def w_v1864 (i : InW F) : Vec F S1x256x128 .bf16 := i.d 2
def w_v1866 (i : InW F) : Vec F S1x256x128 .bf16 := i.d 3
def w_v1870 (i : InW F) : Vec F S256x512 .fp8e4m3 := i.x 1
def w_v1873 (i : InW F) : Vec F S1x256x128 .bf16 := i.d 4
def w_v1875 (i : InW F) : Vec F S1x256x128 .bf16 := i.d 5
def w_v1879 (i : InW F) : Vec F S256x512 .fp8e4m3 := i.x 2
def w_v1882 (i : InW F) : Vec F S1x256x128 .bf16 := i.d 6
def w_v1881 (i : InW F) : FVec F S256x512 .f32 := k0_pay83 (w_v1856 i) (w_v1858 i) (w_v1862 i) (w_v1864 i) (w_v1866 i) (w_v1870 i) (w_v1873 i) (w_v1875 i) (w_v1879 i)
def w_v1883 (i : InW F) : FVec F S256x128 .bf16 := k0_pay84 (w_v1882 i)
def w_v1884 (i : InW F) : Vec F S1x256x128 .bf16 := i.d 7
def w_v1888 (i : InW F) : Vec F S256x512 .fp8e4m3 := i.x 3
def w_v1891 (i : InW F) : Vec F S1x256x128 .bf16 := i.d 8
def w_v1893 (i : InW F) : Vec F S1x256x128 .bf16 := i.d 9
def w_v1897 (i : InW F) : Vec F S256x512 .fp8e4m3 := i.x 4
def w_v1900 (i : InW F) : Vec F S1x256x128 .bf16 := i.d 10
def w_v1902 (i : InW F) : Vec F S1x256x128 .bf16 := i.d 11
def w_v1906 (i : InW F) : Vec F S256x512 .fp8e4m3 := i.x 5
def w_v1909 (i : InW F) : Vec F S1x256x128 .bf16 := i.d 12
def w_v1911 (i : InW F) : Vec F S1x256x128 .bf16 := i.d 13
def w_v1915 (i : InW F) : Vec F S256x512 .fp8e4m3 := i.x 6
def w_cst_1017 : FVec F S256x512 .f32 := constant S256x512 .f32 0x00000000#32
def w_v1908 (i : InW F) : FVec F S256x512 .f32 := k0_pay85 (w_v1881 i) (w_v1883 i) (w_v1884 i) (w_v1888 i) (w_v1891 i) (w_v1893 i) (w_v1897 i) (w_v1900 i) (w_v1902 i) (w_v1906 i)
def w_v1913 (i : InW F) : FVec F S256x256 .bf16 := k0_pay86 (w_v1909 i) (w_v1911 i)
def s_v112 (i : InP F) : Vec F S1024x256 .bf16 := i.w 0
def s_v117 (i : InP F) : Vec F S256x1024 .fp8e4m3 := i.x 0
def s_v127 (i : InP F) : Vec F S1024x256 .bf16 := i.w 1
def s_v118 (i : InP F) : FVec F S256x256 .f32 := k0_pay89 (s_v112 i) (s_v117 i)
def s_v128 (i : InP F) : FVec F S256x1024 .bf16 := k0_pay90 (s_v127 i)
def s_v131 (i : InP F) : FVec F S256x1024 .bf16 := k0_pay91 (s_v127 i)
def s_v132 (i : InP F) : Vec F S256x1024 .fp8e4m3 := i.x 1
def s_v143 (i : InP F) : Vec F S1024x256 .bf16 := i.w 2
def s_v148 (i : InP F) : Vec F S256x1024 .fp8e4m3 := i.x 2
def s_v150 (i : InP F) : FVec F S256x256 .f32 := k0_pay94 (s_v118 i) (s_v128 i) (s_v132 i) (s_v143 i) (s_v148 i)
def s_v159 (i : InP F) : Vec F S1024x256 .bf16 := i.w 3
def s_v164 (i : InP F) : Vec F S256x1024 .fp8e4m3 := i.x 3
def s_v175 (i : InP F) : Vec F S1024x256 .bf16 := i.w 4
def s_v180 (i : InP F) : Vec F S256x1024 .fp8e4m3 := i.x 4
def s_v182 (i : InP F) : FVec F S256x256 .f32 := k0_pay99 (s_v150 i) (s_v159 i) (s_v164 i) (s_v175 i) (s_v180 i)
def s_v191 (i : InP F) : Vec F S1024x256 .bf16 := i.w 5
def s_v196 (i : InP F) : Vec F S256x1024 .fp8e4m3 := i.x 5
def s_v207 (i : InP F) : Vec F S1024x256 .bf16 := i.w 6
def s_v198 (i : InP F) : FVec F S256x256 .f32 := k0_pay102 (s_v182 i) (s_v191 i) (s_v196 i)
def s_v208 (i : InP F) : FVec F S256x1024 .bf16 := k0_pay103 (s_v207 i)
def s_v211 (i : InP F) : FVec F S256x1024 .bf16 := k0_pay104 (s_v207 i)
def s_v212 (i : InP F) : Vec F S256x1024 .fp8e4m3 := i.x 6
def s_v230 (i : InT F) : Vec F S256x7168 .bf16 := i.wt
def s_v233 (i : InT F) : Vec F S256x7168 .fp8e4m3 := i.x
def s_v238 : IVec S256x128 32 := iota .tc S256x128 32 [0] iota_S256x128_d0_w32
def s_v239 (i : InR F) : Vec F S1x256x128 .f32 := i.lt
def s_v241 (i : InR F) : Vec F S1x8x128 .i32 := i.ids
def s_v243 (i : InR F) : Vec F S1x8x128 .bf16 := i.dg
def s_v246 (i : InR F) : Vec F S1x128 .f32 := i.xs
def s_v240 (i : InR F) : FVec F S256x128 .f32 := k0_pay107 (s_v239 i)
def s_v242 (i : InR F) : IVec S8x128 32 := k0_pay108 (s_v241 i)
def s_v245 (i : InR F) : FVec F S8x128 .f32 := k0_pay109 (s_v243 i)
def s_v253 (i : InR F) : FVec F S1x128 .f32 := k0_pay110 s_v238 (s_v239 i) (s_v241 i)
def s_v260 (i : InR F) : FVec F S1x128 .f32 := k0_pay111 s_v238 (s_v239 i) (s_v241 i)
def s_v267 (i : InR F) : FVec F S1x128 .f32 := k0_pay112 s_v238 (s_v239 i) (s_v241 i)
def s_v274 (i : InR F) : FVec F S1x128 .f32 := k0_pay113 s_v238 (s_v239 i) (s_v241 i)
def s_v281 (i : InR F) : FVec F S1x128 .f32 := k0_pay114 s_v238 (s_v239 i) (s_v241 i)
def s_v320 (i : InR F) : FVec F S8x128 .f32 := k0_pay115 s_v238 (s_v240 i) (s_v242 i) (s_v245 i) (s_v246 i) (s_v253 i) (s_v260 i) (s_v267 i) (s_v274 i) (s_v281 i)
def s_v328 (i : InR F) : FVec F S256x128 .f32 := k0_pay116 s_v238 (s_v240 i) (s_v242 i) (s_v245 i) (s_v246 i) (s_v253 i) (s_v260 i) (s_v267 i) (s_v274 i) (s_v281 i)
def s_v331 (i : InR F) : IVec S256x128 1 := k0_pay117 s_v238 (s_v242 i)
def s_v377 (i : InR F) : FVec F S256x128 .f32 := k0_pay118 s_v238 (s_v242 i) (s_v320 i) (s_v328 i) (s_v331 i)
def s_v380 (i : InR F) : FVec F S1x128 .f32 := k0_pay119 s_v238 (s_v242 i) (s_v320 i) (s_v328 i) (s_v331 i)
def s_v382 (i : InR F) : FVec F S1x128 .f32 := k0_pay120 s_v238 (s_v242 i) (s_v320 i) (s_v328 i) (s_v331 i)
def s_v383 : IVec S1x128 32 := k0_pay121
def s_v385 : IVec S1x128 32 := k0_pay122
def s_v386 : IVec S1x128 32 := k0_pay123
def s_v432 (i : InR F) : IVec S1x128 32 := k0_pay124 (s_v382 i) s_v383 s_v385 s_v386
def s_v433 : IVec S1x128 32 := k0_pay125
def s_v465 (i : InR F) : FVec F S1x128 .f32 := k0_pay127 (s_v380 i) (s_v382 i) (s_v432 i) s_v433
def s_v469 (i : InR F) : IVec S1x128 32 := k0_pay128 (s_v380 i) (s_v382 i) (s_v432 i) s_v433
def s_v470 : IVec S1x128 32 := k0_pay129
def s_v472 (i : InR F) : IVec S1x128 1 := k0_pay130 (s_v380 i) (s_v382 i) (s_v432 i) s_v433
def s_v474 (i : InR F) : IVec S1x128 1 := k0_pay131 (s_v380 i) (s_v382 i) (s_v432 i) s_v433
def s_c23_i32_274 : BitVec 32 := 23#32
def s_v515 (i : InR F) : FVec F S128x128 .f32 := k0_pay139 (s_v465 i)
def s_v520 (i : InR F) : Vec F S1x256x128 .f32 := i.lt
def s_v522 (i : InR F) : Vec F S1x8x128 .i32 := i.ids
def s_v524 (i : InR F) : Vec F S1x8x128 .bf16 := i.dg
def s_v527 (i : InR F) : Vec F S1x128 .f32 := i.xs
def s_v521 (i : InR F) : FVec F S256x128 .f32 := k0_pay141 (s_v520 i)
def s_v523 (i : InR F) : IVec S8x128 32 := k0_pay142 (s_v522 i)
def s_v526 (i : InR F) : FVec F S8x128 .f32 := k0_pay143 (s_v524 i)
def s_v534 (i : InR F) : FVec F S1x128 .f32 := k0_pay144 s_v238 (s_v520 i) (s_v522 i)
def s_v541 (i : InR F) : FVec F S1x128 .f32 := k0_pay145 s_v238 (s_v520 i) (s_v522 i)
def s_v548 (i : InR F) : FVec F S1x128 .f32 := k0_pay146 s_v238 (s_v520 i) (s_v522 i)
def s_v553 (i : InR F) : FVec F S256x128 .f32 := k0_pay147 s_v238 (s_v520 i) (s_v522 i)
def s_v601 (i : InR F) : FVec F S8x128 .f32 := k0_pay148 s_v238 (s_v521 i) (s_v523 i) (s_v526 i) (s_v527 i) (s_v534 i) (s_v541 i) (s_v548 i) (s_v553 i)
def s_v658 (i : InR F) : FVec F S256x128 .f32 := k0_pay149 s_v238 (s_v523 i) (s_v601 i)
def s_v659 (i : InR F) : FVec F S256x128 .f32 := k0_pay150 s_v238 (s_v523 i) (s_v601 i)
def s_v661 (i : InR F) : FVec F S1x128 .f32 := k0_pay151 (s_v659 i)
def s_v663 (i : InR F) : FVec F S1x128 .f32 := k0_pay152 (s_v659 i)
def s_v699 (i : InR F) : IVec S1x128 32 := k0_pay153 (s_v659 i)
def s_v701 (i : InR F) : IVec S1x128 32 := k0_pay154 (s_v659 i)
def s_v705 (i : InR F) : IVec S1x128 1 := k0_pay155 (s_v659 i)
def s_v746 (i : InR F) : FVec F S1x128 .f32 := k0_pay157 (s_v661 i) (s_v663 i) (s_v699 i) (s_v701 i) (s_v705 i)
def s_v748 (i : InR F) : IVec S1x128 32 := k0_pay158 (s_v661 i) (s_v663 i) (s_v699 i) (s_v701 i) (s_v705 i)
def s_v780 : BitVec 32 := 128#32
def s_v786 (i : InR F) : FVec F S128x256 .bf16 := k0_pay163 (s_v658 i) (s_v748 i)
def s_v820 : IVec S256x128 32 := iota .tc S256x128 32 [0] iota_S256x128_d0_w32
def s_v821 (i : InR F) : Vec F S1x256x128 .f32 := i.lt
def s_v823 (i : InR F) : Vec F S1x8x128 .i32 := i.ids
def s_v825 (i : InR F) : Vec F S1x8x128 .bf16 := i.dg
def s_v828 (i : InR F) : Vec F S1x128 .f32 := i.xs
def s_v822 (i : InR F) : FVec F S256x128 .f32 := k0_pay167 (s_v821 i)
def s_v824 (i : InR F) : IVec S8x128 32 := k0_pay168 (s_v823 i)
def s_v827 (i : InR F) : FVec F S8x128 .f32 := k0_pay169 (s_v825 i)
def s_v835 (i : InR F) : FVec F S1x128 .f32 := k0_pay170 (s_v821 i) (s_v823 i)
def s_v842 (i : InR F) : FVec F S1x128 .f32 := k0_pay171 (s_v821 i) (s_v823 i)
def s_v849 (i : InR F) : FVec F S1x128 .f32 := k0_pay172 (s_v821 i) (s_v823 i)
def s_v856 (i : InR F) : FVec F S1x128 .f32 := k0_pay173 (s_v821 i) (s_v823 i)
def s_v857 (i : InR F) : IVec S1x128 32 := k0_pay174 (s_v823 i)
def s_v902 (i : InR F) : FVec F S8x128 .f32 := k0_pay175 s_v820 (s_v822 i) (s_v824 i) (s_v827 i) (s_v828 i) (s_v835 i) (s_v842 i) (s_v849 i) (s_v856 i) (s_v857 i)
def s_v903 : FVec F S256x128 .f32 := k0_pay176 (F := F)
def s_v905 (i : InR F) : IVec S256x128 32 := k0_pay177 (s_v824 i)
def s_v959 (i : InR F) : FVec F S256x128 .f32 := k0_pay178 s_v820 (s_v824 i) (s_v902 i) (s_v903 (F := F)) (s_v905 i)
def s_v962 (i : InR F) : FVec F S1x128 .f32 := k0_pay179 s_v820 (s_v824 i) (s_v902 i) (s_v903 (F := F)) (s_v905 i)
def s_v963 : FVec F S1x128 .f32 := k0_pay180 (F := F)
def s_v964 (i : InR F) : FVec F S1x128 .f32 := k0_pay181 (s_v962 i) (s_v963 (F := F))
def s_v1007 (i : InR F) : IVec S1x128 32 := k0_pay182 (s_v962 i) (s_v963 (F := F))
def s_v1009 (i : InR F) : IVec S1x128 32 := k0_pay183 (s_v962 i) (s_v963 (F := F))
def s_v1047 (i : InR F) : FVec F S1x128 .f32 := k0_pay185 (s_v962 i) (s_v964 i) (s_v1007 i) (s_v1009 i)
def s_v1051 (i : InR F) : IVec S1x128 32 := k0_pay186 (s_v962 i) (s_v964 i) (s_v1007 i) (s_v1009 i)
def s_c2139095040_i32_459 : BitVec 32 := 2139095040#32
def s_v1081 : BitVec 32 := 1792#32
def s_v1091 (i : InR F) : FVec F S128x256 .fp8e5m2 := k0_pay193 (s_v959 i) (s_v1051 i) s_c2139095040_i32_459
def s_v1102 (i : InR F) : Vec F S1x256x128 .f32 := i.lt
def s_v1104 (i : InR F) : Vec F S1x8x128 .i32 := i.ids
def s_v1106 (i : InR F) : Vec F S1x8x128 .bf16 := i.dg
def s_v1109 (i : InR F) : Vec F S1x128 .f32 := i.xs
def s_v1103 (i : InR F) : FVec F S256x128 .f32 := k0_pay196 (s_v1102 i)
def s_v1105 (i : InR F) : IVec S8x128 32 := k0_pay197 (s_v1104 i)
def s_v1108 (i : InR F) : FVec F S8x128 .f32 := k0_pay198 (s_v1106 i)
def s_v1116 (i : InR F) : FVec F S1x128 .f32 := k0_pay199 s_v820 (s_v1102 i) (s_v1104 i)
def s_v1123 (i : InR F) : FVec F S1x128 .f32 := k0_pay200 s_v820 (s_v1102 i) (s_v1104 i)
def s_v1128 (i : InR F) : FVec F S256x128 .f32 := k0_pay201 s_v820 (s_v1102 i) (s_v1104 i)
def s_v1173 (i : InR F) : FVec F S8x128 .f32 := k0_pay202 s_v820 (s_v1103 i) (s_v1105 i) (s_v1109 i) (s_v1116 i) (s_v1123 i) (s_v1128 i)
def s_v1176 (i : InR F) : FVec F S8x128 .f32 := k0_pay203 s_v820 (s_v1103 i) (s_v1105 i) (s_v1109 i) (s_v1116 i) (s_v1123 i) (s_v1128 i)
def s_v1183 (i : InR F) : FVec F S8x128 .f32 := k0_pay204 (s_v1108 i) (s_v1173 i) (s_v1176 i)
def s_v1233 (i : InR F) : FVec F S256x128 .f32 := k0_pay205 s_v820 (s_v1105 i) (s_v1108 i) (s_v1173 i) (s_v1176 i)
def s_v1234 (i : InR F) : IVec S1x128 32 := k0_pay206 (s_v1105 i)
def s_v1240 (i : InR F) : FVec F S256x128 .f32 := k0_pay207 s_v820 (s_v1183 i) (s_v1233 i) (s_v1234 i)
def s_v1243 (i : InR F) : FVec F S1x128 .f32 := k0_pay208 s_v820 (s_v1183 i) (s_v1233 i) (s_v1234 i)
def s_v1245 (i : InR F) : FVec F S1x128 .f32 := k0_pay209 s_v820 (s_v1183 i) (s_v1233 i) (s_v1234 i)
def s_v1281 (i : InR F) : IVec S1x128 32 := k0_pay210 s_v820 (s_v1183 i) (s_v1233 i) (s_v1234 i)
def s_v1315 (i : InR F) : IVec S1x128 32 := k0_pay211 (s_v1243 i) (s_v1245 i) (s_v1281 i)
def s_v1318 : IVec S1x128 32 := k0_pay213
def s_v1320 (i : InR F) : IVec S1x128 1 := k0_pay214 (s_v1243 i) (s_v1245 i) (s_v1281 i)
def s_v1322 (i : InR F) : IVec S1x128 1 := k0_pay215 (s_v1243 i) (s_v1245 i) (s_v1281 i)
def s_v1324 (i : InR F) : IVec S1x128 32 := k0_pay216 (s_v1243 i) (s_v1245 i) (s_v1281 i)
def s_v1362 : BitVec 32 := 1920#32
def s_v1328 (i : InR F) : FVec F S1x128 .f32 := k0_pay217 (F := F) s_v1318 (s_v1320 i) (s_v1322 i) (s_v1324 i)
def s_v1351 (i : InR F) : FVec F S256x128 .bf16 := k0_pay218 (s_v1240 i) (s_v1315 i)
def s_v1363 (i : InR F) : FVec F S128x256 .f32 := k0_pay221 (s_v1240 i)
def s_v1383 (i : InD F) : Vec F S1x256x128 .f32 := i.sc
def s_v1386 (i : InD F) : Vec F S1x256x256 .bf16 := i.dlw
def s_v1388 (i : InD F) : Vec F S256x512 .bf16 := i.wt 0
def s_v1396 (i : InD F) : Vec F S1x256x256 .bf16 := i.dlw
def s_v1385 (i : InD F) : FVec F S256x1 .f32 := k0_pay227 (s_v1383 i)
def s_v1397 (i : InD F) : FVec F S256x256 .bf16 := k0_pay229 (s_v1396 i)
def s_v1398 (i : InD F) : Vec F S256x512 .bf16 := i.wt 1
def s_v1406 (i : InD F) : Vec F S1x256x256 .bf16 := i.dlw
def s_v1408 (i : InD F) : Vec F S256x512 .bf16 := i.wt 2
def s_v1416 (i : InD F) : Vec F S1x256x256 .bf16 := i.dlw
def s_v1418 (i : InD F) : Vec F S256x512 .bf16 := i.wt 3
def s_v1426 (i : InD F) : Vec F S1x256x256 .bf16 := i.dlw
def s_v1427 (i : InD F) : FVec F S256x256 .bf16 := k0_pay233 (s_v1426 i)
def s_v1428 (i : InD F) : Vec F S256x512 .bf16 := i.wt 4
def s_v1436 (i : InD F) : Vec F S1x256x256 .bf16 := i.dlw
def s_v1438 (i : InD F) : Vec F S256x512 .bf16 := i.wt 5
def s_v1446 (i : InD F) : Vec F S1x256x256 .bf16 := i.dlw
def s_v1448 (i : InD F) : Vec F S256x512 .bf16 := i.wt 6
def s_v1456 (i : InD F) : Vec F S1x256x256 .bf16 := i.dlw
def s_v1457 (i : InD F) : FVec F S256x256 .bf16 := k0_pay237 (s_v1456 i)
def s_v1458 (i : InD F) : Vec F S256x512 .bf16 := i.wt 7
def s_v1466 (i : InD F) : Vec F S1x256x256 .bf16 := i.dlw
def s_v1468 (i : InD F) : Vec F S256x512 .bf16 := i.wt 8
def s_v1476 (i : InD F) : Vec F S1x256x256 .bf16 := i.dlw
def s_v1478 (i : InD F) : Vec F S256x512 .bf16 := i.wt 9
def s_v1486 (i : InD F) : Vec F S1x256x256 .bf16 := i.dlw
def s_v1487 (i : InD F) : FVec F S256x256 .bf16 := k0_pay241 (s_v1486 i)
def s_v1488 (i : InD F) : Vec F S256x512 .bf16 := i.wt 10
def s_v1496 (i : InD F) : Vec F S1x256x256 .bf16 := i.dlw
def s_v1498 (i : InD F) : Vec F S256x512 .bf16 := i.wt 11
def s_v1506 (i : InD F) : Vec F S1x256x256 .bf16 := i.dlw
def s_v1508 (i : InD F) : Vec F S256x512 .bf16 := i.wt 12
def s_v1516 (i : InD F) : Vec F S1x256x256 .bf16 := i.dlw
def s_v1517 (i : InD F) : FVec F S256x256 .bf16 := k0_pay245 (s_v1516 i)
def s_v1518 (i : InD F) : Vec F S256x512 .bf16 := i.wt 13
def s_v1552 (i : InD F) : Vec F S1x256x128 .f32 := i.sc
def s_v1555 (i : InD F) : Vec F S1x256x256 .bf16 := i.dlw
def s_v1557 (i : InD F) : Vec F S256x512 .bf16 := i.wt 0
def s_v1565 (i : InD F) : Vec F S1x256x256 .bf16 := i.dlw
def s_v1567 (i : InD F) : Vec F S256x512 .bf16 := i.wt 1
def s_v1575 (i : InD F) : Vec F S1x256x256 .bf16 := i.dlw
def s_v1554 (i : InD F) : FVec F S256x1 .f32 := k0_pay247 (s_v1552 i)
def s_v1576 (i : InD F) : FVec F S256x256 .bf16 := k0_pay250 (s_v1575 i)
def s_v1577 (i : InD F) : Vec F S256x512 .bf16 := i.wt 2
def s_v1585 (i : InD F) : Vec F S1x256x256 .bf16 := i.dlw
def s_v1587 (i : InD F) : Vec F S256x512 .bf16 := i.wt 3
def s_v1595 (i : InD F) : Vec F S1x256x256 .bf16 := i.dlw
def s_v1597 (i : InD F) : Vec F S256x512 .bf16 := i.wt 4
def s_v1605 (i : InD F) : Vec F S1x256x256 .bf16 := i.dlw
def s_v1606 (i : InD F) : FVec F S256x256 .bf16 := k0_pay254 (s_v1605 i)
def s_v1607 (i : InD F) : Vec F S256x512 .bf16 := i.wt 5
def s_v1615 (i : InD F) : Vec F S1x256x256 .bf16 := i.dlw
def s_v1617 (i : InD F) : Vec F S256x512 .bf16 := i.wt 6
def s_v1625 (i : InD F) : Vec F S1x256x256 .bf16 := i.dlw
def s_v1627 (i : InD F) : Vec F S256x512 .bf16 := i.wt 7
def s_v1635 (i : InD F) : Vec F S1x256x256 .bf16 := i.dlw
def s_v1636 (i : InD F) : FVec F S256x256 .bf16 := k0_pay258 (s_v1635 i)
def s_v1637 (i : InD F) : Vec F S256x512 .bf16 := i.wt 8
def s_v1645 (i : InD F) : Vec F S1x256x256 .bf16 := i.dlw
def s_v1647 (i : InD F) : Vec F S256x512 .bf16 := i.wt 9
def s_v1655 (i : InD F) : Vec F S1x256x256 .bf16 := i.dlw
def s_v1657 (i : InD F) : Vec F S256x512 .bf16 := i.wt 10
def s_v1665 (i : InD F) : Vec F S1x256x256 .bf16 := i.dlw
def s_v1666 (i : InD F) : FVec F S256x256 .bf16 := k0_pay262 (s_v1665 i)
def s_v1667 (i : InD F) : Vec F S256x512 .bf16 := i.wt 11
def s_v1675 (i : InD F) : Vec F S1x256x256 .bf16 := i.dlw
def s_v1677 (i : InD F) : Vec F S256x512 .bf16 := i.wt 12
def s_v1685 (i : InD F) : Vec F S1x256x256 .bf16 := i.dlw
def s_v1687 (i : InD F) : Vec F S256x512 .bf16 := i.wt 13

def o_1_0 (i : InT F) : Vec F S1x256x256 .f32 := (k0_pay1 (s_v1867 i) (s_v1871 i))
def o_7_0 (i : InR F) : Vec F S1x256x128 .bf16 := (k0_pay30 (s_v1894 i) (s_v2025 i) (s_v2113 i) (s_v2120 i) (s_v2125 i))
def o_7_1 (i : InR F) : Vec F S1x128 .f32 := (k0_pay31 (s_v2113 i))
def o_7_2 (i : InR F) : Vec F S128x256 .f32 := (k0_pay32 (s_v2025 i))
def o_7_3 (i : InR F) : Vec F S1x128x256 .bf16 := (k0_pay34 (s_v2025 i) (s_v2120 i) (s_v2125 i))
def o_7_4 (i : InR F) : Vec F S128x256 .fp8e5m2 := (k0_pay35 (s_v2025 i) (s_v2120 i) (s_v2125 i))
def o_8_0 (i : InR F) : Vec F S1x128x128 .f32 := (k0_pay37 (s_v2168 i))
def o_13_0 (i : InR F) : Vec F S1x256x128 .bf16 := (k0_pay56 (s_v2186 i) (s_v2317 i) (s_v2392 i) (s_v2405 i) s_c0_i32_1133)
def o_13_1 (i : InR F) : Vec F S1x128 .f32 := (k0_pay57 (s_v2405 i))
def o_13_2 (i : InR F) : Vec F S128x256 .f32 := (k0_pay58 (s_v2317 i))
def o_14_0 (i : InR F) : Vec F S1x128x256 .bf16 := (k0_pay60 (s_v2448 i))
def o_14_1 (i : InR F) : Vec F S128x256 .fp8e5m2 := (k0_pay61 (s_v2448 i))
def o_14_2 (i : InR F) : Vec F S1x128x128 .f32 := (k0_pay62 (s_v2405 i))
def o_14_3 (i : InD F) : Vec F S1x256x512 .bf16 := (k0_pay64 (s_v2467 i) (s_v2471 i) (s_v2473 i))
def o_15_0 (i : InD F) : Vec F S1x256x512 .bf16 := (k0_pay66 (s_v2469 i) (s_v2484 i) (s_v2485 i) (s_cst_1166 (F := F)))
def o_15_1 (i : InD F) : Vec F S1x256x512 .bf16 := (k0_pay67 (s_v2469 i) (s_v2495 i) (s_v2497 i))
def o_15_2 (i : InD F) : Vec F S1x256x512 .bf16 := (k0_pay68 (s_v2469 i) (s_v2507 i) (s_v2509 i))
def o_16_0 (i : InD F) : Vec F S1x256x512 .bf16 := (k0_pay70 (s_v2469 i) (s_v2520 i) (s_v2521 i) (s_cst_1187 (F := F)))
def o_16_1 (i : InD F) : Vec F S1x256x512 .bf16 := (k0_pay71 (s_v2469 i) (s_v2531 i) (s_v2533 i))
def o_16_2 (i : InD F) : Vec F S1x256x512 .bf16 := (k0_pay72 (s_v2469 i) (s_v2543 i) (s_v2545 i))
def o_17_0 (i : InD F) : Vec F S1x256x512 .bf16 := (k0_pay74 (s_v2469 i) (s_v2556 i) (s_v2557 i) (s_cst_1208 (F := F)))
def o_17_1 (i : InD F) : Vec F S1x256x512 .bf16 := (k0_pay75 (s_v2469 i) (s_v2567 i) (s_v2569 i))
def o_17_2 (i : InD F) : Vec F S1x256x512 .bf16 := (k0_pay76 (s_v2469 i) (s_v2579 i) (s_v2581 i))
def o_18_0 (i : InD F) : Vec F S1x256x512 .bf16 := (k0_pay78 (s_v2469 i) (s_v2592 i) (s_v2593 i) (s_cst_1229 (F := F)))
def o_18_1 (i : InD F) : Vec F S1x256x512 .bf16 := (k0_pay79 (s_v2469 i) (s_v2603 i) (s_v2605 i))
def o_18_2 (i : InD F) : Vec F S1x256x512 .bf16 := (k0_pay80 (s_v2469 i) (s_v2615 i) (s_v2617 i))
def o_19_0 (i : InD F) : Vec F S1x256x512 .bf16 := (k0_pay82 (s_v2469 i) (s_v2628 i) (s_v2629 i) (s_cst_1250 (F := F)))
def o_26_0 (i : InP F) : Vec F S256x1024 .bf16 := (k0_pay88 (s_v112 i))
def o_27_0 (i : InP F) : Vec F S256x1024 .bf16 := (s_v131 i)
def o_27_1 (i : InP F) : Vec F S256x1024 .bf16 := (k0_pay93 (s_v143 i))
def o_28_0 (i : InP F) : Vec F S256x1024 .bf16 := (k0_pay96 (s_v159 i))
def o_28_1 (i : InP F) : Vec F S256x1024 .bf16 := (k0_pay98 (s_v175 i))
def o_29_0 (i : InP F) : Vec F S256x1024 .bf16 := (k0_pay101 (s_v191 i))
def o_30_0 (i : InP F) : Vec F S256x1024 .bf16 := (s_v211 i)
def o_30_1 (i : InP F) : Vec F S1x256x256 .f32 := (k0_pay105 (s_v198 i) (s_v208 i) (s_v212 i))
def o_30_2 (i : InT F) : Vec F S1x256x256 .f32 := (k0_pay106 (s_v230 i) (s_v233 i))
def o_36_0 (i : InR F) : Vec F S1x256x128 .bf16 := (k0_pay133 (s_v246 i) (s_v377 i) (s_v465 i) (s_v469 i) s_v470 (s_v472 i) (s_v474 i) s_c23_i32_274)
def o_36_1 (i : InR F) : Vec F S1x128 .f32 := (k0_pay134 (s_v465 i))
def o_36_2 (i : InR F) : Vec F S128x256 .f32 := (k0_pay135 (s_v377 i))
def o_36_3 (i : InR F) : Vec F S1x128x256 .bf16 := (k0_pay137 (s_v377 i) (s_v469 i) s_v470 (s_v472 i) (s_v474 i) s_c23_i32_274)
def o_36_4 (i : InR F) : Vec F S128x256 .fp8e5m2 := (k0_pay138 (s_v377 i) (s_v469 i) s_v470 (s_v472 i) (s_v474 i) s_c23_i32_274)
def o_37_0 (i : InR F) : Vec F S1x128x128 .f32 := (k0_pay140 (s_v515 i))
def o_42_0 (i : InR F) : Vec F S1x256x128 .bf16 := (k0_pay160 (s_v527 i) (s_v658 i) (s_v746 i) (s_v748 i))
def o_42_1 (i : InR F) : Vec F S1x128 .f32 := (k0_pay161 (s_v746 i))
def o_42_2 (i : InR F) : Vec F S128x256 .f32 := (k0_pay162 (s_v658 i))
def o_43_0 (i : InR F) : Vec F S1x128x256 .bf16 := (k0_pay164 (s_v786 i))
def o_43_1 (i : InR F) : Vec F S128x256 .fp8e5m2 := (k0_pay165 (s_v786 i))
def o_43_2 (i : InR F) : Vec F S1x128x128 .f32 := (k0_pay166 (s_v746 i))
def o_49_0 (i : InR F) : Vec F S1x256x128 .bf16 := (k0_pay188 (s_v828 i) (s_v959 i) (s_v1047 i) (s_v1051 i) s_c2139095040_i32_459)
def o_49_1 (i : InR F) : Vec F S1x128 .f32 := (k0_pay189 (s_v1047 i))
def o_49_2 (i : InR F) : Vec F S128x256 .f32 := (k0_pay190 (s_v959 i))
def o_49_3 (i : InR F) : Vec F S1x128x256 .bf16 := (k0_pay192 (s_v959 i) (s_v1051 i) s_c2139095040_i32_459)
def o_50_0 (i : InR F) : Vec F S128x256 .fp8e5m2 := (k0_pay194 (s_v1091 i))
def o_50_1 (i : InR F) : Vec F S1x128x128 .f32 := (k0_pay195 (s_v1047 i))
def o_55_0 (i : InR F) : Vec F S1x256x128 .bf16 := (k0_pay219 (s_v1109 i) (s_v1240 i) (s_v1315 i) s_v1318 (s_v1320 i) (s_v1322 i) (s_v1324 i))
def o_55_1 (i : InR F) : Vec F S1x128 .f32 := (k0_pay220 (F := F) s_v1318 (s_v1320 i) (s_v1322 i) (s_v1324 i))
def o_56_0 (i : InR F) : Vec F S128x256 .f32 := (k0_pay222 (s_v1363 i))
def o_56_1 (i : InR F) : Vec F S1x128x256 .bf16 := (k0_pay224 (s_v1351 i))
def o_56_2 (i : InR F) : Vec F S128x256 .fp8e5m2 := (k0_pay225 (s_v1351 i))
def o_56_3 (i : InR F) : Vec F S1x128x128 .f32 := (k0_pay226 (s_v1328 i))
def o_56_4 (i : InD F) : Vec F S1x256x512 .bf16 := (k0_pay228 (s_v1383 i) (s_v1386 i) (s_v1388 i))
def o_57_0 (i : InD F) : Vec F S1x256x512 .bf16 := (k0_pay230 (s_v1385 i) (s_v1397 i) (s_v1398 i))
def o_57_1 (i : InD F) : Vec F S1x256x512 .bf16 := (k0_pay231 (s_v1385 i) (s_v1406 i) (s_v1408 i))
def o_57_2 (i : InD F) : Vec F S1x256x512 .bf16 := (k0_pay232 (s_v1385 i) (s_v1416 i) (s_v1418 i))
def o_58_0 (i : InD F) : Vec F S1x256x512 .bf16 := (k0_pay234 (s_v1385 i) (s_v1427 i) (s_v1428 i))
def o_58_1 (i : InD F) : Vec F S1x256x512 .bf16 := (k0_pay235 (s_v1385 i) (s_v1436 i) (s_v1438 i))
def o_58_2 (i : InD F) : Vec F S1x256x512 .bf16 := (k0_pay236 (s_v1385 i) (s_v1446 i) (s_v1448 i))
def o_59_0 (i : InD F) : Vec F S1x256x512 .bf16 := (k0_pay238 (s_v1385 i) (s_v1457 i) (s_v1458 i))
def o_59_1 (i : InD F) : Vec F S1x256x512 .bf16 := (k0_pay239 (s_v1385 i) (s_v1466 i) (s_v1468 i))
def o_59_2 (i : InD F) : Vec F S1x256x512 .bf16 := (k0_pay240 (s_v1385 i) (s_v1476 i) (s_v1478 i))
def o_60_0 (i : InD F) : Vec F S1x256x512 .bf16 := (k0_pay242 (s_v1385 i) (s_v1487 i) (s_v1488 i))
def o_60_1 (i : InD F) : Vec F S1x256x512 .bf16 := (k0_pay243 (s_v1385 i) (s_v1496 i) (s_v1498 i))
def o_60_2 (i : InD F) : Vec F S1x256x512 .bf16 := (k0_pay244 (s_v1385 i) (s_v1506 i) (s_v1508 i))
def o_61_0 (i : InD F) : Vec F S1x256x512 .bf16 := (k0_pay246 (s_v1385 i) (s_v1517 i) (s_v1518 i))
def o_62_0 (i : InD F) : Vec F S1x256x512 .bf16 := (k0_pay248 (s_v1552 i) (s_v1555 i) (s_v1557 i))
def o_62_1 (i : InD F) : Vec F S1x256x512 .bf16 := (k0_pay249 (s_v1552 i) (s_v1565 i) (s_v1567 i))
def o_63_0 (i : InD F) : Vec F S1x256x512 .bf16 := (k0_pay251 (s_v1554 i) (s_v1576 i) (s_v1577 i))
def o_63_1 (i : InD F) : Vec F S1x256x512 .bf16 := (k0_pay252 (s_v1554 i) (s_v1585 i) (s_v1587 i))
def o_63_2 (i : InD F) : Vec F S1x256x512 .bf16 := (k0_pay253 (s_v1554 i) (s_v1595 i) (s_v1597 i))
def o_64_0 (i : InD F) : Vec F S1x256x512 .bf16 := (k0_pay255 (s_v1554 i) (s_v1606 i) (s_v1607 i))
def o_64_1 (i : InD F) : Vec F S1x256x512 .bf16 := (k0_pay256 (s_v1554 i) (s_v1615 i) (s_v1617 i))
def o_64_2 (i : InD F) : Vec F S1x256x512 .bf16 := (k0_pay257 (s_v1554 i) (s_v1625 i) (s_v1627 i))
def o_65_0 (i : InD F) : Vec F S1x256x512 .bf16 := (k0_pay259 (s_v1554 i) (s_v1636 i) (s_v1637 i))
def o_65_1 (i : InD F) : Vec F S1x256x512 .bf16 := (k0_pay260 (s_v1554 i) (s_v1645 i) (s_v1647 i))
def o_65_2 (i : InD F) : Vec F S1x256x512 .bf16 := (k0_pay261 (s_v1554 i) (s_v1655 i) (s_v1657 i))
def o_66_0 (i : InD F) : Vec F S1x256x512 .bf16 := (k0_pay263 (s_v1554 i) (s_v1666 i) (s_v1667 i))
def o_66_1 (i : InD F) : Vec F S1x256x512 .bf16 := (k0_pay264 (s_v1554 i) (s_v1675 i) (s_v1677 i))
def o_66_2 (i : InD F) : Vec F S1x256x512 .bf16 := (k0_pay265 (s_v1554 i) (s_v1685 i) (s_v1687 i))

end Cert.Kernel.Hand
-- ==== Proof.Hand.Kernel.Same.lean ====
/- The copies of the router and of `dx` in the prologue, the loop and the epilogue compute the same functions. -/
module

public import proofs.«01_k».proof.Proof.Hand.Kernel.Spec

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- One column chunk of `dx` of a block of 256 tokens. -/
def dxC (i : InD F) (c : ℕ) : Vec F S1x256x512 .bf16 := o_14_3 ⟨i.sc, i.dlw, fun _ => i.wt c⟩

/-- One chunk of the transposed weights. -/
def wtC (i : InP F) (c : ℕ) : Vec F S256x1024 .bf16 := k0_pay88 (i.w c)

def w_v1918 (i : InW F) : Vec F S1x256x128 .bf16 := i.d 14
def w_v1920 (i : InW F) : Vec F S1x256x128 .bf16 := i.d 15
def w_v1924 (i : InW F) : Vec F S256x512 .fp8e4m3 := i.x 7

/-- A block of 512 rows of `dw`. -/
def o_21 (i : InW F) : Vec F S512x256 .f32 :=
  k0_pay266 (w_v1908 i) (w_v1913 i) (w_v1915 i) (w_cst_1017 (F := F)) (w_v1918 i) (w_v1920 i) (w_v1924 i)

theorem same_o_14_3 (i : InD F) : o_14_3 i = dxC i 0 := rfl
theorem same_o_15_0 (i : InD F) : o_15_0 i = dxC i 1 := rfl
theorem same_o_15_1 (i : InD F) : o_15_1 i = dxC i 2 := rfl
theorem same_o_15_2 (i : InD F) : o_15_2 i = dxC i 3 := rfl
theorem same_o_16_0 (i : InD F) : o_16_0 i = dxC i 4 := rfl
theorem same_o_16_1 (i : InD F) : o_16_1 i = dxC i 5 := rfl
theorem same_o_16_2 (i : InD F) : o_16_2 i = dxC i 6 := rfl
theorem same_o_17_0 (i : InD F) : o_17_0 i = dxC i 7 := rfl
theorem same_o_17_1 (i : InD F) : o_17_1 i = dxC i 8 := rfl
theorem same_o_17_2 (i : InD F) : o_17_2 i = dxC i 9 := rfl
theorem same_o_18_0 (i : InD F) : o_18_0 i = dxC i 10 := rfl
theorem same_o_18_1 (i : InD F) : o_18_1 i = dxC i 11 := rfl
theorem same_o_18_2 (i : InD F) : o_18_2 i = dxC i 12 := rfl
theorem same_o_19_0 (i : InD F) : o_19_0 i = dxC i 13 := rfl
theorem same_o_56_4 (i : InD F) : o_56_4 i = dxC i 0 := rfl
theorem same_o_57_0 (i : InD F) : o_57_0 i = dxC i 1 := rfl
theorem same_o_57_1 (i : InD F) : o_57_1 i = dxC i 2 := rfl
theorem same_o_57_2 (i : InD F) : o_57_2 i = dxC i 3 := rfl
theorem same_o_58_0 (i : InD F) : o_58_0 i = dxC i 4 := rfl
theorem same_o_58_1 (i : InD F) : o_58_1 i = dxC i 5 := rfl
theorem same_o_58_2 (i : InD F) : o_58_2 i = dxC i 6 := rfl
theorem same_o_59_0 (i : InD F) : o_59_0 i = dxC i 7 := rfl
theorem same_o_59_1 (i : InD F) : o_59_1 i = dxC i 8 := rfl
theorem same_o_59_2 (i : InD F) : o_59_2 i = dxC i 9 := rfl
theorem same_o_60_0 (i : InD F) : o_60_0 i = dxC i 10 := rfl
theorem same_o_60_1 (i : InD F) : o_60_1 i = dxC i 11 := rfl
theorem same_o_60_2 (i : InD F) : o_60_2 i = dxC i 12 := rfl
theorem same_o_61_0 (i : InD F) : o_61_0 i = dxC i 13 := rfl
theorem same_o_62_0 (i : InD F) : o_62_0 i = dxC i 0 := rfl
theorem same_o_62_1 (i : InD F) : o_62_1 i = dxC i 1 := rfl
theorem same_o_63_0 (i : InD F) : o_63_0 i = dxC i 2 := rfl
theorem same_o_63_1 (i : InD F) : o_63_1 i = dxC i 3 := rfl
theorem same_o_63_2 (i : InD F) : o_63_2 i = dxC i 4 := rfl
theorem same_o_64_0 (i : InD F) : o_64_0 i = dxC i 5 := rfl
theorem same_o_64_1 (i : InD F) : o_64_1 i = dxC i 6 := rfl
theorem same_o_64_2 (i : InD F) : o_64_2 i = dxC i 7 := rfl
theorem same_o_65_0 (i : InD F) : o_65_0 i = dxC i 8 := rfl
theorem same_o_65_1 (i : InD F) : o_65_1 i = dxC i 9 := rfl
theorem same_o_65_2 (i : InD F) : o_65_2 i = dxC i 10 := rfl
theorem same_o_66_0 (i : InD F) : o_66_0 i = dxC i 11 := rfl
theorem same_o_66_1 (i : InD F) : o_66_1 i = dxC i 12 := rfl
theorem same_o_66_2 (i : InD F) : o_66_2 i = dxC i 13 := rfl
theorem same_o_1_0 (i : InT F) : o_1_0 i = o_1_0 i := rfl
theorem same_o_7_0 (i : InR F) : o_7_0 i = o_7_0 i := rfl
theorem same_o_7_1 (i : InR F) : o_7_1 i = o_7_1 i := rfl
theorem same_o_7_2 (i : InR F) : o_7_2 i = o_7_2 i := rfl
theorem same_o_7_3 (i : InR F) : o_7_3 i = o_7_3 i := rfl
theorem same_o_7_4 (i : InR F) : o_7_4 i = o_7_4 i := rfl
theorem same_o_8_0 (i : InR F) : o_8_0 i = o_8_0 i := rfl
theorem same_o_13_0 (i : InR F) : o_13_0 i = o_7_0 i := rfl
theorem same_o_13_1 (i : InR F) : o_13_1 i = o_7_1 i := rfl
theorem same_o_13_2 (i : InR F) : o_13_2 i = o_7_2 i := rfl
theorem same_o_14_0 (i : InR F) : o_14_0 i = o_7_3 i := rfl
theorem same_o_14_1 (i : InR F) : o_14_1 i = o_7_4 i := rfl
theorem same_o_14_2 (i : InR F) : o_14_2 i = o_8_0 i := rfl
theorem same_o_26_0 (i : InP F) : o_26_0 i = wtC i 0 := rfl
theorem same_o_27_0 (i : InP F) : o_27_0 i = wtC i 1 := rfl
theorem same_o_27_1 (i : InP F) : o_27_1 i = wtC i 2 := rfl
theorem same_o_28_0 (i : InP F) : o_28_0 i = wtC i 3 := rfl
theorem same_o_28_1 (i : InP F) : o_28_1 i = wtC i 4 := rfl
theorem same_o_29_0 (i : InP F) : o_29_0 i = wtC i 5 := rfl
theorem same_o_30_0 (i : InP F) : o_30_0 i = wtC i 6 := rfl
theorem same_o_30_2 (i : InT F) : o_30_2 i = o_1_0 i := rfl
theorem same_o_36_0 (i : InR F) : o_36_0 i = o_7_0 i := rfl
theorem same_o_36_1 (i : InR F) : o_36_1 i = o_7_1 i := rfl
theorem same_o_36_2 (i : InR F) : o_36_2 i = o_7_2 i := rfl
theorem same_o_36_3 (i : InR F) : o_36_3 i = o_7_3 i := rfl
theorem same_o_36_4 (i : InR F) : o_36_4 i = o_7_4 i := rfl
theorem same_o_37_0 (i : InR F) : o_37_0 i = o_8_0 i := rfl
theorem same_o_42_0 (i : InR F) : o_42_0 i = o_7_0 i := rfl
theorem same_o_42_1 (i : InR F) : o_42_1 i = o_7_1 i := rfl
theorem same_o_42_2 (i : InR F) : o_42_2 i = o_7_2 i := rfl
theorem same_o_43_0 (i : InR F) : o_43_0 i = o_7_3 i := rfl
theorem same_o_43_1 (i : InR F) : o_43_1 i = o_7_4 i := rfl
theorem same_o_43_2 (i : InR F) : o_43_2 i = o_8_0 i := rfl
theorem same_o_49_0 (i : InR F) : o_49_0 i = o_7_0 i := rfl
theorem same_o_49_1 (i : InR F) : o_49_1 i = o_7_1 i := rfl
theorem same_o_49_2 (i : InR F) : o_49_2 i = o_7_2 i := rfl
theorem same_o_49_3 (i : InR F) : o_49_3 i = o_7_3 i := rfl
theorem same_o_50_0 (i : InR F) : o_50_0 i = o_7_4 i := rfl
theorem same_o_50_1 (i : InR F) : o_50_1 i = o_8_0 i := rfl
theorem same_o_55_0 (i : InR F) : o_55_0 i = o_7_0 i := rfl
theorem same_o_55_1 (i : InR F) : o_55_1 i = o_7_1 i := rfl
theorem same_o_56_0 (i : InR F) : o_56_0 i = o_7_2 i := rfl
theorem same_o_56_1 (i : InR F) : o_56_1 i = o_7_3 i := rfl
theorem same_o_56_2 (i : InR F) : o_56_2 i = o_7_4 i := rfl
theorem same_o_56_3 (i : InR F) : o_56_3 i = o_8_0 i := rfl

end Cert.Kernel.Hand
-- ==== Proof.Hand.Kernel.Offs.lean ====
/- Every offset the loops compute, in closed form. -/
module

public import proofs.«01_k».proof.Proof.Hand.Kernel.Base

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem e1 : ∀ k : Fin k0_t1_loop.trips, k0_off1 k = ![(k : ℕ) + 2] := by decide +kernel
theorem e2 : ∀ k : Fin k0_t1_loop.trips, k0_off2 k = ![256 * ((k : ℕ) + 2), 0] := by decide +kernel
theorem e3 : ∀ k : Fin k0_t1_loop.trips, k0_off3 k = ![(k : ℕ) % 2] := by decide +kernel
theorem e4 : ∀ k : Fin k0_t1_loop.trips, 2 ≤ (k : ℕ) → k0_off4 k = ![256 * ((k : ℕ) - 2), 0] := by decide +kernel
theorem e5 : ∀ k : Fin k0_t1_loop.trips, k0_off5 k = ![(k : ℕ) % 2, 0, 0] := by decide +kernel
theorem e6 : ∀ k : Fin k0_t1_loop.trips, k0_off6 k = ![256 * ((k : ℕ) + 2), 0] := by decide +kernel
theorem e7 : ∀ k : Fin k0_t1_loop.trips, k0_off7 k = ![(k : ℕ) % 2, 0, 0] := by decide +kernel
theorem e8_0 : ∀ k : Fin k0_t1_loop.trips, k0_off8 k = ![((2 * ((k : ℕ) + 1) + 0) / 2) % 2, 0, 128 * ((2 * ((k : ℕ) + 1) + 0) % 2)] := by decide +kernel
theorem e8s_0 : ∀ k : Fin k0_t1_loop.trips, k0_off8 k = ![((k : ℕ) + 1) % 2, 0, 0] := by decide +kernel
theorem e9_0 : ∀ k : Fin k0_t1_loop.trips, k0_off9 k 0#32 = ![2 * ((k : ℕ) + 1) + 0, 0, 0] := by decide +kernel
theorem e10_0 : ∀ k : Fin k0_t1_loop.trips, k0_off10 k 0#32 = ![2 * ((k : ℕ) + 1) + 0, 0] := by decide +kernel
theorem e11_0 : ∀ k : Fin k0_t1_loop.trips, k0_off11 k 0#32 = ![2 * ((k : ℕ) + 1) + 0, 0, 0] := by decide +kernel
theorem e12_0 : ∀ k : Fin k0_t1_loop.trips, k0_off12 k 0#32 = ![128 * (2 * ((k : ℕ) + 1) + 0), 0] := by decide +kernel
theorem e13 : ∀ k : Fin k0_t1_loop.trips, k0_off13 k = ![((k : ℕ) + 1) % 2, 0, 0] := by decide +kernel
theorem e14 : ∀ k : Fin k0_t1_loop.trips, k0_off14 k = ![((k : ℕ) + 1) % 2, 0, 0] := by decide +kernel
theorem e15_1 : ∀ k : Fin k0_t1_loop.trips, k0_off15 k = ![((2 * ((k : ℕ) + 1) + 1) / 2) % 2, 0, 128 * ((2 * ((k : ℕ) + 1) + 1) % 2)] := by decide +kernel
theorem e15s_1 : ∀ k : Fin k0_t1_loop.trips, k0_off15 k = ![((k : ℕ) + 1) % 2, 0, 128] := by decide +kernel
theorem e9_1 : ∀ k : Fin k0_t1_loop.trips, k0_off9 k 1#32 = ![2 * ((k : ℕ) + 1) + 1, 0, 0] := by decide +kernel
theorem e10_1 : ∀ k : Fin k0_t1_loop.trips, k0_off10 k 1#32 = ![2 * ((k : ℕ) + 1) + 1, 0] := by decide +kernel
theorem e11_1 : ∀ k : Fin k0_t1_loop.trips, k0_off11 k 1#32 = ![2 * ((k : ℕ) + 1) + 1, 0, 0] := by decide +kernel
theorem e12_1 : ∀ k : Fin k0_t1_loop.trips, k0_off12 k 1#32 = ![128 * (2 * ((k : ℕ) + 1) + 1), 0] := by decide +kernel
theorem e16 : ∀ k : Fin k0_t1_loop.trips, k0_off16 k = ![((k : ℕ) + 1) % 2, 128, 0] := by decide +kernel
theorem e17 : ∀ k : Fin k0_t1_loop.trips, k0_off17 k = ![((k : ℕ) + 1) % 2, 128, 0] := by decide +kernel
theorem e18 : ∀ k : Fin k0_t1_loop.trips, k0_off18 k = ![(k : ℕ) % 2, 0, 0] := by decide +kernel
theorem e19 : ∀ k : Fin k0_t1_loop.trips, k0_off19 k = ![(k : ℕ) % 2, 0, 0] := by decide +kernel
theorem e20 : ∀ k : Fin k0_t1_loop.trips, k0_off20 k = ![(k : ℕ) % 2, 0, 512 * 0] := by decide +kernel
theorem e21 : ∀ k : Fin k0_t1_loop.trips, k0_off21 k = ![(k : ℕ) % 2, 0, 512 * 1] := by decide +kernel
theorem e22 : ∀ k : Fin k0_t1_loop.trips, k0_off22 k = ![(k : ℕ) % 2, 0, 512 * 2] := by decide +kernel
theorem e23 : ∀ k : Fin k0_t1_loop.trips, k0_off23 k = ![(k : ℕ) % 2, 0, 512 * 3] := by decide +kernel
theorem e24 : ∀ k : Fin k0_t1_loop.trips, k0_off24 k = ![(k : ℕ) % 2, 0, 512 * 4] := by decide +kernel
theorem e25 : ∀ k : Fin k0_t1_loop.trips, k0_off25 k = ![(k : ℕ) % 2, 0, 512 * 5] := by decide +kernel
theorem e26 : ∀ k : Fin k0_t1_loop.trips, k0_off26 k = ![(k : ℕ) % 2, 0, 512 * 6] := by decide +kernel
theorem e27 : ∀ k : Fin k0_t1_loop.trips, k0_off27 k = ![(k : ℕ) % 2, 0, 512 * 7] := by decide +kernel
theorem e28 : ∀ k : Fin k0_t1_loop.trips, k0_off28 k = ![(k : ℕ) % 2, 0, 512 * 8] := by decide +kernel
theorem e29 : ∀ k : Fin k0_t1_loop.trips, k0_off29 k = ![(k : ℕ) % 2, 0, 512 * 9] := by decide +kernel
theorem e30 : ∀ k : Fin k0_t1_loop.trips, k0_off30 k = ![(k : ℕ) % 2, 0, 512 * 10] := by decide +kernel
theorem e31 : ∀ k : Fin k0_t1_loop.trips, k0_off31 k = ![(k : ℕ) % 2, 0, 512 * 11] := by decide +kernel
theorem e32 : ∀ k : Fin k0_t1_loop.trips, k0_off32 k = ![(k : ℕ) % 2, 0, 512 * 12] := by decide +kernel
theorem e33 : ∀ k : Fin k0_t1_loop.trips, k0_off33 k = ![(k : ℕ) % 2, 0, 512 * 13] := by decide +kernel
theorem e34 : ∀ k : Fin k0_t1_loop.trips, k0_off34 k = ![(k : ℕ) % 2] := by decide +kernel
theorem e35 : ∀ k : Fin k0_t1_loop.trips, k0_off35 k = ![256 * (k : ℕ), 0] := by decide +kernel
theorem e36 : ∀ k : Fin k0_t1_loop.trips, k0_off36 k = ![(k : ℕ) % 2, 0, 0] := by decide +kernel
theorem e37 : ∀ k : Fin k0_t1_loop.trips, k0_off37 k = ![256 * ((k : ℕ) + 1), 0] := by decide +kernel
theorem e38 : ∀ k : Fin k0_t2_loop.trips, k0_off38 k = ![256 * 0, 512 * (k : ℕ)] := by decide +kernel
theorem e39 : ∀ k : Fin k0_t2_loop.trips, k0_off39 k = ![256 * 1, 512 * (k : ℕ)] := by decide +kernel
theorem e40 : ∀ k : Fin k0_t2_loop.trips, k0_off40 k = ![256 * 2, 512 * (k : ℕ)] := by decide +kernel
theorem e41 : ∀ k : Fin k0_t2_loop.trips, k0_off41 k = ![256 * 3, 512 * (k : ℕ)] := by decide +kernel
theorem e42 : ∀ k : Fin k0_t2_loop.trips, k0_off42 k = ![256 * 4, 512 * (k : ℕ)] := by decide +kernel
theorem e43 : ∀ k : Fin k0_t2_loop.trips, k0_off43 k = ![256 * 5, 512 * (k : ℕ)] := by decide +kernel
theorem e44 : ∀ k : Fin k0_t2_loop.trips, k0_off44 k = ![256 * 6, 512 * (k : ℕ)] := by decide +kernel
theorem e45 : ∀ k : Fin k0_t2_loop.trips, k0_off45 k = ![256 * 7, 512 * (k : ℕ)] := by decide +kernel
theorem e46 : ∀ k : Fin k0_t2_loop.trips, k0_off46 k = ![512 * (k : ℕ), 0] := by decide +kernel
theorem e47 : ∀ k : Fin k0_t2_loop.trips, k0_off47 k = ![512 * (k : ℕ), 0] := by decide +kernel
theorem ec1 : ∀ k : Fin k0_t1_loop.trips, k0_cond1 k = 1#1 ↔ 2 ≤ (k : ℕ) := by decide +kernel

end Cert.Kernel.Hand
-- ==== Proof.Hand.Kernel.Content.lean ====
/- What every buffer holds, as a function of what the kernel is given. -/
module

public import proofs.«01_k».proof.Proof.Hand.Kernel.Same
public import proofs.«01_k».proof.Proof.Hand.Kernel.Offs

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The index `off + j`, wrapped into the shape. -/
def sh {r : ℕ} {d d' : Fin r → ℕ} (hd : ∀ a, 0 < d a) (off : Fin r → ℕ) (j : Shape.Idx ⟨r, d'⟩) : Shape.Idx ⟨r, d⟩ :=
  fun a => ⟨(off a + j a) % d a, Nat.mod_lt _ (hd a)⟩

/-- The index `i - off`, wrapped into the smaller shape. -/
def lc {r : ℕ} {d d' : Fin r → ℕ} (hd : ∀ a, 0 < d' a) (off : Fin r → ℕ) (i : Shape.Idx ⟨r, d⟩) : Shape.Idx ⟨r, d'⟩ :=
  fun a => ⟨(i a - off a) % d' a, Nat.mod_lt _ (hd a)⟩

/-- What a window at `off` of `f` reads. -/
def rdB {r : ℕ} {d d' : Fin r → ℕ} {α : Type} (hd : ∀ a, 0 < d a) (off : Fin r → ℕ) (f : Shape.Idx ⟨r, d⟩ → α) : Shape.Idx ⟨r, d'⟩ → α :=
  fun j => f (sh hd off j)

/-- An array put together from blocks: element `i` lies in block `n i`, at offset `off (n i)`. -/
def asm {r : ℕ} {d d' : Fin r → ℕ} {α : Type} (hd : ∀ a, 0 < d' a) (blk : ℕ → Shape.Idx ⟨r, d'⟩ → α) (n : (Fin r → ℕ) → ℕ) (off : ℕ → Fin r → ℕ) :
    Shape.Idx ⟨r, d⟩ → α :=
  fun i => blk (n fun a => i a) (lc hd (off (n fun a => i a)) i)

theorem rd_eq {r : ℕ} {d d' : Fin r → ℕ} {α : Type} {hd : ∀ a, 0 < d a} {o o' : Fin r → ℕ} {inb} {f : Shape.Idx ⟨r, d⟩ → α}
    (ho : o = o') (j : Shape.Idx ⟨r, d'⟩) : f ((Rect.unit (s := ⟨r, d⟩) o d' inb).emb j) = rdB hd o' f j := by
  subst ho
  unfold rdB
  congr 1
  funext a
  refine Fin.ext ?_
  have h := inb a
  have hj := (j a).isLt
  show (o a + 1 * (j a : ℕ)) = (o a + (j a : ℕ)) % d a
  rw [one_mul, Nat.mod_eq_of_lt]
  have h2 : o a + d' a ≤ d a := h
  have hj2 : (j a : ℕ) < d' a := hj
  omega

theorem asm_eq {r : ℕ} {d d' : Fin r → ℕ} {α : Type} {hd : ∀ a, 0 < d' a} {o : Fin r → ℕ} {inb} {blk : ℕ → Shape.Idx ⟨r, d'⟩ → α}
    {n : (Fin r → ℕ) → ℕ} {off : ℕ → Fin r → ℕ} (j : Shape.Idx ⟨r, d'⟩) (n0 : ℕ) (hn : n (fun a => o a + j a) = n0)
    (hoff : ∀ a, off n0 a = o a ∨ d' a = 1 ∧ off n0 a ≤ o a) :
    asm (d := d) hd blk n off ((Rect.unit (s := ⟨r, d⟩) o d' inb).emb j) = blk n0 j := by
  have e : (fun a => (((Rect.unit (s := ⟨r, d⟩) o d' inb).emb j a : Fin _) : ℕ)) = fun a => o a + j a := by
    funext a; show o a + 1 * (j a : ℕ) = _; rw [one_mul]
  unfold asm
  rw [e, hn]
  congr 1
  funext a
  refine Fin.ext ?_
  have hj2 : (j a : ℕ) < d' a := (j a).isLt
  show ((o a + 1 * (j a : ℕ)) - off n0 a) % d' a = j a
  rcases hoff a with h | ⟨h, -⟩
  · rw [h, one_mul, Nat.add_sub_cancel_left, Nat.mod_eq_of_lt hj2]
  · rw [h, Nat.mod_one]; omega

/-- What the kernel is given: tokens, weights, expert ids, cotangents, token scales. -/
structure GIn (F : FTy → Type) where
  x : Vec F S2048x7168 .fp8e4m3
  w : Vec F S7168x256 .bf16
  ids : Vec F S16x8x128 .i32
  dg : Vec F S16x8x128 .bf16
  xs : Vec F S16x128 .f32

variable (X : GIn F)

def inP : InP F := ⟨fun c => rdB (by decide) ![1024 * c, 0] X.w, fun c => rdB (by decide) ![0, 1024 * c] X.x⟩

/-- The transposed weights. -/
def G12 : Vec F S256x7168 .bf16 := asm (by decide) (fun c => wtC (inP X) c) (fun i => i 1 / 1024) (fun c => ![0, 1024 * c])

def inT (b : ℕ) : InT F := ⟨rdB (by decide) ![0, 0] (G12 X), rdB (by decide) ![256 * b, 0] X.x⟩

/-- The logits of token block `b`, before the token scales. -/
def LT (b : ℕ) : Vec F S1x256x256 .f32 := if b = 0 then o_30_1 (inP X) else o_1_0 (inT X b)

/-- The logits' ring, a slot holding block `b`. -/
def G16 (b : ℕ) : Vec F S2x256x256 .f32 := asm (by decide) (fun _ => LT X b) (fun _ => 0) (fun _ => ![0, 0, 0])

/-- What the router reads of block `n` of 128 tokens. -/
def inR (n : ℕ) : InR F :=
  ⟨rdB (by decide) ![(n / 2) % 2, 0, 128 * (n % 2)] (G16 X (n / 2)), rdB (by decide) ![n, 0, 0] X.ids, rdB (by decide) ![n, 0, 0] X.dg,
    rdB (by decide) ![n, 0] X.xs⟩

def G19 : Vec F S16x256x128 .bf16 := asm (by decide) (fun n => o_7_0 (inR X n)) (fun i => i 0) (fun n => ![n, 0, 0])
def G24 : Vec F S16x128 .f32 := asm (by decide) (fun n => o_7_1 (inR X n)) (fun i => i 0) (fun n => ![n, 0])
def G22 : Vec F S2048x256 .f32 := asm (by decide) (fun n => o_7_2 (inR X n)) (fun i => i 0 / 128) (fun n => ![128 * n, 0])
def G23 : Vec F S2048x256 .fp8e5m2 := asm (by decide) (fun n => o_7_4 (inR X n)) (fun i => i 0 / 128) (fun n => ![128 * n, 0])

/-- The ring of quantised cotangents, a slot holding block `b` of 256 tokens. -/
def G17 (b : ℕ) : Vec F S2x256x256 .bf16 :=
  asm (by decide) (fun n => o_7_3 (inR X n)) (fun i => 2 * b + i 1 / 128) (fun n => ![0, 128 * (n % 2), 0])
/-- The ring of scales, a slot holding block `b` of 256 tokens. -/
def G18 (b : ℕ) : Vec F S2x256x128 .f32 :=
  asm (by decide) (fun n => o_8_0 (inR X n)) (fun i => 2 * b + i 1 / 128) (fun n => ![0, 128 * (n % 2), 0])

/-- What `dx` reads of block `b` of 256 tokens. -/
def inD (b : ℕ) : InD F :=
  ⟨rdB (by decide) ![b % 2, 0, 0] (G18 X b), rdB (by decide) ![b % 2, 0, 0] (G17 X b), fun c => rdB (by decide) ![0, 512 * c] (G12 X)⟩

/-- The ring of `dx`, a slot holding block `b` of 256 tokens. -/
def G20 (b : ℕ) : Vec F S2x256x7168 .bf16 :=
  asm (by decide) (fun c => dxC (inD X b) c) (fun i => i 2 / 512) (fun c => ![0, 0, 512 * c])

/-- The index of the ring an element of `dx` is copied from. -/
def g5ix (i : S2048x7168.Idx) : S2x256x7168.Idx := fun a => match a with
    | 0 => ⟨0, by decide⟩
    | 1 => ⟨(i 0 : ℕ) % 256, Nat.mod_lt _ (by decide)⟩
    | 2 => ⟨(i 1 : ℕ) % 7168, Nat.mod_lt _ (by decide)⟩

/-- `dx`. -/
def G5 : Vec F S2048x7168 .bf16 := fun i => G20 X ((i 0 : ℕ) / 256) (g5ix i)

/-- What `dw` reads for block `b` of 512 rows. -/
def inW (b : ℕ) : InW F := ⟨fun n => rdB (by decide) ![n, 0, 0] (G19 X), fun t => rdB (by decide) ![256 * t, 512 * b] X.x⟩

/-- `dw`. -/
def G21 : Vec F S7168x256 .f32 := asm (by decide) (fun b => o_21 (inW X b)) (fun i => i 0 / 512) (fun b => ![512 * b, 0])

/-! ## What each store writes -/

theorem w12  (n : ℕ) {o : Fin 2 → ℕ} {inb} (ho : o = ![0, 1024 * n]) (j : Shape.Idx S256x1024) :
    G12 X ((Rect.unit (s := S256x7168) o S256x1024.size inb).emb j) = wtC (inP X) n j := by
  subst ho
  refine asm_eq (d' := S256x1024.size) j n ?_ ?_
  · have h0 : ((j 0 : Fin _) : ℕ) < 256 := (j 0).isLt
    have h1 : ((j 1 : Fin _) : ℕ) < 1024 := (j 1).isLt
    show (1024 * n + (j 1 : ℕ)) / 1024 = n
    omega
  · intro a
    fin_cases a <;> simp

theorem w19  (n : ℕ) {o : Fin 3 → ℕ} {inb} (ho : o = ![n, 0, 0]) (j : Shape.Idx S1x256x128) :
    G19 X ((Rect.unit (s := S16x256x128) o S1x256x128.size inb).emb j) = o_7_0 (inR X n) j := by
  subst ho
  refine asm_eq (d' := S1x256x128.size) j n ?_ ?_
  · have h0 : ((j 0 : Fin _) : ℕ) < 1 := (j 0).isLt
    have h1 : ((j 1 : Fin _) : ℕ) < 256 := (j 1).isLt
    show n + (j 0 : ℕ) = n
    omega
  · intro a
    fin_cases a <;> simp

theorem w24  (n : ℕ) {o : Fin 2 → ℕ} {inb} (ho : o = ![n, 0]) (j : Shape.Idx S1x128) :
    G24 X ((Rect.unit (s := S16x128) o S1x128.size inb).emb j) = o_7_1 (inR X n) j := by
  subst ho
  refine asm_eq (d' := S1x128.size) j n ?_ ?_
  · have h0 : ((j 0 : Fin _) : ℕ) < 1 := (j 0).isLt
    have h1 : ((j 1 : Fin _) : ℕ) < 128 := (j 1).isLt
    show n + (j 0 : ℕ) = n
    omega
  · intro a
    fin_cases a <;> simp

theorem w22  (n : ℕ) {o : Fin 2 → ℕ} {inb} (ho : o = ![128 * n, 0]) (j : Shape.Idx S128x256) :
    G22 X ((Rect.unit (s := S2048x256) o S128x256.size inb).emb j) = o_7_2 (inR X n) j := by
  subst ho
  refine asm_eq (d' := S128x256.size) j n ?_ ?_
  · have h0 : ((j 0 : Fin _) : ℕ) < 128 := (j 0).isLt
    have h1 : ((j 1 : Fin _) : ℕ) < 256 := (j 1).isLt
    show (128 * n + (j 0 : ℕ)) / 128 = n
    omega
  · intro a
    fin_cases a <;> simp

theorem w23  (n : ℕ) {o : Fin 2 → ℕ} {inb} (ho : o = ![128 * n, 0]) (j : Shape.Idx S128x256) :
    G23 X ((Rect.unit (s := S2048x256) o S128x256.size inb).emb j) = o_7_4 (inR X n) j := by
  subst ho
  refine asm_eq (d' := S128x256.size) j n ?_ ?_
  · have h0 : ((j 0 : Fin _) : ℕ) < 128 := (j 0).isLt
    have h1 : ((j 1 : Fin _) : ℕ) < 256 := (j 1).isLt
    show (128 * n + (j 0 : ℕ)) / 128 = n
    omega
  · intro a
    fin_cases a <;> simp

theorem w21  (n : ℕ) {o : Fin 2 → ℕ} {inb} (ho : o = ![512 * n, 0]) (j : Shape.Idx S512x256) :
    G21 X ((Rect.unit (s := S7168x256) o S512x256.size inb).emb j) = o_21 (inW X n) j := by
  subst ho
  refine asm_eq (d' := S512x256.size) j n ?_ ?_
  · have h0 : ((j 0 : Fin _) : ℕ) < 512 := (j 0).isLt
    have h1 : ((j 1 : Fin _) : ℕ) < 256 := (j 1).isLt
    show (512 * n + (j 0 : ℕ)) / 512 = n
    omega
  · intro a
    fin_cases a <;> simp

theorem w17 {s b r : ℕ} (n : ℕ) {o : Fin 3 → ℕ} {inb} (hb : n / 2 = b) (hr : n % 2 = r) (ho : o = ![s, 128 * r, 0]) (j : Shape.Idx S1x128x256) :
    G17 X b ((Rect.unit (s := S2x256x256) o S1x128x256.size inb).emb j) = o_7_3 (inR X n) j := by
  subst ho hb hr
  refine asm_eq (d' := S1x128x256.size) j n ?_ ?_
  · have h1 : ((j 1 : Fin _) : ℕ) < 128 := (j 1).isLt
    show 2 * (n / 2) + (128 * (n % 2) + (j 1 : ℕ)) / 128 = n
    omega
  · intro a
    fin_cases a <;> simp

theorem w18 {s b r : ℕ} (n : ℕ) {o : Fin 3 → ℕ} {inb} (hb : n / 2 = b) (hr : n % 2 = r) (ho : o = ![s, 128 * r, 0]) (j : Shape.Idx S1x128x128) :
    G18 X b ((Rect.unit (s := S2x256x128) o S1x128x128.size inb).emb j) = o_8_0 (inR X n) j := by
  subst ho hb hr
  refine asm_eq (d' := S1x128x128.size) j n ?_ ?_
  · have h1 : ((j 1 : Fin _) : ℕ) < 128 := (j 1).isLt
    show 2 * (n / 2) + (128 * (n % 2) + (j 1 : ℕ)) / 128 = n
    omega
  · intro a
    fin_cases a <;> simp

theorem w20 {s : ℕ} (b : ℕ) (n : ℕ) {o : Fin 3 → ℕ} {inb} (ho : o = ![s, 0, 512 * n]) (j : Shape.Idx S1x256x512) :
    G20 X b ((Rect.unit (s := S2x256x7168) o S1x256x512.size inb).emb j) = dxC (inD X b) n j := by
  subst ho
  refine asm_eq (d' := S1x256x512.size) j n ?_ ?_
  · have h0 : ((j 0 : Fin _) : ℕ) < 1 := (j 0).isLt
    have h1 : ((j 1 : Fin _) : ℕ) < 256 := (j 1).isLt
    have h2 : ((j 2 : Fin _) : ℕ) < 512 := (j 2).isLt
    show (512 * n + (j 2 : ℕ)) / 512 = n
    omega
  · intro a
    fin_cases a <;> simp

theorem w16 {s : ℕ} (n : ℕ) {o : Fin 3 → ℕ} {inb} (ho : o = ![s, 0, 0]) (j : Shape.Idx S1x256x256) :
    G16 X n ((Rect.unit (s := S2x256x256) o S1x256x256.size inb).emb j) = LT X n j := by
  subst ho
  refine asm_eq (d' := S1x256x256.size) j 0 ?_ ?_
  · have h0 : ((j 0 : Fin _) : ℕ) < 1 := (j 0).isLt
    have h1 : ((j 1 : Fin _) : ℕ) < 256 := (j 1).isLt
    show 0 = 0
    rfl
  · intro a
    fin_cases a <;> simp

/-- A unit-stride window's index, coordinate by coordinate. -/
theorem emb_val {r : ℕ} {d d' o : Fin r → ℕ} {inb} (j : Shape.Idx ⟨r, d'⟩) (a : Fin r) :
    ((((Rect.unit (s := ⟨r, d⟩) o d' inb).emb j) a : Fin _) : ℕ) = o a + (j a : ℕ) := by
  show o a + 1 * (j a : ℕ) = _
  rw [one_mul]

/-- The ring of `dx` does not depend on the slot. -/
theorem G20_ext (b : ℕ) (i i' : S2x256x7168.Idx) (e1 : ((i 1 : Fin _) : ℕ) = (i' 1 : Fin _)) (e2 : ((i 2 : Fin _) : ℕ) = (i' 2 : Fin _)) :
    G20 X b i = G20 X b i' := by
  unfold G20 asm
  have e2' : (fun a => ((i a : Fin _) : ℕ)) 2 = (fun a => ((i' a : Fin _) : ℕ)) 2 := e2
  simp only at e2'
  simp only [e2']
  congr 1
  funext a
  refine Fin.ext ?_
  match a with
  | 0 => exact (Nat.mod_one _).trans (Nat.mod_one _).symm
  | 1 => exact congrArg (fun x => (x - 0) % 256) e1
  | 2 => exact congrArg (fun x => (x - 512 * ((i' 2 : ℕ) / 512)) % 512) e2

/-! ## What each load reads -/

theorem r16 {b r : ℕ} (n : ℕ) {o : Fin 3 → ℕ} {inb} (hb : n / 2 = b) (hr : n % 2 = r) (ho : o = ![b % 2, 0, 128 * r]) (j : Shape.Idx S1x256x128) :
    G16 X b ((Rect.unit (s := S2x256x256) o S1x256x128.size inb).emb j) = (inR X n).lt j := by
  subst hb hr; exact rd_eq (d' := S1x256x128.size) ho j
theorem r13 (n : ℕ) {o : Fin 3 → ℕ} {inb} (ho : o = ![n, 0, 0]) (j : Shape.Idx S1x8x128) :
    X.ids ((Rect.unit (s := S16x8x128) o S1x8x128.size inb).emb j) = (inR X n).ids j := rd_eq (d' := S1x8x128.size) ho j
theorem r14 (n : ℕ) {o : Fin 3 → ℕ} {inb} (ho : o = ![n, 0, 0]) (j : Shape.Idx S1x8x128) :
    X.dg ((Rect.unit (s := S16x8x128) o S1x8x128.size inb).emb j) = (inR X n).dg j := rd_eq (d' := S1x8x128.size) ho j
theorem r15 (n : ℕ) {o : Fin 2 → ℕ} {inb} (ho : o = ![n, 0]) (j : Shape.Idx S1x128) :
    X.xs ((Rect.unit (s := S16x128) o S1x128.size inb).emb j) = (inR X n).xs j := rd_eq (d' := S1x128.size) ho j
theorem r18 (b : ℕ) {o : Fin 3 → ℕ} {inb} (ho : o = ![b % 2, 0, 0]) (j : Shape.Idx S1x256x128) :
    G18 X b ((Rect.unit (s := S2x256x128) o S1x256x128.size inb).emb j) = (inD X b).sc j := rd_eq (d' := S1x256x128.size) ho j
theorem r17 (b : ℕ) {o : Fin 3 → ℕ} {inb} (ho : o = ![b % 2, 0, 0]) (j : Shape.Idx S1x256x256) :
    G17 X b ((Rect.unit (s := S2x256x256) o S1x256x256.size inb).emb j) = (inD X b).dlw j := rd_eq (d' := S1x256x256.size) ho j
theorem r12 (b t : ℕ) {o : Fin 2 → ℕ} {inb} (ho : o = ![0, 512 * t]) (j : Shape.Idx S256x512) :
    G12 X ((Rect.unit (s := S256x7168) o S256x512.size inb).emb j) = (inD X b).wt t j := rd_eq (d' := S256x512.size) ho j
theorem r12w (b : ℕ) {o : Fin 2 → ℕ} {inb} (ho : o = ![0, 0]) (j : Shape.Idx S256x7168) :
    G12 X ((Rect.unit (s := S256x7168) o S256x7168.size inb).emb j) = (inT X b).wt j := rd_eq (d' := S256x7168.size) ho j
theorem r10x (b : ℕ) {o : Fin 2 → ℕ} {inb} (ho : o = ![256 * b, 0]) (j : Shape.Idx S256x7168) :
    X.x ((Rect.unit (s := S2048x7168) o S256x7168.size inb).emb j) = (inT X b).x j := rd_eq (d' := S256x7168.size) ho j
theorem r10p (t : ℕ) {o : Fin 2 → ℕ} {inb} (ho : o = ![0, 1024 * t]) (j : Shape.Idx S256x1024) :
    X.x ((Rect.unit (s := S2048x7168) o S256x1024.size inb).emb j) = (inP X).x t j := rd_eq (d' := S256x1024.size) ho j
theorem r11p (t : ℕ) {o : Fin 2 → ℕ} {inb} (ho : o = ![1024 * t, 0]) (j : Shape.Idx S1024x256) :
    X.w ((Rect.unit (s := S7168x256) o S1024x256.size inb).emb j) = (inP X).w t j := rd_eq (d' := S1024x256.size) ho j
theorem r19 (b n : ℕ) {o : Fin 3 → ℕ} {inb} (ho : o = ![n, 0, 0]) (j : Shape.Idx S1x256x128) :
    G19 X ((Rect.unit (s := S16x256x128) o S1x256x128.size inb).emb j) = (inW X b).d n j := rd_eq (d' := S1x256x128.size) ho j
theorem r10w (b t : ℕ) {o : Fin 2 → ℕ} {inb} (ho : o = ![256 * t, 512 * b]) (j : Shape.Idx S256x512) :
    X.x ((Rect.unit (s := S2048x7168) o S256x512.size inb).emb j) = (inW X b).x t j := rd_eq (d' := S256x512.size) ho j

end Cert.Kernel.Hand
-- ==== Proof.Hand.Kernel.Steps.lean ====
/- Further step rules. -/
module

public import proofs.«01_k».proof.Proof.Hand.Kernel.Content

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD} {α : Type}

/-- A load whose value is not used. -/
theorem ldd {Q : α → sProp 𝕄} {i : Fin (sig.nNear .tc .vmem)} {hκ : sig.names .tc .vmem i = true} {r : Rect (sig.tyNear .tc .vmem i).shape}
    {hl : (Memref.whole ⟨.vmem, i, hκ⟩ : Memref sig .tc .vmem _ _).view.LoadsAt r.toLoadRect}
    {p : Prog (TpuEff nD τ sig (Elt F) Λ₀ .tc) α}
    {S : Finset (Idx ((c : Thread nD τ).loc ⟨.vmem, i, hκ⟩))} (hS : r.set ⊆ S) :
    PA c ⟨.vmem, i, hκ⟩ S ⊢ iprop((PA c ⟨.vmem, i, hκ⟩ S -∗ WP c p Q)
      -∗ WP c ((Prog.lift (.load (Memref.whole ⟨.vmem, i, hκ⟩ : Memref sig .tc .vmem _ _) r.toLoadRect hl) : Prog (TpuEff nD τ sig (Elt F) Λ₀ .tc) _) >>= fun _ => p) Q) := by
  iintro ⟨%f, H⟩ Hk
  iapply (ld (c := c) (f := f) (k := fun _ => p) (Q := Q) (hl := hl) (fun j => f (r.emb j)) hS (fun _ => rfl)) $$ H
  iintro H
  iapply Hk
  iexists f; iexact H

end

/-- The elements of a window of a whole buffer. -/
theorem set_sl {sp : Space} {i : Fin (sig.nNear .tc sp)} {hκ : sig.names .tc sp i = true} {r : Rect (sig.tyNear .tc sp i).shape} {h} :
    ((Memref.whole ⟨sp, i, hκ⟩ : Memref sig .tc sp _ _).slice r h).view.set = r.set := View.set_slice_whole _ _

theorem box_univ' {s : Shape} {z : Fin s.rank → ℕ} (hz : ∀ a, z a = s.size a) : box s (fun _ => 0) z = Finset.univ := box_univ (fun _ => rfl) hz

theorem set_wh {sp : Space} {i : Fin (sig.nNear .tc sp)} {hκ : sig.names .tc sp i = true} :
    (Memref.whole ⟨sp, i, hκ⟩ : Memref sig .tc sp _ _).view.set = Finset.univ := View.set_whole _

end Cert.Kernel.Hand
-- ==== Proof.Hand.Kernel.Steps2.lean ====
/- The cells, the amounts, and the copies of this kernel. -/
module

public import proofs.«01_k».proof.Proof.Hand.Kernel.Steps
public import proofs.«01_k».proof.Proof.Gen.Kernel.Skeleton
public import Idealize.ShloMosaic.Lib.ValueLayout

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- DMA cell number `n`. -/
def cell (n : ℕ) : DmaSem sig := ⟨n % 31, Nat.mod_lt _ (by decide)⟩

/-! The units each kind of copy moves. -/

def N10p : ℕ := Ref.dmaCredit (sig := sig) (κ := .tc) cc0_scratch0 S256x1024 .fp8e4m3
theorem N10p_pos : 0 < N10p := RefSig.dmaCredit_pos _ _ _ _ _ _ (by decide)
def N10 : ℕ := Ref.dmaCredit (sig := sig) (κ := .tc) cc0_scratch0 S256x7168 .fp8e4m3
theorem N10_pos : 0 < N10 := RefSig.dmaCredit_pos _ _ _ _ _ _ (by decide)
def N11 : ℕ := Ref.dmaCredit (sig := sig) (κ := .tc) cc0_scratch1 S1024x256 .bf16
theorem N11_pos : 0 < N11 := RefSig.dmaCredit_pos _ _ _ _ _ _ (by decide)
def N13 : ℕ := Ref.dmaCredit (sig := sig) (κ := .tc) cc0_scratch3 S16x8x128 .i32
theorem N13_pos : 0 < N13 := RefSig.dmaCredit_pos _ _ _ _ _ _ (by decide)
def N14 : ℕ := Ref.dmaCredit (sig := sig) (κ := .tc) cc0_scratch4 S16x8x128 .bf16
theorem N14_pos : 0 < N14 := RefSig.dmaCredit_pos _ _ _ _ _ _ (by decide)
def N15 : ℕ := Ref.dmaCredit (sig := sig) (κ := .tc) cc0_scratch5 S16x128 .f32
theorem N15_pos : 0 < N15 := RefSig.dmaCredit_pos _ _ _ _ _ _ (by decide)
def N5 : ℕ := Ref.dmaCredit (sig := sig) (κ := .tc) main_v3_0 S256x7168 .bf16
theorem N5_pos : 0 < N5 := RefSig.dmaCredit_pos _ _ _ _ _ _ (by decide)
def N6 : ℕ := Ref.dmaCredit (sig := sig) (κ := .tc) main_v3_1 S512x256 .f32
theorem N6_pos : 0 < N6 := RefSig.dmaCredit_pos _ _ _ _ _ _ (by decide)
def N7 : ℕ := Ref.dmaCredit (sig := sig) (κ := .tc) main_v3_2 S256x256 .f32
theorem N7_pos : 0 < N7 := RefSig.dmaCredit_pos _ _ _ _ _ _ (by decide)
def N8 : ℕ := Ref.dmaCredit (sig := sig) (κ := .tc) main_v3_3 S256x256 .fp8e5m2
theorem N8_pos : 0 < N8 := RefSig.dmaCredit_pos _ _ _ _ _ _ (by decide)
def N9 : ℕ := Ref.dmaCredit (sig := sig) (κ := .tc) main_v3_4 S16x128 .f32
theorem N9_pos : 0 < N9 := RefSig.dmaCredit_pos _ _ _ _ _ _ (by decide)

theorem sem1 : ∀ k : Fin k0_t1_loop.trips,
    ((cc0_scratch17.slice (Rect.unit (s := S8) (k0_off1 k) S1.size (k0_off1_inb k))).squeeze S_ squeezes_S1_S_).sem = cell (14 + ((k : ℕ) + 2)) := by
  intro k; fin_cases k <;> rfl
theorem sem3 : ∀ (k : Fin k0_t1_loop.trips) (h : k0_cond1 k = 1#1),
    ((cc0_scratch19.slice (Rect.unit (s := S2) (k0_off3 k) S1.size (k0_off3_inb k h))).squeeze S_ squeezes_S1_S_).sem = cell (25 + (k : ℕ) % 2) := by
  decide +kernel
theorem sem34 : ∀ k : Fin k0_t1_loop.trips,
    ((cc0_scratch19.slice (Rect.unit (s := S2) (k0_off34 k) S1.size (k0_off34_inb k))).squeeze S_ squeezes_S1_S_).sem = cell (25 + (k : ℕ) % 2) := by
  intro k; fin_cases k <;> rfl

/-- Half a slot of the logits' ring lies in the slot. -/
theorem slot_sub {s r : ℕ} {o : Fin 3 → ℕ} {inb} (ho : o = ![s, 0, 128 * r]) (hr : r ≤ 1) :
    (Rect.unit (s := S2x256x256) o S1x256x128.size inb).set ⊆ box S2x256x256 ![s, 0, 0] S1x256x256.size := by
  subst ho
  refine box_sub fun a => ?_
  fin_cases a
  · exact ⟨le_rfl, le_rfl⟩
  · exact ⟨le_rfl, le_rfl⟩
  · refine ⟨Nat.zero_le _, ?_⟩
    show 128 * r + 128 ≤ 0 + 256
    omega

variable (X : GIn F)
theorem LT_0 : LT X 0 = o_30_1 (inP X) := rfl
theorem LT_1 : LT X 1 = o_30_2 (inT X 1) := rfl
theorem LT_s (b : ℕ) : LT X (b + 2) = o_1_0 (inT X (b + 2)) := rfl

/-- A row block of `dx` reads what the ring's slot reads. -/
theorem cp5 (b s : ℕ) {o : Fin 2 → ℕ} {o' : Fin 3 → ℕ} {inb inb'} {h h'} (hs : s ≤ 1) (ho : o = ![256 * b, 0]) (ho' : o' = ![s, 0, 0]) :
    ((Memref.whole main_v3_0).slice (Rect.unit (s := S2048x7168) o S256x7168.size inb) h).view.read (Elt F) (G5 X)
      = ((((Memref.whole cc0_scratch10).slice (Rect.unit (s := S2x256x7168) o' S1x256x7168.size inb') h').squeeze S256x7168 squeezes_S1x256x7168_S256x7168)).view.read (Elt F) (G20 X b) := by
  subst ho ho'
  funext j
  have e : Shape.reshapeEquiv (Shape.Squeezes.numel_eq squeezes_S1x256x7168_S256x7168) j = ValueIdx.ix3 (⟨0, Nat.one_pos⟩ : Fin 1) (j 0) (j 1) := by
    conv_lhs => rw [ValueIdx.eq_ix2 j]
    exact ValueIdx.reshapeEquiv_ix2_1ab _ _ _
  have h0 : ((j 0 : Fin _) : ℕ) < 256 := (j 0).isLt
  have h1 : ((j 1 : Fin _) : ℕ) < 7168 := (j 1).isLt
  show G20 X (((Rect.unit (s := S2048x7168) ![256 * b, 0] S256x7168.size inb).emb j 0 : ℕ) / 256) (g5ix ((Rect.unit (s := S2048x7168) ![256 * b, 0] S256x7168.size inb).emb j))
    = G20 X b ((Rect.unit (s := S2x256x7168) ![s, 0, 0] S1x256x7168.size inb').emb (Shape.reshapeEquiv (Shape.Squeezes.numel_eq squeezes_S1x256x7168_S256x7168) j))
  rw [e]
  have e0 : (((Rect.unit (s := S2048x7168) ![256 * b, 0] S256x7168.size inb).emb j 0 : Fin _) : ℕ) = 256 * b + (j 0 : ℕ) := emb_val j 0
  have e1 : (((Rect.unit (s := S2048x7168) ![256 * b, 0] S256x7168.size inb).emb j 1 : Fin _) : ℕ) = 0 + (j 1 : ℕ) := emb_val j 1
  have eb : (((Rect.unit (s := S2048x7168) ![256 * b, 0] S256x7168.size inb).emb j 0 : Fin _) : ℕ) / 256 = b := by rw [e0]; omega
  rw [eb]
  refine G20_ext X b _ _ ?_ ?_
  · refine Eq.trans ?_ (emb_val (d := S2x256x7168.size) (d' := S1x256x7168.size) (o := ![s, 0, 0]) (inb := inb') (ValueIdx.ix3 (⟨0, Nat.one_pos⟩ : Fin 1) (j 0) (j 1)) 1).symm
    show (((Rect.unit (s := S2048x7168) ![256 * b, 0] S256x7168.size inb).emb j 0 : Fin _) : ℕ) % 256 = 0 + (j 0 : ℕ)
    rw [e0]; omega
  · refine Eq.trans ?_ (emb_val (d := S2x256x7168.size) (d' := S1x256x7168.size) (o := ![s, 0, 0]) (inb := inb') (ValueIdx.ix3 (⟨0, Nat.one_pos⟩ : Fin 1) (j 0) (j 1)) 2).symm
    show (((Rect.unit (s := S2048x7168) ![256 * b, 0] S256x7168.size inb).emb j 1 : Fin _) : ℕ) % 7168 = 0 + (j 1 : ℕ)
    rw [e1]; omega

/-- What copy `t` of the logit cotangents delivers. -/
def D7 (c : Dev nD) (t : Fin 8) : sProp 𝕄 :=
  iprop(PT c main_v3_2 (box S2048x256 ![256 * (t : ℕ), 0] S256x256.size) (G22 X) ∗ PT c cc0_scratch12 (box S2048x256 ![256 * (t : ℕ), 0] S256x256.size) (G22 X))
/-- What copy `t` of the quantised cotangents delivers. -/
def D8 (c : Dev nD) (t : Fin 8) : sProp 𝕄 :=
  iprop(PT c main_v3_3 (box S2048x256 ![256 * (t : ℕ), 0] S256x256.size) (G23 X) ∗ PT c cc0_scratch13 (box S2048x256 ![256 * (t : ℕ), 0] S256x256.size) (G23 X))
/-- What copy `t` of `dw` delivers. -/
def D6 (c : Dev nD) (t : Fin 14) : sProp 𝕄 :=
  iprop(PT c main_v3_1 (box S7168x256 ![512 * (t : ℕ), 0] S512x256.size) (G21 X) ∗ PT c cc0_scratch11 (box S7168x256 ![512 * (t : ℕ), 0] S512x256.size) (G21 X))

/-- A batch of copies on one cell, `j` issued and `i` waited for. -/
abbrev BT (c : Dev nD) (n : DmaSem sig) (N : ℕ) {nb : ℕ} (D : Fin nb → sProp 𝕄) (j i : ℕ) : sProp 𝕄 :=
  Transfers.Batch EC (c : Thread nD τ) (SemLoc.dma n) () N D j (N * i)

section
variable {c : Dev nD} {α : Type}

theorem dmaB' {Q : α → sProp 𝕄} {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) sp (.dma sm) (.here (p := Proc.tc) dst)}
    {k : PUnit → Prog (TpuEff nD τ sig (Elt F) Λ₀ .tc) α} {nb : ℕ} {D : Fin nb → sProp 𝕄}
    (n : DmaSem sig) (N : ℕ) (j : ℕ) (hj : j < nb) (Ss : Finset src.view.ty.Idx) (Sd : Finset dst.view.ty.Idx) (G : dst.view.ty.Contents (Elt F)) {fs : src.view.ty.Contents (Elt F)}
    (hn : sm = n) (hN : dst.view.dmaCredit = N) (hs : src.view.set = Ss) (hd : dst.view.set = Sd)
    (hG : dst.view.read (Elt F) G = src.view.read (Elt F) fs)
    (hD : D ⟨j, hj⟩ = iprop((dst.view.loc (c : Thread nD τ) ↦[Sd]{fullShare} G) ∗ (src.view.loc (c : Thread nD τ) ↦[Ss]{fullShare} fs))) :
    iprop((src.view.loc (c : Thread nD τ) ↦[Ss]{fullShare} fs) ∗ (∃ fd : dst.view.ty.Contents (Elt F), dst.view.loc (c : Thread nD τ) ↦[Sd]{fullShare} fd)
        ∗ BT c n N D j 0)
      ⊢ iprop((BT c n N D (j + 1) 0 -∗ WP c (k ⟨⟩) Q)
        -∗ WP c ((Prog.lift (.enqueueDma src (.here dst) (.dma sm) hsrc hdst hsem) : Prog (TpuEff nD τ sig (Elt F) Λ₀ .tc) _) >>= k) Q) :=
  dmaB (c := c) n N j hj Ss Sd G hn hN hs hd hG hD

theorem wtB' {Q : α → sProp 𝕄} {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α} {nb : ℕ} {D : Fin nb → sProp 𝕄}
    (n : DmaSem sig) {N : ℕ} (i : ℕ) (hn : sm = n) (hN : dst.view.dmaCredit = N) (hN0 : 0 < N) (hi : i + 1 < nb) :
    iprop(BT c n N D nb i ∗ Ow c)
      ⊢ iprop((iprop(BT c n N D nb (i + 1) ∗ Ow c) -∗ WP c (k ⟨⟩) Q)
        -∗ WP c ((Prog.lift (.waitDma2 sm src dst hsrc hdst) : Prog (TpuEff nD τ sig (Elt F) Λ₀ .tc) _) >>= k) Q) :=
  wtB (c := c) n hn hN (u := N * i) (by rw [← Nat.mul_succ]; exact Nat.mul_lt_mul_of_pos_left hi hN0)

theorem wtBL' {Q : α → sProp 𝕄} {sp sp' : Space} {s s' : Shape} {e e' : EltTy} {src : Memref sig .tc sp' s' e'} {dst : Memref sig .tc sp s e} {sm : DmaSem sig}
    {hsrc : src.view.WordExact} {hdst : dst.view.WordExact} {k : PUnit → Prog (TpuEff nD τ sig (Elt F) Λ₀ .tc) α} {nb : ℕ} {D : Fin nb → sProp 𝕄}
    (n : DmaSem sig) {N : ℕ} (i : ℕ) (hn : sm = n) (hN : dst.view.dmaCredit = N) (hN0 : 0 < N) (hi : i + 1 = nb) :
    iprop(BT c n N D nb i ∗ Ow c)
      ⊢ iprop((iprop(bigSep Finset.univ D ∗ SV c n ∗ Ow c) -∗ WP c (k ⟨⟩) Q)
        -∗ WP c ((Prog.lift (.waitDma2 sm src dst hsrc hdst) : Prog (TpuEff nD τ sig (Elt F) Λ₀ .tc) _) >>= k) Q) :=
  wtBL (c := c) n hn hN hN0 (u := N * i) (by rw [← Nat.mul_succ, Nat.succ_eq_add_one, hi])

/-- What a slot of the ring of `dx` is before token block `k`: free before block 2, else in flight with block `k - 2`. -/
def dxSt (c : Dev nD) (k : ℕ) : sProp 𝕄 :=
  if 2 ≤ k then FL c (cell (25 + k % 2)) N5 iprop(PT c main_v3_0 (box S2048x7168 ![256 * (k - 2), 0] S256x7168.size) (G5 X)
      ∗ PT c cc0_scratch10 (box S2x256x7168 ![k % 2, 0, 0] S1x256x7168.size) (G20 X (k - 2)))
  else iprop(SV c (cell (25 + k % 2)) ∗ PA c cc0_scratch10 (box S2x256x7168 ![k % 2, 0, 0] S1x256x7168.size))

/-- What waiting for a slot of the ring of `dx` hands over. -/
def dxGot (c : Dev nD) (k : ℕ) : sProp 𝕄 :=
  if 2 ≤ k then PT c main_v3_0 (box S2048x7168 ![256 * (k - 2), 0] S256x7168.size) (G5 X) else iprop(emp)

end

end Cert.Kernel.Hand
-- ==== Proof.Hand.Kernel.Pieces.lean ====
/- How the buffers are cut into the pieces the steps work on. -/
module

public import proofs.«01_k».proof.Proof.Hand.Kernel.Steps2

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A part of the body at the buffers and semaphores of the call. -/
abbrev At {β : Sort*} (f : (arg0 : Memref sig .tc .hbm S2048x7168 .fp8e4m3) → arg0.IsWhole → (arg1 : Memref sig .tc .hbm S16x128 .f32) → arg1.IsWhole → (arg2 : Memref sig .tc .hbm S7168x256 .bf16) → arg2.IsWhole → (arg3 : Memref sig .tc .hbm S16x8x128 .i32) → arg3.IsWhole → (arg4 : Memref sig .tc .hbm S16x8x128 .bf16) → arg4.IsWhole → (arg5 : Memref sig .tc .hbm S2048x7168 .bf16) → arg5.IsWhole → (arg6 : Memref sig .tc .hbm S7168x256 .f32) → arg6.IsWhole → (arg7 : Memref sig .tc .hbm S2048x256 .f32) → arg7.IsWhole → (arg8 : Memref sig .tc .hbm S2048x256 .fp8e5m2) → arg8.IsWhole → (arg9 : Memref sig .tc .hbm S16x128 .f32) → arg9.IsWhole → (arg10 : Memref sig .tc .vmem S2048x7168 .fp8e4m3) → arg10.IsWhole → (arg11 : Memref sig .tc .vmem S7168x256 .bf16) → arg11.IsWhole → (arg12 : Memref sig .tc .vmem S256x7168 .bf16) → arg12.IsWhole → (arg13 : Memref sig .tc .vmem S16x8x128 .i32) → arg13.IsWhole → (arg14 : Memref sig .tc .vmem S16x8x128 .bf16) → arg14.IsWhole → (arg15 : Memref sig .tc .vmem S16x128 .f32) → arg15.IsWhole → (arg16 : Memref sig .tc .vmem S2x256x256 .f32) → arg16.IsWhole → (arg17 : Memref sig .tc .vmem S2x256x256 .bf16) → arg17.IsWhole → (arg18 : Memref sig .tc .vmem S2x256x128 .f32) → arg18.IsWhole → (arg19 : Memref sig .tc .vmem S16x256x128 .bf16) → arg19.IsWhole → (arg20 : Memref sig .tc .vmem S2x256x7168 .bf16) → arg20.IsWhole → (arg21 : Memref sig .tc .vmem S7168x256 .f32) → arg21.IsWhole → (arg22 : Memref sig .tc .vmem S2048x256 .f32) → arg22.IsWhole → (arg23 : Memref sig .tc .vmem S2048x256 .fp8e5m2) → arg23.IsWhole → (arg24 : Memref sig .tc .vmem S16x128 .f32) → arg24.IsWhole → DmaSems sig S7 → DmaSems sig S7 → DmaSems sig S8 → DmaSems sig S3 → DmaSems sig S2 → DmaSems sig S_ → DmaSems sig S3 → β) : β :=
  f (Memref.whole main_v0) (Memref.isWhole_whole _) (Memref.whole main_arg1) (Memref.isWhole_whole _) (Memref.whole main_arg2) (Memref.isWhole_whole _) (Memref.whole main_v1) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21

section
variable {c : Dev nD} {α : Type}

/-- A load of elements whose contents nothing names. -/
theorem lddv {Q : α → sProp 𝕄} {i : Fin (sig.nNear .tc .vmem)} {hκ : sig.names .tc .vmem i = true} {r : Rect (sig.tyNear .tc .vmem i).shape}
    {hl : (Memref.whole ⟨.vmem, i, hκ⟩ : Memref sig .tc .vmem _ _).view.LoadsAt r.toLoadRect}
    {k : (r.shape.Idx → Elt F (sig.tyNear .tc .vmem i).elt) → Prog (TpuEff nD τ sig (Elt F) Λ₀ .tc) α}
    {S : Finset (Idx ((c : Thread nD τ).loc ⟨.vmem, i, hκ⟩))} (hS : r.set ⊆ S) :
    PA c ⟨.vmem, i, hκ⟩ S ⊢ iprop((∀ v, PA c ⟨.vmem, i, hκ⟩ S -∗ WP c (k v) Q)
      -∗ WP c ((Prog.lift (.load (Memref.whole ⟨.vmem, i, hκ⟩ : Memref sig .tc .vmem _ _) r.toLoadRect hl) : Prog (TpuEff nD τ sig (Elt F) Λ₀ .tc) _) >>= k) Q) := by
  iintro ⟨%f, H⟩ Hk
  iapply (ld (c := c) (f := f) (k := k) (Q := Q) (hl := hl) (fun j => f (r.emb j)) hS (fun _ => rfl)) $$ H
  iintro H
  iapply Hk $$ %_
  iexists f; iexact H

/-! ## Cutting boxes along an axis -/

theorem bx20 {d : Fin 2 → ℕ} (p q m n t w p' : ℕ) (hp : p' = p + m) (ht : t = m + n) :
    box ⟨2, d⟩ ![p, q] ![t, w] = box ⟨2, d⟩ ![p, q] ![m, w] ∪ box ⟨2, d⟩ ![p', q] ![n, w] ∧ Disjoint (box ⟨2, d⟩ ![p, q] ![m, w]) (box ⟨2, d⟩ ![p', q] ![n, w]) := by
  subst hp ht
  exact box_cut (s := ⟨2, d⟩) (0 : Fin 2) rfl (by funext a; fin_cases a <;> rfl) (by funext a; fin_cases a <;> rfl) (by funext a; fin_cases a <;> rfl) rfl

theorem bx21 {d : Fin 2 → ℕ} (p q m n t w p' : ℕ) (hp : p' = p + m) (ht : t = m + n) :
    box ⟨2, d⟩ ![q, p] ![w, t] = box ⟨2, d⟩ ![q, p] ![w, m] ∪ box ⟨2, d⟩ ![q, p'] ![w, n] ∧ Disjoint (box ⟨2, d⟩ ![q, p] ![w, m]) (box ⟨2, d⟩ ![q, p'] ![w, n]) := by
  subst hp ht
  exact box_cut (s := ⟨2, d⟩) (1 : Fin 2) rfl (by funext a; fin_cases a <;> rfl) (by funext a; fin_cases a <;> rfl) (by funext a; fin_cases a <;> rfl) rfl

theorem bx30 {d : Fin 3 → ℕ} (p q r m n t w u p' : ℕ) (hp : p' = p + m) (ht : t = m + n) :
    box ⟨3, d⟩ ![p, q, r] ![t, w, u] = box ⟨3, d⟩ ![p, q, r] ![m, w, u] ∪ box ⟨3, d⟩ ![p', q, r] ![n, w, u] ∧ Disjoint (box ⟨3, d⟩ ![p, q, r] ![m, w, u]) (box ⟨3, d⟩ ![p', q, r] ![n, w, u]) := by
  subst hp ht
  exact box_cut (s := ⟨3, d⟩) (0 : Fin 3) rfl (by funext a; fin_cases a <;> rfl) (by funext a; fin_cases a <;> rfl) (by funext a; fin_cases a <;> rfl) rfl

theorem bx31 {d : Fin 3 → ℕ} (p q r m n t w u p' : ℕ) (hp : p' = p + m) (ht : t = m + n) :
    box ⟨3, d⟩ ![q, p, r] ![w, t, u] = box ⟨3, d⟩ ![q, p, r] ![w, m, u] ∪ box ⟨3, d⟩ ![q, p', r] ![w, n, u] ∧ Disjoint (box ⟨3, d⟩ ![q, p, r] ![w, m, u]) (box ⟨3, d⟩ ![q, p', r] ![w, n, u]) := by
  subst hp ht
  exact box_cut (s := ⟨3, d⟩) (1 : Fin 3) rfl (by funext a; fin_cases a <;> rfl) (by funext a; fin_cases a <;> rfl) (by funext a; fin_cases a <;> rfl) rfl

theorem bx32 {d : Fin 3 → ℕ} (p q r m n t w u p' : ℕ) (hp : p' = p + m) (ht : t = m + n) :
    box ⟨3, d⟩ ![q, r, p] ![w, u, t] = box ⟨3, d⟩ ![q, r, p] ![w, u, m] ∪ box ⟨3, d⟩ ![q, r, p'] ![w, u, n] ∧ Disjoint (box ⟨3, d⟩ ![q, r, p] ![w, u, m]) (box ⟨3, d⟩ ![q, r, p'] ![w, u, n]) := by
  subst hp ht
  exact box_cut (s := ⟨3, d⟩) (2 : Fin 3) rfl (by funext a; fin_cases a <;> rfl) (by funext a; fin_cases a <;> rfl) (by funext a; fin_cases a <;> rfl) rfl

/-- Cutting a piece whose contents nothing names. -/
theorem cutA {b : Ref sig .tc} {S A B : Finset (Idx ((c : Thread nD τ).loc b))} (h : S = A ∪ B ∧ Disjoint A B) :
    PA (F := F) c b S ⊢ iprop(PA (F := F) c b A ∗ PA (F := F) c b B) := by
  iintro ⟨%f, H⟩
  ihave H := (Entails.of_eq (cut2 (c := c) (f := f) h.1 h.2)) $$ H
  icases H with ⟨H1, H2⟩
  isplitl [H1]
  · iexists f; iexact H1
  iexists f; iexact H2

/-- Joining two pieces whose contents nothing names. -/
theorem joinA {b : Ref sig .tc} {S A B : Finset (Idx ((c : Thread nD τ).loc b))} (h : S = A ∪ B ∧ Disjoint A B) :
    iprop(PA (F := F) c b A ∗ PA (F := F) c b B) ⊢ PA (F := F) c b S := by
  obtain ⟨rfl, hd⟩ := h
  iintro ⟨⟨%f, H1⟩, ⟨%g, H2⟩⟩
  iexists (B.piecewise g f)
  iapply (pointsTo_join (ℓ := (c : Thread nD τ).loc b) (q := fullShare) (f := f) (g := g) (Ix := Unit) (Name := ℕ) (U := Pipeline.UD sig nD τ) (Lvl := ℕ) hd)
  iframe H1 H2

/-- The weights in chunks of 1024 rows. -/
theorem ch2_arg2 (f : Buf (Elt F) ((c : Thread nD τ).loc main_arg2)) :
    PT c main_arg2 Finset.univ f = iprop(PT c main_arg2 (box S7168x256 ![0, 0] S1024x256.size) f ∗ PT c main_arg2 (box S7168x256 ![1024, 0] S1024x256.size) f ∗ PT c main_arg2 (box S7168x256 ![2048, 0] S1024x256.size) f ∗ PT c main_arg2 (box S7168x256 ![3072, 0] S1024x256.size) f ∗ PT c main_arg2 (box S7168x256 ![4096, 0] S1024x256.size) f ∗ PT c main_arg2 (box S7168x256 ![5120, 0] S1024x256.size) f ∗ PT c main_arg2 (box S7168x256 ![6144, 0] S1024x256.size) f) := by
  rw [show (Finset.univ : Finset (Idx ((c : Thread nD τ).loc main_arg2))) = (box S7168x256 ![0, 0] ![7168, 256]) from (box_univ (s := S7168x256) (by decide) (by decide)).symm]
  have h0 : PT c main_arg2 (box S7168x256 ![0, 0] ![7168, 256]) f = iprop(PT c main_arg2 (box S7168x256 ![0, 0] S1024x256.size) f ∗ PT c main_arg2 (box S7168x256 ![1024, 0] ![6144, 256]) f) :=
    cut2 (bx20 0 (0) 1024 6144 7168 (256) 1024 rfl rfl).1 (bx20 0 (0) 1024 6144 7168 (256) 1024 rfl rfl).2
  have h1 : PT c main_arg2 (box S7168x256 ![1024, 0] ![6144, 256]) f = iprop(PT c main_arg2 (box S7168x256 ![1024, 0] S1024x256.size) f ∗ PT c main_arg2 (box S7168x256 ![2048, 0] ![5120, 256]) f) :=
    cut2 (bx20 1024 (0) 1024 5120 6144 (256) 2048 rfl rfl).1 (bx20 1024 (0) 1024 5120 6144 (256) 2048 rfl rfl).2
  have h2 : PT c main_arg2 (box S7168x256 ![2048, 0] ![5120, 256]) f = iprop(PT c main_arg2 (box S7168x256 ![2048, 0] S1024x256.size) f ∗ PT c main_arg2 (box S7168x256 ![3072, 0] ![4096, 256]) f) :=
    cut2 (bx20 2048 (0) 1024 4096 5120 (256) 3072 rfl rfl).1 (bx20 2048 (0) 1024 4096 5120 (256) 3072 rfl rfl).2
  have h3 : PT c main_arg2 (box S7168x256 ![3072, 0] ![4096, 256]) f = iprop(PT c main_arg2 (box S7168x256 ![3072, 0] S1024x256.size) f ∗ PT c main_arg2 (box S7168x256 ![4096, 0] ![3072, 256]) f) :=
    cut2 (bx20 3072 (0) 1024 3072 4096 (256) 4096 rfl rfl).1 (bx20 3072 (0) 1024 3072 4096 (256) 4096 rfl rfl).2
  have h4 : PT c main_arg2 (box S7168x256 ![4096, 0] ![3072, 256]) f = iprop(PT c main_arg2 (box S7168x256 ![4096, 0] S1024x256.size) f ∗ PT c main_arg2 (box S7168x256 ![5120, 0] ![2048, 256]) f) :=
    cut2 (bx20 4096 (0) 1024 2048 3072 (256) 5120 rfl rfl).1 (bx20 4096 (0) 1024 2048 3072 (256) 5120 rfl rfl).2
  have h5 : PT c main_arg2 (box S7168x256 ![5120, 0] ![2048, 256]) f = iprop(PT c main_arg2 (box S7168x256 ![5120, 0] S1024x256.size) f ∗ PT c main_arg2 (box S7168x256 ![6144, 0] S1024x256.size) f) :=
    cut2 (bx20 5120 (0) 1024 1024 2048 (256) 6144 rfl rfl).1 (bx20 5120 (0) 1024 1024 2048 (256) 6144 rfl rfl).2
  rw [h0, h1, h2, h3, h4, h5]

/-- The weights in chunks of 1024 rows. -/
theorem ch2_arg2A : PA (F := F) c main_arg2 Finset.univ ⊢ iprop(PA (F := F) c main_arg2 (box S7168x256 ![0, 0] S1024x256.size) ∗ PA (F := F) c main_arg2 (box S7168x256 ![1024, 0] S1024x256.size) ∗ PA (F := F) c main_arg2 (box S7168x256 ![2048, 0] S1024x256.size) ∗ PA (F := F) c main_arg2 (box S7168x256 ![3072, 0] S1024x256.size) ∗ PA (F := F) c main_arg2 (box S7168x256 ![4096, 0] S1024x256.size) ∗ PA (F := F) c main_arg2 (box S7168x256 ![5120, 0] S1024x256.size) ∗ PA (F := F) c main_arg2 (box S7168x256 ![6144, 0] S1024x256.size)) := by
  iintro ⟨%f, H⟩
  ihave H := (Entails.of_eq (ch2_arg2 (c := c) f)) $$ H
  icases H with ⟨H0, H1, H2, H3, H4, H5, H6⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  iexists f; iexact H6

/-- The weights in chunks of 1024 rows. -/
theorem ch2_s1 (f : Buf (Elt F) ((c : Thread nD τ).loc cc0_scratch1)) :
    PT c cc0_scratch1 Finset.univ f = iprop(PT c cc0_scratch1 (box S7168x256 ![0, 0] S1024x256.size) f ∗ PT c cc0_scratch1 (box S7168x256 ![1024, 0] S1024x256.size) f ∗ PT c cc0_scratch1 (box S7168x256 ![2048, 0] S1024x256.size) f ∗ PT c cc0_scratch1 (box S7168x256 ![3072, 0] S1024x256.size) f ∗ PT c cc0_scratch1 (box S7168x256 ![4096, 0] S1024x256.size) f ∗ PT c cc0_scratch1 (box S7168x256 ![5120, 0] S1024x256.size) f ∗ PT c cc0_scratch1 (box S7168x256 ![6144, 0] S1024x256.size) f) := by
  rw [show (Finset.univ : Finset (Idx ((c : Thread nD τ).loc cc0_scratch1))) = (box S7168x256 ![0, 0] ![7168, 256]) from (box_univ (s := S7168x256) (by decide) (by decide)).symm]
  have h0 : PT c cc0_scratch1 (box S7168x256 ![0, 0] ![7168, 256]) f = iprop(PT c cc0_scratch1 (box S7168x256 ![0, 0] S1024x256.size) f ∗ PT c cc0_scratch1 (box S7168x256 ![1024, 0] ![6144, 256]) f) :=
    cut2 (bx20 0 (0) 1024 6144 7168 (256) 1024 rfl rfl).1 (bx20 0 (0) 1024 6144 7168 (256) 1024 rfl rfl).2
  have h1 : PT c cc0_scratch1 (box S7168x256 ![1024, 0] ![6144, 256]) f = iprop(PT c cc0_scratch1 (box S7168x256 ![1024, 0] S1024x256.size) f ∗ PT c cc0_scratch1 (box S7168x256 ![2048, 0] ![5120, 256]) f) :=
    cut2 (bx20 1024 (0) 1024 5120 6144 (256) 2048 rfl rfl).1 (bx20 1024 (0) 1024 5120 6144 (256) 2048 rfl rfl).2
  have h2 : PT c cc0_scratch1 (box S7168x256 ![2048, 0] ![5120, 256]) f = iprop(PT c cc0_scratch1 (box S7168x256 ![2048, 0] S1024x256.size) f ∗ PT c cc0_scratch1 (box S7168x256 ![3072, 0] ![4096, 256]) f) :=
    cut2 (bx20 2048 (0) 1024 4096 5120 (256) 3072 rfl rfl).1 (bx20 2048 (0) 1024 4096 5120 (256) 3072 rfl rfl).2
  have h3 : PT c cc0_scratch1 (box S7168x256 ![3072, 0] ![4096, 256]) f = iprop(PT c cc0_scratch1 (box S7168x256 ![3072, 0] S1024x256.size) f ∗ PT c cc0_scratch1 (box S7168x256 ![4096, 0] ![3072, 256]) f) :=
    cut2 (bx20 3072 (0) 1024 3072 4096 (256) 4096 rfl rfl).1 (bx20 3072 (0) 1024 3072 4096 (256) 4096 rfl rfl).2
  have h4 : PT c cc0_scratch1 (box S7168x256 ![4096, 0] ![3072, 256]) f = iprop(PT c cc0_scratch1 (box S7168x256 ![4096, 0] S1024x256.size) f ∗ PT c cc0_scratch1 (box S7168x256 ![5120, 0] ![2048, 256]) f) :=
    cut2 (bx20 4096 (0) 1024 2048 3072 (256) 5120 rfl rfl).1 (bx20 4096 (0) 1024 2048 3072 (256) 5120 rfl rfl).2
  have h5 : PT c cc0_scratch1 (box S7168x256 ![5120, 0] ![2048, 256]) f = iprop(PT c cc0_scratch1 (box S7168x256 ![5120, 0] S1024x256.size) f ∗ PT c cc0_scratch1 (box S7168x256 ![6144, 0] S1024x256.size) f) :=
    cut2 (bx20 5120 (0) 1024 1024 2048 (256) 6144 rfl rfl).1 (bx20 5120 (0) 1024 1024 2048 (256) 6144 rfl rfl).2
  rw [h0, h1, h2, h3, h4, h5]

/-- The weights in chunks of 1024 rows. -/
theorem ch2_s1A : PA (F := F) c cc0_scratch1 Finset.univ ⊢ iprop(PA (F := F) c cc0_scratch1 (box S7168x256 ![0, 0] S1024x256.size) ∗ PA (F := F) c cc0_scratch1 (box S7168x256 ![1024, 0] S1024x256.size) ∗ PA (F := F) c cc0_scratch1 (box S7168x256 ![2048, 0] S1024x256.size) ∗ PA (F := F) c cc0_scratch1 (box S7168x256 ![3072, 0] S1024x256.size) ∗ PA (F := F) c cc0_scratch1 (box S7168x256 ![4096, 0] S1024x256.size) ∗ PA (F := F) c cc0_scratch1 (box S7168x256 ![5120, 0] S1024x256.size) ∗ PA (F := F) c cc0_scratch1 (box S7168x256 ![6144, 0] S1024x256.size)) := by
  iintro ⟨%f, H⟩
  ihave H := (Entails.of_eq (ch2_s1 (c := c) f)) $$ H
  icases H with ⟨H0, H1, H2, H3, H4, H5, H6⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  iexists f; iexact H6

/-- The tokens in blocks of 256. -/
theorem ch0_v0 (f : Buf (Elt F) ((c : Thread nD τ).loc main_v0)) :
    PT c main_v0 Finset.univ f = iprop(PT c main_v0 (box S2048x7168 ![256 * 0, 0] S256x7168.size) f ∗ PT c main_v0 (box S2048x7168 ![256 * 1, 0] S256x7168.size) f ∗ PT c main_v0 (box S2048x7168 ![256 * 2, 0] S256x7168.size) f ∗ PT c main_v0 (box S2048x7168 ![256 * 3, 0] S256x7168.size) f ∗ PT c main_v0 (box S2048x7168 ![256 * 4, 0] S256x7168.size) f ∗ PT c main_v0 (box S2048x7168 ![256 * 5, 0] S256x7168.size) f ∗ PT c main_v0 (box S2048x7168 ![256 * 6, 0] S256x7168.size) f ∗ PT c main_v0 (box S2048x7168 ![256 * 7, 0] S256x7168.size) f) := by
  rw [show (Finset.univ : Finset (Idx ((c : Thread nD τ).loc main_v0))) = (box S2048x7168 ![0, 0] ![2048, 7168]) from (box_univ (s := S2048x7168) (by decide) (by decide)).symm]
  have h0 : PT c main_v0 (box S2048x7168 ![0, 0] ![2048, 7168]) f = iprop(PT c main_v0 (box S2048x7168 ![256 * 0, 0] S256x7168.size) f ∗ PT c main_v0 (box S2048x7168 ![256, 0] ![1792, 7168]) f) :=
    cut2 (bx20 0 (0) 256 1792 2048 (7168) 256 rfl rfl).1 (bx20 0 (0) 256 1792 2048 (7168) 256 rfl rfl).2
  have h1 : PT c main_v0 (box S2048x7168 ![256, 0] ![1792, 7168]) f = iprop(PT c main_v0 (box S2048x7168 ![256 * 1, 0] S256x7168.size) f ∗ PT c main_v0 (box S2048x7168 ![512, 0] ![1536, 7168]) f) :=
    cut2 (bx20 256 (0) 256 1536 1792 (7168) 512 rfl rfl).1 (bx20 256 (0) 256 1536 1792 (7168) 512 rfl rfl).2
  have h2 : PT c main_v0 (box S2048x7168 ![512, 0] ![1536, 7168]) f = iprop(PT c main_v0 (box S2048x7168 ![256 * 2, 0] S256x7168.size) f ∗ PT c main_v0 (box S2048x7168 ![768, 0] ![1280, 7168]) f) :=
    cut2 (bx20 512 (0) 256 1280 1536 (7168) 768 rfl rfl).1 (bx20 512 (0) 256 1280 1536 (7168) 768 rfl rfl).2
  have h3 : PT c main_v0 (box S2048x7168 ![768, 0] ![1280, 7168]) f = iprop(PT c main_v0 (box S2048x7168 ![256 * 3, 0] S256x7168.size) f ∗ PT c main_v0 (box S2048x7168 ![1024, 0] ![1024, 7168]) f) :=
    cut2 (bx20 768 (0) 256 1024 1280 (7168) 1024 rfl rfl).1 (bx20 768 (0) 256 1024 1280 (7168) 1024 rfl rfl).2
  have h4 : PT c main_v0 (box S2048x7168 ![1024, 0] ![1024, 7168]) f = iprop(PT c main_v0 (box S2048x7168 ![256 * 4, 0] S256x7168.size) f ∗ PT c main_v0 (box S2048x7168 ![1280, 0] ![768, 7168]) f) :=
    cut2 (bx20 1024 (0) 256 768 1024 (7168) 1280 rfl rfl).1 (bx20 1024 (0) 256 768 1024 (7168) 1280 rfl rfl).2
  have h5 : PT c main_v0 (box S2048x7168 ![1280, 0] ![768, 7168]) f = iprop(PT c main_v0 (box S2048x7168 ![256 * 5, 0] S256x7168.size) f ∗ PT c main_v0 (box S2048x7168 ![1536, 0] ![512, 7168]) f) :=
    cut2 (bx20 1280 (0) 256 512 768 (7168) 1536 rfl rfl).1 (bx20 1280 (0) 256 512 768 (7168) 1536 rfl rfl).2
  have h6 : PT c main_v0 (box S2048x7168 ![1536, 0] ![512, 7168]) f = iprop(PT c main_v0 (box S2048x7168 ![256 * 6, 0] S256x7168.size) f ∗ PT c main_v0 (box S2048x7168 ![256 * 7, 0] S256x7168.size) f) :=
    cut2 (bx20 1536 (0) 256 256 512 (7168) 1792 rfl rfl).1 (bx20 1536 (0) 256 256 512 (7168) 1792 rfl rfl).2
  rw [h0, h1, h2, h3, h4, h5, h6]

/-- The tokens in blocks of 256. -/
theorem ch0_v0A : PA (F := F) c main_v0 Finset.univ ⊢ iprop(PA (F := F) c main_v0 (box S2048x7168 ![256 * 0, 0] S256x7168.size) ∗ PA (F := F) c main_v0 (box S2048x7168 ![256 * 1, 0] S256x7168.size) ∗ PA (F := F) c main_v0 (box S2048x7168 ![256 * 2, 0] S256x7168.size) ∗ PA (F := F) c main_v0 (box S2048x7168 ![256 * 3, 0] S256x7168.size) ∗ PA (F := F) c main_v0 (box S2048x7168 ![256 * 4, 0] S256x7168.size) ∗ PA (F := F) c main_v0 (box S2048x7168 ![256 * 5, 0] S256x7168.size) ∗ PA (F := F) c main_v0 (box S2048x7168 ![256 * 6, 0] S256x7168.size) ∗ PA (F := F) c main_v0 (box S2048x7168 ![256 * 7, 0] S256x7168.size)) := by
  iintro ⟨%f, H⟩
  ihave H := (Entails.of_eq (ch0_v0 (c := c) f)) $$ H
  icases H with ⟨H0, H1, H2, H3, H4, H5, H6, H7⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  iexists f; iexact H7

/-- The tokens in blocks of 256. -/
theorem ch0_s0 (f : Buf (Elt F) ((c : Thread nD τ).loc cc0_scratch0)) :
    PT c cc0_scratch0 Finset.univ f = iprop(PT c cc0_scratch0 (box S2048x7168 ![256 * 0, 0] S256x7168.size) f ∗ PT c cc0_scratch0 (box S2048x7168 ![256 * 1, 0] S256x7168.size) f ∗ PT c cc0_scratch0 (box S2048x7168 ![256 * 2, 0] S256x7168.size) f ∗ PT c cc0_scratch0 (box S2048x7168 ![256 * 3, 0] S256x7168.size) f ∗ PT c cc0_scratch0 (box S2048x7168 ![256 * 4, 0] S256x7168.size) f ∗ PT c cc0_scratch0 (box S2048x7168 ![256 * 5, 0] S256x7168.size) f ∗ PT c cc0_scratch0 (box S2048x7168 ![256 * 6, 0] S256x7168.size) f ∗ PT c cc0_scratch0 (box S2048x7168 ![256 * 7, 0] S256x7168.size) f) := by
  rw [show (Finset.univ : Finset (Idx ((c : Thread nD τ).loc cc0_scratch0))) = (box S2048x7168 ![0, 0] ![2048, 7168]) from (box_univ (s := S2048x7168) (by decide) (by decide)).symm]
  have h0 : PT c cc0_scratch0 (box S2048x7168 ![0, 0] ![2048, 7168]) f = iprop(PT c cc0_scratch0 (box S2048x7168 ![256 * 0, 0] S256x7168.size) f ∗ PT c cc0_scratch0 (box S2048x7168 ![256, 0] ![1792, 7168]) f) :=
    cut2 (bx20 0 (0) 256 1792 2048 (7168) 256 rfl rfl).1 (bx20 0 (0) 256 1792 2048 (7168) 256 rfl rfl).2
  have h1 : PT c cc0_scratch0 (box S2048x7168 ![256, 0] ![1792, 7168]) f = iprop(PT c cc0_scratch0 (box S2048x7168 ![256 * 1, 0] S256x7168.size) f ∗ PT c cc0_scratch0 (box S2048x7168 ![512, 0] ![1536, 7168]) f) :=
    cut2 (bx20 256 (0) 256 1536 1792 (7168) 512 rfl rfl).1 (bx20 256 (0) 256 1536 1792 (7168) 512 rfl rfl).2
  have h2 : PT c cc0_scratch0 (box S2048x7168 ![512, 0] ![1536, 7168]) f = iprop(PT c cc0_scratch0 (box S2048x7168 ![256 * 2, 0] S256x7168.size) f ∗ PT c cc0_scratch0 (box S2048x7168 ![768, 0] ![1280, 7168]) f) :=
    cut2 (bx20 512 (0) 256 1280 1536 (7168) 768 rfl rfl).1 (bx20 512 (0) 256 1280 1536 (7168) 768 rfl rfl).2
  have h3 : PT c cc0_scratch0 (box S2048x7168 ![768, 0] ![1280, 7168]) f = iprop(PT c cc0_scratch0 (box S2048x7168 ![256 * 3, 0] S256x7168.size) f ∗ PT c cc0_scratch0 (box S2048x7168 ![1024, 0] ![1024, 7168]) f) :=
    cut2 (bx20 768 (0) 256 1024 1280 (7168) 1024 rfl rfl).1 (bx20 768 (0) 256 1024 1280 (7168) 1024 rfl rfl).2
  have h4 : PT c cc0_scratch0 (box S2048x7168 ![1024, 0] ![1024, 7168]) f = iprop(PT c cc0_scratch0 (box S2048x7168 ![256 * 4, 0] S256x7168.size) f ∗ PT c cc0_scratch0 (box S2048x7168 ![1280, 0] ![768, 7168]) f) :=
    cut2 (bx20 1024 (0) 256 768 1024 (7168) 1280 rfl rfl).1 (bx20 1024 (0) 256 768 1024 (7168) 1280 rfl rfl).2
  have h5 : PT c cc0_scratch0 (box S2048x7168 ![1280, 0] ![768, 7168]) f = iprop(PT c cc0_scratch0 (box S2048x7168 ![256 * 5, 0] S256x7168.size) f ∗ PT c cc0_scratch0 (box S2048x7168 ![1536, 0] ![512, 7168]) f) :=
    cut2 (bx20 1280 (0) 256 512 768 (7168) 1536 rfl rfl).1 (bx20 1280 (0) 256 512 768 (7168) 1536 rfl rfl).2
  have h6 : PT c cc0_scratch0 (box S2048x7168 ![1536, 0] ![512, 7168]) f = iprop(PT c cc0_scratch0 (box S2048x7168 ![256 * 6, 0] S256x7168.size) f ∗ PT c cc0_scratch0 (box S2048x7168 ![256 * 7, 0] S256x7168.size) f) :=
    cut2 (bx20 1536 (0) 256 256 512 (7168) 1792 rfl rfl).1 (bx20 1536 (0) 256 256 512 (7168) 1792 rfl rfl).2
  rw [h0, h1, h2, h3, h4, h5, h6]

/-- The tokens in blocks of 256. -/
theorem ch0_s0A : PA (F := F) c cc0_scratch0 Finset.univ ⊢ iprop(PA (F := F) c cc0_scratch0 (box S2048x7168 ![256 * 0, 0] S256x7168.size) ∗ PA (F := F) c cc0_scratch0 (box S2048x7168 ![256 * 1, 0] S256x7168.size) ∗ PA (F := F) c cc0_scratch0 (box S2048x7168 ![256 * 2, 0] S256x7168.size) ∗ PA (F := F) c cc0_scratch0 (box S2048x7168 ![256 * 3, 0] S256x7168.size) ∗ PA (F := F) c cc0_scratch0 (box S2048x7168 ![256 * 4, 0] S256x7168.size) ∗ PA (F := F) c cc0_scratch0 (box S2048x7168 ![256 * 5, 0] S256x7168.size) ∗ PA (F := F) c cc0_scratch0 (box S2048x7168 ![256 * 6, 0] S256x7168.size) ∗ PA (F := F) c cc0_scratch0 (box S2048x7168 ![256 * 7, 0] S256x7168.size)) := by
  iintro ⟨%f, H⟩
  ihave H := (Entails.of_eq (ch0_s0 (c := c) f)) $$ H
  icases H with ⟨H0, H1, H2, H3, H4, H5, H6, H7⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  iexists f; iexact H7

/-- The tokens in blocks of 256. -/
theorem ch0_v3_0 (f : Buf (Elt F) ((c : Thread nD τ).loc main_v3_0)) :
    PT c main_v3_0 Finset.univ f = iprop(PT c main_v3_0 (box S2048x7168 ![256 * 0, 0] S256x7168.size) f ∗ PT c main_v3_0 (box S2048x7168 ![256 * 1, 0] S256x7168.size) f ∗ PT c main_v3_0 (box S2048x7168 ![256 * 2, 0] S256x7168.size) f ∗ PT c main_v3_0 (box S2048x7168 ![256 * 3, 0] S256x7168.size) f ∗ PT c main_v3_0 (box S2048x7168 ![256 * 4, 0] S256x7168.size) f ∗ PT c main_v3_0 (box S2048x7168 ![256 * 5, 0] S256x7168.size) f ∗ PT c main_v3_0 (box S2048x7168 ![256 * 6, 0] S256x7168.size) f ∗ PT c main_v3_0 (box S2048x7168 ![256 * 7, 0] S256x7168.size) f) := by
  rw [show (Finset.univ : Finset (Idx ((c : Thread nD τ).loc main_v3_0))) = (box S2048x7168 ![0, 0] ![2048, 7168]) from (box_univ (s := S2048x7168) (by decide) (by decide)).symm]
  have h0 : PT c main_v3_0 (box S2048x7168 ![0, 0] ![2048, 7168]) f = iprop(PT c main_v3_0 (box S2048x7168 ![256 * 0, 0] S256x7168.size) f ∗ PT c main_v3_0 (box S2048x7168 ![256, 0] ![1792, 7168]) f) :=
    cut2 (bx20 0 (0) 256 1792 2048 (7168) 256 rfl rfl).1 (bx20 0 (0) 256 1792 2048 (7168) 256 rfl rfl).2
  have h1 : PT c main_v3_0 (box S2048x7168 ![256, 0] ![1792, 7168]) f = iprop(PT c main_v3_0 (box S2048x7168 ![256 * 1, 0] S256x7168.size) f ∗ PT c main_v3_0 (box S2048x7168 ![512, 0] ![1536, 7168]) f) :=
    cut2 (bx20 256 (0) 256 1536 1792 (7168) 512 rfl rfl).1 (bx20 256 (0) 256 1536 1792 (7168) 512 rfl rfl).2
  have h2 : PT c main_v3_0 (box S2048x7168 ![512, 0] ![1536, 7168]) f = iprop(PT c main_v3_0 (box S2048x7168 ![256 * 2, 0] S256x7168.size) f ∗ PT c main_v3_0 (box S2048x7168 ![768, 0] ![1280, 7168]) f) :=
    cut2 (bx20 512 (0) 256 1280 1536 (7168) 768 rfl rfl).1 (bx20 512 (0) 256 1280 1536 (7168) 768 rfl rfl).2
  have h3 : PT c main_v3_0 (box S2048x7168 ![768, 0] ![1280, 7168]) f = iprop(PT c main_v3_0 (box S2048x7168 ![256 * 3, 0] S256x7168.size) f ∗ PT c main_v3_0 (box S2048x7168 ![1024, 0] ![1024, 7168]) f) :=
    cut2 (bx20 768 (0) 256 1024 1280 (7168) 1024 rfl rfl).1 (bx20 768 (0) 256 1024 1280 (7168) 1024 rfl rfl).2
  have h4 : PT c main_v3_0 (box S2048x7168 ![1024, 0] ![1024, 7168]) f = iprop(PT c main_v3_0 (box S2048x7168 ![256 * 4, 0] S256x7168.size) f ∗ PT c main_v3_0 (box S2048x7168 ![1280, 0] ![768, 7168]) f) :=
    cut2 (bx20 1024 (0) 256 768 1024 (7168) 1280 rfl rfl).1 (bx20 1024 (0) 256 768 1024 (7168) 1280 rfl rfl).2
  have h5 : PT c main_v3_0 (box S2048x7168 ![1280, 0] ![768, 7168]) f = iprop(PT c main_v3_0 (box S2048x7168 ![256 * 5, 0] S256x7168.size) f ∗ PT c main_v3_0 (box S2048x7168 ![1536, 0] ![512, 7168]) f) :=
    cut2 (bx20 1280 (0) 256 512 768 (7168) 1536 rfl rfl).1 (bx20 1280 (0) 256 512 768 (7168) 1536 rfl rfl).2
  have h6 : PT c main_v3_0 (box S2048x7168 ![1536, 0] ![512, 7168]) f = iprop(PT c main_v3_0 (box S2048x7168 ![256 * 6, 0] S256x7168.size) f ∗ PT c main_v3_0 (box S2048x7168 ![256 * 7, 0] S256x7168.size) f) :=
    cut2 (bx20 1536 (0) 256 256 512 (7168) 1792 rfl rfl).1 (bx20 1536 (0) 256 256 512 (7168) 1792 rfl rfl).2
  rw [h0, h1, h2, h3, h4, h5, h6]

/-- The tokens in blocks of 256. -/
theorem ch0_v3_0A : PA (F := F) c main_v3_0 Finset.univ ⊢ iprop(PA (F := F) c main_v3_0 (box S2048x7168 ![256 * 0, 0] S256x7168.size) ∗ PA (F := F) c main_v3_0 (box S2048x7168 ![256 * 1, 0] S256x7168.size) ∗ PA (F := F) c main_v3_0 (box S2048x7168 ![256 * 2, 0] S256x7168.size) ∗ PA (F := F) c main_v3_0 (box S2048x7168 ![256 * 3, 0] S256x7168.size) ∗ PA (F := F) c main_v3_0 (box S2048x7168 ![256 * 4, 0] S256x7168.size) ∗ PA (F := F) c main_v3_0 (box S2048x7168 ![256 * 5, 0] S256x7168.size) ∗ PA (F := F) c main_v3_0 (box S2048x7168 ![256 * 6, 0] S256x7168.size) ∗ PA (F := F) c main_v3_0 (box S2048x7168 ![256 * 7, 0] S256x7168.size)) := by
  iintro ⟨%f, H⟩
  ihave H := (Entails.of_eq (ch0_v3_0 (c := c) f)) $$ H
  icases H with ⟨H0, H1, H2, H3, H4, H5, H6, H7⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  iexists f; iexact H7

/-- A token block in chunks of 1024 columns. -/
theorem ch0c_v0 (f : Buf (Elt F) ((c : Thread nD τ).loc main_v0)) :
    PT c main_v0 (box S2048x7168 ![0, 0] ![256, 7168]) f = iprop(PT c main_v0 (box S2048x7168 ![0, 0] S256x1024.size) f ∗ PT c main_v0 (box S2048x7168 ![0, 1024] S256x1024.size) f ∗ PT c main_v0 (box S2048x7168 ![0, 2048] S256x1024.size) f ∗ PT c main_v0 (box S2048x7168 ![0, 3072] S256x1024.size) f ∗ PT c main_v0 (box S2048x7168 ![0, 4096] S256x1024.size) f ∗ PT c main_v0 (box S2048x7168 ![0, 5120] S256x1024.size) f ∗ PT c main_v0 (box S2048x7168 ![0, 6144] S256x1024.size) f) := by
  have h0 : PT c main_v0 (box S2048x7168 ![0, 0] ![256, 7168]) f = iprop(PT c main_v0 (box S2048x7168 ![0, 0] S256x1024.size) f ∗ PT c main_v0 (box S2048x7168 ![0, 1024] ![256, 6144]) f) :=
    cut2 (bx21 0 (0) 1024 6144 7168 (256) 1024 rfl rfl).1 (bx21 0 (0) 1024 6144 7168 (256) 1024 rfl rfl).2
  have h1 : PT c main_v0 (box S2048x7168 ![0, 1024] ![256, 6144]) f = iprop(PT c main_v0 (box S2048x7168 ![0, 1024] S256x1024.size) f ∗ PT c main_v0 (box S2048x7168 ![0, 2048] ![256, 5120]) f) :=
    cut2 (bx21 1024 (0) 1024 5120 6144 (256) 2048 rfl rfl).1 (bx21 1024 (0) 1024 5120 6144 (256) 2048 rfl rfl).2
  have h2 : PT c main_v0 (box S2048x7168 ![0, 2048] ![256, 5120]) f = iprop(PT c main_v0 (box S2048x7168 ![0, 2048] S256x1024.size) f ∗ PT c main_v0 (box S2048x7168 ![0, 3072] ![256, 4096]) f) :=
    cut2 (bx21 2048 (0) 1024 4096 5120 (256) 3072 rfl rfl).1 (bx21 2048 (0) 1024 4096 5120 (256) 3072 rfl rfl).2
  have h3 : PT c main_v0 (box S2048x7168 ![0, 3072] ![256, 4096]) f = iprop(PT c main_v0 (box S2048x7168 ![0, 3072] S256x1024.size) f ∗ PT c main_v0 (box S2048x7168 ![0, 4096] ![256, 3072]) f) :=
    cut2 (bx21 3072 (0) 1024 3072 4096 (256) 4096 rfl rfl).1 (bx21 3072 (0) 1024 3072 4096 (256) 4096 rfl rfl).2
  have h4 : PT c main_v0 (box S2048x7168 ![0, 4096] ![256, 3072]) f = iprop(PT c main_v0 (box S2048x7168 ![0, 4096] S256x1024.size) f ∗ PT c main_v0 (box S2048x7168 ![0, 5120] ![256, 2048]) f) :=
    cut2 (bx21 4096 (0) 1024 2048 3072 (256) 5120 rfl rfl).1 (bx21 4096 (0) 1024 2048 3072 (256) 5120 rfl rfl).2
  have h5 : PT c main_v0 (box S2048x7168 ![0, 5120] ![256, 2048]) f = iprop(PT c main_v0 (box S2048x7168 ![0, 5120] S256x1024.size) f ∗ PT c main_v0 (box S2048x7168 ![0, 6144] S256x1024.size) f) :=
    cut2 (bx21 5120 (0) 1024 1024 2048 (256) 6144 rfl rfl).1 (bx21 5120 (0) 1024 1024 2048 (256) 6144 rfl rfl).2
  rw [h0, h1, h2, h3, h4, h5]

/-- A token block in chunks of 1024 columns. -/
theorem ch0c_v0A : PA (F := F) c main_v0 (box S2048x7168 ![0, 0] ![256, 7168]) ⊢ iprop(PA (F := F) c main_v0 (box S2048x7168 ![0, 0] S256x1024.size) ∗ PA (F := F) c main_v0 (box S2048x7168 ![0, 1024] S256x1024.size) ∗ PA (F := F) c main_v0 (box S2048x7168 ![0, 2048] S256x1024.size) ∗ PA (F := F) c main_v0 (box S2048x7168 ![0, 3072] S256x1024.size) ∗ PA (F := F) c main_v0 (box S2048x7168 ![0, 4096] S256x1024.size) ∗ PA (F := F) c main_v0 (box S2048x7168 ![0, 5120] S256x1024.size) ∗ PA (F := F) c main_v0 (box S2048x7168 ![0, 6144] S256x1024.size)) := by
  iintro ⟨%f, H⟩
  ihave H := (Entails.of_eq (ch0c_v0 (c := c) f)) $$ H
  icases H with ⟨H0, H1, H2, H3, H4, H5, H6⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  iexists f; iexact H6

/-- A token block in chunks of 1024 columns. -/
theorem ch0c_s0 (f : Buf (Elt F) ((c : Thread nD τ).loc cc0_scratch0)) :
    PT c cc0_scratch0 (box S2048x7168 ![0, 0] ![256, 7168]) f = iprop(PT c cc0_scratch0 (box S2048x7168 ![0, 0] S256x1024.size) f ∗ PT c cc0_scratch0 (box S2048x7168 ![0, 1024] S256x1024.size) f ∗ PT c cc0_scratch0 (box S2048x7168 ![0, 2048] S256x1024.size) f ∗ PT c cc0_scratch0 (box S2048x7168 ![0, 3072] S256x1024.size) f ∗ PT c cc0_scratch0 (box S2048x7168 ![0, 4096] S256x1024.size) f ∗ PT c cc0_scratch0 (box S2048x7168 ![0, 5120] S256x1024.size) f ∗ PT c cc0_scratch0 (box S2048x7168 ![0, 6144] S256x1024.size) f) := by
  have h0 : PT c cc0_scratch0 (box S2048x7168 ![0, 0] ![256, 7168]) f = iprop(PT c cc0_scratch0 (box S2048x7168 ![0, 0] S256x1024.size) f ∗ PT c cc0_scratch0 (box S2048x7168 ![0, 1024] ![256, 6144]) f) :=
    cut2 (bx21 0 (0) 1024 6144 7168 (256) 1024 rfl rfl).1 (bx21 0 (0) 1024 6144 7168 (256) 1024 rfl rfl).2
  have h1 : PT c cc0_scratch0 (box S2048x7168 ![0, 1024] ![256, 6144]) f = iprop(PT c cc0_scratch0 (box S2048x7168 ![0, 1024] S256x1024.size) f ∗ PT c cc0_scratch0 (box S2048x7168 ![0, 2048] ![256, 5120]) f) :=
    cut2 (bx21 1024 (0) 1024 5120 6144 (256) 2048 rfl rfl).1 (bx21 1024 (0) 1024 5120 6144 (256) 2048 rfl rfl).2
  have h2 : PT c cc0_scratch0 (box S2048x7168 ![0, 2048] ![256, 5120]) f = iprop(PT c cc0_scratch0 (box S2048x7168 ![0, 2048] S256x1024.size) f ∗ PT c cc0_scratch0 (box S2048x7168 ![0, 3072] ![256, 4096]) f) :=
    cut2 (bx21 2048 (0) 1024 4096 5120 (256) 3072 rfl rfl).1 (bx21 2048 (0) 1024 4096 5120 (256) 3072 rfl rfl).2
  have h3 : PT c cc0_scratch0 (box S2048x7168 ![0, 3072] ![256, 4096]) f = iprop(PT c cc0_scratch0 (box S2048x7168 ![0, 3072] S256x1024.size) f ∗ PT c cc0_scratch0 (box S2048x7168 ![0, 4096] ![256, 3072]) f) :=
    cut2 (bx21 3072 (0) 1024 3072 4096 (256) 4096 rfl rfl).1 (bx21 3072 (0) 1024 3072 4096 (256) 4096 rfl rfl).2
  have h4 : PT c cc0_scratch0 (box S2048x7168 ![0, 4096] ![256, 3072]) f = iprop(PT c cc0_scratch0 (box S2048x7168 ![0, 4096] S256x1024.size) f ∗ PT c cc0_scratch0 (box S2048x7168 ![0, 5120] ![256, 2048]) f) :=
    cut2 (bx21 4096 (0) 1024 2048 3072 (256) 5120 rfl rfl).1 (bx21 4096 (0) 1024 2048 3072 (256) 5120 rfl rfl).2
  have h5 : PT c cc0_scratch0 (box S2048x7168 ![0, 5120] ![256, 2048]) f = iprop(PT c cc0_scratch0 (box S2048x7168 ![0, 5120] S256x1024.size) f ∗ PT c cc0_scratch0 (box S2048x7168 ![0, 6144] S256x1024.size) f) :=
    cut2 (bx21 5120 (0) 1024 1024 2048 (256) 6144 rfl rfl).1 (bx21 5120 (0) 1024 1024 2048 (256) 6144 rfl rfl).2
  rw [h0, h1, h2, h3, h4, h5]

/-- A token block in chunks of 1024 columns. -/
theorem ch0c_s0A : PA (F := F) c cc0_scratch0 (box S2048x7168 ![0, 0] ![256, 7168]) ⊢ iprop(PA (F := F) c cc0_scratch0 (box S2048x7168 ![0, 0] S256x1024.size) ∗ PA (F := F) c cc0_scratch0 (box S2048x7168 ![0, 1024] S256x1024.size) ∗ PA (F := F) c cc0_scratch0 (box S2048x7168 ![0, 2048] S256x1024.size) ∗ PA (F := F) c cc0_scratch0 (box S2048x7168 ![0, 3072] S256x1024.size) ∗ PA (F := F) c cc0_scratch0 (box S2048x7168 ![0, 4096] S256x1024.size) ∗ PA (F := F) c cc0_scratch0 (box S2048x7168 ![0, 5120] S256x1024.size) ∗ PA (F := F) c cc0_scratch0 (box S2048x7168 ![0, 6144] S256x1024.size)) := by
  iintro ⟨%f, H⟩
  ihave H := (Entails.of_eq (ch0c_s0 (c := c) f)) $$ H
  icases H with ⟨H0, H1, H2, H3, H4, H5, H6⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  iexists f; iexact H6

/-- The transposed weights in chunks of 1024 columns. -/
theorem ch12 (f : Buf (Elt F) ((c : Thread nD τ).loc cc0_scratch2)) :
    PT c cc0_scratch2 Finset.univ f = iprop(PT c cc0_scratch2 (box S256x7168 ![0, 0] S256x1024.size) f ∗ PT c cc0_scratch2 (box S256x7168 ![0, 1024] S256x1024.size) f ∗ PT c cc0_scratch2 (box S256x7168 ![0, 2048] S256x1024.size) f ∗ PT c cc0_scratch2 (box S256x7168 ![0, 3072] S256x1024.size) f ∗ PT c cc0_scratch2 (box S256x7168 ![0, 4096] S256x1024.size) f ∗ PT c cc0_scratch2 (box S256x7168 ![0, 5120] S256x1024.size) f ∗ PT c cc0_scratch2 (box S256x7168 ![0, 6144] S256x1024.size) f) := by
  rw [show (Finset.univ : Finset (Idx ((c : Thread nD τ).loc cc0_scratch2))) = (box S256x7168 ![0, 0] ![256, 7168]) from (box_univ (s := S256x7168) (by decide) (by decide)).symm]
  have h0 : PT c cc0_scratch2 (box S256x7168 ![0, 0] ![256, 7168]) f = iprop(PT c cc0_scratch2 (box S256x7168 ![0, 0] S256x1024.size) f ∗ PT c cc0_scratch2 (box S256x7168 ![0, 1024] ![256, 6144]) f) :=
    cut2 (bx21 0 (0) 1024 6144 7168 (256) 1024 rfl rfl).1 (bx21 0 (0) 1024 6144 7168 (256) 1024 rfl rfl).2
  have h1 : PT c cc0_scratch2 (box S256x7168 ![0, 1024] ![256, 6144]) f = iprop(PT c cc0_scratch2 (box S256x7168 ![0, 1024] S256x1024.size) f ∗ PT c cc0_scratch2 (box S256x7168 ![0, 2048] ![256, 5120]) f) :=
    cut2 (bx21 1024 (0) 1024 5120 6144 (256) 2048 rfl rfl).1 (bx21 1024 (0) 1024 5120 6144 (256) 2048 rfl rfl).2
  have h2 : PT c cc0_scratch2 (box S256x7168 ![0, 2048] ![256, 5120]) f = iprop(PT c cc0_scratch2 (box S256x7168 ![0, 2048] S256x1024.size) f ∗ PT c cc0_scratch2 (box S256x7168 ![0, 3072] ![256, 4096]) f) :=
    cut2 (bx21 2048 (0) 1024 4096 5120 (256) 3072 rfl rfl).1 (bx21 2048 (0) 1024 4096 5120 (256) 3072 rfl rfl).2
  have h3 : PT c cc0_scratch2 (box S256x7168 ![0, 3072] ![256, 4096]) f = iprop(PT c cc0_scratch2 (box S256x7168 ![0, 3072] S256x1024.size) f ∗ PT c cc0_scratch2 (box S256x7168 ![0, 4096] ![256, 3072]) f) :=
    cut2 (bx21 3072 (0) 1024 3072 4096 (256) 4096 rfl rfl).1 (bx21 3072 (0) 1024 3072 4096 (256) 4096 rfl rfl).2
  have h4 : PT c cc0_scratch2 (box S256x7168 ![0, 4096] ![256, 3072]) f = iprop(PT c cc0_scratch2 (box S256x7168 ![0, 4096] S256x1024.size) f ∗ PT c cc0_scratch2 (box S256x7168 ![0, 5120] ![256, 2048]) f) :=
    cut2 (bx21 4096 (0) 1024 2048 3072 (256) 5120 rfl rfl).1 (bx21 4096 (0) 1024 2048 3072 (256) 5120 rfl rfl).2
  have h5 : PT c cc0_scratch2 (box S256x7168 ![0, 5120] ![256, 2048]) f = iprop(PT c cc0_scratch2 (box S256x7168 ![0, 5120] S256x1024.size) f ∗ PT c cc0_scratch2 (box S256x7168 ![0, 6144] S256x1024.size) f) :=
    cut2 (bx21 5120 (0) 1024 1024 2048 (256) 6144 rfl rfl).1 (bx21 5120 (0) 1024 1024 2048 (256) 6144 rfl rfl).2
  rw [h0, h1, h2, h3, h4, h5]

/-- The transposed weights in chunks of 1024 columns. -/
theorem ch12A : PA (F := F) c cc0_scratch2 Finset.univ ⊢ iprop(PA (F := F) c cc0_scratch2 (box S256x7168 ![0, 0] S256x1024.size) ∗ PA (F := F) c cc0_scratch2 (box S256x7168 ![0, 1024] S256x1024.size) ∗ PA (F := F) c cc0_scratch2 (box S256x7168 ![0, 2048] S256x1024.size) ∗ PA (F := F) c cc0_scratch2 (box S256x7168 ![0, 3072] S256x1024.size) ∗ PA (F := F) c cc0_scratch2 (box S256x7168 ![0, 4096] S256x1024.size) ∗ PA (F := F) c cc0_scratch2 (box S256x7168 ![0, 5120] S256x1024.size) ∗ PA (F := F) c cc0_scratch2 (box S256x7168 ![0, 6144] S256x1024.size)) := by
  iintro ⟨%f, H⟩
  ihave H := (Entails.of_eq (ch12 (c := c) f)) $$ H
  icases H with ⟨H0, H1, H2, H3, H4, H5, H6⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  iexists f; iexact H6

/-- A slot of the ring of `dx` in chunks of 512 columns. -/
theorem ch20 (s : ℕ) (f : Buf (Elt F) ((c : Thread nD τ).loc cc0_scratch10)) :
    PT c cc0_scratch10 (box S2x256x7168 ![s, 0, 0] ![1, 256, 7168]) f = iprop(PT c cc0_scratch10 (box S2x256x7168 ![s, 0, 512 * 0] S1x256x512.size) f ∗ PT c cc0_scratch10 (box S2x256x7168 ![s, 0, 512 * 1] S1x256x512.size) f ∗ PT c cc0_scratch10 (box S2x256x7168 ![s, 0, 512 * 2] S1x256x512.size) f ∗ PT c cc0_scratch10 (box S2x256x7168 ![s, 0, 512 * 3] S1x256x512.size) f ∗ PT c cc0_scratch10 (box S2x256x7168 ![s, 0, 512 * 4] S1x256x512.size) f ∗ PT c cc0_scratch10 (box S2x256x7168 ![s, 0, 512 * 5] S1x256x512.size) f ∗ PT c cc0_scratch10 (box S2x256x7168 ![s, 0, 512 * 6] S1x256x512.size) f ∗ PT c cc0_scratch10 (box S2x256x7168 ![s, 0, 512 * 7] S1x256x512.size) f ∗ PT c cc0_scratch10 (box S2x256x7168 ![s, 0, 512 * 8] S1x256x512.size) f ∗ PT c cc0_scratch10 (box S2x256x7168 ![s, 0, 512 * 9] S1x256x512.size) f ∗ PT c cc0_scratch10 (box S2x256x7168 ![s, 0, 512 * 10] S1x256x512.size) f ∗ PT c cc0_scratch10 (box S2x256x7168 ![s, 0, 512 * 11] S1x256x512.size) f ∗ PT c cc0_scratch10 (box S2x256x7168 ![s, 0, 512 * 12] S1x256x512.size) f ∗ PT c cc0_scratch10 (box S2x256x7168 ![s, 0, 512 * 13] S1x256x512.size) f) := by
  have h0 : PT c cc0_scratch10 (box S2x256x7168 ![s, 0, 0] ![1, 256, 7168]) f = iprop(PT c cc0_scratch10 (box S2x256x7168 ![s, 0, 512 * 0] S1x256x512.size) f ∗ PT c cc0_scratch10 (box S2x256x7168 ![s, 0, 512] ![1, 256, 6656]) f) :=
    cut2 (bx32 0 (s) (0) 512 6656 7168 (1) (256) 512 rfl rfl).1 (bx32 0 (s) (0) 512 6656 7168 (1) (256) 512 rfl rfl).2
  have h1 : PT c cc0_scratch10 (box S2x256x7168 ![s, 0, 512] ![1, 256, 6656]) f = iprop(PT c cc0_scratch10 (box S2x256x7168 ![s, 0, 512 * 1] S1x256x512.size) f ∗ PT c cc0_scratch10 (box S2x256x7168 ![s, 0, 1024] ![1, 256, 6144]) f) :=
    cut2 (bx32 512 (s) (0) 512 6144 6656 (1) (256) 1024 rfl rfl).1 (bx32 512 (s) (0) 512 6144 6656 (1) (256) 1024 rfl rfl).2
  have h2 : PT c cc0_scratch10 (box S2x256x7168 ![s, 0, 1024] ![1, 256, 6144]) f = iprop(PT c cc0_scratch10 (box S2x256x7168 ![s, 0, 512 * 2] S1x256x512.size) f ∗ PT c cc0_scratch10 (box S2x256x7168 ![s, 0, 1536] ![1, 256, 5632]) f) :=
    cut2 (bx32 1024 (s) (0) 512 5632 6144 (1) (256) 1536 rfl rfl).1 (bx32 1024 (s) (0) 512 5632 6144 (1) (256) 1536 rfl rfl).2
  have h3 : PT c cc0_scratch10 (box S2x256x7168 ![s, 0, 1536] ![1, 256, 5632]) f = iprop(PT c cc0_scratch10 (box S2x256x7168 ![s, 0, 512 * 3] S1x256x512.size) f ∗ PT c cc0_scratch10 (box S2x256x7168 ![s, 0, 2048] ![1, 256, 5120]) f) :=
    cut2 (bx32 1536 (s) (0) 512 5120 5632 (1) (256) 2048 rfl rfl).1 (bx32 1536 (s) (0) 512 5120 5632 (1) (256) 2048 rfl rfl).2
  have h4 : PT c cc0_scratch10 (box S2x256x7168 ![s, 0, 2048] ![1, 256, 5120]) f = iprop(PT c cc0_scratch10 (box S2x256x7168 ![s, 0, 512 * 4] S1x256x512.size) f ∗ PT c cc0_scratch10 (box S2x256x7168 ![s, 0, 2560] ![1, 256, 4608]) f) :=
    cut2 (bx32 2048 (s) (0) 512 4608 5120 (1) (256) 2560 rfl rfl).1 (bx32 2048 (s) (0) 512 4608 5120 (1) (256) 2560 rfl rfl).2
  have h5 : PT c cc0_scratch10 (box S2x256x7168 ![s, 0, 2560] ![1, 256, 4608]) f = iprop(PT c cc0_scratch10 (box S2x256x7168 ![s, 0, 512 * 5] S1x256x512.size) f ∗ PT c cc0_scratch10 (box S2x256x7168 ![s, 0, 3072] ![1, 256, 4096]) f) :=
    cut2 (bx32 2560 (s) (0) 512 4096 4608 (1) (256) 3072 rfl rfl).1 (bx32 2560 (s) (0) 512 4096 4608 (1) (256) 3072 rfl rfl).2
  have h6 : PT c cc0_scratch10 (box S2x256x7168 ![s, 0, 3072] ![1, 256, 4096]) f = iprop(PT c cc0_scratch10 (box S2x256x7168 ![s, 0, 512 * 6] S1x256x512.size) f ∗ PT c cc0_scratch10 (box S2x256x7168 ![s, 0, 3584] ![1, 256, 3584]) f) :=
    cut2 (bx32 3072 (s) (0) 512 3584 4096 (1) (256) 3584 rfl rfl).1 (bx32 3072 (s) (0) 512 3584 4096 (1) (256) 3584 rfl rfl).2
  have h7 : PT c cc0_scratch10 (box S2x256x7168 ![s, 0, 3584] ![1, 256, 3584]) f = iprop(PT c cc0_scratch10 (box S2x256x7168 ![s, 0, 512 * 7] S1x256x512.size) f ∗ PT c cc0_scratch10 (box S2x256x7168 ![s, 0, 4096] ![1, 256, 3072]) f) :=
    cut2 (bx32 3584 (s) (0) 512 3072 3584 (1) (256) 4096 rfl rfl).1 (bx32 3584 (s) (0) 512 3072 3584 (1) (256) 4096 rfl rfl).2
  have h8 : PT c cc0_scratch10 (box S2x256x7168 ![s, 0, 4096] ![1, 256, 3072]) f = iprop(PT c cc0_scratch10 (box S2x256x7168 ![s, 0, 512 * 8] S1x256x512.size) f ∗ PT c cc0_scratch10 (box S2x256x7168 ![s, 0, 4608] ![1, 256, 2560]) f) :=
    cut2 (bx32 4096 (s) (0) 512 2560 3072 (1) (256) 4608 rfl rfl).1 (bx32 4096 (s) (0) 512 2560 3072 (1) (256) 4608 rfl rfl).2
  have h9 : PT c cc0_scratch10 (box S2x256x7168 ![s, 0, 4608] ![1, 256, 2560]) f = iprop(PT c cc0_scratch10 (box S2x256x7168 ![s, 0, 512 * 9] S1x256x512.size) f ∗ PT c cc0_scratch10 (box S2x256x7168 ![s, 0, 5120] ![1, 256, 2048]) f) :=
    cut2 (bx32 4608 (s) (0) 512 2048 2560 (1) (256) 5120 rfl rfl).1 (bx32 4608 (s) (0) 512 2048 2560 (1) (256) 5120 rfl rfl).2
  have h10 : PT c cc0_scratch10 (box S2x256x7168 ![s, 0, 5120] ![1, 256, 2048]) f = iprop(PT c cc0_scratch10 (box S2x256x7168 ![s, 0, 512 * 10] S1x256x512.size) f ∗ PT c cc0_scratch10 (box S2x256x7168 ![s, 0, 5632] ![1, 256, 1536]) f) :=
    cut2 (bx32 5120 (s) (0) 512 1536 2048 (1) (256) 5632 rfl rfl).1 (bx32 5120 (s) (0) 512 1536 2048 (1) (256) 5632 rfl rfl).2
  have h11 : PT c cc0_scratch10 (box S2x256x7168 ![s, 0, 5632] ![1, 256, 1536]) f = iprop(PT c cc0_scratch10 (box S2x256x7168 ![s, 0, 512 * 11] S1x256x512.size) f ∗ PT c cc0_scratch10 (box S2x256x7168 ![s, 0, 6144] ![1, 256, 1024]) f) :=
    cut2 (bx32 5632 (s) (0) 512 1024 1536 (1) (256) 6144 rfl rfl).1 (bx32 5632 (s) (0) 512 1024 1536 (1) (256) 6144 rfl rfl).2
  have h12 : PT c cc0_scratch10 (box S2x256x7168 ![s, 0, 6144] ![1, 256, 1024]) f = iprop(PT c cc0_scratch10 (box S2x256x7168 ![s, 0, 512 * 12] S1x256x512.size) f ∗ PT c cc0_scratch10 (box S2x256x7168 ![s, 0, 512 * 13] S1x256x512.size) f) :=
    cut2 (bx32 6144 (s) (0) 512 512 1024 (1) (256) 6656 rfl rfl).1 (bx32 6144 (s) (0) 512 512 1024 (1) (256) 6656 rfl rfl).2
  rw [h0, h1, h2, h3, h4, h5, h6, h7, h8, h9, h10, h11, h12]

/-- A slot of the ring of `dx` in chunks of 512 columns. -/
theorem ch20A (s : ℕ) : PA (F := F) c cc0_scratch10 (box S2x256x7168 ![s, 0, 0] ![1, 256, 7168]) ⊢ iprop(PA (F := F) c cc0_scratch10 (box S2x256x7168 ![s, 0, 512 * 0] S1x256x512.size) ∗ PA (F := F) c cc0_scratch10 (box S2x256x7168 ![s, 0, 512 * 1] S1x256x512.size) ∗ PA (F := F) c cc0_scratch10 (box S2x256x7168 ![s, 0, 512 * 2] S1x256x512.size) ∗ PA (F := F) c cc0_scratch10 (box S2x256x7168 ![s, 0, 512 * 3] S1x256x512.size) ∗ PA (F := F) c cc0_scratch10 (box S2x256x7168 ![s, 0, 512 * 4] S1x256x512.size) ∗ PA (F := F) c cc0_scratch10 (box S2x256x7168 ![s, 0, 512 * 5] S1x256x512.size) ∗ PA (F := F) c cc0_scratch10 (box S2x256x7168 ![s, 0, 512 * 6] S1x256x512.size) ∗ PA (F := F) c cc0_scratch10 (box S2x256x7168 ![s, 0, 512 * 7] S1x256x512.size) ∗ PA (F := F) c cc0_scratch10 (box S2x256x7168 ![s, 0, 512 * 8] S1x256x512.size) ∗ PA (F := F) c cc0_scratch10 (box S2x256x7168 ![s, 0, 512 * 9] S1x256x512.size) ∗ PA (F := F) c cc0_scratch10 (box S2x256x7168 ![s, 0, 512 * 10] S1x256x512.size) ∗ PA (F := F) c cc0_scratch10 (box S2x256x7168 ![s, 0, 512 * 11] S1x256x512.size) ∗ PA (F := F) c cc0_scratch10 (box S2x256x7168 ![s, 0, 512 * 12] S1x256x512.size) ∗ PA (F := F) c cc0_scratch10 (box S2x256x7168 ![s, 0, 512 * 13] S1x256x512.size)) := by
  iintro ⟨%f, H⟩
  ihave H := (Entails.of_eq (ch20 (c := c) s f)) $$ H
  icases H with ⟨H0, H1, H2, H3, H4, H5, H6, H7, H8, H9, H10, H11, H12, H13⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  isplitl [H7]
  · iexists f; iexact H7
  isplitl [H8]
  · iexists f; iexact H8
  isplitl [H9]
  · iexists f; iexact H9
  isplitl [H10]
  · iexists f; iexact H10
  isplitl [H11]
  · iexists f; iexact H11
  isplitl [H12]
  · iexists f; iexact H12
  iexists f; iexact H13

/-- A ring in its two slots. -/
theorem sl16 (f : Buf (Elt F) ((c : Thread nD τ).loc cc0_scratch6)) :
    PT c cc0_scratch6 Finset.univ f = iprop(PT c cc0_scratch6 (box S2x256x256 ![0, 0, 0] S1x256x256.size) f ∗ PT c cc0_scratch6 (box S2x256x256 ![1, 0, 0] S1x256x256.size) f) := by
  rw [show (Finset.univ : Finset (Idx ((c : Thread nD τ).loc cc0_scratch6))) = (box S2x256x256 ![0, 0, 0] ![2, 256, 256]) from (box_univ (s := S2x256x256) (by decide) (by decide)).symm]
  have h0 : PT c cc0_scratch6 (box S2x256x256 ![0, 0, 0] ![2, 256, 256]) f = iprop(PT c cc0_scratch6 (box S2x256x256 ![0, 0, 0] S1x256x256.size) f ∗ PT c cc0_scratch6 (box S2x256x256 ![1, 0, 0] S1x256x256.size) f) :=
    cut2 (bx30 0 (0) (0) 1 1 2 (256) (256) 1 rfl rfl).1 (bx30 0 (0) (0) 1 1 2 (256) (256) 1 rfl rfl).2
  rw [h0]

/-- A ring in its two slots. -/
theorem sl16A : PA (F := F) c cc0_scratch6 Finset.univ ⊢ iprop(PA (F := F) c cc0_scratch6 (box S2x256x256 ![0, 0, 0] S1x256x256.size) ∗ PA (F := F) c cc0_scratch6 (box S2x256x256 ![1, 0, 0] S1x256x256.size)) := by
  iintro ⟨%f, H⟩
  ihave H := (Entails.of_eq (sl16 (c := c) f)) $$ H
  icases H with ⟨H0, H1⟩
  isplitl [H0]
  · iexists f; iexact H0
  iexists f; iexact H1

/-- A ring in its two slots. -/
theorem sl17 (f : Buf (Elt F) ((c : Thread nD τ).loc cc0_scratch7)) :
    PT c cc0_scratch7 Finset.univ f = iprop(PT c cc0_scratch7 (box S2x256x256 ![0, 0, 0] S1x256x256.size) f ∗ PT c cc0_scratch7 (box S2x256x256 ![1, 0, 0] S1x256x256.size) f) := by
  rw [show (Finset.univ : Finset (Idx ((c : Thread nD τ).loc cc0_scratch7))) = (box S2x256x256 ![0, 0, 0] ![2, 256, 256]) from (box_univ (s := S2x256x256) (by decide) (by decide)).symm]
  have h0 : PT c cc0_scratch7 (box S2x256x256 ![0, 0, 0] ![2, 256, 256]) f = iprop(PT c cc0_scratch7 (box S2x256x256 ![0, 0, 0] S1x256x256.size) f ∗ PT c cc0_scratch7 (box S2x256x256 ![1, 0, 0] S1x256x256.size) f) :=
    cut2 (bx30 0 (0) (0) 1 1 2 (256) (256) 1 rfl rfl).1 (bx30 0 (0) (0) 1 1 2 (256) (256) 1 rfl rfl).2
  rw [h0]

/-- A ring in its two slots. -/
theorem sl17A : PA (F := F) c cc0_scratch7 Finset.univ ⊢ iprop(PA (F := F) c cc0_scratch7 (box S2x256x256 ![0, 0, 0] S1x256x256.size) ∗ PA (F := F) c cc0_scratch7 (box S2x256x256 ![1, 0, 0] S1x256x256.size)) := by
  iintro ⟨%f, H⟩
  ihave H := (Entails.of_eq (sl17 (c := c) f)) $$ H
  icases H with ⟨H0, H1⟩
  isplitl [H0]
  · iexists f; iexact H0
  iexists f; iexact H1

/-- A slot in its two halves. -/
theorem hf17 (s : ℕ) (f : Buf (Elt F) ((c : Thread nD τ).loc cc0_scratch7)) :
    PT c cc0_scratch7 (box S2x256x256 ![s, 0, 0] ![1, 256, 256]) f = iprop(PT c cc0_scratch7 (box S2x256x256 ![s, 0, 0] S1x128x256.size) f ∗ PT c cc0_scratch7 (box S2x256x256 ![s, 128, 0] S1x128x256.size) f) := by
  have h0 : PT c cc0_scratch7 (box S2x256x256 ![s, 0, 0] ![1, 256, 256]) f = iprop(PT c cc0_scratch7 (box S2x256x256 ![s, 0, 0] S1x128x256.size) f ∗ PT c cc0_scratch7 (box S2x256x256 ![s, 128, 0] S1x128x256.size) f) :=
    cut2 (bx31 0 (s) (0) 128 128 256 (1) (256) 128 rfl rfl).1 (bx31 0 (s) (0) 128 128 256 (1) (256) 128 rfl rfl).2
  rw [h0]

/-- A slot in its two halves. -/
theorem hf17A (s : ℕ) : PA (F := F) c cc0_scratch7 (box S2x256x256 ![s, 0, 0] ![1, 256, 256]) ⊢ iprop(PA (F := F) c cc0_scratch7 (box S2x256x256 ![s, 0, 0] S1x128x256.size) ∗ PA (F := F) c cc0_scratch7 (box S2x256x256 ![s, 128, 0] S1x128x256.size)) := by
  iintro ⟨%f, H⟩
  ihave H := (Entails.of_eq (hf17 (c := c) s f)) $$ H
  icases H with ⟨H0, H1⟩
  isplitl [H0]
  · iexists f; iexact H0
  iexists f; iexact H1

/-- A ring in its two slots. -/
theorem sl18 (f : Buf (Elt F) ((c : Thread nD τ).loc cc0_scratch8)) :
    PT c cc0_scratch8 Finset.univ f = iprop(PT c cc0_scratch8 (box S2x256x128 ![0, 0, 0] S1x256x128.size) f ∗ PT c cc0_scratch8 (box S2x256x128 ![1, 0, 0] S1x256x128.size) f) := by
  rw [show (Finset.univ : Finset (Idx ((c : Thread nD τ).loc cc0_scratch8))) = (box S2x256x128 ![0, 0, 0] ![2, 256, 128]) from (box_univ (s := S2x256x128) (by decide) (by decide)).symm]
  have h0 : PT c cc0_scratch8 (box S2x256x128 ![0, 0, 0] ![2, 256, 128]) f = iprop(PT c cc0_scratch8 (box S2x256x128 ![0, 0, 0] S1x256x128.size) f ∗ PT c cc0_scratch8 (box S2x256x128 ![1, 0, 0] S1x256x128.size) f) :=
    cut2 (bx30 0 (0) (0) 1 1 2 (256) (128) 1 rfl rfl).1 (bx30 0 (0) (0) 1 1 2 (256) (128) 1 rfl rfl).2
  rw [h0]

/-- A ring in its two slots. -/
theorem sl18A : PA (F := F) c cc0_scratch8 Finset.univ ⊢ iprop(PA (F := F) c cc0_scratch8 (box S2x256x128 ![0, 0, 0] S1x256x128.size) ∗ PA (F := F) c cc0_scratch8 (box S2x256x128 ![1, 0, 0] S1x256x128.size)) := by
  iintro ⟨%f, H⟩
  ihave H := (Entails.of_eq (sl18 (c := c) f)) $$ H
  icases H with ⟨H0, H1⟩
  isplitl [H0]
  · iexists f; iexact H0
  iexists f; iexact H1

/-- A slot in its two halves. -/
theorem hf18 (s : ℕ) (f : Buf (Elt F) ((c : Thread nD τ).loc cc0_scratch8)) :
    PT c cc0_scratch8 (box S2x256x128 ![s, 0, 0] ![1, 256, 128]) f = iprop(PT c cc0_scratch8 (box S2x256x128 ![s, 0, 0] S1x128x128.size) f ∗ PT c cc0_scratch8 (box S2x256x128 ![s, 128, 0] S1x128x128.size) f) := by
  have h0 : PT c cc0_scratch8 (box S2x256x128 ![s, 0, 0] ![1, 256, 128]) f = iprop(PT c cc0_scratch8 (box S2x256x128 ![s, 0, 0] S1x128x128.size) f ∗ PT c cc0_scratch8 (box S2x256x128 ![s, 128, 0] S1x128x128.size) f) :=
    cut2 (bx31 0 (s) (0) 128 128 256 (1) (128) 128 rfl rfl).1 (bx31 0 (s) (0) 128 128 256 (1) (128) 128 rfl rfl).2
  rw [h0]

/-- A slot in its two halves. -/
theorem hf18A (s : ℕ) : PA (F := F) c cc0_scratch8 (box S2x256x128 ![s, 0, 0] ![1, 256, 128]) ⊢ iprop(PA (F := F) c cc0_scratch8 (box S2x256x128 ![s, 0, 0] S1x128x128.size) ∗ PA (F := F) c cc0_scratch8 (box S2x256x128 ![s, 128, 0] S1x128x128.size)) := by
  iintro ⟨%f, H⟩
  ihave H := (Entails.of_eq (hf18 (c := c) s f)) $$ H
  icases H with ⟨H0, H1⟩
  isplitl [H0]
  · iexists f; iexact H0
  iexists f; iexact H1

/-- A ring in its two slots. -/
theorem sl20 (f : Buf (Elt F) ((c : Thread nD τ).loc cc0_scratch10)) :
    PT c cc0_scratch10 Finset.univ f = iprop(PT c cc0_scratch10 (box S2x256x7168 ![0, 0, 0] S1x256x7168.size) f ∗ PT c cc0_scratch10 (box S2x256x7168 ![1, 0, 0] S1x256x7168.size) f) := by
  rw [show (Finset.univ : Finset (Idx ((c : Thread nD τ).loc cc0_scratch10))) = (box S2x256x7168 ![0, 0, 0] ![2, 256, 7168]) from (box_univ (s := S2x256x7168) (by decide) (by decide)).symm]
  have h0 : PT c cc0_scratch10 (box S2x256x7168 ![0, 0, 0] ![2, 256, 7168]) f = iprop(PT c cc0_scratch10 (box S2x256x7168 ![0, 0, 0] S1x256x7168.size) f ∗ PT c cc0_scratch10 (box S2x256x7168 ![1, 0, 0] S1x256x7168.size) f) :=
    cut2 (bx30 0 (0) (0) 1 1 2 (256) (7168) 1 rfl rfl).1 (bx30 0 (0) (0) 1 1 2 (256) (7168) 1 rfl rfl).2
  rw [h0]

/-- A ring in its two slots. -/
theorem sl20A : PA (F := F) c cc0_scratch10 Finset.univ ⊢ iprop(PA (F := F) c cc0_scratch10 (box S2x256x7168 ![0, 0, 0] S1x256x7168.size) ∗ PA (F := F) c cc0_scratch10 (box S2x256x7168 ![1, 0, 0] S1x256x7168.size)) := by
  iintro ⟨%f, H⟩
  ihave H := (Entails.of_eq (sl20 (c := c) f)) $$ H
  icases H with ⟨H0, H1⟩
  isplitl [H0]
  · iexists f; iexact H0
  iexists f; iexact H1

/-- 256 rows in two halves. -/
theorem row22 (n : ℕ) (f : Buf (Elt F) ((c : Thread nD τ).loc cc0_scratch12)) : PT c cc0_scratch12 (box S2048x256 ![256 * n, 0] S256x256.size) f
    = iprop(PT c cc0_scratch12 (box S2048x256 ![128 * (2 * n + 0), 0] S128x256.size) f ∗ PT c cc0_scratch12 (box S2048x256 ![128 * (2 * n + 1), 0] S128x256.size) f) := by
  have e : 128 * (2 * n + 0) = 256 * n := by omega
  rw [e]
  exact cut2 (bx20 (256 * n) 0 128 128 256 256 (128 * (2 * n + 1)) (by omega) rfl).1 (bx20 (256 * n) 0 128 128 256 256 (128 * (2 * n + 1)) (by omega) rfl).2

/-- 256 rows in two halves. -/
theorem row23 (n : ℕ) (f : Buf (Elt F) ((c : Thread nD τ).loc cc0_scratch13)) : PT c cc0_scratch13 (box S2048x256 ![256 * n, 0] S256x256.size) f
    = iprop(PT c cc0_scratch13 (box S2048x256 ![128 * (2 * n + 0), 0] S128x256.size) f ∗ PT c cc0_scratch13 (box S2048x256 ![128 * (2 * n + 1), 0] S128x256.size) f) := by
  have e : 128 * (2 * n + 0) = 256 * n := by omega
  rw [e]
  exact cut2 (bx20 (256 * n) 0 128 128 256 256 (128 * (2 * n + 1)) (by omega) rfl).1 (bx20 (256 * n) 0 128 128 256 256 (128 * (2 * n + 1)) (by omega) rfl).2

end

end Cert.Kernel.Hand
-- ==== Proof.Hand.Kernel.PartsB.lean ====
/- The parts of the body, run on what they read and write. -/
module

public import proofs.«01_k».proof.Proof.Hand.Kernel.Pieces

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

theorem part22 (c : Dev nD) {α : Type} {Q : α → sProp 𝕄} (K : (PUnit) → Prog (TpuEff nD τ sig (Elt F) Λ₀ .tc) α) :
    iprop(PT c main_arg2 (box S7168x256 ![0, 0] S1024x256.size) (X.w) ∗ PA c cc0_scratch1 (box S7168x256 ![0, 0] S1024x256.size) ∗ SV c (cell 0) ∗ PT c main_v0 (box S2048x7168 ![0, 0] S256x1024.size) (X.x) ∗ PA c cc0_scratch0 (box S2048x7168 ![0, 0] S256x1024.size) ∗ SV c (cell 7) ∗ PT c main_arg2 (box S7168x256 ![1024, 0] S1024x256.size) (X.w) ∗ PA c cc0_scratch1 (box S7168x256 ![1024, 0] S1024x256.size) ∗ SV c (cell 1) ∗ PT c main_v0 (box S2048x7168 ![0, 1024] S256x1024.size) (X.x) ∗ PA c cc0_scratch0 (box S2048x7168 ![0, 1024] S256x1024.size) ∗ SV c (cell 8) ∗ PT c main_arg2 (box S7168x256 ![2048, 0] S1024x256.size) (X.w) ∗ PA c cc0_scratch1 (box S7168x256 ![2048, 0] S1024x256.size) ∗ SV c (cell 2) ∗ PT c main_v0 (box S2048x7168 ![0, 2048] S256x1024.size) (X.x) ∗ PA c cc0_scratch0 (box S2048x7168 ![0, 2048] S256x1024.size) ∗ SV c (cell 9))
      ⊢ iprop((iprop(FL c (cell 0) N11 iprop(PT c cc0_scratch1 (box S7168x256 ![0, 0] S1024x256.size) (X.w) ∗ PT c main_arg2 (box S7168x256 ![0, 0] S1024x256.size) (X.w)) ∗ FL c (cell 7) N10p iprop(PT c cc0_scratch0 (box S2048x7168 ![0, 0] S256x1024.size) (X.x) ∗ PT c main_v0 (box S2048x7168 ![0, 0] S256x1024.size) (X.x)) ∗ FL c (cell 1) N11 iprop(PT c cc0_scratch1 (box S7168x256 ![1024, 0] S1024x256.size) (X.w) ∗ PT c main_arg2 (box S7168x256 ![1024, 0] S1024x256.size) (X.w)) ∗ FL c (cell 8) N10p iprop(PT c cc0_scratch0 (box S2048x7168 ![0, 1024] S256x1024.size) (X.x) ∗ PT c main_v0 (box S2048x7168 ![0, 1024] S256x1024.size) (X.x)) ∗ FL c (cell 2) N11 iprop(PT c cc0_scratch1 (box S7168x256 ![2048, 0] S1024x256.size) (X.w) ∗ PT c main_arg2 (box S7168x256 ![2048, 0] S1024x256.size) (X.w)) ∗ FL c (cell 9) N10p iprop(PT c cc0_scratch0 (box S2048x7168 ![0, 2048] S256x1024.size) (X.x) ∗ PT c main_v0 (box S2048x7168 ![0, 2048] S256x1024.size) (X.x))) -∗ WP c (K ⟨⟩) Q)
        -∗ WP c (At k0_part22 >>= K) Q) := by
  rw [k0_part22_eq_skeleton]
  unfold At k0_part22_skel
  simp only [bind_assoc, pure_bind]
  iintro ⟨s2_0, h11_0, v0, s0_0, h10_0, v7, s2_1, h11_1, v1, s0_1, h10_1, v8, s2_2, h11_2, v2, s0_2, h10_2, v9⟩ HK
  iapply (dma (c := c) (src := ((Memref.whole main_arg2).slice (Rect.unit (s := S7168x256) ![0, 0] S1024x256.size inb_S7168x256_S1024x256_0_0) (fun _ => rfl))) (dst := ((Memref.whole cc0_scratch1).slice (Rect.unit (s := S7168x256) ![0, 0] S1024x256.size inb_S7168x256_S1024x256_0_0) (fun _ => rfl))) (sm := ((cc0_scratch15.slice (Rect.unit (s := S7) ![0] S1.size inb_S7_S1_0)).squeeze S_ squeezes_S1_S_).sem) (cell 0) N11 (box S7168x256 ![0, 0] S1024x256.size) (box S7168x256 ![0, 0] S1024x256.size) X.w (fs := X.w) rfl rfl N11_pos (set_sl.trans (unit_set' rfl rfl)) (set_sl.trans (unit_set' rfl rfl)) rfl) $$ [s2_0 h11_0 v0]
  · iframe s2_0 h11_0 v0
  iintro f0
  iapply (dma (c := c) (src := ((Memref.whole main_v0).slice (Rect.unit (s := S2048x7168) ![0, 0] S256x1024.size inb_S2048x7168_S256x1024_0_0) (fun _ => rfl))) (dst := ((Memref.whole cc0_scratch0).slice (Rect.unit (s := S2048x7168) ![0, 0] S256x1024.size inb_S2048x7168_S256x1024_0_0) (fun _ => rfl))) (sm := ((cc0_scratch16.slice (Rect.unit (s := S7) ![0] S1.size inb_S7_S1_0)).squeeze S_ squeezes_S1_S_).sem) (cell 7) N10p (box S2048x7168 ![0, 0] S256x1024.size) (box S2048x7168 ![0, 0] S256x1024.size) X.x (fs := X.x) rfl rfl N10p_pos (set_sl.trans (unit_set' rfl rfl)) (set_sl.trans (unit_set' rfl rfl)) rfl) $$ [s0_0 h10_0 v7]
  · iframe s0_0 h10_0 v7
  iintro f7
  iapply (dma (c := c) (src := ((Memref.whole main_arg2).slice (Rect.unit (s := S7168x256) ![1024, 0] S1024x256.size inb_S7168x256_S1024x256_1024_0) (fun _ => rfl))) (dst := ((Memref.whole cc0_scratch1).slice (Rect.unit (s := S7168x256) ![1024, 0] S1024x256.size inb_S7168x256_S1024x256_1024_0) (fun _ => rfl))) (sm := ((cc0_scratch15.slice (Rect.unit (s := S7) ![1] S1.size inb_S7_S1_1)).squeeze S_ squeezes_S1_S_).sem) (cell 1) N11 (box S7168x256 ![1024, 0] S1024x256.size) (box S7168x256 ![1024, 0] S1024x256.size) X.w (fs := X.w) rfl rfl N11_pos (set_sl.trans (unit_set' rfl rfl)) (set_sl.trans (unit_set' rfl rfl)) rfl) $$ [s2_1 h11_1 v1]
  · iframe s2_1 h11_1 v1
  iintro f1
  iapply (dma (c := c) (src := ((Memref.whole main_v0).slice (Rect.unit (s := S2048x7168) ![0, 1024] S256x1024.size inb_S2048x7168_S256x1024_0_1024) (fun _ => rfl))) (dst := ((Memref.whole cc0_scratch0).slice (Rect.unit (s := S2048x7168) ![0, 1024] S256x1024.size inb_S2048x7168_S256x1024_0_1024) (fun _ => rfl))) (sm := ((cc0_scratch16.slice (Rect.unit (s := S7) ![1] S1.size inb_S7_S1_1)).squeeze S_ squeezes_S1_S_).sem) (cell 8) N10p (box S2048x7168 ![0, 1024] S256x1024.size) (box S2048x7168 ![0, 1024] S256x1024.size) X.x (fs := X.x) rfl rfl N10p_pos (set_sl.trans (unit_set' rfl rfl)) (set_sl.trans (unit_set' rfl rfl)) rfl) $$ [s0_1 h10_1 v8]
  · iframe s0_1 h10_1 v8
  iintro f8
  iapply (dma (c := c) (src := ((Memref.whole main_arg2).slice (Rect.unit (s := S7168x256) ![2048, 0] S1024x256.size inb_S7168x256_S1024x256_2048_0) (fun _ => rfl))) (dst := ((Memref.whole cc0_scratch1).slice (Rect.unit (s := S7168x256) ![2048, 0] S1024x256.size inb_S7168x256_S1024x256_2048_0) (fun _ => rfl))) (sm := ((cc0_scratch15.slice (Rect.unit (s := S7) ![2] S1.size inb_S7_S1_2)).squeeze S_ squeezes_S1_S_).sem) (cell 2) N11 (box S7168x256 ![2048, 0] S1024x256.size) (box S7168x256 ![2048, 0] S1024x256.size) X.w (fs := X.w) rfl rfl N11_pos (set_sl.trans (unit_set' rfl rfl)) (set_sl.trans (unit_set' rfl rfl)) rfl) $$ [s2_2 h11_2 v2]
  · iframe s2_2 h11_2 v2
  iintro f2
  iapply (dma (c := c) (src := ((Memref.whole main_v0).slice (Rect.unit (s := S2048x7168) ![0, 2048] S256x1024.size inb_S2048x7168_S256x1024_0_2048) (fun _ => rfl))) (dst := ((Memref.whole cc0_scratch0).slice (Rect.unit (s := S2048x7168) ![0, 2048] S256x1024.size inb_S2048x7168_S256x1024_0_2048) (fun _ => rfl))) (sm := ((cc0_scratch16.slice (Rect.unit (s := S7) ![2] S1.size inb_S7_S1_2)).squeeze S_ squeezes_S1_S_).sem) (cell 9) N10p (box S2048x7168 ![0, 2048] S256x1024.size) (box S2048x7168 ![0, 2048] S256x1024.size) X.x (fs := X.x) rfl rfl N10p_pos (set_sl.trans (unit_set' rfl rfl)) (set_sl.trans (unit_set' rfl rfl)) rfl) $$ [s0_2 h10_2 v9]
  · iframe s0_2 h10_2 v9
  iintro f9
  iapply HK
  iframe f0 f7 f1 f8 f2 f9

theorem part23 (c : Dev nD) {α : Type} {Q : α → sProp 𝕄} (K : (PUnit) → Prog (TpuEff nD τ sig (Elt F) Λ₀ .tc) α) :
    iprop(PT c main_arg2 (box S7168x256 ![3072, 0] S1024x256.size) (X.w) ∗ PA c cc0_scratch1 (box S7168x256 ![3072, 0] S1024x256.size) ∗ SV c (cell 3) ∗ PT c main_v0 (box S2048x7168 ![0, 3072] S256x1024.size) (X.x) ∗ PA c cc0_scratch0 (box S2048x7168 ![0, 3072] S256x1024.size) ∗ SV c (cell 10) ∗ PT c main_arg2 (box S7168x256 ![4096, 0] S1024x256.size) (X.w) ∗ PA c cc0_scratch1 (box S7168x256 ![4096, 0] S1024x256.size) ∗ SV c (cell 4) ∗ PT c main_v0 (box S2048x7168 ![0, 4096] S256x1024.size) (X.x) ∗ PA c cc0_scratch0 (box S2048x7168 ![0, 4096] S256x1024.size) ∗ SV c (cell 11) ∗ PT c main_arg2 (box S7168x256 ![5120, 0] S1024x256.size) (X.w) ∗ PA c cc0_scratch1 (box S7168x256 ![5120, 0] S1024x256.size) ∗ SV c (cell 5) ∗ PT c main_v0 (box S2048x7168 ![0, 5120] S256x1024.size) (X.x) ∗ PA c cc0_scratch0 (box S2048x7168 ![0, 5120] S256x1024.size) ∗ SV c (cell 12))
      ⊢ iprop((iprop(FL c (cell 3) N11 iprop(PT c cc0_scratch1 (box S7168x256 ![3072, 0] S1024x256.size) (X.w) ∗ PT c main_arg2 (box S7168x256 ![3072, 0] S1024x256.size) (X.w)) ∗ FL c (cell 10) N10p iprop(PT c cc0_scratch0 (box S2048x7168 ![0, 3072] S256x1024.size) (X.x) ∗ PT c main_v0 (box S2048x7168 ![0, 3072] S256x1024.size) (X.x)) ∗ FL c (cell 4) N11 iprop(PT c cc0_scratch1 (box S7168x256 ![4096, 0] S1024x256.size) (X.w) ∗ PT c main_arg2 (box S7168x256 ![4096, 0] S1024x256.size) (X.w)) ∗ FL c (cell 11) N10p iprop(PT c cc0_scratch0 (box S2048x7168 ![0, 4096] S256x1024.size) (X.x) ∗ PT c main_v0 (box S2048x7168 ![0, 4096] S256x1024.size) (X.x)) ∗ FL c (cell 5) N11 iprop(PT c cc0_scratch1 (box S7168x256 ![5120, 0] S1024x256.size) (X.w) ∗ PT c main_arg2 (box S7168x256 ![5120, 0] S1024x256.size) (X.w)) ∗ FL c (cell 12) N10p iprop(PT c cc0_scratch0 (box S2048x7168 ![0, 5120] S256x1024.size) (X.x) ∗ PT c main_v0 (box S2048x7168 ![0, 5120] S256x1024.size) (X.x))) -∗ WP c (K ⟨⟩) Q)
        -∗ WP c (At k0_part23 >>= K) Q) := by
  rw [k0_part23_eq_skeleton]
  unfold At k0_part23_skel
  simp only [bind_assoc, pure_bind]
  iintro ⟨s2_3, h11_3, v3, s0_3, h10_3, v10, s2_4, h11_4, v4, s0_4, h10_4, v11, s2_5, h11_5, v5, s0_5, h10_5, v12⟩ HK
  iapply (dma (c := c) (src := ((Memref.whole main_arg2).slice (Rect.unit (s := S7168x256) ![3072, 0] S1024x256.size inb_S7168x256_S1024x256_3072_0) (fun _ => rfl))) (dst := ((Memref.whole cc0_scratch1).slice (Rect.unit (s := S7168x256) ![3072, 0] S1024x256.size inb_S7168x256_S1024x256_3072_0) (fun _ => rfl))) (sm := ((cc0_scratch15.slice (Rect.unit (s := S7) ![3] S1.size inb_S7_S1_3)).squeeze S_ squeezes_S1_S_).sem) (cell 3) N11 (box S7168x256 ![3072, 0] S1024x256.size) (box S7168x256 ![3072, 0] S1024x256.size) X.w (fs := X.w) rfl rfl N11_pos (set_sl.trans (unit_set' rfl rfl)) (set_sl.trans (unit_set' rfl rfl)) rfl) $$ [s2_3 h11_3 v3]
  · iframe s2_3 h11_3 v3
  iintro f3
  iapply (dma (c := c) (src := ((Memref.whole main_v0).slice (Rect.unit (s := S2048x7168) ![0, 3072] S256x1024.size inb_S2048x7168_S256x1024_0_3072) (fun _ => rfl))) (dst := ((Memref.whole cc0_scratch0).slice (Rect.unit (s := S2048x7168) ![0, 3072] S256x1024.size inb_S2048x7168_S256x1024_0_3072) (fun _ => rfl))) (sm := ((cc0_scratch16.slice (Rect.unit (s := S7) ![3] S1.size inb_S7_S1_3)).squeeze S_ squeezes_S1_S_).sem) (cell 10) N10p (box S2048x7168 ![0, 3072] S256x1024.size) (box S2048x7168 ![0, 3072] S256x1024.size) X.x (fs := X.x) rfl rfl N10p_pos (set_sl.trans (unit_set' rfl rfl)) (set_sl.trans (unit_set' rfl rfl)) rfl) $$ [s0_3 h10_3 v10]
  · iframe s0_3 h10_3 v10
  iintro f10
  iapply (dma (c := c) (src := ((Memref.whole main_arg2).slice (Rect.unit (s := S7168x256) ![4096, 0] S1024x256.size inb_S7168x256_S1024x256_4096_0) (fun _ => rfl))) (dst := ((Memref.whole cc0_scratch1).slice (Rect.unit (s := S7168x256) ![4096, 0] S1024x256.size inb_S7168x256_S1024x256_4096_0) (fun _ => rfl))) (sm := ((cc0_scratch15.slice (Rect.unit (s := S7) ![4] S1.size inb_S7_S1_4)).squeeze S_ squeezes_S1_S_).sem) (cell 4) N11 (box S7168x256 ![4096, 0] S1024x256.size) (box S7168x256 ![4096, 0] S1024x256.size) X.w (fs := X.w) rfl rfl N11_pos (set_sl.trans (unit_set' rfl rfl)) (set_sl.trans (unit_set' rfl rfl)) rfl) $$ [s2_4 h11_4 v4]
  · iframe s2_4 h11_4 v4
  iintro f4
  iapply (dma (c := c) (src := ((Memref.whole main_v0).slice (Rect.unit (s := S2048x7168) ![0, 4096] S256x1024.size inb_S2048x7168_S256x1024_0_4096) (fun _ => rfl))) (dst := ((Memref.whole cc0_scratch0).slice (Rect.unit (s := S2048x7168) ![0, 4096] S256x1024.size inb_S2048x7168_S256x1024_0_4096) (fun _ => rfl))) (sm := ((cc0_scratch16.slice (Rect.unit (s := S7) ![4] S1.size inb_S7_S1_4)).squeeze S_ squeezes_S1_S_).sem) (cell 11) N10p (box S2048x7168 ![0, 4096] S256x1024.size) (box S2048x7168 ![0, 4096] S256x1024.size) X.x (fs := X.x) rfl rfl N10p_pos (set_sl.trans (unit_set' rfl rfl)) (set_sl.trans (unit_set' rfl rfl)) rfl) $$ [s0_4 h10_4 v11]
  · iframe s0_4 h10_4 v11
  iintro f11
  iapply (dma (c := c) (src := ((Memref.whole main_arg2).slice (Rect.unit (s := S7168x256) ![5120, 0] S1024x256.size inb_S7168x256_S1024x256_5120_0) (fun _ => rfl))) (dst := ((Memref.whole cc0_scratch1).slice (Rect.unit (s := S7168x256) ![5120, 0] S1024x256.size inb_S7168x256_S1024x256_5120_0) (fun _ => rfl))) (sm := ((cc0_scratch15.slice (Rect.unit (s := S7) ![5] S1.size inb_S7_S1_5)).squeeze S_ squeezes_S1_S_).sem) (cell 5) N11 (box S7168x256 ![5120, 0] S1024x256.size) (box S7168x256 ![5120, 0] S1024x256.size) X.w (fs := X.w) rfl rfl N11_pos (set_sl.trans (unit_set' rfl rfl)) (set_sl.trans (unit_set' rfl rfl)) rfl) $$ [s2_5 h11_5 v5]
  · iframe s2_5 h11_5 v5
  iintro f5
  iapply (dma (c := c) (src := ((Memref.whole main_v0).slice (Rect.unit (s := S2048x7168) ![0, 5120] S256x1024.size inb_S2048x7168_S256x1024_0_5120) (fun _ => rfl))) (dst := ((Memref.whole cc0_scratch0).slice (Rect.unit (s := S2048x7168) ![0, 5120] S256x1024.size inb_S2048x7168_S256x1024_0_5120) (fun _ => rfl))) (sm := ((cc0_scratch16.slice (Rect.unit (s := S7) ![5] S1.size inb_S7_S1_5)).squeeze S_ squeezes_S1_S_).sem) (cell 12) N10p (box S2048x7168 ![0, 5120] S256x1024.size) (box S2048x7168 ![0, 5120] S256x1024.size) X.x (fs := X.x) rfl rfl N10p_pos (set_sl.trans (unit_set' rfl rfl)) (set_sl.trans (unit_set' rfl rfl)) rfl) $$ [s0_5 h10_5 v12]
  · iframe s0_5 h10_5 v12
  iintro f12
  iapply HK
  iframe f3 f10 f4 f11 f5 f12

theorem part24 (c : Dev nD) {α : Type} {Q : α → sProp 𝕄} (K : (PUnit) → Prog (TpuEff nD τ sig (Elt F) Λ₀ .tc) α) :
    iprop(PT c main_arg2 (box S7168x256 ![6144, 0] S1024x256.size) (X.w) ∗ PA c cc0_scratch1 (box S7168x256 ![6144, 0] S1024x256.size) ∗ SV c (cell 6) ∗ PT c main_v0 (box S2048x7168 ![0, 6144] S256x1024.size) (X.x) ∗ PA c cc0_scratch0 (box S2048x7168 ![0, 6144] S256x1024.size) ∗ SV c (cell 13) ∗ PT c main_v1 Finset.univ (X.ids) ∗ PA c cc0_scratch3 Finset.univ ∗ SV c (cell 22) ∗ PT c main_v2 Finset.univ (X.dg) ∗ PA c cc0_scratch4 Finset.univ ∗ SV c (cell 23) ∗ PT c main_arg1 Finset.univ (X.xs) ∗ PA c cc0_scratch5 Finset.univ ∗ SV c (cell 24) ∗ PT c main_v0 (box S2048x7168 ![256 * 1, 0] S256x7168.size) (X.x) ∗ PA c cc0_scratch0 (box S2048x7168 ![256 * 1, 0] S256x7168.size) ∗ SV c (cell 15) ∗ PT c main_v0 (box S2048x7168 ![256 * 2, 0] S256x7168.size) (X.x) ∗ PA c cc0_scratch0 (box S2048x7168 ![256 * 2, 0] S256x7168.size) ∗ SV c (cell 16))
      ⊢ iprop((iprop(FL c (cell 6) N11 iprop(PT c cc0_scratch1 (box S7168x256 ![6144, 0] S1024x256.size) (X.w) ∗ PT c main_arg2 (box S7168x256 ![6144, 0] S1024x256.size) (X.w)) ∗ FL c (cell 13) N10p iprop(PT c cc0_scratch0 (box S2048x7168 ![0, 6144] S256x1024.size) (X.x) ∗ PT c main_v0 (box S2048x7168 ![0, 6144] S256x1024.size) (X.x)) ∗ FL c (cell 22) N13 iprop(PT c cc0_scratch3 Finset.univ (X.ids) ∗ PT c main_v1 Finset.univ (X.ids)) ∗ FL c (cell 23) N14 iprop(PT c cc0_scratch4 Finset.univ (X.dg) ∗ PT c main_v2 Finset.univ (X.dg)) ∗ FL c (cell 24) N15 iprop(PT c cc0_scratch5 Finset.univ (X.xs) ∗ PT c main_arg1 Finset.univ (X.xs)) ∗ FL c (cell 15) N10 iprop(PT c cc0_scratch0 (box S2048x7168 ![256 * 1, 0] S256x7168.size) (X.x) ∗ PT c main_v0 (box S2048x7168 ![256 * 1, 0] S256x7168.size) (X.x)) ∗ FL c (cell 16) N10 iprop(PT c cc0_scratch0 (box S2048x7168 ![256 * 2, 0] S256x7168.size) (X.x) ∗ PT c main_v0 (box S2048x7168 ![256 * 2, 0] S256x7168.size) (X.x))) -∗ WP c (K ⟨⟩) Q)
        -∗ WP c (At k0_part24 >>= K) Q) := by
  rw [k0_part24_eq_skeleton]
  unfold At k0_part24_skel
  simp only [bind_assoc, pure_bind]
  iintro ⟨s2_6, h11_6, v6, s0_6, h10_6, v13, s3, h13, v22, s4, h14, v23, s1, h15, v24, sx_1, hx_1, v15, sx_2, hx_2, v16⟩ HK
  iapply (dma (c := c) (src := ((Memref.whole main_arg2).slice (Rect.unit (s := S7168x256) ![6144, 0] S1024x256.size inb_S7168x256_S1024x256_6144_0) (fun _ => rfl))) (dst := ((Memref.whole cc0_scratch1).slice (Rect.unit (s := S7168x256) ![6144, 0] S1024x256.size inb_S7168x256_S1024x256_6144_0) (fun _ => rfl))) (sm := ((cc0_scratch15.slice (Rect.unit (s := S7) ![6] S1.size inb_S7_S1_6)).squeeze S_ squeezes_S1_S_).sem) (cell 6) N11 (box S7168x256 ![6144, 0] S1024x256.size) (box S7168x256 ![6144, 0] S1024x256.size) X.w (fs := X.w) rfl rfl N11_pos (set_sl.trans (unit_set' rfl rfl)) (set_sl.trans (unit_set' rfl rfl)) rfl) $$ [s2_6 h11_6 v6]
  · iframe s2_6 h11_6 v6
  iintro f6
  iapply (dma (c := c) (src := ((Memref.whole main_v0).slice (Rect.unit (s := S2048x7168) ![0, 6144] S256x1024.size inb_S2048x7168_S256x1024_0_6144) (fun _ => rfl))) (dst := ((Memref.whole cc0_scratch0).slice (Rect.unit (s := S2048x7168) ![0, 6144] S256x1024.size inb_S2048x7168_S256x1024_0_6144) (fun _ => rfl))) (sm := ((cc0_scratch16.slice (Rect.unit (s := S7) ![6] S1.size inb_S7_S1_6)).squeeze S_ squeezes_S1_S_).sem) (cell 13) N10p (box S2048x7168 ![0, 6144] S256x1024.size) (box S2048x7168 ![0, 6144] S256x1024.size) X.x (fs := X.x) rfl rfl N10p_pos (set_sl.trans (unit_set' rfl rfl)) (set_sl.trans (unit_set' rfl rfl)) rfl) $$ [s0_6 h10_6 v13]
  · iframe s0_6 h10_6 v13
  iintro f13
  iapply (dma (c := c) (src := (Memref.whole main_v1)) (dst := (Memref.whole cc0_scratch3)) (sm := ((cc0_scratch18.slice (Rect.unit (s := S3) ![0] S1.size inb_S3_S1_0)).squeeze S_ squeezes_S1_S_).sem) (cell 22) N13 Finset.univ Finset.univ X.ids (fs := X.ids) rfl rfl N13_pos set_wh set_wh rfl) $$ [s3 h13 v22]
  · iframe s3 h13 v22
  iintro f22
  iapply (dma (c := c) (src := (Memref.whole main_v2)) (dst := (Memref.whole cc0_scratch4)) (sm := ((cc0_scratch18.slice (Rect.unit (s := S3) ![1] S1.size inb_S3_S1_1)).squeeze S_ squeezes_S1_S_).sem) (cell 23) N14 Finset.univ Finset.univ X.dg (fs := X.dg) rfl rfl N14_pos set_wh set_wh rfl) $$ [s4 h14 v23]
  · iframe s4 h14 v23
  iintro f23
  iapply (dma (c := c) (src := (Memref.whole main_arg1)) (dst := (Memref.whole cc0_scratch5)) (sm := ((cc0_scratch18.slice (Rect.unit (s := S3) ![2] S1.size inb_S3_S1_2)).squeeze S_ squeezes_S1_S_).sem) (cell 24) N15 Finset.univ Finset.univ X.xs (fs := X.xs) rfl rfl N15_pos set_wh set_wh rfl) $$ [s1 h15 v24]
  · iframe s1 h15 v24
  iintro f24
  iapply (dma (c := c) (src := ((Memref.whole main_v0).slice (Rect.unit (s := S2048x7168) ![256, 0] S256x7168.size inb_S2048x7168_S256x7168_256_0) (fun _ => rfl))) (dst := ((Memref.whole cc0_scratch0).slice (Rect.unit (s := S2048x7168) ![256, 0] S256x7168.size inb_S2048x7168_S256x7168_256_0) (fun _ => rfl))) (sm := ((cc0_scratch17.slice (Rect.unit (s := S8) ![1] S1.size inb_S8_S1_1)).squeeze S_ squeezes_S1_S_).sem) (cell 15) N10 (box S2048x7168 ![256 * 1, 0] S256x7168.size) (box S2048x7168 ![256 * 1, 0] S256x7168.size) X.x (fs := X.x) rfl rfl N10_pos (set_sl.trans (unit_set' rfl rfl)) (set_sl.trans (unit_set' rfl rfl)) rfl) $$ [sx_1 hx_1 v15]
  · iframe sx_1 hx_1 v15
  iintro f15
  iapply (dma (c := c) (src := ((Memref.whole main_v0).slice (Rect.unit (s := S2048x7168) ![512, 0] S256x7168.size inb_S2048x7168_S256x7168_512_0) (fun _ => rfl))) (dst := ((Memref.whole cc0_scratch0).slice (Rect.unit (s := S2048x7168) ![512, 0] S256x7168.size inb_S2048x7168_S256x7168_512_0) (fun _ => rfl))) (sm := ((cc0_scratch17.slice (Rect.unit (s := S8) ![2] S1.size inb_S8_S1_2)).squeeze S_ squeezes_S1_S_).sem) (cell 16) N10 (box S2048x7168 ![256 * 2, 0] S256x7168.size) (box S2048x7168 ![256 * 2, 0] S256x7168.size) X.x (fs := X.x) rfl rfl N10_pos (set_sl.trans (unit_set' rfl rfl)) (set_sl.trans (unit_set' rfl rfl)) rfl) $$ [sx_2 hx_2 v16]
  · iframe sx_2 hx_2 v16
  iintro f16
  iapply HK
  iframe f6 f13 f22 f23 f24 f15 f16

theorem part25 (c : Dev nD) {α : Type} {Q : α → sProp 𝕄} (K : (PUnit) → Prog (TpuEff nD τ sig (Elt F) Λ₀ .tc) α) :
    iprop(PT c main_v0 (box S2048x7168 ![256 * 3, 0] S256x7168.size) (X.x) ∗ PA c cc0_scratch0 (box S2048x7168 ![256 * 3, 0] S256x7168.size) ∗ SV c (cell 17) ∗ PT c main_v0 (box S2048x7168 ![256 * 4, 0] S256x7168.size) (X.x) ∗ PA c cc0_scratch0 (box S2048x7168 ![256 * 4, 0] S256x7168.size) ∗ SV c (cell 18) ∗ PT c main_v0 (box S2048x7168 ![256 * 5, 0] S256x7168.size) (X.x) ∗ PA c cc0_scratch0 (box S2048x7168 ![256 * 5, 0] S256x7168.size) ∗ SV c (cell 19) ∗ PT c main_v0 (box S2048x7168 ![256 * 6, 0] S256x7168.size) (X.x) ∗ PA c cc0_scratch0 (box S2048x7168 ![256 * 6, 0] S256x7168.size) ∗ SV c (cell 20) ∗ PT c main_v0 (box S2048x7168 ![256 * 7, 0] S256x7168.size) (X.x) ∗ PA c cc0_scratch0 (box S2048x7168 ![256 * 7, 0] S256x7168.size) ∗ SV c (cell 21))
      ⊢ iprop((iprop(FL c (cell 17) N10 iprop(PT c cc0_scratch0 (box S2048x7168 ![256 * 3, 0] S256x7168.size) (X.x) ∗ PT c main_v0 (box S2048x7168 ![256 * 3, 0] S256x7168.size) (X.x)) ∗ FL c (cell 18) N10 iprop(PT c cc0_scratch0 (box S2048x7168 ![256 * 4, 0] S256x7168.size) (X.x) ∗ PT c main_v0 (box S2048x7168 ![256 * 4, 0] S256x7168.size) (X.x)) ∗ FL c (cell 19) N10 iprop(PT c cc0_scratch0 (box S2048x7168 ![256 * 5, 0] S256x7168.size) (X.x) ∗ PT c main_v0 (box S2048x7168 ![256 * 5, 0] S256x7168.size) (X.x)) ∗ FL c (cell 20) N10 iprop(PT c cc0_scratch0 (box S2048x7168 ![256 * 6, 0] S256x7168.size) (X.x) ∗ PT c main_v0 (box S2048x7168 ![256 * 6, 0] S256x7168.size) (X.x)) ∗ FL c (cell 21) N10 iprop(PT c cc0_scratch0 (box S2048x7168 ![256 * 7, 0] S256x7168.size) (X.x) ∗ PT c main_v0 (box S2048x7168 ![256 * 7, 0] S256x7168.size) (X.x))) -∗ WP c (K ⟨⟩) Q)
        -∗ WP c (At k0_part25 >>= K) Q) := by
  rw [k0_part25_eq_skeleton]
  unfold At k0_part25_skel
  simp only [bind_assoc, pure_bind]
  iintro ⟨sx_3, hx_3, v17, sx_4, hx_4, v18, sx_5, hx_5, v19, sx_6, hx_6, v20, sx_7, hx_7, v21⟩ HK
  iapply (dma (c := c) (src := ((Memref.whole main_v0).slice (Rect.unit (s := S2048x7168) ![768, 0] S256x7168.size inb_S2048x7168_S256x7168_768_0) (fun _ => rfl))) (dst := ((Memref.whole cc0_scratch0).slice (Rect.unit (s := S2048x7168) ![768, 0] S256x7168.size inb_S2048x7168_S256x7168_768_0) (fun _ => rfl))) (sm := ((cc0_scratch17.slice (Rect.unit (s := S8) ![3] S1.size inb_S8_S1_3)).squeeze S_ squeezes_S1_S_).sem) (cell 17) N10 (box S2048x7168 ![256 * 3, 0] S256x7168.size) (box S2048x7168 ![256 * 3, 0] S256x7168.size) X.x (fs := X.x) rfl rfl N10_pos (set_sl.trans (unit_set' rfl rfl)) (set_sl.trans (unit_set' rfl rfl)) rfl) $$ [sx_3 hx_3 v17]
  · iframe sx_3 hx_3 v17
  iintro f17
  iapply (dma (c := c) (src := ((Memref.whole main_v0).slice (Rect.unit (s := S2048x7168) ![1024, 0] S256x7168.size inb_S2048x7168_S256x7168_1024_0) (fun _ => rfl))) (dst := ((Memref.whole cc0_scratch0).slice (Rect.unit (s := S2048x7168) ![1024, 0] S256x7168.size inb_S2048x7168_S256x7168_1024_0) (fun _ => rfl))) (sm := ((cc0_scratch17.slice (Rect.unit (s := S8) ![4] S1.size inb_S8_S1_4)).squeeze S_ squeezes_S1_S_).sem) (cell 18) N10 (box S2048x7168 ![256 * 4, 0] S256x7168.size) (box S2048x7168 ![256 * 4, 0] S256x7168.size) X.x (fs := X.x) rfl rfl N10_pos (set_sl.trans (unit_set' rfl rfl)) (set_sl.trans (unit_set' rfl rfl)) rfl) $$ [sx_4 hx_4 v18]
  · iframe sx_4 hx_4 v18
  iintro f18
  iapply (dma (c := c) (src := ((Memref.whole main_v0).slice (Rect.unit (s := S2048x7168) ![1280, 0] S256x7168.size inb_S2048x7168_S256x7168_1280_0) (fun _ => rfl))) (dst := ((Memref.whole cc0_scratch0).slice (Rect.unit (s := S2048x7168) ![1280, 0] S256x7168.size inb_S2048x7168_S256x7168_1280_0) (fun _ => rfl))) (sm := ((cc0_scratch17.slice (Rect.unit (s := S8) ![5] S1.size inb_S8_S1_5)).squeeze S_ squeezes_S1_S_).sem) (cell 19) N10 (box S2048x7168 ![256 * 5, 0] S256x7168.size) (box S2048x7168 ![256 * 5, 0] S256x7168.size) X.x (fs := X.x) rfl rfl N10_pos (set_sl.trans (unit_set' rfl rfl)) (set_sl.trans (unit_set' rfl rfl)) rfl) $$ [sx_5 hx_5 v19]
  · iframe sx_5 hx_5 v19
  iintro f19
  iapply (dma (c := c) (src := ((Memref.whole main_v0).slice (Rect.unit (s := S2048x7168) ![1536, 0] S256x7168.size inb_S2048x7168_S256x7168_1536_0) (fun _ => rfl))) (dst := ((Memref.whole cc0_scratch0).slice (Rect.unit (s := S2048x7168) ![1536, 0] S256x7168.size inb_S2048x7168_S256x7168_1536_0) (fun _ => rfl))) (sm := ((cc0_scratch17.slice (Rect.unit (s := S8) ![6] S1.size inb_S8_S1_6)).squeeze S_ squeezes_S1_S_).sem) (cell 20) N10 (box S2048x7168 ![256 * 6, 0] S256x7168.size) (box S2048x7168 ![256 * 6, 0] S256x7168.size) X.x (fs := X.x) rfl rfl N10_pos (set_sl.trans (unit_set' rfl rfl)) (set_sl.trans (unit_set' rfl rfl)) rfl) $$ [sx_6 hx_6 v20]
  · iframe sx_6 hx_6 v20
  iintro f20
  iapply (dma (c := c) (src := ((Memref.whole main_v0).slice (Rect.unit (s := S2048x7168) ![1792, 0] S256x7168.size inb_S2048x7168_S256x7168_1792_0) (fun _ => rfl))) (dst := ((Memref.whole cc0_scratch0).slice (Rect.unit (s := S2048x7168) ![1792, 0] S256x7168.size inb_S2048x7168_S256x7168_1792_0) (fun _ => rfl))) (sm := ((cc0_scratch17.slice (Rect.unit (s := S8) ![7] S1.size inb_S8_S1_7)).squeeze S_ squeezes_S1_S_).sem) (cell 21) N10 (box S2048x7168 ![256 * 7, 0] S256x7168.size) (box S2048x7168 ![256 * 7, 0] S256x7168.size) X.x (fs := X.x) rfl rfl N10_pos (set_sl.trans (unit_set' rfl rfl)) (set_sl.trans (unit_set' rfl rfl)) rfl) $$ [sx_7 hx_7 v21]
  · iframe sx_7 hx_7 v21
  iintro f21
  iapply HK
  iframe f17 f18 f19 f20 f21

theorem part26 (c : Dev nD) {α : Type} {Q : α → sProp 𝕄} (K : (Σ' (v118 : FVec F S256x256 .f32) (v128 : FVec F S256x1024 .bf16), FVec F S256x1024 .bf16) → Prog (TpuEff nD τ sig (Elt F) Λ₀ .tc) α) :
    iprop(Ow c ∗ FL c (cell 0) N11 iprop(PT c cc0_scratch1 (box S7168x256 ![0, 0] S1024x256.size) (X.w) ∗ PT c main_arg2 (box S7168x256 ![0, 0] S1024x256.size) (X.w)) ∗ FL c (cell 7) N10p iprop(PT c cc0_scratch0 (box S2048x7168 ![0, 0] S256x1024.size) (X.x) ∗ PT c main_v0 (box S2048x7168 ![0, 0] S256x1024.size) (X.x)) ∗ PA c cc0_scratch2 (box S256x7168 ![0, 0] S256x1024.size) ∗ FL c (cell 1) N11 iprop(PT c cc0_scratch1 (box S7168x256 ![1024, 0] S1024x256.size) (X.w) ∗ PT c main_arg2 (box S7168x256 ![1024, 0] S1024x256.size) (X.w)) ∗ FL c (cell 8) N10p iprop(PT c cc0_scratch0 (box S2048x7168 ![0, 1024] S256x1024.size) (X.x) ∗ PT c main_v0 (box S2048x7168 ![0, 1024] S256x1024.size) (X.x)) ∗ PA c cc0_scratch2 (box S256x7168 ![0, 1024] S256x1024.size))
      ⊢ iprop((iprop(Ow c ∗ PT c cc0_scratch1 (box S7168x256 ![0, 0] S1024x256.size) (X.w) ∗ PT c main_arg2 (box S7168x256 ![0, 0] S1024x256.size) (X.w) ∗ SV c (cell 0) ∗ PT c cc0_scratch0 (box S2048x7168 ![0, 0] S256x1024.size) (X.x) ∗ PT c main_v0 (box S2048x7168 ![0, 0] S256x1024.size) (X.x) ∗ SV c (cell 7) ∗ PT c cc0_scratch2 (box S256x7168 ![0, 0] S256x1024.size) (G12 X) ∗ PT c cc0_scratch1 (box S7168x256 ![1024, 0] S1024x256.size) (X.w) ∗ PT c main_arg2 (box S7168x256 ![1024, 0] S1024x256.size) (X.w) ∗ SV c (cell 1) ∗ PT c cc0_scratch0 (box S2048x7168 ![0, 1024] S256x1024.size) (X.x) ∗ PT c main_v0 (box S2048x7168 ![0, 1024] S256x1024.size) (X.x) ∗ SV c (cell 8) ∗ PA c cc0_scratch2 (box S256x7168 ![0, 1024] S256x1024.size)) -∗ WP c (K ⟨(s_v118 (inP X)), (s_v128 (inP X)), (s_v131 (inP X))⟩) Q)
        -∗ WP c (At k0_part26 >>= K) Q) := by
  rw [k0_part26_eq_skeleton]
  unfold At k0_part26_skel
  simp only [bind_assoc, pure_bind]
  iintro ⟨hO, f0, f7, h12_0, f1, f8, h12_1⟩ HK
  iapply (wt (c := c) (cell 0) (N := N11) rfl rfl) $$ [f0 hO]
  · iframe f0 hO
  iintro ⟨⟨h11_0, s2_0⟩, v0, hO⟩
  iapply (wt (c := c) (cell 7) (N := N10p) rfl rfl) $$ [f7 hO]
  · iframe f7 hO
  iintro ⟨⟨h10_0, s0_0⟩, v7, hO⟩
  iapply (ld (c := c) (i := 1) (hκ := rfl) (S := (box S7168x256 ![0, 0] S1024x256.size)) (f := X.w) (s_v112 (inP X)) (unit_set' rfl rfl).subset (fun j => r11p X 0 rfl j)) $$ h11_0
  iintro h11_0
  iapply (ldd (c := c) (i := 2) (hκ := rfl) (S := (box S256x7168 ![0, 0] S256x1024.size)) (unit_set' rfl rfl).subset) $$ h12_0
  iintro h12_0
  iapply (st (c := c) (i := 2) (hκ := rfl) (S := (box S256x7168 ![0, 0] S256x1024.size)) (w := o_26_0 (inP X)) (G12 X) (unit_set' rfl rfl) (fun j => (w12 X 0 rfl j).trans (congrFun (same_o_26_0 (inP X)).symm j))) $$ h12_0
  iintro h12_0
  iapply (ld (c := c) (i := 0) (hκ := rfl) (S := (box S2048x7168 ![0, 0] S256x1024.size)) (f := X.x) (s_v117 (inP X)) (unit_set' rfl rfl).subset (fun j => r10p X 0 rfl j)) $$ h10_0
  iintro h10_0
  iapply (wt (c := c) (cell 1) (N := N11) rfl rfl) $$ [f1 hO]
  · iframe f1 hO
  iintro ⟨⟨h11_1, s2_1⟩, v1, hO⟩
  iapply (wt (c := c) (cell 8) (N := N10p) rfl rfl) $$ [f8 hO]
  · iframe f8 hO
  iintro ⟨⟨h10_1, s0_1⟩, v8, hO⟩
  iapply (ld (c := c) (i := 1) (hκ := rfl) (S := (box S7168x256 ![1024, 0] S1024x256.size)) (f := X.w) (s_v127 (inP X)) (unit_set' rfl rfl).subset (fun j => r11p X 1 rfl j)) $$ h11_1
  iintro h11_1
  iapply (ldd (c := c) (i := 2) (hκ := rfl) (S := (box S256x7168 ![0, 1024] S256x1024.size)) (unit_set' rfl rfl).subset) $$ h12_1
  iintro h12_1
  iapply HK
  iframe hO h11_0 s2_0 v0 h10_0 s0_0 v7 h12_0 h11_1 s2_1 v1 h10_1 s0_1 v8 h12_1

theorem part27 (c : Dev nD) {α : Type} {Q : α → sProp 𝕄} (K : (FVec F S256x256 .f32) → Prog (TpuEff nD τ sig (Elt F) Λ₀ .tc) α) :
    iprop(PA c cc0_scratch2 (box S256x7168 ![0, 1024] S256x1024.size) ∗ PT c cc0_scratch0 (box S2048x7168 ![0, 1024] S256x1024.size) (X.x) ∗ Ow c ∗ FL c (cell 2) N11 iprop(PT c cc0_scratch1 (box S7168x256 ![2048, 0] S1024x256.size) (X.w) ∗ PT c main_arg2 (box S7168x256 ![2048, 0] S1024x256.size) (X.w)) ∗ FL c (cell 9) N10p iprop(PT c cc0_scratch0 (box S2048x7168 ![0, 2048] S256x1024.size) (X.x) ∗ PT c main_v0 (box S2048x7168 ![0, 2048] S256x1024.size) (X.x)) ∗ PA c cc0_scratch2 (box S256x7168 ![0, 2048] S256x1024.size) ∗ FL c (cell 3) N11 iprop(PT c cc0_scratch1 (box S7168x256 ![3072, 0] S1024x256.size) (X.w) ∗ PT c main_arg2 (box S7168x256 ![3072, 0] S1024x256.size) (X.w)))
      ⊢ iprop((iprop(PT c cc0_scratch2 (box S256x7168 ![0, 1024] S256x1024.size) (G12 X) ∗ PT c cc0_scratch0 (box S2048x7168 ![0, 1024] S256x1024.size) (X.x) ∗ Ow c ∗ PT c cc0_scratch1 (box S7168x256 ![2048, 0] S1024x256.size) (X.w) ∗ PT c main_arg2 (box S7168x256 ![2048, 0] S1024x256.size) (X.w) ∗ SV c (cell 2) ∗ PT c cc0_scratch0 (box S2048x7168 ![0, 2048] S256x1024.size) (X.x) ∗ PT c main_v0 (box S2048x7168 ![0, 2048] S256x1024.size) (X.x) ∗ SV c (cell 9) ∗ PT c cc0_scratch2 (box S256x7168 ![0, 2048] S256x1024.size) (G12 X) ∗ PT c cc0_scratch1 (box S7168x256 ![3072, 0] S1024x256.size) (X.w) ∗ PT c main_arg2 (box S7168x256 ![3072, 0] S1024x256.size) (X.w) ∗ SV c (cell 3)) -∗ WP c (K (s_v150 (inP X))) Q)
        -∗ WP c (At k0_part27 (s_v118 (inP X)) (s_v128 (inP X)) (s_v131 (inP X)) >>= K) Q) := by
  rw [k0_part27_eq_skeleton]
  unfold At k0_part27_skel
  simp only [bind_assoc, pure_bind]
  iintro ⟨h12_1, h10_1, hO, f2, f9, h12_2, f3⟩ HK
  iapply (st (c := c) (i := 2) (hκ := rfl) (S := (box S256x7168 ![0, 1024] S256x1024.size)) (w := o_27_0 (inP X)) (G12 X) (unit_set' rfl rfl) (fun j => (w12 X 1 rfl j).trans (congrFun (same_o_27_0 (inP X)).symm j))) $$ h12_1
  iintro h12_1
  iapply (ld (c := c) (i := 0) (hκ := rfl) (S := (box S2048x7168 ![0, 1024] S256x1024.size)) (f := X.x) (s_v132 (inP X)) (unit_set' rfl rfl).subset (fun j => r10p X 1 rfl j)) $$ h10_1
  iintro h10_1
  iapply (wt (c := c) (cell 2) (N := N11) rfl rfl) $$ [f2 hO]
  · iframe f2 hO
  iintro ⟨⟨h11_2, s2_2⟩, v2, hO⟩
  iapply (wt (c := c) (cell 9) (N := N10p) rfl rfl) $$ [f9 hO]
  · iframe f9 hO
  iintro ⟨⟨h10_2, s0_2⟩, v9, hO⟩
  iapply (ld (c := c) (i := 1) (hκ := rfl) (S := (box S7168x256 ![2048, 0] S1024x256.size)) (f := X.w) (s_v143 (inP X)) (unit_set' rfl rfl).subset (fun j => r11p X 2 rfl j)) $$ h11_2
  iintro h11_2
  iapply (ldd (c := c) (i := 2) (hκ := rfl) (S := (box S256x7168 ![0, 2048] S256x1024.size)) (unit_set' rfl rfl).subset) $$ h12_2
  iintro h12_2
  iapply (st (c := c) (i := 2) (hκ := rfl) (S := (box S256x7168 ![0, 2048] S256x1024.size)) (w := o_27_1 (inP X)) (G12 X) (unit_set' rfl rfl) (fun j => (w12 X 2 rfl j).trans (congrFun (same_o_27_1 (inP X)).symm j))) $$ h12_2
  iintro h12_2
  iapply (ld (c := c) (i := 0) (hκ := rfl) (S := (box S2048x7168 ![0, 2048] S256x1024.size)) (f := X.x) (s_v148 (inP X)) (unit_set' rfl rfl).subset (fun j => r10p X 2 rfl j)) $$ h10_2
  iintro h10_2
  iapply (wt (c := c) (cell 3) (N := N11) rfl rfl) $$ [f3 hO]
  · iframe f3 hO
  iintro ⟨⟨h11_3, s2_3⟩, v3, hO⟩
  iapply HK
  iframe h12_1 h10_1 hO h11_2 s2_2 v2 h10_2 s0_2 v9 h12_2 h11_3 s2_3 v3

theorem part28 (c : Dev nD) {α : Type} {Q : α → sProp 𝕄} (K : (FVec F S256x256 .f32) → Prog (TpuEff nD τ sig (Elt F) Λ₀ .tc) α) :
    iprop(Ow c ∗ FL c (cell 10) N10p iprop(PT c cc0_scratch0 (box S2048x7168 ![0, 3072] S256x1024.size) (X.x) ∗ PT c main_v0 (box S2048x7168 ![0, 3072] S256x1024.size) (X.x)) ∗ PT c cc0_scratch1 (box S7168x256 ![3072, 0] S1024x256.size) (X.w) ∗ PA c cc0_scratch2 (box S256x7168 ![0, 3072] S256x1024.size) ∗ FL c (cell 4) N11 iprop(PT c cc0_scratch1 (box S7168x256 ![4096, 0] S1024x256.size) (X.w) ∗ PT c main_arg2 (box S7168x256 ![4096, 0] S1024x256.size) (X.w)) ∗ FL c (cell 11) N10p iprop(PT c cc0_scratch0 (box S2048x7168 ![0, 4096] S256x1024.size) (X.x) ∗ PT c main_v0 (box S2048x7168 ![0, 4096] S256x1024.size) (X.x)) ∗ PA c cc0_scratch2 (box S256x7168 ![0, 4096] S256x1024.size))
      ⊢ iprop((iprop(Ow c ∗ PT c cc0_scratch0 (box S2048x7168 ![0, 3072] S256x1024.size) (X.x) ∗ PT c main_v0 (box S2048x7168 ![0, 3072] S256x1024.size) (X.x) ∗ SV c (cell 10) ∗ PT c cc0_scratch1 (box S7168x256 ![3072, 0] S1024x256.size) (X.w) ∗ PT c cc0_scratch2 (box S256x7168 ![0, 3072] S256x1024.size) (G12 X) ∗ PT c cc0_scratch1 (box S7168x256 ![4096, 0] S1024x256.size) (X.w) ∗ PT c main_arg2 (box S7168x256 ![4096, 0] S1024x256.size) (X.w) ∗ SV c (cell 4) ∗ PT c cc0_scratch0 (box S2048x7168 ![0, 4096] S256x1024.size) (X.x) ∗ PT c main_v0 (box S2048x7168 ![0, 4096] S256x1024.size) (X.x) ∗ SV c (cell 11) ∗ PT c cc0_scratch2 (box S256x7168 ![0, 4096] S256x1024.size) (G12 X)) -∗ WP c (K (s_v182 (inP X))) Q)
        -∗ WP c (At k0_part28 (s_v150 (inP X)) >>= K) Q) := by
  rw [k0_part28_eq_skeleton]
  unfold At k0_part28_skel
  simp only [bind_assoc, pure_bind]
  iintro ⟨hO, f10, h11_3, h12_3, f4, f11, h12_4⟩ HK
  iapply (wt (c := c) (cell 10) (N := N10p) rfl rfl) $$ [f10 hO]
  · iframe f10 hO
  iintro ⟨⟨h10_3, s0_3⟩, v10, hO⟩
  iapply (ld (c := c) (i := 1) (hκ := rfl) (S := (box S7168x256 ![3072, 0] S1024x256.size)) (f := X.w) (s_v159 (inP X)) (unit_set' rfl rfl).subset (fun j => r11p X 3 rfl j)) $$ h11_3
  iintro h11_3
  iapply (ldd (c := c) (i := 2) (hκ := rfl) (S := (box S256x7168 ![0, 3072] S256x1024.size)) (unit_set' rfl rfl).subset) $$ h12_3
  iintro h12_3
  iapply (st (c := c) (i := 2) (hκ := rfl) (S := (box S256x7168 ![0, 3072] S256x1024.size)) (w := o_28_0 (inP X)) (G12 X) (unit_set' rfl rfl) (fun j => (w12 X 3 rfl j).trans (congrFun (same_o_28_0 (inP X)).symm j))) $$ h12_3
  iintro h12_3
  iapply (ld (c := c) (i := 0) (hκ := rfl) (S := (box S2048x7168 ![0, 3072] S256x1024.size)) (f := X.x) (s_v164 (inP X)) (unit_set' rfl rfl).subset (fun j => r10p X 3 rfl j)) $$ h10_3
  iintro h10_3
  iapply (wt (c := c) (cell 4) (N := N11) rfl rfl) $$ [f4 hO]
  · iframe f4 hO
  iintro ⟨⟨h11_4, s2_4⟩, v4, hO⟩
  iapply (wt (c := c) (cell 11) (N := N10p) rfl rfl) $$ [f11 hO]
  · iframe f11 hO
  iintro ⟨⟨h10_4, s0_4⟩, v11, hO⟩
  iapply (ld (c := c) (i := 1) (hκ := rfl) (S := (box S7168x256 ![4096, 0] S1024x256.size)) (f := X.w) (s_v175 (inP X)) (unit_set' rfl rfl).subset (fun j => r11p X 4 rfl j)) $$ h11_4
  iintro h11_4
  iapply (ldd (c := c) (i := 2) (hκ := rfl) (S := (box S256x7168 ![0, 4096] S256x1024.size)) (unit_set' rfl rfl).subset) $$ h12_4
  iintro h12_4
  iapply (st (c := c) (i := 2) (hκ := rfl) (S := (box S256x7168 ![0, 4096] S256x1024.size)) (w := o_28_1 (inP X)) (G12 X) (unit_set' rfl rfl) (fun j => (w12 X 4 rfl j).trans (congrFun (same_o_28_1 (inP X)).symm j))) $$ h12_4
  iintro h12_4
  iapply (ld (c := c) (i := 0) (hκ := rfl) (S := (box S2048x7168 ![0, 4096] S256x1024.size)) (f := X.x) (s_v180 (inP X)) (unit_set' rfl rfl).subset (fun j => r10p X 4 rfl j)) $$ h10_4
  iintro h10_4
  iapply HK
  iframe hO h10_3 s0_3 v10 h11_3 h12_3 h11_4 s2_4 v4 h10_4 s0_4 v11 h12_4

theorem part29 (c : Dev nD) {α : Type} {Q : α → sProp 𝕄} (K : (Σ' (v198 : FVec F S256x256 .f32) (v208 : FVec F S256x1024 .bf16), FVec F S256x1024 .bf16) → Prog (TpuEff nD τ sig (Elt F) Λ₀ .tc) α) :
    iprop(Ow c ∗ FL c (cell 5) N11 iprop(PT c cc0_scratch1 (box S7168x256 ![5120, 0] S1024x256.size) (X.w) ∗ PT c main_arg2 (box S7168x256 ![5120, 0] S1024x256.size) (X.w)) ∗ FL c (cell 12) N10p iprop(PT c cc0_scratch0 (box S2048x7168 ![0, 5120] S256x1024.size) (X.x) ∗ PT c main_v0 (box S2048x7168 ![0, 5120] S256x1024.size) (X.x)) ∗ PA c cc0_scratch2 (box S256x7168 ![0, 5120] S256x1024.size) ∗ FL c (cell 6) N11 iprop(PT c cc0_scratch1 (box S7168x256 ![6144, 0] S1024x256.size) (X.w) ∗ PT c main_arg2 (box S7168x256 ![6144, 0] S1024x256.size) (X.w)) ∗ FL c (cell 13) N10p iprop(PT c cc0_scratch0 (box S2048x7168 ![0, 6144] S256x1024.size) (X.x) ∗ PT c main_v0 (box S2048x7168 ![0, 6144] S256x1024.size) (X.x)) ∗ PA c cc0_scratch2 (box S256x7168 ![0, 6144] S256x1024.size))
      ⊢ iprop((iprop(Ow c ∗ PT c cc0_scratch1 (box S7168x256 ![5120, 0] S1024x256.size) (X.w) ∗ PT c main_arg2 (box S7168x256 ![5120, 0] S1024x256.size) (X.w) ∗ SV c (cell 5) ∗ PT c cc0_scratch0 (box S2048x7168 ![0, 5120] S256x1024.size) (X.x) ∗ PT c main_v0 (box S2048x7168 ![0, 5120] S256x1024.size) (X.x) ∗ SV c (cell 12) ∗ PT c cc0_scratch2 (box S256x7168 ![0, 5120] S256x1024.size) (G12 X) ∗ PT c cc0_scratch1 (box S7168x256 ![6144, 0] S1024x256.size) (X.w) ∗ PT c main_arg2 (box S7168x256 ![6144, 0] S1024x256.size) (X.w) ∗ SV c (cell 6) ∗ PT c cc0_scratch0 (box S2048x7168 ![0, 6144] S256x1024.size) (X.x) ∗ PT c main_v0 (box S2048x7168 ![0, 6144] S256x1024.size) (X.x) ∗ SV c (cell 13) ∗ PA c cc0_scratch2 (box S256x7168 ![0, 6144] S256x1024.size)) -∗ WP c (K ⟨(s_v198 (inP X)), (s_v208 (inP X)), (s_v211 (inP X))⟩) Q)
        -∗ WP c (At k0_part29 (s_v182 (inP X)) >>= K) Q) := by
  rw [k0_part29_eq_skeleton]
  unfold At k0_part29_skel
  simp only [bind_assoc, pure_bind]
  iintro ⟨hO, f5, f12, h12_5, f6, f13, h12_6⟩ HK
  iapply (wt (c := c) (cell 5) (N := N11) rfl rfl) $$ [f5 hO]
  · iframe f5 hO
  iintro ⟨⟨h11_5, s2_5⟩, v5, hO⟩
  iapply (wt (c := c) (cell 12) (N := N10p) rfl rfl) $$ [f12 hO]
  · iframe f12 hO
  iintro ⟨⟨h10_5, s0_5⟩, v12, hO⟩
  iapply (ld (c := c) (i := 1) (hκ := rfl) (S := (box S7168x256 ![5120, 0] S1024x256.size)) (f := X.w) (s_v191 (inP X)) (unit_set' rfl rfl).subset (fun j => r11p X 5 rfl j)) $$ h11_5
  iintro h11_5
  iapply (ldd (c := c) (i := 2) (hκ := rfl) (S := (box S256x7168 ![0, 5120] S256x1024.size)) (unit_set' rfl rfl).subset) $$ h12_5
  iintro h12_5
  iapply (st (c := c) (i := 2) (hκ := rfl) (S := (box S256x7168 ![0, 5120] S256x1024.size)) (w := o_29_0 (inP X)) (G12 X) (unit_set' rfl rfl) (fun j => (w12 X 5 rfl j).trans (congrFun (same_o_29_0 (inP X)).symm j))) $$ h12_5
  iintro h12_5
  iapply (ld (c := c) (i := 0) (hκ := rfl) (S := (box S2048x7168 ![0, 5120] S256x1024.size)) (f := X.x) (s_v196 (inP X)) (unit_set' rfl rfl).subset (fun j => r10p X 5 rfl j)) $$ h10_5
  iintro h10_5
  iapply (wt (c := c) (cell 6) (N := N11) rfl rfl) $$ [f6 hO]
  · iframe f6 hO
  iintro ⟨⟨h11_6, s2_6⟩, v6, hO⟩
  iapply (wt (c := c) (cell 13) (N := N10p) rfl rfl) $$ [f13 hO]
  · iframe f13 hO
  iintro ⟨⟨h10_6, s0_6⟩, v13, hO⟩
  iapply (ld (c := c) (i := 1) (hκ := rfl) (S := (box S7168x256 ![6144, 0] S1024x256.size)) (f := X.w) (s_v207 (inP X)) (unit_set' rfl rfl).subset (fun j => r11p X 6 rfl j)) $$ h11_6
  iintro h11_6
  iapply (ldd (c := c) (i := 2) (hκ := rfl) (S := (box S256x7168 ![0, 6144] S256x1024.size)) (unit_set' rfl rfl).subset) $$ h12_6
  iintro h12_6
  iapply HK
  iframe hO h11_5 s2_5 v5 h10_5 s0_5 v12 h12_5 h11_6 s2_6 v6 h10_6 s0_6 v13 h12_6

theorem part30 (c : Dev nD) {α : Type} {Q : α → sProp 𝕄} (K : (Σ' (v238 : IVec S256x128 32), Vec F S1x256x128 .f32) → Prog (TpuEff nD τ sig (Elt F) Λ₀ .tc) α) :
    iprop(PA c cc0_scratch2 (box S256x7168 ![0, 6144] S256x1024.size) ∗ PT c cc0_scratch0 (box S2048x7168 ![0, 6144] S256x1024.size) (X.x) ∗ PA c cc0_scratch6 (box S2x256x256 ![0, 0, 0] S1x256x256.size) ∗ Ow c ∗ FL c (cell 22) N13 iprop(PT c cc0_scratch3 Finset.univ (X.ids) ∗ PT c main_v1 Finset.univ (X.ids)) ∗ FL c (cell 23) N14 iprop(PT c cc0_scratch4 Finset.univ (X.dg) ∗ PT c main_v2 Finset.univ (X.dg)) ∗ FL c (cell 24) N15 iprop(PT c cc0_scratch5 Finset.univ (X.xs) ∗ PT c main_arg1 Finset.univ (X.xs)) ∗ FL c (cell 15) N10 iprop(PT c cc0_scratch0 (box S2048x7168 ![256 * 1, 0] S256x7168.size) (X.x) ∗ PT c main_v0 (box S2048x7168 ![256 * 1, 0] S256x7168.size) (X.x)) ∗ PT c cc0_scratch2 (box S256x7168 ![0, 0] S256x1024.size) (G12 X) ∗ PT c cc0_scratch2 (box S256x7168 ![0, 1024] S256x1024.size) (G12 X) ∗ PT c cc0_scratch2 (box S256x7168 ![0, 2048] S256x1024.size) (G12 X) ∗ PT c cc0_scratch2 (box S256x7168 ![0, 3072] S256x1024.size) (G12 X) ∗ PT c cc0_scratch2 (box S256x7168 ![0, 4096] S256x1024.size) (G12 X) ∗ PT c cc0_scratch2 (box S256x7168 ![0, 5120] S256x1024.size) (G12 X) ∗ PA c cc0_scratch6 (box S2x256x256 ![1, 0, 0] S1x256x256.size))
      ⊢ iprop((iprop(PT c cc0_scratch0 (box S2048x7168 ![0, 6144] S256x1024.size) (X.x) ∗ PT c cc0_scratch6 (box S2x256x256 ![0, 0, 0] S1x256x256.size) (G16 X 0) ∗ Ow c ∗ PT c cc0_scratch3 Finset.univ (X.ids) ∗ PT c main_v1 Finset.univ (X.ids) ∗ SV c (cell 22) ∗ PT c cc0_scratch4 Finset.univ (X.dg) ∗ PT c main_v2 Finset.univ (X.dg) ∗ SV c (cell 23) ∗ PT c cc0_scratch5 Finset.univ (X.xs) ∗ PT c main_arg1 Finset.univ (X.xs) ∗ SV c (cell 24) ∗ PT c cc0_scratch0 (box S2048x7168 ![256 * 1, 0] S256x7168.size) (X.x) ∗ PT c main_v0 (box S2048x7168 ![256 * 1, 0] S256x7168.size) (X.x) ∗ SV c (cell 15) ∗ PT c cc0_scratch2 Finset.univ (G12 X) ∗ PT c cc0_scratch6 (box S2x256x256 ![1, 0, 0] S1x256x256.size) (G16 X 1)) -∗ WP c (K ⟨s_v238, (s_v239 (inR X (0)))⟩) Q)
        -∗ WP c (At k0_part30 (s_v198 (inP X)) (s_v208 (inP X)) (s_v211 (inP X)) >>= K) Q) := by
  rw [k0_part30_eq_skeleton]
  unfold At k0_part30_skel
  simp only [bind_assoc, pure_bind]
  iintro ⟨h12_6, h10_6, h16, hO, f22, f23, f24, f15, h12_0, h12_1, h12_2, h12_3, h12_4, h12_5, n16⟩ HK
  iapply (st (c := c) (i := 2) (hκ := rfl) (S := (box S256x7168 ![0, 6144] S256x1024.size)) (w := o_30_0 (inP X)) (G12 X) (unit_set' rfl rfl) (fun j => (w12 X 6 rfl j).trans (congrFun (same_o_30_0 (inP X)).symm j))) $$ h12_6
  iintro h12_6
  iapply (ld (c := c) (i := 0) (hκ := rfl) (S := (box S2048x7168 ![0, 6144] S256x1024.size)) (f := X.x) (s_v212 (inP X)) (unit_set' rfl rfl).subset (fun j => r10p X 6 rfl j)) $$ h10_6
  iintro h10_6
  iapply (ldd (c := c) (i := 6) (hκ := rfl) (S := (box S2x256x256 ![0, 0, 0] S1x256x256.size)) (unit_set' rfl rfl).subset) $$ h16
  iintro h16
  iapply (st (c := c) (i := 6) (hκ := rfl) (S := (box S2x256x256 ![0, 0, 0] S1x256x256.size)) (w := o_30_1 (inP X)) (G16 X 0) (unit_set' rfl rfl) (fun j => (w16 X 0 rfl j).trans (congrFun (LT_0 X) j))) $$ h16
  iintro h16
  iapply (wt (c := c) (cell 22) (N := N13) rfl rfl) $$ [f22 hO]
  · iframe f22 hO
  iintro ⟨⟨h13, s3⟩, v22, hO⟩
  iapply (wt (c := c) (cell 23) (N := N14) rfl rfl) $$ [f23 hO]
  · iframe f23 hO
  iintro ⟨⟨h14, s4⟩, v23, hO⟩
  iapply (wt (c := c) (cell 24) (N := N15) rfl rfl) $$ [f24 hO]
  · iframe f24 hO
  iintro ⟨⟨h15, s1⟩, v24, hO⟩
  iapply (wt (c := c) (cell 15) (N := N10) rfl rfl) $$ [f15 hO]
  · iframe f15 hO
  iintro ⟨⟨hx_1, sx_1⟩, v15, hO⟩
  ihave h12 := (Entails.of_eq (ch12 (c := c) (G12 X)).symm) $$ [h12_0 h12_1 h12_2 h12_3 h12_4 h12_5 h12_6]
  · iframe h12_0 h12_1 h12_2 h12_3 h12_4 h12_5 h12_6
  iapply (ld (c := c) (i := 2) (hκ := rfl) (S := Finset.univ) (f := G12 X) (s_v230 (inT X 1)) (Finset.subset_univ _) (r12w X 1 rfl)) $$ h12
  iintro h12
  iapply (ld (c := c) (i := 0) (hκ := rfl) (S := (box S2048x7168 ![256 * 1, 0] S256x7168.size)) (f := X.x) (s_v233 (inT X 1)) (unit_set' rfl rfl).subset (fun j => r10x X 1 rfl j)) $$ hx_1
  iintro hx_1
  iapply (ldd (c := c) (i := 6) (hκ := rfl) (S := (box S2x256x256 ![1, 0, 0] S1x256x256.size)) (unit_set' rfl rfl).subset) $$ n16
  iintro n16
  iapply (st (c := c) (i := 6) (hκ := rfl) (S := (box S2x256x256 ![1, 0, 0] S1x256x256.size)) (w := o_30_2 (inT X 1)) (G16 X 1) (unit_set' rfl rfl) (fun j => (w16 X 1 rfl j).trans (congrFun (LT_1 X) j))) $$ n16
  iintro n16
  iapply (ld (c := c) (i := 6) (hκ := rfl) (S := (box S2x256x256 ![0, 0, 0] S1x256x256.size)) (f := G16 X (0)) (s_v239 (inR X (0))) (slot_sub (s := 0) (r := 0) rfl (by decide)) (fun j => r16 X (b := 0) (r := 0) (0) (by omega) (by omega) rfl j)) $$ h16
  iintro h16
  iapply HK
  iframe h10_6 h16 hO h13 s3 v22 h14 s4 v23 h15 s1 v24 hx_1 sx_1 v15 h12 n16

theorem part31 (c : Dev nD) {α : Type} {Q : α → sProp 𝕄} (K : (Σ' (v240 : FVec F S256x128 .f32) (v242 : IVec S8x128 32) (v245 : FVec F S8x128 .f32) (v246 : Vec F S1x128 .f32) (v253 : FVec F S1x128 .f32) (v260 : FVec F S1x128 .f32) (v267 : FVec F S1x128 .f32) (v274 : FVec F S1x128 .f32), FVec F S1x128 .f32) → Prog (TpuEff nD τ sig (Elt F) Λ₀ .tc) α) :
    iprop(PT c cc0_scratch3 Finset.univ (X.ids) ∗ PT c cc0_scratch4 Finset.univ (X.dg) ∗ PT c cc0_scratch5 Finset.univ (X.xs))
      ⊢ iprop((iprop(PT c cc0_scratch3 Finset.univ (X.ids) ∗ PT c cc0_scratch4 Finset.univ (X.dg) ∗ PT c cc0_scratch5 Finset.univ (X.xs)) -∗ WP c (K ⟨(s_v240 (inR X (0))), (s_v242 (inR X (0))), (s_v245 (inR X (0))), (s_v246 (inR X (0))), (s_v253 (inR X (0))), (s_v260 (inR X (0))), (s_v267 (inR X (0))), (s_v274 (inR X (0))), (s_v281 (inR X (0)))⟩) Q)
        -∗ WP c (At k0_part31 s_v238 (s_v239 (inR X (0))) >>= K) Q) := by
  rw [k0_part31_eq_skeleton]
  unfold At k0_part31_skel
  simp only [bind_assoc, pure_bind]
  iintro ⟨h13, h14, h15⟩ HK
  iapply (ld (c := c) (i := 3) (hκ := rfl) (S := Finset.univ) (f := X.ids) (s_v241 (inR X (0))) (Finset.subset_univ _) (r13 X (0) rfl)) $$ h13
  iintro h13
  iapply (ld (c := c) (i := 4) (hκ := rfl) (S := Finset.univ) (f := X.dg) (s_v243 (inR X (0))) (Finset.subset_univ _) (r14 X (0) rfl)) $$ h14
  iintro h14
  iapply (ld (c := c) (i := 5) (hκ := rfl) (S := Finset.univ) (f := X.xs) (s_v246 (inR X (0))) (Finset.subset_univ _) (r15 X (0) rfl)) $$ h15
  iintro h15
  iapply HK
  iframe h13 h14 h15

theorem part32 (c : Dev nD) {α : Type} {Q : α → sProp 𝕄} (K : (Σ' (v320 : FVec F S8x128 .f32) (v328 : FVec F S256x128 .f32), IVec S256x128 1) → Prog (TpuEff nD τ sig (Elt F) Λ₀ .tc) α) :
    WP c (K ⟨(s_v320 (inR X (0))), (s_v328 (inR X (0))), (s_v331 (inR X (0)))⟩) Q ⊢ WP c (At k0_part32 s_v238 (s_v240 (inR X (0))) (s_v242 (inR X (0))) (s_v245 (inR X (0))) (s_v246 (inR X (0))) (s_v253 (inR X (0))) (s_v260 (inR X (0))) (s_v267 (inR X (0))) (s_v274 (inR X (0))) (s_v281 (inR X (0))) >>= K) Q := by
  rw [k0_part32_eq_skeleton]
  unfold At k0_part32_skel
  simp only [bind_assoc, pure_bind]
  exact .rfl

theorem part33 (c : Dev nD) {α : Type} {Q : α → sProp 𝕄} (K : (Σ' (v377 : FVec F S256x128 .f32) (v380 : FVec F S1x128 .f32) (v382 : FVec F S1x128 .f32) (v383 : IVec S1x128 32) (v385 : IVec S1x128 32), IVec S1x128 32) → Prog (TpuEff nD τ sig (Elt F) Λ₀ .tc) α) :
    WP c (K ⟨(s_v377 (inR X (0))), (s_v380 (inR X (0))), (s_v382 (inR X (0))), s_v383, s_v385, s_v386⟩) Q ⊢ WP c (At k0_part33 s_v238 (s_v242 (inR X (0))) (s_v320 (inR X (0))) (s_v328 (inR X (0))) (s_v331 (inR X (0))) >>= K) Q := by
  rw [k0_part33_eq_skeleton]
  unfold At k0_part33_skel
  simp only [bind_assoc, pure_bind]
  exact .rfl

theorem part34 (c : Dev nD) {α : Type} {Q : α → sProp 𝕄} (K : (Σ' (v432 : IVec S1x128 32), IVec S1x128 32) → Prog (TpuEff nD τ sig (Elt F) Λ₀ .tc) α) :
    WP c (K ⟨(s_v432 (inR X (0))), s_v433⟩) Q ⊢ WP c (At k0_part34 (s_v382 (inR X (0))) s_v383 s_v385 s_v386 >>= K) Q := by
  rw [k0_part34_eq_skeleton]
  unfold At k0_part34_skel
  simp only [bind_assoc, pure_bind]
  exact .rfl

theorem part35 (c : Dev nD) {α : Type} {Q : α → sProp 𝕄} (K : (Σ' (v465 : FVec F S1x128 .f32) (v469 : IVec S1x128 32) (v470 : IVec S1x128 32) (v472 : IVec S1x128 1) (v474 : IVec S1x128 1), BitVec 32) → Prog (TpuEff nD τ sig (Elt F) Λ₀ .tc) α) :
    WP c (K ⟨(s_v465 (inR X (0))), (s_v469 (inR X (0))), s_v470, (s_v472 (inR X (0))), (s_v474 (inR X (0))), s_c23_i32_274⟩) Q ⊢ WP c (At k0_part35 (s_v380 (inR X (0))) (s_v382 (inR X (0))) (s_v432 (inR X (0))) s_v433 >>= K) Q := by
  rw [k0_part35_eq_skeleton]
  unfold At k0_part35_skel
  simp only [bind_assoc, pure_bind]
  exact .rfl

theorem part36 (c : Dev nD) {α : Type} {Q : α → sProp 𝕄} (K : (FVec F S128x128 .f32) → Prog (TpuEff nD τ sig (Elt F) Λ₀ .tc) α) :
    iprop(PA c cc0_scratch9 (box S16x256x128 ![0, 0, 0] S1x256x128.size) ∗ PA c cc0_scratch14 (box S16x128 ![0, 0] S1x128.size) ∗ PA c cc0_scratch12 (box S2048x256 ![0, 0] S128x256.size) ∗ PA c cc0_scratch7 (box S2x256x256 ![0, 0, 0] S1x128x256.size) ∗ PA c cc0_scratch13 (box S2048x256 ![0, 0] S128x256.size))
      ⊢ iprop((iprop(PT c cc0_scratch9 (box S16x256x128 ![0, 0, 0] S1x256x128.size) (G19 X) ∗ PT c cc0_scratch14 (box S16x128 ![0, 0] S1x128.size) (G24 X) ∗ PT c cc0_scratch12 (box S2048x256 ![0, 0] S128x256.size) (G22 X) ∗ PT c cc0_scratch7 (box S2x256x256 ![0, 0, 0] S1x128x256.size) (G17 X (0)) ∗ PT c cc0_scratch13 (box S2048x256 ![0, 0] S128x256.size) (G23 X)) -∗ WP c (K (s_v515 (inR X (0)))) Q)
        -∗ WP c (At k0_part36 (s_v246 (inR X (0))) (s_v377 (inR X (0))) (s_v465 (inR X (0))) (s_v469 (inR X (0))) s_v470 (s_v472 (inR X (0))) (s_v474 (inR X (0))) s_c23_i32_274 >>= K) Q) := by
  rw [k0_part36_eq_skeleton]
  unfold At k0_part36_skel
  simp only [bind_assoc, pure_bind]
  iintro ⟨h19a, h24a, h22a, h17a, h23a⟩ HK
  iapply (ldd (c := c) (i := 9) (hκ := rfl) (S := (box S16x256x128 ![0, 0, 0] S1x256x128.size)) (unit_set' rfl rfl).subset) $$ h19a
  iintro h19a
  iapply (st (c := c) (i := 9) (hκ := rfl) (S := (box S16x256x128 ![0, 0, 0] S1x256x128.size)) (w := o_36_0 (inR X (0))) (G19 X) (unit_set' rfl rfl) (fun j => (w19 X (0) rfl j).trans (congrFun (same_o_36_0 (inR X (0))).symm j))) $$ h19a
  iintro h19a
  iapply (ldd (c := c) (i := 14) (hκ := rfl) (S := (box S16x128 ![0, 0] S1x128.size)) (unit_set' rfl rfl).subset) $$ h24a
  iintro h24a
  iapply (st (c := c) (i := 14) (hκ := rfl) (S := (box S16x128 ![0, 0] S1x128.size)) (w := o_36_1 (inR X (0))) (G24 X) (unit_set' rfl rfl) (fun j => (w24 X (0) rfl j).trans (congrFun (same_o_36_1 (inR X (0))).symm j))) $$ h24a
  iintro h24a
  iapply (ldd (c := c) (i := 12) (hκ := rfl) (S := (box S2048x256 ![0, 0] S128x256.size)) (unit_set' rfl rfl).subset) $$ h22a
  iintro h22a
  iapply (st (c := c) (i := 12) (hκ := rfl) (S := (box S2048x256 ![0, 0] S128x256.size)) (w := o_36_2 (inR X (0))) (G22 X) (unit_set' rfl rfl) (fun j => (w22 X (0) rfl j).trans (congrFun (same_o_36_2 (inR X (0))).symm j))) $$ h22a
  iintro h22a
  iapply (ldd (c := c) (i := 7) (hκ := rfl) (S := (box S2x256x256 ![0, 0, 0] S1x128x256.size)) (unit_set' rfl rfl).subset) $$ h17a
  iintro h17a
  iapply (st (c := c) (i := 7) (hκ := rfl) (S := (box S2x256x256 ![0, 0, 0] S1x128x256.size)) (w := o_36_3 (inR X (0))) (G17 X (0)) (unit_set' rfl rfl) (fun j => (w17 X (b := 0) (r := 0) (0) (by omega) (by omega) rfl j).trans (congrFun (same_o_36_3 (inR X (0))).symm j))) $$ h17a
  iintro h17a
  iapply (ldd (c := c) (i := 13) (hκ := rfl) (S := (box S2048x256 ![0, 0] S128x256.size)) (unit_set' rfl rfl).subset) $$ h23a
  iintro h23a
  iapply (st (c := c) (i := 13) (hκ := rfl) (S := (box S2048x256 ![0, 0] S128x256.size)) (w := o_36_4 (inR X (0))) (G23 X) (unit_set' rfl rfl) (fun j => (w23 X (0) rfl j).trans (congrFun (same_o_36_4 (inR X (0))).symm j))) $$ h23a
  iintro h23a
  iapply HK
  iframe h19a h24a h22a h17a h23a

theorem part37 (c : Dev nD) {α : Type} {Q : α → sProp 𝕄} (K : (Σ' (v521 : FVec F S256x128 .f32) (v523 : IVec S8x128 32) (v526 : FVec F S8x128 .f32) (v527 : Vec F S1x128 .f32) (v534 : FVec F S1x128 .f32) (v541 : FVec F S1x128 .f32) (v548 : FVec F S1x128 .f32), FVec F S256x128 .f32) → Prog (TpuEff nD τ sig (Elt F) Λ₀ .tc) α) :
    iprop(PA c cc0_scratch8 (box S2x256x128 ![0, 0, 0] S1x128x128.size) ∗ PT c cc0_scratch6 (box S2x256x256 ![0, 0, 0] S1x256x256.size) (G16 X (0)) ∗ PT c cc0_scratch3 Finset.univ (X.ids) ∗ PT c cc0_scratch4 Finset.univ (X.dg) ∗ PT c cc0_scratch5 Finset.univ (X.xs))
      ⊢ iprop((iprop(PT c cc0_scratch8 (box S2x256x128 ![0, 0, 0] S1x128x128.size) (G18 X (0)) ∗ PT c cc0_scratch6 (box S2x256x256 ![0, 0, 0] S1x256x256.size) (G16 X (0)) ∗ PT c cc0_scratch3 Finset.univ (X.ids) ∗ PT c cc0_scratch4 Finset.univ (X.dg) ∗ PT c cc0_scratch5 Finset.univ (X.xs)) -∗ WP c (K ⟨(s_v521 (inR X (1))), (s_v523 (inR X (1))), (s_v526 (inR X (1))), (s_v527 (inR X (1))), (s_v534 (inR X (1))), (s_v541 (inR X (1))), (s_v548 (inR X (1))), (s_v553 (inR X (1)))⟩) Q)
        -∗ WP c (At k0_part37 s_v238 (s_v515 (inR X (0))) >>= K) Q) := by
  rw [k0_part37_eq_skeleton]
  unfold At k0_part37_skel
  simp only [bind_assoc, pure_bind]
  iintro ⟨h18a, h16, h13, h14, h15⟩ HK
  iapply (ldd (c := c) (i := 8) (hκ := rfl) (S := (box S2x256x128 ![0, 0, 0] S1x128x128.size)) (unit_set' rfl rfl).subset) $$ h18a
  iintro h18a
  iapply (st (c := c) (i := 8) (hκ := rfl) (S := (box S2x256x128 ![0, 0, 0] S1x128x128.size)) (w := o_37_0 (inR X (0))) (G18 X (0)) (unit_set' rfl rfl) (fun j => (w18 X (b := 0) (r := 0) (0) (by omega) (by omega) rfl j).trans (congrFun (same_o_37_0 (inR X (0))).symm j))) $$ h18a
  iintro h18a
  iapply (ld (c := c) (i := 6) (hκ := rfl) (S := (box S2x256x256 ![0, 0, 0] S1x256x256.size)) (f := G16 X (0)) (s_v520 (inR X (1))) (slot_sub (s := 0) (r := 1) rfl (by decide)) (fun j => r16 X (b := 0) (r := 1) (1) (by omega) (by omega) rfl j)) $$ h16
  iintro h16
  iapply (ld (c := c) (i := 3) (hκ := rfl) (S := Finset.univ) (f := X.ids) (s_v522 (inR X (1))) (Finset.subset_univ _) (r13 X (1) rfl)) $$ h13
  iintro h13
  iapply (ld (c := c) (i := 4) (hκ := rfl) (S := Finset.univ) (f := X.dg) (s_v524 (inR X (1))) (Finset.subset_univ _) (r14 X (1) rfl)) $$ h14
  iintro h14
  iapply (ld (c := c) (i := 5) (hκ := rfl) (S := Finset.univ) (f := X.xs) (s_v527 (inR X (1))) (Finset.subset_univ _) (r15 X (1) rfl)) $$ h15
  iintro h15
  iapply HK
  iframe h18a h16 h13 h14 h15

theorem part38 (c : Dev nD) {α : Type} {Q : α → sProp 𝕄} (K : (FVec F S8x128 .f32) → Prog (TpuEff nD τ sig (Elt F) Λ₀ .tc) α) :
    WP c (K (s_v601 (inR X (1)))) Q ⊢ WP c (At k0_part38 s_v238 (s_v521 (inR X (1))) (s_v523 (inR X (1))) (s_v526 (inR X (1))) (s_v527 (inR X (1))) (s_v534 (inR X (1))) (s_v541 (inR X (1))) (s_v548 (inR X (1))) (s_v553 (inR X (1))) >>= K) Q := by
  rw [k0_part38_eq_skeleton]
  unfold At k0_part38_skel
  simp only [bind_assoc, pure_bind]
  exact .rfl

theorem part39 (c : Dev nD) {α : Type} {Q : α → sProp 𝕄} (K : (Σ' (v658 : FVec F S256x128 .f32), FVec F S256x128 .f32) → Prog (TpuEff nD τ sig (Elt F) Λ₀ .tc) α) :
    WP c (K ⟨(s_v658 (inR X (1))), (s_v659 (inR X (1)))⟩) Q ⊢ WP c (At k0_part39 s_v238 (s_v523 (inR X (1))) (s_v601 (inR X (1))) >>= K) Q := by
  rw [k0_part39_eq_skeleton]
  unfold At k0_part39_skel
  simp only [bind_assoc, pure_bind]
  exact .rfl

theorem part40 (c : Dev nD) {α : Type} {Q : α → sProp 𝕄} (K : (Σ' (v661 : FVec F S1x128 .f32) (v663 : FVec F S1x128 .f32) (v699 : IVec S1x128 32) (v701 : IVec S1x128 32), IVec S1x128 1) → Prog (TpuEff nD τ sig (Elt F) Λ₀ .tc) α) :
    WP c (K ⟨(s_v661 (inR X (1))), (s_v663 (inR X (1))), (s_v699 (inR X (1))), (s_v701 (inR X (1))), (s_v705 (inR X (1)))⟩) Q ⊢ WP c (At k0_part40 (s_v659 (inR X (1))) >>= K) Q := by
  rw [k0_part40_eq_skeleton]
  unfold At k0_part40_skel
  simp only [bind_assoc, pure_bind]
  exact .rfl

theorem part41 (c : Dev nD) {α : Type} {Q : α → sProp 𝕄} (K : (Σ' (v746 : FVec F S1x128 .f32), IVec S1x128 32) → Prog (TpuEff nD τ sig (Elt F) Λ₀ .tc) α) :
    WP c (K ⟨(s_v746 (inR X (1))), (s_v748 (inR X (1)))⟩) Q ⊢ WP c (At k0_part41 (s_v661 (inR X (1))) (s_v663 (inR X (1))) (s_v699 (inR X (1))) (s_v701 (inR X (1))) (s_v705 (inR X (1))) >>= K) Q := by
  rw [k0_part41_eq_skeleton]
  unfold At k0_part41_skel
  simp only [bind_assoc, pure_bind]
  exact .rfl

theorem part42 (c : Dev nD) {α : Type} {Q : α → sProp 𝕄} (K : (Σ' (v780 : BitVec 32) (v786 : FVec F S128x256 .bf16), Vec F S1x128x256 .bf16) → Prog (TpuEff nD τ sig (Elt F) Λ₀ .tc) α) :
    iprop(PA c cc0_scratch9 (box S16x256x128 ![1, 0, 0] S1x256x128.size) ∗ PA c cc0_scratch14 (box S16x128 ![1, 0] S1x128.size) ∗ PA c cc0_scratch12 (box S2048x256 ![128, 0] S128x256.size) ∗ PA c cc0_scratch7 (box S2x256x256 ![0, 128, 0] S1x128x256.size))
      ⊢ iprop((∀ v787 : Vec F S1x128x256 .bf16, iprop(PT c cc0_scratch9 (box S16x256x128 ![1, 0, 0] S1x256x128.size) (G19 X) ∗ PT c cc0_scratch14 (box S16x128 ![1, 0] S1x128.size) (G24 X) ∗ PT c cc0_scratch12 (box S2048x256 ![128, 0] S128x256.size) (G22 X) ∗ PA c cc0_scratch7 (box S2x256x256 ![0, 128, 0] S1x128x256.size)) -∗ WP c (K ⟨s_v780, (s_v786 (inR X (1))), v787⟩) Q)
        -∗ WP c (At k0_part42 (s_v527 (inR X (1))) (s_v658 (inR X (1))) (s_v746 (inR X (1))) (s_v748 (inR X (1))) >>= K) Q) := by
  rw [k0_part42_eq_skeleton]
  unfold At k0_part42_skel
  simp only [bind_assoc, pure_bind]
  iintro ⟨h19b, h24b, h22b, h17b⟩ HK
  iapply (ldd (c := c) (i := 9) (hκ := rfl) (S := (box S16x256x128 ![1, 0, 0] S1x256x128.size)) (unit_set' rfl rfl).subset) $$ h19b
  iintro h19b
  iapply (st (c := c) (i := 9) (hκ := rfl) (S := (box S16x256x128 ![1, 0, 0] S1x256x128.size)) (w := o_42_0 (inR X (1))) (G19 X) (unit_set' rfl rfl) (fun j => (w19 X (1) rfl j).trans (congrFun (same_o_42_0 (inR X (1))).symm j))) $$ h19b
  iintro h19b
  iapply (ldd (c := c) (i := 14) (hκ := rfl) (S := (box S16x128 ![1, 0] S1x128.size)) (unit_set' rfl rfl).subset) $$ h24b
  iintro h24b
  iapply (st (c := c) (i := 14) (hκ := rfl) (S := (box S16x128 ![1, 0] S1x128.size)) (w := o_42_1 (inR X (1))) (G24 X) (unit_set' rfl rfl) (fun j => (w24 X (1) rfl j).trans (congrFun (same_o_42_1 (inR X (1))).symm j))) $$ h24b
  iintro h24b
  iapply (ldd (c := c) (i := 12) (hκ := rfl) (S := (box S2048x256 ![128, 0] S128x256.size)) (unit_set' rfl rfl).subset) $$ h22b
  iintro h22b
  iapply (st (c := c) (i := 12) (hκ := rfl) (S := (box S2048x256 ![128, 0] S128x256.size)) (w := o_42_2 (inR X (1))) (G22 X) (unit_set' rfl rfl) (fun j => (w22 X (1) rfl j).trans (congrFun (same_o_42_2 (inR X (1))).symm j))) $$ h22b
  iintro h22b
  iapply (lddv (c := c) (i := 7) (hκ := rfl) (S := (box S2x256x256 ![0, 128, 0] S1x128x256.size)) (unit_set' rfl rfl).subset) $$ h17b
  iintro %v787 h17b
  iapply HK $$ %v787
  iframe h19b h24b h22b h17b

theorem part43 (c : Dev nD) (v787 : Vec F S1x128x256 .bf16) {α : Type} {Q : α → sProp 𝕄} (K : (PUnit) → Prog (TpuEff nD τ sig (Elt F) Λ₀ .tc) α) :
    iprop(PA c cc0_scratch7 (box S2x256x256 ![0, 128, 0] S1x128x256.size) ∗ PA c cc0_scratch13 (box S2048x256 ![128, 0] S128x256.size) ∗ PA c cc0_scratch8 (box S2x256x128 ![0, 128, 0] S1x128x128.size) ∗ PT c cc0_scratch12 (box S2048x256 ![128 * (2 * 0 + 0), 0] S128x256.size) (G22 X) ∗ PT c cc0_scratch12 (box S2048x256 ![128 * (2 * 0 + 1), 0] S128x256.size) (G22 X) ∗ PA c main_v3_2 (box S2048x256 ![256 * 0, 0] S256x256.size) ∗ BT c (cell 28) N7 (D7 X c) 0 0 ∗ PT c cc0_scratch13 (box S2048x256 ![128 * (2 * 0 + 0), 0] S128x256.size) (G23 X) ∗ PA c main_v3_3 (box S2048x256 ![256 * 0, 0] S256x256.size) ∗ BT c (cell 29) N8 (D8 X c) 0 0)
      ⊢ iprop((iprop(PT c cc0_scratch7 (box S2x256x256 ![0, 128, 0] S1x128x256.size) (G17 X (0)) ∗ PT c cc0_scratch8 (box S2x256x128 ![0, 128, 0] S1x128x128.size) (G18 X (0)) ∗ BT c (cell 28) N7 (D7 X c) 1 0 ∗ BT c (cell 29) N8 (D8 X c) 1 0) -∗ WP c (Scf.Loop.for k0_t1_loop k0_t1_ok ⟨⟩ (At k0_t1_body (s_v746 (inR X (1))) s_v780 (s_v786 (inR X (1))) v787) >>= fun _ => K ⟨⟩) Q)
        -∗ WP c (At k0_part43 (s_v746 (inR X (1))) s_v780 (s_v786 (inR X (1))) v787 >>= K) Q) := by
  rw [k0_part43_eq_skeleton]
  unfold At k0_part43_skel
  simp only [bind_assoc, pure_bind]
  iintro ⟨h17b, h23b, h18b, h22a, h22b, u7, B7, h23a, u8, B8⟩ HK
  iapply (st (c := c) (i := 7) (hκ := rfl) (S := (box S2x256x256 ![0, 128, 0] S1x128x256.size)) (w := o_43_0 (inR X (1))) (G17 X (0)) (unit_set' rfl rfl) (fun j => (w17 X (b := 0) (r := 1) (1) (by omega) (by omega) rfl j).trans (congrFun (same_o_43_0 (inR X (1))).symm j))) $$ h17b
  iintro h17b
  iapply (ldd (c := c) (i := 13) (hκ := rfl) (S := (box S2048x256 ![128, 0] S128x256.size)) (unit_set' rfl rfl).subset) $$ h23b
  iintro h23b
  iapply (st (c := c) (i := 13) (hκ := rfl) (S := (box S2048x256 ![128, 0] S128x256.size)) (w := o_43_1 (inR X (1))) (G23 X) (unit_set' rfl rfl) (fun j => (w23 X (1) rfl j).trans (congrFun (same_o_43_1 (inR X (1))).symm j))) $$ h23b
  iintro h23b
  iapply (ldd (c := c) (i := 8) (hκ := rfl) (S := (box S2x256x128 ![0, 128, 0] S1x128x128.size)) (unit_set' rfl rfl).subset) $$ h18b
  iintro h18b
  iapply (st (c := c) (i := 8) (hκ := rfl) (S := (box S2x256x128 ![0, 128, 0] S1x128x128.size)) (w := o_43_2 (inR X (1))) (G18 X (0)) (unit_set' rfl rfl) (fun j => (w18 X (b := 0) (r := 1) (1) (by omega) (by omega) rfl j).trans (congrFun (same_o_43_2 (inR X (1))).symm j))) $$ h18b
  iintro h18b
  ihave h22 := (Entails.of_eq (row22 (c := c) 0 (G22 X)).symm) $$ [h22a h22b]
  · iframe h22a h22b
  iapply (dmaB' (c := c) (src := ((Memref.whole cc0_scratch12).slice (Rect.unit (s := S2048x256) ![0, 0] S256x256.size inb_S2048x256_S256x256_0_0) (fun _ => rfl))) (dst := ((Memref.whole main_v3_2).slice (Rect.unit (s := S2048x256) ![0, 0] S256x256.size inb_S2048x256_S256x256_0_0) (fun _ => rfl))) (sm := ((cc0_scratch21.slice (Rect.unit (s := S3) ![0] S1.size inb_S3_S1_0)).squeeze S_ squeezes_S1_S_).sem) (D := (D7 X c)) (cell 28) N7 0 (by decide) (box S2048x256 ![256 * 0, 0] S256x256.size) (box S2048x256 ![256 * 0, 0] S256x256.size) (G22 X) (fs := (G22 X)) rfl rfl (set_sl.trans (unit_set' rfl rfl)) (set_sl.trans (unit_set' rfl rfl)) rfl rfl) $$ [h22 u7 B7]
  · iframe h22 u7 B7
  iintro B7
  ihave h23 := (Entails.of_eq (row23 (c := c) 0 (G23 X)).symm) $$ [h23a h23b]
  · iframe h23a h23b
  iapply (dmaB' (c := c) (src := ((Memref.whole cc0_scratch13).slice (Rect.unit (s := S2048x256) ![0, 0] S256x256.size inb_S2048x256_S256x256_0_0) (fun _ => rfl))) (dst := ((Memref.whole main_v3_3).slice (Rect.unit (s := S2048x256) ![0, 0] S256x256.size inb_S2048x256_S256x256_0_0) (fun _ => rfl))) (sm := ((cc0_scratch21.slice (Rect.unit (s := S3) ![1] S1.size inb_S3_S1_1)).squeeze S_ squeezes_S1_S_).sem) (D := (D8 X c)) (cell 29) N8 0 (by decide) (box S2048x256 ![256 * 0, 0] S256x256.size) (box S2048x256 ![256 * 0, 0] S256x256.size) (G23 X) (fs := (G23 X)) rfl rfl (set_sl.trans (unit_set' rfl rfl)) (set_sl.trans (unit_set' rfl rfl)) rfl rfl) $$ [h23 u8 B8]
  · iframe h23 u8 B8
  iintro B8
  iapply HK
  iframe h17b h18b B7 B8

end Cert.Kernel.Hand
-- ==== Proof.Hand.Kernel.PartsC.lean ====
/- The parts of the body, run on what they read and write. -/
module

public import proofs.«01_k».proof.Proof.Hand.Kernel.Pieces

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

theorem part44 (c : Dev nD) {α : Type} {Q : α → sProp 𝕄} (K : (Σ' (v820 : IVec S256x128 32) (v822 : FVec F S256x128 .f32) (v824 : IVec S8x128 32) (v827 : FVec F S8x128 .f32) (v828 : Vec F S1x128 .f32) (v835 : FVec F S1x128 .f32) (v842 : FVec F S1x128 .f32) (v849 : FVec F S1x128 .f32) (v856 : FVec F S1x128 .f32), IVec S1x128 32) → Prog (TpuEff nD τ sig (Elt F) Λ₀ .tc) α) :
    iprop(Ow c ∗ FL c (cell 25) N5 iprop(PT c main_v3_0 (box S2048x7168 ![256 * 4, 0] S256x7168.size) ((G5 X)) ∗ PT c cc0_scratch10 (box S2x256x7168 ![0, 0, 0] S1x256x7168.size) ((G20 X 4))) ∗ PT c cc0_scratch6 (box S2x256x256 ![1, 0, 0] S1x256x256.size) (G16 X (7)) ∗ PT c cc0_scratch3 Finset.univ (X.ids) ∗ PT c cc0_scratch4 Finset.univ (X.dg) ∗ PT c cc0_scratch5 Finset.univ (X.xs))
      ⊢ iprop((iprop(Ow c ∗ PT c main_v3_0 (box S2048x7168 ![256 * 4, 0] S256x7168.size) ((G5 X)) ∗ PT c cc0_scratch10 (box S2x256x7168 ![0, 0, 0] S1x256x7168.size) ((G20 X 4)) ∗ SV c (cell 25) ∗ PT c cc0_scratch6 (box S2x256x256 ![1, 0, 0] S1x256x256.size) (G16 X (7)) ∗ PT c cc0_scratch3 Finset.univ (X.ids) ∗ PT c cc0_scratch4 Finset.univ (X.dg) ∗ PT c cc0_scratch5 Finset.univ (X.xs)) -∗ WP c (K ⟨s_v820, (s_v822 (inR X (14))), (s_v824 (inR X (14))), (s_v827 (inR X (14))), (s_v828 (inR X (14))), (s_v835 (inR X (14))), (s_v842 (inR X (14))), (s_v849 (inR X (14))), (s_v856 (inR X (14))), (s_v857 (inR X (14)))⟩) Q)
        -∗ WP c (At k0_part44 >>= K) Q) := by
  rw [k0_part44_eq_skeleton]
  unfold At k0_part44_skel
  simp only [bind_assoc, pure_bind]
  iintro ⟨hO, f25, h16, h13, h14, h15⟩ HK
  iapply (wt (c := c) (cell 25) (N := N5) rfl rfl) $$ [f25 hO]
  · iframe f25 hO
  iintro ⟨⟨u5_4, h20⟩, v25, hO⟩
  iapply (ld (c := c) (i := 6) (hκ := rfl) (S := (box S2x256x256 ![1, 0, 0] S1x256x256.size)) (f := G16 X (7)) (s_v821 (inR X (14))) (slot_sub (s := 1) (r := 0) rfl (by decide)) (fun j => r16 X (b := 7) (r := 0) (14) (by omega) (by omega) rfl j)) $$ h16
  iintro h16
  iapply (ld (c := c) (i := 3) (hκ := rfl) (S := Finset.univ) (f := X.ids) (s_v823 (inR X (14))) (Finset.subset_univ _) (r13 X (14) rfl)) $$ h13
  iintro h13
  iapply (ld (c := c) (i := 4) (hκ := rfl) (S := Finset.univ) (f := X.dg) (s_v825 (inR X (14))) (Finset.subset_univ _) (r14 X (14) rfl)) $$ h14
  iintro h14
  iapply (ld (c := c) (i := 5) (hκ := rfl) (S := Finset.univ) (f := X.xs) (s_v828 (inR X (14))) (Finset.subset_univ _) (r15 X (14) rfl)) $$ h15
  iintro h15
  iapply HK
  iframe hO u5_4 h20 v25 h16 h13 h14 h15

theorem part45 (c : Dev nD) {α : Type} {Q : α → sProp 𝕄} (K : (Σ' (v902 : FVec F S8x128 .f32) (v903 : FVec F S256x128 .f32), IVec S256x128 32) → Prog (TpuEff nD τ sig (Elt F) Λ₀ .tc) α) :
    WP c (K ⟨(s_v902 (inR X (14))), (s_v903 (F := F)), (s_v905 (inR X (14)))⟩) Q ⊢ WP c (At k0_part45 s_v820 (s_v822 (inR X (14))) (s_v824 (inR X (14))) (s_v827 (inR X (14))) (s_v828 (inR X (14))) (s_v835 (inR X (14))) (s_v842 (inR X (14))) (s_v849 (inR X (14))) (s_v856 (inR X (14))) (s_v857 (inR X (14))) >>= K) Q := by
  rw [k0_part45_eq_skeleton]
  unfold At k0_part45_skel
  simp only [bind_assoc, pure_bind]
  exact .rfl

theorem part46 (c : Dev nD) {α : Type} {Q : α → sProp 𝕄} (K : (Σ' (v959 : FVec F S256x128 .f32) (v962 : FVec F S1x128 .f32), FVec F S1x128 .f32) → Prog (TpuEff nD τ sig (Elt F) Λ₀ .tc) α) :
    WP c (K ⟨(s_v959 (inR X (14))), (s_v962 (inR X (14))), (s_v963 (F := F))⟩) Q ⊢ WP c (At k0_part46 s_v820 (s_v824 (inR X (14))) (s_v902 (inR X (14))) (s_v903 (F := F)) (s_v905 (inR X (14))) >>= K) Q := by
  rw [k0_part46_eq_skeleton]
  unfold At k0_part46_skel
  simp only [bind_assoc, pure_bind]
  exact .rfl

theorem part47 (c : Dev nD) {α : Type} {Q : α → sProp 𝕄} (K : (Σ' (v964 : FVec F S1x128 .f32) (v1007 : IVec S1x128 32), IVec S1x128 32) → Prog (TpuEff nD τ sig (Elt F) Λ₀ .tc) α) :
    WP c (K ⟨(s_v964 (inR X (14))), (s_v1007 (inR X (14))), (s_v1009 (inR X (14)))⟩) Q ⊢ WP c (At k0_part47 (s_v962 (inR X (14))) (s_v963 (F := F)) >>= K) Q := by
  rw [k0_part47_eq_skeleton]
  unfold At k0_part47_skel
  simp only [bind_assoc, pure_bind]
  exact .rfl

theorem part48 (c : Dev nD) {α : Type} {Q : α → sProp 𝕄} (K : (Σ' (v1047 : FVec F S1x128 .f32) (v1051 : IVec S1x128 32), BitVec 32) → Prog (TpuEff nD τ sig (Elt F) Λ₀ .tc) α) :
    WP c (K ⟨(s_v1047 (inR X (14))), (s_v1051 (inR X (14))), s_c2139095040_i32_459⟩) Q ⊢ WP c (At k0_part48 (s_v962 (inR X (14))) (s_v964 (inR X (14))) (s_v1007 (inR X (14))) (s_v1009 (inR X (14))) >>= K) Q := by
  rw [k0_part48_eq_skeleton]
  unfold At k0_part48_skel
  simp only [bind_assoc, pure_bind]
  exact .rfl

theorem part49 (c : Dev nD) {α : Type} {Q : α → sProp 𝕄} (K : (Σ' (v1081 : BitVec 32), FVec F S128x256 .fp8e5m2) → Prog (TpuEff nD τ sig (Elt F) Λ₀ .tc) α) :
    iprop(PA c cc0_scratch9 (box S16x256x128 ![14, 0, 0] S1x256x128.size) ∗ PA c cc0_scratch14 (box S16x128 ![14, 0] S1x128.size) ∗ PA c cc0_scratch12 (box S2048x256 ![1792, 0] S128x256.size) ∗ PA c cc0_scratch7 (box S2x256x256 ![1, 0, 0] S1x128x256.size))
      ⊢ iprop((iprop(PT c cc0_scratch9 (box S16x256x128 ![14, 0, 0] S1x256x128.size) (G19 X) ∗ PT c cc0_scratch14 (box S16x128 ![14, 0] S1x128.size) (G24 X) ∗ PT c cc0_scratch12 (box S2048x256 ![1792, 0] S128x256.size) (G22 X) ∗ PT c cc0_scratch7 (box S2x256x256 ![1, 0, 0] S1x128x256.size) (G17 X (7))) -∗ WP c (K ⟨s_v1081, (s_v1091 (inR X (14)))⟩) Q)
        -∗ WP c (At k0_part49 (s_v828 (inR X (14))) (s_v959 (inR X (14))) (s_v1047 (inR X (14))) (s_v1051 (inR X (14))) s_c2139095040_i32_459 >>= K) Q) := by
  rw [k0_part49_eq_skeleton]
  unfold At k0_part49_skel
  simp only [bind_assoc, pure_bind]
  iintro ⟨h19a, h24a, h22a, h17a⟩ HK
  iapply (ldd (c := c) (i := 9) (hκ := rfl) (S := (box S16x256x128 ![14, 0, 0] S1x256x128.size)) (unit_set' rfl rfl).subset) $$ h19a
  iintro h19a
  iapply (st (c := c) (i := 9) (hκ := rfl) (S := (box S16x256x128 ![14, 0, 0] S1x256x128.size)) (w := o_49_0 (inR X (14))) (G19 X) (unit_set' rfl rfl) (fun j => (w19 X (14) rfl j).trans (congrFun (same_o_49_0 (inR X (14))).symm j))) $$ h19a
  iintro h19a
  iapply (ldd (c := c) (i := 14) (hκ := rfl) (S := (box S16x128 ![14, 0] S1x128.size)) (unit_set' rfl rfl).subset) $$ h24a
  iintro h24a
  iapply (st (c := c) (i := 14) (hκ := rfl) (S := (box S16x128 ![14, 0] S1x128.size)) (w := o_49_1 (inR X (14))) (G24 X) (unit_set' rfl rfl) (fun j => (w24 X (14) rfl j).trans (congrFun (same_o_49_1 (inR X (14))).symm j))) $$ h24a
  iintro h24a
  iapply (ldd (c := c) (i := 12) (hκ := rfl) (S := (box S2048x256 ![1792, 0] S128x256.size)) (unit_set' rfl rfl).subset) $$ h22a
  iintro h22a
  iapply (st (c := c) (i := 12) (hκ := rfl) (S := (box S2048x256 ![1792, 0] S128x256.size)) (w := o_49_2 (inR X (14))) (G22 X) (unit_set' rfl rfl) (fun j => (w22 X (14) rfl j).trans (congrFun (same_o_49_2 (inR X (14))).symm j))) $$ h22a
  iintro h22a
  iapply (ldd (c := c) (i := 7) (hκ := rfl) (S := (box S2x256x256 ![1, 0, 0] S1x128x256.size)) (unit_set' rfl rfl).subset) $$ h17a
  iintro h17a
  iapply (st (c := c) (i := 7) (hκ := rfl) (S := (box S2x256x256 ![1, 0, 0] S1x128x256.size)) (w := o_49_3 (inR X (14))) (G17 X (7)) (unit_set' rfl rfl) (fun j => (w17 X (b := 7) (r := 0) (14) (by omega) (by omega) rfl j).trans (congrFun (same_o_49_3 (inR X (14))).symm j))) $$ h17a
  iintro h17a
  iapply HK
  iframe h19a h24a h22a h17a

theorem part50 (c : Dev nD) {α : Type} {Q : α → sProp 𝕄} (K : (Σ' (v1103 : FVec F S256x128 .f32) (v1105 : IVec S8x128 32) (v1108 : FVec F S8x128 .f32) (v1109 : Vec F S1x128 .f32) (v1116 : FVec F S1x128 .f32) (v1123 : FVec F S1x128 .f32), FVec F S256x128 .f32) → Prog (TpuEff nD τ sig (Elt F) Λ₀ .tc) α) :
    iprop(PA c cc0_scratch13 (box S2048x256 ![1792, 0] S128x256.size) ∗ PA c cc0_scratch8 (box S2x256x128 ![1, 0, 0] S1x128x128.size) ∗ PT c cc0_scratch6 (box S2x256x256 ![1, 0, 0] S1x256x256.size) (G16 X (7)) ∗ PT c cc0_scratch3 Finset.univ (X.ids) ∗ PT c cc0_scratch4 Finset.univ (X.dg) ∗ PT c cc0_scratch5 Finset.univ (X.xs))
      ⊢ iprop((iprop(PT c cc0_scratch13 (box S2048x256 ![1792, 0] S128x256.size) (G23 X) ∗ PT c cc0_scratch8 (box S2x256x128 ![1, 0, 0] S1x128x128.size) (G18 X (7)) ∗ PT c cc0_scratch6 (box S2x256x256 ![1, 0, 0] S1x256x256.size) (G16 X (7)) ∗ PT c cc0_scratch3 Finset.univ (X.ids) ∗ PT c cc0_scratch4 Finset.univ (X.dg) ∗ PT c cc0_scratch5 Finset.univ (X.xs)) -∗ WP c (K ⟨(s_v1103 (inR X (15))), (s_v1105 (inR X (15))), (s_v1108 (inR X (15))), (s_v1109 (inR X (15))), (s_v1116 (inR X (15))), (s_v1123 (inR X (15))), (s_v1128 (inR X (15)))⟩) Q)
        -∗ WP c (At k0_part50 s_v820 (s_v1047 (inR X (14))) s_v1081 (s_v1091 (inR X (14))) >>= K) Q) := by
  rw [k0_part50_eq_skeleton]
  unfold At k0_part50_skel
  simp only [bind_assoc, pure_bind]
  iintro ⟨h23a, h18a, h16, h13, h14, h15⟩ HK
  iapply (ldd (c := c) (i := 13) (hκ := rfl) (S := (box S2048x256 ![1792, 0] S128x256.size)) (unit_set' rfl rfl).subset) $$ h23a
  iintro h23a
  iapply (st (c := c) (i := 13) (hκ := rfl) (S := (box S2048x256 ![1792, 0] S128x256.size)) (w := o_50_0 (inR X (14))) (G23 X) (unit_set' rfl rfl) (fun j => (w23 X (14) rfl j).trans (congrFun (same_o_50_0 (inR X (14))).symm j))) $$ h23a
  iintro h23a
  iapply (ldd (c := c) (i := 8) (hκ := rfl) (S := (box S2x256x128 ![1, 0, 0] S1x128x128.size)) (unit_set' rfl rfl).subset) $$ h18a
  iintro h18a
  iapply (st (c := c) (i := 8) (hκ := rfl) (S := (box S2x256x128 ![1, 0, 0] S1x128x128.size)) (w := o_50_1 (inR X (14))) (G18 X (7)) (unit_set' rfl rfl) (fun j => (w18 X (b := 7) (r := 0) (14) (by omega) (by omega) rfl j).trans (congrFun (same_o_50_1 (inR X (14))).symm j))) $$ h18a
  iintro h18a
  iapply (ld (c := c) (i := 6) (hκ := rfl) (S := (box S2x256x256 ![1, 0, 0] S1x256x256.size)) (f := G16 X (7)) (s_v1102 (inR X (15))) (slot_sub (s := 1) (r := 1) rfl (by decide)) (fun j => r16 X (b := 7) (r := 1) (15) (by omega) (by omega) rfl j)) $$ h16
  iintro h16
  iapply (ld (c := c) (i := 3) (hκ := rfl) (S := Finset.univ) (f := X.ids) (s_v1104 (inR X (15))) (Finset.subset_univ _) (r13 X (15) rfl)) $$ h13
  iintro h13
  iapply (ld (c := c) (i := 4) (hκ := rfl) (S := Finset.univ) (f := X.dg) (s_v1106 (inR X (15))) (Finset.subset_univ _) (r14 X (15) rfl)) $$ h14
  iintro h14
  iapply (ld (c := c) (i := 5) (hκ := rfl) (S := Finset.univ) (f := X.xs) (s_v1109 (inR X (15))) (Finset.subset_univ _) (r15 X (15) rfl)) $$ h15
  iintro h15
  iapply HK
  iframe h23a h18a h16 h13 h14 h15

theorem part51 (c : Dev nD) {α : Type} {Q : α → sProp 𝕄} (K : (Σ' (v1173 : FVec F S8x128 .f32), FVec F S8x128 .f32) → Prog (TpuEff nD τ sig (Elt F) Λ₀ .tc) α) :
    WP c (K ⟨(s_v1173 (inR X (15))), (s_v1176 (inR X (15)))⟩) Q ⊢ WP c (At k0_part51 s_v820 (s_v1103 (inR X (15))) (s_v1105 (inR X (15))) (s_v1109 (inR X (15))) (s_v1116 (inR X (15))) (s_v1123 (inR X (15))) (s_v1128 (inR X (15))) >>= K) Q := by
  rw [k0_part51_eq_skeleton]
  unfold At k0_part51_skel
  simp only [bind_assoc, pure_bind]
  exact .rfl

theorem part52 (c : Dev nD) {α : Type} {Q : α → sProp 𝕄} (K : (Σ' (v1183 : FVec F S8x128 .f32) (v1233 : FVec F S256x128 .f32), IVec S1x128 32) → Prog (TpuEff nD τ sig (Elt F) Λ₀ .tc) α) :
    WP c (K ⟨(s_v1183 (inR X (15))), (s_v1233 (inR X (15))), (s_v1234 (inR X (15)))⟩) Q ⊢ WP c (At k0_part52 s_v820 (s_v1105 (inR X (15))) (s_v1108 (inR X (15))) (s_v1173 (inR X (15))) (s_v1176 (inR X (15))) >>= K) Q := by
  rw [k0_part52_eq_skeleton]
  unfold At k0_part52_skel
  simp only [bind_assoc, pure_bind]
  exact .rfl

theorem part53 (c : Dev nD) {α : Type} {Q : α → sProp 𝕄} (K : (Σ' (v1240 : FVec F S256x128 .f32) (v1243 : FVec F S1x128 .f32) (v1245 : FVec F S1x128 .f32), IVec S1x128 32) → Prog (TpuEff nD τ sig (Elt F) Λ₀ .tc) α) :
    WP c (K ⟨(s_v1240 (inR X (15))), (s_v1243 (inR X (15))), (s_v1245 (inR X (15))), (s_v1281 (inR X (15)))⟩) Q ⊢ WP c (At k0_part53 s_v820 (s_v1183 (inR X (15))) (s_v1233 (inR X (15))) (s_v1234 (inR X (15))) >>= K) Q := by
  rw [k0_part53_eq_skeleton]
  unfold At k0_part53_skel
  simp only [bind_assoc, pure_bind]
  exact .rfl

theorem part54 (c : Dev nD) {α : Type} {Q : α → sProp 𝕄} (K : (Σ' (v1315 : IVec S1x128 32) (v1318 : IVec S1x128 32) (v1320 : IVec S1x128 1) (v1322 : IVec S1x128 1), IVec S1x128 32) → Prog (TpuEff nD τ sig (Elt F) Λ₀ .tc) α) :
    WP c (K ⟨(s_v1315 (inR X (15))), s_v1318, (s_v1320 (inR X (15))), (s_v1322 (inR X (15))), (s_v1324 (inR X (15)))⟩) Q ⊢ WP c (At k0_part54 (s_v1243 (inR X (15))) (s_v1245 (inR X (15))) (s_v1281 (inR X (15))) >>= K) Q := by
  rw [k0_part54_eq_skeleton]
  unfold At k0_part54_skel
  simp only [bind_assoc, pure_bind]
  exact .rfl

theorem part55 (c : Dev nD) {α : Type} {Q : α → sProp 𝕄} (K : (Σ' (v1328 : FVec F S1x128 .f32) (v1351 : FVec F S256x128 .bf16) (v1362 : BitVec 32) (v1363 : FVec F S128x256 .f32), Vec F S128x256 .f32) → Prog (TpuEff nD τ sig (Elt F) Λ₀ .tc) α) :
    iprop(PA c cc0_scratch9 (box S16x256x128 ![15, 0, 0] S1x256x128.size) ∗ PA c cc0_scratch14 (box S16x128 ![15, 0] S1x128.size) ∗ PA c cc0_scratch12 (box S2048x256 ![1920, 0] S128x256.size))
      ⊢ iprop((∀ v1365 : Vec F S128x256 .f32, iprop(PT c cc0_scratch9 (box S16x256x128 ![15, 0, 0] S1x256x128.size) (G19 X) ∗ PT c cc0_scratch14 (box S16x128 ![15, 0] S1x128.size) (G24 X) ∗ PA c cc0_scratch12 (box S2048x256 ![1920, 0] S128x256.size)) -∗ WP c (K ⟨(s_v1328 (inR X (15))), (s_v1351 (inR X (15))), s_v1362, (s_v1363 (inR X (15))), v1365⟩) Q)
        -∗ WP c (At k0_part55 (s_v1109 (inR X (15))) (s_v1240 (inR X (15))) (s_v1315 (inR X (15))) s_v1318 (s_v1320 (inR X (15))) (s_v1322 (inR X (15))) (s_v1324 (inR X (15))) >>= K) Q) := by
  rw [k0_part55_eq_skeleton]
  unfold At k0_part55_skel
  simp only [bind_assoc, pure_bind]
  iintro ⟨h19b, h24b, h22b⟩ HK
  iapply (ldd (c := c) (i := 9) (hκ := rfl) (S := (box S16x256x128 ![15, 0, 0] S1x256x128.size)) (unit_set' rfl rfl).subset) $$ h19b
  iintro h19b
  iapply (st (c := c) (i := 9) (hκ := rfl) (S := (box S16x256x128 ![15, 0, 0] S1x256x128.size)) (w := o_55_0 (inR X (15))) (G19 X) (unit_set' rfl rfl) (fun j => (w19 X (15) rfl j).trans (congrFun (same_o_55_0 (inR X (15))).symm j))) $$ h19b
  iintro h19b
  iapply (ldd (c := c) (i := 14) (hκ := rfl) (S := (box S16x128 ![15, 0] S1x128.size)) (unit_set' rfl rfl).subset) $$ h24b
  iintro h24b
  iapply (st (c := c) (i := 14) (hκ := rfl) (S := (box S16x128 ![15, 0] S1x128.size)) (w := o_55_1 (inR X (15))) (G24 X) (unit_set' rfl rfl) (fun j => (w24 X (15) rfl j).trans (congrFun (same_o_55_1 (inR X (15))).symm j))) $$ h24b
  iintro h24b
  iapply (lddv (c := c) (i := 12) (hκ := rfl) (S := (box S2048x256 ![1920, 0] S128x256.size)) (unit_set' rfl rfl).subset) $$ h22b
  iintro %v1365 h22b
  iapply HK $$ %v1365
  iframe h19b h24b h22b

theorem part56 (c : Dev nD) (v1365 : Vec F S128x256 .f32) {α : Type} {Q : α → sProp 𝕄} (K : (Σ' (v1385 : FVec F S256x1 .f32), FVec F S256x256 .bf16) → Prog (TpuEff nD τ sig (Elt F) Λ₀ .tc) α) :
    iprop(PA c cc0_scratch12 (box S2048x256 ![1920, 0] S128x256.size) ∗ PA c cc0_scratch7 (box S2x256x256 ![1, 128, 0] S1x128x256.size) ∗ PA c cc0_scratch13 (box S2048x256 ![1920, 0] S128x256.size) ∗ PA c cc0_scratch8 (box S2x256x128 ![1, 128, 0] S1x128x128.size) ∗ PT c cc0_scratch8 (box S2x256x128 ![0, 0, 0] S1x256x128.size) (G18 X 6) ∗ PT c cc0_scratch7 (box S2x256x256 ![0, 0, 0] S1x256x256.size) (G17 X 6) ∗ PT c cc0_scratch2 Finset.univ (G12 X) ∗ PA c cc0_scratch10 (box S2x256x7168 ![0, 0, 512 * 0] S1x256x512.size))
      ⊢ iprop((iprop(PT c cc0_scratch12 (box S2048x256 ![1920, 0] S128x256.size) (G22 X) ∗ PT c cc0_scratch7 (box S2x256x256 ![1, 128, 0] S1x128x256.size) (G17 X (7)) ∗ PT c cc0_scratch13 (box S2048x256 ![1920, 0] S128x256.size) (G23 X) ∗ PT c cc0_scratch8 (box S2x256x128 ![1, 128, 0] S1x128x128.size) (G18 X (7)) ∗ PT c cc0_scratch8 (box S2x256x128 ![0, 0, 0] S1x256x128.size) (G18 X 6) ∗ PT c cc0_scratch7 (box S2x256x256 ![0, 0, 0] S1x256x256.size) (G17 X 6) ∗ PT c cc0_scratch2 Finset.univ (G12 X) ∗ PT c cc0_scratch10 (box S2x256x7168 ![0, 0, 512 * 0] S1x256x512.size) (G20 X 6)) -∗ WP c (K ⟨(s_v1385 (inD X 6)), (s_v1397 (inD X 6))⟩) Q)
        -∗ WP c (At k0_part56 (s_v1328 (inR X (15))) (s_v1351 (inR X (15))) s_v1362 (s_v1363 (inR X (15))) v1365 >>= K) Q) := by
  rw [k0_part56_eq_skeleton]
  unfold At k0_part56_skel
  simp only [bind_assoc, pure_bind]
  iintro ⟨h22b, h17b, h23b, h18b, d18, d17, h12, h20_0⟩ HK
  iapply (st (c := c) (i := 12) (hκ := rfl) (S := (box S2048x256 ![1920, 0] S128x256.size)) (w := o_56_0 (inR X (15))) (G22 X) (unit_set' rfl rfl) (fun j => (w22 X (15) rfl j).trans (congrFun (same_o_56_0 (inR X (15))).symm j))) $$ h22b
  iintro h22b
  iapply (ldd (c := c) (i := 7) (hκ := rfl) (S := (box S2x256x256 ![1, 128, 0] S1x128x256.size)) (unit_set' rfl rfl).subset) $$ h17b
  iintro h17b
  iapply (st (c := c) (i := 7) (hκ := rfl) (S := (box S2x256x256 ![1, 128, 0] S1x128x256.size)) (w := o_56_1 (inR X (15))) (G17 X (7)) (unit_set' rfl rfl) (fun j => (w17 X (b := 7) (r := 1) (15) (by omega) (by omega) rfl j).trans (congrFun (same_o_56_1 (inR X (15))).symm j))) $$ h17b
  iintro h17b
  iapply (ldd (c := c) (i := 13) (hκ := rfl) (S := (box S2048x256 ![1920, 0] S128x256.size)) (unit_set' rfl rfl).subset) $$ h23b
  iintro h23b
  iapply (st (c := c) (i := 13) (hκ := rfl) (S := (box S2048x256 ![1920, 0] S128x256.size)) (w := o_56_2 (inR X (15))) (G23 X) (unit_set' rfl rfl) (fun j => (w23 X (15) rfl j).trans (congrFun (same_o_56_2 (inR X (15))).symm j))) $$ h23b
  iintro h23b
  iapply (ldd (c := c) (i := 8) (hκ := rfl) (S := (box S2x256x128 ![1, 128, 0] S1x128x128.size)) (unit_set' rfl rfl).subset) $$ h18b
  iintro h18b
  iapply (st (c := c) (i := 8) (hκ := rfl) (S := (box S2x256x128 ![1, 128, 0] S1x128x128.size)) (w := o_56_3 (inR X (15))) (G18 X (7)) (unit_set' rfl rfl) (fun j => (w18 X (b := 7) (r := 1) (15) (by omega) (by omega) rfl j).trans (congrFun (same_o_56_3 (inR X (15))).symm j))) $$ h18b
  iintro h18b
  iapply (ld (c := c) (i := 8) (hκ := rfl) (S := (box S2x256x128 ![0, 0, 0] S1x256x128.size)) (f := G18 X 6) (s_v1383 (inD X 6)) (unit_set' rfl rfl).subset (fun j => r18 X 6 rfl j)) $$ d18
  iintro d18
  iapply (ld (c := c) (i := 7) (hκ := rfl) (S := (box S2x256x256 ![0, 0, 0] S1x256x256.size)) (f := G17 X 6) (s_v1386 (inD X 6)) (unit_set' rfl rfl).subset (fun j => r17 X 6 rfl j)) $$ d17
  iintro d17
  iapply (ld (c := c) (i := 2) (hκ := rfl) (S := Finset.univ) (f := G12 X) (s_v1388 (inD X 6)) (Finset.subset_univ _) (r12 X 6 0 rfl)) $$ h12
  iintro h12
  iapply (ldd (c := c) (i := 10) (hκ := rfl) (S := (box S2x256x7168 ![0, 0, 512 * 0] S1x256x512.size)) (unit_set' rfl rfl).subset) $$ h20_0
  iintro h20_0
  iapply (st (c := c) (i := 10) (hκ := rfl) (S := (box S2x256x7168 ![0, 0, 512 * 0] S1x256x512.size)) (w := o_56_4 (inD X 6)) (G20 X 6) (unit_set' rfl rfl) (fun j => (w20 X 6 0 rfl j).trans (congrFun (same_o_56_4 (inD X 6)).symm j))) $$ h20_0
  iintro h20_0
  iapply (ld (c := c) (i := 7) (hκ := rfl) (S := (box S2x256x256 ![0, 0, 0] S1x256x256.size)) (f := G17 X 6) (s_v1396 (inD X 6)) (unit_set' rfl rfl).subset (fun j => r17 X 6 rfl j)) $$ d17
  iintro d17
  iapply HK
  iframe h22b h17b h23b h18b d18 d17 h12 h20_0

theorem part57 (c : Dev nD) {α : Type} {Q : α → sProp 𝕄} (K : (FVec F S256x256 .bf16) → Prog (TpuEff nD τ sig (Elt F) Λ₀ .tc) α) :
    iprop(PT c cc0_scratch2 Finset.univ (G12 X) ∗ PA c cc0_scratch10 (box S2x256x7168 ![0, 0, 512 * 1] S1x256x512.size) ∗ PT c cc0_scratch7 (box S2x256x256 ![0, 0, 0] S1x256x256.size) (G17 X 6) ∗ PA c cc0_scratch10 (box S2x256x7168 ![0, 0, 512 * 2] S1x256x512.size) ∗ PA c cc0_scratch10 (box S2x256x7168 ![0, 0, 512 * 3] S1x256x512.size))
      ⊢ iprop((iprop(PT c cc0_scratch2 Finset.univ (G12 X) ∗ PT c cc0_scratch10 (box S2x256x7168 ![0, 0, 512 * 1] S1x256x512.size) (G20 X 6) ∗ PT c cc0_scratch7 (box S2x256x256 ![0, 0, 0] S1x256x256.size) (G17 X 6) ∗ PT c cc0_scratch10 (box S2x256x7168 ![0, 0, 512 * 2] S1x256x512.size) (G20 X 6) ∗ PT c cc0_scratch10 (box S2x256x7168 ![0, 0, 512 * 3] S1x256x512.size) (G20 X 6)) -∗ WP c (K (s_v1427 (inD X 6))) Q)
        -∗ WP c (At k0_part57 (s_v1385 (inD X 6)) (s_v1397 (inD X 6)) >>= K) Q) := by
  rw [k0_part57_eq_skeleton]
  unfold At k0_part57_skel
  simp only [bind_assoc, pure_bind]
  iintro ⟨h12, h20_1, d17, h20_2, h20_3⟩ HK
  iapply (ld (c := c) (i := 2) (hκ := rfl) (S := Finset.univ) (f := G12 X) (s_v1398 (inD X 6)) (Finset.subset_univ _) (r12 X 6 1 rfl)) $$ h12
  iintro h12
  iapply (ldd (c := c) (i := 10) (hκ := rfl) (S := (box S2x256x7168 ![0, 0, 512 * 1] S1x256x512.size)) (unit_set' rfl rfl).subset) $$ h20_1
  iintro h20_1
  iapply (st (c := c) (i := 10) (hκ := rfl) (S := (box S2x256x7168 ![0, 0, 512 * 1] S1x256x512.size)) (w := o_57_0 (inD X 6)) (G20 X 6) (unit_set' rfl rfl) (fun j => (w20 X 6 1 rfl j).trans (congrFun (same_o_57_0 (inD X 6)).symm j))) $$ h20_1
  iintro h20_1
  iapply (ld (c := c) (i := 7) (hκ := rfl) (S := (box S2x256x256 ![0, 0, 0] S1x256x256.size)) (f := G17 X 6) (s_v1406 (inD X 6)) (unit_set' rfl rfl).subset (fun j => r17 X 6 rfl j)) $$ d17
  iintro d17
  iapply (ld (c := c) (i := 2) (hκ := rfl) (S := Finset.univ) (f := G12 X) (s_v1408 (inD X 6)) (Finset.subset_univ _) (r12 X 6 2 rfl)) $$ h12
  iintro h12
  iapply (ldd (c := c) (i := 10) (hκ := rfl) (S := (box S2x256x7168 ![0, 0, 512 * 2] S1x256x512.size)) (unit_set' rfl rfl).subset) $$ h20_2
  iintro h20_2
  iapply (st (c := c) (i := 10) (hκ := rfl) (S := (box S2x256x7168 ![0, 0, 512 * 2] S1x256x512.size)) (w := o_57_1 (inD X 6)) (G20 X 6) (unit_set' rfl rfl) (fun j => (w20 X 6 2 rfl j).trans (congrFun (same_o_57_1 (inD X 6)).symm j))) $$ h20_2
  iintro h20_2
  iapply (ld (c := c) (i := 7) (hκ := rfl) (S := (box S2x256x256 ![0, 0, 0] S1x256x256.size)) (f := G17 X 6) (s_v1416 (inD X 6)) (unit_set' rfl rfl).subset (fun j => r17 X 6 rfl j)) $$ d17
  iintro d17
  iapply (ld (c := c) (i := 2) (hκ := rfl) (S := Finset.univ) (f := G12 X) (s_v1418 (inD X 6)) (Finset.subset_univ _) (r12 X 6 3 rfl)) $$ h12
  iintro h12
  iapply (ldd (c := c) (i := 10) (hκ := rfl) (S := (box S2x256x7168 ![0, 0, 512 * 3] S1x256x512.size)) (unit_set' rfl rfl).subset) $$ h20_3
  iintro h20_3
  iapply (st (c := c) (i := 10) (hκ := rfl) (S := (box S2x256x7168 ![0, 0, 512 * 3] S1x256x512.size)) (w := o_57_2 (inD X 6)) (G20 X 6) (unit_set' rfl rfl) (fun j => (w20 X 6 3 rfl j).trans (congrFun (same_o_57_2 (inD X 6)).symm j))) $$ h20_3
  iintro h20_3
  iapply (ld (c := c) (i := 7) (hκ := rfl) (S := (box S2x256x256 ![0, 0, 0] S1x256x256.size)) (f := G17 X 6) (s_v1426 (inD X 6)) (unit_set' rfl rfl).subset (fun j => r17 X 6 rfl j)) $$ d17
  iintro d17
  iapply HK
  iframe h12 h20_1 d17 h20_2 h20_3

theorem part58 (c : Dev nD) {α : Type} {Q : α → sProp 𝕄} (K : (FVec F S256x256 .bf16) → Prog (TpuEff nD τ sig (Elt F) Λ₀ .tc) α) :
    iprop(PT c cc0_scratch2 Finset.univ (G12 X) ∗ PA c cc0_scratch10 (box S2x256x7168 ![0, 0, 512 * 4] S1x256x512.size) ∗ PT c cc0_scratch7 (box S2x256x256 ![0, 0, 0] S1x256x256.size) (G17 X 6) ∗ PA c cc0_scratch10 (box S2x256x7168 ![0, 0, 512 * 5] S1x256x512.size) ∗ PA c cc0_scratch10 (box S2x256x7168 ![0, 0, 512 * 6] S1x256x512.size))
      ⊢ iprop((iprop(PT c cc0_scratch2 Finset.univ (G12 X) ∗ PT c cc0_scratch10 (box S2x256x7168 ![0, 0, 512 * 4] S1x256x512.size) (G20 X 6) ∗ PT c cc0_scratch7 (box S2x256x256 ![0, 0, 0] S1x256x256.size) (G17 X 6) ∗ PT c cc0_scratch10 (box S2x256x7168 ![0, 0, 512 * 5] S1x256x512.size) (G20 X 6) ∗ PT c cc0_scratch10 (box S2x256x7168 ![0, 0, 512 * 6] S1x256x512.size) (G20 X 6)) -∗ WP c (K (s_v1457 (inD X 6))) Q)
        -∗ WP c (At k0_part58 (s_v1385 (inD X 6)) (s_v1427 (inD X 6)) >>= K) Q) := by
  rw [k0_part58_eq_skeleton]
  unfold At k0_part58_skel
  simp only [bind_assoc, pure_bind]
  iintro ⟨h12, h20_4, d17, h20_5, h20_6⟩ HK
  iapply (ld (c := c) (i := 2) (hκ := rfl) (S := Finset.univ) (f := G12 X) (s_v1428 (inD X 6)) (Finset.subset_univ _) (r12 X 6 4 rfl)) $$ h12
  iintro h12
  iapply (ldd (c := c) (i := 10) (hκ := rfl) (S := (box S2x256x7168 ![0, 0, 512 * 4] S1x256x512.size)) (unit_set' rfl rfl).subset) $$ h20_4
  iintro h20_4
  iapply (st (c := c) (i := 10) (hκ := rfl) (S := (box S2x256x7168 ![0, 0, 512 * 4] S1x256x512.size)) (w := o_58_0 (inD X 6)) (G20 X 6) (unit_set' rfl rfl) (fun j => (w20 X 6 4 rfl j).trans (congrFun (same_o_58_0 (inD X 6)).symm j))) $$ h20_4
  iintro h20_4
  iapply (ld (c := c) (i := 7) (hκ := rfl) (S := (box S2x256x256 ![0, 0, 0] S1x256x256.size)) (f := G17 X 6) (s_v1436 (inD X 6)) (unit_set' rfl rfl).subset (fun j => r17 X 6 rfl j)) $$ d17
  iintro d17
  iapply (ld (c := c) (i := 2) (hκ := rfl) (S := Finset.univ) (f := G12 X) (s_v1438 (inD X 6)) (Finset.subset_univ _) (r12 X 6 5 rfl)) $$ h12
  iintro h12
  iapply (ldd (c := c) (i := 10) (hκ := rfl) (S := (box S2x256x7168 ![0, 0, 512 * 5] S1x256x512.size)) (unit_set' rfl rfl).subset) $$ h20_5
  iintro h20_5
  iapply (st (c := c) (i := 10) (hκ := rfl) (S := (box S2x256x7168 ![0, 0, 512 * 5] S1x256x512.size)) (w := o_58_1 (inD X 6)) (G20 X 6) (unit_set' rfl rfl) (fun j => (w20 X 6 5 rfl j).trans (congrFun (same_o_58_1 (inD X 6)).symm j))) $$ h20_5
  iintro h20_5
  iapply (ld (c := c) (i := 7) (hκ := rfl) (S := (box S2x256x256 ![0, 0, 0] S1x256x256.size)) (f := G17 X 6) (s_v1446 (inD X 6)) (unit_set' rfl rfl).subset (fun j => r17 X 6 rfl j)) $$ d17
  iintro d17
  iapply (ld (c := c) (i := 2) (hκ := rfl) (S := Finset.univ) (f := G12 X) (s_v1448 (inD X 6)) (Finset.subset_univ _) (r12 X 6 6 rfl)) $$ h12
  iintro h12
  iapply (ldd (c := c) (i := 10) (hκ := rfl) (S := (box S2x256x7168 ![0, 0, 512 * 6] S1x256x512.size)) (unit_set' rfl rfl).subset) $$ h20_6
  iintro h20_6
  iapply (st (c := c) (i := 10) (hκ := rfl) (S := (box S2x256x7168 ![0, 0, 512 * 6] S1x256x512.size)) (w := o_58_2 (inD X 6)) (G20 X 6) (unit_set' rfl rfl) (fun j => (w20 X 6 6 rfl j).trans (congrFun (same_o_58_2 (inD X 6)).symm j))) $$ h20_6
  iintro h20_6
  iapply (ld (c := c) (i := 7) (hκ := rfl) (S := (box S2x256x256 ![0, 0, 0] S1x256x256.size)) (f := G17 X 6) (s_v1456 (inD X 6)) (unit_set' rfl rfl).subset (fun j => r17 X 6 rfl j)) $$ d17
  iintro d17
  iapply HK
  iframe h12 h20_4 d17 h20_5 h20_6

theorem part59 (c : Dev nD) {α : Type} {Q : α → sProp 𝕄} (K : (FVec F S256x256 .bf16) → Prog (TpuEff nD τ sig (Elt F) Λ₀ .tc) α) :
    iprop(PT c cc0_scratch2 Finset.univ (G12 X) ∗ PA c cc0_scratch10 (box S2x256x7168 ![0, 0, 512 * 7] S1x256x512.size) ∗ PT c cc0_scratch7 (box S2x256x256 ![0, 0, 0] S1x256x256.size) (G17 X 6) ∗ PA c cc0_scratch10 (box S2x256x7168 ![0, 0, 512 * 8] S1x256x512.size) ∗ PA c cc0_scratch10 (box S2x256x7168 ![0, 0, 512 * 9] S1x256x512.size))
      ⊢ iprop((iprop(PT c cc0_scratch2 Finset.univ (G12 X) ∗ PT c cc0_scratch10 (box S2x256x7168 ![0, 0, 512 * 7] S1x256x512.size) (G20 X 6) ∗ PT c cc0_scratch7 (box S2x256x256 ![0, 0, 0] S1x256x256.size) (G17 X 6) ∗ PT c cc0_scratch10 (box S2x256x7168 ![0, 0, 512 * 8] S1x256x512.size) (G20 X 6) ∗ PT c cc0_scratch10 (box S2x256x7168 ![0, 0, 512 * 9] S1x256x512.size) (G20 X 6)) -∗ WP c (K (s_v1487 (inD X 6))) Q)
        -∗ WP c (At k0_part59 (s_v1385 (inD X 6)) (s_v1457 (inD X 6)) >>= K) Q) := by
  rw [k0_part59_eq_skeleton]
  unfold At k0_part59_skel
  simp only [bind_assoc, pure_bind]
  iintro ⟨h12, h20_7, d17, h20_8, h20_9⟩ HK
  iapply (ld (c := c) (i := 2) (hκ := rfl) (S := Finset.univ) (f := G12 X) (s_v1458 (inD X 6)) (Finset.subset_univ _) (r12 X 6 7 rfl)) $$ h12
  iintro h12
  iapply (ldd (c := c) (i := 10) (hκ := rfl) (S := (box S2x256x7168 ![0, 0, 512 * 7] S1x256x512.size)) (unit_set' rfl rfl).subset) $$ h20_7
  iintro h20_7
  iapply (st (c := c) (i := 10) (hκ := rfl) (S := (box S2x256x7168 ![0, 0, 512 * 7] S1x256x512.size)) (w := o_59_0 (inD X 6)) (G20 X 6) (unit_set' rfl rfl) (fun j => (w20 X 6 7 rfl j).trans (congrFun (same_o_59_0 (inD X 6)).symm j))) $$ h20_7
  iintro h20_7
  iapply (ld (c := c) (i := 7) (hκ := rfl) (S := (box S2x256x256 ![0, 0, 0] S1x256x256.size)) (f := G17 X 6) (s_v1466 (inD X 6)) (unit_set' rfl rfl).subset (fun j => r17 X 6 rfl j)) $$ d17
  iintro d17
  iapply (ld (c := c) (i := 2) (hκ := rfl) (S := Finset.univ) (f := G12 X) (s_v1468 (inD X 6)) (Finset.subset_univ _) (r12 X 6 8 rfl)) $$ h12
  iintro h12
  iapply (ldd (c := c) (i := 10) (hκ := rfl) (S := (box S2x256x7168 ![0, 0, 512 * 8] S1x256x512.size)) (unit_set' rfl rfl).subset) $$ h20_8
  iintro h20_8
  iapply (st (c := c) (i := 10) (hκ := rfl) (S := (box S2x256x7168 ![0, 0, 512 * 8] S1x256x512.size)) (w := o_59_1 (inD X 6)) (G20 X 6) (unit_set' rfl rfl) (fun j => (w20 X 6 8 rfl j).trans (congrFun (same_o_59_1 (inD X 6)).symm j))) $$ h20_8
  iintro h20_8
  iapply (ld (c := c) (i := 7) (hκ := rfl) (S := (box S2x256x256 ![0, 0, 0] S1x256x256.size)) (f := G17 X 6) (s_v1476 (inD X 6)) (unit_set' rfl rfl).subset (fun j => r17 X 6 rfl j)) $$ d17
  iintro d17
  iapply (ld (c := c) (i := 2) (hκ := rfl) (S := Finset.univ) (f := G12 X) (s_v1478 (inD X 6)) (Finset.subset_univ _) (r12 X 6 9 rfl)) $$ h12
  iintro h12
  iapply (ldd (c := c) (i := 10) (hκ := rfl) (S := (box S2x256x7168 ![0, 0, 512 * 9] S1x256x512.size)) (unit_set' rfl rfl).subset) $$ h20_9
  iintro h20_9
  iapply (st (c := c) (i := 10) (hκ := rfl) (S := (box S2x256x7168 ![0, 0, 512 * 9] S1x256x512.size)) (w := o_59_2 (inD X 6)) (G20 X 6) (unit_set' rfl rfl) (fun j => (w20 X 6 9 rfl j).trans (congrFun (same_o_59_2 (inD X 6)).symm j))) $$ h20_9
  iintro h20_9
  iapply (ld (c := c) (i := 7) (hκ := rfl) (S := (box S2x256x256 ![0, 0, 0] S1x256x256.size)) (f := G17 X 6) (s_v1486 (inD X 6)) (unit_set' rfl rfl).subset (fun j => r17 X 6 rfl j)) $$ d17
  iintro d17
  iapply HK
  iframe h12 h20_7 d17 h20_8 h20_9

theorem part60 (c : Dev nD) {α : Type} {Q : α → sProp 𝕄} (K : (FVec F S256x256 .bf16) → Prog (TpuEff nD τ sig (Elt F) Λ₀ .tc) α) :
    iprop(PT c cc0_scratch2 Finset.univ (G12 X) ∗ PA c cc0_scratch10 (box S2x256x7168 ![0, 0, 512 * 10] S1x256x512.size) ∗ PT c cc0_scratch7 (box S2x256x256 ![0, 0, 0] S1x256x256.size) (G17 X 6) ∗ PA c cc0_scratch10 (box S2x256x7168 ![0, 0, 512 * 11] S1x256x512.size) ∗ PA c cc0_scratch10 (box S2x256x7168 ![0, 0, 512 * 12] S1x256x512.size))
      ⊢ iprop((iprop(PT c cc0_scratch2 Finset.univ (G12 X) ∗ PT c cc0_scratch10 (box S2x256x7168 ![0, 0, 512 * 10] S1x256x512.size) (G20 X 6) ∗ PT c cc0_scratch7 (box S2x256x256 ![0, 0, 0] S1x256x256.size) (G17 X 6) ∗ PT c cc0_scratch10 (box S2x256x7168 ![0, 0, 512 * 11] S1x256x512.size) (G20 X 6) ∗ PT c cc0_scratch10 (box S2x256x7168 ![0, 0, 512 * 12] S1x256x512.size) (G20 X 6)) -∗ WP c (K (s_v1517 (inD X 6))) Q)
        -∗ WP c (At k0_part60 (s_v1385 (inD X 6)) (s_v1487 (inD X 6)) >>= K) Q) := by
  rw [k0_part60_eq_skeleton]
  unfold At k0_part60_skel
  simp only [bind_assoc, pure_bind]
  iintro ⟨h12, h20_10, d17, h20_11, h20_12⟩ HK
  iapply (ld (c := c) (i := 2) (hκ := rfl) (S := Finset.univ) (f := G12 X) (s_v1488 (inD X 6)) (Finset.subset_univ _) (r12 X 6 10 rfl)) $$ h12
  iintro h12
  iapply (ldd (c := c) (i := 10) (hκ := rfl) (S := (box S2x256x7168 ![0, 0, 512 * 10] S1x256x512.size)) (unit_set' rfl rfl).subset) $$ h20_10
  iintro h20_10
  iapply (st (c := c) (i := 10) (hκ := rfl) (S := (box S2x256x7168 ![0, 0, 512 * 10] S1x256x512.size)) (w := o_60_0 (inD X 6)) (G20 X 6) (unit_set' rfl rfl) (fun j => (w20 X 6 10 rfl j).trans (congrFun (same_o_60_0 (inD X 6)).symm j))) $$ h20_10
  iintro h20_10
  iapply (ld (c := c) (i := 7) (hκ := rfl) (S := (box S2x256x256 ![0, 0, 0] S1x256x256.size)) (f := G17 X 6) (s_v1496 (inD X 6)) (unit_set' rfl rfl).subset (fun j => r17 X 6 rfl j)) $$ d17
  iintro d17
  iapply (ld (c := c) (i := 2) (hκ := rfl) (S := Finset.univ) (f := G12 X) (s_v1498 (inD X 6)) (Finset.subset_univ _) (r12 X 6 11 rfl)) $$ h12
  iintro h12
  iapply (ldd (c := c) (i := 10) (hκ := rfl) (S := (box S2x256x7168 ![0, 0, 512 * 11] S1x256x512.size)) (unit_set' rfl rfl).subset) $$ h20_11
  iintro h20_11
  iapply (st (c := c) (i := 10) (hκ := rfl) (S := (box S2x256x7168 ![0, 0, 512 * 11] S1x256x512.size)) (w := o_60_1 (inD X 6)) (G20 X 6) (unit_set' rfl rfl) (fun j => (w20 X 6 11 rfl j).trans (congrFun (same_o_60_1 (inD X 6)).symm j))) $$ h20_11
  iintro h20_11
  iapply (ld (c := c) (i := 7) (hκ := rfl) (S := (box S2x256x256 ![0, 0, 0] S1x256x256.size)) (f := G17 X 6) (s_v1506 (inD X 6)) (unit_set' rfl rfl).subset (fun j => r17 X 6 rfl j)) $$ d17
  iintro d17
  iapply (ld (c := c) (i := 2) (hκ := rfl) (S := Finset.univ) (f := G12 X) (s_v1508 (inD X 6)) (Finset.subset_univ _) (r12 X 6 12 rfl)) $$ h12
  iintro h12
  iapply (ldd (c := c) (i := 10) (hκ := rfl) (S := (box S2x256x7168 ![0, 0, 512 * 12] S1x256x512.size)) (unit_set' rfl rfl).subset) $$ h20_12
  iintro h20_12
  iapply (st (c := c) (i := 10) (hκ := rfl) (S := (box S2x256x7168 ![0, 0, 512 * 12] S1x256x512.size)) (w := o_60_2 (inD X 6)) (G20 X 6) (unit_set' rfl rfl) (fun j => (w20 X 6 12 rfl j).trans (congrFun (same_o_60_2 (inD X 6)).symm j))) $$ h20_12
  iintro h20_12
  iapply (ld (c := c) (i := 7) (hκ := rfl) (S := (box S2x256x256 ![0, 0, 0] S1x256x256.size)) (f := G17 X 6) (s_v1516 (inD X 6)) (unit_set' rfl rfl).subset (fun j => r17 X 6 rfl j)) $$ d17
  iintro d17
  iapply HK
  iframe h12 h20_10 d17 h20_11 h20_12

theorem part61 (c : Dev nD) {α : Type} {Q : α → sProp 𝕄} (K : (PUnit) → Prog (TpuEff nD τ sig (Elt F) Λ₀ .tc) α) :
    iprop(PT c cc0_scratch2 Finset.univ (G12 X) ∗ PA c cc0_scratch10 (box S2x256x7168 ![0, 0, 512 * 13] S1x256x512.size) ∗ PT c cc0_scratch10 (box S2x256x7168 ![0, 0, 512 * 0] S1x256x512.size) (G20 X 6) ∗ PT c cc0_scratch10 (box S2x256x7168 ![0, 0, 512 * 1] S1x256x512.size) (G20 X 6) ∗ PT c cc0_scratch10 (box S2x256x7168 ![0, 0, 512 * 2] S1x256x512.size) (G20 X 6) ∗ PT c cc0_scratch10 (box S2x256x7168 ![0, 0, 512 * 3] S1x256x512.size) (G20 X 6) ∗ PT c cc0_scratch10 (box S2x256x7168 ![0, 0, 512 * 4] S1x256x512.size) (G20 X 6) ∗ PT c cc0_scratch10 (box S2x256x7168 ![0, 0, 512 * 5] S1x256x512.size) (G20 X 6) ∗ PT c cc0_scratch10 (box S2x256x7168 ![0, 0, 512 * 6] S1x256x512.size) (G20 X 6) ∗ PT c cc0_scratch10 (box S2x256x7168 ![0, 0, 512 * 7] S1x256x512.size) (G20 X 6) ∗ PT c cc0_scratch10 (box S2x256x7168 ![0, 0, 512 * 8] S1x256x512.size) (G20 X 6) ∗ PT c cc0_scratch10 (box S2x256x7168 ![0, 0, 512 * 9] S1x256x512.size) (G20 X 6) ∗ PT c cc0_scratch10 (box S2x256x7168 ![0, 0, 512 * 10] S1x256x512.size) (G20 X 6) ∗ PT c cc0_scratch10 (box S2x256x7168 ![0, 0, 512 * 11] S1x256x512.size) (G20 X 6) ∗ PT c cc0_scratch10 (box S2x256x7168 ![0, 0, 512 * 12] S1x256x512.size) (G20 X 6) ∗ PA c main_v3_0 (box S2048x7168 ![256 * 6, 0] S256x7168.size) ∗ SV c (cell 25) ∗ PT c cc0_scratch12 (box S2048x256 ![128 * (2 * 7 + 0), 0] S128x256.size) (G22 X) ∗ PT c cc0_scratch12 (box S2048x256 ![128 * (2 * 7 + 1), 0] S128x256.size) (G22 X) ∗ PA c main_v3_2 (box S2048x256 ![256 * 7, 0] S256x256.size) ∗ BT c (cell 28) N7 (D7 X c) 7 0 ∗ PT c cc0_scratch13 (box S2048x256 ![128 * (2 * 7 + 0), 0] S128x256.size) (G23 X) ∗ PT c cc0_scratch13 (box S2048x256 ![128 * (2 * 7 + 1), 0] S128x256.size) (G23 X) ∗ PA c main_v3_3 (box S2048x256 ![256 * 7, 0] S256x256.size) ∗ BT c (cell 29) N8 (D8 X c) 7 0 ∗ PT c cc0_scratch14 Finset.univ ((G24 X)) ∗ PA c main_v3_4 Finset.univ ∗ SV c (cell 30))
      ⊢ iprop((iprop(PT c cc0_scratch2 Finset.univ (G12 X) ∗ FL c (cell 25) N5 iprop(PT c main_v3_0 (box S2048x7168 ![256 * 6, 0] S256x7168.size) ((G5 X)) ∗ PT c cc0_scratch10 (box S2x256x7168 ![0, 0, 0] S1x256x7168.size) ((G20 X 6))) ∗ BT c (cell 28) N7 (D7 X c) 8 0 ∗ BT c (cell 29) N8 (D8 X c) 8 0 ∗ FL c (cell 30) N9 iprop(PT c main_v3_4 Finset.univ ((G24 X)) ∗ PT c cc0_scratch14 Finset.univ ((G24 X)))) -∗ WP c (K ⟨⟩) Q)
        -∗ WP c (At k0_part61 (s_v1385 (inD X 6)) (s_v1517 (inD X 6)) >>= K) Q) := by
  rw [k0_part61_eq_skeleton]
  unfold At k0_part61_skel
  simp only [bind_assoc, pure_bind]
  iintro ⟨h12, h20_13, h20_0, h20_1, h20_2, h20_3, h20_4, h20_5, h20_6, h20_7, h20_8, h20_9, h20_10, h20_11, h20_12, u5_6, v25, h22a, h22b, u7, B7, h23a, h23b, u8, B8, h24, u9, v30⟩ HK
  iapply (ld (c := c) (i := 2) (hκ := rfl) (S := Finset.univ) (f := G12 X) (s_v1518 (inD X 6)) (Finset.subset_univ _) (r12 X 6 13 rfl)) $$ h12
  iintro h12
  iapply (ldd (c := c) (i := 10) (hκ := rfl) (S := (box S2x256x7168 ![0, 0, 512 * 13] S1x256x512.size)) (unit_set' rfl rfl).subset) $$ h20_13
  iintro h20_13
  iapply (st (c := c) (i := 10) (hκ := rfl) (S := (box S2x256x7168 ![0, 0, 512 * 13] S1x256x512.size)) (w := o_61_0 (inD X 6)) (G20 X 6) (unit_set' rfl rfl) (fun j => (w20 X 6 13 rfl j).trans (congrFun (same_o_61_0 (inD X 6)).symm j))) $$ h20_13
  iintro h20_13
  ihave h20 := (Entails.of_eq (ch20 (c := c) (0) (G20 X 6)).symm) $$ [h20_0 h20_1 h20_2 h20_3 h20_4 h20_5 h20_6 h20_7 h20_8 h20_9 h20_10 h20_11 h20_12 h20_13]
  · iframe h20_0 h20_1 h20_2 h20_3 h20_4 h20_5 h20_6 h20_7 h20_8 h20_9 h20_10 h20_11 h20_12 h20_13
  iapply (dma (c := c) (src := (((Memref.whole cc0_scratch10).slice (Rect.unit (s := S2x256x7168) ![0, 0, 0] S1x256x7168.size inb_S2x256x7168_S1x256x7168_0_0_0) (fun _ => rfl)).squeeze S256x7168 squeezes_S1x256x7168_S256x7168)) (dst := ((Memref.whole main_v3_0).slice (Rect.unit (s := S2048x7168) ![1536, 0] S256x7168.size inb_S2048x7168_S256x7168_1536_0) (fun _ => rfl))) (sm := ((cc0_scratch19.slice (Rect.unit (s := S2) ![0] S1.size inb_S2_S1_0)).squeeze S_ squeezes_S1_S_).sem) (cell 25) N5 (box S2x256x7168 ![0, 0, 0] S1x256x7168.size) (box S2048x7168 ![256 * 6, 0] S256x7168.size) (G5 X) (fs := (G20 X 6)) rfl rfl N5_pos ((View.set_reshape _ _).trans (set_sl.trans (unit_set' rfl rfl))) (set_sl.trans (unit_set' rfl rfl)) (cp5 X 6 (0) (by omega) rfl rfl)) $$ [h20 u5_6 v25]
  · iframe h20 u5_6 v25
  iintro f25
  ihave h22 := (Entails.of_eq (row22 (c := c) 7 (G22 X)).symm) $$ [h22a h22b]
  · iframe h22a h22b
  iapply (dmaB' (c := c) (src := ((Memref.whole cc0_scratch12).slice (Rect.unit (s := S2048x256) ![1792, 0] S256x256.size inb_S2048x256_S256x256_1792_0) (fun _ => rfl))) (dst := ((Memref.whole main_v3_2).slice (Rect.unit (s := S2048x256) ![1792, 0] S256x256.size inb_S2048x256_S256x256_1792_0) (fun _ => rfl))) (sm := ((cc0_scratch21.slice (Rect.unit (s := S3) ![0] S1.size inb_S3_S1_0)).squeeze S_ squeezes_S1_S_).sem) (D := (D7 X c)) (cell 28) N7 7 (by decide) (box S2048x256 ![256 * 7, 0] S256x256.size) (box S2048x256 ![256 * 7, 0] S256x256.size) (G22 X) (fs := (G22 X)) rfl rfl (set_sl.trans (unit_set' rfl rfl)) (set_sl.trans (unit_set' rfl rfl)) rfl rfl) $$ [h22 u7 B7]
  · iframe h22 u7 B7
  iintro B7
  ihave h23 := (Entails.of_eq (row23 (c := c) 7 (G23 X)).symm) $$ [h23a h23b]
  · iframe h23a h23b
  iapply (dmaB' (c := c) (src := ((Memref.whole cc0_scratch13).slice (Rect.unit (s := S2048x256) ![1792, 0] S256x256.size inb_S2048x256_S256x256_1792_0) (fun _ => rfl))) (dst := ((Memref.whole main_v3_3).slice (Rect.unit (s := S2048x256) ![1792, 0] S256x256.size inb_S2048x256_S256x256_1792_0) (fun _ => rfl))) (sm := ((cc0_scratch21.slice (Rect.unit (s := S3) ![1] S1.size inb_S3_S1_1)).squeeze S_ squeezes_S1_S_).sem) (D := (D8 X c)) (cell 29) N8 7 (by decide) (box S2048x256 ![256 * 7, 0] S256x256.size) (box S2048x256 ![256 * 7, 0] S256x256.size) (G23 X) (fs := (G23 X)) rfl rfl (set_sl.trans (unit_set' rfl rfl)) (set_sl.trans (unit_set' rfl rfl)) rfl rfl) $$ [h23 u8 B8]
  · iframe h23 u8 B8
  iintro B8
  iapply (dma (c := c) (src := (Memref.whole cc0_scratch14)) (dst := (Memref.whole main_v3_4)) (sm := ((cc0_scratch21.slice (Rect.unit (s := S3) ![2] S1.size inb_S3_S1_2)).squeeze S_ squeezes_S1_S_).sem) (cell 30) N9 Finset.univ Finset.univ (G24 X) (fs := (G24 X)) rfl rfl N9_pos set_wh set_wh rfl) $$ [h24 u9 v30]
  · iframe h24 u9 v30
  iintro f30
  iapply HK
  iframe h12 f25 B7 B8 f30

theorem part62 (c : Dev nD) {α : Type} {Q : α → sProp 𝕄} (K : (Σ' (v1554 : FVec F S256x1 .f32), FVec F S256x256 .bf16) → Prog (TpuEff nD τ sig (Elt F) Λ₀ .tc) α) :
    iprop(Ow c ∗ FL c (cell 26) N5 iprop(PT c main_v3_0 (box S2048x7168 ![256 * 5, 0] S256x7168.size) ((G5 X)) ∗ PT c cc0_scratch10 (box S2x256x7168 ![1, 0, 0] S1x256x7168.size) ((G20 X 5))) ∗ PT c cc0_scratch8 (box S2x256x128 ![1, 0, 0] S1x256x128.size) (G18 X 7) ∗ PT c cc0_scratch7 (box S2x256x256 ![1, 0, 0] S1x256x256.size) (G17 X 7) ∗ PT c cc0_scratch2 Finset.univ (G12 X))
      ⊢ iprop((iprop(Ow c ∗ PT c main_v3_0 (box S2048x7168 ![256 * 5, 0] S256x7168.size) ((G5 X)) ∗ SV c (cell 26) ∗ PT c cc0_scratch10 (box S2x256x7168 ![1, 0, 512 * 0] S1x256x512.size) (G20 X 7) ∗ PT c cc0_scratch10 (box S2x256x7168 ![1, 0, 512 * 1] S1x256x512.size) (G20 X 7) ∗ PA c cc0_scratch10 (box S2x256x7168 ![1, 0, 512 * 2] S1x256x512.size) ∗ PA c cc0_scratch10 (box S2x256x7168 ![1, 0, 512 * 3] S1x256x512.size) ∗ PA c cc0_scratch10 (box S2x256x7168 ![1, 0, 512 * 4] S1x256x512.size) ∗ PA c cc0_scratch10 (box S2x256x7168 ![1, 0, 512 * 5] S1x256x512.size) ∗ PA c cc0_scratch10 (box S2x256x7168 ![1, 0, 512 * 6] S1x256x512.size) ∗ PA c cc0_scratch10 (box S2x256x7168 ![1, 0, 512 * 7] S1x256x512.size) ∗ PA c cc0_scratch10 (box S2x256x7168 ![1, 0, 512 * 8] S1x256x512.size) ∗ PA c cc0_scratch10 (box S2x256x7168 ![1, 0, 512 * 9] S1x256x512.size) ∗ PA c cc0_scratch10 (box S2x256x7168 ![1, 0, 512 * 10] S1x256x512.size) ∗ PA c cc0_scratch10 (box S2x256x7168 ![1, 0, 512 * 11] S1x256x512.size) ∗ PA c cc0_scratch10 (box S2x256x7168 ![1, 0, 512 * 12] S1x256x512.size) ∗ PA c cc0_scratch10 (box S2x256x7168 ![1, 0, 512 * 13] S1x256x512.size) ∗ PT c cc0_scratch8 (box S2x256x128 ![1, 0, 0] S1x256x128.size) (G18 X 7) ∗ PT c cc0_scratch7 (box S2x256x256 ![1, 0, 0] S1x256x256.size) (G17 X 7) ∗ PT c cc0_scratch2 Finset.univ (G12 X)) -∗ WP c (K ⟨(s_v1554 (inD X 7)), (s_v1576 (inD X 7))⟩) Q)
        -∗ WP c (At k0_part62 >>= K) Q) := by
  rw [k0_part62_eq_skeleton]
  unfold At k0_part62_skel
  simp only [bind_assoc, pure_bind]
  iintro ⟨hO, f26, e18, e17, h12⟩ HK
  iapply (wt (c := c) (cell 26) (N := N5) rfl rfl) $$ [f26 hO]
  · iframe f26 hO
  iintro ⟨⟨u5_5, n20⟩, v26, hO⟩
  ihave n20 := (pa (c := c)) $$ n20
  ihave n20 := (ch20A (c := c) 1) $$ n20
  icases n20 with ⟨n20_0, n20_1, n20_2, n20_3, n20_4, n20_5, n20_6, n20_7, n20_8, n20_9, n20_10, n20_11, n20_12, n20_13⟩
  iapply (ld (c := c) (i := 8) (hκ := rfl) (S := (box S2x256x128 ![1, 0, 0] S1x256x128.size)) (f := G18 X 7) (s_v1552 (inD X 7)) (unit_set' rfl rfl).subset (fun j => r18 X 7 rfl j)) $$ e18
  iintro e18
  iapply (ld (c := c) (i := 7) (hκ := rfl) (S := (box S2x256x256 ![1, 0, 0] S1x256x256.size)) (f := G17 X 7) (s_v1555 (inD X 7)) (unit_set' rfl rfl).subset (fun j => r17 X 7 rfl j)) $$ e17
  iintro e17
  iapply (ld (c := c) (i := 2) (hκ := rfl) (S := Finset.univ) (f := G12 X) (s_v1557 (inD X 7)) (Finset.subset_univ _) (r12 X 7 0 rfl)) $$ h12
  iintro h12
  iapply (ldd (c := c) (i := 10) (hκ := rfl) (S := (box S2x256x7168 ![1, 0, 512 * 0] S1x256x512.size)) (unit_set' rfl rfl).subset) $$ n20_0
  iintro n20_0
  iapply (st (c := c) (i := 10) (hκ := rfl) (S := (box S2x256x7168 ![1, 0, 512 * 0] S1x256x512.size)) (w := o_62_0 (inD X 7)) (G20 X 7) (unit_set' rfl rfl) (fun j => (w20 X 7 0 rfl j).trans (congrFun (same_o_62_0 (inD X 7)).symm j))) $$ n20_0
  iintro n20_0
  iapply (ld (c := c) (i := 7) (hκ := rfl) (S := (box S2x256x256 ![1, 0, 0] S1x256x256.size)) (f := G17 X 7) (s_v1565 (inD X 7)) (unit_set' rfl rfl).subset (fun j => r17 X 7 rfl j)) $$ e17
  iintro e17
  iapply (ld (c := c) (i := 2) (hκ := rfl) (S := Finset.univ) (f := G12 X) (s_v1567 (inD X 7)) (Finset.subset_univ _) (r12 X 7 1 rfl)) $$ h12
  iintro h12
  iapply (ldd (c := c) (i := 10) (hκ := rfl) (S := (box S2x256x7168 ![1, 0, 512 * 1] S1x256x512.size)) (unit_set' rfl rfl).subset) $$ n20_1
  iintro n20_1
  iapply (st (c := c) (i := 10) (hκ := rfl) (S := (box S2x256x7168 ![1, 0, 512 * 1] S1x256x512.size)) (w := o_62_1 (inD X 7)) (G20 X 7) (unit_set' rfl rfl) (fun j => (w20 X 7 1 rfl j).trans (congrFun (same_o_62_1 (inD X 7)).symm j))) $$ n20_1
  iintro n20_1
  iapply (ld (c := c) (i := 7) (hκ := rfl) (S := (box S2x256x256 ![1, 0, 0] S1x256x256.size)) (f := G17 X 7) (s_v1575 (inD X 7)) (unit_set' rfl rfl).subset (fun j => r17 X 7 rfl j)) $$ e17
  iintro e17
  iapply HK
  iframe hO u5_5 v26 n20_0 n20_1 n20_2 n20_3 n20_4 n20_5 n20_6 n20_7 n20_8 n20_9 n20_10 n20_11 n20_12 n20_13 e18 e17 h12

theorem part63 (c : Dev nD) {α : Type} {Q : α → sProp 𝕄} (K : (FVec F S256x256 .bf16) → Prog (TpuEff nD τ sig (Elt F) Λ₀ .tc) α) :
    iprop(PT c cc0_scratch2 Finset.univ (G12 X) ∗ PA c cc0_scratch10 (box S2x256x7168 ![1, 0, 512 * 2] S1x256x512.size) ∗ PT c cc0_scratch7 (box S2x256x256 ![1, 0, 0] S1x256x256.size) (G17 X 7) ∗ PA c cc0_scratch10 (box S2x256x7168 ![1, 0, 512 * 3] S1x256x512.size) ∗ PA c cc0_scratch10 (box S2x256x7168 ![1, 0, 512 * 4] S1x256x512.size))
      ⊢ iprop((iprop(PT c cc0_scratch2 Finset.univ (G12 X) ∗ PT c cc0_scratch10 (box S2x256x7168 ![1, 0, 512 * 2] S1x256x512.size) (G20 X 7) ∗ PT c cc0_scratch7 (box S2x256x256 ![1, 0, 0] S1x256x256.size) (G17 X 7) ∗ PT c cc0_scratch10 (box S2x256x7168 ![1, 0, 512 * 3] S1x256x512.size) (G20 X 7) ∗ PT c cc0_scratch10 (box S2x256x7168 ![1, 0, 512 * 4] S1x256x512.size) (G20 X 7)) -∗ WP c (K (s_v1606 (inD X 7))) Q)
        -∗ WP c (At k0_part63 (s_v1554 (inD X 7)) (s_v1576 (inD X 7)) >>= K) Q) := by
  rw [k0_part63_eq_skeleton]
  unfold At k0_part63_skel
  simp only [bind_assoc, pure_bind]
  iintro ⟨h12, n20_2, e17, n20_3, n20_4⟩ HK
  iapply (ld (c := c) (i := 2) (hκ := rfl) (S := Finset.univ) (f := G12 X) (s_v1577 (inD X 7)) (Finset.subset_univ _) (r12 X 7 2 rfl)) $$ h12
  iintro h12
  iapply (ldd (c := c) (i := 10) (hκ := rfl) (S := (box S2x256x7168 ![1, 0, 512 * 2] S1x256x512.size)) (unit_set' rfl rfl).subset) $$ n20_2
  iintro n20_2
  iapply (st (c := c) (i := 10) (hκ := rfl) (S := (box S2x256x7168 ![1, 0, 512 * 2] S1x256x512.size)) (w := o_63_0 (inD X 7)) (G20 X 7) (unit_set' rfl rfl) (fun j => (w20 X 7 2 rfl j).trans (congrFun (same_o_63_0 (inD X 7)).symm j))) $$ n20_2
  iintro n20_2
  iapply (ld (c := c) (i := 7) (hκ := rfl) (S := (box S2x256x256 ![1, 0, 0] S1x256x256.size)) (f := G17 X 7) (s_v1585 (inD X 7)) (unit_set' rfl rfl).subset (fun j => r17 X 7 rfl j)) $$ e17
  iintro e17
  iapply (ld (c := c) (i := 2) (hκ := rfl) (S := Finset.univ) (f := G12 X) (s_v1587 (inD X 7)) (Finset.subset_univ _) (r12 X 7 3 rfl)) $$ h12
  iintro h12
  iapply (ldd (c := c) (i := 10) (hκ := rfl) (S := (box S2x256x7168 ![1, 0, 512 * 3] S1x256x512.size)) (unit_set' rfl rfl).subset) $$ n20_3
  iintro n20_3
  iapply (st (c := c) (i := 10) (hκ := rfl) (S := (box S2x256x7168 ![1, 0, 512 * 3] S1x256x512.size)) (w := o_63_1 (inD X 7)) (G20 X 7) (unit_set' rfl rfl) (fun j => (w20 X 7 3 rfl j).trans (congrFun (same_o_63_1 (inD X 7)).symm j))) $$ n20_3
  iintro n20_3
  iapply (ld (c := c) (i := 7) (hκ := rfl) (S := (box S2x256x256 ![1, 0, 0] S1x256x256.size)) (f := G17 X 7) (s_v1595 (inD X 7)) (unit_set' rfl rfl).subset (fun j => r17 X 7 rfl j)) $$ e17
  iintro e17
  iapply (ld (c := c) (i := 2) (hκ := rfl) (S := Finset.univ) (f := G12 X) (s_v1597 (inD X 7)) (Finset.subset_univ _) (r12 X 7 4 rfl)) $$ h12
  iintro h12
  iapply (ldd (c := c) (i := 10) (hκ := rfl) (S := (box S2x256x7168 ![1, 0, 512 * 4] S1x256x512.size)) (unit_set' rfl rfl).subset) $$ n20_4
  iintro n20_4
  iapply (st (c := c) (i := 10) (hκ := rfl) (S := (box S2x256x7168 ![1, 0, 512 * 4] S1x256x512.size)) (w := o_63_2 (inD X 7)) (G20 X 7) (unit_set' rfl rfl) (fun j => (w20 X 7 4 rfl j).trans (congrFun (same_o_63_2 (inD X 7)).symm j))) $$ n20_4
  iintro n20_4
  iapply (ld (c := c) (i := 7) (hκ := rfl) (S := (box S2x256x256 ![1, 0, 0] S1x256x256.size)) (f := G17 X 7) (s_v1605 (inD X 7)) (unit_set' rfl rfl).subset (fun j => r17 X 7 rfl j)) $$ e17
  iintro e17
  iapply HK
  iframe h12 n20_2 e17 n20_3 n20_4

theorem part64 (c : Dev nD) {α : Type} {Q : α → sProp 𝕄} (K : (FVec F S256x256 .bf16) → Prog (TpuEff nD τ sig (Elt F) Λ₀ .tc) α) :
    iprop(PT c cc0_scratch2 Finset.univ (G12 X) ∗ PA c cc0_scratch10 (box S2x256x7168 ![1, 0, 512 * 5] S1x256x512.size) ∗ PT c cc0_scratch7 (box S2x256x256 ![1, 0, 0] S1x256x256.size) (G17 X 7) ∗ PA c cc0_scratch10 (box S2x256x7168 ![1, 0, 512 * 6] S1x256x512.size) ∗ PA c cc0_scratch10 (box S2x256x7168 ![1, 0, 512 * 7] S1x256x512.size))
      ⊢ iprop((iprop(PT c cc0_scratch2 Finset.univ (G12 X) ∗ PT c cc0_scratch10 (box S2x256x7168 ![1, 0, 512 * 5] S1x256x512.size) (G20 X 7) ∗ PT c cc0_scratch7 (box S2x256x256 ![1, 0, 0] S1x256x256.size) (G17 X 7) ∗ PT c cc0_scratch10 (box S2x256x7168 ![1, 0, 512 * 6] S1x256x512.size) (G20 X 7) ∗ PT c cc0_scratch10 (box S2x256x7168 ![1, 0, 512 * 7] S1x256x512.size) (G20 X 7)) -∗ WP c (K (s_v1636 (inD X 7))) Q)
        -∗ WP c (At k0_part64 (s_v1554 (inD X 7)) (s_v1606 (inD X 7)) >>= K) Q) := by
  rw [k0_part64_eq_skeleton]
  unfold At k0_part64_skel
  simp only [bind_assoc, pure_bind]
  iintro ⟨h12, n20_5, e17, n20_6, n20_7⟩ HK
  iapply (ld (c := c) (i := 2) (hκ := rfl) (S := Finset.univ) (f := G12 X) (s_v1607 (inD X 7)) (Finset.subset_univ _) (r12 X 7 5 rfl)) $$ h12
  iintro h12
  iapply (ldd (c := c) (i := 10) (hκ := rfl) (S := (box S2x256x7168 ![1, 0, 512 * 5] S1x256x512.size)) (unit_set' rfl rfl).subset) $$ n20_5
  iintro n20_5
  iapply (st (c := c) (i := 10) (hκ := rfl) (S := (box S2x256x7168 ![1, 0, 512 * 5] S1x256x512.size)) (w := o_64_0 (inD X 7)) (G20 X 7) (unit_set' rfl rfl) (fun j => (w20 X 7 5 rfl j).trans (congrFun (same_o_64_0 (inD X 7)).symm j))) $$ n20_5
  iintro n20_5
  iapply (ld (c := c) (i := 7) (hκ := rfl) (S := (box S2x256x256 ![1, 0, 0] S1x256x256.size)) (f := G17 X 7) (s_v1615 (inD X 7)) (unit_set' rfl rfl).subset (fun j => r17 X 7 rfl j)) $$ e17
  iintro e17
  iapply (ld (c := c) (i := 2) (hκ := rfl) (S := Finset.univ) (f := G12 X) (s_v1617 (inD X 7)) (Finset.subset_univ _) (r12 X 7 6 rfl)) $$ h12
  iintro h12
  iapply (ldd (c := c) (i := 10) (hκ := rfl) (S := (box S2x256x7168 ![1, 0, 512 * 6] S1x256x512.size)) (unit_set' rfl rfl).subset) $$ n20_6
  iintro n20_6
  iapply (st (c := c) (i := 10) (hκ := rfl) (S := (box S2x256x7168 ![1, 0, 512 * 6] S1x256x512.size)) (w := o_64_1 (inD X 7)) (G20 X 7) (unit_set' rfl rfl) (fun j => (w20 X 7 6 rfl j).trans (congrFun (same_o_64_1 (inD X 7)).symm j))) $$ n20_6
  iintro n20_6
  iapply (ld (c := c) (i := 7) (hκ := rfl) (S := (box S2x256x256 ![1, 0, 0] S1x256x256.size)) (f := G17 X 7) (s_v1625 (inD X 7)) (unit_set' rfl rfl).subset (fun j => r17 X 7 rfl j)) $$ e17
  iintro e17
  iapply (ld (c := c) (i := 2) (hκ := rfl) (S := Finset.univ) (f := G12 X) (s_v1627 (inD X 7)) (Finset.subset_univ _) (r12 X 7 7 rfl)) $$ h12
  iintro h12
  iapply (ldd (c := c) (i := 10) (hκ := rfl) (S := (box S2x256x7168 ![1, 0, 512 * 7] S1x256x512.size)) (unit_set' rfl rfl).subset) $$ n20_7
  iintro n20_7
  iapply (st (c := c) (i := 10) (hκ := rfl) (S := (box S2x256x7168 ![1, 0, 512 * 7] S1x256x512.size)) (w := o_64_2 (inD X 7)) (G20 X 7) (unit_set' rfl rfl) (fun j => (w20 X 7 7 rfl j).trans (congrFun (same_o_64_2 (inD X 7)).symm j))) $$ n20_7
  iintro n20_7
  iapply (ld (c := c) (i := 7) (hκ := rfl) (S := (box S2x256x256 ![1, 0, 0] S1x256x256.size)) (f := G17 X 7) (s_v1635 (inD X 7)) (unit_set' rfl rfl).subset (fun j => r17 X 7 rfl j)) $$ e17
  iintro e17
  iapply HK
  iframe h12 n20_5 e17 n20_6 n20_7

theorem part65 (c : Dev nD) {α : Type} {Q : α → sProp 𝕄} (K : (FVec F S256x256 .bf16) → Prog (TpuEff nD τ sig (Elt F) Λ₀ .tc) α) :
    iprop(PT c cc0_scratch2 Finset.univ (G12 X) ∗ PA c cc0_scratch10 (box S2x256x7168 ![1, 0, 512 * 8] S1x256x512.size) ∗ PT c cc0_scratch7 (box S2x256x256 ![1, 0, 0] S1x256x256.size) (G17 X 7) ∗ PA c cc0_scratch10 (box S2x256x7168 ![1, 0, 512 * 9] S1x256x512.size) ∗ PA c cc0_scratch10 (box S2x256x7168 ![1, 0, 512 * 10] S1x256x512.size))
      ⊢ iprop((iprop(PT c cc0_scratch2 Finset.univ (G12 X) ∗ PT c cc0_scratch10 (box S2x256x7168 ![1, 0, 512 * 8] S1x256x512.size) (G20 X 7) ∗ PT c cc0_scratch7 (box S2x256x256 ![1, 0, 0] S1x256x256.size) (G17 X 7) ∗ PT c cc0_scratch10 (box S2x256x7168 ![1, 0, 512 * 9] S1x256x512.size) (G20 X 7) ∗ PT c cc0_scratch10 (box S2x256x7168 ![1, 0, 512 * 10] S1x256x512.size) (G20 X 7)) -∗ WP c (K (s_v1666 (inD X 7))) Q)
        -∗ WP c (At k0_part65 (s_v1554 (inD X 7)) (s_v1636 (inD X 7)) >>= K) Q) := by
  rw [k0_part65_eq_skeleton]
  unfold At k0_part65_skel
  simp only [bind_assoc, pure_bind]
  iintro ⟨h12, n20_8, e17, n20_9, n20_10⟩ HK
  iapply (ld (c := c) (i := 2) (hκ := rfl) (S := Finset.univ) (f := G12 X) (s_v1637 (inD X 7)) (Finset.subset_univ _) (r12 X 7 8 rfl)) $$ h12
  iintro h12
  iapply (ldd (c := c) (i := 10) (hκ := rfl) (S := (box S2x256x7168 ![1, 0, 512 * 8] S1x256x512.size)) (unit_set' rfl rfl).subset) $$ n20_8
  iintro n20_8
  iapply (st (c := c) (i := 10) (hκ := rfl) (S := (box S2x256x7168 ![1, 0, 512 * 8] S1x256x512.size)) (w := o_65_0 (inD X 7)) (G20 X 7) (unit_set' rfl rfl) (fun j => (w20 X 7 8 rfl j).trans (congrFun (same_o_65_0 (inD X 7)).symm j))) $$ n20_8
  iintro n20_8
  iapply (ld (c := c) (i := 7) (hκ := rfl) (S := (box S2x256x256 ![1, 0, 0] S1x256x256.size)) (f := G17 X 7) (s_v1645 (inD X 7)) (unit_set' rfl rfl).subset (fun j => r17 X 7 rfl j)) $$ e17
  iintro e17
  iapply (ld (c := c) (i := 2) (hκ := rfl) (S := Finset.univ) (f := G12 X) (s_v1647 (inD X 7)) (Finset.subset_univ _) (r12 X 7 9 rfl)) $$ h12
  iintro h12
  iapply (ldd (c := c) (i := 10) (hκ := rfl) (S := (box S2x256x7168 ![1, 0, 512 * 9] S1x256x512.size)) (unit_set' rfl rfl).subset) $$ n20_9
  iintro n20_9
  iapply (st (c := c) (i := 10) (hκ := rfl) (S := (box S2x256x7168 ![1, 0, 512 * 9] S1x256x512.size)) (w := o_65_1 (inD X 7)) (G20 X 7) (unit_set' rfl rfl) (fun j => (w20 X 7 9 rfl j).trans (congrFun (same_o_65_1 (inD X 7)).symm j))) $$ n20_9
  iintro n20_9
  iapply (ld (c := c) (i := 7) (hκ := rfl) (S := (box S2x256x256 ![1, 0, 0] S1x256x256.size)) (f := G17 X 7) (s_v1655 (inD X 7)) (unit_set' rfl rfl).subset (fun j => r17 X 7 rfl j)) $$ e17
  iintro e17
  iapply (ld (c := c) (i := 2) (hκ := rfl) (S := Finset.univ) (f := G12 X) (s_v1657 (inD X 7)) (Finset.subset_univ _) (r12 X 7 10 rfl)) $$ h12
  iintro h12
  iapply (ldd (c := c) (i := 10) (hκ := rfl) (S := (box S2x256x7168 ![1, 0, 512 * 10] S1x256x512.size)) (unit_set' rfl rfl).subset) $$ n20_10
  iintro n20_10
  iapply (st (c := c) (i := 10) (hκ := rfl) (S := (box S2x256x7168 ![1, 0, 512 * 10] S1x256x512.size)) (w := o_65_2 (inD X 7)) (G20 X 7) (unit_set' rfl rfl) (fun j => (w20 X 7 10 rfl j).trans (congrFun (same_o_65_2 (inD X 7)).symm j))) $$ n20_10
  iintro n20_10
  iapply (ld (c := c) (i := 7) (hκ := rfl) (S := (box S2x256x256 ![1, 0, 0] S1x256x256.size)) (f := G17 X 7) (s_v1665 (inD X 7)) (unit_set' rfl rfl).subset (fun j => r17 X 7 rfl j)) $$ e17
  iintro e17
  iapply HK
  iframe h12 n20_8 e17 n20_9 n20_10

theorem part66 (c : Dev nD) {α : Type} {Q : α → sProp 𝕄} (K : (PUnit) → Prog (TpuEff nD τ sig (Elt F) Λ₀ .tc) α) :
    iprop(PT c cc0_scratch2 Finset.univ (G12 X) ∗ PA c cc0_scratch10 (box S2x256x7168 ![1, 0, 512 * 11] S1x256x512.size) ∗ PT c cc0_scratch7 (box S2x256x256 ![1, 0, 0] S1x256x256.size) (G17 X 7) ∗ PA c cc0_scratch10 (box S2x256x7168 ![1, 0, 512 * 12] S1x256x512.size) ∗ PA c cc0_scratch10 (box S2x256x7168 ![1, 0, 512 * 13] S1x256x512.size))
      ⊢ iprop((iprop(PT c cc0_scratch2 Finset.univ (G12 X) ∗ PT c cc0_scratch10 (box S2x256x7168 ![1, 0, 512 * 11] S1x256x512.size) (G20 X 7) ∗ PT c cc0_scratch7 (box S2x256x256 ![1, 0, 0] S1x256x256.size) (G17 X 7) ∗ PT c cc0_scratch10 (box S2x256x7168 ![1, 0, 512 * 12] S1x256x512.size) (G20 X 7) ∗ PT c cc0_scratch10 (box S2x256x7168 ![1, 0, 512 * 13] S1x256x512.size) (G20 X 7)) -∗ WP c (K ⟨⟩) Q)
        -∗ WP c (At k0_part66 (s_v1554 (inD X 7)) (s_v1666 (inD X 7)) >>= K) Q) := by
  rw [k0_part66_eq_skeleton]
  unfold At k0_part66_skel
  simp only [bind_assoc, pure_bind]
  iintro ⟨h12, n20_11, e17, n20_12, n20_13⟩ HK
  iapply (ld (c := c) (i := 2) (hκ := rfl) (S := Finset.univ) (f := G12 X) (s_v1667 (inD X 7)) (Finset.subset_univ _) (r12 X 7 11 rfl)) $$ h12
  iintro h12
  iapply (ldd (c := c) (i := 10) (hκ := rfl) (S := (box S2x256x7168 ![1, 0, 512 * 11] S1x256x512.size)) (unit_set' rfl rfl).subset) $$ n20_11
  iintro n20_11
  iapply (st (c := c) (i := 10) (hκ := rfl) (S := (box S2x256x7168 ![1, 0, 512 * 11] S1x256x512.size)) (w := o_66_0 (inD X 7)) (G20 X 7) (unit_set' rfl rfl) (fun j => (w20 X 7 11 rfl j).trans (congrFun (same_o_66_0 (inD X 7)).symm j))) $$ n20_11
  iintro n20_11
  iapply (ld (c := c) (i := 7) (hκ := rfl) (S := (box S2x256x256 ![1, 0, 0] S1x256x256.size)) (f := G17 X 7) (s_v1675 (inD X 7)) (unit_set' rfl rfl).subset (fun j => r17 X 7 rfl j)) $$ e17
  iintro e17
  iapply (ld (c := c) (i := 2) (hκ := rfl) (S := Finset.univ) (f := G12 X) (s_v1677 (inD X 7)) (Finset.subset_univ _) (r12 X 7 12 rfl)) $$ h12
  iintro h12
  iapply (ldd (c := c) (i := 10) (hκ := rfl) (S := (box S2x256x7168 ![1, 0, 512 * 12] S1x256x512.size)) (unit_set' rfl rfl).subset) $$ n20_12
  iintro n20_12
  iapply (st (c := c) (i := 10) (hκ := rfl) (S := (box S2x256x7168 ![1, 0, 512 * 12] S1x256x512.size)) (w := o_66_1 (inD X 7)) (G20 X 7) (unit_set' rfl rfl) (fun j => (w20 X 7 12 rfl j).trans (congrFun (same_o_66_1 (inD X 7)).symm j))) $$ n20_12
  iintro n20_12
  iapply (ld (c := c) (i := 7) (hκ := rfl) (S := (box S2x256x256 ![1, 0, 0] S1x256x256.size)) (f := G17 X 7) (s_v1685 (inD X 7)) (unit_set' rfl rfl).subset (fun j => r17 X 7 rfl j)) $$ e17
  iintro e17
  iapply (ld (c := c) (i := 2) (hκ := rfl) (S := Finset.univ) (f := G12 X) (s_v1687 (inD X 7)) (Finset.subset_univ _) (r12 X 7 13 rfl)) $$ h12
  iintro h12
  iapply (ldd (c := c) (i := 10) (hκ := rfl) (S := (box S2x256x7168 ![1, 0, 512 * 13] S1x256x512.size)) (unit_set' rfl rfl).subset) $$ n20_13
  iintro n20_13
  iapply (st (c := c) (i := 10) (hκ := rfl) (S := (box S2x256x7168 ![1, 0, 512 * 13] S1x256x512.size)) (w := o_66_2 (inD X 7)) (G20 X 7) (unit_set' rfl rfl) (fun j => (w20 X 7 13 rfl j).trans (congrFun (same_o_66_2 (inD X 7)).symm j))) $$ n20_13
  iintro n20_13
  iapply HK
  iframe h12 n20_11 e17 n20_12 n20_13

theorem part68 (c : Dev nD) {α : Type} {Q : α → sProp 𝕄} (K : (PUnit) → Prog (TpuEff nD τ sig (Elt F) Λ₀ .tc) α) :
    iprop(Ow c ∗ BT c (cell 29) N8 (D8 X c) 8 0 ∗ BT c (cell 28) N7 (D7 X c) 8 1)
      ⊢ iprop((iprop(Ow c ∗ BT c (cell 29) N8 (D8 X c) 8 3 ∗ BT c (cell 28) N7 (D7 X c) 8 3) -∗ WP c (K ⟨⟩) Q)
        -∗ WP c (At k0_part68 >>= K) Q) := by
  rw [k0_part68_eq_skeleton]
  unfold At k0_part68_skel
  simp only [bind_assoc, pure_bind]
  iintro ⟨hO, B8, B7⟩ HK
  iapply (wtB' (c := c) (D := (D8 X c)) (cell 29) (N := N8) 0 rfl rfl N8_pos (by decide)) $$ [B8 hO]
  · iframe B8 hO
  iintro ⟨B8, hO⟩
  iapply (wtB' (c := c) (D := (D7 X c)) (cell 28) (N := N7) 1 rfl rfl N7_pos (by decide)) $$ [B7 hO]
  · iframe B7 hO
  iintro ⟨B7, hO⟩
  iapply (wtB' (c := c) (D := (D8 X c)) (cell 29) (N := N8) 1 rfl rfl N8_pos (by decide)) $$ [B8 hO]
  · iframe B8 hO
  iintro ⟨B8, hO⟩
  iapply (wtB' (c := c) (D := (D7 X c)) (cell 28) (N := N7) 2 rfl rfl N7_pos (by decide)) $$ [B7 hO]
  · iframe B7 hO
  iintro ⟨B7, hO⟩
  iapply (wtB' (c := c) (D := (D8 X c)) (cell 29) (N := N8) 2 rfl rfl N8_pos (by decide)) $$ [B8 hO]
  · iframe B8 hO
  iintro ⟨B8, hO⟩
  iapply HK
  iframe hO B8 B7

theorem part69 (c : Dev nD) {α : Type} {Q : α → sProp 𝕄} (K : (PUnit) → Prog (TpuEff nD τ sig (Elt F) Λ₀ .tc) α) :
    iprop(Ow c ∗ BT c (cell 28) N7 (D7 X c) 8 3 ∗ BT c (cell 29) N8 (D8 X c) 8 3)
      ⊢ iprop((iprop(Ow c ∗ BT c (cell 28) N7 (D7 X c) 8 6 ∗ BT c (cell 29) N8 (D8 X c) 8 5) -∗ WP c (K ⟨⟩) Q)
        -∗ WP c (At k0_part69 >>= K) Q) := by
  rw [k0_part69_eq_skeleton]
  unfold At k0_part69_skel
  simp only [bind_assoc, pure_bind]
  iintro ⟨hO, B7, B8⟩ HK
  iapply (wtB' (c := c) (D := (D7 X c)) (cell 28) (N := N7) 3 rfl rfl N7_pos (by decide)) $$ [B7 hO]
  · iframe B7 hO
  iintro ⟨B7, hO⟩
  iapply (wtB' (c := c) (D := (D8 X c)) (cell 29) (N := N8) 3 rfl rfl N8_pos (by decide)) $$ [B8 hO]
  · iframe B8 hO
  iintro ⟨B8, hO⟩
  iapply (wtB' (c := c) (D := (D7 X c)) (cell 28) (N := N7) 4 rfl rfl N7_pos (by decide)) $$ [B7 hO]
  · iframe B7 hO
  iintro ⟨B7, hO⟩
  iapply (wtB' (c := c) (D := (D8 X c)) (cell 29) (N := N8) 4 rfl rfl N8_pos (by decide)) $$ [B8 hO]
  · iframe B8 hO
  iintro ⟨B8, hO⟩
  iapply (wtB' (c := c) (D := (D7 X c)) (cell 28) (N := N7) 5 rfl rfl N7_pos (by decide)) $$ [B7 hO]
  · iframe B7 hO
  iintro ⟨B7, hO⟩
  iapply HK
  iframe hO B7 B8

theorem part70 (c : Dev nD) {α : Type} {Q : α → sProp 𝕄} (K : (PUnit) → Prog (TpuEff nD τ sig (Elt F) Λ₀ .tc) α) :
    iprop(Ow c ∗ BT c (cell 29) N8 (D8 X c) 8 5 ∗ BT c (cell 28) N7 (D7 X c) 8 6 ∗ FL c (cell 30) N9 iprop(PT c main_v3_4 Finset.univ ((G24 X)) ∗ PT c cc0_scratch14 Finset.univ ((G24 X))))
      ⊢ iprop((iprop(Ow c ∗ bigSep Finset.univ (D8 X c) ∗ bigSep Finset.univ (D7 X c) ∗ SV c (cell 28) ∗ SV c (cell 29) ∗ PT c main_v3_4 Finset.univ ((G24 X)) ∗ PT c cc0_scratch14 Finset.univ ((G24 X)) ∗ SV c (cell 30)) -∗ WP c (K ⟨⟩) Q)
        -∗ WP c (At k0_part70 >>= K) Q) := by
  rw [k0_part70_eq_skeleton]
  unfold At k0_part70_skel
  simp only [bind_assoc, pure_bind]
  iintro ⟨hO, B8, B7, f30⟩ HK
  iapply (wtB' (c := c) (D := (D8 X c)) (cell 29) (N := N8) 5 rfl rfl N8_pos (by decide)) $$ [B8 hO]
  · iframe B8 hO
  iintro ⟨B8, hO⟩
  iapply (wtB' (c := c) (D := (D7 X c)) (cell 28) (N := N7) 6 rfl rfl N7_pos (by decide)) $$ [B7 hO]
  · iframe B7 hO
  iintro ⟨B7, hO⟩
  iapply (wtB' (c := c) (D := (D8 X c)) (cell 29) (N := N8) 6 rfl rfl N8_pos (by decide)) $$ [B8 hO]
  · iframe B8 hO
  iintro ⟨B8, hO⟩
  iapply (wtBL' (c := c) (D := (D7 X c)) (cell 28) (N := N7) 7 rfl rfl N7_pos rfl) $$ [B7 hO]
  · iframe B7 hO
  iintro ⟨B7, v28, hO⟩
  iapply (wtBL' (c := c) (D := (D8 X c)) (cell 29) (N := N8) 7 rfl rfl N8_pos rfl) $$ [B8 hO]
  · iframe B8 hO
  iintro ⟨B8, v29, hO⟩
  iapply (wt (c := c) (cell 30) (N := N9) rfl rfl) $$ [f30 hO]
  · iframe f30 hO
  iintro ⟨⟨u9, h24⟩, v30, hO⟩
  iapply HK
  iframe hO B8 B7 v28 v29 u9 h24 v30

theorem part71 (c : Dev nD) {α : Type} {Q : α → sProp 𝕄} (K : (PUnit) → Prog (TpuEff nD τ sig (Elt F) Λ₀ .tc) α) :
    iprop(Ow c ∗ BT c (cell 27) N6 (D6 X c) 14 0)
      ⊢ iprop((iprop(Ow c ∗ BT c (cell 27) N6 (D6 X c) 14 9) -∗ WP c (K ⟨⟩) Q)
        -∗ WP c (At k0_part71 >>= K) Q) := by
  rw [k0_part71_eq_skeleton]
  unfold At k0_part71_skel
  simp only [bind_assoc, pure_bind]
  iintro ⟨hO, B6⟩ HK
  iapply (wtB' (c := c) (D := (D6 X c)) (cell 27) (N := N6) 0 rfl rfl N6_pos (by decide)) $$ [B6 hO]
  · iframe B6 hO
  iintro ⟨B6, hO⟩
  iapply (wtB' (c := c) (D := (D6 X c)) (cell 27) (N := N6) 1 rfl rfl N6_pos (by decide)) $$ [B6 hO]
  · iframe B6 hO
  iintro ⟨B6, hO⟩
  iapply (wtB' (c := c) (D := (D6 X c)) (cell 27) (N := N6) 2 rfl rfl N6_pos (by decide)) $$ [B6 hO]
  · iframe B6 hO
  iintro ⟨B6, hO⟩
  iapply (wtB' (c := c) (D := (D6 X c)) (cell 27) (N := N6) 3 rfl rfl N6_pos (by decide)) $$ [B6 hO]
  · iframe B6 hO
  iintro ⟨B6, hO⟩
  iapply (wtB' (c := c) (D := (D6 X c)) (cell 27) (N := N6) 4 rfl rfl N6_pos (by decide)) $$ [B6 hO]
  · iframe B6 hO
  iintro ⟨B6, hO⟩
  iapply (wtB' (c := c) (D := (D6 X c)) (cell 27) (N := N6) 5 rfl rfl N6_pos (by decide)) $$ [B6 hO]
  · iframe B6 hO
  iintro ⟨B6, hO⟩
  iapply (wtB' (c := c) (D := (D6 X c)) (cell 27) (N := N6) 6 rfl rfl N6_pos (by decide)) $$ [B6 hO]
  · iframe B6 hO
  iintro ⟨B6, hO⟩
  iapply (wtB' (c := c) (D := (D6 X c)) (cell 27) (N := N6) 7 rfl rfl N6_pos (by decide)) $$ [B6 hO]
  · iframe B6 hO
  iintro ⟨B6, hO⟩
  iapply (wtB' (c := c) (D := (D6 X c)) (cell 27) (N := N6) 8 rfl rfl N6_pos (by decide)) $$ [B6 hO]
  · iframe B6 hO
  iintro ⟨B6, hO⟩
  iapply HK
  iframe hO B6

end Cert.Kernel.Hand
-- ==== Proof.Hand.Kernel.PartsD.lean ====
/- The parts of the body, run on what they read and write. -/
module

public import proofs.«01_k».proof.Proof.Hand.Kernel.Pieces

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

theorem part20 (c : Dev nD) (k : Fin k0_t2_loop.trips) {α : Type} {Q : α → sProp 𝕄} (K : (Σ' (arg32 : BitVec 32) (v1855 : BitVec 32) (v1881 : FVec F S256x512 .f32), FVec F S256x128 .bf16) → Prog (TpuEff nD τ sig (Elt F) Λ₀ .tc) α) :
    iprop(PT c cc0_scratch9 Finset.univ (G19 X) ∗ PT c cc0_scratch0 Finset.univ (X.x))
      ⊢ iprop((iprop(PT c cc0_scratch9 Finset.univ (G19 X) ∗ PT c cc0_scratch0 Finset.univ (X.x)) -∗ WP c (K ⟨(w_arg32 k), (w_v1855 k), (w_v1881 (inW X (k : ℕ))), (w_v1883 (inW X (k : ℕ)))⟩) Q)
        -∗ WP c (At k0_part20 0#32 1#32 k >>= K) Q) := by
  rw [k0_part20_eq_skeleton]
  unfold At k0_part20_skel
  simp only [bind_assoc, pure_bind]
  iintro ⟨h19, h10⟩ HK
  iapply (ld (c := c) (i := 9) (hκ := rfl) (S := Finset.univ) (f := G19 X) (w_v1856 (inW X (k : ℕ))) (Finset.subset_univ _) (r19 X (k : ℕ) 0 rfl)) $$ h19
  iintro h19
  iapply (ld (c := c) (i := 9) (hκ := rfl) (S := Finset.univ) (f := G19 X) (w_v1858 (inW X (k : ℕ))) (Finset.subset_univ _) (r19 X (k : ℕ) 1 rfl)) $$ h19
  iintro h19
  iapply (ld (c := c) (i := 0) (hκ := rfl) (S := Finset.univ) (f := X.x) (w_v1862 (inW X (k : ℕ))) (Finset.subset_univ _) (fun j => r10w X (k : ℕ) 0 (e38 k) j)) $$ h10
  iintro h10
  iapply (ld (c := c) (i := 9) (hκ := rfl) (S := Finset.univ) (f := G19 X) (w_v1864 (inW X (k : ℕ))) (Finset.subset_univ _) (r19 X (k : ℕ) 2 rfl)) $$ h19
  iintro h19
  iapply (ld (c := c) (i := 9) (hκ := rfl) (S := Finset.univ) (f := G19 X) (w_v1866 (inW X (k : ℕ))) (Finset.subset_univ _) (r19 X (k : ℕ) 3 rfl)) $$ h19
  iintro h19
  iapply (ld (c := c) (i := 0) (hκ := rfl) (S := Finset.univ) (f := X.x) (w_v1870 (inW X (k : ℕ))) (Finset.subset_univ _) (fun j => r10w X (k : ℕ) 1 (e39 k) j)) $$ h10
  iintro h10
  iapply (ld (c := c) (i := 9) (hκ := rfl) (S := Finset.univ) (f := G19 X) (w_v1873 (inW X (k : ℕ))) (Finset.subset_univ _) (r19 X (k : ℕ) 4 rfl)) $$ h19
  iintro h19
  iapply (ld (c := c) (i := 9) (hκ := rfl) (S := Finset.univ) (f := G19 X) (w_v1875 (inW X (k : ℕ))) (Finset.subset_univ _) (r19 X (k : ℕ) 5 rfl)) $$ h19
  iintro h19
  iapply (ld (c := c) (i := 0) (hκ := rfl) (S := Finset.univ) (f := X.x) (w_v1879 (inW X (k : ℕ))) (Finset.subset_univ _) (fun j => r10w X (k : ℕ) 2 (e40 k) j)) $$ h10
  iintro h10
  iapply (ld (c := c) (i := 9) (hκ := rfl) (S := Finset.univ) (f := G19 X) (w_v1882 (inW X (k : ℕ))) (Finset.subset_univ _) (r19 X (k : ℕ) 6 rfl)) $$ h19
  iintro h19
  iapply HK
  iframe h19 h10

theorem part21 (c : Dev nD) (k : Fin k0_t2_loop.trips) {α : Type} {Q : α → sProp 𝕄} (K : (Σ' (v1908 : FVec F S256x512 .f32) (v1913 : FVec F S256x256 .bf16) (v1915 : Vec F S256x512 .fp8e4m3), FVec F S256x512 .f32) → Prog (TpuEff nD τ sig (Elt F) Λ₀ .tc) α) :
    iprop(PT c cc0_scratch9 Finset.univ (G19 X) ∗ PT c cc0_scratch0 Finset.univ (X.x))
      ⊢ iprop((iprop(PT c cc0_scratch9 Finset.univ (G19 X) ∗ PT c cc0_scratch0 Finset.univ (X.x)) -∗ WP c (K ⟨(w_v1908 (inW X (k : ℕ))), (w_v1913 (inW X (k : ℕ))), (w_v1915 (inW X (k : ℕ))), (w_cst_1017 (F := F))⟩) Q)
        -∗ WP c (At k0_part21 k (w_v1855 k) (w_v1881 (inW X (k : ℕ))) (w_v1883 (inW X (k : ℕ))) >>= K) Q) := by
  rw [k0_part21_eq_skeleton]
  unfold At k0_part21_skel
  simp only [bind_assoc, pure_bind]
  iintro ⟨h19, h10⟩ HK
  iapply (ld (c := c) (i := 9) (hκ := rfl) (S := Finset.univ) (f := G19 X) (w_v1884 (inW X (k : ℕ))) (Finset.subset_univ _) (r19 X (k : ℕ) 7 rfl)) $$ h19
  iintro h19
  iapply (ld (c := c) (i := 0) (hκ := rfl) (S := Finset.univ) (f := X.x) (w_v1888 (inW X (k : ℕ))) (Finset.subset_univ _) (fun j => r10w X (k : ℕ) 3 (e41 k) j)) $$ h10
  iintro h10
  iapply (ld (c := c) (i := 9) (hκ := rfl) (S := Finset.univ) (f := G19 X) (w_v1891 (inW X (k : ℕ))) (Finset.subset_univ _) (r19 X (k : ℕ) 8 rfl)) $$ h19
  iintro h19
  iapply (ld (c := c) (i := 9) (hκ := rfl) (S := Finset.univ) (f := G19 X) (w_v1893 (inW X (k : ℕ))) (Finset.subset_univ _) (r19 X (k : ℕ) 9 rfl)) $$ h19
  iintro h19
  iapply (ld (c := c) (i := 0) (hκ := rfl) (S := Finset.univ) (f := X.x) (w_v1897 (inW X (k : ℕ))) (Finset.subset_univ _) (fun j => r10w X (k : ℕ) 4 (e42 k) j)) $$ h10
  iintro h10
  iapply (ld (c := c) (i := 9) (hκ := rfl) (S := Finset.univ) (f := G19 X) (w_v1900 (inW X (k : ℕ))) (Finset.subset_univ _) (r19 X (k : ℕ) 10 rfl)) $$ h19
  iintro h19
  iapply (ld (c := c) (i := 9) (hκ := rfl) (S := Finset.univ) (f := G19 X) (w_v1902 (inW X (k : ℕ))) (Finset.subset_univ _) (r19 X (k : ℕ) 11 rfl)) $$ h19
  iintro h19
  iapply (ld (c := c) (i := 0) (hκ := rfl) (S := Finset.univ) (f := X.x) (w_v1906 (inW X (k : ℕ))) (Finset.subset_univ _) (fun j => r10w X (k : ℕ) 5 (e43 k) j)) $$ h10
  iintro h10
  iapply (ld (c := c) (i := 9) (hκ := rfl) (S := Finset.univ) (f := G19 X) (w_v1909 (inW X (k : ℕ))) (Finset.subset_univ _) (r19 X (k : ℕ) 12 rfl)) $$ h19
  iintro h19
  iapply (ld (c := c) (i := 9) (hκ := rfl) (S := Finset.univ) (f := G19 X) (w_v1911 (inW X (k : ℕ))) (Finset.subset_univ _) (r19 X (k : ℕ) 13 rfl)) $$ h19
  iintro h19
  iapply (ld (c := c) (i := 0) (hκ := rfl) (S := Finset.univ) (f := X.x) (w_v1915 (inW X (k : ℕ))) (Finset.subset_univ _) (fun j => r10w X (k : ℕ) 6 (e44 k) j)) $$ h10
  iintro h10
  iapply HK
  iframe h19 h10

end Cert.Kernel.Hand
-- ==== Proof.Hand.Kernel.Loop2.lean ====
/- The loop over the blocks of `dw`. -/
module

public import proofs.«01_k».proof.Proof.Hand.Kernel.PartsD

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

/-- Before block `k` of `dw`: the blocks before are being copied out. -/
def L2 (c : Dev nD) (k : ℕ) : sProp 𝕄 :=
  iprop(PT c cc0_scratch0 Finset.univ X.x ∗ PT c cc0_scratch9 Finset.univ (G19 X)
    ∗ PA c cc0_scratch11 (box S7168x256 ![512 * k, 0] ![7168 - 512 * k, 256]) ∗ PA c main_v3_1 (box S7168x256 ![512 * k, 0] ![7168 - 512 * k, 256])
    ∗ BT c (cell 27) N6 (D6 X c) k 0)

theorem bxw (k : ℕ) (h : k < 14) : box S7168x256 ![512 * k, 0] ![7168 - 512 * k, 256]
      = box S7168x256 ![512 * k, 0] S512x256.size ∪ box S7168x256 ![512 * (k + 1), 0] ![7168 - 512 * (k + 1), 256]
    ∧ Disjoint (box S7168x256 ![512 * k, 0] S512x256.size) (box S7168x256 ![512 * (k + 1), 0] ![7168 - 512 * (k + 1), 256]) :=
  bx20 (512 * k) 0 512 (7168 - 512 * (k + 1)) (7168 - 512 * k) 256 (512 * (k + 1)) (by omega) (by omega)

theorem hN6 {o : Fin 2 → ℕ} {inb h} : ((Memref.whole main_v3_1).slice (Rect.unit (s := S7168x256) o S512x256.size inb) h).view.dmaCredit = N6 := by
  have e1 : (Rect.unit (s := S7168x256) o S512x256.size inb).shape = S512x256 := rfl
  have e2 : main_v3_1.ty.elt = EltTy.f32 := rfl
  rw [← View.dmaCredit_ref]
  exact congrArg₂ (Ref.dmaCredit (sig := sig) (κ := .tc) main_v3_1) e1 e2

theorem trips2 : k0_t2_loop.trips = 14 := by decide +kernel

/-- A turn of the `dw` loop. -/
theorem body2 (c : Dev nD) (k : Fin k0_t2_loop.trips) (a : Unit) : L2 X c (k : ℕ)
    ⊢ WP c (At k0_t2_body k a) (fun _ => L2 X c ((k : ℕ) + 1)) := by
  have hk : (k : ℕ) < 14 := lt_of_lt_of_eq k.isLt trips2
  unfold At k0_t2_body
  iintro H
  unfold L2
  icases H with ⟨h10, h19, h21, h6, hB⟩
  ihave h21 := (cutA (bxw (k : ℕ) hk)) $$ h21
  icases h21 with ⟨h21, r21⟩
  ihave h6 := (cutA (bxw (k : ℕ) hk)) $$ h6
  icases h6 with ⟨h6, r6⟩
  iapply (part20 X c k) $$ [h10 h19]
  · iframe h19 h10
  iintro ⟨h19, h10⟩
  iapply (part21 X c k) $$ [h10 h19]
  · iframe h19 h10
  iintro ⟨h19, h10⟩
  iapply (ld (c := c) (i := 9) (hκ := rfl) (S := Finset.univ) (f := G19 X) ((inW X (k : ℕ)).d 14) (Finset.subset_univ _) (r19 X (k : ℕ) 14 rfl)) $$ h19
  iintro h19
  iapply (ld (c := c) (i := 9) (hκ := rfl) (S := Finset.univ) (f := G19 X) ((inW X (k : ℕ)).d 15) (Finset.subset_univ _) (r19 X (k : ℕ) 15 rfl)) $$ h19
  iintro h19
  iapply (ld (c := c) (i := 0) (hκ := rfl) (S := Finset.univ) (f := X.x) ((inW X (k : ℕ)).x 7) (Finset.subset_univ _) (fun j => r10w X (k : ℕ) 7 (e45 k) j)) $$ h10
  iintro h10
  iapply (ldd (c := c) (i := 11) (hκ := rfl) (S := (box S7168x256 ![512 * (k : ℕ), 0] S512x256.size)) (unit_set' (e46 k) rfl).subset) $$ h21
  iintro h21
  iapply (st (c := c) (i := 11) (hκ := rfl) (S := (box S7168x256 ![512 * (k : ℕ), 0] S512x256.size)) (w := o_21 (inW X (k : ℕ))) (G21 X) (unit_set' (e46 k) rfl) (fun j => (w21 X (k : ℕ) (e46 k) j))) $$ h21
  iintro h21
  iapply (dmaB' (c := c) (src := ((Memref.whole cc0_scratch11).slice (Rect.unit (s := S7168x256) (k0_off47 k) S512x256.size (k0_off47_inb k)) (fun _ => rfl))) (dst := ((Memref.whole main_v3_1).slice (Rect.unit (s := S7168x256) (k0_off47 k) S512x256.size (k0_off47_inb k)) (fun _ => rfl))) (sm := cc0_scratch20.sem) (D := D6 X c) (cell 27) N6 (k : ℕ) hk (box S7168x256 ![512 * (k : ℕ), 0] S512x256.size) (box S7168x256 ![512 * (k : ℕ), 0] S512x256.size) (G21 X) (fs := G21 X) rfl hN6 (set_sl.trans (unit_set' (e47 k) rfl)) (set_sl.trans (unit_set' (e47 k) rfl)) rfl rfl) $$ [h21 h6 hB]
  · iframe h21 h6 hB
  iintro hB
  iapply (rt _)
  iframe h10 h19 r21 r6 hB

/-- The `dw` loop. -/
theorem loop2 (c : Dev nD) {α : Type} {Q : α → sProp 𝕄} {kk : Unit → Prog (TpuEff nD τ sig (Elt F) Λ₀ .tc) α} :
    L2 X c 0 ⊢ iprop((L2 X c 14 -∗ WP c (kk ⟨⟩) Q) -∗ WP c (Scf.Loop.for k0_t2_loop k0_t2_ok ⟨⟩ (At k0_t2_body) >>= kk) Q) := by
  rw [show L2 X c 14 = L2 X c k0_t2_loop.trips from by rw [trips2]]
  iintro H HK
  iapply (Scf.wp_for_bind (kk := kk) (Q := Q) frame (wpE (defs₀ (F := F)) 𝒱₀ (c : Thread nD τ) none) Set.univ k0_t2_loop.lb k0_t2_loop.ub k0_t2_loop.st k0_t2_ok ⟨⟩ (At k0_t2_body) (fun k _ => L2 X c k) (body2 X c)) $$ H
  iintro %a H
  iapply HK $$ H

end Cert.Kernel.Hand
-- ==== Proof.Hand.Kernel.PartsE.lean ====
/- The parts of the body, run on what they read and write. -/
module

public import proofs.«01_k».proof.Proof.Hand.Kernel.Loop2

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

theorem part67 (c : Dev nD) {α : Type} {Q : α → sProp 𝕄} (K : (PUnit) → Prog (TpuEff nD τ sig (Elt F) Λ₀ .tc) α) :
    iprop(PT c cc0_scratch10 (box S2x256x7168 ![1, 0, 512 * 0] S1x256x512.size) (G20 X 7) ∗ PT c cc0_scratch10 (box S2x256x7168 ![1, 0, 512 * 1] S1x256x512.size) (G20 X 7) ∗ PT c cc0_scratch10 (box S2x256x7168 ![1, 0, 512 * 2] S1x256x512.size) (G20 X 7) ∗ PT c cc0_scratch10 (box S2x256x7168 ![1, 0, 512 * 3] S1x256x512.size) (G20 X 7) ∗ PT c cc0_scratch10 (box S2x256x7168 ![1, 0, 512 * 4] S1x256x512.size) (G20 X 7) ∗ PT c cc0_scratch10 (box S2x256x7168 ![1, 0, 512 * 5] S1x256x512.size) (G20 X 7) ∗ PT c cc0_scratch10 (box S2x256x7168 ![1, 0, 512 * 6] S1x256x512.size) (G20 X 7) ∗ PT c cc0_scratch10 (box S2x256x7168 ![1, 0, 512 * 7] S1x256x512.size) (G20 X 7) ∗ PT c cc0_scratch10 (box S2x256x7168 ![1, 0, 512 * 8] S1x256x512.size) (G20 X 7) ∗ PT c cc0_scratch10 (box S2x256x7168 ![1, 0, 512 * 9] S1x256x512.size) (G20 X 7) ∗ PT c cc0_scratch10 (box S2x256x7168 ![1, 0, 512 * 10] S1x256x512.size) (G20 X 7) ∗ PT c cc0_scratch10 (box S2x256x7168 ![1, 0, 512 * 11] S1x256x512.size) (G20 X 7) ∗ PT c cc0_scratch10 (box S2x256x7168 ![1, 0, 512 * 12] S1x256x512.size) (G20 X 7) ∗ PT c cc0_scratch10 (box S2x256x7168 ![1, 0, 512 * 13] S1x256x512.size) (G20 X 7) ∗ PA c main_v3_0 (box S2048x7168 ![256 * 7, 0] S256x7168.size) ∗ SV c (cell 26) ∗ L2 X c 0 ∗ Ow c ∗ FL c (cell 25) N5 iprop(PT c main_v3_0 (box S2048x7168 ![256 * 6, 0] S256x7168.size) ((G5 X)) ∗ PT c cc0_scratch10 (box S2x256x7168 ![0, 0, 0] S1x256x7168.size) ((G20 X 6))) ∗ BT c (cell 28) N7 (D7 X c) 8 0)
      ⊢ iprop((iprop(L2 X c 14 ∗ Ow c ∗ PT c main_v3_0 (box S2048x7168 ![256 * 6, 0] S256x7168.size) ((G5 X)) ∗ PT c cc0_scratch10 (box S2x256x7168 ![0, 0, 0] S1x256x7168.size) ((G20 X 6)) ∗ SV c (cell 25) ∗ PT c main_v3_0 (box S2048x7168 ![256 * 7, 0] S256x7168.size) ((G5 X)) ∗ PT c cc0_scratch10 (box S2x256x7168 ![1, 0, 0] S1x256x7168.size) ((G20 X 7)) ∗ SV c (cell 26) ∗ BT c (cell 28) N7 (D7 X c) 8 1) -∗ WP c (K ⟨⟩) Q)
        -∗ WP c (At k0_part67 >>= K) Q) := by
  rw [k0_part67_eq_skeleton]
  unfold At k0_part67_skel
  simp only [bind_assoc, pure_bind]
  iintro ⟨n20_0, n20_1, n20_2, n20_3, n20_4, n20_5, n20_6, n20_7, n20_8, n20_9, n20_10, n20_11, n20_12, n20_13, u5_7, v26, hL, hO, f25, B7⟩ HK
  ihave n20 := (Entails.of_eq (ch20 (c := c) (1) (G20 X 7)).symm) $$ [n20_0 n20_1 n20_2 n20_3 n20_4 n20_5 n20_6 n20_7 n20_8 n20_9 n20_10 n20_11 n20_12 n20_13]
  · iframe n20_0 n20_1 n20_2 n20_3 n20_4 n20_5 n20_6 n20_7 n20_8 n20_9 n20_10 n20_11 n20_12 n20_13
  iapply (dma (c := c) (src := (((Memref.whole cc0_scratch10).slice (Rect.unit (s := S2x256x7168) ![1, 0, 0] S1x256x7168.size inb_S2x256x7168_S1x256x7168_1_0_0) (fun _ => rfl)).squeeze S256x7168 squeezes_S1x256x7168_S256x7168)) (dst := ((Memref.whole main_v3_0).slice (Rect.unit (s := S2048x7168) ![1792, 0] S256x7168.size inb_S2048x7168_S256x7168_1792_0) (fun _ => rfl))) (sm := ((cc0_scratch19.slice (Rect.unit (s := S2) ![1] S1.size inb_S2_S1_1)).squeeze S_ squeezes_S1_S_).sem) (cell 26) N5 (box S2x256x7168 ![1, 0, 0] S1x256x7168.size) (box S2048x7168 ![256 * 7, 0] S256x7168.size) (G5 X) (fs := (G20 X 7)) rfl rfl N5_pos ((View.set_reshape _ _).trans (set_sl.trans (unit_set' rfl rfl))) (set_sl.trans (unit_set' rfl rfl)) (cp5 X 7 (1) (by omega) rfl rfl)) $$ [n20 u5_7 v26]
  · iframe n20 u5_7 v26
  iintro f26
  iapply (loop2 X c) $$ hL
  iintro hL
  iapply (wt (c := c) (cell 25) (N := N5) rfl rfl) $$ [f25 hO]
  · iframe f25 hO
  iintro ⟨⟨u5_6, h20⟩, v25, hO⟩
  iapply (wt (c := c) (cell 26) (N := N5) rfl rfl) $$ [f26 hO]
  · iframe f26 hO
  iintro ⟨⟨u5_7, n20⟩, v26, hO⟩
  iapply (wtB' (c := c) (D := (D7 X c)) (cell 28) (N := N7) 0 rfl rfl N7_pos (by decide)) $$ [B7 hO]
  · iframe B7 hO
  iintro ⟨B7, hO⟩
  iapply HK
  iframe hL hO u5_6 h20 v25 u5_7 n20 v26 B7

end Cert.Kernel.Hand
-- ==== Proof.Hand.Kernel.PartsA.lean ====
/- The parts of the body, run on what they read and write. -/
module

public import proofs.«01_k».proof.Proof.Hand.Kernel.Pieces

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

/-- A conditional followed by a program. -/
theorem dbind {p : Prop} [Decidable p] {α β : Type} (a : p → Prog (TpuEff nD τ sig (Elt F) Λ₀ .tc) α) (b : ¬p → Prog (TpuEff nD τ sig (Elt F) Λ₀ .tc) α) (k : α → Prog (TpuEff nD τ sig (Elt F) Λ₀ .tc) β) :
    dite p a b >>= k = dite p (fun h => a h >>= k) (fun h => b h >>= k) := by
  by_cases h : p
  · rw [dif_pos h, dif_pos h]
  · rw [dif_neg h, dif_neg h]

/-- The wait for the ring's slot, if the slot is in flight. -/
theorem stIf (c : Dev nD) (k : Fin k0_t1_loop.trips) {α : Type} {Q : α → sProp 𝕄} {K : Prog (TpuEff nD τ sig (Elt F) Λ₀ .tc) α} :
    iprop(dxSt X c (k : ℕ) ∗ Ow c) ⊢ iprop((iprop(dxGot X c (k : ℕ) ∗ SV c (cell (25 + (k : ℕ) % 2)) ∗ PA c cc0_scratch10 (box S2x256x7168 ![(k : ℕ) % 2, 0, 0] S1x256x7168.size) ∗ Ow c) -∗ WP c K Q)
      -∗ WP c (if k0_h1 : k0_cond1 k = 1#1 then ((Prog.lift (.waitDma2 ((cc0_scratch19.slice (Rect.unit (s := S2) (k0_off3 k) S1.size (k0_off3_inb k k0_h1))).squeeze S_ squeezes_S1_S_).sem (((Memref.whole cc0_scratch10).slice (Rect.unit (s := S2x256x7168) (k0_off5 k) S1x256x7168.size (k0_off5_inb k k0_h1)) (fun _ => rfl)).squeeze S256x7168 squeezes_S1x256x7168_S256x7168) ((Memref.whole main_v3_0).slice (Rect.unit (s := S2048x7168) (k0_off4 k) S256x7168.size (k0_off4_inb k k0_h1)) (fun _ => rfl)) (((Memref.isWhole_whole _).wordExact_slice rfl _ (k0_off5_wordsbf16 k k0_h1)).reshape _ _) ((Memref.isWhole_whole _).wordExact_slice rfl _ (k0_off4_wordsbf16 k k0_h1))) : Prog (TpuEff nD τ sig (Elt F) Λ₀ .tc) _) >>= fun _ => K) else K) Q) := by
  unfold dxSt dxGot
  by_cases hk : 2 ≤ (k : ℕ)
  · rw [if_pos hk, dif_pos ((ec1 k).2 hk), if_pos hk]
    iintro ⟨hd, hO⟩ HK
    iapply (wt (c := c) (cell (25 + (k : ℕ) % 2)) (N := N5) (sem3 k ((ec1 k).2 hk)) rfl) $$ [hd hO]
    · iframe hd hO
    iintro ⟨⟨hu, h20⟩, hv, hO⟩
    iapply HK
    isplitl [hu]; · iexact hu
    isplitl [hv]; · iexact hv
    isplitl [h20]; · iexists _; iexact h20
    iexact hO
  · rw [if_neg hk, dif_neg (fun h => hk ((ec1 k).1 h)), if_neg hk]
    iintro ⟨hd, hO⟩ HK
    icases hd with ⟨hv, h20⟩
    iapply HK
    isplitl []; · iempintro
    iframe hv h20 hO

theorem part1 (c : Dev nD) (k : Fin k0_t1_loop.trips) {α : Type} {Q : α → sProp 𝕄} (K : (Σ' (arg32 : BitVec 32) (v1878 : BitVec 32) (v1879 : IVec S256x128 32) (v1880 : BitVec 32) (v1882 : BitVec 32), FVec F S256x128 .f32) → Prog (TpuEff nD τ sig (Elt F) Λ₀ .tc) α) :
    iprop(Ow c ∗ FL c (cell (14 + ((k : ℕ) + 2))) N10 iprop(PT c cc0_scratch0 (box S2048x7168 ![256 * ((k : ℕ) + 2), 0] S256x7168.size) (X.x) ∗ PT c main_v0 (box S2048x7168 ![256 * ((k : ℕ) + 2), 0] S256x7168.size) (X.x)) ∗ dxSt X c (k : ℕ) ∗ PT c cc0_scratch2 Finset.univ (G12 X) ∗ PA c cc0_scratch6 (box S2x256x256 ![(k : ℕ) % 2, 0, 0] S1x256x256.size) ∗ PT c cc0_scratch6 (box S2x256x256 ![((k : ℕ) + 1) % 2, 0, 0] S1x256x256.size) (G16 X ((k : ℕ) + 1)))
      ⊢ iprop((iprop(Ow c ∗ PT c cc0_scratch0 (box S2048x7168 ![256 * ((k : ℕ) + 2), 0] S256x7168.size) (X.x) ∗ PT c main_v0 (box S2048x7168 ![256 * ((k : ℕ) + 2), 0] S256x7168.size) (X.x) ∗ SV c (cell (14 + ((k : ℕ) + 2))) ∗ dxGot X c (k : ℕ) ∗ SV c (cell (25 + (k : ℕ) % 2)) ∗ PA c cc0_scratch10 (box S2x256x7168 ![(k : ℕ) % 2, 0, 0] S1x256x7168.size) ∗ PT c cc0_scratch2 Finset.univ (G12 X) ∗ PT c cc0_scratch6 (box S2x256x256 ![(k : ℕ) % 2, 0, 0] S1x256x256.size) (G16 X ((k : ℕ) + 2)) ∗ PT c cc0_scratch6 (box S2x256x256 ![((k : ℕ) + 1) % 2, 0, 0] S1x256x256.size) (G16 X ((k : ℕ) + 1))) -∗ WP c (K ⟨(s_arg32 k), (s_v1878 k), s_v1879, (s_v1880 k), (s_v1882 k), (s_v1885 (inR X (2 * ((k : ℕ) + 1) + 0)))⟩) Q)
        -∗ WP c (At k0_part1 0#32 1#32 k >>= K) Q) := by
  rw [k0_part1_eq_skeleton]
  unfold At k0_part1_skel
  simp only [dbind, bind_assoc, pure_bind]
  iintro ⟨hO, fx, hd, h12, n16, h16⟩ HK
  iapply (wt (c := c) (cell (14 + ((k : ℕ) + 2))) (N := N10) (sem1 k) rfl) $$ [fx hO]
  · iframe fx hO
  iintro ⟨⟨h10, sx⟩, vx, hO⟩
  iapply (stIf X c k) $$ [hd hO]
  · iframe hd hO
  iintro ⟨hg, hv, h20, hO⟩
  iapply (ld (c := c) (i := 2) (hκ := rfl) (S := Finset.univ) (f := G12 X) (s_v1867 (inT X ((k : ℕ) + 2))) (Finset.subset_univ _) (r12w X ((k : ℕ) + 2) rfl)) $$ h12
  iintro h12
  iapply (ld (c := c) (i := 0) (hκ := rfl) (S := (box S2048x7168 ![256 * ((k : ℕ) + 2), 0] S256x7168.size)) (f := X.x) (s_v1871 (inT X ((k : ℕ) + 2))) (unit_set' (e6 k) rfl).subset (fun j => r10x X ((k : ℕ) + 2) (e6 k) j)) $$ h10
  iintro h10
  iapply (ldd (c := c) (i := 6) (hκ := rfl) (S := (box S2x256x256 ![(k : ℕ) % 2, 0, 0] S1x256x256.size)) (unit_set' (e7 k) rfl).subset) $$ n16
  iintro n16
  iapply (st (c := c) (i := 6) (hκ := rfl) (S := (box S2x256x256 ![(k : ℕ) % 2, 0, 0] S1x256x256.size)) (w := o_1_0 (inT X ((k : ℕ) + 2))) (G16 X ((k : ℕ) + 2)) (unit_set' (e7 k) rfl) (fun j => (w16 X ((k : ℕ) + 2) (e7 k) j).trans (congrFun (LT_s X (k : ℕ)) j))) $$ n16
  iintro n16
  iapply (ld (c := c) (i := 6) (hκ := rfl) (S := (box S2x256x256 ![((k : ℕ) + 1) % 2, 0, 0] S1x256x256.size)) (f := G16 X ((k : ℕ) + 1)) (s_v1884 (inR X (2 * ((k : ℕ) + 1) + 0))) (slot_sub (s := ((k : ℕ) + 1) % 2) (r := 0) (e8s_0 k) (by decide)) (fun j => r16 X (b := (k : ℕ) + 1) (r := 0) (2 * ((k : ℕ) + 1) + 0) (by omega) (by omega) (e8s_0 k) j)) $$ h16
  iintro h16
  iapply HK
  iframe hO h10 sx vx hg hv h20 h12 n16 h16

theorem part2 (c : Dev nD) (k : Fin k0_t1_loop.trips) {α : Type} {Q : α → sProp 𝕄} (K : (Σ' (v1888 : IVec S8x128 32) (v1892 : FVec F S8x128 .f32) (v1894 : Vec F S1x128 .f32) (v1901 : FVec F S1x128 .f32) (v1908 : FVec F S1x128 .f32) (v1915 : FVec F S1x128 .f32) (v1922 : FVec F S1x128 .f32) (v1929 : FVec F S1x128 .f32), IVec S256x128 1) → Prog (TpuEff nD τ sig (Elt F) Λ₀ .tc) α) :
    iprop(PT c cc0_scratch3 Finset.univ (X.ids) ∗ PT c cc0_scratch4 Finset.univ (X.dg) ∗ PT c cc0_scratch5 Finset.univ (X.xs))
      ⊢ iprop((iprop(PT c cc0_scratch3 Finset.univ (X.ids) ∗ PT c cc0_scratch4 Finset.univ (X.dg) ∗ PT c cc0_scratch5 Finset.univ (X.xs)) -∗ WP c (K ⟨(s_v1888 (inR X (2 * ((k : ℕ) + 1) + 0))), (s_v1892 (inR X (2 * ((k : ℕ) + 1) + 0))), (s_v1894 (inR X (2 * ((k : ℕ) + 1) + 0))), (s_v1901 (inR X (2 * ((k : ℕ) + 1) + 0))), (s_v1908 (inR X (2 * ((k : ℕ) + 1) + 0))), (s_v1915 (inR X (2 * ((k : ℕ) + 1) + 0))), (s_v1922 (inR X (2 * ((k : ℕ) + 1) + 0))), (s_v1929 (inR X (2 * ((k : ℕ) + 1) + 0))), (s_v1932 (inR X (2 * ((k : ℕ) + 1) + 0)))⟩) Q)
        -∗ WP c (At k0_part2 k s_v1879 (s_v1882 k) (s_v1885 (inR X (2 * ((k : ℕ) + 1) + 0))) >>= K) Q) := by
  rw [k0_part2_eq_skeleton]
  unfold At k0_part2_skel
  simp only [bind_assoc, pure_bind]
  iintro ⟨h13, h14, h15⟩ HK
  iapply (ld (c := c) (i := 3) (hκ := rfl) (S := Finset.univ) (f := X.ids) (s_v1887 (inR X (2 * ((k : ℕ) + 1) + 0))) (Finset.subset_univ _) (r13 X (2 * ((k : ℕ) + 1) + 0) (e9_0 k))) $$ h13
  iintro h13
  iapply (ld (c := c) (i := 4) (hκ := rfl) (S := Finset.univ) (f := X.dg) (s_v1890 (inR X (2 * ((k : ℕ) + 1) + 0))) (Finset.subset_univ _) (r14 X (2 * ((k : ℕ) + 1) + 0) (e9_0 k))) $$ h14
  iintro h14
  iapply (ld (c := c) (i := 5) (hκ := rfl) (S := Finset.univ) (f := X.xs) (s_v1894 (inR X (2 * ((k : ℕ) + 1) + 0))) (Finset.subset_univ _) (r15 X (2 * ((k : ℕ) + 1) + 0) (e10_0 k))) $$ h15
  iintro h15
  iapply HK
  iframe h13 h14 h15

theorem part3 (c : Dev nD) (k : Fin k0_t1_loop.trips) {α : Type} {Q : α → sProp 𝕄} (K : (Σ' (v1968 : FVec F S8x128 .f32) (v1976 : FVec F S256x128 .f32) (v1979 : IVec S256x128 1), FVec F S256x128 .f32) → Prog (TpuEff nD τ sig (Elt F) Λ₀ .tc) α) :
    WP c (K ⟨(s_v1968 (inR X (2 * ((k : ℕ) + 1) + 0))), (s_v1976 (inR X (2 * ((k : ℕ) + 1) + 0))), (s_v1979 (inR X (2 * ((k : ℕ) + 1) + 0))), (s_v1982 (inR X (2 * ((k : ℕ) + 1) + 0)))⟩) Q ⊢ WP c (At k0_part3 s_v1879 (s_v1885 (inR X (2 * ((k : ℕ) + 1) + 0))) (s_v1888 (inR X (2 * ((k : ℕ) + 1) + 0))) (s_v1892 (inR X (2 * ((k : ℕ) + 1) + 0))) (s_v1894 (inR X (2 * ((k : ℕ) + 1) + 0))) (s_v1901 (inR X (2 * ((k : ℕ) + 1) + 0))) (s_v1908 (inR X (2 * ((k : ℕ) + 1) + 0))) (s_v1915 (inR X (2 * ((k : ℕ) + 1) + 0))) (s_v1922 (inR X (2 * ((k : ℕ) + 1) + 0))) (s_v1929 (inR X (2 * ((k : ℕ) + 1) + 0))) (s_v1932 (inR X (2 * ((k : ℕ) + 1) + 0))) >>= K) Q := by
  rw [k0_part3_eq_skeleton]
  unfold At k0_part3_skel
  simp only [bind_assoc, pure_bind]
  exact .rfl

theorem part4 (c : Dev nD) (k : Fin k0_t1_loop.trips) {α : Type} {Q : α → sProp 𝕄} (K : (Σ' (v2025 : FVec F S256x128 .f32) (v2028 : FVec F S1x128 .f32) (v2030 : FVec F S1x128 .f32) (v2031 : IVec S1x128 32) (v2033 : IVec S1x128 32), IVec S1x128 1) → Prog (TpuEff nD τ sig (Elt F) Λ₀ .tc) α) :
    WP c (K ⟨(s_v2025 (inR X (2 * ((k : ℕ) + 1) + 0))), (s_v2028 (inR X (2 * ((k : ℕ) + 1) + 0))), (s_v2030 (inR X (2 * ((k : ℕ) + 1) + 0))), s_v2031, s_v2033, (s_v2037 (inR X (2 * ((k : ℕ) + 1) + 0)))⟩) Q ⊢ WP c (At k0_part4 s_v1879 (s_v1888 (inR X (2 * ((k : ℕ) + 1) + 0))) (s_v1968 (inR X (2 * ((k : ℕ) + 1) + 0))) (s_v1976 (inR X (2 * ((k : ℕ) + 1) + 0))) (s_v1979 (inR X (2 * ((k : ℕ) + 1) + 0))) (s_v1982 (inR X (2 * ((k : ℕ) + 1) + 0))) >>= K) Q := by
  rw [k0_part4_eq_skeleton]
  unfold At k0_part4_skel
  simp only [bind_assoc, pure_bind]
  exact .rfl

theorem part5 (c : Dev nD) (k : Fin k0_t1_loop.trips) {α : Type} {Q : α → sProp 𝕄} (K : (Σ' (v2080 : IVec S1x128 32) (v2082 : IVec S1x128 32), IVec S1x128 32) → Prog (TpuEff nD τ sig (Elt F) Λ₀ .tc) α) :
    WP c (K ⟨(s_v2080 (inR X (2 * ((k : ℕ) + 1) + 0))), (s_v2082 (inR X (2 * ((k : ℕ) + 1) + 0))), s_v2083⟩) Q ⊢ WP c (At k0_part5 (s_v2030 (inR X (2 * ((k : ℕ) + 1) + 0))) s_v2031 s_v2033 (s_v2037 (inR X (2 * ((k : ℕ) + 1) + 0))) >>= K) Q := by
  rw [k0_part5_eq_skeleton]
  unfold At k0_part5_skel
  simp only [bind_assoc, pure_bind]
  exact .rfl

theorem part6 (c : Dev nD) (k : Fin k0_t1_loop.trips) {α : Type} {Q : α → sProp 𝕄} (K : (Σ' (v2113 : FVec F S1x128 .f32) (v2120 : IVec S1x128 1), IVec S1x128 32) → Prog (TpuEff nD τ sig (Elt F) Λ₀ .tc) α) :
    WP c (K ⟨(s_v2113 (inR X (2 * ((k : ℕ) + 1) + 0))), (s_v2120 (inR X (2 * ((k : ℕ) + 1) + 0))), (s_v2125 (inR X (2 * ((k : ℕ) + 1) + 0)))⟩) Q ⊢ WP c (At k0_part6 (s_v2028 (inR X (2 * ((k : ℕ) + 1) + 0))) (s_v2030 (inR X (2 * ((k : ℕ) + 1) + 0))) (s_v2080 (inR X (2 * ((k : ℕ) + 1) + 0))) (s_v2082 (inR X (2 * ((k : ℕ) + 1) + 0))) s_v2083 >>= K) Q := by
  rw [k0_part6_eq_skeleton]
  unfold At k0_part6_skel
  simp only [bind_assoc, pure_bind]
  exact .rfl

theorem part7 (c : Dev nD) (k : Fin k0_t1_loop.trips) {α : Type} {Q : α → sProp 𝕄} (K : (FVec F S128x128 .f32) → Prog (TpuEff nD τ sig (Elt F) Λ₀ .tc) α) :
    iprop(PA c cc0_scratch9 (box S16x256x128 ![2 * ((k : ℕ) + 1) + 0, 0, 0] S1x256x128.size) ∗ PA c cc0_scratch14 (box S16x128 ![2 * ((k : ℕ) + 1) + 0, 0] S1x128.size) ∗ PA c cc0_scratch12 (box S2048x256 ![128 * (2 * ((k : ℕ) + 1) + 0), 0] S128x256.size) ∗ PA c cc0_scratch7 (box S2x256x256 ![((k : ℕ) + 1) % 2, 0, 0] S1x128x256.size) ∗ PA c cc0_scratch13 (box S2048x256 ![128 * (2 * ((k : ℕ) + 1) + 0), 0] S128x256.size))
      ⊢ iprop((iprop(PT c cc0_scratch9 (box S16x256x128 ![2 * ((k : ℕ) + 1) + 0, 0, 0] S1x256x128.size) (G19 X) ∗ PT c cc0_scratch14 (box S16x128 ![2 * ((k : ℕ) + 1) + 0, 0] S1x128.size) (G24 X) ∗ PT c cc0_scratch12 (box S2048x256 ![128 * (2 * ((k : ℕ) + 1) + 0), 0] S128x256.size) (G22 X) ∗ PT c cc0_scratch7 (box S2x256x256 ![((k : ℕ) + 1) % 2, 0, 0] S1x128x256.size) (G17 X ((k : ℕ) + 1)) ∗ PT c cc0_scratch13 (box S2048x256 ![128 * (2 * ((k : ℕ) + 1) + 0), 0] S128x256.size) (G23 X)) -∗ WP c (K (s_v2168 (inR X (2 * ((k : ℕ) + 1) + 0)))) Q)
        -∗ WP c (At k0_part7 k (s_v1880 k) (s_v1882 k) (s_v1894 (inR X (2 * ((k : ℕ) + 1) + 0))) (s_v2025 (inR X (2 * ((k : ℕ) + 1) + 0))) (s_v2113 (inR X (2 * ((k : ℕ) + 1) + 0))) (s_v2120 (inR X (2 * ((k : ℕ) + 1) + 0))) (s_v2125 (inR X (2 * ((k : ℕ) + 1) + 0))) >>= K) Q) := by
  rw [k0_part7_eq_skeleton]
  unfold At k0_part7_skel
  simp only [bind_assoc, pure_bind]
  iintro ⟨h19a, h24a, h22a, h17a, h23a⟩ HK
  iapply (ldd (c := c) (i := 9) (hκ := rfl) (S := (box S16x256x128 ![2 * ((k : ℕ) + 1) + 0, 0, 0] S1x256x128.size)) (unit_set' (e11_0 k) rfl).subset) $$ h19a
  iintro h19a
  iapply (st (c := c) (i := 9) (hκ := rfl) (S := (box S16x256x128 ![2 * ((k : ℕ) + 1) + 0, 0, 0] S1x256x128.size)) (w := o_7_0 (inR X (2 * ((k : ℕ) + 1) + 0))) (G19 X) (unit_set' (e11_0 k) rfl) (fun j => (w19 X (2 * ((k : ℕ) + 1) + 0) (e11_0 k) j).trans (congrFun (same_o_7_0 (inR X (2 * ((k : ℕ) + 1) + 0))).symm j))) $$ h19a
  iintro h19a
  iapply (ldd (c := c) (i := 14) (hκ := rfl) (S := (box S16x128 ![2 * ((k : ℕ) + 1) + 0, 0] S1x128.size)) (unit_set' (e10_0 k) rfl).subset) $$ h24a
  iintro h24a
  iapply (st (c := c) (i := 14) (hκ := rfl) (S := (box S16x128 ![2 * ((k : ℕ) + 1) + 0, 0] S1x128.size)) (w := o_7_1 (inR X (2 * ((k : ℕ) + 1) + 0))) (G24 X) (unit_set' (e10_0 k) rfl) (fun j => (w24 X (2 * ((k : ℕ) + 1) + 0) (e10_0 k) j).trans (congrFun (same_o_7_1 (inR X (2 * ((k : ℕ) + 1) + 0))).symm j))) $$ h24a
  iintro h24a
  iapply (ldd (c := c) (i := 12) (hκ := rfl) (S := (box S2048x256 ![128 * (2 * ((k : ℕ) + 1) + 0), 0] S128x256.size)) (unit_set' (e12_0 k) rfl).subset) $$ h22a
  iintro h22a
  iapply (st (c := c) (i := 12) (hκ := rfl) (S := (box S2048x256 ![128 * (2 * ((k : ℕ) + 1) + 0), 0] S128x256.size)) (w := o_7_2 (inR X (2 * ((k : ℕ) + 1) + 0))) (G22 X) (unit_set' (e12_0 k) rfl) (fun j => (w22 X (2 * ((k : ℕ) + 1) + 0) (e12_0 k) j).trans (congrFun (same_o_7_2 (inR X (2 * ((k : ℕ) + 1) + 0))).symm j))) $$ h22a
  iintro h22a
  iapply (ldd (c := c) (i := 7) (hκ := rfl) (S := (box S2x256x256 ![((k : ℕ) + 1) % 2, 0, 0] S1x128x256.size)) (unit_set' (e13 k) rfl).subset) $$ h17a
  iintro h17a
  iapply (st (c := c) (i := 7) (hκ := rfl) (S := (box S2x256x256 ![((k : ℕ) + 1) % 2, 0, 0] S1x128x256.size)) (w := o_7_3 (inR X (2 * ((k : ℕ) + 1) + 0))) (G17 X ((k : ℕ) + 1)) (unit_set' (e13 k) rfl) (fun j => (w17 X (b := (k : ℕ) + 1) (r := 0) (2 * ((k : ℕ) + 1) + 0) (by omega) (by omega) (e13 k) j).trans (congrFun (same_o_7_3 (inR X (2 * ((k : ℕ) + 1) + 0))).symm j))) $$ h17a
  iintro h17a
  iapply (ldd (c := c) (i := 13) (hκ := rfl) (S := (box S2048x256 ![128 * (2 * ((k : ℕ) + 1) + 0), 0] S128x256.size)) (unit_set' (e12_0 k) rfl).subset) $$ h23a
  iintro h23a
  iapply (st (c := c) (i := 13) (hκ := rfl) (S := (box S2048x256 ![128 * (2 * ((k : ℕ) + 1) + 0), 0] S128x256.size)) (w := o_7_4 (inR X (2 * ((k : ℕ) + 1) + 0))) (G23 X) (unit_set' (e12_0 k) rfl) (fun j => (w23 X (2 * ((k : ℕ) + 1) + 0) (e12_0 k) j).trans (congrFun (same_o_7_4 (inR X (2 * ((k : ℕ) + 1) + 0))).symm j))) $$ h23a
  iintro h23a
  iapply HK
  iframe h19a h24a h22a h17a h23a

theorem part8 (c : Dev nD) (k : Fin k0_t1_loop.trips) {α : Type} {Q : α → sProp 𝕄} (K : (Σ' (v2174 : BitVec 32) (v2177 : FVec F S256x128 .f32) (v2180 : IVec S8x128 32) (v2184 : FVec F S8x128 .f32) (v2186 : Vec F S1x128 .f32) (v2193 : FVec F S1x128 .f32) (v2200 : FVec F S1x128 .f32) (v2207 : FVec F S1x128 .f32) (v2210 : IVec S256x128 1), F .f32) → Prog (TpuEff nD τ sig (Elt F) Λ₀ .tc) α) :
    iprop(PA c cc0_scratch8 (box S2x256x128 ![((k : ℕ) + 1) % 2, 0, 0] S1x128x128.size) ∗ PT c cc0_scratch6 (box S2x256x256 ![((k : ℕ) + 1) % 2, 0, 0] S1x256x256.size) (G16 X ((k : ℕ) + 1)) ∗ PT c cc0_scratch3 Finset.univ (X.ids) ∗ PT c cc0_scratch4 Finset.univ (X.dg) ∗ PT c cc0_scratch5 Finset.univ (X.xs))
      ⊢ iprop((iprop(PT c cc0_scratch8 (box S2x256x128 ![((k : ℕ) + 1) % 2, 0, 0] S1x128x128.size) (G18 X ((k : ℕ) + 1)) ∗ PT c cc0_scratch6 (box S2x256x256 ![((k : ℕ) + 1) % 2, 0, 0] S1x256x256.size) (G16 X ((k : ℕ) + 1)) ∗ PT c cc0_scratch3 Finset.univ (X.ids) ∗ PT c cc0_scratch4 Finset.univ (X.dg) ∗ PT c cc0_scratch5 Finset.univ (X.xs)) -∗ WP c (K ⟨(s_v2174 k), (s_v2177 (inR X (2 * ((k : ℕ) + 1) + 1))), (s_v2180 (inR X (2 * ((k : ℕ) + 1) + 1))), (s_v2184 (inR X (2 * ((k : ℕ) + 1) + 1))), (s_v2186 (inR X (2 * ((k : ℕ) + 1) + 1))), (s_v2193 (inR X (2 * ((k : ℕ) + 1) + 1))), (s_v2200 (inR X (2 * ((k : ℕ) + 1) + 1))), (s_v2207 (inR X (2 * ((k : ℕ) + 1) + 1))), (s_v2210 (inR X (2 * ((k : ℕ) + 1) + 1))), (s_cst_1088 (F := F))⟩) Q)
        -∗ WP c (At k0_part8 k (s_v1878 k) s_v1879 (s_v1880 k) (s_v2168 (inR X (2 * ((k : ℕ) + 1) + 0))) >>= K) Q) := by
  rw [k0_part8_eq_skeleton]
  unfold At k0_part8_skel
  simp only [bind_assoc, pure_bind]
  iintro ⟨h18a, h16, h13, h14, h15⟩ HK
  iapply (ldd (c := c) (i := 8) (hκ := rfl) (S := (box S2x256x128 ![((k : ℕ) + 1) % 2, 0, 0] S1x128x128.size)) (unit_set' (e14 k) rfl).subset) $$ h18a
  iintro h18a
  iapply (st (c := c) (i := 8) (hκ := rfl) (S := (box S2x256x128 ![((k : ℕ) + 1) % 2, 0, 0] S1x128x128.size)) (w := o_8_0 (inR X (2 * ((k : ℕ) + 1) + 0))) (G18 X ((k : ℕ) + 1)) (unit_set' (e14 k) rfl) (fun j => (w18 X (b := (k : ℕ) + 1) (r := 0) (2 * ((k : ℕ) + 1) + 0) (by omega) (by omega) (e14 k) j).trans (congrFun (same_o_8_0 (inR X (2 * ((k : ℕ) + 1) + 0))).symm j))) $$ h18a
  iintro h18a
  iapply (ld (c := c) (i := 6) (hκ := rfl) (S := (box S2x256x256 ![((k : ℕ) + 1) % 2, 0, 0] S1x256x256.size)) (f := G16 X ((k : ℕ) + 1)) (s_v2176 (inR X (2 * ((k : ℕ) + 1) + 1))) (slot_sub (s := ((k : ℕ) + 1) % 2) (r := 1) (e15s_1 k) (by decide)) (fun j => r16 X (b := (k : ℕ) + 1) (r := 1) (2 * ((k : ℕ) + 1) + 1) (by omega) (by omega) (e15s_1 k) j)) $$ h16
  iintro h16
  iapply (ld (c := c) (i := 3) (hκ := rfl) (S := Finset.univ) (f := X.ids) (s_v2179 (inR X (2 * ((k : ℕ) + 1) + 1))) (Finset.subset_univ _) (r13 X (2 * ((k : ℕ) + 1) + 1) (e9_1 k))) $$ h13
  iintro h13
  iapply (ld (c := c) (i := 4) (hκ := rfl) (S := Finset.univ) (f := X.dg) (s_v2182 (inR X (2 * ((k : ℕ) + 1) + 1))) (Finset.subset_univ _) (r14 X (2 * ((k : ℕ) + 1) + 1) (e9_1 k))) $$ h14
  iintro h14
  iapply (ld (c := c) (i := 5) (hκ := rfl) (S := Finset.univ) (f := X.xs) (s_v2186 (inR X (2 * ((k : ℕ) + 1) + 1))) (Finset.subset_univ _) (r15 X (2 * ((k : ℕ) + 1) + 1) (e10_1 k))) $$ h15
  iintro h15
  iapply HK
  iframe h18a h16 h13 h14 h15

theorem part9 (c : Dev nD) (k : Fin k0_t1_loop.trips) {α : Type} {Q : α → sProp 𝕄} (K : (Σ' (v2254 : FVec F S8x128 .f32), FVec F S8x128 .f32) → Prog (TpuEff nD τ sig (Elt F) Λ₀ .tc) α) :
    WP c (K ⟨(s_v2254 (inR X (2 * ((k : ℕ) + 1) + 1))), (s_v2258 (inR X (2 * ((k : ℕ) + 1) + 1)))⟩) Q ⊢ WP c (At k0_part9 s_v1879 (s_v2177 (inR X (2 * ((k : ℕ) + 1) + 1))) (s_v2180 (inR X (2 * ((k : ℕ) + 1) + 1))) (s_v2184 (inR X (2 * ((k : ℕ) + 1) + 1))) (s_v2186 (inR X (2 * ((k : ℕ) + 1) + 1))) (s_v2193 (inR X (2 * ((k : ℕ) + 1) + 1))) (s_v2200 (inR X (2 * ((k : ℕ) + 1) + 1))) (s_v2207 (inR X (2 * ((k : ℕ) + 1) + 1))) (s_v2210 (inR X (2 * ((k : ℕ) + 1) + 1))) (s_cst_1088 (F := F)) >>= K) Q := by
  rw [k0_part9_eq_skeleton]
  unfold At k0_part9_skel
  simp only [bind_assoc, pure_bind]
  exact .rfl

theorem part10 (c : Dev nD) (k : Fin k0_t1_loop.trips) {α : Type} {Q : α → sProp 𝕄} (K : (FVec F S256x128 .f32) → Prog (TpuEff nD τ sig (Elt F) Λ₀ .tc) α) :
    WP c (K (s_v2317 (inR X (2 * ((k : ℕ) + 1) + 1)))) Q ⊢ WP c (At k0_part10 s_v1879 (s_v2180 (inR X (2 * ((k : ℕ) + 1) + 1))) (s_v2184 (inR X (2 * ((k : ℕ) + 1) + 1))) (s_v2254 (inR X (2 * ((k : ℕ) + 1) + 1))) (s_v2258 (inR X (2 * ((k : ℕ) + 1) + 1))) >>= K) Q := by
  rw [k0_part10_eq_skeleton]
  unfold At k0_part10_skel
  simp only [bind_assoc, pure_bind]
  exact .rfl

theorem part11 (c : Dev nD) (k : Fin k0_t1_loop.trips) {α : Type} {Q : α → sProp 𝕄} (K : (Σ' (v2320 : FVec F S1x128 .f32) (v2322 : FVec F S1x128 .f32) (v2358 : IVec S1x128 32) (v2360 : IVec S1x128 32), IVec S1x128 32) → Prog (TpuEff nD τ sig (Elt F) Λ₀ .tc) α) :
    WP c (K ⟨(s_v2320 (inR X (2 * ((k : ℕ) + 1) + 1))), (s_v2322 (inR X (2 * ((k : ℕ) + 1) + 1))), (s_v2358 (inR X (2 * ((k : ℕ) + 1) + 1))), (s_v2360 (inR X (2 * ((k : ℕ) + 1) + 1))), (s_v2362 (inR X (2 * ((k : ℕ) + 1) + 1)))⟩) Q ⊢ WP c (At k0_part11 (s_v2317 (inR X (2 * ((k : ℕ) + 1) + 1))) >>= K) Q := by
  rw [k0_part11_eq_skeleton]
  unfold At k0_part11_skel
  simp only [bind_assoc, pure_bind]
  exact .rfl

theorem part12 (c : Dev nD) (k : Fin k0_t1_loop.trips) {α : Type} {Q : α → sProp 𝕄} (K : (Σ' (v2392 : IVec S1x128 32) (v2405 : FVec F S1x128 .f32), BitVec 32) → Prog (TpuEff nD τ sig (Elt F) Λ₀ .tc) α) :
    WP c (K ⟨(s_v2392 (inR X (2 * ((k : ℕ) + 1) + 1))), (s_v2405 (inR X (2 * ((k : ℕ) + 1) + 1))), s_c0_i32_1133⟩) Q ⊢ WP c (At k0_part12 (s_v2320 (inR X (2 * ((k : ℕ) + 1) + 1))) (s_v2322 (inR X (2 * ((k : ℕ) + 1) + 1))) (s_v2358 (inR X (2 * ((k : ℕ) + 1) + 1))) (s_v2360 (inR X (2 * ((k : ℕ) + 1) + 1))) (s_v2362 (inR X (2 * ((k : ℕ) + 1) + 1))) >>= K) Q := by
  rw [k0_part12_eq_skeleton]
  unfold At k0_part12_skel
  simp only [bind_assoc, pure_bind]
  exact .rfl

theorem part13 (c : Dev nD) (k : Fin k0_t1_loop.trips) {α : Type} {Q : α → sProp 𝕄} (K : (Σ' (v2442 : BitVec 32), FVec F S128x256 .bf16) → Prog (TpuEff nD τ sig (Elt F) Λ₀ .tc) α) :
    iprop(PA c cc0_scratch9 (box S16x256x128 ![2 * ((k : ℕ) + 1) + 1, 0, 0] S1x256x128.size) ∗ PA c cc0_scratch14 (box S16x128 ![2 * ((k : ℕ) + 1) + 1, 0] S1x128.size) ∗ PA c cc0_scratch12 (box S2048x256 ![128 * (2 * ((k : ℕ) + 1) + 1), 0] S128x256.size))
      ⊢ iprop((iprop(PT c cc0_scratch9 (box S16x256x128 ![2 * ((k : ℕ) + 1) + 1, 0, 0] S1x256x128.size) (G19 X) ∗ PT c cc0_scratch14 (box S16x128 ![2 * ((k : ℕ) + 1) + 1, 0] S1x128.size) (G24 X) ∗ PT c cc0_scratch12 (box S2048x256 ![128 * (2 * ((k : ℕ) + 1) + 1), 0] S128x256.size) (G22 X)) -∗ WP c (K ⟨(s_v2442 k), (s_v2448 (inR X (2 * ((k : ℕ) + 1) + 1)))⟩) Q)
        -∗ WP c (At k0_part13 k (s_v1880 k) (s_v2174 k) (s_v2186 (inR X (2 * ((k : ℕ) + 1) + 1))) (s_v2317 (inR X (2 * ((k : ℕ) + 1) + 1))) (s_v2392 (inR X (2 * ((k : ℕ) + 1) + 1))) (s_v2405 (inR X (2 * ((k : ℕ) + 1) + 1))) s_c0_i32_1133 >>= K) Q) := by
  rw [k0_part13_eq_skeleton]
  unfold At k0_part13_skel
  simp only [bind_assoc, pure_bind]
  iintro ⟨h19b, h24b, h22b⟩ HK
  iapply (ldd (c := c) (i := 9) (hκ := rfl) (S := (box S16x256x128 ![2 * ((k : ℕ) + 1) + 1, 0, 0] S1x256x128.size)) (unit_set' (e11_1 k) rfl).subset) $$ h19b
  iintro h19b
  iapply (st (c := c) (i := 9) (hκ := rfl) (S := (box S16x256x128 ![2 * ((k : ℕ) + 1) + 1, 0, 0] S1x256x128.size)) (w := o_13_0 (inR X (2 * ((k : ℕ) + 1) + 1))) (G19 X) (unit_set' (e11_1 k) rfl) (fun j => (w19 X (2 * ((k : ℕ) + 1) + 1) (e11_1 k) j).trans (congrFun (same_o_13_0 (inR X (2 * ((k : ℕ) + 1) + 1))).symm j))) $$ h19b
  iintro h19b
  iapply (ldd (c := c) (i := 14) (hκ := rfl) (S := (box S16x128 ![2 * ((k : ℕ) + 1) + 1, 0] S1x128.size)) (unit_set' (e10_1 k) rfl).subset) $$ h24b
  iintro h24b
  iapply (st (c := c) (i := 14) (hκ := rfl) (S := (box S16x128 ![2 * ((k : ℕ) + 1) + 1, 0] S1x128.size)) (w := o_13_1 (inR X (2 * ((k : ℕ) + 1) + 1))) (G24 X) (unit_set' (e10_1 k) rfl) (fun j => (w24 X (2 * ((k : ℕ) + 1) + 1) (e10_1 k) j).trans (congrFun (same_o_13_1 (inR X (2 * ((k : ℕ) + 1) + 1))).symm j))) $$ h24b
  iintro h24b
  iapply (ldd (c := c) (i := 12) (hκ := rfl) (S := (box S2048x256 ![128 * (2 * ((k : ℕ) + 1) + 1), 0] S128x256.size)) (unit_set' (e12_1 k) rfl).subset) $$ h22b
  iintro h22b
  iapply (st (c := c) (i := 12) (hκ := rfl) (S := (box S2048x256 ![128 * (2 * ((k : ℕ) + 1) + 1), 0] S128x256.size)) (w := o_13_2 (inR X (2 * ((k : ℕ) + 1) + 1))) (G22 X) (unit_set' (e12_1 k) rfl) (fun j => (w22 X (2 * ((k : ℕ) + 1) + 1) (e12_1 k) j).trans (congrFun (same_o_13_2 (inR X (2 * ((k : ℕ) + 1) + 1))).symm j))) $$ h22b
  iintro h22b
  iapply HK
  iframe h19b h24b h22b

theorem part14 (c : Dev nD) (k : Fin k0_t1_loop.trips) {α : Type} {Q : α → sProp 𝕄} (K : (Σ' (v2465 : BitVec 32) (v2469 : FVec F S256x1 .f32) (v2484 : FVec F S256x256 .bf16) (v2485 : Vec F S256x512 .bf16), FVec F S256x512 .f32) → Prog (TpuEff nD τ sig (Elt F) Λ₀ .tc) α) :
    iprop(PA c cc0_scratch7 (box S2x256x256 ![((k : ℕ) + 1) % 2, 128, 0] S1x128x256.size) ∗ PA c cc0_scratch13 (box S2048x256 ![128 * (2 * ((k : ℕ) + 1) + 1), 0] S128x256.size) ∗ PA c cc0_scratch8 (box S2x256x128 ![((k : ℕ) + 1) % 2, 128, 0] S1x128x128.size) ∗ PT c cc0_scratch8 (box S2x256x128 ![(k : ℕ) % 2, 0, 0] S1x256x128.size) (G18 X (k : ℕ)) ∗ PT c cc0_scratch7 (box S2x256x256 ![(k : ℕ) % 2, 0, 0] S1x256x256.size) (G17 X (k : ℕ)) ∗ PT c cc0_scratch2 Finset.univ (G12 X) ∗ PA c cc0_scratch10 (box S2x256x7168 ![(k : ℕ) % 2, 0, 512 * 0] S1x256x512.size))
      ⊢ iprop((iprop(PT c cc0_scratch7 (box S2x256x256 ![((k : ℕ) + 1) % 2, 128, 0] S1x128x256.size) (G17 X ((k : ℕ) + 1)) ∗ PT c cc0_scratch13 (box S2048x256 ![128 * (2 * ((k : ℕ) + 1) + 1), 0] S128x256.size) (G23 X) ∗ PT c cc0_scratch8 (box S2x256x128 ![((k : ℕ) + 1) % 2, 128, 0] S1x128x128.size) (G18 X ((k : ℕ) + 1)) ∗ PT c cc0_scratch8 (box S2x256x128 ![(k : ℕ) % 2, 0, 0] S1x256x128.size) (G18 X (k : ℕ)) ∗ PT c cc0_scratch7 (box S2x256x256 ![(k : ℕ) % 2, 0, 0] S1x256x256.size) (G17 X (k : ℕ)) ∗ PT c cc0_scratch2 Finset.univ (G12 X) ∗ PT c cc0_scratch10 (box S2x256x7168 ![(k : ℕ) % 2, 0, 512 * 0] S1x256x512.size) (G20 X (k : ℕ))) -∗ WP c (K ⟨(s_v2465 k), (s_v2469 (inD X (k : ℕ))), (s_v2484 (inD X (k : ℕ))), (s_v2485 (inD X (k : ℕ))), (s_cst_1166 (F := F))⟩) Q)
        -∗ WP c (At k0_part14 k (s_arg32 k) (s_v1880 k) (s_v2405 (inR X (2 * ((k : ℕ) + 1) + 1))) (s_v2442 k) (s_v2448 (inR X (2 * ((k : ℕ) + 1) + 1))) >>= K) Q) := by
  rw [k0_part14_eq_skeleton]
  unfold At k0_part14_skel
  simp only [bind_assoc, pure_bind]
  iintro ⟨h17b, h23b, h18b, d18, d17, h12, h20_0⟩ HK
  iapply (ldd (c := c) (i := 7) (hκ := rfl) (S := (box S2x256x256 ![((k : ℕ) + 1) % 2, 128, 0] S1x128x256.size)) (unit_set' (e16 k) rfl).subset) $$ h17b
  iintro h17b
  iapply (st (c := c) (i := 7) (hκ := rfl) (S := (box S2x256x256 ![((k : ℕ) + 1) % 2, 128, 0] S1x128x256.size)) (w := o_14_0 (inR X (2 * ((k : ℕ) + 1) + 1))) (G17 X ((k : ℕ) + 1)) (unit_set' (e16 k) rfl) (fun j => (w17 X (b := (k : ℕ) + 1) (r := 1) (2 * ((k : ℕ) + 1) + 1) (by omega) (by omega) (e16 k) j).trans (congrFun (same_o_14_0 (inR X (2 * ((k : ℕ) + 1) + 1))).symm j))) $$ h17b
  iintro h17b
  iapply (ldd (c := c) (i := 13) (hκ := rfl) (S := (box S2048x256 ![128 * (2 * ((k : ℕ) + 1) + 1), 0] S128x256.size)) (unit_set' (e12_1 k) rfl).subset) $$ h23b
  iintro h23b
  iapply (st (c := c) (i := 13) (hκ := rfl) (S := (box S2048x256 ![128 * (2 * ((k : ℕ) + 1) + 1), 0] S128x256.size)) (w := o_14_1 (inR X (2 * ((k : ℕ) + 1) + 1))) (G23 X) (unit_set' (e12_1 k) rfl) (fun j => (w23 X (2 * ((k : ℕ) + 1) + 1) (e12_1 k) j).trans (congrFun (same_o_14_1 (inR X (2 * ((k : ℕ) + 1) + 1))).symm j))) $$ h23b
  iintro h23b
  iapply (ldd (c := c) (i := 8) (hκ := rfl) (S := (box S2x256x128 ![((k : ℕ) + 1) % 2, 128, 0] S1x128x128.size)) (unit_set' (e17 k) rfl).subset) $$ h18b
  iintro h18b
  iapply (st (c := c) (i := 8) (hκ := rfl) (S := (box S2x256x128 ![((k : ℕ) + 1) % 2, 128, 0] S1x128x128.size)) (w := o_14_2 (inR X (2 * ((k : ℕ) + 1) + 1))) (G18 X ((k : ℕ) + 1)) (unit_set' (e17 k) rfl) (fun j => (w18 X (b := (k : ℕ) + 1) (r := 1) (2 * ((k : ℕ) + 1) + 1) (by omega) (by omega) (e17 k) j).trans (congrFun (same_o_14_2 (inR X (2 * ((k : ℕ) + 1) + 1))).symm j))) $$ h18b
  iintro h18b
  iapply (ld (c := c) (i := 8) (hκ := rfl) (S := (box S2x256x128 ![(k : ℕ) % 2, 0, 0] S1x256x128.size)) (f := G18 X (k : ℕ)) (s_v2467 (inD X (k : ℕ))) (unit_set' (e18 k) rfl).subset (fun j => r18 X (k : ℕ) (e18 k) j)) $$ d18
  iintro d18
  iapply (ld (c := c) (i := 7) (hκ := rfl) (S := (box S2x256x256 ![(k : ℕ) % 2, 0, 0] S1x256x256.size)) (f := G17 X (k : ℕ)) (s_v2471 (inD X (k : ℕ))) (unit_set' (e19 k) rfl).subset (fun j => r17 X (k : ℕ) (e19 k) j)) $$ d17
  iintro d17
  iapply (ld (c := c) (i := 2) (hκ := rfl) (S := Finset.univ) (f := G12 X) (s_v2473 (inD X (k : ℕ))) (Finset.subset_univ _) (r12 X (k : ℕ) 0 rfl)) $$ h12
  iintro h12
  iapply (ldd (c := c) (i := 10) (hκ := rfl) (S := (box S2x256x7168 ![(k : ℕ) % 2, 0, 512 * 0] S1x256x512.size)) (unit_set' (e20 k) rfl).subset) $$ h20_0
  iintro h20_0
  iapply (st (c := c) (i := 10) (hκ := rfl) (S := (box S2x256x7168 ![(k : ℕ) % 2, 0, 512 * 0] S1x256x512.size)) (w := o_14_3 (inD X (k : ℕ))) (G20 X (k : ℕ)) (unit_set' (e20 k) rfl) (fun j => (w20 X (k : ℕ) 0 (e20 k) j).trans (congrFun (same_o_14_3 (inD X (k : ℕ))).symm j))) $$ h20_0
  iintro h20_0
  iapply (ld (c := c) (i := 7) (hκ := rfl) (S := (box S2x256x256 ![(k : ℕ) % 2, 0, 0] S1x256x256.size)) (f := G17 X (k : ℕ)) (s_v2483 (inD X (k : ℕ))) (unit_set' (e19 k) rfl).subset (fun j => r17 X (k : ℕ) (e19 k) j)) $$ d17
  iintro d17
  iapply (ld (c := c) (i := 2) (hκ := rfl) (S := Finset.univ) (f := G12 X) (s_v2485 (inD X (k : ℕ))) (Finset.subset_univ _) (r12 X (k : ℕ) 1 rfl)) $$ h12
  iintro h12
  iapply HK
  iframe h17b h23b h18b d18 d17 h12 h20_0

theorem part15 (c : Dev nD) (k : Fin k0_t1_loop.trips) {α : Type} {Q : α → sProp 𝕄} (K : (Σ' (v2520 : FVec F S256x256 .bf16) (v2521 : Vec F S256x512 .bf16), FVec F S256x512 .f32) → Prog (TpuEff nD τ sig (Elt F) Λ₀ .tc) α) :
    iprop(PA c cc0_scratch10 (box S2x256x7168 ![(k : ℕ) % 2, 0, 512 * 1] S1x256x512.size) ∗ PT c cc0_scratch7 (box S2x256x256 ![(k : ℕ) % 2, 0, 0] S1x256x256.size) (G17 X (k : ℕ)) ∗ PT c cc0_scratch2 Finset.univ (G12 X) ∗ PA c cc0_scratch10 (box S2x256x7168 ![(k : ℕ) % 2, 0, 512 * 2] S1x256x512.size) ∗ PA c cc0_scratch10 (box S2x256x7168 ![(k : ℕ) % 2, 0, 512 * 3] S1x256x512.size))
      ⊢ iprop((iprop(PT c cc0_scratch10 (box S2x256x7168 ![(k : ℕ) % 2, 0, 512 * 1] S1x256x512.size) (G20 X (k : ℕ)) ∗ PT c cc0_scratch7 (box S2x256x256 ![(k : ℕ) % 2, 0, 0] S1x256x256.size) (G17 X (k : ℕ)) ∗ PT c cc0_scratch2 Finset.univ (G12 X) ∗ PT c cc0_scratch10 (box S2x256x7168 ![(k : ℕ) % 2, 0, 512 * 2] S1x256x512.size) (G20 X (k : ℕ)) ∗ PT c cc0_scratch10 (box S2x256x7168 ![(k : ℕ) % 2, 0, 512 * 3] S1x256x512.size) (G20 X (k : ℕ))) -∗ WP c (K ⟨(s_v2520 (inD X (k : ℕ))), (s_v2521 (inD X (k : ℕ))), (s_cst_1187 (F := F))⟩) Q)
        -∗ WP c (At k0_part15 k (s_v2465 k) (s_v2469 (inD X (k : ℕ))) (s_v2484 (inD X (k : ℕ))) (s_v2485 (inD X (k : ℕ))) (s_cst_1166 (F := F)) >>= K) Q) := by
  rw [k0_part15_eq_skeleton]
  unfold At k0_part15_skel
  simp only [bind_assoc, pure_bind]
  iintro ⟨h20_1, d17, h12, h20_2, h20_3⟩ HK
  iapply (ldd (c := c) (i := 10) (hκ := rfl) (S := (box S2x256x7168 ![(k : ℕ) % 2, 0, 512 * 1] S1x256x512.size)) (unit_set' (e21 k) rfl).subset) $$ h20_1
  iintro h20_1
  iapply (st (c := c) (i := 10) (hκ := rfl) (S := (box S2x256x7168 ![(k : ℕ) % 2, 0, 512 * 1] S1x256x512.size)) (w := o_15_0 (inD X (k : ℕ))) (G20 X (k : ℕ)) (unit_set' (e21 k) rfl) (fun j => (w20 X (k : ℕ) 1 (e21 k) j).trans (congrFun (same_o_15_0 (inD X (k : ℕ))).symm j))) $$ h20_1
  iintro h20_1
  iapply (ld (c := c) (i := 7) (hκ := rfl) (S := (box S2x256x256 ![(k : ℕ) % 2, 0, 0] S1x256x256.size)) (f := G17 X (k : ℕ)) (s_v2495 (inD X (k : ℕ))) (unit_set' (e19 k) rfl).subset (fun j => r17 X (k : ℕ) (e19 k) j)) $$ d17
  iintro d17
  iapply (ld (c := c) (i := 2) (hκ := rfl) (S := Finset.univ) (f := G12 X) (s_v2497 (inD X (k : ℕ))) (Finset.subset_univ _) (r12 X (k : ℕ) 2 rfl)) $$ h12
  iintro h12
  iapply (ldd (c := c) (i := 10) (hκ := rfl) (S := (box S2x256x7168 ![(k : ℕ) % 2, 0, 512 * 2] S1x256x512.size)) (unit_set' (e22 k) rfl).subset) $$ h20_2
  iintro h20_2
  iapply (st (c := c) (i := 10) (hκ := rfl) (S := (box S2x256x7168 ![(k : ℕ) % 2, 0, 512 * 2] S1x256x512.size)) (w := o_15_1 (inD X (k : ℕ))) (G20 X (k : ℕ)) (unit_set' (e22 k) rfl) (fun j => (w20 X (k : ℕ) 2 (e22 k) j).trans (congrFun (same_o_15_1 (inD X (k : ℕ))).symm j))) $$ h20_2
  iintro h20_2
  iapply (ld (c := c) (i := 7) (hκ := rfl) (S := (box S2x256x256 ![(k : ℕ) % 2, 0, 0] S1x256x256.size)) (f := G17 X (k : ℕ)) (s_v2507 (inD X (k : ℕ))) (unit_set' (e19 k) rfl).subset (fun j => r17 X (k : ℕ) (e19 k) j)) $$ d17
  iintro d17
  iapply (ld (c := c) (i := 2) (hκ := rfl) (S := Finset.univ) (f := G12 X) (s_v2509 (inD X (k : ℕ))) (Finset.subset_univ _) (r12 X (k : ℕ) 3 rfl)) $$ h12
  iintro h12
  iapply (ldd (c := c) (i := 10) (hκ := rfl) (S := (box S2x256x7168 ![(k : ℕ) % 2, 0, 512 * 3] S1x256x512.size)) (unit_set' (e23 k) rfl).subset) $$ h20_3
  iintro h20_3
  iapply (st (c := c) (i := 10) (hκ := rfl) (S := (box S2x256x7168 ![(k : ℕ) % 2, 0, 512 * 3] S1x256x512.size)) (w := o_15_2 (inD X (k : ℕ))) (G20 X (k : ℕ)) (unit_set' (e23 k) rfl) (fun j => (w20 X (k : ℕ) 3 (e23 k) j).trans (congrFun (same_o_15_2 (inD X (k : ℕ))).symm j))) $$ h20_3
  iintro h20_3
  iapply (ld (c := c) (i := 7) (hκ := rfl) (S := (box S2x256x256 ![(k : ℕ) % 2, 0, 0] S1x256x256.size)) (f := G17 X (k : ℕ)) (s_v2519 (inD X (k : ℕ))) (unit_set' (e19 k) rfl).subset (fun j => r17 X (k : ℕ) (e19 k) j)) $$ d17
  iintro d17
  iapply (ld (c := c) (i := 2) (hκ := rfl) (S := Finset.univ) (f := G12 X) (s_v2521 (inD X (k : ℕ))) (Finset.subset_univ _) (r12 X (k : ℕ) 4 rfl)) $$ h12
  iintro h12
  iapply HK
  iframe h20_1 d17 h12 h20_2 h20_3

theorem part16 (c : Dev nD) (k : Fin k0_t1_loop.trips) {α : Type} {Q : α → sProp 𝕄} (K : (Σ' (v2556 : FVec F S256x256 .bf16) (v2557 : Vec F S256x512 .bf16), FVec F S256x512 .f32) → Prog (TpuEff nD τ sig (Elt F) Λ₀ .tc) α) :
    iprop(PA c cc0_scratch10 (box S2x256x7168 ![(k : ℕ) % 2, 0, 512 * 4] S1x256x512.size) ∗ PT c cc0_scratch7 (box S2x256x256 ![(k : ℕ) % 2, 0, 0] S1x256x256.size) (G17 X (k : ℕ)) ∗ PT c cc0_scratch2 Finset.univ (G12 X) ∗ PA c cc0_scratch10 (box S2x256x7168 ![(k : ℕ) % 2, 0, 512 * 5] S1x256x512.size) ∗ PA c cc0_scratch10 (box S2x256x7168 ![(k : ℕ) % 2, 0, 512 * 6] S1x256x512.size))
      ⊢ iprop((iprop(PT c cc0_scratch10 (box S2x256x7168 ![(k : ℕ) % 2, 0, 512 * 4] S1x256x512.size) (G20 X (k : ℕ)) ∗ PT c cc0_scratch7 (box S2x256x256 ![(k : ℕ) % 2, 0, 0] S1x256x256.size) (G17 X (k : ℕ)) ∗ PT c cc0_scratch2 Finset.univ (G12 X) ∗ PT c cc0_scratch10 (box S2x256x7168 ![(k : ℕ) % 2, 0, 512 * 5] S1x256x512.size) (G20 X (k : ℕ)) ∗ PT c cc0_scratch10 (box S2x256x7168 ![(k : ℕ) % 2, 0, 512 * 6] S1x256x512.size) (G20 X (k : ℕ))) -∗ WP c (K ⟨(s_v2556 (inD X (k : ℕ))), (s_v2557 (inD X (k : ℕ))), (s_cst_1208 (F := F))⟩) Q)
        -∗ WP c (At k0_part16 k (s_v2465 k) (s_v2469 (inD X (k : ℕ))) (s_v2520 (inD X (k : ℕ))) (s_v2521 (inD X (k : ℕ))) (s_cst_1187 (F := F)) >>= K) Q) := by
  rw [k0_part16_eq_skeleton]
  unfold At k0_part16_skel
  simp only [bind_assoc, pure_bind]
  iintro ⟨h20_4, d17, h12, h20_5, h20_6⟩ HK
  iapply (ldd (c := c) (i := 10) (hκ := rfl) (S := (box S2x256x7168 ![(k : ℕ) % 2, 0, 512 * 4] S1x256x512.size)) (unit_set' (e24 k) rfl).subset) $$ h20_4
  iintro h20_4
  iapply (st (c := c) (i := 10) (hκ := rfl) (S := (box S2x256x7168 ![(k : ℕ) % 2, 0, 512 * 4] S1x256x512.size)) (w := o_16_0 (inD X (k : ℕ))) (G20 X (k : ℕ)) (unit_set' (e24 k) rfl) (fun j => (w20 X (k : ℕ) 4 (e24 k) j).trans (congrFun (same_o_16_0 (inD X (k : ℕ))).symm j))) $$ h20_4
  iintro h20_4
  iapply (ld (c := c) (i := 7) (hκ := rfl) (S := (box S2x256x256 ![(k : ℕ) % 2, 0, 0] S1x256x256.size)) (f := G17 X (k : ℕ)) (s_v2531 (inD X (k : ℕ))) (unit_set' (e19 k) rfl).subset (fun j => r17 X (k : ℕ) (e19 k) j)) $$ d17
  iintro d17
  iapply (ld (c := c) (i := 2) (hκ := rfl) (S := Finset.univ) (f := G12 X) (s_v2533 (inD X (k : ℕ))) (Finset.subset_univ _) (r12 X (k : ℕ) 5 rfl)) $$ h12
  iintro h12
  iapply (ldd (c := c) (i := 10) (hκ := rfl) (S := (box S2x256x7168 ![(k : ℕ) % 2, 0, 512 * 5] S1x256x512.size)) (unit_set' (e25 k) rfl).subset) $$ h20_5
  iintro h20_5
  iapply (st (c := c) (i := 10) (hκ := rfl) (S := (box S2x256x7168 ![(k : ℕ) % 2, 0, 512 * 5] S1x256x512.size)) (w := o_16_1 (inD X (k : ℕ))) (G20 X (k : ℕ)) (unit_set' (e25 k) rfl) (fun j => (w20 X (k : ℕ) 5 (e25 k) j).trans (congrFun (same_o_16_1 (inD X (k : ℕ))).symm j))) $$ h20_5
  iintro h20_5
  iapply (ld (c := c) (i := 7) (hκ := rfl) (S := (box S2x256x256 ![(k : ℕ) % 2, 0, 0] S1x256x256.size)) (f := G17 X (k : ℕ)) (s_v2543 (inD X (k : ℕ))) (unit_set' (e19 k) rfl).subset (fun j => r17 X (k : ℕ) (e19 k) j)) $$ d17
  iintro d17
  iapply (ld (c := c) (i := 2) (hκ := rfl) (S := Finset.univ) (f := G12 X) (s_v2545 (inD X (k : ℕ))) (Finset.subset_univ _) (r12 X (k : ℕ) 6 rfl)) $$ h12
  iintro h12
  iapply (ldd (c := c) (i := 10) (hκ := rfl) (S := (box S2x256x7168 ![(k : ℕ) % 2, 0, 512 * 6] S1x256x512.size)) (unit_set' (e26 k) rfl).subset) $$ h20_6
  iintro h20_6
  iapply (st (c := c) (i := 10) (hκ := rfl) (S := (box S2x256x7168 ![(k : ℕ) % 2, 0, 512 * 6] S1x256x512.size)) (w := o_16_2 (inD X (k : ℕ))) (G20 X (k : ℕ)) (unit_set' (e26 k) rfl) (fun j => (w20 X (k : ℕ) 6 (e26 k) j).trans (congrFun (same_o_16_2 (inD X (k : ℕ))).symm j))) $$ h20_6
  iintro h20_6
  iapply (ld (c := c) (i := 7) (hκ := rfl) (S := (box S2x256x256 ![(k : ℕ) % 2, 0, 0] S1x256x256.size)) (f := G17 X (k : ℕ)) (s_v2555 (inD X (k : ℕ))) (unit_set' (e19 k) rfl).subset (fun j => r17 X (k : ℕ) (e19 k) j)) $$ d17
  iintro d17
  iapply (ld (c := c) (i := 2) (hκ := rfl) (S := Finset.univ) (f := G12 X) (s_v2557 (inD X (k : ℕ))) (Finset.subset_univ _) (r12 X (k : ℕ) 7 rfl)) $$ h12
  iintro h12
  iapply HK
  iframe h20_4 d17 h12 h20_5 h20_6

theorem part17 (c : Dev nD) (k : Fin k0_t1_loop.trips) {α : Type} {Q : α → sProp 𝕄} (K : (Σ' (v2592 : FVec F S256x256 .bf16) (v2593 : Vec F S256x512 .bf16), FVec F S256x512 .f32) → Prog (TpuEff nD τ sig (Elt F) Λ₀ .tc) α) :
    iprop(PA c cc0_scratch10 (box S2x256x7168 ![(k : ℕ) % 2, 0, 512 * 7] S1x256x512.size) ∗ PT c cc0_scratch7 (box S2x256x256 ![(k : ℕ) % 2, 0, 0] S1x256x256.size) (G17 X (k : ℕ)) ∗ PT c cc0_scratch2 Finset.univ (G12 X) ∗ PA c cc0_scratch10 (box S2x256x7168 ![(k : ℕ) % 2, 0, 512 * 8] S1x256x512.size) ∗ PA c cc0_scratch10 (box S2x256x7168 ![(k : ℕ) % 2, 0, 512 * 9] S1x256x512.size))
      ⊢ iprop((iprop(PT c cc0_scratch10 (box S2x256x7168 ![(k : ℕ) % 2, 0, 512 * 7] S1x256x512.size) (G20 X (k : ℕ)) ∗ PT c cc0_scratch7 (box S2x256x256 ![(k : ℕ) % 2, 0, 0] S1x256x256.size) (G17 X (k : ℕ)) ∗ PT c cc0_scratch2 Finset.univ (G12 X) ∗ PT c cc0_scratch10 (box S2x256x7168 ![(k : ℕ) % 2, 0, 512 * 8] S1x256x512.size) (G20 X (k : ℕ)) ∗ PT c cc0_scratch10 (box S2x256x7168 ![(k : ℕ) % 2, 0, 512 * 9] S1x256x512.size) (G20 X (k : ℕ))) -∗ WP c (K ⟨(s_v2592 (inD X (k : ℕ))), (s_v2593 (inD X (k : ℕ))), (s_cst_1229 (F := F))⟩) Q)
        -∗ WP c (At k0_part17 k (s_v2465 k) (s_v2469 (inD X (k : ℕ))) (s_v2556 (inD X (k : ℕ))) (s_v2557 (inD X (k : ℕ))) (s_cst_1208 (F := F)) >>= K) Q) := by
  rw [k0_part17_eq_skeleton]
  unfold At k0_part17_skel
  simp only [bind_assoc, pure_bind]
  iintro ⟨h20_7, d17, h12, h20_8, h20_9⟩ HK
  iapply (ldd (c := c) (i := 10) (hκ := rfl) (S := (box S2x256x7168 ![(k : ℕ) % 2, 0, 512 * 7] S1x256x512.size)) (unit_set' (e27 k) rfl).subset) $$ h20_7
  iintro h20_7
  iapply (st (c := c) (i := 10) (hκ := rfl) (S := (box S2x256x7168 ![(k : ℕ) % 2, 0, 512 * 7] S1x256x512.size)) (w := o_17_0 (inD X (k : ℕ))) (G20 X (k : ℕ)) (unit_set' (e27 k) rfl) (fun j => (w20 X (k : ℕ) 7 (e27 k) j).trans (congrFun (same_o_17_0 (inD X (k : ℕ))).symm j))) $$ h20_7
  iintro h20_7
  iapply (ld (c := c) (i := 7) (hκ := rfl) (S := (box S2x256x256 ![(k : ℕ) % 2, 0, 0] S1x256x256.size)) (f := G17 X (k : ℕ)) (s_v2567 (inD X (k : ℕ))) (unit_set' (e19 k) rfl).subset (fun j => r17 X (k : ℕ) (e19 k) j)) $$ d17
  iintro d17
  iapply (ld (c := c) (i := 2) (hκ := rfl) (S := Finset.univ) (f := G12 X) (s_v2569 (inD X (k : ℕ))) (Finset.subset_univ _) (r12 X (k : ℕ) 8 rfl)) $$ h12
  iintro h12
  iapply (ldd (c := c) (i := 10) (hκ := rfl) (S := (box S2x256x7168 ![(k : ℕ) % 2, 0, 512 * 8] S1x256x512.size)) (unit_set' (e28 k) rfl).subset) $$ h20_8
  iintro h20_8
  iapply (st (c := c) (i := 10) (hκ := rfl) (S := (box S2x256x7168 ![(k : ℕ) % 2, 0, 512 * 8] S1x256x512.size)) (w := o_17_1 (inD X (k : ℕ))) (G20 X (k : ℕ)) (unit_set' (e28 k) rfl) (fun j => (w20 X (k : ℕ) 8 (e28 k) j).trans (congrFun (same_o_17_1 (inD X (k : ℕ))).symm j))) $$ h20_8
  iintro h20_8
  iapply (ld (c := c) (i := 7) (hκ := rfl) (S := (box S2x256x256 ![(k : ℕ) % 2, 0, 0] S1x256x256.size)) (f := G17 X (k : ℕ)) (s_v2579 (inD X (k : ℕ))) (unit_set' (e19 k) rfl).subset (fun j => r17 X (k : ℕ) (e19 k) j)) $$ d17
  iintro d17
  iapply (ld (c := c) (i := 2) (hκ := rfl) (S := Finset.univ) (f := G12 X) (s_v2581 (inD X (k : ℕ))) (Finset.subset_univ _) (r12 X (k : ℕ) 9 rfl)) $$ h12
  iintro h12
  iapply (ldd (c := c) (i := 10) (hκ := rfl) (S := (box S2x256x7168 ![(k : ℕ) % 2, 0, 512 * 9] S1x256x512.size)) (unit_set' (e29 k) rfl).subset) $$ h20_9
  iintro h20_9
  iapply (st (c := c) (i := 10) (hκ := rfl) (S := (box S2x256x7168 ![(k : ℕ) % 2, 0, 512 * 9] S1x256x512.size)) (w := o_17_2 (inD X (k : ℕ))) (G20 X (k : ℕ)) (unit_set' (e29 k) rfl) (fun j => (w20 X (k : ℕ) 9 (e29 k) j).trans (congrFun (same_o_17_2 (inD X (k : ℕ))).symm j))) $$ h20_9
  iintro h20_9
  iapply (ld (c := c) (i := 7) (hκ := rfl) (S := (box S2x256x256 ![(k : ℕ) % 2, 0, 0] S1x256x256.size)) (f := G17 X (k : ℕ)) (s_v2591 (inD X (k : ℕ))) (unit_set' (e19 k) rfl).subset (fun j => r17 X (k : ℕ) (e19 k) j)) $$ d17
  iintro d17
  iapply (ld (c := c) (i := 2) (hκ := rfl) (S := Finset.univ) (f := G12 X) (s_v2593 (inD X (k : ℕ))) (Finset.subset_univ _) (r12 X (k : ℕ) 10 rfl)) $$ h12
  iintro h12
  iapply HK
  iframe h20_7 d17 h12 h20_8 h20_9

theorem part18 (c : Dev nD) (k : Fin k0_t1_loop.trips) {α : Type} {Q : α → sProp 𝕄} (K : (Σ' (v2628 : FVec F S256x256 .bf16) (v2629 : Vec F S256x512 .bf16), FVec F S256x512 .f32) → Prog (TpuEff nD τ sig (Elt F) Λ₀ .tc) α) :
    iprop(PA c cc0_scratch10 (box S2x256x7168 ![(k : ℕ) % 2, 0, 512 * 10] S1x256x512.size) ∗ PT c cc0_scratch7 (box S2x256x256 ![(k : ℕ) % 2, 0, 0] S1x256x256.size) (G17 X (k : ℕ)) ∗ PT c cc0_scratch2 Finset.univ (G12 X) ∗ PA c cc0_scratch10 (box S2x256x7168 ![(k : ℕ) % 2, 0, 512 * 11] S1x256x512.size) ∗ PA c cc0_scratch10 (box S2x256x7168 ![(k : ℕ) % 2, 0, 512 * 12] S1x256x512.size))
      ⊢ iprop((iprop(PT c cc0_scratch10 (box S2x256x7168 ![(k : ℕ) % 2, 0, 512 * 10] S1x256x512.size) (G20 X (k : ℕ)) ∗ PT c cc0_scratch7 (box S2x256x256 ![(k : ℕ) % 2, 0, 0] S1x256x256.size) (G17 X (k : ℕ)) ∗ PT c cc0_scratch2 Finset.univ (G12 X) ∗ PT c cc0_scratch10 (box S2x256x7168 ![(k : ℕ) % 2, 0, 512 * 11] S1x256x512.size) (G20 X (k : ℕ)) ∗ PT c cc0_scratch10 (box S2x256x7168 ![(k : ℕ) % 2, 0, 512 * 12] S1x256x512.size) (G20 X (k : ℕ))) -∗ WP c (K ⟨(s_v2628 (inD X (k : ℕ))), (s_v2629 (inD X (k : ℕ))), (s_cst_1250 (F := F))⟩) Q)
        -∗ WP c (At k0_part18 k (s_v2465 k) (s_v2469 (inD X (k : ℕ))) (s_v2592 (inD X (k : ℕ))) (s_v2593 (inD X (k : ℕ))) (s_cst_1229 (F := F)) >>= K) Q) := by
  rw [k0_part18_eq_skeleton]
  unfold At k0_part18_skel
  simp only [bind_assoc, pure_bind]
  iintro ⟨h20_10, d17, h12, h20_11, h20_12⟩ HK
  iapply (ldd (c := c) (i := 10) (hκ := rfl) (S := (box S2x256x7168 ![(k : ℕ) % 2, 0, 512 * 10] S1x256x512.size)) (unit_set' (e30 k) rfl).subset) $$ h20_10
  iintro h20_10
  iapply (st (c := c) (i := 10) (hκ := rfl) (S := (box S2x256x7168 ![(k : ℕ) % 2, 0, 512 * 10] S1x256x512.size)) (w := o_18_0 (inD X (k : ℕ))) (G20 X (k : ℕ)) (unit_set' (e30 k) rfl) (fun j => (w20 X (k : ℕ) 10 (e30 k) j).trans (congrFun (same_o_18_0 (inD X (k : ℕ))).symm j))) $$ h20_10
  iintro h20_10
  iapply (ld (c := c) (i := 7) (hκ := rfl) (S := (box S2x256x256 ![(k : ℕ) % 2, 0, 0] S1x256x256.size)) (f := G17 X (k : ℕ)) (s_v2603 (inD X (k : ℕ))) (unit_set' (e19 k) rfl).subset (fun j => r17 X (k : ℕ) (e19 k) j)) $$ d17
  iintro d17
  iapply (ld (c := c) (i := 2) (hκ := rfl) (S := Finset.univ) (f := G12 X) (s_v2605 (inD X (k : ℕ))) (Finset.subset_univ _) (r12 X (k : ℕ) 11 rfl)) $$ h12
  iintro h12
  iapply (ldd (c := c) (i := 10) (hκ := rfl) (S := (box S2x256x7168 ![(k : ℕ) % 2, 0, 512 * 11] S1x256x512.size)) (unit_set' (e31 k) rfl).subset) $$ h20_11
  iintro h20_11
  iapply (st (c := c) (i := 10) (hκ := rfl) (S := (box S2x256x7168 ![(k : ℕ) % 2, 0, 512 * 11] S1x256x512.size)) (w := o_18_1 (inD X (k : ℕ))) (G20 X (k : ℕ)) (unit_set' (e31 k) rfl) (fun j => (w20 X (k : ℕ) 11 (e31 k) j).trans (congrFun (same_o_18_1 (inD X (k : ℕ))).symm j))) $$ h20_11
  iintro h20_11
  iapply (ld (c := c) (i := 7) (hκ := rfl) (S := (box S2x256x256 ![(k : ℕ) % 2, 0, 0] S1x256x256.size)) (f := G17 X (k : ℕ)) (s_v2615 (inD X (k : ℕ))) (unit_set' (e19 k) rfl).subset (fun j => r17 X (k : ℕ) (e19 k) j)) $$ d17
  iintro d17
  iapply (ld (c := c) (i := 2) (hκ := rfl) (S := Finset.univ) (f := G12 X) (s_v2617 (inD X (k : ℕ))) (Finset.subset_univ _) (r12 X (k : ℕ) 12 rfl)) $$ h12
  iintro h12
  iapply (ldd (c := c) (i := 10) (hκ := rfl) (S := (box S2x256x7168 ![(k : ℕ) % 2, 0, 512 * 12] S1x256x512.size)) (unit_set' (e32 k) rfl).subset) $$ h20_12
  iintro h20_12
  iapply (st (c := c) (i := 10) (hκ := rfl) (S := (box S2x256x7168 ![(k : ℕ) % 2, 0, 512 * 12] S1x256x512.size)) (w := o_18_2 (inD X (k : ℕ))) (G20 X (k : ℕ)) (unit_set' (e32 k) rfl) (fun j => (w20 X (k : ℕ) 12 (e32 k) j).trans (congrFun (same_o_18_2 (inD X (k : ℕ))).symm j))) $$ h20_12
  iintro h20_12
  iapply (ld (c := c) (i := 7) (hκ := rfl) (S := (box S2x256x256 ![(k : ℕ) % 2, 0, 0] S1x256x256.size)) (f := G17 X (k : ℕ)) (s_v2627 (inD X (k : ℕ))) (unit_set' (e19 k) rfl).subset (fun j => r17 X (k : ℕ) (e19 k) j)) $$ d17
  iintro d17
  iapply (ld (c := c) (i := 2) (hκ := rfl) (S := Finset.univ) (f := G12 X) (s_v2629 (inD X (k : ℕ))) (Finset.subset_univ _) (r12 X (k : ℕ) 13 rfl)) $$ h12
  iintro h12
  iapply HK
  iframe h20_10 d17 h12 h20_11 h20_12

end Cert.Kernel.Hand
-- ==== Proof.Hand.Kernel.PartsF.lean ====
/- The parts of the body, run on what they read and write. -/
module

public import proofs.«01_k».proof.Proof.Hand.Kernel.PartsA

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

theorem part19 (c : Dev nD) (k : Fin k0_t1_loop.trips) {α : Type} {Q : α → sProp 𝕄} (K : (PUnit) → Prog (TpuEff nD τ sig (Elt F) Λ₀ .tc) α) :
    iprop(Ow c ∗ FL c (cell (14 + ((k : ℕ) + 2))) N10 iprop(PT c cc0_scratch0 (box S2048x7168 ![256 * ((k : ℕ) + 2), 0] S256x7168.size) (X.x) ∗ PT c main_v0 (box S2048x7168 ![256 * ((k : ℕ) + 2), 0] S256x7168.size) (X.x)) ∗ dxSt X c (k : ℕ) ∗ PT c cc0_scratch2 Finset.univ (G12 X) ∗ PA c cc0_scratch6 (box S2x256x256 ![(k : ℕ) % 2, 0, 0] S1x256x256.size) ∗ PT c cc0_scratch6 (box S2x256x256 ![((k : ℕ) + 1) % 2, 0, 0] S1x256x256.size) (G16 X ((k : ℕ) + 1)) ∗ PT c cc0_scratch3 Finset.univ (X.ids) ∗ PT c cc0_scratch4 Finset.univ (X.dg) ∗ PT c cc0_scratch5 Finset.univ (X.xs) ∗ PA c cc0_scratch9 (box S16x256x128 ![2 * ((k : ℕ) + 1) + 0, 0, 0] S1x256x128.size) ∗ PA c cc0_scratch14 (box S16x128 ![2 * ((k : ℕ) + 1) + 0, 0] S1x128.size) ∗ PA c cc0_scratch12 (box S2048x256 ![128 * (2 * ((k : ℕ) + 1) + 0), 0] S128x256.size) ∗ PA c cc0_scratch7 (box S2x256x256 ![((k : ℕ) + 1) % 2, 0, 0] S1x128x256.size) ∗ PA c cc0_scratch13 (box S2048x256 ![128 * (2 * ((k : ℕ) + 1) + 0), 0] S128x256.size) ∗ PA c cc0_scratch8 (box S2x256x128 ![((k : ℕ) + 1) % 2, 0, 0] S1x128x128.size) ∗ PA c cc0_scratch9 (box S16x256x128 ![2 * ((k : ℕ) + 1) + 1, 0, 0] S1x256x128.size) ∗ PA c cc0_scratch14 (box S16x128 ![2 * ((k : ℕ) + 1) + 1, 0] S1x128.size) ∗ PA c cc0_scratch12 (box S2048x256 ![128 * (2 * ((k : ℕ) + 1) + 1), 0] S128x256.size) ∗ PA c cc0_scratch7 (box S2x256x256 ![((k : ℕ) + 1) % 2, 128, 0] S1x128x256.size) ∗ PA c cc0_scratch13 (box S2048x256 ![128 * (2 * ((k : ℕ) + 1) + 1), 0] S128x256.size) ∗ PA c cc0_scratch8 (box S2x256x128 ![((k : ℕ) + 1) % 2, 128, 0] S1x128x128.size) ∗ PT c cc0_scratch8 (box S2x256x128 ![(k : ℕ) % 2, 0, 0] S1x256x128.size) (G18 X (k : ℕ)) ∗ PT c cc0_scratch7 (box S2x256x256 ![(k : ℕ) % 2, 0, 0] S1x256x256.size) (G17 X (k : ℕ)) ∗ PA c main_v3_0 (box S2048x7168 ![256 * (k : ℕ), 0] S256x7168.size))
      ⊢ iprop((iprop(Ow c ∗ PT c cc0_scratch2 Finset.univ (G12 X) ∗ PT c cc0_scratch6 (box S2x256x256 ![(k : ℕ) % 2, 0, 0] S1x256x256.size) (G16 X ((k : ℕ) + 2)) ∗ PT c cc0_scratch6 (box S2x256x256 ![((k : ℕ) + 1) % 2, 0, 0] S1x256x256.size) (G16 X ((k : ℕ) + 1)) ∗ PT c cc0_scratch0 (box S2048x7168 ![256 * ((k : ℕ) + 2), 0] S256x7168.size) (X.x) ∗ PT c main_v0 (box S2048x7168 ![256 * ((k : ℕ) + 2), 0] S256x7168.size) (X.x) ∗ SV c (cell (14 + ((k : ℕ) + 2))) ∗ dxGot X c (k : ℕ) ∗ PT c cc0_scratch3 Finset.univ (X.ids) ∗ PT c cc0_scratch4 Finset.univ (X.dg) ∗ PT c cc0_scratch5 Finset.univ (X.xs) ∗ PT c cc0_scratch9 (box S16x256x128 ![2 * ((k : ℕ) + 1) + 0, 0, 0] S1x256x128.size) (G19 X) ∗ PT c cc0_scratch14 (box S16x128 ![2 * ((k : ℕ) + 1) + 0, 0] S1x128.size) (G24 X) ∗ PT c cc0_scratch12 (box S2048x256 ![128 * (2 * ((k : ℕ) + 1) + 0), 0] S128x256.size) (G22 X) ∗ PT c cc0_scratch7 (box S2x256x256 ![((k : ℕ) + 1) % 2, 0, 0] S1x128x256.size) (G17 X ((k : ℕ) + 1)) ∗ PT c cc0_scratch13 (box S2048x256 ![128 * (2 * ((k : ℕ) + 1) + 0), 0] S128x256.size) (G23 X) ∗ PT c cc0_scratch8 (box S2x256x128 ![((k : ℕ) + 1) % 2, 0, 0] S1x128x128.size) (G18 X ((k : ℕ) + 1)) ∗ PT c cc0_scratch9 (box S16x256x128 ![2 * ((k : ℕ) + 1) + 1, 0, 0] S1x256x128.size) (G19 X) ∗ PT c cc0_scratch14 (box S16x128 ![2 * ((k : ℕ) + 1) + 1, 0] S1x128.size) (G24 X) ∗ PT c cc0_scratch12 (box S2048x256 ![128 * (2 * ((k : ℕ) + 1) + 1), 0] S128x256.size) (G22 X) ∗ PT c cc0_scratch7 (box S2x256x256 ![((k : ℕ) + 1) % 2, 128, 0] S1x128x256.size) (G17 X ((k : ℕ) + 1)) ∗ PT c cc0_scratch13 (box S2048x256 ![128 * (2 * ((k : ℕ) + 1) + 1), 0] S128x256.size) (G23 X) ∗ PT c cc0_scratch8 (box S2x256x128 ![((k : ℕ) + 1) % 2, 128, 0] S1x128x128.size) (G18 X ((k : ℕ) + 1)) ∗ PT c cc0_scratch8 (box S2x256x128 ![(k : ℕ) % 2, 0, 0] S1x256x128.size) (G18 X (k : ℕ)) ∗ PT c cc0_scratch7 (box S2x256x256 ![(k : ℕ) % 2, 0, 0] S1x256x256.size) (G17 X (k : ℕ)) ∗ FL c (cell (25 + (k : ℕ) % 2)) N5 iprop(PT c main_v3_0 (box S2048x7168 ![256 * (k : ℕ), 0] S256x7168.size) ((G5 X)) ∗ PT c cc0_scratch10 (box S2x256x7168 ![(k : ℕ) % 2, 0, 0] S1x256x7168.size) ((G20 X (k : ℕ))))) -∗ WP c (K ⟨⟩) Q)
        -∗ WP c (At k0_part19 0#32 1#32 k >>= K) Q) := by
  rw [k0_part19_eq_skeleton]
  unfold At k0_part19_skel
  simp only [bind_assoc, pure_bind]
  iintro ⟨hO, fx, hd, h12, n16, h16, h13, h14, h15, h19a, h24a, h22a, h17a, h23a, h18a, h19b, h24b, h22b, h17b, h23b, h18b, d18, d17, u5⟩ HK
  iapply (part1 X c k) $$ [hO fx hd h12 n16 h16]
  · iframe hO fx hd h12 n16 h16
  iintro ⟨hO, h10, sx, vx, hg, hv, h20, h12, n16, h16⟩
  iapply (part2 X c k) $$ [h13 h14 h15]
  · iframe h13 h14 h15
  iintro ⟨h13, h14, h15⟩
  iapply (part3 X c k)
  iapply (part4 X c k)
  iapply (part5 X c k)
  iapply (part6 X c k)
  iapply (part7 X c k) $$ [h19a h24a h22a h17a h23a]
  · iframe h19a h24a h22a h17a h23a
  iintro ⟨h19a, h24a, h22a, h17a, h23a⟩
  iapply (part8 X c k) $$ [h18a h16 h13 h14 h15]
  · iframe h18a h16 h13 h14 h15
  iintro ⟨h18a, h16, h13, h14, h15⟩
  iapply (part9 X c k)
  iapply (part10 X c k)
  iapply (part11 X c k)
  iapply (part12 X c k)
  iapply (part13 X c k) $$ [h19b h24b h22b]
  · iframe h19b h24b h22b
  iintro ⟨h19b, h24b, h22b⟩
  ihave h20 := (ch20A (c := c) ((k : ℕ) % 2)) $$ h20
  icases h20 with ⟨h20_0, h20_1, h20_2, h20_3, h20_4, h20_5, h20_6, h20_7, h20_8, h20_9, h20_10, h20_11, h20_12, h20_13⟩
  icases hv with v5
  iapply (part14 X c k) $$ [h17b h23b h18b d18 d17 h12 h20_0]
  · iframe h17b h23b h18b d18 d17 h12 h20_0
  iintro ⟨h17b, h23b, h18b, d18, d17, h12, h20_0⟩
  iapply (part15 X c k) $$ [h20_1 d17 h12 h20_2 h20_3]
  · iframe h20_1 d17 h12 h20_2 h20_3
  iintro ⟨h20_1, d17, h12, h20_2, h20_3⟩
  iapply (part16 X c k) $$ [h20_4 d17 h12 h20_5 h20_6]
  · iframe h20_4 d17 h12 h20_5 h20_6
  iintro ⟨h20_4, d17, h12, h20_5, h20_6⟩
  iapply (part17 X c k) $$ [h20_7 d17 h12 h20_8 h20_9]
  · iframe h20_7 d17 h12 h20_8 h20_9
  iintro ⟨h20_7, d17, h12, h20_8, h20_9⟩
  iapply (part18 X c k) $$ [h20_10 d17 h12 h20_11 h20_12]
  · iframe h20_10 d17 h12 h20_11 h20_12
  iintro ⟨h20_10, d17, h12, h20_11, h20_12⟩
  iapply (ldd (c := c) (i := 10) (hκ := rfl) (S := (box S2x256x7168 ![(k : ℕ) % 2, 0, 512 * 13] S1x256x512.size)) (unit_set' (e33 k) rfl).subset) $$ h20_13
  iintro h20_13
  iapply (st (c := c) (i := 10) (hκ := rfl) (S := (box S2x256x7168 ![(k : ℕ) % 2, 0, 512 * 13] S1x256x512.size)) (w := o_19_0 (inD X (k : ℕ))) (G20 X (k : ℕ)) (unit_set' (e33 k) rfl) (fun j => (w20 X (k : ℕ) 13 (e33 k) j).trans (congrFun (same_o_19_0 (inD X (k : ℕ))).symm j))) $$ h20_13
  iintro h20_13
  ihave h20 := (Entails.of_eq (ch20 (c := c) ((k : ℕ) % 2) (G20 X (k : ℕ))).symm) $$ [h20_0 h20_1 h20_2 h20_3 h20_4 h20_5 h20_6 h20_7 h20_8 h20_9 h20_10 h20_11 h20_12 h20_13]
  · iframe h20_0 h20_1 h20_2 h20_3 h20_4 h20_5 h20_6 h20_7 h20_8 h20_9 h20_10 h20_11 h20_12 h20_13
  iapply (dma (c := c) (src := (((Memref.whole cc0_scratch10).slice (Rect.unit (s := S2x256x7168) (k0_off36 k) S1x256x7168.size (k0_off36_inb k)) (fun _ => rfl)).squeeze S256x7168 squeezes_S1x256x7168_S256x7168)) (dst := ((Memref.whole main_v3_0).slice (Rect.unit (s := S2048x7168) (k0_off35 k) S256x7168.size (k0_off35_inb k)) (fun _ => rfl))) (sm := ((cc0_scratch19.slice (Rect.unit (s := S2) (k0_off34 k) S1.size (k0_off34_inb k))).squeeze S_ squeezes_S1_S_).sem) (cell (25 + (k : ℕ) % 2)) N5 (box S2x256x7168 ![(k : ℕ) % 2, 0, 0] S1x256x7168.size) (box S2048x7168 ![256 * (k : ℕ), 0] S256x7168.size) (G5 X) (fs := (G20 X (k : ℕ))) (sem34 k) rfl N5_pos ((View.set_reshape _ _).trans (set_sl.trans (unit_set' (e36 k) rfl))) (set_sl.trans (unit_set' (e35 k) rfl)) (cp5 X (k : ℕ) ((k : ℕ) % 2) (by omega) (e35 k) (e36 k))) $$ [h20 u5 v5]
  · iframe h20 u5 v5
  iintro f5
  iapply HK
  iframe hO h12 n16 h16 h10 sx vx hg h13 h14 h15 h19a h24a h22a h17a h23a h18a h19b h24b h22b h17b h23b h18b d18 d17 f5

end Cert.Kernel.Hand
-- ==== Proof.Hand.Kernel.Loop1.lean ====
/- The loop over the token blocks. -/
module

public import proofs.«01_k».proof.Proof.Hand.Kernel.PartsF
public import Idealize.SL.BI.BigOpNat

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

/-- What step `t` of the token loop takes. -/
def L1P (c : Dev nD) (t : ℕ) : sProp 𝕄 := iprop(FL c (cell (14 + (t + 2))) N10 iprop(PT c cc0_scratch0 (box S2048x7168 ![256 * (t + 2), 0] S256x7168.size) (X.x) ∗ PT c main_v0 (box S2048x7168 ![256 * (t + 2), 0] S256x7168.size) (X.x)) ∗ PA (F := F) c cc0_scratch9 (box S16x256x128 ![2 * (t + 1) + 0, 0, 0] S1x256x128.size) ∗ PA (F := F) c cc0_scratch9 (box S16x256x128 ![2 * (t + 1) + 1, 0, 0] S1x256x128.size) ∗ PA (F := F) c cc0_scratch14 (box S16x128 ![2 * (t + 1) + 0, 0] S1x128.size) ∗ PA (F := F) c cc0_scratch14 (box S16x128 ![2 * (t + 1) + 1, 0] S1x128.size) ∗ PA (F := F) c cc0_scratch12 (box S2048x256 ![128 * (2 * (t + 1) + 0), 0] S128x256.size) ∗ PA (F := F) c cc0_scratch12 (box S2048x256 ![128 * (2 * (t + 1) + 1), 0] S128x256.size) ∗ PA (F := F) c cc0_scratch13 (box S2048x256 ![128 * (2 * (t + 1) + 0), 0] S128x256.size) ∗ PA (F := F) c cc0_scratch13 (box S2048x256 ![128 * (2 * (t + 1) + 1), 0] S128x256.size) ∗ PA (F := F) c main_v3_0 (box S2048x7168 ![256 * t, 0] S256x7168.size) ∗ PA (F := F) c main_v3_2 (box S2048x256 ![256 * (t + 1), 0] S256x256.size) ∗ PA (F := F) c main_v3_3 (box S2048x256 ![256 * (t + 1), 0] S256x256.size))

/-- What step `t` of the token loop leaves. -/
def L1Q (c : Dev nD) (t : ℕ) : sProp 𝕄 := iprop(PT c cc0_scratch0 (box S2048x7168 ![256 * (t + 2), 0] S256x7168.size) (X.x) ∗ PT c main_v0 (box S2048x7168 ![256 * (t + 2), 0] S256x7168.size) (X.x) ∗ SV c (cell (14 + (t + 2))) ∗ dxGot X c t ∗ PT c cc0_scratch9 (box S16x256x128 ![2 * (t + 1) + 0, 0, 0] S1x256x128.size) (G19 X) ∗ PT c cc0_scratch9 (box S16x256x128 ![2 * (t + 1) + 1, 0, 0] S1x256x128.size) (G19 X) ∗ PT c cc0_scratch14 (box S16x128 ![2 * (t + 1) + 0, 0] S1x128.size) (G24 X) ∗ PT c cc0_scratch14 (box S16x128 ![2 * (t + 1) + 1, 0] S1x128.size) (G24 X))

theorem L1P_eq (c : Dev nD) (t : ℕ) : L1P X c t = iprop(FL c (cell (14 + (t + 2))) N10 iprop(PT c cc0_scratch0 (box S2048x7168 ![256 * (t + 2), 0] S256x7168.size) (X.x) ∗ PT c main_v0 (box S2048x7168 ![256 * (t + 2), 0] S256x7168.size) (X.x)) ∗ PA (F := F) c cc0_scratch9 (box S16x256x128 ![2 * (t + 1) + 0, 0, 0] S1x256x128.size) ∗ PA (F := F) c cc0_scratch9 (box S16x256x128 ![2 * (t + 1) + 1, 0, 0] S1x256x128.size) ∗ PA (F := F) c cc0_scratch14 (box S16x128 ![2 * (t + 1) + 0, 0] S1x128.size) ∗ PA (F := F) c cc0_scratch14 (box S16x128 ![2 * (t + 1) + 1, 0] S1x128.size) ∗ PA (F := F) c cc0_scratch12 (box S2048x256 ![128 * (2 * (t + 1) + 0), 0] S128x256.size) ∗ PA (F := F) c cc0_scratch12 (box S2048x256 ![128 * (2 * (t + 1) + 1), 0] S128x256.size) ∗ PA (F := F) c cc0_scratch13 (box S2048x256 ![128 * (2 * (t + 1) + 0), 0] S128x256.size) ∗ PA (F := F) c cc0_scratch13 (box S2048x256 ![128 * (2 * (t + 1) + 1), 0] S128x256.size) ∗ PA (F := F) c main_v3_0 (box S2048x7168 ![256 * t, 0] S256x7168.size) ∗ PA (F := F) c main_v3_2 (box S2048x256 ![256 * (t + 1), 0] S256x256.size) ∗ PA (F := F) c main_v3_3 (box S2048x256 ![256 * (t + 1), 0] S256x256.size)) := rfl
theorem L1Q_eq (c : Dev nD) (t : ℕ) : L1Q X c t = iprop(PT c cc0_scratch0 (box S2048x7168 ![256 * (t + 2), 0] S256x7168.size) (X.x) ∗ PT c main_v0 (box S2048x7168 ![256 * (t + 2), 0] S256x7168.size) (X.x) ∗ SV c (cell (14 + (t + 2))) ∗ dxGot X c t ∗ PT c cc0_scratch9 (box S16x256x128 ![2 * (t + 1) + 0, 0, 0] S1x256x128.size) (G19 X) ∗ PT c cc0_scratch9 (box S16x256x128 ![2 * (t + 1) + 1, 0, 0] S1x256x128.size) (G19 X) ∗ PT c cc0_scratch14 (box S16x128 ![2 * (t + 1) + 0, 0] S1x128.size) (G24 X) ∗ PT c cc0_scratch14 (box S16x128 ![2 * (t + 1) + 1, 0] S1x128.size) (G24 X)) := rfl

/-- Before step `k` of the token loop. -/
def L1 (c : Dev nD) (k : ℕ) : sProp 𝕄 := iprop(Ow c ∗ PT c cc0_scratch2 Finset.univ (G12 X) ∗ PT c cc0_scratch3 Finset.univ (X.ids) ∗ PT c cc0_scratch4 Finset.univ (X.dg) ∗ PT c cc0_scratch5 Finset.univ (X.xs) ∗ PT c cc0_scratch6 (box S2x256x256 ![(k + 1) % 2, 0, 0] S1x256x256.size) (G16 X (k + 1)) ∗ PA c cc0_scratch6 (box S2x256x256 ![k % 2, 0, 0] S1x256x256.size) ∗ PT c cc0_scratch7 (box S2x256x256 ![k % 2, 0, 0] S1x256x256.size) (G17 X k) ∗ PA c cc0_scratch7 (box S2x256x256 ![(k + 1) % 2, 0, 0] S1x256x256.size) ∗ PT c cc0_scratch8 (box S2x256x128 ![k % 2, 0, 0] S1x256x128.size) (G18 X k) ∗ PA c cc0_scratch8 (box S2x256x128 ![(k + 1) % 2, 0, 0] S1x256x128.size) ∗ dxSt X c k ∗ dxSt X c (k + 1) ∗ BT c (cell 28) N7 (D7 X c) (k + 1) 0 ∗ BT c (cell 29) N8 (D8 X c) (k + 1) 0 ∗ bigSep (Finset.Ico k 6) (L1P X c) ∗ bigSep (Finset.Ico 0 k) (L1Q X c))

theorem L1_eq (c : Dev nD) (k : ℕ) : L1 X c k = iprop(Ow c ∗ PT c cc0_scratch2 Finset.univ (G12 X) ∗ PT c cc0_scratch3 Finset.univ (X.ids) ∗ PT c cc0_scratch4 Finset.univ (X.dg) ∗ PT c cc0_scratch5 Finset.univ (X.xs) ∗ PT c cc0_scratch6 (box S2x256x256 ![(k + 1) % 2, 0, 0] S1x256x256.size) (G16 X (k + 1)) ∗ PA c cc0_scratch6 (box S2x256x256 ![k % 2, 0, 0] S1x256x256.size) ∗ PT c cc0_scratch7 (box S2x256x256 ![k % 2, 0, 0] S1x256x256.size) (G17 X k) ∗ PA c cc0_scratch7 (box S2x256x256 ![(k + 1) % 2, 0, 0] S1x256x256.size) ∗ PT c cc0_scratch8 (box S2x256x128 ![k % 2, 0, 0] S1x256x128.size) (G18 X k) ∗ PA c cc0_scratch8 (box S2x256x128 ![(k + 1) % 2, 0, 0] S1x256x128.size) ∗ dxSt X c k ∗ dxSt X c (k + 1) ∗ BT c (cell 28) N7 (D7 X c) (k + 1) 0 ∗ BT c (cell 29) N8 (D8 X c) (k + 1) 0 ∗ bigSep (Finset.Ico k 6) (L1P X c) ∗ bigSep (Finset.Ico 0 k) (L1Q X c)) := rfl

theorem L1_next (c : Dev nD) (k : ℕ) : iprop(Ow c ∗ PT c cc0_scratch2 Finset.univ (G12 X) ∗ PT c cc0_scratch3 Finset.univ (X.ids) ∗ PT c cc0_scratch4 Finset.univ (X.dg) ∗ PT c cc0_scratch5 Finset.univ (X.xs) ∗ PT c cc0_scratch6 (box S2x256x256 ![k % 2, 0, 0] S1x256x256.size) (G16 X (k + 2)) ∗ PA c cc0_scratch6 (box S2x256x256 ![(k + 1) % 2, 0, 0] S1x256x256.size) ∗ PT c cc0_scratch7 (box S2x256x256 ![(k + 1) % 2, 0, 0] S1x256x256.size) (G17 X (k + 1)) ∗ PA c cc0_scratch7 (box S2x256x256 ![k % 2, 0, 0] S1x256x256.size) ∗ PT c cc0_scratch8 (box S2x256x128 ![(k + 1) % 2, 0, 0] S1x256x128.size) (G18 X (k + 1)) ∗ PA c cc0_scratch8 (box S2x256x128 ![k % 2, 0, 0] S1x256x128.size) ∗ dxSt X c (k + 1) ∗ dxSt X c (k + 2) ∗ BT c (cell 28) N7 (D7 X c) (k + 2) 0 ∗ BT c (cell 29) N8 (D8 X c) (k + 2) 0 ∗ bigSep (Finset.Ico (k + 1) 6) (L1P X c) ∗ bigSep (Finset.Ico 0 (k + 1)) (L1Q X c)) ⊢ L1 X c (k + 1) := by
  rw [L1_eq, show (k + 1 + 1) % 2 = k % 2 from by omega]

theorem dxSt_mk (c : Dev nD) (k : ℕ) : FL c (cell (25 + k % 2)) N5 iprop(PT c main_v3_0 (box S2048x7168 ![256 * k, 0] S256x7168.size) ((G5 X)) ∗ PT c cc0_scratch10 (box S2x256x7168 ![k % 2, 0, 0] S1x256x7168.size) ((G20 X k))) ⊢ dxSt X c (k + 2) := by
  unfold dxSt
  rw [if_pos (by omega), show (k + 2) % 2 = k % 2 from by omega, show k + 2 - 2 = k from by omega]

theorem hN7 {o : Fin 2 → ℕ} {inb h} : ((Memref.whole main_v3_2).slice (Rect.unit (s := S2048x256) o S256x256.size inb) h).view.dmaCredit = N7 := by
  have e1 : (Rect.unit (s := S2048x256) o S256x256.size inb).shape = S256x256 := rfl
  have e2 : main_v3_2.ty.elt = EltTy.f32 := rfl
  rw [← View.dmaCredit_ref]
  exact congrArg₂ (Ref.dmaCredit (sig := sig) (κ := .tc) main_v3_2) e1 e2

theorem hN8 {o : Fin 2 → ℕ} {inb h} : ((Memref.whole main_v3_3).slice (Rect.unit (s := S2048x256) o S256x256.size inb) h).view.dmaCredit = N8 := by
  have e1 : (Rect.unit (s := S2048x256) o S256x256.size inb).shape = S256x256 := rfl
  have e2 : main_v3_3.ty.elt = EltTy.fp8e5m2 := rfl
  rw [← View.dmaCredit_ref]
  exact congrArg₂ (Ref.dmaCredit (sig := sig) (κ := .tc) main_v3_3) e1 e2

theorem trips1 : k0_t1_loop.trips = 6 := by decide +kernel

/-- A turn of the token loop. -/
theorem body1 (c : Dev nD) (v746 : FVec F S1x128 .f32) (v780 : BitVec 32) (v786 : FVec F S128x256 .bf16) (v787 : Vec F S1x128x256 .bf16) (k : Fin k0_t1_loop.trips) (a : Unit) : L1 X c (k : ℕ)
    ⊢ WP c (At k0_t1_body v746 v780 v786 v787 k a) (fun _ => L1 X c ((k : ℕ) + 1)) := by
  have hk : (k : ℕ) < 6 := lt_of_lt_of_eq k.isLt trips1
  unfold At k0_t1_body
  iintro H
  ihave H := (Entails.of_eq (L1_eq X c (k : ℕ))) $$ H
  icases H with ⟨hO, h12, h13, h14, h15, h16, n16, d17, n17, d18, n18, hd, he, B7, B8, hT, hQ⟩
  ihave hT := (Entails.of_eq (bigSep_Ico_succ_bot hk (L1P X c))) $$ hT
  icases hT with ⟨hP, hT⟩
  ihave hP := (Entails.of_eq (L1P_eq X c (k : ℕ))) $$ hP
  icases hP with ⟨fx, h19a, h19b, h24a, h24b, h22a, h22b, h23a, h23b, u5, u7, u8⟩
  ihave n17 := (hf17A (c := c) (((k : ℕ) + 1) % 2)) $$ n17
  icases n17 with ⟨h17a, h17b⟩
  ihave n18 := (hf18A (c := c) (((k : ℕ) + 1) % 2)) $$ n18
  icases n18 with ⟨h18a, h18b⟩
  iapply (part19 X c k) $$ [hO fx hd h12 n16 h16 h13 h14 h15 h19a h24a h22a h17a h23a h18a h19b h24b h22b h17b h23b h18b d18 d17 u5]
  · iframe hO fx hd h12 n16 h16 h13 h14 h15 h19a h24a h22a h17a h23a h18a h19b h24b h22b h17b h23b h18b d18 d17 u5
  iintro ⟨hO, h12, n16, h16, h10, sx, vx, hg, h13, h14, h15, h19a, h24a, h22a, h17a, h23a, h18a, h19b, h24b, h22b, h17b, h23b, h18b, d18, d17, f5⟩
  ihave h22 := (Entails.of_eq (row22 (c := c) ((k : ℕ) + 1) (G22 X)).symm) $$ [h22a h22b]
  · iframe h22a h22b
  ihave h23 := (Entails.of_eq (row23 (c := c) ((k : ℕ) + 1) (G23 X)).symm) $$ [h23a h23b]
  · iframe h23a h23b
  iapply (dmaB' (c := c) (src := ((Memref.whole cc0_scratch12).slice (Rect.unit (s := S2048x256) (k0_off37 k) S256x256.size (k0_off37_inb k)) (fun _ => rfl))) (dst := ((Memref.whole main_v3_2).slice (Rect.unit (s := S2048x256) (k0_off37 k) S256x256.size (k0_off37_inb k)) (fun _ => rfl))) (sm := ((cc0_scratch21.slice (Rect.unit (s := S3) ![0] S1.size inb_S3_S1_0)).squeeze S_ squeezes_S1_S_).sem) (D := D7 X c) (cell 28) N7 ((k : ℕ) + 1) (by omega) (box S2048x256 ![256 * ((k : ℕ) + 1), 0] S256x256.size) (box S2048x256 ![256 * ((k : ℕ) + 1), 0] S256x256.size) (G22 X) (fs := G22 X) rfl hN7 (set_sl.trans (unit_set' (e37 k) rfl)) (set_sl.trans (unit_set' (e37 k) rfl)) rfl rfl) $$ [h22 u7 B7]
  · iframe h22 u7 B7
  iintro B7
  iapply (dmaB' (c := c) (src := ((Memref.whole cc0_scratch13).slice (Rect.unit (s := S2048x256) (k0_off37 k) S256x256.size (k0_off37_inb k)) (fun _ => rfl))) (dst := ((Memref.whole main_v3_3).slice (Rect.unit (s := S2048x256) (k0_off37 k) S256x256.size (k0_off37_inb k)) (fun _ => rfl))) (sm := ((cc0_scratch21.slice (Rect.unit (s := S3) ![1] S1.size inb_S3_S1_1)).squeeze S_ squeezes_S1_S_).sem) (D := D8 X c) (cell 29) N8 ((k : ℕ) + 1) (by omega) (box S2048x256 ![256 * ((k : ℕ) + 1), 0] S256x256.size) (box S2048x256 ![256 * ((k : ℕ) + 1), 0] S256x256.size) (G23 X) (fs := G23 X) rfl hN8 (set_sl.trans (unit_set' (e37 k) rfl)) (set_sl.trans (unit_set' (e37 k) rfl)) rfl rfl) $$ [h23 u8 B8]
  · iframe h23 u8 B8
  iintro B8
  ihave n17 := (Entails.of_eq (hf17 (c := c) (((k : ℕ) + 1) % 2) (G17 X ((k : ℕ) + 1))).symm) $$ [h17a h17b]
  · iframe h17a h17b
  ihave n18 := (Entails.of_eq (hf18 (c := c) (((k : ℕ) + 1) % 2) (G18 X ((k : ℕ) + 1))).symm) $$ [h18a h18b]
  · iframe h18a h18b
  ihave f5 := (dxSt_mk X c (k : ℕ)) $$ f5
  iapply (rt _)
  iapply (L1_next X c (k : ℕ))
  isplitl [hO]; · iexact hO
  isplitl [h12]; · iexact h12
  isplitl [h13]; · iexact h13
  isplitl [h14]; · iexact h14
  isplitl [h15]; · iexact h15
  isplitl [n16]; · iexact n16
  isplitl [h16]; · iexists _; iexact h16
  isplitl [n17]; · iexact n17
  isplitl [d17]; · iexists _; iexact d17
  isplitl [n18]; · iexact n18
  isplitl [d18]; · iexists _; iexact d18
  isplitl [he]; · iexact he
  isplitl [f5]; · iexact f5
  isplitl [B7]; · iexact B7
  isplitl [B8]; · iexact B8
  isplitl [hT]; · iexact hT
  iapply (Entails.of_eq (bigSep_Ico_succ_top (Nat.zero_le (k : ℕ)) (L1Q X c)).symm)
  isplitr [hQ]
  · iapply (Entails.of_eq (L1Q_eq X c (k : ℕ)).symm)
    iframe h10 sx vx hg h19a h19b h24a h24b
  iexact hQ

/-- The token loop. -/
theorem loop1 (c : Dev nD) (v746 : FVec F S1x128 .f32) (v780 : BitVec 32) (v786 : FVec F S128x256 .bf16) (v787 : Vec F S1x128x256 .bf16) {α : Type} {Q : α → sProp 𝕄} {kk : Unit → Prog (TpuEff nD τ sig (Elt F) Λ₀ .tc) α} :
    L1 X c 0 ⊢ iprop((L1 X c 6 -∗ WP c (kk ⟨⟩) Q) -∗ WP c (Scf.Loop.for k0_t1_loop k0_t1_ok ⟨⟩ (At k0_t1_body v746 v780 v786 v787) >>= kk) Q) := by
  rw [show L1 X c 6 = L1 X c k0_t1_loop.trips from by rw [trips1]]
  iintro H HK
  iapply (Scf.wp_for_bind (kk := kk) (Q := Q) frame (wpE (defs₀ (F := F)) 𝒱₀ (c : Thread nD τ) none) Set.univ k0_t1_loop.lb k0_t1_loop.ub k0_t1_loop.st k0_t1_ok ⟨⟩ (At k0_t1_body v746 v780 v786 v787) (fun k _ => L1 X c k) (body1 X c v746 v780 v786 v787)) $$ H
  iintro %a H
  iapply HK $$ H

end Cert.Kernel.Hand
-- ==== Proof.Hand.Kernel.Pieces2.lean ====
/- How the results are cut into the pieces the steps work on. -/
module

public import proofs.«01_k».proof.Proof.Hand.Kernel.Pieces

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD}

/-- Sixteen slabs. -/
theorem ch19 (f : Buf (Elt F) ((c : Thread nD τ).loc cc0_scratch9)) :
    PT c cc0_scratch9 Finset.univ f = iprop(PT c cc0_scratch9 (box S16x256x128 ![0, 0, 0] S1x256x128.size) f ∗ PT c cc0_scratch9 (box S16x256x128 ![1, 0, 0] S1x256x128.size) f ∗ PT c cc0_scratch9 (box S16x256x128 ![2, 0, 0] S1x256x128.size) f ∗ PT c cc0_scratch9 (box S16x256x128 ![3, 0, 0] S1x256x128.size) f ∗ PT c cc0_scratch9 (box S16x256x128 ![4, 0, 0] S1x256x128.size) f ∗ PT c cc0_scratch9 (box S16x256x128 ![5, 0, 0] S1x256x128.size) f ∗ PT c cc0_scratch9 (box S16x256x128 ![6, 0, 0] S1x256x128.size) f ∗ PT c cc0_scratch9 (box S16x256x128 ![7, 0, 0] S1x256x128.size) f ∗ PT c cc0_scratch9 (box S16x256x128 ![8, 0, 0] S1x256x128.size) f ∗ PT c cc0_scratch9 (box S16x256x128 ![9, 0, 0] S1x256x128.size) f ∗ PT c cc0_scratch9 (box S16x256x128 ![10, 0, 0] S1x256x128.size) f ∗ PT c cc0_scratch9 (box S16x256x128 ![11, 0, 0] S1x256x128.size) f ∗ PT c cc0_scratch9 (box S16x256x128 ![12, 0, 0] S1x256x128.size) f ∗ PT c cc0_scratch9 (box S16x256x128 ![13, 0, 0] S1x256x128.size) f ∗ PT c cc0_scratch9 (box S16x256x128 ![14, 0, 0] S1x256x128.size) f ∗ PT c cc0_scratch9 (box S16x256x128 ![15, 0, 0] S1x256x128.size) f) := by
  rw [show (Finset.univ : Finset (Idx ((c : Thread nD τ).loc cc0_scratch9))) = (box S16x256x128 ![0, 0, 0] ![16, 256, 128]) from (box_univ (s := S16x256x128) (by decide) (by decide)).symm]
  have h0 : PT c cc0_scratch9 (box S16x256x128 ![0, 0, 0] ![16, 256, 128]) f = iprop(PT c cc0_scratch9 (box S16x256x128 ![0, 0, 0] S1x256x128.size) f ∗ PT c cc0_scratch9 (box S16x256x128 ![1, 0, 0] ![15, 256, 128]) f) :=
    cut2 (bx30 0 (0) (0) 1 15 16 (256) (128) 1 rfl rfl).1 (bx30 0 (0) (0) 1 15 16 (256) (128) 1 rfl rfl).2
  have h1 : PT c cc0_scratch9 (box S16x256x128 ![1, 0, 0] ![15, 256, 128]) f = iprop(PT c cc0_scratch9 (box S16x256x128 ![1, 0, 0] S1x256x128.size) f ∗ PT c cc0_scratch9 (box S16x256x128 ![2, 0, 0] ![14, 256, 128]) f) :=
    cut2 (bx30 1 (0) (0) 1 14 15 (256) (128) 2 rfl rfl).1 (bx30 1 (0) (0) 1 14 15 (256) (128) 2 rfl rfl).2
  have h2 : PT c cc0_scratch9 (box S16x256x128 ![2, 0, 0] ![14, 256, 128]) f = iprop(PT c cc0_scratch9 (box S16x256x128 ![2, 0, 0] S1x256x128.size) f ∗ PT c cc0_scratch9 (box S16x256x128 ![3, 0, 0] ![13, 256, 128]) f) :=
    cut2 (bx30 2 (0) (0) 1 13 14 (256) (128) 3 rfl rfl).1 (bx30 2 (0) (0) 1 13 14 (256) (128) 3 rfl rfl).2
  have h3 : PT c cc0_scratch9 (box S16x256x128 ![3, 0, 0] ![13, 256, 128]) f = iprop(PT c cc0_scratch9 (box S16x256x128 ![3, 0, 0] S1x256x128.size) f ∗ PT c cc0_scratch9 (box S16x256x128 ![4, 0, 0] ![12, 256, 128]) f) :=
    cut2 (bx30 3 (0) (0) 1 12 13 (256) (128) 4 rfl rfl).1 (bx30 3 (0) (0) 1 12 13 (256) (128) 4 rfl rfl).2
  have h4 : PT c cc0_scratch9 (box S16x256x128 ![4, 0, 0] ![12, 256, 128]) f = iprop(PT c cc0_scratch9 (box S16x256x128 ![4, 0, 0] S1x256x128.size) f ∗ PT c cc0_scratch9 (box S16x256x128 ![5, 0, 0] ![11, 256, 128]) f) :=
    cut2 (bx30 4 (0) (0) 1 11 12 (256) (128) 5 rfl rfl).1 (bx30 4 (0) (0) 1 11 12 (256) (128) 5 rfl rfl).2
  have h5 : PT c cc0_scratch9 (box S16x256x128 ![5, 0, 0] ![11, 256, 128]) f = iprop(PT c cc0_scratch9 (box S16x256x128 ![5, 0, 0] S1x256x128.size) f ∗ PT c cc0_scratch9 (box S16x256x128 ![6, 0, 0] ![10, 256, 128]) f) :=
    cut2 (bx30 5 (0) (0) 1 10 11 (256) (128) 6 rfl rfl).1 (bx30 5 (0) (0) 1 10 11 (256) (128) 6 rfl rfl).2
  have h6 : PT c cc0_scratch9 (box S16x256x128 ![6, 0, 0] ![10, 256, 128]) f = iprop(PT c cc0_scratch9 (box S16x256x128 ![6, 0, 0] S1x256x128.size) f ∗ PT c cc0_scratch9 (box S16x256x128 ![7, 0, 0] ![9, 256, 128]) f) :=
    cut2 (bx30 6 (0) (0) 1 9 10 (256) (128) 7 rfl rfl).1 (bx30 6 (0) (0) 1 9 10 (256) (128) 7 rfl rfl).2
  have h7 : PT c cc0_scratch9 (box S16x256x128 ![7, 0, 0] ![9, 256, 128]) f = iprop(PT c cc0_scratch9 (box S16x256x128 ![7, 0, 0] S1x256x128.size) f ∗ PT c cc0_scratch9 (box S16x256x128 ![8, 0, 0] ![8, 256, 128]) f) :=
    cut2 (bx30 7 (0) (0) 1 8 9 (256) (128) 8 rfl rfl).1 (bx30 7 (0) (0) 1 8 9 (256) (128) 8 rfl rfl).2
  have h8 : PT c cc0_scratch9 (box S16x256x128 ![8, 0, 0] ![8, 256, 128]) f = iprop(PT c cc0_scratch9 (box S16x256x128 ![8, 0, 0] S1x256x128.size) f ∗ PT c cc0_scratch9 (box S16x256x128 ![9, 0, 0] ![7, 256, 128]) f) :=
    cut2 (bx30 8 (0) (0) 1 7 8 (256) (128) 9 rfl rfl).1 (bx30 8 (0) (0) 1 7 8 (256) (128) 9 rfl rfl).2
  have h9 : PT c cc0_scratch9 (box S16x256x128 ![9, 0, 0] ![7, 256, 128]) f = iprop(PT c cc0_scratch9 (box S16x256x128 ![9, 0, 0] S1x256x128.size) f ∗ PT c cc0_scratch9 (box S16x256x128 ![10, 0, 0] ![6, 256, 128]) f) :=
    cut2 (bx30 9 (0) (0) 1 6 7 (256) (128) 10 rfl rfl).1 (bx30 9 (0) (0) 1 6 7 (256) (128) 10 rfl rfl).2
  have h10 : PT c cc0_scratch9 (box S16x256x128 ![10, 0, 0] ![6, 256, 128]) f = iprop(PT c cc0_scratch9 (box S16x256x128 ![10, 0, 0] S1x256x128.size) f ∗ PT c cc0_scratch9 (box S16x256x128 ![11, 0, 0] ![5, 256, 128]) f) :=
    cut2 (bx30 10 (0) (0) 1 5 6 (256) (128) 11 rfl rfl).1 (bx30 10 (0) (0) 1 5 6 (256) (128) 11 rfl rfl).2
  have h11 : PT c cc0_scratch9 (box S16x256x128 ![11, 0, 0] ![5, 256, 128]) f = iprop(PT c cc0_scratch9 (box S16x256x128 ![11, 0, 0] S1x256x128.size) f ∗ PT c cc0_scratch9 (box S16x256x128 ![12, 0, 0] ![4, 256, 128]) f) :=
    cut2 (bx30 11 (0) (0) 1 4 5 (256) (128) 12 rfl rfl).1 (bx30 11 (0) (0) 1 4 5 (256) (128) 12 rfl rfl).2
  have h12 : PT c cc0_scratch9 (box S16x256x128 ![12, 0, 0] ![4, 256, 128]) f = iprop(PT c cc0_scratch9 (box S16x256x128 ![12, 0, 0] S1x256x128.size) f ∗ PT c cc0_scratch9 (box S16x256x128 ![13, 0, 0] ![3, 256, 128]) f) :=
    cut2 (bx30 12 (0) (0) 1 3 4 (256) (128) 13 rfl rfl).1 (bx30 12 (0) (0) 1 3 4 (256) (128) 13 rfl rfl).2
  have h13 : PT c cc0_scratch9 (box S16x256x128 ![13, 0, 0] ![3, 256, 128]) f = iprop(PT c cc0_scratch9 (box S16x256x128 ![13, 0, 0] S1x256x128.size) f ∗ PT c cc0_scratch9 (box S16x256x128 ![14, 0, 0] ![2, 256, 128]) f) :=
    cut2 (bx30 13 (0) (0) 1 2 3 (256) (128) 14 rfl rfl).1 (bx30 13 (0) (0) 1 2 3 (256) (128) 14 rfl rfl).2
  have h14 : PT c cc0_scratch9 (box S16x256x128 ![14, 0, 0] ![2, 256, 128]) f = iprop(PT c cc0_scratch9 (box S16x256x128 ![14, 0, 0] S1x256x128.size) f ∗ PT c cc0_scratch9 (box S16x256x128 ![15, 0, 0] S1x256x128.size) f) :=
    cut2 (bx30 14 (0) (0) 1 1 2 (256) (128) 15 rfl rfl).1 (bx30 14 (0) (0) 1 1 2 (256) (128) 15 rfl rfl).2
  rw [h0, h1, h2, h3, h4, h5, h6, h7, h8, h9, h10, h11, h12, h13, h14]

/-- Sixteen slabs. -/
theorem ch19A : PA (F := F) c cc0_scratch9 Finset.univ ⊢ iprop(PA (F := F) c cc0_scratch9 (box S16x256x128 ![0, 0, 0] S1x256x128.size) ∗ PA (F := F) c cc0_scratch9 (box S16x256x128 ![1, 0, 0] S1x256x128.size) ∗ PA (F := F) c cc0_scratch9 (box S16x256x128 ![2, 0, 0] S1x256x128.size) ∗ PA (F := F) c cc0_scratch9 (box S16x256x128 ![3, 0, 0] S1x256x128.size) ∗ PA (F := F) c cc0_scratch9 (box S16x256x128 ![4, 0, 0] S1x256x128.size) ∗ PA (F := F) c cc0_scratch9 (box S16x256x128 ![5, 0, 0] S1x256x128.size) ∗ PA (F := F) c cc0_scratch9 (box S16x256x128 ![6, 0, 0] S1x256x128.size) ∗ PA (F := F) c cc0_scratch9 (box S16x256x128 ![7, 0, 0] S1x256x128.size) ∗ PA (F := F) c cc0_scratch9 (box S16x256x128 ![8, 0, 0] S1x256x128.size) ∗ PA (F := F) c cc0_scratch9 (box S16x256x128 ![9, 0, 0] S1x256x128.size) ∗ PA (F := F) c cc0_scratch9 (box S16x256x128 ![10, 0, 0] S1x256x128.size) ∗ PA (F := F) c cc0_scratch9 (box S16x256x128 ![11, 0, 0] S1x256x128.size) ∗ PA (F := F) c cc0_scratch9 (box S16x256x128 ![12, 0, 0] S1x256x128.size) ∗ PA (F := F) c cc0_scratch9 (box S16x256x128 ![13, 0, 0] S1x256x128.size) ∗ PA (F := F) c cc0_scratch9 (box S16x256x128 ![14, 0, 0] S1x256x128.size) ∗ PA (F := F) c cc0_scratch9 (box S16x256x128 ![15, 0, 0] S1x256x128.size)) := by
  iintro ⟨%f, H⟩
  ihave H := (Entails.of_eq (ch19 (c := c) f)) $$ H
  icases H with ⟨H0, H1, H2, H3, H4, H5, H6, H7, H8, H9, H10, H11, H12, H13, H14, H15⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  isplitl [H7]
  · iexists f; iexact H7
  isplitl [H8]
  · iexists f; iexact H8
  isplitl [H9]
  · iexists f; iexact H9
  isplitl [H10]
  · iexists f; iexact H10
  isplitl [H11]
  · iexists f; iexact H11
  isplitl [H12]
  · iexists f; iexact H12
  isplitl [H13]
  · iexists f; iexact H13
  isplitl [H14]
  · iexists f; iexact H14
  iexists f; iexact H15

/-- Sixteen rows. -/
theorem ch24 (f : Buf (Elt F) ((c : Thread nD τ).loc cc0_scratch14)) :
    PT c cc0_scratch14 Finset.univ f = iprop(PT c cc0_scratch14 (box S16x128 ![0, 0] S1x128.size) f ∗ PT c cc0_scratch14 (box S16x128 ![1, 0] S1x128.size) f ∗ PT c cc0_scratch14 (box S16x128 ![2, 0] S1x128.size) f ∗ PT c cc0_scratch14 (box S16x128 ![3, 0] S1x128.size) f ∗ PT c cc0_scratch14 (box S16x128 ![4, 0] S1x128.size) f ∗ PT c cc0_scratch14 (box S16x128 ![5, 0] S1x128.size) f ∗ PT c cc0_scratch14 (box S16x128 ![6, 0] S1x128.size) f ∗ PT c cc0_scratch14 (box S16x128 ![7, 0] S1x128.size) f ∗ PT c cc0_scratch14 (box S16x128 ![8, 0] S1x128.size) f ∗ PT c cc0_scratch14 (box S16x128 ![9, 0] S1x128.size) f ∗ PT c cc0_scratch14 (box S16x128 ![10, 0] S1x128.size) f ∗ PT c cc0_scratch14 (box S16x128 ![11, 0] S1x128.size) f ∗ PT c cc0_scratch14 (box S16x128 ![12, 0] S1x128.size) f ∗ PT c cc0_scratch14 (box S16x128 ![13, 0] S1x128.size) f ∗ PT c cc0_scratch14 (box S16x128 ![14, 0] S1x128.size) f ∗ PT c cc0_scratch14 (box S16x128 ![15, 0] S1x128.size) f) := by
  rw [show (Finset.univ : Finset (Idx ((c : Thread nD τ).loc cc0_scratch14))) = (box S16x128 ![0, 0] ![16, 128]) from (box_univ (s := S16x128) (by decide) (by decide)).symm]
  have h0 : PT c cc0_scratch14 (box S16x128 ![0, 0] ![16, 128]) f = iprop(PT c cc0_scratch14 (box S16x128 ![0, 0] S1x128.size) f ∗ PT c cc0_scratch14 (box S16x128 ![1, 0] ![15, 128]) f) :=
    cut2 (bx20 0 (0) 1 15 16 (128) 1 rfl rfl).1 (bx20 0 (0) 1 15 16 (128) 1 rfl rfl).2
  have h1 : PT c cc0_scratch14 (box S16x128 ![1, 0] ![15, 128]) f = iprop(PT c cc0_scratch14 (box S16x128 ![1, 0] S1x128.size) f ∗ PT c cc0_scratch14 (box S16x128 ![2, 0] ![14, 128]) f) :=
    cut2 (bx20 1 (0) 1 14 15 (128) 2 rfl rfl).1 (bx20 1 (0) 1 14 15 (128) 2 rfl rfl).2
  have h2 : PT c cc0_scratch14 (box S16x128 ![2, 0] ![14, 128]) f = iprop(PT c cc0_scratch14 (box S16x128 ![2, 0] S1x128.size) f ∗ PT c cc0_scratch14 (box S16x128 ![3, 0] ![13, 128]) f) :=
    cut2 (bx20 2 (0) 1 13 14 (128) 3 rfl rfl).1 (bx20 2 (0) 1 13 14 (128) 3 rfl rfl).2
  have h3 : PT c cc0_scratch14 (box S16x128 ![3, 0] ![13, 128]) f = iprop(PT c cc0_scratch14 (box S16x128 ![3, 0] S1x128.size) f ∗ PT c cc0_scratch14 (box S16x128 ![4, 0] ![12, 128]) f) :=
    cut2 (bx20 3 (0) 1 12 13 (128) 4 rfl rfl).1 (bx20 3 (0) 1 12 13 (128) 4 rfl rfl).2
  have h4 : PT c cc0_scratch14 (box S16x128 ![4, 0] ![12, 128]) f = iprop(PT c cc0_scratch14 (box S16x128 ![4, 0] S1x128.size) f ∗ PT c cc0_scratch14 (box S16x128 ![5, 0] ![11, 128]) f) :=
    cut2 (bx20 4 (0) 1 11 12 (128) 5 rfl rfl).1 (bx20 4 (0) 1 11 12 (128) 5 rfl rfl).2
  have h5 : PT c cc0_scratch14 (box S16x128 ![5, 0] ![11, 128]) f = iprop(PT c cc0_scratch14 (box S16x128 ![5, 0] S1x128.size) f ∗ PT c cc0_scratch14 (box S16x128 ![6, 0] ![10, 128]) f) :=
    cut2 (bx20 5 (0) 1 10 11 (128) 6 rfl rfl).1 (bx20 5 (0) 1 10 11 (128) 6 rfl rfl).2
  have h6 : PT c cc0_scratch14 (box S16x128 ![6, 0] ![10, 128]) f = iprop(PT c cc0_scratch14 (box S16x128 ![6, 0] S1x128.size) f ∗ PT c cc0_scratch14 (box S16x128 ![7, 0] ![9, 128]) f) :=
    cut2 (bx20 6 (0) 1 9 10 (128) 7 rfl rfl).1 (bx20 6 (0) 1 9 10 (128) 7 rfl rfl).2
  have h7 : PT c cc0_scratch14 (box S16x128 ![7, 0] ![9, 128]) f = iprop(PT c cc0_scratch14 (box S16x128 ![7, 0] S1x128.size) f ∗ PT c cc0_scratch14 (box S16x128 ![8, 0] ![8, 128]) f) :=
    cut2 (bx20 7 (0) 1 8 9 (128) 8 rfl rfl).1 (bx20 7 (0) 1 8 9 (128) 8 rfl rfl).2
  have h8 : PT c cc0_scratch14 (box S16x128 ![8, 0] ![8, 128]) f = iprop(PT c cc0_scratch14 (box S16x128 ![8, 0] S1x128.size) f ∗ PT c cc0_scratch14 (box S16x128 ![9, 0] ![7, 128]) f) :=
    cut2 (bx20 8 (0) 1 7 8 (128) 9 rfl rfl).1 (bx20 8 (0) 1 7 8 (128) 9 rfl rfl).2
  have h9 : PT c cc0_scratch14 (box S16x128 ![9, 0] ![7, 128]) f = iprop(PT c cc0_scratch14 (box S16x128 ![9, 0] S1x128.size) f ∗ PT c cc0_scratch14 (box S16x128 ![10, 0] ![6, 128]) f) :=
    cut2 (bx20 9 (0) 1 6 7 (128) 10 rfl rfl).1 (bx20 9 (0) 1 6 7 (128) 10 rfl rfl).2
  have h10 : PT c cc0_scratch14 (box S16x128 ![10, 0] ![6, 128]) f = iprop(PT c cc0_scratch14 (box S16x128 ![10, 0] S1x128.size) f ∗ PT c cc0_scratch14 (box S16x128 ![11, 0] ![5, 128]) f) :=
    cut2 (bx20 10 (0) 1 5 6 (128) 11 rfl rfl).1 (bx20 10 (0) 1 5 6 (128) 11 rfl rfl).2
  have h11 : PT c cc0_scratch14 (box S16x128 ![11, 0] ![5, 128]) f = iprop(PT c cc0_scratch14 (box S16x128 ![11, 0] S1x128.size) f ∗ PT c cc0_scratch14 (box S16x128 ![12, 0] ![4, 128]) f) :=
    cut2 (bx20 11 (0) 1 4 5 (128) 12 rfl rfl).1 (bx20 11 (0) 1 4 5 (128) 12 rfl rfl).2
  have h12 : PT c cc0_scratch14 (box S16x128 ![12, 0] ![4, 128]) f = iprop(PT c cc0_scratch14 (box S16x128 ![12, 0] S1x128.size) f ∗ PT c cc0_scratch14 (box S16x128 ![13, 0] ![3, 128]) f) :=
    cut2 (bx20 12 (0) 1 3 4 (128) 13 rfl rfl).1 (bx20 12 (0) 1 3 4 (128) 13 rfl rfl).2
  have h13 : PT c cc0_scratch14 (box S16x128 ![13, 0] ![3, 128]) f = iprop(PT c cc0_scratch14 (box S16x128 ![13, 0] S1x128.size) f ∗ PT c cc0_scratch14 (box S16x128 ![14, 0] ![2, 128]) f) :=
    cut2 (bx20 13 (0) 1 2 3 (128) 14 rfl rfl).1 (bx20 13 (0) 1 2 3 (128) 14 rfl rfl).2
  have h14 : PT c cc0_scratch14 (box S16x128 ![14, 0] ![2, 128]) f = iprop(PT c cc0_scratch14 (box S16x128 ![14, 0] S1x128.size) f ∗ PT c cc0_scratch14 (box S16x128 ![15, 0] S1x128.size) f) :=
    cut2 (bx20 14 (0) 1 1 2 (128) 15 rfl rfl).1 (bx20 14 (0) 1 1 2 (128) 15 rfl rfl).2
  rw [h0, h1, h2, h3, h4, h5, h6, h7, h8, h9, h10, h11, h12, h13, h14]

/-- Sixteen rows. -/
theorem ch24A : PA (F := F) c cc0_scratch14 Finset.univ ⊢ iprop(PA (F := F) c cc0_scratch14 (box S16x128 ![0, 0] S1x128.size) ∗ PA (F := F) c cc0_scratch14 (box S16x128 ![1, 0] S1x128.size) ∗ PA (F := F) c cc0_scratch14 (box S16x128 ![2, 0] S1x128.size) ∗ PA (F := F) c cc0_scratch14 (box S16x128 ![3, 0] S1x128.size) ∗ PA (F := F) c cc0_scratch14 (box S16x128 ![4, 0] S1x128.size) ∗ PA (F := F) c cc0_scratch14 (box S16x128 ![5, 0] S1x128.size) ∗ PA (F := F) c cc0_scratch14 (box S16x128 ![6, 0] S1x128.size) ∗ PA (F := F) c cc0_scratch14 (box S16x128 ![7, 0] S1x128.size) ∗ PA (F := F) c cc0_scratch14 (box S16x128 ![8, 0] S1x128.size) ∗ PA (F := F) c cc0_scratch14 (box S16x128 ![9, 0] S1x128.size) ∗ PA (F := F) c cc0_scratch14 (box S16x128 ![10, 0] S1x128.size) ∗ PA (F := F) c cc0_scratch14 (box S16x128 ![11, 0] S1x128.size) ∗ PA (F := F) c cc0_scratch14 (box S16x128 ![12, 0] S1x128.size) ∗ PA (F := F) c cc0_scratch14 (box S16x128 ![13, 0] S1x128.size) ∗ PA (F := F) c cc0_scratch14 (box S16x128 ![14, 0] S1x128.size) ∗ PA (F := F) c cc0_scratch14 (box S16x128 ![15, 0] S1x128.size)) := by
  iintro ⟨%f, H⟩
  ihave H := (Entails.of_eq (ch24 (c := c) f)) $$ H
  icases H with ⟨H0, H1, H2, H3, H4, H5, H6, H7, H8, H9, H10, H11, H12, H13, H14, H15⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  isplitl [H7]
  · iexists f; iexact H7
  isplitl [H8]
  · iexists f; iexact H8
  isplitl [H9]
  · iexists f; iexact H9
  isplitl [H10]
  · iexists f; iexact H10
  isplitl [H11]
  · iexists f; iexact H11
  isplitl [H12]
  · iexists f; iexact H12
  isplitl [H13]
  · iexists f; iexact H13
  isplitl [H14]
  · iexists f; iexact H14
  iexists f; iexact H15

/-- Sixteen blocks of 128 rows. -/
theorem ch22 (f : Buf (Elt F) ((c : Thread nD τ).loc cc0_scratch12)) :
    PT c cc0_scratch12 Finset.univ f = iprop(PT c cc0_scratch12 (box S2048x256 ![0, 0] S128x256.size) f ∗ PT c cc0_scratch12 (box S2048x256 ![128, 0] S128x256.size) f ∗ PT c cc0_scratch12 (box S2048x256 ![256, 0] S128x256.size) f ∗ PT c cc0_scratch12 (box S2048x256 ![384, 0] S128x256.size) f ∗ PT c cc0_scratch12 (box S2048x256 ![512, 0] S128x256.size) f ∗ PT c cc0_scratch12 (box S2048x256 ![640, 0] S128x256.size) f ∗ PT c cc0_scratch12 (box S2048x256 ![768, 0] S128x256.size) f ∗ PT c cc0_scratch12 (box S2048x256 ![896, 0] S128x256.size) f ∗ PT c cc0_scratch12 (box S2048x256 ![1024, 0] S128x256.size) f ∗ PT c cc0_scratch12 (box S2048x256 ![1152, 0] S128x256.size) f ∗ PT c cc0_scratch12 (box S2048x256 ![1280, 0] S128x256.size) f ∗ PT c cc0_scratch12 (box S2048x256 ![1408, 0] S128x256.size) f ∗ PT c cc0_scratch12 (box S2048x256 ![1536, 0] S128x256.size) f ∗ PT c cc0_scratch12 (box S2048x256 ![1664, 0] S128x256.size) f ∗ PT c cc0_scratch12 (box S2048x256 ![1792, 0] S128x256.size) f ∗ PT c cc0_scratch12 (box S2048x256 ![1920, 0] S128x256.size) f) := by
  rw [show (Finset.univ : Finset (Idx ((c : Thread nD τ).loc cc0_scratch12))) = (box S2048x256 ![0, 0] ![2048, 256]) from (box_univ (s := S2048x256) (by decide) (by decide)).symm]
  have h0 : PT c cc0_scratch12 (box S2048x256 ![0, 0] ![2048, 256]) f = iprop(PT c cc0_scratch12 (box S2048x256 ![0, 0] S128x256.size) f ∗ PT c cc0_scratch12 (box S2048x256 ![128, 0] ![1920, 256]) f) :=
    cut2 (bx20 0 (0) 128 1920 2048 (256) 128 rfl rfl).1 (bx20 0 (0) 128 1920 2048 (256) 128 rfl rfl).2
  have h1 : PT c cc0_scratch12 (box S2048x256 ![128, 0] ![1920, 256]) f = iprop(PT c cc0_scratch12 (box S2048x256 ![128, 0] S128x256.size) f ∗ PT c cc0_scratch12 (box S2048x256 ![256, 0] ![1792, 256]) f) :=
    cut2 (bx20 128 (0) 128 1792 1920 (256) 256 rfl rfl).1 (bx20 128 (0) 128 1792 1920 (256) 256 rfl rfl).2
  have h2 : PT c cc0_scratch12 (box S2048x256 ![256, 0] ![1792, 256]) f = iprop(PT c cc0_scratch12 (box S2048x256 ![256, 0] S128x256.size) f ∗ PT c cc0_scratch12 (box S2048x256 ![384, 0] ![1664, 256]) f) :=
    cut2 (bx20 256 (0) 128 1664 1792 (256) 384 rfl rfl).1 (bx20 256 (0) 128 1664 1792 (256) 384 rfl rfl).2
  have h3 : PT c cc0_scratch12 (box S2048x256 ![384, 0] ![1664, 256]) f = iprop(PT c cc0_scratch12 (box S2048x256 ![384, 0] S128x256.size) f ∗ PT c cc0_scratch12 (box S2048x256 ![512, 0] ![1536, 256]) f) :=
    cut2 (bx20 384 (0) 128 1536 1664 (256) 512 rfl rfl).1 (bx20 384 (0) 128 1536 1664 (256) 512 rfl rfl).2
  have h4 : PT c cc0_scratch12 (box S2048x256 ![512, 0] ![1536, 256]) f = iprop(PT c cc0_scratch12 (box S2048x256 ![512, 0] S128x256.size) f ∗ PT c cc0_scratch12 (box S2048x256 ![640, 0] ![1408, 256]) f) :=
    cut2 (bx20 512 (0) 128 1408 1536 (256) 640 rfl rfl).1 (bx20 512 (0) 128 1408 1536 (256) 640 rfl rfl).2
  have h5 : PT c cc0_scratch12 (box S2048x256 ![640, 0] ![1408, 256]) f = iprop(PT c cc0_scratch12 (box S2048x256 ![640, 0] S128x256.size) f ∗ PT c cc0_scratch12 (box S2048x256 ![768, 0] ![1280, 256]) f) :=
    cut2 (bx20 640 (0) 128 1280 1408 (256) 768 rfl rfl).1 (bx20 640 (0) 128 1280 1408 (256) 768 rfl rfl).2
  have h6 : PT c cc0_scratch12 (box S2048x256 ![768, 0] ![1280, 256]) f = iprop(PT c cc0_scratch12 (box S2048x256 ![768, 0] S128x256.size) f ∗ PT c cc0_scratch12 (box S2048x256 ![896, 0] ![1152, 256]) f) :=
    cut2 (bx20 768 (0) 128 1152 1280 (256) 896 rfl rfl).1 (bx20 768 (0) 128 1152 1280 (256) 896 rfl rfl).2
  have h7 : PT c cc0_scratch12 (box S2048x256 ![896, 0] ![1152, 256]) f = iprop(PT c cc0_scratch12 (box S2048x256 ![896, 0] S128x256.size) f ∗ PT c cc0_scratch12 (box S2048x256 ![1024, 0] ![1024, 256]) f) :=
    cut2 (bx20 896 (0) 128 1024 1152 (256) 1024 rfl rfl).1 (bx20 896 (0) 128 1024 1152 (256) 1024 rfl rfl).2
  have h8 : PT c cc0_scratch12 (box S2048x256 ![1024, 0] ![1024, 256]) f = iprop(PT c cc0_scratch12 (box S2048x256 ![1024, 0] S128x256.size) f ∗ PT c cc0_scratch12 (box S2048x256 ![1152, 0] ![896, 256]) f) :=
    cut2 (bx20 1024 (0) 128 896 1024 (256) 1152 rfl rfl).1 (bx20 1024 (0) 128 896 1024 (256) 1152 rfl rfl).2
  have h9 : PT c cc0_scratch12 (box S2048x256 ![1152, 0] ![896, 256]) f = iprop(PT c cc0_scratch12 (box S2048x256 ![1152, 0] S128x256.size) f ∗ PT c cc0_scratch12 (box S2048x256 ![1280, 0] ![768, 256]) f) :=
    cut2 (bx20 1152 (0) 128 768 896 (256) 1280 rfl rfl).1 (bx20 1152 (0) 128 768 896 (256) 1280 rfl rfl).2
  have h10 : PT c cc0_scratch12 (box S2048x256 ![1280, 0] ![768, 256]) f = iprop(PT c cc0_scratch12 (box S2048x256 ![1280, 0] S128x256.size) f ∗ PT c cc0_scratch12 (box S2048x256 ![1408, 0] ![640, 256]) f) :=
    cut2 (bx20 1280 (0) 128 640 768 (256) 1408 rfl rfl).1 (bx20 1280 (0) 128 640 768 (256) 1408 rfl rfl).2
  have h11 : PT c cc0_scratch12 (box S2048x256 ![1408, 0] ![640, 256]) f = iprop(PT c cc0_scratch12 (box S2048x256 ![1408, 0] S128x256.size) f ∗ PT c cc0_scratch12 (box S2048x256 ![1536, 0] ![512, 256]) f) :=
    cut2 (bx20 1408 (0) 128 512 640 (256) 1536 rfl rfl).1 (bx20 1408 (0) 128 512 640 (256) 1536 rfl rfl).2
  have h12 : PT c cc0_scratch12 (box S2048x256 ![1536, 0] ![512, 256]) f = iprop(PT c cc0_scratch12 (box S2048x256 ![1536, 0] S128x256.size) f ∗ PT c cc0_scratch12 (box S2048x256 ![1664, 0] ![384, 256]) f) :=
    cut2 (bx20 1536 (0) 128 384 512 (256) 1664 rfl rfl).1 (bx20 1536 (0) 128 384 512 (256) 1664 rfl rfl).2
  have h13 : PT c cc0_scratch12 (box S2048x256 ![1664, 0] ![384, 256]) f = iprop(PT c cc0_scratch12 (box S2048x256 ![1664, 0] S128x256.size) f ∗ PT c cc0_scratch12 (box S2048x256 ![1792, 0] ![256, 256]) f) :=
    cut2 (bx20 1664 (0) 128 256 384 (256) 1792 rfl rfl).1 (bx20 1664 (0) 128 256 384 (256) 1792 rfl rfl).2
  have h14 : PT c cc0_scratch12 (box S2048x256 ![1792, 0] ![256, 256]) f = iprop(PT c cc0_scratch12 (box S2048x256 ![1792, 0] S128x256.size) f ∗ PT c cc0_scratch12 (box S2048x256 ![1920, 0] S128x256.size) f) :=
    cut2 (bx20 1792 (0) 128 128 256 (256) 1920 rfl rfl).1 (bx20 1792 (0) 128 128 256 (256) 1920 rfl rfl).2
  rw [h0, h1, h2, h3, h4, h5, h6, h7, h8, h9, h10, h11, h12, h13, h14]

/-- Sixteen blocks of 128 rows. -/
theorem ch22A : PA (F := F) c cc0_scratch12 Finset.univ ⊢ iprop(PA (F := F) c cc0_scratch12 (box S2048x256 ![0, 0] S128x256.size) ∗ PA (F := F) c cc0_scratch12 (box S2048x256 ![128, 0] S128x256.size) ∗ PA (F := F) c cc0_scratch12 (box S2048x256 ![256, 0] S128x256.size) ∗ PA (F := F) c cc0_scratch12 (box S2048x256 ![384, 0] S128x256.size) ∗ PA (F := F) c cc0_scratch12 (box S2048x256 ![512, 0] S128x256.size) ∗ PA (F := F) c cc0_scratch12 (box S2048x256 ![640, 0] S128x256.size) ∗ PA (F := F) c cc0_scratch12 (box S2048x256 ![768, 0] S128x256.size) ∗ PA (F := F) c cc0_scratch12 (box S2048x256 ![896, 0] S128x256.size) ∗ PA (F := F) c cc0_scratch12 (box S2048x256 ![1024, 0] S128x256.size) ∗ PA (F := F) c cc0_scratch12 (box S2048x256 ![1152, 0] S128x256.size) ∗ PA (F := F) c cc0_scratch12 (box S2048x256 ![1280, 0] S128x256.size) ∗ PA (F := F) c cc0_scratch12 (box S2048x256 ![1408, 0] S128x256.size) ∗ PA (F := F) c cc0_scratch12 (box S2048x256 ![1536, 0] S128x256.size) ∗ PA (F := F) c cc0_scratch12 (box S2048x256 ![1664, 0] S128x256.size) ∗ PA (F := F) c cc0_scratch12 (box S2048x256 ![1792, 0] S128x256.size) ∗ PA (F := F) c cc0_scratch12 (box S2048x256 ![1920, 0] S128x256.size)) := by
  iintro ⟨%f, H⟩
  ihave H := (Entails.of_eq (ch22 (c := c) f)) $$ H
  icases H with ⟨H0, H1, H2, H3, H4, H5, H6, H7, H8, H9, H10, H11, H12, H13, H14, H15⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  isplitl [H7]
  · iexists f; iexact H7
  isplitl [H8]
  · iexists f; iexact H8
  isplitl [H9]
  · iexists f; iexact H9
  isplitl [H10]
  · iexists f; iexact H10
  isplitl [H11]
  · iexists f; iexact H11
  isplitl [H12]
  · iexists f; iexact H12
  isplitl [H13]
  · iexists f; iexact H13
  isplitl [H14]
  · iexists f; iexact H14
  iexists f; iexact H15

/-- Sixteen blocks of 128 rows. -/
theorem ch23 (f : Buf (Elt F) ((c : Thread nD τ).loc cc0_scratch13)) :
    PT c cc0_scratch13 Finset.univ f = iprop(PT c cc0_scratch13 (box S2048x256 ![0, 0] S128x256.size) f ∗ PT c cc0_scratch13 (box S2048x256 ![128, 0] S128x256.size) f ∗ PT c cc0_scratch13 (box S2048x256 ![256, 0] S128x256.size) f ∗ PT c cc0_scratch13 (box S2048x256 ![384, 0] S128x256.size) f ∗ PT c cc0_scratch13 (box S2048x256 ![512, 0] S128x256.size) f ∗ PT c cc0_scratch13 (box S2048x256 ![640, 0] S128x256.size) f ∗ PT c cc0_scratch13 (box S2048x256 ![768, 0] S128x256.size) f ∗ PT c cc0_scratch13 (box S2048x256 ![896, 0] S128x256.size) f ∗ PT c cc0_scratch13 (box S2048x256 ![1024, 0] S128x256.size) f ∗ PT c cc0_scratch13 (box S2048x256 ![1152, 0] S128x256.size) f ∗ PT c cc0_scratch13 (box S2048x256 ![1280, 0] S128x256.size) f ∗ PT c cc0_scratch13 (box S2048x256 ![1408, 0] S128x256.size) f ∗ PT c cc0_scratch13 (box S2048x256 ![1536, 0] S128x256.size) f ∗ PT c cc0_scratch13 (box S2048x256 ![1664, 0] S128x256.size) f ∗ PT c cc0_scratch13 (box S2048x256 ![1792, 0] S128x256.size) f ∗ PT c cc0_scratch13 (box S2048x256 ![1920, 0] S128x256.size) f) := by
  rw [show (Finset.univ : Finset (Idx ((c : Thread nD τ).loc cc0_scratch13))) = (box S2048x256 ![0, 0] ![2048, 256]) from (box_univ (s := S2048x256) (by decide) (by decide)).symm]
  have h0 : PT c cc0_scratch13 (box S2048x256 ![0, 0] ![2048, 256]) f = iprop(PT c cc0_scratch13 (box S2048x256 ![0, 0] S128x256.size) f ∗ PT c cc0_scratch13 (box S2048x256 ![128, 0] ![1920, 256]) f) :=
    cut2 (bx20 0 (0) 128 1920 2048 (256) 128 rfl rfl).1 (bx20 0 (0) 128 1920 2048 (256) 128 rfl rfl).2
  have h1 : PT c cc0_scratch13 (box S2048x256 ![128, 0] ![1920, 256]) f = iprop(PT c cc0_scratch13 (box S2048x256 ![128, 0] S128x256.size) f ∗ PT c cc0_scratch13 (box S2048x256 ![256, 0] ![1792, 256]) f) :=
    cut2 (bx20 128 (0) 128 1792 1920 (256) 256 rfl rfl).1 (bx20 128 (0) 128 1792 1920 (256) 256 rfl rfl).2
  have h2 : PT c cc0_scratch13 (box S2048x256 ![256, 0] ![1792, 256]) f = iprop(PT c cc0_scratch13 (box S2048x256 ![256, 0] S128x256.size) f ∗ PT c cc0_scratch13 (box S2048x256 ![384, 0] ![1664, 256]) f) :=
    cut2 (bx20 256 (0) 128 1664 1792 (256) 384 rfl rfl).1 (bx20 256 (0) 128 1664 1792 (256) 384 rfl rfl).2
  have h3 : PT c cc0_scratch13 (box S2048x256 ![384, 0] ![1664, 256]) f = iprop(PT c cc0_scratch13 (box S2048x256 ![384, 0] S128x256.size) f ∗ PT c cc0_scratch13 (box S2048x256 ![512, 0] ![1536, 256]) f) :=
    cut2 (bx20 384 (0) 128 1536 1664 (256) 512 rfl rfl).1 (bx20 384 (0) 128 1536 1664 (256) 512 rfl rfl).2
  have h4 : PT c cc0_scratch13 (box S2048x256 ![512, 0] ![1536, 256]) f = iprop(PT c cc0_scratch13 (box S2048x256 ![512, 0] S128x256.size) f ∗ PT c cc0_scratch13 (box S2048x256 ![640, 0] ![1408, 256]) f) :=
    cut2 (bx20 512 (0) 128 1408 1536 (256) 640 rfl rfl).1 (bx20 512 (0) 128 1408 1536 (256) 640 rfl rfl).2
  have h5 : PT c cc0_scratch13 (box S2048x256 ![640, 0] ![1408, 256]) f = iprop(PT c cc0_scratch13 (box S2048x256 ![640, 0] S128x256.size) f ∗ PT c cc0_scratch13 (box S2048x256 ![768, 0] ![1280, 256]) f) :=
    cut2 (bx20 640 (0) 128 1280 1408 (256) 768 rfl rfl).1 (bx20 640 (0) 128 1280 1408 (256) 768 rfl rfl).2
  have h6 : PT c cc0_scratch13 (box S2048x256 ![768, 0] ![1280, 256]) f = iprop(PT c cc0_scratch13 (box S2048x256 ![768, 0] S128x256.size) f ∗ PT c cc0_scratch13 (box S2048x256 ![896, 0] ![1152, 256]) f) :=
    cut2 (bx20 768 (0) 128 1152 1280 (256) 896 rfl rfl).1 (bx20 768 (0) 128 1152 1280 (256) 896 rfl rfl).2
  have h7 : PT c cc0_scratch13 (box S2048x256 ![896, 0] ![1152, 256]) f = iprop(PT c cc0_scratch13 (box S2048x256 ![896, 0] S128x256.size) f ∗ PT c cc0_scratch13 (box S2048x256 ![1024, 0] ![1024, 256]) f) :=
    cut2 (bx20 896 (0) 128 1024 1152 (256) 1024 rfl rfl).1 (bx20 896 (0) 128 1024 1152 (256) 1024 rfl rfl).2
  have h8 : PT c cc0_scratch13 (box S2048x256 ![1024, 0] ![1024, 256]) f = iprop(PT c cc0_scratch13 (box S2048x256 ![1024, 0] S128x256.size) f ∗ PT c cc0_scratch13 (box S2048x256 ![1152, 0] ![896, 256]) f) :=
    cut2 (bx20 1024 (0) 128 896 1024 (256) 1152 rfl rfl).1 (bx20 1024 (0) 128 896 1024 (256) 1152 rfl rfl).2
  have h9 : PT c cc0_scratch13 (box S2048x256 ![1152, 0] ![896, 256]) f = iprop(PT c cc0_scratch13 (box S2048x256 ![1152, 0] S128x256.size) f ∗ PT c cc0_scratch13 (box S2048x256 ![1280, 0] ![768, 256]) f) :=
    cut2 (bx20 1152 (0) 128 768 896 (256) 1280 rfl rfl).1 (bx20 1152 (0) 128 768 896 (256) 1280 rfl rfl).2
  have h10 : PT c cc0_scratch13 (box S2048x256 ![1280, 0] ![768, 256]) f = iprop(PT c cc0_scratch13 (box S2048x256 ![1280, 0] S128x256.size) f ∗ PT c cc0_scratch13 (box S2048x256 ![1408, 0] ![640, 256]) f) :=
    cut2 (bx20 1280 (0) 128 640 768 (256) 1408 rfl rfl).1 (bx20 1280 (0) 128 640 768 (256) 1408 rfl rfl).2
  have h11 : PT c cc0_scratch13 (box S2048x256 ![1408, 0] ![640, 256]) f = iprop(PT c cc0_scratch13 (box S2048x256 ![1408, 0] S128x256.size) f ∗ PT c cc0_scratch13 (box S2048x256 ![1536, 0] ![512, 256]) f) :=
    cut2 (bx20 1408 (0) 128 512 640 (256) 1536 rfl rfl).1 (bx20 1408 (0) 128 512 640 (256) 1536 rfl rfl).2
  have h12 : PT c cc0_scratch13 (box S2048x256 ![1536, 0] ![512, 256]) f = iprop(PT c cc0_scratch13 (box S2048x256 ![1536, 0] S128x256.size) f ∗ PT c cc0_scratch13 (box S2048x256 ![1664, 0] ![384, 256]) f) :=
    cut2 (bx20 1536 (0) 128 384 512 (256) 1664 rfl rfl).1 (bx20 1536 (0) 128 384 512 (256) 1664 rfl rfl).2
  have h13 : PT c cc0_scratch13 (box S2048x256 ![1664, 0] ![384, 256]) f = iprop(PT c cc0_scratch13 (box S2048x256 ![1664, 0] S128x256.size) f ∗ PT c cc0_scratch13 (box S2048x256 ![1792, 0] ![256, 256]) f) :=
    cut2 (bx20 1664 (0) 128 256 384 (256) 1792 rfl rfl).1 (bx20 1664 (0) 128 256 384 (256) 1792 rfl rfl).2
  have h14 : PT c cc0_scratch13 (box S2048x256 ![1792, 0] ![256, 256]) f = iprop(PT c cc0_scratch13 (box S2048x256 ![1792, 0] S128x256.size) f ∗ PT c cc0_scratch13 (box S2048x256 ![1920, 0] S128x256.size) f) :=
    cut2 (bx20 1792 (0) 128 128 256 (256) 1920 rfl rfl).1 (bx20 1792 (0) 128 128 256 (256) 1920 rfl rfl).2
  rw [h0, h1, h2, h3, h4, h5, h6, h7, h8, h9, h10, h11, h12, h13, h14]

/-- Sixteen blocks of 128 rows. -/
theorem ch23A : PA (F := F) c cc0_scratch13 Finset.univ ⊢ iprop(PA (F := F) c cc0_scratch13 (box S2048x256 ![0, 0] S128x256.size) ∗ PA (F := F) c cc0_scratch13 (box S2048x256 ![128, 0] S128x256.size) ∗ PA (F := F) c cc0_scratch13 (box S2048x256 ![256, 0] S128x256.size) ∗ PA (F := F) c cc0_scratch13 (box S2048x256 ![384, 0] S128x256.size) ∗ PA (F := F) c cc0_scratch13 (box S2048x256 ![512, 0] S128x256.size) ∗ PA (F := F) c cc0_scratch13 (box S2048x256 ![640, 0] S128x256.size) ∗ PA (F := F) c cc0_scratch13 (box S2048x256 ![768, 0] S128x256.size) ∗ PA (F := F) c cc0_scratch13 (box S2048x256 ![896, 0] S128x256.size) ∗ PA (F := F) c cc0_scratch13 (box S2048x256 ![1024, 0] S128x256.size) ∗ PA (F := F) c cc0_scratch13 (box S2048x256 ![1152, 0] S128x256.size) ∗ PA (F := F) c cc0_scratch13 (box S2048x256 ![1280, 0] S128x256.size) ∗ PA (F := F) c cc0_scratch13 (box S2048x256 ![1408, 0] S128x256.size) ∗ PA (F := F) c cc0_scratch13 (box S2048x256 ![1536, 0] S128x256.size) ∗ PA (F := F) c cc0_scratch13 (box S2048x256 ![1664, 0] S128x256.size) ∗ PA (F := F) c cc0_scratch13 (box S2048x256 ![1792, 0] S128x256.size) ∗ PA (F := F) c cc0_scratch13 (box S2048x256 ![1920, 0] S128x256.size)) := by
  iintro ⟨%f, H⟩
  ihave H := (Entails.of_eq (ch23 (c := c) f)) $$ H
  icases H with ⟨H0, H1, H2, H3, H4, H5, H6, H7, H8, H9, H10, H11, H12, H13, H14, H15⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  isplitl [H7]
  · iexists f; iexact H7
  isplitl [H8]
  · iexists f; iexact H8
  isplitl [H9]
  · iexists f; iexact H9
  isplitl [H10]
  · iexists f; iexact H10
  isplitl [H11]
  · iexists f; iexact H11
  isplitl [H12]
  · iexists f; iexact H12
  isplitl [H13]
  · iexists f; iexact H13
  isplitl [H14]
  · iexists f; iexact H14
  iexists f; iexact H15

/-- Eight blocks of 256 rows. -/
theorem ch7 (f : Buf (Elt F) ((c : Thread nD τ).loc main_v3_2)) :
    PT c main_v3_2 Finset.univ f = iprop(PT c main_v3_2 (box S2048x256 ![256 * 0, 0] S256x256.size) f ∗ PT c main_v3_2 (box S2048x256 ![256 * 1, 0] S256x256.size) f ∗ PT c main_v3_2 (box S2048x256 ![256 * 2, 0] S256x256.size) f ∗ PT c main_v3_2 (box S2048x256 ![256 * 3, 0] S256x256.size) f ∗ PT c main_v3_2 (box S2048x256 ![256 * 4, 0] S256x256.size) f ∗ PT c main_v3_2 (box S2048x256 ![256 * 5, 0] S256x256.size) f ∗ PT c main_v3_2 (box S2048x256 ![256 * 6, 0] S256x256.size) f ∗ PT c main_v3_2 (box S2048x256 ![256 * 7, 0] S256x256.size) f) := by
  rw [show (Finset.univ : Finset (Idx ((c : Thread nD τ).loc main_v3_2))) = (box S2048x256 ![0, 0] ![2048, 256]) from (box_univ (s := S2048x256) (by decide) (by decide)).symm]
  have h0 : PT c main_v3_2 (box S2048x256 ![0, 0] ![2048, 256]) f = iprop(PT c main_v3_2 (box S2048x256 ![256 * 0, 0] S256x256.size) f ∗ PT c main_v3_2 (box S2048x256 ![256, 0] ![1792, 256]) f) :=
    cut2 (bx20 0 (0) 256 1792 2048 (256) 256 rfl rfl).1 (bx20 0 (0) 256 1792 2048 (256) 256 rfl rfl).2
  have h1 : PT c main_v3_2 (box S2048x256 ![256, 0] ![1792, 256]) f = iprop(PT c main_v3_2 (box S2048x256 ![256 * 1, 0] S256x256.size) f ∗ PT c main_v3_2 (box S2048x256 ![512, 0] ![1536, 256]) f) :=
    cut2 (bx20 256 (0) 256 1536 1792 (256) 512 rfl rfl).1 (bx20 256 (0) 256 1536 1792 (256) 512 rfl rfl).2
  have h2 : PT c main_v3_2 (box S2048x256 ![512, 0] ![1536, 256]) f = iprop(PT c main_v3_2 (box S2048x256 ![256 * 2, 0] S256x256.size) f ∗ PT c main_v3_2 (box S2048x256 ![768, 0] ![1280, 256]) f) :=
    cut2 (bx20 512 (0) 256 1280 1536 (256) 768 rfl rfl).1 (bx20 512 (0) 256 1280 1536 (256) 768 rfl rfl).2
  have h3 : PT c main_v3_2 (box S2048x256 ![768, 0] ![1280, 256]) f = iprop(PT c main_v3_2 (box S2048x256 ![256 * 3, 0] S256x256.size) f ∗ PT c main_v3_2 (box S2048x256 ![1024, 0] ![1024, 256]) f) :=
    cut2 (bx20 768 (0) 256 1024 1280 (256) 1024 rfl rfl).1 (bx20 768 (0) 256 1024 1280 (256) 1024 rfl rfl).2
  have h4 : PT c main_v3_2 (box S2048x256 ![1024, 0] ![1024, 256]) f = iprop(PT c main_v3_2 (box S2048x256 ![256 * 4, 0] S256x256.size) f ∗ PT c main_v3_2 (box S2048x256 ![1280, 0] ![768, 256]) f) :=
    cut2 (bx20 1024 (0) 256 768 1024 (256) 1280 rfl rfl).1 (bx20 1024 (0) 256 768 1024 (256) 1280 rfl rfl).2
  have h5 : PT c main_v3_2 (box S2048x256 ![1280, 0] ![768, 256]) f = iprop(PT c main_v3_2 (box S2048x256 ![256 * 5, 0] S256x256.size) f ∗ PT c main_v3_2 (box S2048x256 ![1536, 0] ![512, 256]) f) :=
    cut2 (bx20 1280 (0) 256 512 768 (256) 1536 rfl rfl).1 (bx20 1280 (0) 256 512 768 (256) 1536 rfl rfl).2
  have h6 : PT c main_v3_2 (box S2048x256 ![1536, 0] ![512, 256]) f = iprop(PT c main_v3_2 (box S2048x256 ![256 * 6, 0] S256x256.size) f ∗ PT c main_v3_2 (box S2048x256 ![256 * 7, 0] S256x256.size) f) :=
    cut2 (bx20 1536 (0) 256 256 512 (256) 1792 rfl rfl).1 (bx20 1536 (0) 256 256 512 (256) 1792 rfl rfl).2
  rw [h0, h1, h2, h3, h4, h5, h6]

/-- Eight blocks of 256 rows. -/
theorem ch7A : PA (F := F) c main_v3_2 Finset.univ ⊢ iprop(PA (F := F) c main_v3_2 (box S2048x256 ![256 * 0, 0] S256x256.size) ∗ PA (F := F) c main_v3_2 (box S2048x256 ![256 * 1, 0] S256x256.size) ∗ PA (F := F) c main_v3_2 (box S2048x256 ![256 * 2, 0] S256x256.size) ∗ PA (F := F) c main_v3_2 (box S2048x256 ![256 * 3, 0] S256x256.size) ∗ PA (F := F) c main_v3_2 (box S2048x256 ![256 * 4, 0] S256x256.size) ∗ PA (F := F) c main_v3_2 (box S2048x256 ![256 * 5, 0] S256x256.size) ∗ PA (F := F) c main_v3_2 (box S2048x256 ![256 * 6, 0] S256x256.size) ∗ PA (F := F) c main_v3_2 (box S2048x256 ![256 * 7, 0] S256x256.size)) := by
  iintro ⟨%f, H⟩
  ihave H := (Entails.of_eq (ch7 (c := c) f)) $$ H
  icases H with ⟨H0, H1, H2, H3, H4, H5, H6, H7⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  iexists f; iexact H7

/-- Eight blocks of 256 rows. -/
theorem ch8 (f : Buf (Elt F) ((c : Thread nD τ).loc main_v3_3)) :
    PT c main_v3_3 Finset.univ f = iprop(PT c main_v3_3 (box S2048x256 ![256 * 0, 0] S256x256.size) f ∗ PT c main_v3_3 (box S2048x256 ![256 * 1, 0] S256x256.size) f ∗ PT c main_v3_3 (box S2048x256 ![256 * 2, 0] S256x256.size) f ∗ PT c main_v3_3 (box S2048x256 ![256 * 3, 0] S256x256.size) f ∗ PT c main_v3_3 (box S2048x256 ![256 * 4, 0] S256x256.size) f ∗ PT c main_v3_3 (box S2048x256 ![256 * 5, 0] S256x256.size) f ∗ PT c main_v3_3 (box S2048x256 ![256 * 6, 0] S256x256.size) f ∗ PT c main_v3_3 (box S2048x256 ![256 * 7, 0] S256x256.size) f) := by
  rw [show (Finset.univ : Finset (Idx ((c : Thread nD τ).loc main_v3_3))) = (box S2048x256 ![0, 0] ![2048, 256]) from (box_univ (s := S2048x256) (by decide) (by decide)).symm]
  have h0 : PT c main_v3_3 (box S2048x256 ![0, 0] ![2048, 256]) f = iprop(PT c main_v3_3 (box S2048x256 ![256 * 0, 0] S256x256.size) f ∗ PT c main_v3_3 (box S2048x256 ![256, 0] ![1792, 256]) f) :=
    cut2 (bx20 0 (0) 256 1792 2048 (256) 256 rfl rfl).1 (bx20 0 (0) 256 1792 2048 (256) 256 rfl rfl).2
  have h1 : PT c main_v3_3 (box S2048x256 ![256, 0] ![1792, 256]) f = iprop(PT c main_v3_3 (box S2048x256 ![256 * 1, 0] S256x256.size) f ∗ PT c main_v3_3 (box S2048x256 ![512, 0] ![1536, 256]) f) :=
    cut2 (bx20 256 (0) 256 1536 1792 (256) 512 rfl rfl).1 (bx20 256 (0) 256 1536 1792 (256) 512 rfl rfl).2
  have h2 : PT c main_v3_3 (box S2048x256 ![512, 0] ![1536, 256]) f = iprop(PT c main_v3_3 (box S2048x256 ![256 * 2, 0] S256x256.size) f ∗ PT c main_v3_3 (box S2048x256 ![768, 0] ![1280, 256]) f) :=
    cut2 (bx20 512 (0) 256 1280 1536 (256) 768 rfl rfl).1 (bx20 512 (0) 256 1280 1536 (256) 768 rfl rfl).2
  have h3 : PT c main_v3_3 (box S2048x256 ![768, 0] ![1280, 256]) f = iprop(PT c main_v3_3 (box S2048x256 ![256 * 3, 0] S256x256.size) f ∗ PT c main_v3_3 (box S2048x256 ![1024, 0] ![1024, 256]) f) :=
    cut2 (bx20 768 (0) 256 1024 1280 (256) 1024 rfl rfl).1 (bx20 768 (0) 256 1024 1280 (256) 1024 rfl rfl).2
  have h4 : PT c main_v3_3 (box S2048x256 ![1024, 0] ![1024, 256]) f = iprop(PT c main_v3_3 (box S2048x256 ![256 * 4, 0] S256x256.size) f ∗ PT c main_v3_3 (box S2048x256 ![1280, 0] ![768, 256]) f) :=
    cut2 (bx20 1024 (0) 256 768 1024 (256) 1280 rfl rfl).1 (bx20 1024 (0) 256 768 1024 (256) 1280 rfl rfl).2
  have h5 : PT c main_v3_3 (box S2048x256 ![1280, 0] ![768, 256]) f = iprop(PT c main_v3_3 (box S2048x256 ![256 * 5, 0] S256x256.size) f ∗ PT c main_v3_3 (box S2048x256 ![1536, 0] ![512, 256]) f) :=
    cut2 (bx20 1280 (0) 256 512 768 (256) 1536 rfl rfl).1 (bx20 1280 (0) 256 512 768 (256) 1536 rfl rfl).2
  have h6 : PT c main_v3_3 (box S2048x256 ![1536, 0] ![512, 256]) f = iprop(PT c main_v3_3 (box S2048x256 ![256 * 6, 0] S256x256.size) f ∗ PT c main_v3_3 (box S2048x256 ![256 * 7, 0] S256x256.size) f) :=
    cut2 (bx20 1536 (0) 256 256 512 (256) 1792 rfl rfl).1 (bx20 1536 (0) 256 256 512 (256) 1792 rfl rfl).2
  rw [h0, h1, h2, h3, h4, h5, h6]

/-- Eight blocks of 256 rows. -/
theorem ch8A : PA (F := F) c main_v3_3 Finset.univ ⊢ iprop(PA (F := F) c main_v3_3 (box S2048x256 ![256 * 0, 0] S256x256.size) ∗ PA (F := F) c main_v3_3 (box S2048x256 ![256 * 1, 0] S256x256.size) ∗ PA (F := F) c main_v3_3 (box S2048x256 ![256 * 2, 0] S256x256.size) ∗ PA (F := F) c main_v3_3 (box S2048x256 ![256 * 3, 0] S256x256.size) ∗ PA (F := F) c main_v3_3 (box S2048x256 ![256 * 4, 0] S256x256.size) ∗ PA (F := F) c main_v3_3 (box S2048x256 ![256 * 5, 0] S256x256.size) ∗ PA (F := F) c main_v3_3 (box S2048x256 ![256 * 6, 0] S256x256.size) ∗ PA (F := F) c main_v3_3 (box S2048x256 ![256 * 7, 0] S256x256.size)) := by
  iintro ⟨%f, H⟩
  ihave H := (Entails.of_eq (ch8 (c := c) f)) $$ H
  icases H with ⟨H0, H1, H2, H3, H4, H5, H6, H7⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  iexists f; iexact H7

end

end Cert.Kernel.Hand
-- ==== Proof.Hand.Kernel.Whole.lean ====
/- The body up to its last waits. -/
module

public import proofs.«01_k».proof.Proof.Hand.Kernel.PartsB
public import proofs.«01_k».proof.Proof.Hand.Kernel.PartsC
public import proofs.«01_k».proof.Proof.Hand.Kernel.PartsE
public import proofs.«01_k».proof.Proof.Hand.Kernel.Loop1
public import proofs.«01_k».proof.Proof.Hand.Kernel.Pieces2

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

/-- What step `t` of the token loop takes beside the token block's copy. -/
def L1R (c : Dev nD) (t : ℕ) : sProp 𝕄 := iprop(PA (F := F) c cc0_scratch9 (box S16x256x128 ![2 * (t + 1) + 0, 0, 0] S1x256x128.size) ∗ PA (F := F) c cc0_scratch9 (box S16x256x128 ![2 * (t + 1) + 1, 0, 0] S1x256x128.size) ∗ PA (F := F) c cc0_scratch14 (box S16x128 ![2 * (t + 1) + 0, 0] S1x128.size) ∗ PA (F := F) c cc0_scratch14 (box S16x128 ![2 * (t + 1) + 1, 0] S1x128.size) ∗ PA (F := F) c cc0_scratch12 (box S2048x256 ![128 * (2 * (t + 1) + 0), 0] S128x256.size) ∗ PA (F := F) c cc0_scratch12 (box S2048x256 ![128 * (2 * (t + 1) + 1), 0] S128x256.size) ∗ PA (F := F) c cc0_scratch13 (box S2048x256 ![128 * (2 * (t + 1) + 0), 0] S128x256.size) ∗ PA (F := F) c cc0_scratch13 (box S2048x256 ![128 * (2 * (t + 1) + 1), 0] S128x256.size) ∗ PA (F := F) c main_v3_0 (box S2048x7168 ![256 * t, 0] S256x7168.size) ∗ PA (F := F) c main_v3_2 (box S2048x256 ![256 * (t + 1), 0] S256x256.size) ∗ PA (F := F) c main_v3_3 (box S2048x256 ![256 * (t + 1), 0] S256x256.size))

theorem L1R_eq (c : Dev nD) (t : ℕ) : L1R (F := F) c t = iprop(PA (F := F) c cc0_scratch9 (box S16x256x128 ![2 * (t + 1) + 0, 0, 0] S1x256x128.size) ∗ PA (F := F) c cc0_scratch9 (box S16x256x128 ![2 * (t + 1) + 1, 0, 0] S1x256x128.size) ∗ PA (F := F) c cc0_scratch14 (box S16x128 ![2 * (t + 1) + 0, 0] S1x128.size) ∗ PA (F := F) c cc0_scratch14 (box S16x128 ![2 * (t + 1) + 1, 0] S1x128.size) ∗ PA (F := F) c cc0_scratch12 (box S2048x256 ![128 * (2 * (t + 1) + 0), 0] S128x256.size) ∗ PA (F := F) c cc0_scratch12 (box S2048x256 ![128 * (2 * (t + 1) + 1), 0] S128x256.size) ∗ PA (F := F) c cc0_scratch13 (box S2048x256 ![128 * (2 * (t + 1) + 0), 0] S128x256.size) ∗ PA (F := F) c cc0_scratch13 (box S2048x256 ![128 * (2 * (t + 1) + 1), 0] S128x256.size) ∗ PA (F := F) c main_v3_0 (box S2048x7168 ![256 * t, 0] S256x7168.size) ∗ PA (F := F) c main_v3_2 (box S2048x256 ![256 * (t + 1), 0] S256x256.size) ∗ PA (F := F) c main_v3_3 (box S2048x256 ![256 * (t + 1), 0] S256x256.size)) := rfl

theorem L1P_mk (c : Dev nD) (t : ℕ) : iprop(FL c (cell (14 + (t + 2))) N10 iprop(PT c cc0_scratch0 (box S2048x7168 ![256 * (t + 2), 0] S256x7168.size) (X.x) ∗ PT c main_v0 (box S2048x7168 ![256 * (t + 2), 0] S256x7168.size) (X.x)) ∗ L1R (F := F) c t) ⊢ L1P X c t := by
  rw [L1P_eq, L1R_eq]

theorem mkT (c : Dev nD) : iprop(FL c (cell (14 + (0 + 2))) N10 iprop(PT c cc0_scratch0 (box S2048x7168 ![256 * (0 + 2), 0] S256x7168.size) (X.x) ∗ PT c main_v0 (box S2048x7168 ![256 * (0 + 2), 0] S256x7168.size) (X.x)) ∗ FL c (cell (14 + (1 + 2))) N10 iprop(PT c cc0_scratch0 (box S2048x7168 ![256 * (1 + 2), 0] S256x7168.size) (X.x) ∗ PT c main_v0 (box S2048x7168 ![256 * (1 + 2), 0] S256x7168.size) (X.x)) ∗ FL c (cell (14 + (2 + 2))) N10 iprop(PT c cc0_scratch0 (box S2048x7168 ![256 * (2 + 2), 0] S256x7168.size) (X.x) ∗ PT c main_v0 (box S2048x7168 ![256 * (2 + 2), 0] S256x7168.size) (X.x)) ∗ FL c (cell (14 + (3 + 2))) N10 iprop(PT c cc0_scratch0 (box S2048x7168 ![256 * (3 + 2), 0] S256x7168.size) (X.x) ∗ PT c main_v0 (box S2048x7168 ![256 * (3 + 2), 0] S256x7168.size) (X.x)) ∗ FL c (cell (14 + (4 + 2))) N10 iprop(PT c cc0_scratch0 (box S2048x7168 ![256 * (4 + 2), 0] S256x7168.size) (X.x) ∗ PT c main_v0 (box S2048x7168 ![256 * (4 + 2), 0] S256x7168.size) (X.x)) ∗ FL c (cell (14 + (5 + 2))) N10 iprop(PT c cc0_scratch0 (box S2048x7168 ![256 * (5 + 2), 0] S256x7168.size) (X.x) ∗ PT c main_v0 (box S2048x7168 ![256 * (5 + 2), 0] S256x7168.size) (X.x)) ∗ L1R (F := F) c 0 ∗ L1R (F := F) c 1 ∗ L1R (F := F) c 2 ∗ L1R (F := F) c 3 ∗ L1R (F := F) c 4 ∗ L1R (F := F) c 5) ⊢ bigSep (Finset.Ico 0 6) (L1P X c) := by
  iintro ⟨f0, f1, f2, f3, f4, f5, r0, r1, r2, r3, r4, r5⟩
  ihave p0 := (L1P_mk X c 0) $$ [f0 r0]
  · iframe f0 r0
  ihave p1 := (L1P_mk X c 1) $$ [f1 r1]
  · iframe f1 r1
  ihave p2 := (L1P_mk X c 2) $$ [f2 r2]
  · iframe f2 r2
  ihave p3 := (L1P_mk X c 3) $$ [f3 r3]
  · iframe f3 r3
  ihave p4 := (L1P_mk X c 4) $$ [f4 r4]
  · iframe f4 r4
  ihave p5 := (L1P_mk X c 5) $$ [f5 r5]
  · iframe f5 r5
  iapply (Entails.of_eq (bigSep_Ico_succ_bot (show 0 < 6 by decide) (L1P X c)).symm)
  isplitl [p0]; · iexact p0
  iapply (Entails.of_eq (bigSep_Ico_succ_bot (show 1 < 6 by decide) (L1P X c)).symm)
  isplitl [p1]; · iexact p1
  iapply (Entails.of_eq (bigSep_Ico_succ_bot (show 2 < 6 by decide) (L1P X c)).symm)
  isplitl [p2]; · iexact p2
  iapply (Entails.of_eq (bigSep_Ico_succ_bot (show 3 < 6 by decide) (L1P X c)).symm)
  isplitl [p3]; · iexact p3
  iapply (Entails.of_eq (bigSep_Ico_succ_bot (show 4 < 6 by decide) (L1P X c)).symm)
  isplitl [p4]; · iexact p4
  iapply (Entails.of_eq (bigSep_Ico_one 5 (L1P X c)).symm)
  iexact p5

theorem hQ_eq (c : Dev nD) : bigSep (Finset.Ico 0 6) (L1Q X c) = iprop(L1Q X c 0 ∗ L1Q X c 1 ∗ L1Q X c 2 ∗ L1Q X c 3 ∗ L1Q X c 4 ∗ L1Q X c 5) := by
  rw [bigSep_Ico_succ_bot (show 0 < 6 by decide), bigSep_Ico_succ_bot (show 1 < 6 by decide), bigSep_Ico_succ_bot (show 2 < 6 by decide), bigSep_Ico_succ_bot (show 3 < 6 by decide), bigSep_Ico_succ_bot (show 4 < 6 by decide), bigSep_Ico_one 5 (L1Q X c)]

theorem L1_in (c : Dev nD) : iprop(Ow c ∗ PT c cc0_scratch2 Finset.univ (G12 X) ∗ PT c cc0_scratch3 Finset.univ (X.ids) ∗ PT c cc0_scratch4 Finset.univ (X.dg) ∗ PT c cc0_scratch5 Finset.univ (X.xs) ∗ PT c cc0_scratch6 (box S2x256x256 ![1, 0, 0] S1x256x256.size) (G16 X 1) ∗ PA c cc0_scratch6 (box S2x256x256 ![0, 0, 0] S1x256x256.size) ∗ PT c cc0_scratch7 (box S2x256x256 ![0, 0, 0] S1x256x256.size) (G17 X 0) ∗ PA c cc0_scratch7 (box S2x256x256 ![1, 0, 0] S1x256x256.size) ∗ PT c cc0_scratch8 (box S2x256x128 ![0, 0, 0] S1x256x128.size) (G18 X 0) ∗ PA c cc0_scratch8 (box S2x256x128 ![1, 0, 0] S1x256x128.size) ∗ dxSt X c 0 ∗ dxSt X c 1 ∗ BT c (cell 28) N7 (D7 X c) 1 0 ∗ BT c (cell 29) N8 (D8 X c) 1 0 ∗ bigSep (Finset.Ico 0 6) (L1P X c)) ⊢ L1 X c 0 := by
  iintro ⟨hO, h12, h13, h14, h15, h16, n16, d17, n17, d18, n18, hd, he, B7, B8, hT⟩
  iapply (Entails.of_eq (L1_eq X c 0).symm)
  isplitl [hO]; · iexact hO
  isplitl [h12]; · iexact h12
  isplitl [h13]; · iexact h13
  isplitl [h14]; · iexact h14
  isplitl [h15]; · iexact h15
  isplitl [h16]; · iexact h16
  isplitl [n16]; · iexact n16
  isplitl [d17]; · iexact d17
  isplitl [n17]; · iexact n17
  isplitl [d18]; · iexact d18
  isplitl [n18]; · iexact n18
  isplitl [hd]; · iexact hd
  isplitl [he]; · iexact he
  isplitl [B7]; · iexact B7
  isplitl [B8]; · iexact B8
  isplitl [hT]; · iexact hT
  iapply (Entails.of_eq (show (iprop(emp) : sProp 𝕄) = bigSep (Finset.Ico 0 0) (L1Q X c) from by rw [Finset.Ico_self, bigSep_empty]; rfl))
  iempintro

theorem dxSt6 (c : Dev nD) : dxSt X c 6 = FL c (cell 25) N5 iprop(PT c main_v3_0 (box S2048x7168 ![256 * 4, 0] S256x7168.size) (G5 X) ∗ PT c cc0_scratch10 (box S2x256x7168 ![0, 0, 0] S1x256x7168.size) (G20 X 4)) := if_pos (by decide)
theorem dxSt7 (c : Dev nD) : dxSt X c 7 = FL c (cell 26) N5 iprop(PT c main_v3_0 (box S2048x7168 ![256 * 5, 0] S256x7168.size) (G5 X) ∗ PT c cc0_scratch10 (box S2x256x7168 ![1, 0, 0] S1x256x7168.size) (G20 X 5)) := if_pos (by decide)

theorem L1_out (c : Dev nD) : L1 X c 6 ⊢ iprop(Ow c ∗ PT c cc0_scratch2 Finset.univ (G12 X) ∗ PT c cc0_scratch3 Finset.univ (X.ids) ∗ PT c cc0_scratch4 Finset.univ (X.dg) ∗ PT c cc0_scratch5 Finset.univ (X.xs) ∗ PT c cc0_scratch6 (box S2x256x256 ![1, 0, 0] S1x256x256.size) (G16 X 7) ∗ PA c cc0_scratch6 (box S2x256x256 ![0, 0, 0] S1x256x256.size) ∗ PT c cc0_scratch7 (box S2x256x256 ![0, 0, 0] S1x256x256.size) (G17 X 6) ∗ PA c cc0_scratch7 (box S2x256x256 ![1, 0, 0] S1x256x256.size) ∗ PT c cc0_scratch8 (box S2x256x128 ![0, 0, 0] S1x256x128.size) (G18 X 6) ∗ PA c cc0_scratch8 (box S2x256x128 ![1, 0, 0] S1x256x128.size) ∗ FL c (cell 25) N5 iprop(PT c main_v3_0 (box S2048x7168 ![256 * 4, 0] S256x7168.size) (G5 X) ∗ PT c cc0_scratch10 (box S2x256x7168 ![0, 0, 0] S1x256x7168.size) (G20 X 4)) ∗ FL c (cell 26) N5 iprop(PT c main_v3_0 (box S2048x7168 ![256 * 5, 0] S256x7168.size) (G5 X) ∗ PT c cc0_scratch10 (box S2x256x7168 ![1, 0, 0] S1x256x7168.size) (G20 X 5)) ∗ BT c (cell 28) N7 (D7 X c) 7 0 ∗ BT c (cell 29) N8 (D8 X c) 7 0 ∗ bigSep (Finset.Ico 0 6) (L1Q X c)) := by
  rw [L1_eq, dxSt6, dxSt7]
  iintro ⟨hO, h12, h13, h14, h15, h16, n16, d17, n17, d18, n18, hd, he, B7, B8, hT, hQ⟩
  iframe hO h12 h13 h14 h15 h16 n16 d17 n17 d18 n18 hd he B7 B8 hQ

theorem uW : box S7168x256 ![512 * 0, 0] ![7168 - 512 * 0, 256] = Finset.univ := box_univ (s := S7168x256) (by decide) (by decide)

theorem L2_in (c : Dev nD) : iprop(PT c cc0_scratch0 Finset.univ X.x ∗ PT c cc0_scratch9 Finset.univ (G19 X) ∗ PA c cc0_scratch11 Finset.univ ∗ PA c main_v3_1 Finset.univ ∗ BT c (cell 27) N6 (D6 X c) 0 0) ⊢ L2 X c 0 := by
  unfold L2
  rw [uW]

theorem L2_out (c : Dev nD) : L2 X c 14 ⊢ iprop(PT c cc0_scratch0 Finset.univ X.x ∗ PT c cc0_scratch9 Finset.univ (G19 X) ∗ BT c (cell 27) N6 (D6 X c) 14 0) := by
  unfold L2
  iintro ⟨h10, h19, h21, h6, hB⟩
  iframe h10 h19 hB

theorem dxGot2 (c : Dev nD) : dxGot X c 2 = PT c main_v3_0 (box S2048x7168 ![256 * 0, 0] S256x7168.size) (G5 X) := if_pos (by decide)
theorem dxGot3 (c : Dev nD) : dxGot X c 3 = PT c main_v3_0 (box S2048x7168 ![256 * 1, 0] S256x7168.size) (G5 X) := if_pos (by decide)
theorem dxGot4 (c : Dev nD) : dxGot X c 4 = PT c main_v3_0 (box S2048x7168 ![256 * 2, 0] S256x7168.size) (G5 X) := if_pos (by decide)
theorem dxGot5 (c : Dev nD) : dxGot X c 5 = PT c main_v3_0 (box S2048x7168 ![256 * 3, 0] S256x7168.size) (G5 X) := if_pos (by decide)

set_option maxHeartbeats 4000000 in
theorem part72 (c : Dev nD) {α : Type} {Q : α → sProp 𝕄} (K : (PUnit) → Prog (TpuEff nD τ sig (Elt F) Λ₀ .tc) α) :
    iprop(PT c main_arg2 (box S7168x256 ![0, 0] S1024x256.size) (X.w) ∗ PA c cc0_scratch1 (box S7168x256 ![0, 0] S1024x256.size) ∗ SV c (cell 0) ∗ PT c main_v0 (box S2048x7168 ![0, 0] S256x1024.size) (X.x) ∗ PA c cc0_scratch0 (box S2048x7168 ![0, 0] S256x1024.size) ∗ SV c (cell 7) ∗ PT c main_arg2 (box S7168x256 ![1024, 0] S1024x256.size) (X.w) ∗ PA c cc0_scratch1 (box S7168x256 ![1024, 0] S1024x256.size) ∗ SV c (cell 1) ∗ PT c main_v0 (box S2048x7168 ![0, 1024] S256x1024.size) (X.x) ∗ PA c cc0_scratch0 (box S2048x7168 ![0, 1024] S256x1024.size) ∗ SV c (cell 8) ∗ PT c main_arg2 (box S7168x256 ![2048, 0] S1024x256.size) (X.w) ∗ PA c cc0_scratch1 (box S7168x256 ![2048, 0] S1024x256.size) ∗ SV c (cell 2) ∗ PT c main_v0 (box S2048x7168 ![0, 2048] S256x1024.size) (X.x) ∗ PA c cc0_scratch0 (box S2048x7168 ![0, 2048] S256x1024.size) ∗ SV c (cell 9) ∗ PT c main_arg2 (box S7168x256 ![3072, 0] S1024x256.size) (X.w) ∗ PA c cc0_scratch1 (box S7168x256 ![3072, 0] S1024x256.size) ∗ SV c (cell 3) ∗ PT c main_v0 (box S2048x7168 ![0, 3072] S256x1024.size) (X.x) ∗ PA c cc0_scratch0 (box S2048x7168 ![0, 3072] S256x1024.size) ∗ SV c (cell 10) ∗ PT c main_arg2 (box S7168x256 ![4096, 0] S1024x256.size) (X.w) ∗ PA c cc0_scratch1 (box S7168x256 ![4096, 0] S1024x256.size) ∗ SV c (cell 4) ∗ PT c main_v0 (box S2048x7168 ![0, 4096] S256x1024.size) (X.x) ∗ PA c cc0_scratch0 (box S2048x7168 ![0, 4096] S256x1024.size) ∗ SV c (cell 11) ∗ PT c main_arg2 (box S7168x256 ![5120, 0] S1024x256.size) (X.w) ∗ PA c cc0_scratch1 (box S7168x256 ![5120, 0] S1024x256.size) ∗ SV c (cell 5) ∗ PT c main_v0 (box S2048x7168 ![0, 5120] S256x1024.size) (X.x) ∗ PA c cc0_scratch0 (box S2048x7168 ![0, 5120] S256x1024.size) ∗ SV c (cell 12) ∗ PT c main_arg2 (box S7168x256 ![6144, 0] S1024x256.size) (X.w) ∗ PA c cc0_scratch1 (box S7168x256 ![6144, 0] S1024x256.size) ∗ SV c (cell 6) ∗ PT c main_v0 (box S2048x7168 ![0, 6144] S256x1024.size) (X.x) ∗ PA c cc0_scratch0 (box S2048x7168 ![0, 6144] S256x1024.size) ∗ SV c (cell 13) ∗ PT c main_v1 Finset.univ (X.ids) ∗ PA c cc0_scratch3 Finset.univ ∗ SV c (cell 22) ∗ PT c main_v2 Finset.univ (X.dg) ∗ PA c cc0_scratch4 Finset.univ ∗ SV c (cell 23) ∗ PT c main_arg1 Finset.univ (X.xs) ∗ PA c cc0_scratch5 Finset.univ ∗ SV c (cell 24) ∗ PT c main_v0 (box S2048x7168 ![256 * 1, 0] S256x7168.size) (X.x) ∗ PA c cc0_scratch0 (box S2048x7168 ![256 * 1, 0] S256x7168.size) ∗ SV c (cell 15) ∗ PT c main_v0 (box S2048x7168 ![256 * 2, 0] S256x7168.size) (X.x) ∗ PA c cc0_scratch0 (box S2048x7168 ![256 * 2, 0] S256x7168.size) ∗ SV c (cell 16) ∗ PT c main_v0 (box S2048x7168 ![256 * 3, 0] S256x7168.size) (X.x) ∗ PA c cc0_scratch0 (box S2048x7168 ![256 * 3, 0] S256x7168.size) ∗ SV c (cell 17) ∗ PT c main_v0 (box S2048x7168 ![256 * 4, 0] S256x7168.size) (X.x) ∗ PA c cc0_scratch0 (box S2048x7168 ![256 * 4, 0] S256x7168.size) ∗ SV c (cell 18) ∗ PT c main_v0 (box S2048x7168 ![256 * 5, 0] S256x7168.size) (X.x) ∗ PA c cc0_scratch0 (box S2048x7168 ![256 * 5, 0] S256x7168.size) ∗ SV c (cell 19) ∗ PT c main_v0 (box S2048x7168 ![256 * 6, 0] S256x7168.size) (X.x) ∗ PA c cc0_scratch0 (box S2048x7168 ![256 * 6, 0] S256x7168.size) ∗ SV c (cell 20) ∗ PT c main_v0 (box S2048x7168 ![256 * 7, 0] S256x7168.size) (X.x) ∗ PA c cc0_scratch0 (box S2048x7168 ![256 * 7, 0] S256x7168.size) ∗ SV c (cell 21) ∗ Ow c ∗ PA c cc0_scratch2 (box S256x7168 ![0, 0] S256x1024.size) ∗ PA c cc0_scratch2 (box S256x7168 ![0, 1024] S256x1024.size) ∗ PA c cc0_scratch2 (box S256x7168 ![0, 2048] S256x1024.size) ∗ PA c cc0_scratch2 (box S256x7168 ![0, 3072] S256x1024.size) ∗ PA c cc0_scratch2 (box S256x7168 ![0, 4096] S256x1024.size) ∗ PA c cc0_scratch2 (box S256x7168 ![0, 5120] S256x1024.size) ∗ PA c cc0_scratch2 (box S256x7168 ![0, 6144] S256x1024.size) ∗ PA c cc0_scratch6 (box S2x256x256 ![0, 0, 0] S1x256x256.size) ∗ PA c cc0_scratch6 (box S2x256x256 ![1, 0, 0] S1x256x256.size) ∗ PA c cc0_scratch9 (box S16x256x128 ![0, 0, 0] S1x256x128.size) ∗ PA c cc0_scratch14 (box S16x128 ![0, 0] S1x128.size) ∗ PA c cc0_scratch12 (box S2048x256 ![0, 0] S128x256.size) ∗ PA c cc0_scratch7 (box S2x256x256 ![0, 0, 0] S1x128x256.size) ∗ PA c cc0_scratch13 (box S2048x256 ![0, 0] S128x256.size) ∗ PA c cc0_scratch8 (box S2x256x128 ![0, 0, 0] S1x128x128.size) ∗ PA c cc0_scratch9 (box S16x256x128 ![1, 0, 0] S1x256x128.size) ∗ PA c cc0_scratch14 (box S16x128 ![1, 0] S1x128.size) ∗ PA c cc0_scratch12 (box S2048x256 ![128, 0] S128x256.size) ∗ PA c cc0_scratch7 (box S2x256x256 ![0, 128, 0] S1x128x256.size) ∗ PA c cc0_scratch13 (box S2048x256 ![128, 0] S128x256.size) ∗ PA c cc0_scratch8 (box S2x256x128 ![0, 128, 0] S1x128x128.size) ∗ PA c main_v3_2 (box S2048x256 ![256 * 0, 0] S256x256.size) ∗ BT c (cell 28) N7 (D7 X c) 0 0 ∗ PA c main_v3_3 (box S2048x256 ![256 * 0, 0] S256x256.size) ∗ BT c (cell 29) N8 (D8 X c) 0 0 ∗ PA c cc0_scratch7 (box S2x256x256 ![1, 0, 0] S1x256x256.size) ∗ PA c cc0_scratch8 (box S2x256x128 ![1, 0, 0] S1x256x128.size) ∗ dxSt X c 0 ∗ dxSt X c 1 ∗ L1R c 0 ∗ L1R c 1 ∗ L1R c 2 ∗ L1R c 3 ∗ L1R c 4 ∗ L1R c 5 ∗ L1R c 6 ∗ PA c main_v3_4 Finset.univ ∗ SV c (cell 30) ∗ PA c cc0_scratch11 Finset.univ ∗ PA c main_v3_1 Finset.univ ∗ BT c (cell 27) N6 (D6 X c) 0 0 ∗ PA c main_v3_0 (box S2048x7168 ![256 * 7, 0] S256x7168.size))
      ⊢ iprop((iprop(PT c cc0_scratch1 (box S7168x256 ![0, 0] S1024x256.size) (X.w) ∗ PT c main_arg2 (box S7168x256 ![0, 0] S1024x256.size) (X.w) ∗ SV c (cell 0) ∗ PT c main_v0 (box S2048x7168 ![0, 0] S256x1024.size) (X.x) ∗ SV c (cell 7) ∗ PT c cc0_scratch1 (box S7168x256 ![1024, 0] S1024x256.size) (X.w) ∗ PT c main_arg2 (box S7168x256 ![1024, 0] S1024x256.size) (X.w) ∗ SV c (cell 1) ∗ PT c main_v0 (box S2048x7168 ![0, 1024] S256x1024.size) (X.x) ∗ SV c (cell 8) ∗ PT c cc0_scratch1 (box S7168x256 ![2048, 0] S1024x256.size) (X.w) ∗ PT c main_arg2 (box S7168x256 ![2048, 0] S1024x256.size) (X.w) ∗ SV c (cell 2) ∗ PT c main_v0 (box S2048x7168 ![0, 2048] S256x1024.size) (X.x) ∗ SV c (cell 9) ∗ PT c cc0_scratch1 (box S7168x256 ![3072, 0] S1024x256.size) (X.w) ∗ PT c main_arg2 (box S7168x256 ![3072, 0] S1024x256.size) (X.w) ∗ SV c (cell 3) ∗ PT c main_v0 (box S2048x7168 ![0, 3072] S256x1024.size) (X.x) ∗ SV c (cell 10) ∗ PT c cc0_scratch1 (box S7168x256 ![4096, 0] S1024x256.size) (X.w) ∗ PT c main_arg2 (box S7168x256 ![4096, 0] S1024x256.size) (X.w) ∗ SV c (cell 4) ∗ PT c main_v0 (box S2048x7168 ![0, 4096] S256x1024.size) (X.x) ∗ SV c (cell 11) ∗ PT c cc0_scratch1 (box S7168x256 ![5120, 0] S1024x256.size) (X.w) ∗ PT c main_arg2 (box S7168x256 ![5120, 0] S1024x256.size) (X.w) ∗ SV c (cell 5) ∗ PT c main_v0 (box S2048x7168 ![0, 5120] S256x1024.size) (X.x) ∗ SV c (cell 12) ∗ PT c cc0_scratch1 (box S7168x256 ![6144, 0] S1024x256.size) (X.w) ∗ PT c main_arg2 (box S7168x256 ![6144, 0] S1024x256.size) (X.w) ∗ SV c (cell 6) ∗ PT c main_v0 (box S2048x7168 ![0, 6144] S256x1024.size) (X.x) ∗ SV c (cell 13) ∗ PT c main_v1 Finset.univ (X.ids) ∗ SV c (cell 22) ∗ PT c main_v2 Finset.univ (X.dg) ∗ SV c (cell 23) ∗ PT c main_arg1 Finset.univ (X.xs) ∗ SV c (cell 24) ∗ PT c main_v0 (box S2048x7168 ![256 * 1, 0] S256x7168.size) (X.x) ∗ SV c (cell 15) ∗ Ow c ∗ PT c cc0_scratch2 Finset.univ (G12 X) ∗ PT c cc0_scratch3 Finset.univ (X.ids) ∗ PT c cc0_scratch4 Finset.univ (X.dg) ∗ PT c cc0_scratch5 Finset.univ (X.xs) ∗ PT c cc0_scratch6 (box S2x256x256 ![1, 0, 0] S1x256x256.size) (G16 X (7)) ∗ PA c cc0_scratch6 (box S2x256x256 ![0, 0, 0] S1x256x256.size) ∗ PT c cc0_scratch7 (box S2x256x256 ![0, 0, 0] S1x256x256.size) (G17 X 6) ∗ PT c cc0_scratch8 (box S2x256x128 ![0, 0, 0] S1x256x128.size) (G18 X 6) ∗ bigSep Finset.univ (D7 X c) ∗ bigSep Finset.univ (D8 X c) ∗ PT c main_v3_0 (box S2048x7168 ![256 * 4, 0] S256x7168.size) ((G5 X)) ∗ PT c main_v0 (box S2048x7168 ![256 * (0 + 2), 0] S256x7168.size) (X.x) ∗ SV c (cell (14 + (0 + 2))) ∗ dxGot X c 0 ∗ PT c main_v0 (box S2048x7168 ![256 * (1 + 2), 0] S256x7168.size) (X.x) ∗ SV c (cell (14 + (1 + 2))) ∗ dxGot X c 1 ∗ PT c main_v0 (box S2048x7168 ![256 * (2 + 2), 0] S256x7168.size) (X.x) ∗ SV c (cell (14 + (2 + 2))) ∗ PT c main_v3_0 (box S2048x7168 ![256 * 0, 0] S256x7168.size) (G5 X) ∗ PT c main_v0 (box S2048x7168 ![256 * (3 + 2), 0] S256x7168.size) (X.x) ∗ SV c (cell (14 + (3 + 2))) ∗ PT c main_v3_0 (box S2048x7168 ![256 * 1, 0] S256x7168.size) (G5 X) ∗ PT c main_v0 (box S2048x7168 ![256 * (4 + 2), 0] S256x7168.size) (X.x) ∗ SV c (cell (14 + (4 + 2))) ∗ PT c main_v3_0 (box S2048x7168 ![256 * 2, 0] S256x7168.size) (G5 X) ∗ PT c main_v0 (box S2048x7168 ![256 * (5 + 2), 0] S256x7168.size) (X.x) ∗ SV c (cell (14 + (5 + 2))) ∗ PT c main_v3_0 (box S2048x7168 ![256 * 3, 0] S256x7168.size) (G5 X) ∗ PT c cc0_scratch7 (box S2x256x256 ![1, 0, 0] S1x256x256.size) (G17 X 7) ∗ PT c cc0_scratch8 (box S2x256x128 ![1, 0, 0] S1x256x128.size) (G18 X 7) ∗ PT c main_v3_0 (box S2048x7168 ![256 * 5, 0] S256x7168.size) ((G5 X)) ∗ SV c (cell 26) ∗ PT c main_v3_0 (box S2048x7168 ![256 * 7, 0] S256x7168.size) ((G5 X)) ∗ PT c main_v3_0 (box S2048x7168 ![256 * 6, 0] S256x7168.size) ((G5 X)) ∗ PT c cc0_scratch10 (box S2x256x7168 ![0, 0, 0] S1x256x7168.size) ((G20 X 6)) ∗ SV c (cell 25) ∗ PT c cc0_scratch10 (box S2x256x7168 ![1, 0, 0] S1x256x7168.size) ((G20 X 7)) ∗ PT c cc0_scratch0 Finset.univ X.x ∗ PT c cc0_scratch9 Finset.univ (G19 X) ∗ BT c (cell 27) N6 (D6 X c) 14 10 ∗ SV c (cell 28) ∗ SV c (cell 29) ∗ PT c main_v3_4 Finset.univ ((G24 X)) ∗ PT c cc0_scratch14 Finset.univ ((G24 X)) ∗ SV c (cell 30)) -∗ WP c (K ⟨⟩) Q)
        -∗ WP c (At k0_part72 >>= K) Q) := by
  rw [k0_part72_eq_skeleton]
  unfold At k0_part72_skel
  simp only [bind_assoc, pure_bind]
  iintro ⟨s2_0, h11_0, v0, s0_0, h10_0, v7, s2_1, h11_1, v1, s0_1, h10_1, v8, s2_2, h11_2, v2, s0_2, h10_2, v9, s2_3, h11_3, v3, s0_3, h10_3, v10, s2_4, h11_4, v4, s0_4, h10_4, v11, s2_5, h11_5, v5, s0_5, h10_5, v12, s2_6, h11_6, v6, s0_6, h10_6, v13, s3, h13, v22, s4, h14, v23, s1, h15, v24, sx_1, hx_1, v15, sx_2, hx_2, v16, sx_3, hx_3, v17, sx_4, hx_4, v18, sx_5, hx_5, v19, sx_6, hx_6, v20, sx_7, hx_7, v21, hO, h12_0, h12_1, h12_2, h12_3, h12_4, h12_5, h12_6, h16, n16, h19a, h24a, h22a, h17a, h23a, h18a, h19b, h24b, h22b, h17b, h23b, h18b, u7, B7, u8, B8, n17, n18, hd, he, r_0, r_1, r_2, r_3, r_4, r_5, r_6, u9, v30, h21, u6, B6, u5_7⟩ HK
  iapply (part22 X c) $$ [s2_0 h11_0 v0 s0_0 h10_0 v7 s2_1 h11_1 v1 s0_1 h10_1 v8 s2_2 h11_2 v2 s0_2 h10_2 v9]
  · iframe s2_0 h11_0 v0 s0_0 h10_0 v7 s2_1 h11_1 v1 s0_1 h10_1 v8 s2_2 h11_2 v2 s0_2 h10_2 v9
  iintro ⟨f0, f7, f1, f8, f2, f9⟩
  iapply (part23 X c) $$ [s2_3 h11_3 v3 s0_3 h10_3 v10 s2_4 h11_4 v4 s0_4 h10_4 v11 s2_5 h11_5 v5 s0_5 h10_5 v12]
  · iframe s2_3 h11_3 v3 s0_3 h10_3 v10 s2_4 h11_4 v4 s0_4 h10_4 v11 s2_5 h11_5 v5 s0_5 h10_5 v12
  iintro ⟨f3, f10, f4, f11, f5, f12⟩
  iapply (part24 X c) $$ [s2_6 h11_6 v6 s0_6 h10_6 v13 s3 h13 v22 s4 h14 v23 s1 h15 v24 sx_1 hx_1 v15 sx_2 hx_2 v16]
  · iframe s2_6 h11_6 v6 s0_6 h10_6 v13 s3 h13 v22 s4 h14 v23 s1 h15 v24 sx_1 hx_1 v15 sx_2 hx_2 v16
  iintro ⟨f6, f13, f22, f23, f24, f15, f16⟩
  iapply (part25 X c) $$ [sx_3 hx_3 v17 sx_4 hx_4 v18 sx_5 hx_5 v19 sx_6 hx_6 v20 sx_7 hx_7 v21]
  · iframe sx_3 hx_3 v17 sx_4 hx_4 v18 sx_5 hx_5 v19 sx_6 hx_6 v20 sx_7 hx_7 v21
  iintro ⟨f17, f18, f19, f20, f21⟩
  iapply (part26 X c) $$ [hO f0 f7 h12_0 f1 f8 h12_1]
  · iframe hO f0 f7 h12_0 f1 f8 h12_1
  iintro ⟨hO, h11_0, s2_0, v0, h10_0, s0_0, v7, h12_0, h11_1, s2_1, v1, h10_1, s0_1, v8, h12_1⟩
  iapply (part27 X c) $$ [h12_1 h10_1 hO f2 f9 h12_2 f3]
  · iframe h12_1 h10_1 hO f2 f9 h12_2 f3
  iintro ⟨h12_1, h10_1, hO, h11_2, s2_2, v2, h10_2, s0_2, v9, h12_2, h11_3, s2_3, v3⟩
  iapply (part28 X c) $$ [hO f10 h11_3 h12_3 f4 f11 h12_4]
  · iframe hO f10 h11_3 h12_3 f4 f11 h12_4
  iintro ⟨hO, h10_3, s0_3, v10, h11_3, h12_3, h11_4, s2_4, v4, h10_4, s0_4, v11, h12_4⟩
  iapply (part29 X c) $$ [hO f5 f12 h12_5 f6 f13 h12_6]
  · iframe hO f5 f12 h12_5 f6 f13 h12_6
  iintro ⟨hO, h11_5, s2_5, v5, h10_5, s0_5, v12, h12_5, h11_6, s2_6, v6, h10_6, s0_6, v13, h12_6⟩
  iapply (part30 X c) $$ [h12_6 h10_6 h16 hO f22 f23 f24 f15 h12_0 h12_1 h12_2 h12_3 h12_4 h12_5 n16]
  · iframe h12_6 h10_6 h16 hO f22 f23 f24 f15 h12_0 h12_1 h12_2 h12_3 h12_4 h12_5 n16
  iintro ⟨h10_6, h16, hO, h13, s3, v22, h14, s4, v23, h15, s1, v24, hx_1, sx_1, v15, h12, n16⟩
  iapply (part31 X c) $$ [h13 h14 h15]
  · iframe h13 h14 h15
  iintro ⟨h13, h14, h15⟩
  iapply (part32 X c)
  iapply (part33 X c)
  iapply (part34 X c)
  iapply (part35 X c)
  iapply (part36 X c) $$ [h19a h24a h22a h17a h23a]
  · iframe h19a h24a h22a h17a h23a
  iintro ⟨h19a, h24a, h22a, h17a, h23a⟩
  iapply (part37 X c) $$ [h18a h16 h13 h14 h15]
  · iframe h18a h16 h13 h14 h15
  iintro ⟨h18a, h16, h13, h14, h15⟩
  iapply (part38 X c)
  iapply (part39 X c)
  iapply (part40 X c)
  iapply (part41 X c)
  iapply (part42 X c) $$ [h19b h24b h22b h17b]
  · iframe h19b h24b h22b h17b
  iintro %v787 ⟨h19b, h24b, h22b, h17b⟩
  iapply (part43 X c v787) $$ [h17b h23b h18b h22a h22b u7 B7 h23a u8 B8]
  · iframe h17b h23b h18b h22a h22b u7 B7 h23a u8 B8
  iintro ⟨h17b, h18b, B7, B8⟩
  icases h19a with p19a
  icases h19b with p19b
  icases h24a with p24a
  icases h24b with p24b
  ihave d17 := (Entails.of_eq (hf17 (c := c) 0 (G17 X 0)).symm) $$ [h17a h17b]
  · iframe h17a h17b
  ihave d18 := (Entails.of_eq (hf18 (c := c) 0 (G18 X 0)).symm) $$ [h18a h18b]
  · iframe h18a h18b
  ihave h16 := (pa (c := c)) $$ h16
  ihave hT := (mkT X c) $$ [f16 f17 f18 f19 f20 f21 r_0 r_1 r_2 r_3 r_4 r_5]
  · iframe f16 f17 f18 f19 f20 f21 r_0 r_1 r_2 r_3 r_4 r_5
  ihave hL := (L1_in X c) $$ [hO h12 h13 h14 h15 n16 h16 d17 n17 d18 n18 hd he B7 B8 hT]
  · iframe hO h12 h13 h14 h15 n16 h16 d17 n17 d18 n18 hd he B7 B8 hT
  iapply (loop1 X c _ _ _ _) $$ hL
  iintro hL
  ihave hL := (L1_out X c) $$ hL
  icases hL with ⟨hO, h12, h13, h14, h15, h16, n16, d17, n17, d18, n18, f25, f26, B7, B8, hQ⟩
  ihave n17 := (hf17A (c := c) 1) $$ n17
  icases n17 with ⟨h17a, h17b⟩
  ihave n18 := (hf18A (c := c) 1) $$ n18
  icases n18 with ⟨h18a, h18b⟩
  ihave r_6 := (Entails.of_eq (L1R_eq c 6)) $$ r_6
  icases r_6 with ⟨h19a, h19b, h24a, h24b, h22a, h22b, h23a, h23b, u5_6, x7, x8⟩
  iapply (part44 X c) $$ [hO f25 h16 h13 h14 h15]
  · iframe hO f25 h16 h13 h14 h15
  iintro ⟨hO, u5_4, h20, v25, h16, h13, h14, h15⟩
  iapply (part45 X c)
  iapply (part46 X c)
  iapply (part47 X c)
  iapply (part48 X c)
  iapply (part49 X c) $$ [h19a h24a h22a h17a]
  · iframe h19a h24a h22a h17a
  iintro ⟨h19a, h24a, h22a, h17a⟩
  iapply (part50 X c) $$ [h23a h18a h16 h13 h14 h15]
  · iframe h23a h18a h16 h13 h14 h15
  iintro ⟨h23a, h18a, h16, h13, h14, h15⟩
  iapply (part51 X c)
  iapply (part52 X c)
  iapply (part53 X c)
  iapply (part54 X c)
  iapply (part55 X c) $$ [h19b h24b h22b]
  · iframe h19b h24b h22b
  iintro %v1365 ⟨h19b, h24b, h22b⟩
  ihave h20 := (pa (c := c)) $$ h20
  ihave h20 := (ch20A (c := c) 0) $$ h20
  icases h20 with ⟨h20_0, h20_1, h20_2, h20_3, h20_4, h20_5, h20_6, h20_7, h20_8, h20_9, h20_10, h20_11, h20_12, h20_13⟩
  iapply (part56 X c v1365) $$ [h22b h17b h23b h18b d18 d17 h12 h20_0]
  · iframe h22b h17b h23b h18b d18 d17 h12 h20_0
  iintro ⟨h22b, h17b, h23b, h18b, d18, d17, h12, h20_0⟩
  iapply (part57 X c) $$ [h12 h20_1 d17 h20_2 h20_3]
  · iframe h12 h20_1 d17 h20_2 h20_3
  iintro ⟨h12, h20_1, d17, h20_2, h20_3⟩
  iapply (part58 X c) $$ [h12 h20_4 d17 h20_5 h20_6]
  · iframe h12 h20_4 d17 h20_5 h20_6
  iintro ⟨h12, h20_4, d17, h20_5, h20_6⟩
  iapply (part59 X c) $$ [h12 h20_7 d17 h20_8 h20_9]
  · iframe h12 h20_7 d17 h20_8 h20_9
  iintro ⟨h12, h20_7, d17, h20_8, h20_9⟩
  iapply (part60 X c) $$ [h12 h20_10 d17 h20_11 h20_12]
  · iframe h12 h20_10 d17 h20_11 h20_12
  iintro ⟨h12, h20_10, d17, h20_11, h20_12⟩
  ihave hQ := (Entails.of_eq (hQ_eq X c)) $$ hQ
  icases hQ with ⟨q_0, q_1, q_2, q_3, q_4, q_5⟩
  ihave q_0 := (Entails.of_eq (L1Q_eq X c 0)) $$ q_0
  icases q_0 with ⟨hx_2, sx_2, v16, g_0, q19a_0, q19b_0, q24a_0, q24b_0⟩
  ihave q_1 := (Entails.of_eq (L1Q_eq X c 1)) $$ q_1
  icases q_1 with ⟨hx_3, sx_3, v17, g_1, q19a_1, q19b_1, q24a_1, q24b_1⟩
  ihave q_2 := (Entails.of_eq (L1Q_eq X c 2)) $$ q_2
  icases q_2 with ⟨hx_4, sx_4, v18, g_2, q19a_2, q19b_2, q24a_2, q24b_2⟩
  ihave g_2 := (Entails.of_eq (dxGot2 X c)) $$ g_2
  ihave q_3 := (Entails.of_eq (L1Q_eq X c 3)) $$ q_3
  icases q_3 with ⟨hx_5, sx_5, v19, g_3, q19a_3, q19b_3, q24a_3, q24b_3⟩
  ihave g_3 := (Entails.of_eq (dxGot3 X c)) $$ g_3
  ihave q_4 := (Entails.of_eq (L1Q_eq X c 4)) $$ q_4
  icases q_4 with ⟨hx_6, sx_6, v20, g_4, q19a_4, q19b_4, q24a_4, q24b_4⟩
  ihave g_4 := (Entails.of_eq (dxGot4 X c)) $$ g_4
  ihave q_5 := (Entails.of_eq (L1Q_eq X c 5)) $$ q_5
  icases q_5 with ⟨hx_7, sx_7, v21, g_5, q19a_5, q19b_5, q24a_5, q24b_5⟩
  ihave g_5 := (Entails.of_eq (dxGot5 X c)) $$ g_5
  ihave h24 := (Entails.of_eq (ch24 (c := c) (G24 X)).symm) $$ [p24a p24b q24a_0 q24b_0 q24a_1 q24b_1 q24a_2 q24b_2 q24a_3 q24b_3 q24a_4 q24b_4 q24a_5 q24b_5 h24a h24b]
  · iframe p24a p24b q24a_0 q24b_0 q24a_1 q24b_1 q24a_2 q24b_2 q24a_3 q24b_3 q24a_4 q24b_4 q24a_5 q24b_5 h24a h24b
  ihave h19 := (Entails.of_eq (ch19 (c := c) (G19 X)).symm) $$ [p19a p19b q19a_0 q19b_0 q19a_1 q19b_1 q19a_2 q19b_2 q19a_3 q19b_3 q19a_4 q19b_4 q19a_5 q19b_5 h19a h19b]
  · iframe p19a p19b q19a_0 q19b_0 q19a_1 q19b_1 q19a_2 q19b_2 q19a_3 q19b_3 q19a_4 q19b_4 q19a_5 q19b_5 h19a h19b
  icases x7 with u7
  icases x8 with u8
  iapply (part61 X c) $$ [h12 h20_13 h20_0 h20_1 h20_2 h20_3 h20_4 h20_5 h20_6 h20_7 h20_8 h20_9 h20_10 h20_11 h20_12 u5_6 v25 h22a h22b u7 B7 h23a h23b u8 B8 h24 u9 v30]
  · iframe h12 h20_13 h20_0 h20_1 h20_2 h20_3 h20_4 h20_5 h20_6 h20_7 h20_8 h20_9 h20_10 h20_11 h20_12 u5_6 v25 h22a h22b u7 B7 h23a h23b u8 B8 h24 u9 v30
  iintro ⟨h12, f25, B7, B8, f30⟩
  ihave e17 := (Entails.of_eq (hf17 (c := c) 1 (G17 X 7)).symm) $$ [h17a h17b]
  · iframe h17a h17b
  ihave e18 := (Entails.of_eq (hf18 (c := c) 1 (G18 X 7)).symm) $$ [h18a h18b]
  · iframe h18a h18b
  iapply (part62 X c) $$ [hO f26 e18 e17 h12]
  · iframe hO f26 e18 e17 h12
  iintro ⟨hO, u5_5, v26, n20_0, n20_1, n20_2, n20_3, n20_4, n20_5, n20_6, n20_7, n20_8, n20_9, n20_10, n20_11, n20_12, n20_13, e18, e17, h12⟩
  iapply (part63 X c) $$ [h12 n20_2 e17 n20_3 n20_4]
  · iframe h12 n20_2 e17 n20_3 n20_4
  iintro ⟨h12, n20_2, e17, n20_3, n20_4⟩
  iapply (part64 X c) $$ [h12 n20_5 e17 n20_6 n20_7]
  · iframe h12 n20_5 e17 n20_6 n20_7
  iintro ⟨h12, n20_5, e17, n20_6, n20_7⟩
  iapply (part65 X c) $$ [h12 n20_8 e17 n20_9 n20_10]
  · iframe h12 n20_8 e17 n20_9 n20_10
  iintro ⟨h12, n20_8, e17, n20_9, n20_10⟩
  iapply (part66 X c) $$ [h12 n20_11 e17 n20_12 n20_13]
  · iframe h12 n20_11 e17 n20_12 n20_13
  iintro ⟨h12, n20_11, e17, n20_12, n20_13⟩
  ihave x0 := (Entails.of_eq (ch0c_s0 (c := c) X.x).symm) $$ [h10_0 h10_1 h10_2 h10_3 h10_4 h10_5 h10_6]
  · iframe h10_0 h10_1 h10_2 h10_3 h10_4 h10_5 h10_6
  ihave h10 := (Entails.of_eq (ch0_s0 (c := c) X.x).symm) $$ [x0 hx_1 hx_2 hx_3 hx_4 hx_5 hx_6 hx_7]
  · iframe x0 hx_1 hx_2 hx_3 hx_4 hx_5 hx_6 hx_7
  ihave hL := (L2_in X c) $$ [h10 h19 h21 u6 B6]
  · iframe h10 h19 h21 u6 B6
  iapply (part67 X c) $$ [n20_0 n20_1 n20_2 n20_3 n20_4 n20_5 n20_6 n20_7 n20_8 n20_9 n20_10 n20_11 n20_12 n20_13 u5_7 v26 hL hO f25 B7]
  · iframe n20_0 n20_1 n20_2 n20_3 n20_4 n20_5 n20_6 n20_7 n20_8 n20_9 n20_10 n20_11 n20_12 n20_13 u5_7 v26 hL hO f25 B7
  iintro ⟨hL, hO, u5_6, h20, v25, u5_7, n20, v26, B7⟩
  ihave hL := (L2_out X c) $$ hL
  icases hL with ⟨h10, h19, B6⟩
  iapply (part68 X c) $$ [hO B8 B7]
  · iframe hO B8 B7
  iintro ⟨hO, B8, B7⟩
  iapply (part69 X c) $$ [hO B7 B8]
  · iframe hO B7 B8
  iintro ⟨hO, B7, B8⟩
  iapply (part70 X c) $$ [hO B8 B7 f30]
  · iframe hO B8 B7 f30
  iintro ⟨hO, B8, B7, v28, v29, u9, h24, v30⟩
  iapply (part71 X c) $$ [hO B6]
  · iframe hO B6
  iintro ⟨hO, B6⟩
  iapply (wtB' (c := c) (D := (D6 X c)) (cell 27) (N := N6) 9 rfl rfl N6_pos (by decide)) $$ [B6 hO]
  · iframe B6 hO
  iintro ⟨B6, hO⟩
  iapply HK
  iframe h11_0 s2_0 v0 s0_0 v7 h11_1 s2_1 v1 s0_1 v8 h11_2 s2_2 v2 s0_2 v9 h11_3 s2_3 v3 s0_3 v10 h11_4 s2_4 v4 s0_4 v11 h11_5 s2_5 v5 s0_5 v12 h11_6 s2_6 v6 s0_6 v13 s3 v22 s4 v23 s1 v24 sx_1 v15 hO h12 h13 h14 h15 h16 n16 d17 d18 B7 B8 u5_4 sx_2 v16 g_0 sx_3 v17 g_1 sx_4 v18 g_2 sx_5 v19 g_3 sx_6 v20 g_4 sx_7 v21 g_5 e17 e18 u5_5 v26 u5_7 u5_6 h20 v25 n20 h10 h19 B6 v28 v29 u9 h24 v30

end Cert.Kernel.Hand
-- ==== Proof.Hand.Kernel.Pieces3.lean ====
/- How the copied blocks make up the results. -/
module

public import proofs.«01_k».proof.Proof.Hand.Kernel.Pieces2

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable {c : Dev nD}

/-- Fourteen blocks of 512 rows. -/
theorem ch6a (f : Buf (Elt F) ((c : Thread nD τ).loc main_v3_1)) :
    PT c main_v3_1 Finset.univ f = iprop(PT c main_v3_1 (box S7168x256 ![512 * 0, 0] S512x256.size) f ∗ PT c main_v3_1 (box S7168x256 ![512 * 1, 0] S512x256.size) f ∗ PT c main_v3_1 (box S7168x256 ![512 * 2, 0] S512x256.size) f ∗ PT c main_v3_1 (box S7168x256 ![512 * 3, 0] S512x256.size) f ∗ PT c main_v3_1 (box S7168x256 ![512 * 4, 0] S512x256.size) f ∗ PT c main_v3_1 (box S7168x256 ![512 * 5, 0] S512x256.size) f ∗ PT c main_v3_1 (box S7168x256 ![512 * 6, 0] S512x256.size) f ∗ PT c main_v3_1 (box S7168x256 ![512 * 7, 0] S512x256.size) f ∗ PT c main_v3_1 (box S7168x256 ![512 * 8, 0] S512x256.size) f ∗ PT c main_v3_1 (box S7168x256 ![512 * 9, 0] S512x256.size) f ∗ PT c main_v3_1 (box S7168x256 ![512 * 10, 0] S512x256.size) f ∗ PT c main_v3_1 (box S7168x256 ![512 * 11, 0] S512x256.size) f ∗ PT c main_v3_1 (box S7168x256 ![512 * 12, 0] S512x256.size) f ∗ PT c main_v3_1 (box S7168x256 ![512 * 13, 0] S512x256.size) f) := by
  rw [show (Finset.univ : Finset (Idx ((c : Thread nD τ).loc main_v3_1))) = (box S7168x256 ![0, 0] ![7168, 256]) from (box_univ (s := S7168x256) (by decide) (by decide)).symm]
  have h0 : PT c main_v3_1 (box S7168x256 ![0, 0] ![7168, 256]) f = iprop(PT c main_v3_1 (box S7168x256 ![512 * 0, 0] S512x256.size) f ∗ PT c main_v3_1 (box S7168x256 ![512, 0] ![6656, 256]) f) :=
    cut2 (bx20 0 (0) 512 6656 7168 (256) 512 rfl rfl).1 (bx20 0 (0) 512 6656 7168 (256) 512 rfl rfl).2
  have h1 : PT c main_v3_1 (box S7168x256 ![512, 0] ![6656, 256]) f = iprop(PT c main_v3_1 (box S7168x256 ![512 * 1, 0] S512x256.size) f ∗ PT c main_v3_1 (box S7168x256 ![1024, 0] ![6144, 256]) f) :=
    cut2 (bx20 512 (0) 512 6144 6656 (256) 1024 rfl rfl).1 (bx20 512 (0) 512 6144 6656 (256) 1024 rfl rfl).2
  have h2 : PT c main_v3_1 (box S7168x256 ![1024, 0] ![6144, 256]) f = iprop(PT c main_v3_1 (box S7168x256 ![512 * 2, 0] S512x256.size) f ∗ PT c main_v3_1 (box S7168x256 ![1536, 0] ![5632, 256]) f) :=
    cut2 (bx20 1024 (0) 512 5632 6144 (256) 1536 rfl rfl).1 (bx20 1024 (0) 512 5632 6144 (256) 1536 rfl rfl).2
  have h3 : PT c main_v3_1 (box S7168x256 ![1536, 0] ![5632, 256]) f = iprop(PT c main_v3_1 (box S7168x256 ![512 * 3, 0] S512x256.size) f ∗ PT c main_v3_1 (box S7168x256 ![2048, 0] ![5120, 256]) f) :=
    cut2 (bx20 1536 (0) 512 5120 5632 (256) 2048 rfl rfl).1 (bx20 1536 (0) 512 5120 5632 (256) 2048 rfl rfl).2
  have h4 : PT c main_v3_1 (box S7168x256 ![2048, 0] ![5120, 256]) f = iprop(PT c main_v3_1 (box S7168x256 ![512 * 4, 0] S512x256.size) f ∗ PT c main_v3_1 (box S7168x256 ![2560, 0] ![4608, 256]) f) :=
    cut2 (bx20 2048 (0) 512 4608 5120 (256) 2560 rfl rfl).1 (bx20 2048 (0) 512 4608 5120 (256) 2560 rfl rfl).2
  have h5 : PT c main_v3_1 (box S7168x256 ![2560, 0] ![4608, 256]) f = iprop(PT c main_v3_1 (box S7168x256 ![512 * 5, 0] S512x256.size) f ∗ PT c main_v3_1 (box S7168x256 ![3072, 0] ![4096, 256]) f) :=
    cut2 (bx20 2560 (0) 512 4096 4608 (256) 3072 rfl rfl).1 (bx20 2560 (0) 512 4096 4608 (256) 3072 rfl rfl).2
  have h6 : PT c main_v3_1 (box S7168x256 ![3072, 0] ![4096, 256]) f = iprop(PT c main_v3_1 (box S7168x256 ![512 * 6, 0] S512x256.size) f ∗ PT c main_v3_1 (box S7168x256 ![3584, 0] ![3584, 256]) f) :=
    cut2 (bx20 3072 (0) 512 3584 4096 (256) 3584 rfl rfl).1 (bx20 3072 (0) 512 3584 4096 (256) 3584 rfl rfl).2
  have h7 : PT c main_v3_1 (box S7168x256 ![3584, 0] ![3584, 256]) f = iprop(PT c main_v3_1 (box S7168x256 ![512 * 7, 0] S512x256.size) f ∗ PT c main_v3_1 (box S7168x256 ![4096, 0] ![3072, 256]) f) :=
    cut2 (bx20 3584 (0) 512 3072 3584 (256) 4096 rfl rfl).1 (bx20 3584 (0) 512 3072 3584 (256) 4096 rfl rfl).2
  have h8 : PT c main_v3_1 (box S7168x256 ![4096, 0] ![3072, 256]) f = iprop(PT c main_v3_1 (box S7168x256 ![512 * 8, 0] S512x256.size) f ∗ PT c main_v3_1 (box S7168x256 ![4608, 0] ![2560, 256]) f) :=
    cut2 (bx20 4096 (0) 512 2560 3072 (256) 4608 rfl rfl).1 (bx20 4096 (0) 512 2560 3072 (256) 4608 rfl rfl).2
  have h9 : PT c main_v3_1 (box S7168x256 ![4608, 0] ![2560, 256]) f = iprop(PT c main_v3_1 (box S7168x256 ![512 * 9, 0] S512x256.size) f ∗ PT c main_v3_1 (box S7168x256 ![5120, 0] ![2048, 256]) f) :=
    cut2 (bx20 4608 (0) 512 2048 2560 (256) 5120 rfl rfl).1 (bx20 4608 (0) 512 2048 2560 (256) 5120 rfl rfl).2
  have h10 : PT c main_v3_1 (box S7168x256 ![5120, 0] ![2048, 256]) f = iprop(PT c main_v3_1 (box S7168x256 ![512 * 10, 0] S512x256.size) f ∗ PT c main_v3_1 (box S7168x256 ![5632, 0] ![1536, 256]) f) :=
    cut2 (bx20 5120 (0) 512 1536 2048 (256) 5632 rfl rfl).1 (bx20 5120 (0) 512 1536 2048 (256) 5632 rfl rfl).2
  have h11 : PT c main_v3_1 (box S7168x256 ![5632, 0] ![1536, 256]) f = iprop(PT c main_v3_1 (box S7168x256 ![512 * 11, 0] S512x256.size) f ∗ PT c main_v3_1 (box S7168x256 ![6144, 0] ![1024, 256]) f) :=
    cut2 (bx20 5632 (0) 512 1024 1536 (256) 6144 rfl rfl).1 (bx20 5632 (0) 512 1024 1536 (256) 6144 rfl rfl).2
  have h12 : PT c main_v3_1 (box S7168x256 ![6144, 0] ![1024, 256]) f = iprop(PT c main_v3_1 (box S7168x256 ![512 * 12, 0] S512x256.size) f ∗ PT c main_v3_1 (box S7168x256 ![512 * 13, 0] S512x256.size) f) :=
    cut2 (bx20 6144 (0) 512 512 1024 (256) 6656 rfl rfl).1 (bx20 6144 (0) 512 512 1024 (256) 6656 rfl rfl).2
  rw [h0, h1, h2, h3, h4, h5, h6, h7, h8, h9, h10, h11, h12]

/-- Fourteen blocks of 512 rows. -/
theorem ch6aA : PA (F := F) c main_v3_1 Finset.univ ⊢ iprop(PA (F := F) c main_v3_1 (box S7168x256 ![512 * 0, 0] S512x256.size) ∗ PA (F := F) c main_v3_1 (box S7168x256 ![512 * 1, 0] S512x256.size) ∗ PA (F := F) c main_v3_1 (box S7168x256 ![512 * 2, 0] S512x256.size) ∗ PA (F := F) c main_v3_1 (box S7168x256 ![512 * 3, 0] S512x256.size) ∗ PA (F := F) c main_v3_1 (box S7168x256 ![512 * 4, 0] S512x256.size) ∗ PA (F := F) c main_v3_1 (box S7168x256 ![512 * 5, 0] S512x256.size) ∗ PA (F := F) c main_v3_1 (box S7168x256 ![512 * 6, 0] S512x256.size) ∗ PA (F := F) c main_v3_1 (box S7168x256 ![512 * 7, 0] S512x256.size) ∗ PA (F := F) c main_v3_1 (box S7168x256 ![512 * 8, 0] S512x256.size) ∗ PA (F := F) c main_v3_1 (box S7168x256 ![512 * 9, 0] S512x256.size) ∗ PA (F := F) c main_v3_1 (box S7168x256 ![512 * 10, 0] S512x256.size) ∗ PA (F := F) c main_v3_1 (box S7168x256 ![512 * 11, 0] S512x256.size) ∗ PA (F := F) c main_v3_1 (box S7168x256 ![512 * 12, 0] S512x256.size) ∗ PA (F := F) c main_v3_1 (box S7168x256 ![512 * 13, 0] S512x256.size)) := by
  iintro ⟨%f, H⟩
  ihave H := (Entails.of_eq (ch6a (c := c) f)) $$ H
  icases H with ⟨H0, H1, H2, H3, H4, H5, H6, H7, H8, H9, H10, H11, H12, H13⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  isplitl [H7]
  · iexists f; iexact H7
  isplitl [H8]
  · iexists f; iexact H8
  isplitl [H9]
  · iexists f; iexact H9
  isplitl [H10]
  · iexists f; iexact H10
  isplitl [H11]
  · iexists f; iexact H11
  isplitl [H12]
  · iexists f; iexact H12
  iexists f; iexact H13

/-- Fourteen blocks of 512 rows. -/
theorem ch6b (f : Buf (Elt F) ((c : Thread nD τ).loc cc0_scratch11)) :
    PT c cc0_scratch11 Finset.univ f = iprop(PT c cc0_scratch11 (box S7168x256 ![512 * 0, 0] S512x256.size) f ∗ PT c cc0_scratch11 (box S7168x256 ![512 * 1, 0] S512x256.size) f ∗ PT c cc0_scratch11 (box S7168x256 ![512 * 2, 0] S512x256.size) f ∗ PT c cc0_scratch11 (box S7168x256 ![512 * 3, 0] S512x256.size) f ∗ PT c cc0_scratch11 (box S7168x256 ![512 * 4, 0] S512x256.size) f ∗ PT c cc0_scratch11 (box S7168x256 ![512 * 5, 0] S512x256.size) f ∗ PT c cc0_scratch11 (box S7168x256 ![512 * 6, 0] S512x256.size) f ∗ PT c cc0_scratch11 (box S7168x256 ![512 * 7, 0] S512x256.size) f ∗ PT c cc0_scratch11 (box S7168x256 ![512 * 8, 0] S512x256.size) f ∗ PT c cc0_scratch11 (box S7168x256 ![512 * 9, 0] S512x256.size) f ∗ PT c cc0_scratch11 (box S7168x256 ![512 * 10, 0] S512x256.size) f ∗ PT c cc0_scratch11 (box S7168x256 ![512 * 11, 0] S512x256.size) f ∗ PT c cc0_scratch11 (box S7168x256 ![512 * 12, 0] S512x256.size) f ∗ PT c cc0_scratch11 (box S7168x256 ![512 * 13, 0] S512x256.size) f) := by
  rw [show (Finset.univ : Finset (Idx ((c : Thread nD τ).loc cc0_scratch11))) = (box S7168x256 ![0, 0] ![7168, 256]) from (box_univ (s := S7168x256) (by decide) (by decide)).symm]
  have h0 : PT c cc0_scratch11 (box S7168x256 ![0, 0] ![7168, 256]) f = iprop(PT c cc0_scratch11 (box S7168x256 ![512 * 0, 0] S512x256.size) f ∗ PT c cc0_scratch11 (box S7168x256 ![512, 0] ![6656, 256]) f) :=
    cut2 (bx20 0 (0) 512 6656 7168 (256) 512 rfl rfl).1 (bx20 0 (0) 512 6656 7168 (256) 512 rfl rfl).2
  have h1 : PT c cc0_scratch11 (box S7168x256 ![512, 0] ![6656, 256]) f = iprop(PT c cc0_scratch11 (box S7168x256 ![512 * 1, 0] S512x256.size) f ∗ PT c cc0_scratch11 (box S7168x256 ![1024, 0] ![6144, 256]) f) :=
    cut2 (bx20 512 (0) 512 6144 6656 (256) 1024 rfl rfl).1 (bx20 512 (0) 512 6144 6656 (256) 1024 rfl rfl).2
  have h2 : PT c cc0_scratch11 (box S7168x256 ![1024, 0] ![6144, 256]) f = iprop(PT c cc0_scratch11 (box S7168x256 ![512 * 2, 0] S512x256.size) f ∗ PT c cc0_scratch11 (box S7168x256 ![1536, 0] ![5632, 256]) f) :=
    cut2 (bx20 1024 (0) 512 5632 6144 (256) 1536 rfl rfl).1 (bx20 1024 (0) 512 5632 6144 (256) 1536 rfl rfl).2
  have h3 : PT c cc0_scratch11 (box S7168x256 ![1536, 0] ![5632, 256]) f = iprop(PT c cc0_scratch11 (box S7168x256 ![512 * 3, 0] S512x256.size) f ∗ PT c cc0_scratch11 (box S7168x256 ![2048, 0] ![5120, 256]) f) :=
    cut2 (bx20 1536 (0) 512 5120 5632 (256) 2048 rfl rfl).1 (bx20 1536 (0) 512 5120 5632 (256) 2048 rfl rfl).2
  have h4 : PT c cc0_scratch11 (box S7168x256 ![2048, 0] ![5120, 256]) f = iprop(PT c cc0_scratch11 (box S7168x256 ![512 * 4, 0] S512x256.size) f ∗ PT c cc0_scratch11 (box S7168x256 ![2560, 0] ![4608, 256]) f) :=
    cut2 (bx20 2048 (0) 512 4608 5120 (256) 2560 rfl rfl).1 (bx20 2048 (0) 512 4608 5120 (256) 2560 rfl rfl).2
  have h5 : PT c cc0_scratch11 (box S7168x256 ![2560, 0] ![4608, 256]) f = iprop(PT c cc0_scratch11 (box S7168x256 ![512 * 5, 0] S512x256.size) f ∗ PT c cc0_scratch11 (box S7168x256 ![3072, 0] ![4096, 256]) f) :=
    cut2 (bx20 2560 (0) 512 4096 4608 (256) 3072 rfl rfl).1 (bx20 2560 (0) 512 4096 4608 (256) 3072 rfl rfl).2
  have h6 : PT c cc0_scratch11 (box S7168x256 ![3072, 0] ![4096, 256]) f = iprop(PT c cc0_scratch11 (box S7168x256 ![512 * 6, 0] S512x256.size) f ∗ PT c cc0_scratch11 (box S7168x256 ![3584, 0] ![3584, 256]) f) :=
    cut2 (bx20 3072 (0) 512 3584 4096 (256) 3584 rfl rfl).1 (bx20 3072 (0) 512 3584 4096 (256) 3584 rfl rfl).2
  have h7 : PT c cc0_scratch11 (box S7168x256 ![3584, 0] ![3584, 256]) f = iprop(PT c cc0_scratch11 (box S7168x256 ![512 * 7, 0] S512x256.size) f ∗ PT c cc0_scratch11 (box S7168x256 ![4096, 0] ![3072, 256]) f) :=
    cut2 (bx20 3584 (0) 512 3072 3584 (256) 4096 rfl rfl).1 (bx20 3584 (0) 512 3072 3584 (256) 4096 rfl rfl).2
  have h8 : PT c cc0_scratch11 (box S7168x256 ![4096, 0] ![3072, 256]) f = iprop(PT c cc0_scratch11 (box S7168x256 ![512 * 8, 0] S512x256.size) f ∗ PT c cc0_scratch11 (box S7168x256 ![4608, 0] ![2560, 256]) f) :=
    cut2 (bx20 4096 (0) 512 2560 3072 (256) 4608 rfl rfl).1 (bx20 4096 (0) 512 2560 3072 (256) 4608 rfl rfl).2
  have h9 : PT c cc0_scratch11 (box S7168x256 ![4608, 0] ![2560, 256]) f = iprop(PT c cc0_scratch11 (box S7168x256 ![512 * 9, 0] S512x256.size) f ∗ PT c cc0_scratch11 (box S7168x256 ![5120, 0] ![2048, 256]) f) :=
    cut2 (bx20 4608 (0) 512 2048 2560 (256) 5120 rfl rfl).1 (bx20 4608 (0) 512 2048 2560 (256) 5120 rfl rfl).2
  have h10 : PT c cc0_scratch11 (box S7168x256 ![5120, 0] ![2048, 256]) f = iprop(PT c cc0_scratch11 (box S7168x256 ![512 * 10, 0] S512x256.size) f ∗ PT c cc0_scratch11 (box S7168x256 ![5632, 0] ![1536, 256]) f) :=
    cut2 (bx20 5120 (0) 512 1536 2048 (256) 5632 rfl rfl).1 (bx20 5120 (0) 512 1536 2048 (256) 5632 rfl rfl).2
  have h11 : PT c cc0_scratch11 (box S7168x256 ![5632, 0] ![1536, 256]) f = iprop(PT c cc0_scratch11 (box S7168x256 ![512 * 11, 0] S512x256.size) f ∗ PT c cc0_scratch11 (box S7168x256 ![6144, 0] ![1024, 256]) f) :=
    cut2 (bx20 5632 (0) 512 1024 1536 (256) 6144 rfl rfl).1 (bx20 5632 (0) 512 1024 1536 (256) 6144 rfl rfl).2
  have h12 : PT c cc0_scratch11 (box S7168x256 ![6144, 0] ![1024, 256]) f = iprop(PT c cc0_scratch11 (box S7168x256 ![512 * 12, 0] S512x256.size) f ∗ PT c cc0_scratch11 (box S7168x256 ![512 * 13, 0] S512x256.size) f) :=
    cut2 (bx20 6144 (0) 512 512 1024 (256) 6656 rfl rfl).1 (bx20 6144 (0) 512 512 1024 (256) 6656 rfl rfl).2
  rw [h0, h1, h2, h3, h4, h5, h6, h7, h8, h9, h10, h11, h12]

/-- Fourteen blocks of 512 rows. -/
theorem ch6bA : PA (F := F) c cc0_scratch11 Finset.univ ⊢ iprop(PA (F := F) c cc0_scratch11 (box S7168x256 ![512 * 0, 0] S512x256.size) ∗ PA (F := F) c cc0_scratch11 (box S7168x256 ![512 * 1, 0] S512x256.size) ∗ PA (F := F) c cc0_scratch11 (box S7168x256 ![512 * 2, 0] S512x256.size) ∗ PA (F := F) c cc0_scratch11 (box S7168x256 ![512 * 3, 0] S512x256.size) ∗ PA (F := F) c cc0_scratch11 (box S7168x256 ![512 * 4, 0] S512x256.size) ∗ PA (F := F) c cc0_scratch11 (box S7168x256 ![512 * 5, 0] S512x256.size) ∗ PA (F := F) c cc0_scratch11 (box S7168x256 ![512 * 6, 0] S512x256.size) ∗ PA (F := F) c cc0_scratch11 (box S7168x256 ![512 * 7, 0] S512x256.size) ∗ PA (F := F) c cc0_scratch11 (box S7168x256 ![512 * 8, 0] S512x256.size) ∗ PA (F := F) c cc0_scratch11 (box S7168x256 ![512 * 9, 0] S512x256.size) ∗ PA (F := F) c cc0_scratch11 (box S7168x256 ![512 * 10, 0] S512x256.size) ∗ PA (F := F) c cc0_scratch11 (box S7168x256 ![512 * 11, 0] S512x256.size) ∗ PA (F := F) c cc0_scratch11 (box S7168x256 ![512 * 12, 0] S512x256.size) ∗ PA (F := F) c cc0_scratch11 (box S7168x256 ![512 * 13, 0] S512x256.size)) := by
  iintro ⟨%f, H⟩
  ihave H := (Entails.of_eq (ch6b (c := c) f)) $$ H
  icases H with ⟨H0, H1, H2, H3, H4, H5, H6, H7, H8, H9, H10, H11, H12, H13⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  isplitl [H7]
  · iexists f; iexact H7
  isplitl [H8]
  · iexists f; iexact H8
  isplitl [H9]
  · iexists f; iexact H9
  isplitl [H10]
  · iexists f; iexact H10
  isplitl [H11]
  · iexists f; iexact H11
  isplitl [H12]
  · iexists f; iexact H12
  iexists f; iexact H13

/-- Eight blocks of 256 rows. -/
theorem ch7b (f : Buf (Elt F) ((c : Thread nD τ).loc cc0_scratch12)) :
    PT c cc0_scratch12 Finset.univ f = iprop(PT c cc0_scratch12 (box S2048x256 ![256 * 0, 0] S256x256.size) f ∗ PT c cc0_scratch12 (box S2048x256 ![256 * 1, 0] S256x256.size) f ∗ PT c cc0_scratch12 (box S2048x256 ![256 * 2, 0] S256x256.size) f ∗ PT c cc0_scratch12 (box S2048x256 ![256 * 3, 0] S256x256.size) f ∗ PT c cc0_scratch12 (box S2048x256 ![256 * 4, 0] S256x256.size) f ∗ PT c cc0_scratch12 (box S2048x256 ![256 * 5, 0] S256x256.size) f ∗ PT c cc0_scratch12 (box S2048x256 ![256 * 6, 0] S256x256.size) f ∗ PT c cc0_scratch12 (box S2048x256 ![256 * 7, 0] S256x256.size) f) := by
  rw [show (Finset.univ : Finset (Idx ((c : Thread nD τ).loc cc0_scratch12))) = (box S2048x256 ![0, 0] ![2048, 256]) from (box_univ (s := S2048x256) (by decide) (by decide)).symm]
  have h0 : PT c cc0_scratch12 (box S2048x256 ![0, 0] ![2048, 256]) f = iprop(PT c cc0_scratch12 (box S2048x256 ![256 * 0, 0] S256x256.size) f ∗ PT c cc0_scratch12 (box S2048x256 ![256, 0] ![1792, 256]) f) :=
    cut2 (bx20 0 (0) 256 1792 2048 (256) 256 rfl rfl).1 (bx20 0 (0) 256 1792 2048 (256) 256 rfl rfl).2
  have h1 : PT c cc0_scratch12 (box S2048x256 ![256, 0] ![1792, 256]) f = iprop(PT c cc0_scratch12 (box S2048x256 ![256 * 1, 0] S256x256.size) f ∗ PT c cc0_scratch12 (box S2048x256 ![512, 0] ![1536, 256]) f) :=
    cut2 (bx20 256 (0) 256 1536 1792 (256) 512 rfl rfl).1 (bx20 256 (0) 256 1536 1792 (256) 512 rfl rfl).2
  have h2 : PT c cc0_scratch12 (box S2048x256 ![512, 0] ![1536, 256]) f = iprop(PT c cc0_scratch12 (box S2048x256 ![256 * 2, 0] S256x256.size) f ∗ PT c cc0_scratch12 (box S2048x256 ![768, 0] ![1280, 256]) f) :=
    cut2 (bx20 512 (0) 256 1280 1536 (256) 768 rfl rfl).1 (bx20 512 (0) 256 1280 1536 (256) 768 rfl rfl).2
  have h3 : PT c cc0_scratch12 (box S2048x256 ![768, 0] ![1280, 256]) f = iprop(PT c cc0_scratch12 (box S2048x256 ![256 * 3, 0] S256x256.size) f ∗ PT c cc0_scratch12 (box S2048x256 ![1024, 0] ![1024, 256]) f) :=
    cut2 (bx20 768 (0) 256 1024 1280 (256) 1024 rfl rfl).1 (bx20 768 (0) 256 1024 1280 (256) 1024 rfl rfl).2
  have h4 : PT c cc0_scratch12 (box S2048x256 ![1024, 0] ![1024, 256]) f = iprop(PT c cc0_scratch12 (box S2048x256 ![256 * 4, 0] S256x256.size) f ∗ PT c cc0_scratch12 (box S2048x256 ![1280, 0] ![768, 256]) f) :=
    cut2 (bx20 1024 (0) 256 768 1024 (256) 1280 rfl rfl).1 (bx20 1024 (0) 256 768 1024 (256) 1280 rfl rfl).2
  have h5 : PT c cc0_scratch12 (box S2048x256 ![1280, 0] ![768, 256]) f = iprop(PT c cc0_scratch12 (box S2048x256 ![256 * 5, 0] S256x256.size) f ∗ PT c cc0_scratch12 (box S2048x256 ![1536, 0] ![512, 256]) f) :=
    cut2 (bx20 1280 (0) 256 512 768 (256) 1536 rfl rfl).1 (bx20 1280 (0) 256 512 768 (256) 1536 rfl rfl).2
  have h6 : PT c cc0_scratch12 (box S2048x256 ![1536, 0] ![512, 256]) f = iprop(PT c cc0_scratch12 (box S2048x256 ![256 * 6, 0] S256x256.size) f ∗ PT c cc0_scratch12 (box S2048x256 ![256 * 7, 0] S256x256.size) f) :=
    cut2 (bx20 1536 (0) 256 256 512 (256) 1792 rfl rfl).1 (bx20 1536 (0) 256 256 512 (256) 1792 rfl rfl).2
  rw [h0, h1, h2, h3, h4, h5, h6]

/-- Eight blocks of 256 rows. -/
theorem ch7bA : PA (F := F) c cc0_scratch12 Finset.univ ⊢ iprop(PA (F := F) c cc0_scratch12 (box S2048x256 ![256 * 0, 0] S256x256.size) ∗ PA (F := F) c cc0_scratch12 (box S2048x256 ![256 * 1, 0] S256x256.size) ∗ PA (F := F) c cc0_scratch12 (box S2048x256 ![256 * 2, 0] S256x256.size) ∗ PA (F := F) c cc0_scratch12 (box S2048x256 ![256 * 3, 0] S256x256.size) ∗ PA (F := F) c cc0_scratch12 (box S2048x256 ![256 * 4, 0] S256x256.size) ∗ PA (F := F) c cc0_scratch12 (box S2048x256 ![256 * 5, 0] S256x256.size) ∗ PA (F := F) c cc0_scratch12 (box S2048x256 ![256 * 6, 0] S256x256.size) ∗ PA (F := F) c cc0_scratch12 (box S2048x256 ![256 * 7, 0] S256x256.size)) := by
  iintro ⟨%f, H⟩
  ihave H := (Entails.of_eq (ch7b (c := c) f)) $$ H
  icases H with ⟨H0, H1, H2, H3, H4, H5, H6, H7⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  iexists f; iexact H7

/-- Eight blocks of 256 rows. -/
theorem ch8b (f : Buf (Elt F) ((c : Thread nD τ).loc cc0_scratch13)) :
    PT c cc0_scratch13 Finset.univ f = iprop(PT c cc0_scratch13 (box S2048x256 ![256 * 0, 0] S256x256.size) f ∗ PT c cc0_scratch13 (box S2048x256 ![256 * 1, 0] S256x256.size) f ∗ PT c cc0_scratch13 (box S2048x256 ![256 * 2, 0] S256x256.size) f ∗ PT c cc0_scratch13 (box S2048x256 ![256 * 3, 0] S256x256.size) f ∗ PT c cc0_scratch13 (box S2048x256 ![256 * 4, 0] S256x256.size) f ∗ PT c cc0_scratch13 (box S2048x256 ![256 * 5, 0] S256x256.size) f ∗ PT c cc0_scratch13 (box S2048x256 ![256 * 6, 0] S256x256.size) f ∗ PT c cc0_scratch13 (box S2048x256 ![256 * 7, 0] S256x256.size) f) := by
  rw [show (Finset.univ : Finset (Idx ((c : Thread nD τ).loc cc0_scratch13))) = (box S2048x256 ![0, 0] ![2048, 256]) from (box_univ (s := S2048x256) (by decide) (by decide)).symm]
  have h0 : PT c cc0_scratch13 (box S2048x256 ![0, 0] ![2048, 256]) f = iprop(PT c cc0_scratch13 (box S2048x256 ![256 * 0, 0] S256x256.size) f ∗ PT c cc0_scratch13 (box S2048x256 ![256, 0] ![1792, 256]) f) :=
    cut2 (bx20 0 (0) 256 1792 2048 (256) 256 rfl rfl).1 (bx20 0 (0) 256 1792 2048 (256) 256 rfl rfl).2
  have h1 : PT c cc0_scratch13 (box S2048x256 ![256, 0] ![1792, 256]) f = iprop(PT c cc0_scratch13 (box S2048x256 ![256 * 1, 0] S256x256.size) f ∗ PT c cc0_scratch13 (box S2048x256 ![512, 0] ![1536, 256]) f) :=
    cut2 (bx20 256 (0) 256 1536 1792 (256) 512 rfl rfl).1 (bx20 256 (0) 256 1536 1792 (256) 512 rfl rfl).2
  have h2 : PT c cc0_scratch13 (box S2048x256 ![512, 0] ![1536, 256]) f = iprop(PT c cc0_scratch13 (box S2048x256 ![256 * 2, 0] S256x256.size) f ∗ PT c cc0_scratch13 (box S2048x256 ![768, 0] ![1280, 256]) f) :=
    cut2 (bx20 512 (0) 256 1280 1536 (256) 768 rfl rfl).1 (bx20 512 (0) 256 1280 1536 (256) 768 rfl rfl).2
  have h3 : PT c cc0_scratch13 (box S2048x256 ![768, 0] ![1280, 256]) f = iprop(PT c cc0_scratch13 (box S2048x256 ![256 * 3, 0] S256x256.size) f ∗ PT c cc0_scratch13 (box S2048x256 ![1024, 0] ![1024, 256]) f) :=
    cut2 (bx20 768 (0) 256 1024 1280 (256) 1024 rfl rfl).1 (bx20 768 (0) 256 1024 1280 (256) 1024 rfl rfl).2
  have h4 : PT c cc0_scratch13 (box S2048x256 ![1024, 0] ![1024, 256]) f = iprop(PT c cc0_scratch13 (box S2048x256 ![256 * 4, 0] S256x256.size) f ∗ PT c cc0_scratch13 (box S2048x256 ![1280, 0] ![768, 256]) f) :=
    cut2 (bx20 1024 (0) 256 768 1024 (256) 1280 rfl rfl).1 (bx20 1024 (0) 256 768 1024 (256) 1280 rfl rfl).2
  have h5 : PT c cc0_scratch13 (box S2048x256 ![1280, 0] ![768, 256]) f = iprop(PT c cc0_scratch13 (box S2048x256 ![256 * 5, 0] S256x256.size) f ∗ PT c cc0_scratch13 (box S2048x256 ![1536, 0] ![512, 256]) f) :=
    cut2 (bx20 1280 (0) 256 512 768 (256) 1536 rfl rfl).1 (bx20 1280 (0) 256 512 768 (256) 1536 rfl rfl).2
  have h6 : PT c cc0_scratch13 (box S2048x256 ![1536, 0] ![512, 256]) f = iprop(PT c cc0_scratch13 (box S2048x256 ![256 * 6, 0] S256x256.size) f ∗ PT c cc0_scratch13 (box S2048x256 ![256 * 7, 0] S256x256.size) f) :=
    cut2 (bx20 1536 (0) 256 256 512 (256) 1792 rfl rfl).1 (bx20 1536 (0) 256 256 512 (256) 1792 rfl rfl).2
  rw [h0, h1, h2, h3, h4, h5, h6]

/-- Eight blocks of 256 rows. -/
theorem ch8bA : PA (F := F) c cc0_scratch13 Finset.univ ⊢ iprop(PA (F := F) c cc0_scratch13 (box S2048x256 ![256 * 0, 0] S256x256.size) ∗ PA (F := F) c cc0_scratch13 (box S2048x256 ![256 * 1, 0] S256x256.size) ∗ PA (F := F) c cc0_scratch13 (box S2048x256 ![256 * 2, 0] S256x256.size) ∗ PA (F := F) c cc0_scratch13 (box S2048x256 ![256 * 3, 0] S256x256.size) ∗ PA (F := F) c cc0_scratch13 (box S2048x256 ![256 * 4, 0] S256x256.size) ∗ PA (F := F) c cc0_scratch13 (box S2048x256 ![256 * 5, 0] S256x256.size) ∗ PA (F := F) c cc0_scratch13 (box S2048x256 ![256 * 6, 0] S256x256.size) ∗ PA (F := F) c cc0_scratch13 (box S2048x256 ![256 * 7, 0] S256x256.size)) := by
  iintro ⟨%f, H⟩
  ihave H := (Entails.of_eq (ch8b (c := c) f)) $$ H
  icases H with ⟨H0, H1, H2, H3, H4, H5, H6, H7⟩
  isplitl [H0]
  · iexists f; iexact H0
  isplitl [H1]
  · iexists f; iexact H1
  isplitl [H2]
  · iexists f; iexact H2
  isplitl [H3]
  · iexists f; iexact H3
  isplitl [H4]
  · iexists f; iexact H4
  isplitl [H5]
  · iexists f; iexact H5
  isplitl [H6]
  · iexists f; iexact H6
  iexists f; iexact H7

theorem jo16 : iprop(PA (F := F) c cc0_scratch6 (box S2x256x256 ![0, 0, 0] S1x256x256.size) ∗ PA (F := F) c cc0_scratch6 (box S2x256x256 ![1, 0, 0] S1x256x256.size)) ⊢ PA (F := F) c cc0_scratch6 Finset.univ := by
  rw [show (Finset.univ : Finset (Idx ((c : Thread nD τ).loc cc0_scratch6))) = (box S2x256x256 ![0, 0, 0] ![2, 256, 256]) from (box_univ (s := S2x256x256) (by decide) (by decide)).symm]
  exact joinA (bx30 0 (0) (0) 1 1 2 (256) (256) 1 rfl rfl)
theorem jo17 : iprop(PA (F := F) c cc0_scratch7 (box S2x256x256 ![0, 0, 0] S1x256x256.size) ∗ PA (F := F) c cc0_scratch7 (box S2x256x256 ![1, 0, 0] S1x256x256.size)) ⊢ PA (F := F) c cc0_scratch7 Finset.univ := by
  rw [show (Finset.univ : Finset (Idx ((c : Thread nD τ).loc cc0_scratch7))) = (box S2x256x256 ![0, 0, 0] ![2, 256, 256]) from (box_univ (s := S2x256x256) (by decide) (by decide)).symm]
  exact joinA (bx30 0 (0) (0) 1 1 2 (256) (256) 1 rfl rfl)
theorem jo18 : iprop(PA (F := F) c cc0_scratch8 (box S2x256x128 ![0, 0, 0] S1x256x128.size) ∗ PA (F := F) c cc0_scratch8 (box S2x256x128 ![1, 0, 0] S1x256x128.size)) ⊢ PA (F := F) c cc0_scratch8 Finset.univ := by
  rw [show (Finset.univ : Finset (Idx ((c : Thread nD τ).loc cc0_scratch8))) = (box S2x256x128 ![0, 0, 0] ![2, 256, 128]) from (box_univ (s := S2x256x128) (by decide) (by decide)).symm]
  exact joinA (bx30 0 (0) (0) 1 1 2 (256) (128) 1 rfl rfl)
theorem jo20 : iprop(PA (F := F) c cc0_scratch10 (box S2x256x7168 ![0, 0, 0] S1x256x7168.size) ∗ PA (F := F) c cc0_scratch10 (box S2x256x7168 ![1, 0, 0] S1x256x7168.size)) ⊢ PA (F := F) c cc0_scratch10 Finset.univ := by
  rw [show (Finset.univ : Finset (Idx ((c : Thread nD τ).loc cc0_scratch10))) = (box S2x256x7168 ![0, 0, 0] ![2, 256, 7168]) from (box_univ (s := S2x256x7168) (by decide) (by decide)).symm]
  exact joinA (bx30 0 (0) (0) 1 1 2 (256) (7168) 1 rfl rfl)

end

end Cert.Kernel.Hand
-- ==== Proof.Hand.Kernel.Body.lean ====
/- The whole body: from the arguments to the results. -/
module

public import proofs.«01_k».proof.Proof.Hand.Kernel.Whole
public import proofs.«01_k».proof.Proof.Hand.Kernel.Pieces3

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (X : GIn F)

instance (c : Dev nD) (t : Fin 14) : Storable (upEmb : UEmb _ 𝕄) (D6 X c t) := by
  unfold D6; infer_instance

theorem bt6 (c : Dev nD) : SV (F := F) c (cell 27) ⊢ |={Set.univ}=> BT c (cell 27) N6 (D6 X c) 0 0 :=
  Transfers.batch_alloc' (Lvl := ℕ) EC (c : Thread nD τ) () N6 (D6 X c) (sm := SemLoc.dma (cell 27)) (E := Set.univ)

theorem un6 (c : Dev nD) : bigSep Finset.univ (D6 X c) ⊢ iprop(PT c main_v3_1 Finset.univ (G21 X) ∗ PT c cc0_scratch11 Finset.univ (G21 X)) := by
  rw [ch6a (c := c) (G21 X), ch6b (c := c) (G21 X), BI.bigSep_eq_bigSepL_of_eq [0, 1, 2, 3, 4, 5, 6, 7, 8, 9, 10, 11, 12, 13] (by decide) (by decide)]
  show iprop((PT c main_v3_1 (box S7168x256 ![512 * 0, 0] S512x256.size) (G21 X) ∗ PT c cc0_scratch11 (box S7168x256 ![512 * 0, 0] S512x256.size) (G21 X)) ∗ (PT c main_v3_1 (box S7168x256 ![512 * 1, 0] S512x256.size) (G21 X) ∗ PT c cc0_scratch11 (box S7168x256 ![512 * 1, 0] S512x256.size) (G21 X)) ∗ (PT c main_v3_1 (box S7168x256 ![512 * 2, 0] S512x256.size) (G21 X) ∗ PT c cc0_scratch11 (box S7168x256 ![512 * 2, 0] S512x256.size) (G21 X)) ∗ (PT c main_v3_1 (box S7168x256 ![512 * 3, 0] S512x256.size) (G21 X) ∗ PT c cc0_scratch11 (box S7168x256 ![512 * 3, 0] S512x256.size) (G21 X)) ∗ (PT c main_v3_1 (box S7168x256 ![512 * 4, 0] S512x256.size) (G21 X) ∗ PT c cc0_scratch11 (box S7168x256 ![512 * 4, 0] S512x256.size) (G21 X)) ∗ (PT c main_v3_1 (box S7168x256 ![512 * 5, 0] S512x256.size) (G21 X) ∗ PT c cc0_scratch11 (box S7168x256 ![512 * 5, 0] S512x256.size) (G21 X)) ∗ (PT c main_v3_1 (box S7168x256 ![512 * 6, 0] S512x256.size) (G21 X) ∗ PT c cc0_scratch11 (box S7168x256 ![512 * 6, 0] S512x256.size) (G21 X)) ∗ (PT c main_v3_1 (box S7168x256 ![512 * 7, 0] S512x256.size) (G21 X) ∗ PT c cc0_scratch11 (box S7168x256 ![512 * 7, 0] S512x256.size) (G21 X)) ∗ (PT c main_v3_1 (box S7168x256 ![512 * 8, 0] S512x256.size) (G21 X) ∗ PT c cc0_scratch11 (box S7168x256 ![512 * 8, 0] S512x256.size) (G21 X)) ∗ (PT c main_v3_1 (box S7168x256 ![512 * 9, 0] S512x256.size) (G21 X) ∗ PT c cc0_scratch11 (box S7168x256 ![512 * 9, 0] S512x256.size) (G21 X)) ∗ (PT c main_v3_1 (box S7168x256 ![512 * 10, 0] S512x256.size) (G21 X) ∗ PT c cc0_scratch11 (box S7168x256 ![512 * 10, 0] S512x256.size) (G21 X)) ∗ (PT c main_v3_1 (box S7168x256 ![512 * 11, 0] S512x256.size) (G21 X) ∗ PT c cc0_scratch11 (box S7168x256 ![512 * 11, 0] S512x256.size) (G21 X)) ∗ (PT c main_v3_1 (box S7168x256 ![512 * 12, 0] S512x256.size) (G21 X) ∗ PT c cc0_scratch11 (box S7168x256 ![512 * 12, 0] S512x256.size) (G21 X)) ∗ (PT c main_v3_1 (box S7168x256 ![512 * 13, 0] S512x256.size) (G21 X) ∗ PT c cc0_scratch11 (box S7168x256 ![512 * 13, 0] S512x256.size) (G21 X))) ⊢ _
  iintro ⟨⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, ⟨a10, b10⟩, ⟨a11, b11⟩, ⟨a12, b12⟩, ⟨a13, b13⟩⟩
  isplitl [a0 a1 a2 a3 a4 a5 a6 a7 a8 a9 a10 a11 a12 a13]
  · iframe a0 a1 a2 a3 a4 a5 a6 a7 a8 a9 a10 a11 a12 a13
  iframe b0 b1 b2 b3 b4 b5 b6 b7 b8 b9 b10 b11 b12 b13

instance (c : Dev nD) (t : Fin 8) : Storable (upEmb : UEmb _ 𝕄) (D7 X c t) := by
  unfold D7; infer_instance

theorem bt7 (c : Dev nD) : SV (F := F) c (cell 28) ⊢ |={Set.univ}=> BT c (cell 28) N7 (D7 X c) 0 0 :=
  Transfers.batch_alloc' (Lvl := ℕ) EC (c : Thread nD τ) () N7 (D7 X c) (sm := SemLoc.dma (cell 28)) (E := Set.univ)

theorem un7 (c : Dev nD) : bigSep Finset.univ (D7 X c) ⊢ iprop(PT c main_v3_2 Finset.univ (G22 X) ∗ PT c cc0_scratch12 Finset.univ (G22 X)) := by
  rw [ch7 (c := c) (G22 X), ch7b (c := c) (G22 X), BI.bigSep_eq_bigSepL_of_eq [0, 1, 2, 3, 4, 5, 6, 7] (by decide) (by decide)]
  show iprop((PT c main_v3_2 (box S2048x256 ![256 * 0, 0] S256x256.size) (G22 X) ∗ PT c cc0_scratch12 (box S2048x256 ![256 * 0, 0] S256x256.size) (G22 X)) ∗ (PT c main_v3_2 (box S2048x256 ![256 * 1, 0] S256x256.size) (G22 X) ∗ PT c cc0_scratch12 (box S2048x256 ![256 * 1, 0] S256x256.size) (G22 X)) ∗ (PT c main_v3_2 (box S2048x256 ![256 * 2, 0] S256x256.size) (G22 X) ∗ PT c cc0_scratch12 (box S2048x256 ![256 * 2, 0] S256x256.size) (G22 X)) ∗ (PT c main_v3_2 (box S2048x256 ![256 * 3, 0] S256x256.size) (G22 X) ∗ PT c cc0_scratch12 (box S2048x256 ![256 * 3, 0] S256x256.size) (G22 X)) ∗ (PT c main_v3_2 (box S2048x256 ![256 * 4, 0] S256x256.size) (G22 X) ∗ PT c cc0_scratch12 (box S2048x256 ![256 * 4, 0] S256x256.size) (G22 X)) ∗ (PT c main_v3_2 (box S2048x256 ![256 * 5, 0] S256x256.size) (G22 X) ∗ PT c cc0_scratch12 (box S2048x256 ![256 * 5, 0] S256x256.size) (G22 X)) ∗ (PT c main_v3_2 (box S2048x256 ![256 * 6, 0] S256x256.size) (G22 X) ∗ PT c cc0_scratch12 (box S2048x256 ![256 * 6, 0] S256x256.size) (G22 X)) ∗ (PT c main_v3_2 (box S2048x256 ![256 * 7, 0] S256x256.size) (G22 X) ∗ PT c cc0_scratch12 (box S2048x256 ![256 * 7, 0] S256x256.size) (G22 X))) ⊢ _
  iintro ⟨⟨a0, b0⟩, ⟨a1, b1⟩, ⟨a2, b2⟩, ⟨a3, b3⟩, ⟨a4, b4⟩, ⟨a5, b5⟩, ⟨a6, b6⟩, ⟨a7, b7⟩⟩
  isplitl [a0 a1 a2 a3 a4 a5 a6 a7]
  · iframe a0 a1 a2 a3 a4 a5 a6 a7
  iframe b0 b1 b2 b3 b4 b5 b6 b7

instance (c : Dev nD) (t : Fin 8) : Storable (upEmb : UEmb _ 𝕄) (D8 X c t) := by
  unfold D8; infer_instance

theorem bt8 (c : Dev nD) : SV (F := F) c (cell 29) ⊢ |={Set.univ}=> BT c (cell 29) N8 (D8 X c) 0 0 :=
  Transfers.batch_alloc' (Lvl := ℕ) EC (c : Thread nD τ) () N8 (D8 X c) (sm := SemLoc.dma (cell 29)) (E := Set.univ)

theorem un8 (c : Dev nD) : bigSep Finset.univ (D8 X c) ⊢ iprop(PT c main_v3_3 Finset.univ (G23 X) ∗ PT c cc0_scratch13 Finset.univ (G23 X)) := by
  rw [ch8 (c := c) (G23 X), ch8b (c := c) (G23 X), BI.bigSep_eq_bigSepL_of_eq [0, 1, 2, 3, 4, 5, 6, 7] (by decide) (by decide)]
  show iprop((PT c main_v3_3 (box S2048x256 ![256 * 0, 0] S256x256.size) (G23 X) ∗ PT c cc0_scratch13 (box S2048x256 ![256 * 0, 0] S256x256.size) (G23 X)) ∗ (PT c main_v3_3 (box S2048x256 ![256 * 1, 0] S256x256.size) (G23 X) ∗ PT c cc0_scratch13 (box S2048x256 ![256 * 1, 0] S256x256.size) (G23 X)) ∗ (PT c main_v3_3 (box S2048x256 ![256 * 2, 0] S256x256.size) (G23 X) ∗ PT c cc0_scratch13 (box S2048x256 ![256 * 2, 0] S256x256.size) (G23 X)) ∗ (PT c main_v3_3 (box S2048x256 ![256 * 3, 0] S256x256.size) (G23 X) ∗ PT c cc0_scratch13 (box S2048x256 ![256 * 3, 0] S256x256.size) (G23 X)) ∗ (PT c main_v3_3 (box S2048x256 ![256 * 4, 0] S256x256.size) (G23 X) ∗ PT c cc0_scratch13 (box S2048x256 ![256 * 4, 0] S256x256.size) (G23 X)) ∗ (PT c main_v3_3 (box S2048x256 ![256 * 5, 0] S256x256.size) (G23 X) ∗ PT c cc0_scratch13 (box S2048x256 ![256 * 5, 0] S256x256.size) (G23 X)) ∗ (PT c main_v3_3 (box S2048x256 ![256 * 6, 0] S256x256.size) (G23 X) ∗ PT c cc0_scratch13 (box S2048x256 ![256 * 6, 0] S256x256.size) (G23 X)) ∗ (PT c main_v3_3 (box S2048x256 ![256 * 7, 0] S256x256.size) (G23 X) ∗ PT c cc0_scratch13 (box S2048x256 ![256 * 7, 0] S256x256.size) (G23 X))) ⊢ _
  iintro ⟨⟨a0, b0⟩, ⟨a1, b1⟩, ⟨a2, b2⟩, ⟨a3, b3⟩, ⟨a4, b4⟩, ⟨a5, b5⟩, ⟨a6, b6⟩, ⟨a7, b7⟩⟩
  isplitl [a0 a1 a2 a3 a4 a5 a6 a7]
  · iframe a0 a1 a2 a3 a4 a5 a6 a7
  iframe b0 b1 b2 b3 b4 b5 b6 b7

/-- What the body starts from: the arguments, results and buffers nothing has written, every counter at zero. -/
def Start (c : Dev nD) : sProp 𝕄 := iprop(Ow c ∗ PT c main_v0 Finset.univ (X.x) ∗ PT c main_arg2 Finset.univ (X.w) ∗ PT c main_v1 Finset.univ (X.ids) ∗ PT c main_v2 Finset.univ (X.dg) ∗ PT c main_arg1 Finset.univ (X.xs) ∗ PA (F := F) c main_v3_0 Finset.univ ∗ PA (F := F) c main_v3_1 Finset.univ ∗ PA (F := F) c main_v3_2 Finset.univ ∗ PA (F := F) c main_v3_3 Finset.univ ∗ PA (F := F) c main_v3_4 Finset.univ ∗ PA (F := F) c cc0_scratch0 Finset.univ ∗ PA (F := F) c cc0_scratch1 Finset.univ ∗ PA (F := F) c cc0_scratch2 Finset.univ ∗ PA (F := F) c cc0_scratch3 Finset.univ ∗ PA (F := F) c cc0_scratch4 Finset.univ ∗ PA (F := F) c cc0_scratch5 Finset.univ ∗ PA (F := F) c cc0_scratch6 Finset.univ ∗ PA (F := F) c cc0_scratch7 Finset.univ ∗ PA (F := F) c cc0_scratch8 Finset.univ ∗ PA (F := F) c cc0_scratch9 Finset.univ ∗ PA (F := F) c cc0_scratch10 Finset.univ ∗ PA (F := F) c cc0_scratch11 Finset.univ ∗ PA (F := F) c cc0_scratch12 Finset.univ ∗ PA (F := F) c cc0_scratch13 Finset.univ ∗ PA (F := F) c cc0_scratch14 Finset.univ ∗ SV (F := F) c (cell 0) ∗ SV (F := F) c (cell 1) ∗ SV (F := F) c (cell 2) ∗ SV (F := F) c (cell 3) ∗ SV (F := F) c (cell 4) ∗ SV (F := F) c (cell 5) ∗ SV (F := F) c (cell 6) ∗ SV (F := F) c (cell 7) ∗ SV (F := F) c (cell 8) ∗ SV (F := F) c (cell 9) ∗ SV (F := F) c (cell 10) ∗ SV (F := F) c (cell 11) ∗ SV (F := F) c (cell 12) ∗ SV (F := F) c (cell 13) ∗ SV (F := F) c (cell 14) ∗ SV (F := F) c (cell 15) ∗ SV (F := F) c (cell 16) ∗ SV (F := F) c (cell 17) ∗ SV (F := F) c (cell 18) ∗ SV (F := F) c (cell 19) ∗ SV (F := F) c (cell 20) ∗ SV (F := F) c (cell 21) ∗ SV (F := F) c (cell 22) ∗ SV (F := F) c (cell 23) ∗ SV (F := F) c (cell 24) ∗ SV (F := F) c (cell 25) ∗ SV (F := F) c (cell 26) ∗ SV (F := F) c (cell 27) ∗ SV (F := F) c (cell 28) ∗ SV (F := F) c (cell 29) ∗ SV (F := F) c (cell 30))
/-- What the body ends with: the results at their contents, every counter at zero again. -/
def Finish (c : Dev nD) : sProp 𝕄 := iprop(Ow c ∗ PT c main_v0 Finset.univ (X.x) ∗ PT c main_arg2 Finset.univ (X.w) ∗ PT c main_v1 Finset.univ (X.ids) ∗ PT c main_v2 Finset.univ (X.dg) ∗ PT c main_arg1 Finset.univ (X.xs) ∗ PT c main_v3_0 Finset.univ (G5 X) ∗ PT c main_v3_1 Finset.univ (G21 X) ∗ PT c main_v3_2 Finset.univ (G22 X) ∗ PT c main_v3_3 Finset.univ (G23 X) ∗ PT c main_v3_4 Finset.univ (G24 X) ∗ PA (F := F) c cc0_scratch0 Finset.univ ∗ PA (F := F) c cc0_scratch1 Finset.univ ∗ PA (F := F) c cc0_scratch2 Finset.univ ∗ PA (F := F) c cc0_scratch3 Finset.univ ∗ PA (F := F) c cc0_scratch4 Finset.univ ∗ PA (F := F) c cc0_scratch5 Finset.univ ∗ PA (F := F) c cc0_scratch6 Finset.univ ∗ PA (F := F) c cc0_scratch7 Finset.univ ∗ PA (F := F) c cc0_scratch8 Finset.univ ∗ PA (F := F) c cc0_scratch9 Finset.univ ∗ PA (F := F) c cc0_scratch10 Finset.univ ∗ PA (F := F) c cc0_scratch11 Finset.univ ∗ PA (F := F) c cc0_scratch12 Finset.univ ∗ PA (F := F) c cc0_scratch13 Finset.univ ∗ PA (F := F) c cc0_scratch14 Finset.univ ∗ SV (F := F) c (cell 0) ∗ SV (F := F) c (cell 1) ∗ SV (F := F) c (cell 2) ∗ SV (F := F) c (cell 3) ∗ SV (F := F) c (cell 4) ∗ SV (F := F) c (cell 5) ∗ SV (F := F) c (cell 6) ∗ SV (F := F) c (cell 7) ∗ SV (F := F) c (cell 8) ∗ SV (F := F) c (cell 9) ∗ SV (F := F) c (cell 10) ∗ SV (F := F) c (cell 11) ∗ SV (F := F) c (cell 12) ∗ SV (F := F) c (cell 13) ∗ SV (F := F) c (cell 14) ∗ SV (F := F) c (cell 15) ∗ SV (F := F) c (cell 16) ∗ SV (F := F) c (cell 17) ∗ SV (F := F) c (cell 18) ∗ SV (F := F) c (cell 19) ∗ SV (F := F) c (cell 20) ∗ SV (F := F) c (cell 21) ∗ SV (F := F) c (cell 22) ∗ SV (F := F) c (cell 23) ∗ SV (F := F) c (cell 24) ∗ SV (F := F) c (cell 25) ∗ SV (F := F) c (cell 26) ∗ SV (F := F) c (cell 27) ∗ SV (F := F) c (cell 28) ∗ SV (F := F) c (cell 29) ∗ SV (F := F) c (cell 30))

theorem Start_eq (c : Dev nD) : Start X c = iprop(Ow c ∗ PT c main_v0 Finset.univ (X.x) ∗ PT c main_arg2 Finset.univ (X.w) ∗ PT c main_v1 Finset.univ (X.ids) ∗ PT c main_v2 Finset.univ (X.dg) ∗ PT c main_arg1 Finset.univ (X.xs) ∗ PA (F := F) c main_v3_0 Finset.univ ∗ PA (F := F) c main_v3_1 Finset.univ ∗ PA (F := F) c main_v3_2 Finset.univ ∗ PA (F := F) c main_v3_3 Finset.univ ∗ PA (F := F) c main_v3_4 Finset.univ ∗ PA (F := F) c cc0_scratch0 Finset.univ ∗ PA (F := F) c cc0_scratch1 Finset.univ ∗ PA (F := F) c cc0_scratch2 Finset.univ ∗ PA (F := F) c cc0_scratch3 Finset.univ ∗ PA (F := F) c cc0_scratch4 Finset.univ ∗ PA (F := F) c cc0_scratch5 Finset.univ ∗ PA (F := F) c cc0_scratch6 Finset.univ ∗ PA (F := F) c cc0_scratch7 Finset.univ ∗ PA (F := F) c cc0_scratch8 Finset.univ ∗ PA (F := F) c cc0_scratch9 Finset.univ ∗ PA (F := F) c cc0_scratch10 Finset.univ ∗ PA (F := F) c cc0_scratch11 Finset.univ ∗ PA (F := F) c cc0_scratch12 Finset.univ ∗ PA (F := F) c cc0_scratch13 Finset.univ ∗ PA (F := F) c cc0_scratch14 Finset.univ ∗ SV (F := F) c (cell 0) ∗ SV (F := F) c (cell 1) ∗ SV (F := F) c (cell 2) ∗ SV (F := F) c (cell 3) ∗ SV (F := F) c (cell 4) ∗ SV (F := F) c (cell 5) ∗ SV (F := F) c (cell 6) ∗ SV (F := F) c (cell 7) ∗ SV (F := F) c (cell 8) ∗ SV (F := F) c (cell 9) ∗ SV (F := F) c (cell 10) ∗ SV (F := F) c (cell 11) ∗ SV (F := F) c (cell 12) ∗ SV (F := F) c (cell 13) ∗ SV (F := F) c (cell 14) ∗ SV (F := F) c (cell 15) ∗ SV (F := F) c (cell 16) ∗ SV (F := F) c (cell 17) ∗ SV (F := F) c (cell 18) ∗ SV (F := F) c (cell 19) ∗ SV (F := F) c (cell 20) ∗ SV (F := F) c (cell 21) ∗ SV (F := F) c (cell 22) ∗ SV (F := F) c (cell 23) ∗ SV (F := F) c (cell 24) ∗ SV (F := F) c (cell 25) ∗ SV (F := F) c (cell 26) ∗ SV (F := F) c (cell 27) ∗ SV (F := F) c (cell 28) ∗ SV (F := F) c (cell 29) ∗ SV (F := F) c (cell 30)) := rfl
theorem Finish_eq (c : Dev nD) : Finish X c = iprop(Ow c ∗ PT c main_v0 Finset.univ (X.x) ∗ PT c main_arg2 Finset.univ (X.w) ∗ PT c main_v1 Finset.univ (X.ids) ∗ PT c main_v2 Finset.univ (X.dg) ∗ PT c main_arg1 Finset.univ (X.xs) ∗ PT c main_v3_0 Finset.univ (G5 X) ∗ PT c main_v3_1 Finset.univ (G21 X) ∗ PT c main_v3_2 Finset.univ (G22 X) ∗ PT c main_v3_3 Finset.univ (G23 X) ∗ PT c main_v3_4 Finset.univ (G24 X) ∗ PA (F := F) c cc0_scratch0 Finset.univ ∗ PA (F := F) c cc0_scratch1 Finset.univ ∗ PA (F := F) c cc0_scratch2 Finset.univ ∗ PA (F := F) c cc0_scratch3 Finset.univ ∗ PA (F := F) c cc0_scratch4 Finset.univ ∗ PA (F := F) c cc0_scratch5 Finset.univ ∗ PA (F := F) c cc0_scratch6 Finset.univ ∗ PA (F := F) c cc0_scratch7 Finset.univ ∗ PA (F := F) c cc0_scratch8 Finset.univ ∗ PA (F := F) c cc0_scratch9 Finset.univ ∗ PA (F := F) c cc0_scratch10 Finset.univ ∗ PA (F := F) c cc0_scratch11 Finset.univ ∗ PA (F := F) c cc0_scratch12 Finset.univ ∗ PA (F := F) c cc0_scratch13 Finset.univ ∗ PA (F := F) c cc0_scratch14 Finset.univ ∗ SV (F := F) c (cell 0) ∗ SV (F := F) c (cell 1) ∗ SV (F := F) c (cell 2) ∗ SV (F := F) c (cell 3) ∗ SV (F := F) c (cell 4) ∗ SV (F := F) c (cell 5) ∗ SV (F := F) c (cell 6) ∗ SV (F := F) c (cell 7) ∗ SV (F := F) c (cell 8) ∗ SV (F := F) c (cell 9) ∗ SV (F := F) c (cell 10) ∗ SV (F := F) c (cell 11) ∗ SV (F := F) c (cell 12) ∗ SV (F := F) c (cell 13) ∗ SV (F := F) c (cell 14) ∗ SV (F := F) c (cell 15) ∗ SV (F := F) c (cell 16) ∗ SV (F := F) c (cell 17) ∗ SV (F := F) c (cell 18) ∗ SV (F := F) c (cell 19) ∗ SV (F := F) c (cell 20) ∗ SV (F := F) c (cell 21) ∗ SV (F := F) c (cell 22) ∗ SV (F := F) c (cell 23) ∗ SV (F := F) c (cell 24) ∗ SV (F := F) c (cell 25) ∗ SV (F := F) c (cell 26) ∗ SV (F := F) c (cell 27) ∗ SV (F := F) c (cell 28) ∗ SV (F := F) c (cell 29) ∗ SV (F := F) c (cell 30)) := rfl

theorem dx0 (c : Dev nD) : dxSt X c 0 = iprop(SV c (cell 25) ∗ PA c cc0_scratch10 (box S2x256x7168 ![0, 0, 0] S1x256x7168.size)) := if_neg (by decide)
theorem dx1 (c : Dev nD) : dxSt X c 1 = iprop(SV c (cell 26) ∗ PA c cc0_scratch10 (box S2x256x7168 ![1, 0, 0] S1x256x7168.size)) := if_neg (by decide)

theorem wp_pure_intro {c : Dev nD} {Q : PUnit → sProp 𝕄} : Q ⟨⟩ ⊢ WP c (pure ⟨⟩ : Prog (TpuEff nD τ sig (Elt F) Λ₀ .tc) PUnit) Q := by
  unfold WP
  iintro H; sl_step; iexact H

theorem wp_wand_of {c : Dev nD} {p : Prog (TpuEff nD τ sig (Elt F) Λ₀ .tc) PUnit} {P R : sProp 𝕄} {Q : PUnit → sProp 𝕄} (h : P ⊢ WP c p (fun _ => R)) :
    P ⊢ iprop((R -∗ Q ⟨⟩) -∗ WP c p Q) := by
  iintro HP Hk
  ihave H := h $$ HP
  iapply (wp_wand frame (wpE (defs₀ (F := F)) 𝒱₀ (c : Thread nD τ) none) Set.univ) $$ [H]
  · iexact H
  iintro %_ HR
  iapply Hk $$ HR

set_option maxHeartbeats 4000000 in
/-- The whole body. -/
theorem body (c : Dev nD) : Start X c ⊢ WP c (bodyAt0 (F := F) t0_0) (fun _ => Finish X c) := by
  rw [Start_eq]
  unfold bodyAt0
  iintro ⟨hO, s0, s2, s3, s4, s1, u5, u6, u7, u8, u9, h10, h11, h12, h13, h14, h15, h16, h17, h18, h19, h20, h21, h22, h23, h24, v0, v1, v2, v3, v4, v5, v6, v7, v8, v9, v10, v11, v12, v13, v14, v15, v16, v17, v18, v19, v20, v21, v22, v23, v24, v25, v26, v27, v28, v29, v30⟩
  ihave s2 := (Entails.of_eq (ch2_arg2 (c := c) X.w)) $$ s2
  icases s2 with ⟨s2_0, s2_1, s2_2, s2_3, s2_4, s2_5, s2_6⟩
  ihave h11 := (ch2_s1A (c := c)) $$ h11
  icases h11 with ⟨h11_0, h11_1, h11_2, h11_3, h11_4, h11_5, h11_6⟩
  ihave s0 := (Entails.of_eq (ch0_v0 (c := c) X.x)) $$ s0
  icases s0 with ⟨sx_0, sx_1, sx_2, sx_3, sx_4, sx_5, sx_6, sx_7⟩
  ihave sx_0 := (Entails.of_eq (ch0c_v0 (c := c) X.x)) $$ sx_0
  icases sx_0 with ⟨s0_0, s0_1, s0_2, s0_3, s0_4, s0_5, s0_6⟩
  ihave h10 := (ch0_s0A (c := c)) $$ h10
  icases h10 with ⟨hx_0, hx_1, hx_2, hx_3, hx_4, hx_5, hx_6, hx_7⟩
  ihave hx_0 := (ch0c_s0A (c := c)) $$ hx_0
  icases hx_0 with ⟨h10_0, h10_1, h10_2, h10_3, h10_4, h10_5, h10_6⟩
  ihave h12 := (ch12A (c := c)) $$ h12
  icases h12 with ⟨h12_0, h12_1, h12_2, h12_3, h12_4, h12_5, h12_6⟩
  ihave h16 := (sl16A (c := c)) $$ h16
  icases h16 with ⟨h16, n16⟩
  ihave h17 := (sl17A (c := c)) $$ h17
  icases h17 with ⟨h17, n17⟩
  ihave h17 := (hf17A (c := c) 0) $$ h17
  icases h17 with ⟨h17a, h17b⟩
  ihave h18 := (sl18A (c := c)) $$ h18
  icases h18 with ⟨h18, n18⟩
  ihave h18 := (hf18A (c := c) 0) $$ h18
  icases h18 with ⟨h18a, h18b⟩
  ihave h19 := (ch19A (c := c)) $$ h19
  icases h19 with ⟨h19a, h19b, h19a_0, h19b_0, h19a_1, h19b_1, h19a_2, h19b_2, h19a_3, h19b_3, h19a_4, h19b_4, h19a_5, h19b_5, h19a_6, h19b_6⟩
  ihave h24 := (ch24A (c := c)) $$ h24
  icases h24 with ⟨h24a, h24b, h24a_0, h24b_0, h24a_1, h24b_1, h24a_2, h24b_2, h24a_3, h24b_3, h24a_4, h24b_4, h24a_5, h24b_5, h24a_6, h24b_6⟩
  ihave h22 := (ch22A (c := c)) $$ h22
  icases h22 with ⟨h22a, h22b, h22a_0, h22b_0, h22a_1, h22b_1, h22a_2, h22b_2, h22a_3, h22b_3, h22a_4, h22b_4, h22a_5, h22b_5, h22a_6, h22b_6⟩
  ihave h23 := (ch23A (c := c)) $$ h23
  icases h23 with ⟨h23a, h23b, h23a_0, h23b_0, h23a_1, h23b_1, h23a_2, h23b_2, h23a_3, h23b_3, h23a_4, h23b_4, h23a_5, h23b_5, h23a_6, h23b_6⟩
  ihave u5 := (ch0_v3_0A (c := c)) $$ u5
  icases u5 with ⟨u5_0, u5_1, u5_2, u5_3, u5_4, u5_5, u5_6, u5_7⟩
  ihave u7 := (ch7A (c := c)) $$ u7
  icases u7 with ⟨u7, u7_0, u7_1, u7_2, u7_3, u7_4, u7_5, u7_6⟩
  ihave u8 := (ch8A (c := c)) $$ u8
  icases u8 with ⟨u8, u8_0, u8_1, u8_2, u8_3, u8_4, u8_5, u8_6⟩
  ihave h20 := (sl20A (c := c)) $$ h20
  icases h20 with ⟨h20, n20⟩
  ihave r_0 := (Entails.of_eq (L1R_eq (F := F) c 0).symm) $$ [h19a_0 h19b_0 h24a_0 h24b_0 h22a_0 h22b_0 h23a_0 h23b_0 u5_0 u7_0 u8_0]
  · iframe h19a_0 h19b_0 h24a_0 h24b_0 h22a_0 h22b_0 h23a_0 h23b_0 u5_0 u7_0 u8_0
  ihave r_1 := (Entails.of_eq (L1R_eq (F := F) c 1).symm) $$ [h19a_1 h19b_1 h24a_1 h24b_1 h22a_1 h22b_1 h23a_1 h23b_1 u5_1 u7_1 u8_1]
  · iframe h19a_1 h19b_1 h24a_1 h24b_1 h22a_1 h22b_1 h23a_1 h23b_1 u5_1 u7_1 u8_1
  ihave r_2 := (Entails.of_eq (L1R_eq (F := F) c 2).symm) $$ [h19a_2 h19b_2 h24a_2 h24b_2 h22a_2 h22b_2 h23a_2 h23b_2 u5_2 u7_2 u8_2]
  · iframe h19a_2 h19b_2 h24a_2 h24b_2 h22a_2 h22b_2 h23a_2 h23b_2 u5_2 u7_2 u8_2
  ihave r_3 := (Entails.of_eq (L1R_eq (F := F) c 3).symm) $$ [h19a_3 h19b_3 h24a_3 h24b_3 h22a_3 h22b_3 h23a_3 h23b_3 u5_3 u7_3 u8_3]
  · iframe h19a_3 h19b_3 h24a_3 h24b_3 h22a_3 h22b_3 h23a_3 h23b_3 u5_3 u7_3 u8_3
  ihave r_4 := (Entails.of_eq (L1R_eq (F := F) c 4).symm) $$ [h19a_4 h19b_4 h24a_4 h24b_4 h22a_4 h22b_4 h23a_4 h23b_4 u5_4 u7_4 u8_4]
  · iframe h19a_4 h19b_4 h24a_4 h24b_4 h22a_4 h22b_4 h23a_4 h23b_4 u5_4 u7_4 u8_4
  ihave r_5 := (Entails.of_eq (L1R_eq (F := F) c 5).symm) $$ [h19a_5 h19b_5 h24a_5 h24b_5 h22a_5 h22b_5 h23a_5 h23b_5 u5_5 u7_5 u8_5]
  · iframe h19a_5 h19b_5 h24a_5 h24b_5 h22a_5 h22b_5 h23a_5 h23b_5 u5_5 u7_5 u8_5
  ihave r_6 := (Entails.of_eq (L1R_eq (F := F) c 6).symm) $$ [h19a_6 h19b_6 h24a_6 h24b_6 h22a_6 h22b_6 h23a_6 h23b_6 u5_6 u7_6 u8_6]
  · iframe h19a_6 h19b_6 h24a_6 h24b_6 h22a_6 h22b_6 h23a_6 h23b_6 u5_6 u7_6 u8_6
  ihave hd := (Entails.of_eq (dx0 X c).symm) $$ [v25 h20]
  · iframe v25 h20
  ihave he := (Entails.of_eq (dx1 X c).symm) $$ [v26 n20]
  · iframe v26 n20
  imod (bt6 X c) $$ v27 with B6
  imod (bt7 X c) $$ v28 with B7
  imod (bt8 X c) $$ v29 with B8
  unfold cc0_router_bwd
  iapply (part72 X c _) $$ [s2_0 h11_0 v0 s0_0 h10_0 v7 s2_1 h11_1 v1 s0_1 h10_1 v8 s2_2 h11_2 v2 s0_2 h10_2 v9 s2_3 h11_3 v3 s0_3 h10_3 v10 s2_4 h11_4 v4 s0_4 h10_4 v11 s2_5 h11_5 v5 s0_5 h10_5 v12 s2_6 h11_6 v6 s0_6 h10_6 v13 s3 h13 v22 s4 h14 v23 s1 h15 v24 sx_1 hx_1 v15 sx_2 hx_2 v16 sx_3 hx_3 v17 sx_4 hx_4 v18 sx_5 hx_5 v19 sx_6 hx_6 v20 sx_7 hx_7 v21 hO h12_0 h12_1 h12_2 h12_3 h12_4 h12_5 h12_6 h16 n16 h19a h24a h22a h17a h23a h18a h19b h24b h22b h17b h23b h18b u7 B7 u8 B8 n17 n18 hd he r_0 r_1 r_2 r_3 r_4 r_5 r_6 u9 v30 h21 u6 B6 u5_7]
  · iframe s2_0 h11_0 v0 s0_0 h10_0 v7 s2_1 h11_1 v1 s0_1 h10_1 v8 s2_2 h11_2 v2 s0_2 h10_2 v9 s2_3 h11_3 v3 s0_3 h10_3 v10 s2_4 h11_4 v4 s0_4 h10_4 v11 s2_5 h11_5 v5 s0_5 h10_5 v12 s2_6 h11_6 v6 s0_6 h10_6 v13 s3 h13 v22 s4 h14 v23 s1 h15 v24 sx_1 hx_1 v15 sx_2 hx_2 v16 sx_3 hx_3 v17 sx_4 hx_4 v18 sx_5 hx_5 v19 sx_6 hx_6 v20 sx_7 hx_7 v21 hO h12_0 h12_1 h12_2 h12_3 h12_4 h12_5 h12_6 h16 n16 h19a h24a h22a h17a h23a h18a h19b h24b h22b h17b h23b h18b u7 B7 u8 B8 n17 n18 hd he r_0 r_1 r_2 r_3 r_4 r_5 r_6 u9 v30 h21 u6 B6 u5_7
  iintro ⟨h11_0, s2_0, v0, s0_0, v7, h11_1, s2_1, v1, s0_1, v8, h11_2, s2_2, v2, s0_2, v9, h11_3, s2_3, v3, s0_3, v10, h11_4, s2_4, v4, s0_4, v11, h11_5, s2_5, v5, s0_5, v12, h11_6, s2_6, v6, s0_6, v13, s3, v22, s4, v23, s1, v24, sx_1, v15, hO, h12, h13, h14, h15, h16, n16, d17, d18, B7, B8, u5_4, sx_2, v16, g_0, sx_3, v17, g_1, sx_4, v18, g_2, sx_5, v19, g_3, sx_6, v20, g_4, sx_7, v21, g_5, e17, e18, u5_5, v26, u5_7, u5_6, h20, v25, n20, h10, h19, B6, v28, v29, u9, h24, v30⟩
  iapply (wtB' (c := c) (D := (D6 X c)) (cell 27) (N := N6) 10 rfl rfl N6_pos (by decide)) $$ [B6 hO]
  · iframe B6 hO
  iintro ⟨B6, hO⟩
  iapply (wtB' (c := c) (D := (D6 X c)) (cell 27) (N := N6) 11 rfl rfl N6_pos (by decide)) $$ [B6 hO]
  · iframe B6 hO
  iintro ⟨B6, hO⟩
  iapply (wtB' (c := c) (D := (D6 X c)) (cell 27) (N := N6) 12 rfl rfl N6_pos (by decide)) $$ [B6 hO]
  · iframe B6 hO
  iintro ⟨B6, hO⟩
  iapply (wtBL' (c := c) (D := (D6 X c)) (cell 27) (N := N6) 13 rfl rfl N6_pos (by decide)) $$ [B6 hO]
  · iframe B6 hO
  iintro ⟨B6, v27, hO⟩
  iapply (wp_pure_intro (c := c))
  ihave s2 := (Entails.of_eq (ch2_arg2 (c := c) X.w).symm) $$ [s2_0 s2_1 s2_2 s2_3 s2_4 s2_5 s2_6]
  · iframe s2_0 s2_1 s2_2 s2_3 s2_4 s2_5 s2_6
  ihave h11 := (Entails.of_eq (ch2_s1 (c := c) X.w).symm) $$ [h11_0 h11_1 h11_2 h11_3 h11_4 h11_5 h11_6]
  · iframe h11_0 h11_1 h11_2 h11_3 h11_4 h11_5 h11_6
  ihave sx_0 := (Entails.of_eq (ch0c_v0 (c := c) X.x).symm) $$ [s0_0 s0_1 s0_2 s0_3 s0_4 s0_5 s0_6]
  · iframe s0_0 s0_1 s0_2 s0_3 s0_4 s0_5 s0_6
  ihave s0 := (Entails.of_eq (ch0_v0 (c := c) X.x).symm) $$ [sx_0 sx_1 sx_2 sx_3 sx_4 sx_5 sx_6 sx_7]
  · iframe sx_0 sx_1 sx_2 sx_3 sx_4 sx_5 sx_6 sx_7
  ihave u5 := (Entails.of_eq (ch0_v3_0 (c := c) (G5 X)).symm) $$ [g_2 g_3 g_4 g_5 u5_4 u5_5 u5_6 u5_7]
  · iframe g_2 g_3 g_4 g_5 u5_4 u5_5 u5_6 u5_7
  ihave h16 := (pa (c := c)) $$ h16
  ihave d17 := (pa (c := c)) $$ d17
  ihave d18 := (pa (c := c)) $$ d18
  ihave e17 := (pa (c := c)) $$ e17
  ihave e18 := (pa (c := c)) $$ e18
  ihave h20 := (pa (c := c)) $$ h20
  ihave n20 := (pa (c := c)) $$ n20
  ihave h16 := (jo16 (c := c)) $$ [n16 h16]
  · iframe n16 h16
  ihave h17 := (jo17 (c := c)) $$ [d17 e17]
  · iframe d17 e17
  ihave h18 := (jo18 (c := c)) $$ [d18 e18]
  · iframe d18 e18
  ihave h20 := (jo20 (c := c)) $$ [h20 n20]
  · iframe h20 n20
  ihave B6 := (un6 X c) $$ B6
  icases B6 with ⟨u6, h21⟩
  ihave B7 := (un7 X c) $$ B7
  icases B7 with ⟨u7, h22⟩
  ihave B8 := (un8 X c) $$ B8
  icases B8 with ⟨u8, h23⟩
  ihave h10 := (pa (c := c)) $$ h10
  ihave h11 := (pa (c := c)) $$ h11
  ihave h12 := (pa (c := c)) $$ h12
  ihave h13 := (pa (c := c)) $$ h13
  ihave h14 := (pa (c := c)) $$ h14
  ihave h15 := (pa (c := c)) $$ h15
  ihave h19 := (pa (c := c)) $$ h19
  ihave h21 := (pa (c := c)) $$ h21
  ihave h22 := (pa (c := c)) $$ h22
  ihave h23 := (pa (c := c)) $$ h23
  ihave h24 := (pa (c := c)) $$ h24
  iapply (Entails.of_eq (Finish_eq X c).symm)
  iframe hO s0 s2 s3 s4 s1 u5 u6 u7 u8 u9 h10 h11 h12 h13 h14 h15 h16 h17 h18 h19 h20 h21 h22 h23 h24 v0 v1 v2 v3 v4 v5 v6 v7 v8 v9 v10 v11 v12 v13 v14 v15 v16 v17 v18 v19 v20 v21 v22 v23 v24 v25 v26 v27 v28 v29 v30

end Cert.Kernel.Hand
-- ==== Proof.Hand.Kernel.Run.lean ====
/- The run of the whole program: it terminates, its arguments end unchanged, its results are known. -/
module

public import proofs.«01_k».proof.Proof.Hand.Kernel.Body
public import proofs.«01_k».proof.Proof.Gen.Kernel.Frame
public import Idealize.ShloMosaic.Lib.Pipeline.FrameValue

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

/-- What the body reads, on core `c`. -/
def XIn (c : Dev nD) : GIn F := ⟨V m c main_v0, V m c main_arg2, V m c main_v1, V m c main_v2, V m c main_arg1⟩

/-- What core `c`'s buffers hold at the end. -/
def GOut (c : Dev nD) : (b : Ref sig .tc) → Buf (Elt F) ((c : Thread nD τ).loc b) :=
  Function.update (Function.update (Function.update (Function.update (Function.update (V m c) main_v3_0 (G5 (XIn m c))) main_v3_1 (G21 (XIn m c))) main_v3_2 (G22 (XIn m c))) main_v3_3 (G23 (XIn m c))) main_v3_4 (G24 (XIn m c))

theorem GOut_0 (c : Dev nD) : GOut m c main_v3_0 = G5 (XIn m c) := by
  unfold GOut
  rw [Function.update_of_ne (by decide), Function.update_of_ne (by decide), Function.update_of_ne (by decide), Function.update_of_ne (by decide), Function.update_self]
theorem GOut_1 (c : Dev nD) : GOut m c main_v3_1 = G21 (XIn m c) := by
  unfold GOut
  rw [Function.update_of_ne (by decide), Function.update_of_ne (by decide), Function.update_of_ne (by decide), Function.update_self]
theorem GOut_2 (c : Dev nD) : GOut m c main_v3_2 = G22 (XIn m c) := by
  unfold GOut
  rw [Function.update_of_ne (by decide), Function.update_of_ne (by decide), Function.update_self]
theorem GOut_3 (c : Dev nD) : GOut m c main_v3_3 = G23 (XIn m c) := by
  unfold GOut
  rw [Function.update_of_ne (by decide), Function.update_self]
theorem GOut_4 (c : Dev nD) : GOut m c main_v3_4 = G24 (XIn m c) := by
  unfold GOut
  rw [Function.update_self]

/-- The body's cells. -/
abbrev osem0 : Fin 31 → SemLoc sig := fun j => SemLoc.dma (cell j)
theorem ownSemFacts0 : Pipeline.OwnSemFacts cfg0.spec osem0 := by decide +kernel
theorem ownSems00_eq (c : Dev nD) :
    (Pipeline.ownSems0 (Ix := Unit) (Name := ℕ) (U := Pipeline.UD sig nD τ) (Lvl := ℕ) (Val := Elt F) (τ := τ) osem0 c : sProp 𝕄)
      = iprop(SV (F := F) c (cell 0) ∗ SV (F := F) c (cell 1) ∗ SV (F := F) c (cell 2) ∗ SV (F := F) c (cell 3) ∗ SV (F := F) c (cell 4) ∗ SV (F := F) c (cell 5) ∗ SV (F := F) c (cell 6) ∗ SV (F := F) c (cell 7) ∗ SV (F := F) c (cell 8) ∗ SV (F := F) c (cell 9) ∗ SV (F := F) c (cell 10) ∗ SV (F := F) c (cell 11) ∗ SV (F := F) c (cell 12) ∗ SV (F := F) c (cell 13) ∗ SV (F := F) c (cell 14) ∗ SV (F := F) c (cell 15) ∗ SV (F := F) c (cell 16) ∗ SV (F := F) c (cell 17) ∗ SV (F := F) c (cell 18) ∗ SV (F := F) c (cell 19) ∗ SV (F := F) c (cell 20) ∗ SV (F := F) c (cell 21) ∗ SV (F := F) c (cell 22) ∗ SV (F := F) c (cell 23) ∗ SV (F := F) c (cell 24) ∗ SV (F := F) c (cell 25) ∗ SV (F := F) c (cell 26) ∗ SV (F := F) c (cell 27) ∗ SV (F := F) c (cell 28) ∗ SV (F := F) c (cell 29) ∗ SV (F := F) c (cell 30)) := by
  rw [Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide)]; rfl
/-- The buffers the body reads. -/
def H0 : Finset (Ref sig .tc) := {main_v0, main_arg2, main_v1, main_v2, main_arg1}
theorem H0_sub : H0 ⊆ Pipeline.restRefs sig cfg0.spec := by decide
/-- The results. -/
def R0 : Finset (Ref sig .tc) := {main_v3_0, main_v3_1, main_v3_2, main_v3_3, main_v3_4}
theorem R0_sub : R0 ⊆ Pipeline.restRefs sig cfg0.spec \ H0 := by decide
theorem hbmPts0_eq (c : Dev nD) :
    (bigSep H0 (fun b => ((c : Thread nD τ).loc b) ↦{fullShare} V m c b) : sProp 𝕄) = iprop(PT c main_v0 Finset.univ (V m c main_v0) ∗ PT c main_arg2 Finset.univ (V m c main_arg2) ∗ PT c main_v1 Finset.univ (V m c main_v1) ∗ PT c main_v2 Finset.univ (V m c main_v2) ∗ PT c main_arg1 Finset.univ (V m c main_arg1)) := by
  rw [BI.bigSep_eq_bigSepL_of_eq [main_v0, main_arg2, main_v1, main_v2, main_arg1] (by decide) (by decide)]; rfl
theorem routed0_eq (c : Dev nD) (W : (b : Ref sig .tc) → Buf (Elt F) ((c : Thread nD τ).loc b)) :
    (Pipeline.routed R0 c W : sProp 𝕄) = iprop(PT c main_v3_0 Finset.univ (W main_v3_0) ∗ PT c main_v3_1 Finset.univ (W main_v3_1) ∗ PT c main_v3_2 Finset.univ (W main_v3_2) ∗ PT c main_v3_3 Finset.univ (W main_v3_3) ∗ PT c main_v3_4 Finset.univ (W main_v3_4)) := by
  unfold Pipeline.routed; rw [BI.bigSep_eq_bigSepL_of_eq [main_v3_0, main_v3_1, main_v3_2, main_v3_3, main_v3_4] (by decide) (by decide)]; rfl

theorem scoped0_eq (c : Dev nD) : (Pipeline.scopedRest (Ix := Unit) (Name := ℕ) (U := Pipeline.UD sig nD τ) (Lvl := ℕ) (Val := Elt F) cfg0.spec c : sProp 𝕄) = iprop(PA (F := F) c cc0_scratch0 Finset.univ ∗ PA (F := F) c cc0_scratch1 Finset.univ ∗ PA (F := F) c cc0_scratch2 Finset.univ ∗ PA (F := F) c cc0_scratch3 Finset.univ ∗ PA (F := F) c cc0_scratch4 Finset.univ ∗ PA (F := F) c cc0_scratch5 Finset.univ ∗ PA (F := F) c cc0_scratch6 Finset.univ ∗ PA (F := F) c cc0_scratch7 Finset.univ ∗ PA (F := F) c cc0_scratch8 Finset.univ ∗ PA (F := F) c cc0_scratch9 Finset.univ ∗ PA (F := F) c cc0_scratch10 Finset.univ ∗ PA (F := F) c cc0_scratch11 Finset.univ ∗ PA (F := F) c cc0_scratch12 Finset.univ ∗ PA (F := F) c cc0_scratch13 Finset.univ ∗ PA (F := F) c cc0_scratch14 Finset.univ) :=
  scopedRest0_eq c

theorem Phi_eq (c : Dev nD) (G : (c : Dev nD) → (b : Ref sig .tc) → Buf (Elt F) ((c : Thread nD τ).loc b)) :
    (Pipeline.ΦDRG osem0 cfg0.spec H0 R0 (V m) G c : sProp 𝕄)
      = iprop(iprop(PA (F := F) c cc0_scratch0 Finset.univ ∗ PA (F := F) c cc0_scratch1 Finset.univ ∗ PA (F := F) c cc0_scratch2 Finset.univ ∗ PA (F := F) c cc0_scratch3 Finset.univ ∗ PA (F := F) c cc0_scratch4 Finset.univ ∗ PA (F := F) c cc0_scratch5 Finset.univ ∗ PA (F := F) c cc0_scratch6 Finset.univ ∗ PA (F := F) c cc0_scratch7 Finset.univ ∗ PA (F := F) c cc0_scratch8 Finset.univ ∗ PA (F := F) c cc0_scratch9 Finset.univ ∗ PA (F := F) c cc0_scratch10 Finset.univ ∗ PA (F := F) c cc0_scratch11 Finset.univ ∗ PA (F := F) c cc0_scratch12 Finset.univ ∗ PA (F := F) c cc0_scratch13 Finset.univ ∗ PA (F := F) c cc0_scratch14 Finset.univ) ∗ (∃ r, prngReg c r) ∗ iprop(SV (F := F) c (cell 0) ∗ SV (F := F) c (cell 1) ∗ SV (F := F) c (cell 2) ∗ SV (F := F) c (cell 3) ∗ SV (F := F) c (cell 4) ∗ SV (F := F) c (cell 5) ∗ SV (F := F) c (cell 6) ∗ SV (F := F) c (cell 7) ∗ SV (F := F) c (cell 8) ∗ SV (F := F) c (cell 9) ∗ SV (F := F) c (cell 10) ∗ SV (F := F) c (cell 11) ∗ SV (F := F) c (cell 12) ∗ SV (F := F) c (cell 13) ∗ SV (F := F) c (cell 14) ∗ SV (F := F) c (cell 15) ∗ SV (F := F) c (cell 16) ∗ SV (F := F) c (cell 17) ∗ SV (F := F) c (cell 18) ∗ SV (F := F) c (cell 19) ∗ SV (F := F) c (cell 20) ∗ SV (F := F) c (cell 21) ∗ SV (F := F) c (cell 22) ∗ SV (F := F) c (cell 23) ∗ SV (F := F) c (cell 24) ∗ SV (F := F) c (cell 25) ∗ SV (F := F) c (cell 26) ∗ SV (F := F) c (cell 27) ∗ SV (F := F) c (cell 28) ∗ SV (F := F) c (cell 29) ∗ SV (F := F) c (cell 30)) ∗ iprop(PT c main_v0 Finset.univ (V m c main_v0) ∗ PT c main_arg2 Finset.univ (V m c main_arg2) ∗ PT c main_v1 Finset.univ (V m c main_v1) ∗ PT c main_v2 Finset.univ (V m c main_v2) ∗ PT c main_arg1 Finset.univ (V m c main_arg1)) ∗ iprop(PT c main_v3_0 Finset.univ (G c main_v3_0) ∗ PT c main_v3_1 Finset.univ (G c main_v3_1) ∗ PT c main_v3_2 Finset.univ (G c main_v3_2) ∗ PT c main_v3_3 Finset.univ (G c main_v3_3) ∗ PT c main_v3_4 Finset.univ (G c main_v3_4))) := by
  rw [Pipeline.ΦDRG_eq, scoped0_eq, ownSems00_eq, hbmPts0_eq, routed0_eq]

/-- The proof data: nothing staged; the results unwritten before the body's one point and at their contents after it. -/
def dats (_ : Fin 1) (c : Dev nD) : Dat τ (Elt F) Unit ℕ (Pipeline.UD sig nD τ) ℕ cfg0 c where
  A w := w.elim0
  after w := w.elim0
  Φ t := if t.val = 0 then Pipeline.ΦDRG osem0 cfg0.spec H0 R0 (V m) (V m) c else Pipeline.ΦDRG osem0 cfg0.spec H0 R0 (V m) (GOut m) c
  q _ := fullShare
  owed _ := 0

theorem Phi_0 (c : Dev nD) : (dats m 0 c).Φ t0_0.castSucc = Pipeline.ΦDRG osem0 cfg0.spec H0 R0 (V m) (V m) c := rfl
theorem Phi_1 (c : Dev nD) : (dats m 0 c).Φ t0_0.succ = Pipeline.ΦDRG osem0 cfg0.spec H0 R0 (V m) (GOut m) c := rfl

theorem sound_body (c : Dev nD) :
    iprop((dats m 0 c).Φ t0_0.castSucc ∗ (dats m 0 c).owesAt () t0_0.castSucc)
      ⊢ wp frame (wpE (defs₀ (F := F)) Variants.none c none) Set.univ (bodyAt0 t0_0) (fun _ => iprop((dats m 0 c).Φ t0_0.succ ∗ (dats m 0 c).owesAt () t0_0.succ)) := by
  rw [Phi_0, Phi_1, Phi_eq, Phi_eq, GOut_0, GOut_1, GOut_2, GOut_3, GOut_4]
  unfold Dat.owesAt Pipeline.owesWithin
  rw [show (dats m 0 c).owed t0_0.castSucc = 0 from rfl, show (dats m 0 c).owed t0_0.succ = 0 from rfl]
  iintro ⟨⟨⟨h10, h11, h12, h13, h14, h15, h16, h17, h18, h19, h20, h21, h22, h23, h24⟩, Hg, ⟨v0, v1, v2, v3, v4, v5, v6, v7, v8, v9, v10, v11, v12, v13, v14, v15, v16, v17, v18, v19, v20, v21, v22, v23, v24, v25, v26, v27, v28, v29, v30⟩, ⟨s0, s2, s3, s4, s1⟩, ⟨u5, u6, u7, u8, u9⟩⟩, ⟨%W, -, HW⟩⟩
  iapply (wp_wand_of (c := c) (body (XIn m c) c)) $$ [HW s0 s2 s3 s4 s1 u5 u6 u7 u8 u9 h10 h11 h12 h13 h14 h15 h16 h17 h18 h19 h20 h21 h22 h23 h24 v0 v1 v2 v3 v4 v5 v6 v7 v8 v9 v10 v11 v12 v13 v14 v15 v16 v17 v18 v19 v20 v21 v22 v23 v24 v25 v26 v27 v28 v29 v30]
  · iapply (Entails.of_eq (Start_eq (XIn m c) c).symm)
    isplitl [HW]; · iexists W; iexact HW
    isplitl [s0]; · iexact s0
    isplitl [s2]; · iexact s2
    isplitl [s3]; · iexact s3
    isplitl [s4]; · iexact s4
    isplitl [s1]; · iexact s1
    isplitl [u5]; · iexists _; iexact u5
    isplitl [u6]; · iexists _; iexact u6
    isplitl [u7]; · iexists _; iexact u7
    isplitl [u8]; · iexists _; iexact u8
    isplitl [u9]; · iexists _; iexact u9
    iframe h10 h11 h12 h13 h14 h15 h16 h17 h18 h19 h20 h21 h22 h23 h24 v0 v1 v2 v3 v4 v5 v6 v7 v8 v9 v10 v11 v12 v13 v14 v15 v16 v17 v18 v19 v20 v21 v22 v23 v24 v25 v26 v27 v28 v29 v30
  iintro H
  ihave H := (Entails.of_eq (Finish_eq (XIn m c) c)) $$ H
  icases H with ⟨⟨%W', HW⟩, s0, s2, s3, s4, s1, u5, u6, u7, u8, u9, h10, h11, h12, h13, h14, h15, h16, h17, h18, h19, h20, h21, h22, h23, h24, v0, v1, v2, v3, v4, v5, v6, v7, v8, v9, v10, v11, v12, v13, v14, v15, v16, v17, v18, v19, v20, v21, v22, v23, v24, v25, v26, v27, v28, v29, v30⟩
  isplitl [Hg s0 s2 s3 s4 s1 u5 u6 u7 u8 u9 h10 h11 h12 h13 h14 h15 h16 h17 h18 h19 h20 h21 h22 h23 h24 v0 v1 v2 v3 v4 v5 v6 v7 v8 v9 v10 v11 v12 v13 v14 v15 v16 v17 v18 v19 v20 v21 v22 v23 v24 v25 v26 v27 v28 v29 v30]
  · isplitl [h10 h11 h12 h13 h14 h15 h16 h17 h18 h19 h20 h21 h22 h23 h24]
    · iframe h10 h11 h12 h13 h14 h15 h16 h17 h18 h19 h20 h21 h22 h23 h24
    isplitl [Hg]; · iexact Hg
    isplitl [v0 v1 v2 v3 v4 v5 v6 v7 v8 v9 v10 v11 v12 v13 v14 v15 v16 v17 v18 v19 v20 v21 v22 v23 v24 v25 v26 v27 v28 v29 v30]
    · iframe v0 v1 v2 v3 v4 v5 v6 v7 v8 v9 v10 v11 v12 v13 v14 v15 v16 v17 v18 v19 v20 v21 v22 v23 v24 v25 v26 v27 v28 v29 v30
    isplitl [s0 s2 s3 s4 s1]
    · iframe s0 s2 s3 s4 s1
    iframe u5 u6 u7 u8 u9
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have : IsEmpty (Fin cfg0.W) := by show IsEmpty (Fin 0); infer_instance
  rw [Finset.univ_eq_empty, bigSep_empty, bigSep_empty, defs₀_row, fin_N0 t]
  refine triple_restated (sound_body m c) rfl ?_ fun _ => ?_
  · iintro ⟨H, H2, -⟩
    iframe H H2
  · iintro ⟨H, H2⟩
    isplitl [H]; · iexact H
    isplitl [H2]; · iexact H2
    iempintro

set_option backward.isDefEq.respectTransparency.types false in
/-- The run: the arguments unchanged, the results at their contents, every counter at zero. -/
theorem run_main : θ_run defs (onTc (τ := τ) (main (F := F))) (s₀ m ρ) (fun r => Pipeline.FramePostRG cfgs (dats m) 0 R0 (V m) (GOut m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := fun _ w => w.elim0) (G := GOut m)
    (hin := fun _ => .rfl) (hout := fun _ => .rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1.1 c).2 main_arg0 (Finset.mem_sdiff.mpr ⟨Pipeline.mem_restRefs_of main_arg0 (by decide) (by decide), by decide⟩)).trans (V_main_arg0 m c), ((h.1.1 c).2 main_arg1 (Finset.mem_sdiff.mpr ⟨Pipeline.mem_restRefs_of main_arg1 (by decide) (by decide), by decide⟩)).trans (V_main_arg1 m c), ((h.1.1 c).2 main_arg2 (Finset.mem_sdiff.mpr ⟨Pipeline.mem_restRefs_of main_arg2 (by decide) (by decide), by decide⟩)).trans (V_main_arg2 m c), ((h.1.1 c).2 main_arg3 (Finset.mem_sdiff.mpr ⟨Pipeline.mem_restRefs_of main_arg3 (by decide) (by decide), by decide⟩)).trans (V_main_arg3 m c), ((h.1.1 c).2 main_arg4 (Finset.mem_sdiff.mpr ⟨Pipeline.mem_restRefs_of main_arg4 (by decide) (by decide), by decide⟩)).trans (V_main_arg4 m c)⟩, h.2⟩) (run_main m ρ)

end Cert.Kernel.Hand
-- ==== Proof.Hand.Ideal.lean ====
/- The ideal program is the kernel's own text, so what is proved of the kernel at every reading of floats holds of it. -/
module

public import proofs.«01_k».proof.Proof.Hand.Kernel.Run
public import proofs.«01_k».proof.Proof.Gen.KernelIdeal

@[expose] public section

set_option maxRecDepth 65536

noncomputable section

namespace Cert.KernelIdeal.Hand

open Cert.KernelIdeal
open Idealize.ShloMosaic Idealize.ShloMosaic.TcCoe Idealize.SL.Sem

variable {F : FTy → Type} [FloatOps F]

/-- The ideal program terminates, every semaphore ends at zero and its arguments end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Cert.Kernel.Hand.frame m ρ

end Cert.KernelIdeal.Hand
-- ==== Proof.Hand.Quant.lean ====
/- The power-of-two scale of a row: the search over exponent patterns and the logarithm give the same exponent. -/
module

public import Idealize.ShloMosaic.Lib.Pointwise
public import Mathlib.Analysis.SpecialFunctions.Pow.Real

@[expose] public section

set_option maxRecDepth 65536

noncomputable section

namespace Cert.Quant

open Idealize.ShloMosaic

/-! ## The search -/

/-- The number whose pattern has exponent field `b` and nothing else. -/
def thr (b : ℕ) : EReal := Ideal.ofBits .f32 (IntOp.shli .vector (BitVec.ofNat 32 b) 23#32)

/-- One step of the search: the bit is kept when the number it gives is at most `v`. -/
def bstep (v : EReal) (b : BitVec 32) (bit : BitVec 32) : BitVec 32 :=
  Scalar.select (FloatOps.cmpf (F := Ideal) (φ := .f32) .oge v
    (FloatOps.ofBits (F := Ideal) .f32 (IntOp.shli .vector (IntOp.ori b bit) 23#32))) (IntOp.ori b bit) b

/-- The whole search, from the highest bit of the field to the lowest. -/
def search (v : EReal) : BitVec 32 :=
  bstep v (bstep v (bstep v (bstep v (bstep v (bstep v (bstep v (bstep v 0#32 128#32) 64#32) 32#32) 16#32) 8#32) 4#32) 2#32) 1#32

/-- The exponent the search gives, `a` the number tested against zero. -/
def eK (a v : EReal) : BitVec 32 :=
  Scalar.select (FloatOps.cmpf (F := Ideal) (φ := .f32) .oeq a (FloatOps.ofBits (F := Ideal) .f32 0#32)) 0#32
    (Scalar.select (IntOp.ori (IntOp.cmpi .eq (search v) 0#32) (IntOp.cmpi .eq (search v) 255#32)) 0#32
      (IntOp.subi (search v) 126#32))

/-- The number with the exponent field `n`, out of range to zero or infinity. -/
def p2K (n : BitVec 32) : EReal :=
  FloatOps.ofBits (F := Ideal) .f32 (Scalar.select (IntOp.cmpi .sle n 0#32) 0#32
    (Scalar.select (IntOp.cmpi .sge n 255#32) 2139095040#32 (IntOp.shli .vector n 23#32)))

theorem thr_zero : thr 0 = 0 := by
  have : IntOp.shli .vector (BitVec.ofNat 32 0) 23#32 = 0#32 := by decide
  unfold thr; rw [this]; exact Ideal.ofBits_zero .f32

theorem thr_top : thr 255 = ⊤ := by
  have : IntOp.shli .vector (BitVec.ofNat 32 255) 23#32 = 2139095040#32 := by decide
  unfold thr; rw [this]
  show Ideal.ieee 8 23 2139095040#32 = ⊤
  unfold Ideal.ieee
  have h1 : (BitVec.extractLsb' 23 8 2139095040#32).toNat = 255 := by decide
  have h2 : (BitVec.extractLsb' 0 23 2139095040#32).toNat = 0 := by decide
  have h3 : (BitVec.extractLsb' (8 + 23) 1 2139095040#32 == 1#1) = false := by decide
  simp [h1, h2, h3]

theorem fields (b : Fin 256) :
    (BitVec.extractLsb' 23 8 (IntOp.shli .vector (BitVec.ofNat 32 b.1) 23#32)).toNat = b.1
    ∧ (BitVec.extractLsb' 0 23 (IntOp.shli .vector (BitVec.ofNat 32 b.1) 23#32)).toNat = 0
    ∧ (BitVec.extractLsb' (8 + 23) 1 (IntOp.shli .vector (BitVec.ofNat 32 b.1) 23#32) == 1#1) = false := by
  revert b; decide +kernel

theorem thr_mid (b : ℕ) (h0 : 0 < b) (h1 : b < 255) : thr b = (((2 : ℝ) ^ ((b : ℤ) - 127) : ℝ) : EReal) := by
  obtain ⟨f1, f2, f3⟩ := fields ⟨b, by omega⟩
  simp only at f1 f2 f3
  show Ideal.ieee 8 23 (IntOp.shli .vector (BitVec.ofNat 32 b) 23#32) = _
  unfold Ideal.ieee
  simp only [f1, f2, f3]
  rw [if_neg (by omega), if_neg (by omega)]
  refine congrArg Real.toEReal ?_
  have : (2 : ℝ) ^ ((b : ℤ) - (2 ^ (8 - 1) - 1) - (23 : ℕ)) = (2 : ℝ) ^ ((b : ℤ) - 127) * (2 : ℝ) ^ (-23 : ℤ) := by
    rw [← zpow_add₀ (by norm_num)]; congr 1
  rw [this]; norm_num; ring

theorem ori_bit : ∀ b : Fin 256, (b.1 % 256 = 0 → IntOp.ori (BitVec.ofNat 32 b.1) 128#32 = BitVec.ofNat 32 (b.1 + 128))
    ∧ (b.1 % 128 = 0 → IntOp.ori (BitVec.ofNat 32 b.1) 64#32 = BitVec.ofNat 32 (b.1 + 64))
    ∧ (b.1 % 64 = 0 → IntOp.ori (BitVec.ofNat 32 b.1) 32#32 = BitVec.ofNat 32 (b.1 + 32))
    ∧ (b.1 % 32 = 0 → IntOp.ori (BitVec.ofNat 32 b.1) 16#32 = BitVec.ofNat 32 (b.1 + 16))
    ∧ (b.1 % 16 = 0 → IntOp.ori (BitVec.ofNat 32 b.1) 8#32 = BitVec.ofNat 32 (b.1 + 8))
    ∧ (b.1 % 8 = 0 → IntOp.ori (BitVec.ofNat 32 b.1) 4#32 = BitVec.ofNat 32 (b.1 + 4))
    ∧ (b.1 % 4 = 0 → IntOp.ori (BitVec.ofNat 32 b.1) 2#32 = BitVec.ofNat 32 (b.1 + 2))
    ∧ (b.1 % 2 = 0 → IntOp.ori (BitVec.ofNat 32 b.1) 1#32 = BitVec.ofNat 32 (b.1 + 1)) := by
  decide +kernel

/-- What the search knows after the bits above `2 ^ i`. -/
def Inv (v : EReal) (p : ℕ) (x : BitVec 32) : Prop :=
  ∃ b : ℕ, x = BitVec.ofNat 32 b ∧ b % p = 0 ∧ b + p ≤ 256 ∧ thr b ≤ v ∧ (b + p < 256 → v < thr (b + p))

theorem inv_step (v : EReal) (p : ℕ) (x bit : BitVec 32) (h2 : (2 * p) ∣ 256)
    (ho : ∀ b, b < 256 → b % (2 * p) = 0 → IntOp.ori (BitVec.ofNat 32 b) bit = BitVec.ofNat 32 (b + p))
    (hp : 0 < p) (h : Inv v (2 * p) x) : Inv v p (bstep v x bit) := by
  obtain ⟨b, rfl, hm, hle, hv, hlt⟩ := h
  have hb := ho b (by omega) hm
  have hmp : b % p = 0 := by
    have : p ∣ b := (Dvd.intro_left 2 rfl).trans (Nat.dvd_of_mod_eq_zero hm)
    exact Nat.mod_eq_zero_of_dvd this
  have hmp' : (b + p) % p = 0 := by rw [Nat.add_mod_right]; exact hmp
  unfold bstep
  rw [hb]
  by_cases c : thr (b + p) ≤ v
  · have : FloatOps.cmpf (F := Ideal) (φ := .f32) .oge v
        (FloatOps.ofBits (F := Ideal) .f32 (IntOp.shli .vector (BitVec.ofNat 32 (b + p)) 23#32)) = 1#1 := by
      show Ideal.cmp .oge v (thr (b + p)) = 1#1
      simp [Ideal.cmp, c]
    rw [this]
    refine ⟨b + p, rfl, hmp', by omega, c, fun hh => ?_⟩
    have := hlt (by omega)
    rwa [show b + p + p = b + 2 * p by ring]
  · have : FloatOps.cmpf (F := Ideal) (φ := .f32) .oge v
        (FloatOps.ofBits (F := Ideal) .f32 (IntOp.shli .vector (BitVec.ofNat 32 (b + p)) 23#32)) = 0#1 := by
      show Ideal.cmp .oge v (thr (b + p)) = 0#1
      simp [Ideal.cmp, c]
    rw [this]
    exact ⟨b, rfl, hmp, by omega, hv, fun _ => not_le.mp c⟩

theorem search_spec (v : EReal) (hv : 0 ≤ v) : Inv v 1 (search v) := by
  have h0 : Inv v 256 0#32 := ⟨0, rfl, rfl, by norm_num, by rw [thr_zero]; exact hv, fun h => absurd h (by norm_num)⟩
  have o := fun b (hb : b < 256) => ori_bit ⟨b, hb⟩
  exact inv_step v 1 _ _ (by decide) (fun b hb => (o b hb).2.2.2.2.2.2.2) (by norm_num)
    (inv_step v 2 _ _ (by decide) (fun b hb => (o b hb).2.2.2.2.2.2.1) (by norm_num)
    (inv_step v 4 _ _ (by decide) (fun b hb => (o b hb).2.2.2.2.2.1) (by norm_num)
    (inv_step v 8 _ _ (by decide) (fun b hb => (o b hb).2.2.2.2.1) (by norm_num)
    (inv_step v 16 _ _ (by decide) (fun b hb => (o b hb).2.2.2.1) (by norm_num)
    (inv_step v 32 _ _ (by decide) (fun b hb => (o b hb).2.2.1) (by norm_num)
    (inv_step v 64 _ _ (by decide) (fun b hb => (o b hb).2.1) (by norm_num)
    (inv_step v 128 _ _ (by decide) (fun b hb => (o b hb).1) (by norm_num) h0)))))))

/-! ## The logarithm -/

/-- The exponent by the logarithm. -/
def eR (v : EReal) : EReal :=
  Scalar.select (IntOp.ori (FloatOps.cmpf (F := Ideal) (φ := .f32) .olt v (FloatOps.ofBits (F := Ideal) .f32 8388608#32))
      (FloatOps.cmpf (F := Ideal) (φ := .f32) .oeq v (FloatOps.ofBits (F := Ideal) .f32 2139095040#32)))
    (FloatOps.ofBits (F := Ideal) .f32 0#32)
    (min (Ideal.liftRound Int.floor (Ideal.div (Ideal.log v) (Ideal.log (FloatOps.ofBits (F := Ideal) .f32 1073741824#32)))
      + FloatOps.ofBits (F := Ideal) .f32 1065353216#32) (FloatOps.ofBits (F := Ideal) .f32 1124073472#32))

/-- Two to a power, out of range to zero or infinity. -/
def ldR (e : EReal) : EReal :=
  Scalar.select (FloatOps.cmpf (F := Ideal) (φ := .f32) .ogt e (FloatOps.ofBits (F := Ideal) .f32 1123942400#32))
    (FloatOps.ofBits (F := Ideal) .f32 2139095040#32)
    (Scalar.select (FloatOps.cmpf (F := Ideal) (φ := .f32) .olt e (FloatOps.ofBits (F := Ideal) .f32 3271294976#32))
      (FloatOps.ofBits (F := Ideal) .f32 0#32) (Ideal.exp2 e))

theorem c_inf : FloatOps.ofBits (F := Ideal) .f32 2139095040#32 = (⊤ : EReal) := by
  have : IntOp.shli .vector (BitVec.ofNat 32 255) 23#32 = 2139095040#32 := by decide
  rw [← this]; exact thr_top

theorem c_min : FloatOps.ofBits (F := Ideal) .f32 8388608#32 = thr 1 := by
  have : IntOp.shli .vector (BitVec.ofNat 32 1) 23#32 = 8388608#32 := by decide
  rw [← this]; rfl

theorem c_two : FloatOps.ofBits (F := Ideal) .f32 1073741824#32 = ((2 : ℝ) : EReal) := by
  have : IntOp.shli .vector (BitVec.ofNat 32 128) 23#32 = 1073741824#32 := by decide
  rw [← this]; refine (thr_mid 128 (by norm_num) (by norm_num)).trans ?_; norm_num

theorem c_one : FloatOps.ofBits (F := Ideal) .f32 1065353216#32 = ((1 : ℝ) : EReal) := by
  have : IntOp.shli .vector (BitVec.ofNat 32 127) 23#32 = 1065353216#32 := by decide
  rw [← this]; refine (thr_mid 127 (by norm_num) (by norm_num)).trans ?_; norm_num

theorem c_128 : FloatOps.ofBits (F := Ideal) .f32 1124073472#32 = ((128 : ℝ) : EReal) := by
  have : IntOp.shli .vector (BitVec.ofNat 32 134) 23#32 = 1124073472#32 := by decide
  rw [← this]; refine (thr_mid 134 (by norm_num) (by norm_num)).trans ?_; norm_num

theorem c_127 : FloatOps.ofBits (F := Ideal) .f32 1123942400#32 = ((127 : ℝ) : EReal) := by
  show Ideal.ieee 8 23 1123942400#32 = _
  unfold Ideal.ieee
  have h1 : (BitVec.extractLsb' 23 8 1123942400#32).toNat = 133 := by decide
  have h2 : (BitVec.extractLsb' 0 23 1123942400#32).toNat = 8257536 := by decide
  have h3 : (BitVec.extractLsb' (8 + 23) 1 1123942400#32 == 1#1) = false := by decide
  simp only [h1, h2, h3]
  rw [if_neg (by norm_num), if_neg (by norm_num)]
  refine congrArg Real.toEReal ?_; norm_num

theorem c_n126 : FloatOps.ofBits (F := Ideal) .f32 3271294976#32 = ((-126 : ℝ) : EReal) := by
  show Ideal.ieee 8 23 3271294976#32 = _
  unfold Ideal.ieee
  have h1 : (BitVec.extractLsb' 23 8 3271294976#32).toNat = 133 := by decide
  have h2 : (BitVec.extractLsb' 0 23 3271294976#32).toNat = 8126464 := by decide
  have h3 : (BitVec.extractLsb' (8 + 23) 1 3271294976#32 == 1#1) = true := by decide
  simp only [h1, h2, h3]
  rw [if_neg (by norm_num), if_neg (by norm_num)]
  refine congrArg Real.toEReal ?_; norm_num

theorem ldR_int (k : ℤ) : ldR ((k : ℝ) : EReal) = if 127 < k then ⊤ else if k < -126 then 0 else (((2 : ℝ) ^ k : ℝ) : EReal) := by
  unfold ldR
  rw [c_127, c_n126, c_inf]
  have z : FloatOps.ofBits (F := Ideal) .f32 0#32 = (0 : EReal) := Ideal.ofBits_zero .f32
  rw [z, Ideal.exp2_coe]
  have a : FloatOps.cmpf (F := Ideal) (φ := .f32) .ogt ((k : ℝ) : EReal) ((127 : ℝ) : EReal) = if 127 < k then 1#1 else 0#1 := by
    show BitVec.ofBool (decide (((127 : ℝ) : EReal) < ((k : ℝ) : EReal))) = _
    have : (((127 : ℝ) : EReal) < ((k : ℝ) : EReal)) ↔ 127 < k := by
      rw [EReal.coe_lt_coe_iff]; exact_mod_cast Iff.rfl
    by_cases h : 127 < k
    · simp [this.mpr h, h]
    · simp [this, h]
  have b : FloatOps.cmpf (F := Ideal) (φ := .f32) .olt ((k : ℝ) : EReal) ((-126 : ℝ) : EReal) = if k < -126 then 1#1 else 0#1 := by
    show BitVec.ofBool (decide (((k : ℝ) : EReal) < ((-126 : ℝ) : EReal))) = _
    have : (((k : ℝ) : EReal) < ((-126 : ℝ) : EReal)) ↔ k < -126 := by
      rw [EReal.coe_lt_coe_iff]; exact_mod_cast Iff.rfl
    by_cases h : k < -126
    · rw [decide_eq_true (this.mpr h), if_pos h]; rfl
    · rw [decide_eq_false (fun g => h (this.mp g)), if_neg h]; rfl
  rw [a, b]
  have e : Real.rpow 2 (k : ℝ) = (2 : ℝ) ^ k := Real.rpow_intCast 2 k
  rw [e]
  unfold Scalar.select
  by_cases h : 127 < k
  · simp [h]
  · by_cases h' : k < -126
    · simp [h, h']
    · simp [h, h']

theorem eR_out (v : EReal) (h : v < thr 1 ∨ v = ⊤) : eR v = ((0 : ℤ) : ℝ) := by
  unfold eR
  rw [c_min, c_inf]
  have : IntOp.ori (FloatOps.cmpf (F := Ideal) (φ := .f32) .olt v (thr 1)) (FloatOps.cmpf (F := Ideal) (φ := .f32) .oeq v ⊤) = 1#1 := by
    show BitVec.ofBool (decide (v < thr 1)) ||| BitVec.ofBool (decide (v = ⊤)) = 1#1
    rcases h with h | h
    · rw [decide_eq_true h]; generalize decide (v = ⊤) = q; revert q; decide
    · rw [decide_eq_true h]; generalize decide (v < thr 1) = q; revert q; decide
  rw [this]
  show FloatOps.ofBits (F := Ideal) .f32 0#32 = _
  rw [show FloatOps.ofBits (F := Ideal) .f32 0#32 = (0 : EReal) from Ideal.ofBits_zero .f32]
  norm_num

theorem eR_real (r : ℝ) (h : (2 : ℝ) ^ (-126 : ℤ) ≤ r) :
    eR (r : EReal) = min (((⌊Real.log r / Real.log 2⌋ + 1 : ℤ) : ℝ) : EReal) ((128 : ℝ) : EReal) := by
  have hr : 0 < r := lt_of_lt_of_le (by positivity) h
  have l2 : 0 < Real.log 2 := Real.log_pos (by norm_num)
  unfold eR
  rw [c_min, c_inf, c_two, c_one, c_128, thr_mid 1 (by norm_num) (by norm_num)]
  have : IntOp.ori (FloatOps.cmpf (F := Ideal) (φ := .f32) .olt (r : EReal) (((2 : ℝ) ^ (((1 : ℕ) : ℤ) - 127) : ℝ) : EReal))
      (FloatOps.cmpf (F := Ideal) (φ := .f32) .oeq (r : EReal) ⊤) = 0#1 := by
    show BitVec.ofBool (decide ((r : EReal) < (((2 : ℝ) ^ (((1 : ℕ) : ℤ) - 127) : ℝ) : EReal))) ||| BitVec.ofBool (decide ((r : EReal) = ⊤)) = 0#1
    have a : ¬ (r : EReal) < (((2 : ℝ) ^ (((1 : ℕ) : ℤ) - 127) : ℝ) : EReal) := by
      rw [EReal.coe_lt_coe_iff, not_lt]
      exact h
    rw [decide_eq_false a, decide_eq_false (EReal.coe_ne_top r)]; rfl
  rw [this]
  show min (Ideal.liftRound Int.floor (Ideal.div (Ideal.log (r : EReal)) (Ideal.log ((2 : ℝ) : EReal))) + ((1 : ℝ) : EReal)) ((128 : ℝ) : EReal) = _
  rw [Ideal.log_coe, Ideal.log_coe, if_neg (not_le.mpr hr), if_neg (by norm_num)]
  have d : Ideal.div ((Real.log r : ℝ) : EReal) ((Real.log 2 : ℝ) : EReal) = ((Real.log r / Real.log 2 : ℝ) : EReal) := by
    unfold Ideal.div
    rw [if_neg (by exact_mod_cast l2.ne'), ← EReal.coe_inv, ← EReal.coe_mul, div_eq_mul_inv]
  rw [d, Ideal.liftRound_coe, ← EReal.coe_add]
  push_cast; rfl

theorem le_floor (r : ℝ) (k : ℤ) (h1 : (2 : ℝ) ^ k ≤ r) : k ≤ ⌊Real.log r / Real.log 2⌋ := by
  have l2 : 0 < Real.log 2 := Real.log_pos (by norm_num)
  have g1 := Real.log_le_log (by positivity) h1
  rw [Real.log_zpow] at g1
  exact Int.le_floor.mpr ((le_div_iff₀ l2).mpr g1)

theorem floor_lt (r : ℝ) (k : ℤ) (hr : 0 < r) (h1 : r < (2 : ℝ) ^ k) : ⌊Real.log r / Real.log 2⌋ < k := by
  have l2 : 0 < Real.log 2 := Real.log_pos (by norm_num)
  have g1 := Real.log_lt_log hr h1
  rw [Real.log_zpow] at g1
  exact Int.floor_lt.mpr ((div_lt_iff₀ l2).mpr g1)

/-! ## They agree -/

/-- The exponent as an integer, from the field the search ends with. -/
def kk (b : ℕ) : ℤ := if b = 0 ∨ b = 255 then 0 else (b : ℤ) - 126

theorem eR_kk (v : EReal) (b : ℕ) (hb : b < 256) (h1 : thr b ≤ v) (h2 : b + 1 < 256 → v < thr (b + 1)) :
    eR v = ((kk b : ℤ) : ℝ) := by
  by_cases c0 : b = 0
  · subst c0
    rw [eR_out v (.inl (h2 (by norm_num)))]; rfl
  by_cases c1 : b = 255
  · subst c1
    rw [thr_top, top_le_iff] at h1
    rw [eR_out v (.inr h1)]; rfl
  have hlt := h2 (by omega)
  rw [thr_mid b (by omega) (by omega)] at h1
  induction v using EReal.rec with
  | bot => exact absurd (le_bot_iff.mp h1) (EReal.coe_ne_bot _)
  | top => exact absurd hlt not_top_lt
  | coe r =>
    rw [EReal.coe_le_coe_iff] at h1
    have hr : 0 < r := lt_of_lt_of_le (by positivity) h1
    have hf := le_floor r _ h1
    rw [eR_real r (le_trans (zpow_le_zpow_right₀ (by norm_num) (by omega)) h1)]
    have hk : kk b = (b : ℤ) - 126 := by unfold kk; rw [if_neg (by omega)]
    rw [hk]
    by_cases c2 : b = 254
    · subst c2
      have : (127 : ℝ) ≤ (⌊Real.log r / Real.log 2⌋ : ℝ) := by
        have : (127 : ℤ) ≤ ⌊Real.log r / Real.log 2⌋ := by simpa using hf
        exact_mod_cast this
      rw [min_eq_right]
      · norm_num
      · rw [EReal.coe_le_coe_iff]; push_cast; linarith
    rw [thr_mid (b + 1) (by omega) (by omega), EReal.coe_lt_coe_iff] at hlt
    have hg := floor_lt r _ hr hlt
    have he : ⌊Real.log r / Real.log 2⌋ + 1 = (b : ℤ) - 126 := by push_cast at hg; omega
    rw [he, min_eq_left]
    rw [EReal.coe_le_coe_iff]
    have : ((b : ℤ) - 126 : ℤ) ≤ 128 := by omega
    exact_mod_cast this

/-- The exponent word of the search. -/
def ew (b : ℕ) : BitVec 32 :=
  Scalar.select (IntOp.ori (IntOp.cmpi .eq (BitVec.ofNat 32 b) 0#32) (IntOp.cmpi .eq (BitVec.ofNat 32 b) 255#32)) 0#32
      (IntOp.subi (BitVec.ofNat 32 b) 126#32)

theorem words : ∀ b : Fin 256,
    (IntOp.addi (ew b.1) 127#32 = if b.1 = 0 ∨ b.1 = 255 then BitVec.ofNat 32 127 else BitVec.ofNat 32 (b.1 + 1))
    ∧ (IntOp.addi (IntOp.subi 0#32 (ew b.1)) 127#32 = if b.1 = 0 ∨ b.1 = 255 then BitVec.ofNat 32 127 else
        if b.1 = 254 then 4294967295#32 else BitVec.ofNat 32 (253 - b.1)) := by
  decide +kernel

theorem p2K_arg : ∀ n : Fin 256,
    Scalar.select (IntOp.cmpi .sle (BitVec.ofNat 32 n.1) 0#32) 0#32
      (Scalar.select (IntOp.cmpi .sge (BitVec.ofNat 32 n.1) 255#32) 2139095040#32 (IntOp.shli .vector (BitVec.ofNat 32 n.1) 23#32))
    = IntOp.shli .vector (BitVec.ofNat 32 n.1) 23#32 := by
  decide +kernel

theorem p2K_nat (n : ℕ) (h : n < 256) : p2K (BitVec.ofNat 32 n) = thr n := by
  unfold p2K; rw [p2K_arg ⟨n, h⟩]; rfl

theorem p2K_neg : p2K 4294967295#32 = 0 := by
  have : Scalar.select (IntOp.cmpi .sle 4294967295#32 0#32) 0#32
      (Scalar.select (IntOp.cmpi .sge 4294967295#32 255#32) 2139095040#32 (IntOp.shli .vector 4294967295#32 23#32)) = 0#32 := by decide
  unfold p2K; rw [this]; exact Ideal.ofBits_zero .f32

theorem ewscale (b : ℕ) (hb : b < 256) : p2K (IntOp.addi (ew b) 127#32) = ldR ((kk b : ℤ) : ℝ) := by
  rw [(words ⟨b, hb⟩).1, ldR_int]
  unfold kk
  by_cases c : b = 0 ∨ b = 255
  · simp only [if_pos c]
    rw [p2K_nat 127 (by norm_num), thr_mid 127 (by norm_num) (by norm_num), if_neg (by norm_num), if_neg (by norm_num)]
    norm_num
  · simp only [if_neg c]
    rw [p2K_nat (b + 1) (by omega)]
    by_cases c2 : b = 254
    · subst c2; rw [if_pos (by norm_num)]; exact thr_top
    · rw [thr_mid _ (by omega) (by omega), if_neg (by omega), if_neg (by omega)]
      congr 2; push_cast; ring

theorem ewinv (b : ℕ) (hb : b < 256) : p2K (IntOp.addi (IntOp.subi 0#32 (ew b)) 127#32) = ldR ((-kk b : ℤ) : ℝ) := by
  rw [(words ⟨b, hb⟩).2, ldR_int]
  unfold kk
  by_cases c : b = 0 ∨ b = 255
  · simp only [if_pos c]
    rw [p2K_nat 127 (by norm_num), thr_mid 127 (by norm_num) (by norm_num), if_neg (by norm_num), if_neg (by norm_num)]
    norm_num
  · simp only [if_neg c]
    by_cases c2 : b = 254
    · subst c2; rw [if_pos rfl, p2K_neg, if_neg (by norm_num), if_pos (by norm_num)]
    · rw [if_neg c2, p2K_nat (253 - b) (by omega)]
      by_cases c3 : b = 253
      · subst c3; rw [if_neg (by norm_num), if_pos (by norm_num)]; exact thr_zero
      · rw [thr_mid _ (by omega) (by omega), if_neg (by omega), if_neg (by omega)]
        congr 2; omega

theorem eK_ew (a v : EReal) (b : ℕ) (hb : b < 256) (hs : search v = BitVec.ofNat 32 b) (h1 : thr b ≤ v) (ha : a = 0 → v = 0) :
    eK a v = ew b := by
  unfold eK
  rw [hs]
  show Scalar.select _ 0#32 (ew b) = _
  rw [show FloatOps.ofBits (F := Ideal) .f32 0#32 = (0 : EReal) from Ideal.ofBits_zero .f32]
  by_cases c : a = 0
  · have hv := ha c
    have : b = 0 := by
      by_contra hne
      rw [hv] at h1
      by_cases c1 : b = 255
      · rw [c1, thr_top] at h1; exact absurd h1 (by simp)
      · rw [thr_mid b (by omega) (by omega)] at h1
        have : (0 : ℝ) < (2 : ℝ) ^ ((b : ℤ) - 127) := by positivity
        exact absurd h1 (not_le.mpr (by exact_mod_cast this))
    subst this
    have : ew 0 = 0#32 := by decide
    rw [this]
    unfold Scalar.select; split <;> rfl
  · have : FloatOps.cmpf (F := Ideal) (φ := .f32) .oeq a (0 : EReal) = 0#1 := by
      show BitVec.ofBool (decide (a = 0)) = 0#1
      rw [decide_eq_false c]; rfl
    rw [this]; rfl

/-- The two scales agree, and the two inverse scales. -/
theorem scales (a v : EReal) (hv : 0 ≤ v) (ha : a = 0 → v = 0) :
    p2K (IntOp.addi (eK a v) 127#32) = ldR (eR v)
    ∧ p2K (IntOp.addi (IntOp.subi 0#32 (eK a v)) 127#32)
      = ldR (FloatOps.ofBits (F := Ideal) .f32 0#32 - eR v) := by
  obtain ⟨b, hs, -, hle, h1, h2⟩ := search_spec v hv
  rw [eK_ew a v b (by omega) hs h1 ha, eR_kk v b (by omega) h1 h2]
  refine ⟨ewscale b (by omega), (ewinv b (by omega)).trans ?_⟩
  rw [show FloatOps.ofBits (F := Ideal) .f32 0#32 = (0 : EReal) from Ideal.ofBits_zero .f32, zero_sub, ← EReal.coe_neg]
  push_cast; rfl

end Cert.Quant

end
-- ==== Proof.Hand.Router.lean ====
/- What the router does to one token, on numbers: the selected logits, their softmax, the cotangent of the
   logits and its largest magnitude. -/
module

public import proofs.«01_k».proof.Proof.Hand.Quant

@[expose] public section

set_option maxRecDepth 65536

noncomputable section

namespace Cert.Router

open Idealize.ShloMosaic

/-- The number of an expert, as a word. -/
def iw (e : Fin 256) : BitVec 32 := BitVec.ofNat 32 e.1

/-- The logit of the expert with the given number. -/
def selS (L : Fin 256 → EReal) (id : BitVec 32) : EReal :=
  ∑ e : Fin 256, Scalar.select (IntOp.cmpi .eq id (iw e)) (L e) 0

/-- The softmax over the eight selected logits. -/
def gS (lg : Fin 8 → EReal) (k : Fin 8) : EReal :=
  Ideal.div (Ideal.exp (lg k - Finset.fold max (Ideal.ofBits .f32 4286578688#32) (fun x => lg x) Finset.univ))
    (∑ y, Ideal.exp (lg y - Finset.fold max (Ideal.ofBits .f32 4286578688#32) (fun x => lg x) Finset.univ))

/-- The cotangent of the selected logits. -/
def dsS (lg dg : Fin 8 → EReal) (k : Fin 8) : EReal := gS lg k * (dg k - ∑ x, gS lg x * dg x)

/-- The cotangent of the logits, zero where no selected expert stands. -/
def dlS (id : Fin 8 → BitVec 32) (ds : Fin 8 → EReal) (e : Fin 256) : EReal :=
  Scalar.select (IntOp.cmpi .eq (id 7) (iw e)) (ds 7)
    (Scalar.select (IntOp.cmpi .eq (id 6) (iw e)) (ds 6)
      (Scalar.select (IntOp.cmpi .eq (id 5) (iw e)) (ds 5)
        (Scalar.select (IntOp.cmpi .eq (id 4) (iw e)) (ds 4)
          (Scalar.select (IntOp.cmpi .eq (id 3) (iw e)) (ds 3)
            (Scalar.select (IntOp.cmpi .eq (id 2) (iw e)) (ds 2)
              (Scalar.select (IntOp.cmpi .eq (id 1) (iw e)) (ds 1)
                (Scalar.select (IntOp.cmpi .eq (id 0) (iw e)) (ds 0) 0)))))))

/-- The largest magnitude. -/
def amS (dl : Fin 256 → EReal) : EReal :=
  Finset.fold max (Ideal.ofBits .f32 4286578688#32) (fun e => FloatOps.absf (F := Ideal) (φ := .f32) (dl e)) Finset.univ

/-- The largest magnitude over the largest code. -/
def vS (a : EReal) : EReal := a * Ideal.ofBits .f32 932333861#32

theorem iw_inj (a b : Fin 256) (h : iw a = iw b) : a = b := by
  have := congrArg BitVec.toNat h
  simp only [iw, BitVec.toNat_ofNat] at this
  exact Fin.ext (by have := a.2; have := b.2; omega)

theorem cmp_eq (x y : BitVec 32) : IntOp.cmpi .eq x y = if x = y then 1#1 else 0#1 := by
  unfold IntOp.cmpi
  by_cases h : x = y
  · subst h; simp
  · have : (x == y) = false := by simpa using h
    simp only [this, if_neg h]; rfl

/-- A selected logit, scaled, is the scaled logit selected. -/
theorem selS_scale (L : Fin 256 → EReal) (s : EReal) (id : BitVec 32) : selS (fun e => L e * s) id = selS L id * s := by
  unfold selS
  by_cases h : ∃ e, id = iw e
  · obtain ⟨e, he⟩ := h
    rw [Finset.sum_eq_single_of_mem e (Finset.mem_univ e), Finset.sum_eq_single_of_mem e (Finset.mem_univ e)]
    · simp [cmp_eq, he, Scalar.select]
    all_goals
      intro b _ hb
      have : ¬ iw e = iw b := fun h => hb (iw_inj _ _ h).symm
      simp [cmp_eq, he, this, Scalar.select]
  · have h' : ∀ e, ¬ id = iw e := fun e he => h ⟨e, he⟩
    simp [cmp_eq, h', Scalar.select]

theorem absf_nonneg (x : EReal) : 0 ≤ FloatOps.absf (F := Ideal) (φ := .f32) x := by
  rw [Ideal.absf_def]
  rcases le_total 0 x with h | h
  · exact le_max_of_le_left h
  · exact le_max_of_le_right (by simpa using h)

theorem amS_nonneg (dl : Fin 256 → EReal) : 0 ≤ amS dl := by
  unfold amS
  exact (Finset.le_fold_max (0 : EReal)).mpr (.inr ⟨0, Finset.mem_univ _, absf_nonneg _⟩)

theorem c7_pos : (0 : EReal) ≤ Ideal.ofBits .f32 932333861#32 := by
  show 0 ≤ Ideal.ieee 8 23 932333861#32
  unfold Ideal.ieee
  have h1 : (BitVec.extractLsb' 23 8 932333861#32).toNat = 111 := by decide
  have h3 : (BitVec.extractLsb' (8 + 23) 1 932333861#32 == 1#1) = false := by decide
  simp only [h1, h3]
  rw [if_neg (by norm_num), if_neg (by norm_num)]
  refine EReal.coe_nonneg.mpr ?_
  simp only [Bool.false_eq_true, if_false, one_mul]
  positivity

theorem vS_nonneg (a : EReal) (h : 0 ≤ a) : 0 ≤ vS a := mul_nonneg h c7_pos

theorem vS_zero (a : EReal) (h : a = 0) : vS a = 0 := by rw [h]; exact zero_mul _

/-- The row's scale. -/
def scS (a : EReal) : EReal := Quant.ldR (Quant.eR (vS a))

/-- The row's inverse scale. -/
def ivS (a : EReal) : EReal := Quant.ldR (FloatOps.ofBits (F := Ideal) .f32 0#32 - Quant.eR (vS a))

theorem scS_eq (a : EReal) (h : 0 ≤ a) : Quant.p2K (IntOp.addi (Quant.eK a (vS a)) 127#32) = scS a :=
  (Quant.scales a (vS a) (vS_nonneg a h) (vS_zero a)).1

theorem ivS_eq (a : EReal) (h : 0 ≤ a) :
    Quant.p2K (IntOp.addi (IntOp.subi 0#32 (Quant.eK a (vS a))) 127#32) = ivS a :=
  (Quant.scales a (vS a) (vS_nonneg a h) (vS_zero a)).2

/-- The code of one number. -/
def cdS (x s : EReal) : EReal := min (Ideal.ofBits .f32 1197473792#32) (max (Ideal.ofBits .f32 3344957440#32) (x * s))

/-! ## All the tokens -/

/-- What the computation is given, as numbers. -/
structure TIn where
  x : Fin 2048 → Fin 7168 → EReal
  w : Fin 7168 → Fin 256 → EReal
  id : Fin 2048 → Fin 8 → BitVec 32
  dg : Fin 2048 → Fin 8 → EReal
  xs : Fin 2048 → EReal

namespace TIn

variable (X : TIn)

/-- A logit before the token's scale. -/
def L (T : Fin 2048) (e : Fin 256) : EReal := ∑ h, X.w h e * X.x T h
/-- The cotangent of the logits. -/
def D (T : Fin 2048) : Fin 256 → EReal :=
  dlS (X.id T) (dsS (fun k => selS (X.L T) (X.id T k) * X.xs T) (X.dg T))
/-- A row's largest magnitude. -/
def A (T : Fin 2048) : EReal := amS (X.D T)
/-- A code. -/
def C (T : Fin 2048) (e : Fin 256) : EReal := cdS (X.D T e) (ivS (X.A T))
/-- The cotangent of the tokens. -/
def dx (T : Fin 2048) (h : Fin 7168) : EReal := (∑ e, X.C T e * X.w h e) * scS (X.A T)
/-- The cotangent of the weights. -/
def dw (h : Fin 7168) (e : Fin 256) : EReal := ∑ T, (X.C T e * (scS (X.A T) * X.xs T)) * X.x T h

end TIn

/-- The inputs as numbers, of the arrays as they are given. -/
def ain (x : (⟨3, ![16, 128, 7168]⟩ : Shape).Idx → EReal) (xs : (⟨2, ![16, 128]⟩ : Shape).Idx → EReal)
    (w : (⟨2, ![7168, 256]⟩ : Shape).Idx → EReal) (id : (⟨3, ![16, 128, 8]⟩ : Shape).Idx → BitVec 32)
    (dg : (⟨3, ![16, 128, 8]⟩ : Shape).Idx → EReal) : TIn where
  x T h := x (ix3 ⟨T / 128, by omega⟩ ⟨T % 128, by omega⟩ h)
  w h e := w (ix2 h e)
  id T k := id (ix3 ⟨T / 128, by omega⟩ ⟨T % 128, by omega⟩ k)
  dg T k := dg (ix3 ⟨T / 128, by omega⟩ ⟨T % 128, by omega⟩ k)
  xs T := xs (ix2 ⟨T / 128, by omega⟩ ⟨T % 128, by omega⟩)

/-- A sum cut into runs of equal length. -/
theorem sum_tile (n m N : ℕ) (h : n * m = N) (f : Fin N → EReal) :
    ∑ i, f i = ∑ a : Fin n, ∑ b : Fin m, f ⟨m * a + b, by
      have h1 := a.2; have h2 := b.2
      calc m * (a : ℕ) + b < m * (a : ℕ) + m := by omega
        _ = m * ((a : ℕ) + 1) := by ring
        _ ≤ m * n := Nat.mul_le_mul_left m h1
        _ = N := by rw [mul_comm]; exact h⟩ := by
  subst h
  rw [← finProdFinEquiv.sum_comp, Fintype.sum_prod_type]
  refine Finset.sum_congr rfl fun a _ => Finset.sum_congr rfl fun b _ => congrArg f (Fin.ext ?_)
  show (b : ℕ) + m * a = m * a + b
  exact add_comm _ _

theorem at2 {n0 n1 : ℕ} (i : (⟨2, ![n0, n1]⟩ : Shape).Idx) (a : Fin n0) (b : Fin n1) (h0 : (i 0 : ℕ) = a) (h1 : (i 1 : ℕ) = b) :
    i = ix2 a b := by
  exact (eq_ix2 i).trans (congrArg₂ ix2 (Fin.ext h0) (Fin.ext h1))

theorem at3 {n0 n1 n2 : ℕ} (i : (⟨3, ![n0, n1, n2]⟩ : Shape).Idx) (a : Fin n0) (b : Fin n1) (c : Fin n2)
    (h0 : (i 0 : ℕ) = a) (h1 : (i 1 : ℕ) = b) (h2 : (i 2 : ℕ) = c) : i = ix3 a b c := by
  have e0 : i 0 = a := Fin.ext h0
  have e1 : i 1 = b := Fin.ext h1
  have e2 : i 2 = c := Fin.ext h2
  exact (eq_ix3 i).trans (e0 ▸ e1 ▸ e2 ▸ rfl)

end Cert.Router

end
-- ==== Proof.Hand.RouterKernel.lean ====
/- The kernel's router, read at one token. -/
module

public import proofs.«01_k».proof.Proof.Hand.Router
public import proofs.«01_k».proof.Proof.Hand.Kernel.Content

@[expose] public section

set_option maxRecDepth 65536

noncomputable section

namespace Cert.Kernel.Hand

open Cert.Kernel Cert.Kernel.Gen
open Idealize.ShloMosaic Idealize.ShloMosaic.TcCoe
open Cert.Router

variable (i : InR Ideal)

/-- The logits of one token. -/
def tL (l : Fin 128) : Fin 256 → EReal := fun e => i.lt (ix3 0 e l)
/-- The experts of one token. -/
def tI (l : Fin 128) : Fin 8 → BitVec 32 := fun k => i.ids (ix3 0 k l)
/-- The cotangents of one token's gates. -/
def tG (l : Fin 128) : Fin 8 → EReal := fun k => i.dg (ix3 0 k l)
/-- The selected logits of one token, scaled. -/
def tS (l : Fin 128) : Fin 8 → EReal := fun k => selS (tL i l) (tI i l k) * i.xs (ix2 0 l)

theorem v1879_at (e : Fin 256) (l : Fin 128) : s_v1879 (ix2 e l) = iw e := by
  pointwise [s_v1879, iw]
  all_goals rfl

theorem v1885_at (e : Fin 256) (l : Fin 128) : s_v1885 i (ix2 e l) = tL i l e := by
  pointwise [s_v1885, k0_pay2, s_v1884, tL]

theorem v1888_at (k : Fin 8) (l : Fin 128) : s_v1888 i (ix2 k l) = tI i l k := by
  pointwise [s_v1888, k0_pay3, s_v1887, tI]

theorem v1892_at (k : Fin 8) (l : Fin 128) : s_v1892 i (ix2 k l) = tG i l k := by
  pointwise [s_v1892, k0_pay4, s_v1890, tG]

theorem v1901_at (l : Fin 128) : s_v1901 i (ix2 0 l) = selS (tL i l) (tI i l 0) := by
  pointwise [s_v1901, k0_pay5, k0_pay3, selS, v1879_at, v1885_at, s_v1887, tI]

theorem v1908_at (l : Fin 128) : s_v1908 i (ix2 0 l) = selS (tL i l) (tI i l 1) := by
  pointwise [s_v1908, k0_pay6, k0_pay3, selS, v1879_at, v1885_at, s_v1887, tI]

theorem v1915_at (l : Fin 128) : s_v1915 i (ix2 0 l) = selS (tL i l) (tI i l 2) := by
  pointwise [s_v1915, k0_pay7, k0_pay3, selS, v1879_at, v1885_at, s_v1887, tI]

theorem v1922_at (l : Fin 128) : s_v1922 i (ix2 0 l) = selS (tL i l) (tI i l 3) := by
  pointwise [s_v1922, k0_pay8, k0_pay3, selS, v1879_at, v1885_at, s_v1887, tI]

theorem v1929_at (l : Fin 128) : s_v1929 i (ix2 0 l) = selS (tL i l) (tI i l 4) := by
  pointwise [s_v1929, k0_pay9, k0_pay3, selS, v1879_at, v1885_at, s_v1887, tI]

theorem v1932_at (e : Fin 256) (l : Fin 128) : s_v1932 i (ix2 e l) = IntOp.cmpi .eq (tI i l 5) (iw e) := by
  pointwise [s_v1932, k0_pay10, k0_pay3, v1879_at, s_v1887, tI]

theorem v1968_at (k : Fin 8) (l : Fin 128) : s_v1968 i (ix2 k l) = dsS (tS i l) (tG i l) k := by
  have hc : ∀ x : Fin 8, (if h : (x : ℕ) < 1 then s_v1901 i (ix2 ⟨x, h⟩ l) else if h : (x : ℕ) - 1 < 1 then s_v1908 i (ix2 ⟨x - 1, h⟩ l)
      else if h : (x : ℕ) - 1 - 1 < 1 then s_v1915 i (ix2 ⟨x - 1 - 1, h⟩ l) else if h : (x : ℕ) - 1 - 1 - 1 < 1 then s_v1922 i (ix2 ⟨x - 1 - 1 - 1, h⟩ l)
      else if h : (x : ℕ) - 1 - 1 - 1 - 1 < 1 then s_v1929 i (ix2 ⟨x - 1 - 1 - 1 - 1, h⟩ l)
      else if h : (x : ℕ) - 1 - 1 - 1 - 1 - 1 < 1 then ∑ x, Scalar.select (IntOp.cmpi CmpIPredicate.eq (tI i l 5) (iw x)) (tL i l x) 0
      else if h : (x : ℕ) - 1 - 1 - 1 - 1 - 1 - 1 < 1 then ∑ x, Scalar.select (IntOp.cmpi CmpIPredicate.eq (tI i l 6) (iw x)) (tL i l x) 0
      else ∑ x, Scalar.select (IntOp.cmpi CmpIPredicate.eq (tI i l 7) (iw x)) (tL i l x) 0) * i.xs (ix2 0 l) = tS i l x := by
    intro x
    fin_cases x
    · exact congrArg (· * i.xs (ix2 0 l)) (v1901_at i l)
    · exact congrArg (· * i.xs (ix2 0 l)) (v1908_at i l)
    · exact congrArg (· * i.xs (ix2 0 l)) (v1915_at i l)
    · exact congrArg (· * i.xs (ix2 0 l)) (v1922_at i l)
    · exact congrArg (· * i.xs (ix2 0 l)) (v1929_at i l)
    all_goals rfl
  pointwise [s_v1968, k0_pay11, dsS, gS, v1879_at, v1885_at, v1888_at, v1892_at, v1901_at, v1908_at, v1915_at, v1922_at, v1929_at, v1932_at, s_v1894]
  simp only [hc]

theorem v1976_at (e : Fin 256) (l : Fin 128) :
    s_v1976 i (ix2 e l) = Scalar.select (IntOp.cmpi .eq (tI i l 0) (iw e)) (dsS (tS i l) (tG i l) 0) 0 := by
  have h := v1968_at i 0 l
  unfold s_v1968 at h
  pointwise [s_v1976, k0_pay12, v1879_at, v1888_at, h]

theorem v1979_at (e : Fin 256) (l : Fin 128) : s_v1979 i (ix2 e l) = IntOp.cmpi .eq (tI i l 1) (iw e) := by
  pointwise [s_v1979, k0_pay13, v1879_at, v1888_at]

theorem v1982_at (e : Fin 256) (l : Fin 128) : s_v1982 i (ix2 e l) = dsS (tS i l) (tG i l) 1 := by
  have h := v1968_at i 1 l
  unfold s_v1968 at h
  pointwise [s_v1982, k0_pay14, h]

/-- The cotangent of one token's logits. -/
def tD (l : Fin 128) : Fin 256 → EReal := dlS (tI i l) (dsS (tS i l) (tG i l))

theorem v2025_at (e : Fin 256) (l : Fin 128) : s_v2025 i (ix2 e l) = tD i l e := by
  pointwise [s_v2025, k0_pay15, tD, dlS, v1968_at, v1976_at, v1979_at, v1982_at, v1879_at, v1888_at]

/-- Its largest magnitude. -/
def tA (l : Fin 128) : EReal := amS (tD i l)

theorem v2028_at (l : Fin 128) : s_v2028 i (ix2 0 l) = tA i l := by
  have h := fun e => v2025_at i e l
  unfold s_v2025 at h
  pointwise [s_v2028, k0_pay16, tA, amS, h]

theorem v2030_at (l : Fin 128) : s_v2030 i (ix2 0 l) = vS (tA i l) := by
  have h := v2028_at i l
  unfold s_v2028 at h
  pointwise [s_v2030, k0_pay17, vS, h]

theorem v2087_at (l : Fin 128) :
    k0_pay24 (s_v2028 i) (s_v2030 i) (s_v2080 i) (s_v2082 i) s_v2083 (ix2 0 l) = Quant.eK (tA i l) (vS (tA i l)) := by
  rw [← v2030_at, ← v2028_at]
  rfl

theorem v2113_at (l : Fin 128) : s_v2113 i (ix2 0 l) = scS (tA i l) := by
  rw [← scS_eq (tA i l) (amS_nonneg (tD i l))]
  unfold Quant.p2K
  rw [← v2087_at]
  rfl

theorem inv_at (l : Fin 128) :
    FloatOps.ofBits (F := Ideal) .f32 (Scalar.select (s_v2120 i (ix2 0 l)) 0#32 (s_v2125 i (ix2 0 l))) = ivS (tA i l) := by
  rw [← ivS_eq (tA i l) (amS_nonneg (tD i l))]
  unfold Quant.p2K
  rw [← v2087_at]
  rfl

theorem v2136_at (e : Fin 256) (l : Fin 128) :
    k0_pay29 (s_v2025 i) (s_v2120 i) (s_v2125 i) (ix2 e l) = cdS (tD i l e) (ivS (tA i l)) := by
  rw [← inv_at]
  pointwise [k0_pay29, cdS, v2025_at]

/-! ## What the router leaves -/

theorem o70_at (e : Fin 256) (l : Fin 128) :
    o_7_0 i (ix3 0 e l) = cdS (tD i l e) (ivS (tA i l)) * (scS (tA i l) * i.xs (ix2 0 l)) := by
  pointwise [o_7_0, k0_pay30, v2136_at, v2113_at, s_v1894]

theorem o71_at (l : Fin 128) : o_7_1 i (ix2 0 l) = scS (tA i l) := by
  pointwise [o_7_1, k0_pay31, v2113_at]

theorem o72_at (l : Fin 128) (e : Fin 256) : o_7_2 i (ix2 l e) = tD i l e := by
  pointwise [o_7_2, k0_pay32, v2025_at]

theorem o73_at (l : Fin 128) (e : Fin 256) : o_7_3 i (ix3 0 l e) = cdS (tD i l e) (ivS (tA i l)) := by
  pointwise [o_7_3, k0_pay34, k0_pay33, v2136_at]

theorem o74_at (l : Fin 128) (e : Fin 256) : o_7_4 i (ix2 l e) = cdS (tD i l e) (ivS (tA i l)) := by
  pointwise [o_7_4, k0_pay35, k0_pay33, v2136_at]

theorem o80_at (l q : Fin 128) : o_8_0 i (ix3 0 l q) = scS (tA i l) := by
  pointwise [o_8_0, k0_pay37, s_v2168, k0_pay36, v2113_at]

end Cert.Kernel.Hand

end
-- ==== Proof.Hand.DotKernel.lean ====
/- The kernel's products, read at one element. -/
module

public import proofs.«01_k».proof.Proof.Hand.RouterKernel

@[expose] public section

set_option maxRecDepth 65536

noncomputable section

namespace Cert.Kernel.Hand

open Cert.Kernel Cert.Kernel.Gen
open Idealize.ShloMosaic Idealize.ShloMosaic.TcCoe
open Cert.Router

theorem wtC_at (i : InP Ideal) (c : ℕ) (e : Fin 256) (h : Fin 1024) : wtC i c (ix2 e h) = i.w c (ix2 h e) := by
  pointwise [wtC, k0_pay88, k0_pay87]

theorem o10_at (i : InT Ideal) (e t : Fin 256) : o_1_0 i (ix3 0 e t) = ∑ h : Fin 7168, i.wt (ix2 e h) * i.x (ix2 t h) := by
  pointwise [o_1_0, k0_pay1, s_v1867, s_v1871]

/-- One of the seven products the first logits are the sum of. -/
def dotP (i : InP Ideal) (e t : Fin 256) (c : ℕ) : EReal := ∑ h : Fin 1024, i.w c (ix2 h e) * i.x c (ix2 t h)

theorem o301_at (i : InP Ideal) (e t : Fin 256) : o_30_1 i (ix3 0 e t) =
    dotP i e t 0 + dotP i e t 1 + dotP i e t 2 + dotP i e t 3 + dotP i e t 4 + dotP i e t 5 + dotP i e t 6 := by
  have a1 : s_v118 i (ix2 e t) = dotP i e t 0 := by
    pointwise [s_v118, k0_pay89, k0_pay87, s_v112, s_v117, dotP]
  have a2 : s_v150 i (ix2 e t) = dotP i e t 0 + dotP i e t 1 + dotP i e t 2 := by
    pointwise [s_v150, k0_pay94, k0_pay92, s_v128, k0_pay90, s_v127, s_v132, s_v143, s_v148, dotP, a1]
  have a3 : s_v182 i (ix2 e t) = dotP i e t 0 + dotP i e t 1 + dotP i e t 2 + dotP i e t 3 + dotP i e t 4 := by
    pointwise [s_v182, k0_pay99, k0_pay95, k0_pay97, s_v159, s_v164, s_v175, s_v180, dotP, a2]
  have a4 : s_v198 i (ix2 e t) = dotP i e t 0 + dotP i e t 1 + dotP i e t 2 + dotP i e t 3 + dotP i e t 4 + dotP i e t 5 := by
    pointwise [s_v198, k0_pay102, k0_pay100, s_v191, s_v196, dotP, a3]
  pointwise [o_30_1, k0_pay105, s_v208, k0_pay103, s_v207, s_v212, dotP, a4]

theorem dxC_at (i : InD Ideal) (c : ℕ) (t : Fin 256) (h : Fin 512) : dxC i c (ix3 0 t h) =
    (∑ e : Fin 256, i.dlw (ix3 0 t e) * i.wt c (ix2 e h)) * i.sc (ix3 0 t 0) := by
  pointwise [dxC, o_14_3, k0_pay64, k0_pay63, s_v2467, s_v2471, s_v2473]

/-- One of the eight products `dw` is the sum of. -/
def dotW (i : InW Ideal) (h : Fin 512) (e : Fin 256) (t : ℕ) : EReal :=
  ∑ x : Fin 128, i.d (2 * t) (ix3 0 e x) * i.x t (ix2 ⟨x, by omega⟩ h)
    + ∑ x : Fin 128, i.d (2 * t + 1) (ix3 0 e x) * i.x t (ix2 ⟨128 + x, by omega⟩ h)

theorem o21_at (i : InW Ideal) (h : Fin 512) (e : Fin 256) : o_21 i (ix2 h e) =
    dotW i h e 0 + dotW i h e 1 + dotW i h e 2 + dotW i h e 3 + dotW i h e 4 + dotW i h e 5 + dotW i h e 6 + dotW i h e 7 := by
  have a1 : w_v1881 i (ix2 e h) = dotW i h e 0 + dotW i h e 1 + dotW i h e 2 := by
    pointwise [w_v1881, k0_pay83, w_v1856, w_v1858, w_v1862, w_v1864, w_v1866, w_v1870, w_v1873, w_v1875, w_v1879, dotW]
  have a2 : w_v1908 i (ix2 e h) = dotW i h e 0 + dotW i h e 1 + dotW i h e 2 + dotW i h e 3 + dotW i h e 4 + dotW i h e 5 := by
    pointwise [w_v1908, k0_pay85, w_v1883, k0_pay84, w_v1882, w_v1884, w_v1888, w_v1891, w_v1893, w_v1897, w_v1900, w_v1902, w_v1906, dotW, a1]
  pointwise [o_21, k0_pay266, w_cst_1017, w_v1915, w_v1918, w_v1920, w_v1924, w_v1913, k0_pay86, w_v1909, w_v1911, dotW, a2]

end Cert.Kernel.Hand

end
-- ==== Proof.Hand.WholeKernel.lean ====
/- What the kernel leaves in its results, element by element. -/
module

public import proofs.«01_k».proof.Proof.Hand.DotKernel

@[expose] public section

set_option maxRecDepth 65536

noncomputable section

namespace Cert.Kernel.Hand

open Cert.Kernel Cert.Kernel.Gen
open Idealize.ShloMosaic Idealize.ShloMosaic.TcCoe
open Cert.Router

variable (X : GIn Ideal)

/-- What the kernel is given, as numbers. -/
def tin : TIn where
  x T h := X.x (ix2 T h)
  w h e := X.w (ix2 h e)
  id T k := X.ids (ix3 ⟨T / 128, by omega⟩ k ⟨T % 128, by omega⟩)
  dg T k := X.dg (ix3 ⟨T / 128, by omega⟩ k ⟨T % 128, by omega⟩)
  xs T := X.xs (ix2 ⟨T / 128, by omega⟩ ⟨T % 128, by omega⟩)

theorem G12_at (e : Fin 256) (h : Fin 7168) : G12 X (ix2 e h) = X.w (ix2 h e) := by
  have hh := h.2
  have he := e.2
  refine (congrArg (wtC (inP X) ((h : ℕ) / 1024)) (at2 _ e ⟨h % 1024, by omega⟩ ?_ ?_)).trans ?_
  · show ((e : ℕ) - 0) % 256 = e; omega
  · show ((h : ℕ) - 1024 * ((h : ℕ) / 1024)) % 1024 = h % 1024; omega
  rw [wtC_at]
  refine congrArg X.w (at2 _ _ _ ?_ ?_)
  · show (1024 * ((h : ℕ) / 1024) + h % 1024) % 7168 = h; omega
  · show (0 + (e : ℕ)) % 256 = e; omega

theorem dotP_at (e t : Fin 256) (c : ℕ) (hc : c < 7) : dotP (inP X) e t c =
    ∑ h : Fin 1024, (tin X).w ⟨1024 * c + h, by omega⟩ e * (tin X).x ⟨t, by omega⟩ ⟨1024 * c + h, by omega⟩ := by
  refine Finset.sum_congr rfl fun h _ => congrArg₂ (· * ·) (congrArg X.w (at2 _ _ _ ?_ ?_)) (congrArg X.x (at2 _ _ _ ?_ ?_))
  · show (1024 * c + (h : ℕ)) % 7168 = 1024 * c + h; omega
  · show (0 + (e : ℕ)) % 256 = e; omega
  · show (0 + (t : ℕ)) % 2048 = t; omega
  · show (1024 * c + (h : ℕ)) % 7168 = 1024 * c + h; omega

theorem LT_at (b : ℕ) (hb : b < 8) (e t : Fin 256) : LT X b (ix3 0 e t) = (tin X).L ⟨256 * b + t, by omega⟩ e := by
  unfold LT
  by_cases c : b = 0
  · subst c
    rw [if_pos rfl, o301_at]
    rw [dotP_at X e t 0 (by norm_num), dotP_at X e t 1 (by norm_num), dotP_at X e t 2 (by norm_num), dotP_at X e t 3 (by norm_num),
      dotP_at X e t 4 (by norm_num), dotP_at X e t 5 (by norm_num), dotP_at X e t 6 (by norm_num)]
    unfold TIn.L
    rw [sum_tile 7 1024 7168 (by norm_num), Fin.sum_univ_seven]
    simp only [Nat.mul_zero, Nat.zero_add]
    rfl
  · rw [if_neg c, o10_at]
    refine Finset.sum_congr rfl fun h _ => congrArg₂ (· * ·) ?_ ?_
    · refine (congrArg (G12 X) (at2 _ e h ?_ ?_)).trans (G12_at X e h)
      · show (0 + (e : ℕ)) % 256 = e; omega
      · show (0 + (h : ℕ)) % 7168 = h; omega
    · refine congrArg X.x (at2 _ _ _ ?_ ?_)
      · show (256 * b + (t : ℕ)) % 2048 = 256 * b + t; omega
      · show (0 + (h : ℕ)) % 7168 = h; omega

/-- Token `l` of block `n`. -/
def tk (n : ℕ) (hn : n < 16) (l : Fin 128) : Fin 2048 := ⟨128 * n + l, by omega⟩

section
variable (n : ℕ) (hn : n < 16) (l : Fin 128)

theorem tL_at : tL (inR X n) l = (tin X).L (tk n hn l) := by
  funext e
  have he := e.2
  have hl := l.2
  refine (congrArg (LT X (n / 2)) (at3 _ 0 e ⟨128 * (n % 2) + l, by omega⟩ ?_ ?_ ?_)).trans ?_
  · exact (Nat.mod_one _)
  · show (((0 + (e : ℕ)) % 256) - 0) % 256 = e; omega
  · show (((128 * (n % 2) + (l : ℕ)) % 256) - 0) % 256 = 128 * (n % 2) + l; omega
  rw [LT_at X (n / 2) (by omega)]
  congr 1
  refine Fin.ext ?_
  show 256 * (n / 2) + (128 * (n % 2) + (l : ℕ)) = 128 * n + l
  omega

theorem tI_at : tI (inR X n) l = (tin X).id (tk n hn l) := by
  funext k
  have hk := k.2
  have hl := l.2
  refine congrArg X.ids (at3 _ _ _ _ ?_ ?_ ?_)
  · show (n + 0) % 16 = (128 * n + (l : ℕ)) / 128; omega
  · show (0 + (k : ℕ)) % 8 = k; omega
  · show (0 + (l : ℕ)) % 128 = (128 * n + (l : ℕ)) % 128; omega

theorem tG_at : tG (inR X n) l = (tin X).dg (tk n hn l) := by
  funext k
  have hk := k.2
  have hl := l.2
  refine congrArg X.dg (at3 _ _ _ _ ?_ ?_ ?_)
  · show (n + 0) % 16 = (128 * n + (l : ℕ)) / 128; omega
  · show (0 + (k : ℕ)) % 8 = k; omega
  · show (0 + (l : ℕ)) % 128 = (128 * n + (l : ℕ)) % 128; omega

theorem tX_at : (inR X n).xs (ix2 0 l) = (tin X).xs (tk n hn l) := by
  have hl := l.2
  refine congrArg X.xs (at2 _ _ _ ?_ ?_)
  · show (n + 0) % 16 = (128 * n + (l : ℕ)) / 128; omega
  · show (0 + (l : ℕ)) % 128 = (128 * n + (l : ℕ)) % 128; omega

theorem tD_at : tD (inR X n) l = (tin X).D (tk n hn l) := by
  unfold tD TIn.D
  rw [← tI_at X n hn l, ← tG_at X n hn l, ← tX_at X n hn l, ← tL_at X n hn l]
  rfl

theorem tA_at : tA (inR X n) l = (tin X).A (tk n hn l) := by
  unfold tA TIn.A; rw [tD_at X n hn l]

theorem tC_at (e : Fin 256) : cdS (tD (inR X n) l e) (ivS (tA (inR X n) l)) = (tin X).C (tk n hn l) e := by
  unfold TIn.C; rw [tD_at X n hn l, tA_at X n hn l]

end

theorem tk_eta (T : Fin 2048) : tk ((T : ℕ) / 128) (by omega) ⟨T % 128, by omega⟩ = T :=
  Fin.ext (show 128 * ((T : ℕ) / 128) + T % 128 = T by omega)

theorem G22_at (T : Fin 2048) (e : Fin 256) : G22 X (ix2 T e) = (tin X).D T e := by
  have hT := T.2
  have he := e.2
  refine (congrArg (o_7_2 (inR X ((T : ℕ) / 128))) (at2 _ ⟨T % 128, by omega⟩ e ?_ ?_)).trans ?_
  · show ((T : ℕ) - 128 * ((T : ℕ) / 128)) % 128 = T % 128; omega
  · show ((e : ℕ) - 0) % 256 = e; omega
  rw [o72_at, tD_at X _ (by omega), tk_eta]

theorem G23_at (T : Fin 2048) (e : Fin 256) : G23 X (ix2 T e) = (tin X).C T e := by
  have hT := T.2
  have he := e.2
  refine (congrArg (o_7_4 (inR X ((T : ℕ) / 128))) (at2 _ ⟨T % 128, by omega⟩ e ?_ ?_)).trans ?_
  · show ((T : ℕ) - 128 * ((T : ℕ) / 128)) % 128 = T % 128; omega
  · show ((e : ℕ) - 0) % 256 = e; omega
  rw [o74_at, tC_at X _ (by omega), tk_eta]

theorem G24_at (n : Fin 16) (l : Fin 128) : G24 X (ix2 n l) = scS ((tin X).A (tk n n.2 l)) := by
  have hl := l.2
  refine (congrArg (o_7_1 (inR X (n : ℕ))) (at2 _ 0 l ?_ ?_)).trans ?_
  · exact (Nat.mod_one _)
  · show ((l : ℕ) - 0) % 128 = l; omega
  rw [o71_at, tA_at X _ n.2]

theorem G19_at (n : ℕ) (hn : n < 16) (e : Fin 256) (l : Fin 128) : G19 X (ix3 ⟨n, hn⟩ e l) =
    (tin X).C (tk n hn l) e * (scS ((tin X).A (tk n hn l)) * (tin X).xs (tk n hn l)) := by
  have hl := l.2
  have he := e.2
  refine (congrArg (o_7_0 (inR X n)) (at3 _ 0 e l ?_ ?_ ?_)).trans ?_
  · exact (Nat.mod_one _)
  · show ((e : ℕ) - 0) % 256 = e; omega
  · show ((l : ℕ) - 0) % 128 = l; omega
  rw [o70_at, tC_at X _ hn, tA_at X _ hn, tX_at X _ hn]

theorem G5_at (T : Fin 2048) (h : Fin 7168) : G5 X (ix2 T h) = (tin X).dx T h := by
  have hT := T.2
  have hh := h.2
  refine (congrArg (dxC (inD X ((T : ℕ) / 256)) ((h : ℕ) % 7168 / 512)) (at3 _ 0 ⟨T % 256, by omega⟩ ⟨h % 512, by omega⟩ ?_ ?_ ?_)).trans ?_
  · exact (Nat.mod_one _)
  · show ((T : ℕ) % 256 - 0) % 256 = T % 256; omega
  · show ((h : ℕ) % 7168 - 512 * ((h : ℕ) % 7168 / 512)) % 512 = h % 512; omega
  rw [dxC_at]
  have hn : 2 * ((T : ℕ) / 256) + T % 256 / 128 < 16 := by omega
  have ht : tk (2 * ((T : ℕ) / 256) + T % 256 / 128) hn ⟨T % 128, by omega⟩ = T :=
    Fin.ext (show 128 * (2 * ((T : ℕ) / 256) + T % 256 / 128) + T % 128 = T by omega)
  unfold TIn.dx
  refine congrArg₂ (· * ·) (Finset.sum_congr rfl fun e _ => congrArg₂ (· * ·) ?_ ?_) ?_
  · have he := e.2
    have : (inD X ((T : ℕ) / 256)).dlw (ix3 0 ⟨T % 256, by omega⟩ e) = o_7_3 (inR X (2 * ((T : ℕ) / 256) + T % 256 / 128)) (ix3 0 ⟨T % 128, by omega⟩ e) := by
      show o_7_3 (inR X (2 * ((T : ℕ) / 256) + (0 + (T : ℕ) % 256) % 256 / 128)) (lc _ _ (sh _ _ _)) = _
      rw [show (0 + (T : ℕ) % 256) % 256 / 128 = T % 256 / 128 by omega]
      refine congrArg _ (at3 _ _ _ _ (Nat.mod_one _) ?_ ?_)
      · show ((0 + (T : ℕ) % 256) % 256 - 128 * ((2 * ((T : ℕ) / 256) + (0 + (T : ℕ) % 256) % 256 / 128) % 2)) % 128 = T % 128
        omega
      · show ((0 + (e : ℕ)) % 256 - 0) % 256 = e; omega
    rw [this, o73_at, tC_at X _ hn, ht]
  · have he := e.2
    refine (congrArg (G12 X) (at2 _ e h ?_ ?_)).trans (G12_at X e h)
    · show (0 + (e : ℕ)) % 256 = e; omega
    · show (512 * ((h : ℕ) % 7168 / 512) + h % 512) % 7168 = h; omega
  · have : (inD X ((T : ℕ) / 256)).sc (ix3 0 ⟨T % 256, by omega⟩ 0) = o_8_0 (inR X (2 * ((T : ℕ) / 256) + T % 256 / 128)) (ix3 0 ⟨T % 128, by omega⟩ 0) := by
      show o_8_0 (inR X (2 * ((T : ℕ) / 256) + (0 + (T : ℕ) % 256) % 256 / 128)) (lc _ _ (sh _ _ _)) = _
      rw [show (0 + (T : ℕ) % 256) % 256 / 128 = T % 256 / 128 by omega]
      refine congrArg _ (at3 _ _ _ _ (Nat.mod_one _) ?_ rfl)
      show ((0 + (T : ℕ) % 256) % 256 - 128 * ((2 * ((T : ℕ) / 256) + (0 + (T : ℕ) % 256) % 256 / 128) % 2)) % 128 = T % 128
      omega
    rw [this, o80_at, tA_at X _ hn, ht]

/-- A term of the sum `dw` is. -/
def wterm (Y : TIn) (h : Fin 7168) (e : Fin 256) (T : Fin 2048) : EReal := (Y.C T e * (scS (Y.A T) * Y.xs T)) * Y.x T h

theorem dotW_at (h : Fin 7168) (e : Fin 256) (t : ℕ) (ht : t < 8) :
    dotW (inW X ((h : ℕ) / 512)) ⟨h % 512, by omega⟩ e t = ∑ k : Fin 256, wterm (tin X) h e ⟨256 * t + k, by omega⟩ := by
  have hh := h.2
  have he := e.2
  rw [sum_tile 2 128 256 (by norm_num), Fin.sum_univ_two]
  unfold dotW
  refine congrArg₂ (· + ·) (Finset.sum_congr rfl fun x _ => ?_) (Finset.sum_congr rfl fun x _ => ?_)
  · have hx := x.2
    have a : (inW X ((h : ℕ) / 512)).d (2 * t) (ix3 0 e x) = G19 X (ix3 ⟨2 * t, by omega⟩ e x) :=
      congrArg (G19 X) (at3 _ _ _ _ (show (2 * t + 0) % 16 = 2 * t by omega) (show (0 + (e : ℕ)) % 256 = e by omega)
        (show (0 + (x : ℕ)) % 128 = x by omega))
    have b : (inW X ((h : ℕ) / 512)).x t (ix2 ⟨x, by omega⟩ ⟨h % 512, by omega⟩) = X.x (ix2 ⟨256 * t + x, by omega⟩ h) :=
      congrArg X.x (at2 _ _ _ (show (256 * t + (x : ℕ)) % 2048 = 256 * t + x by omega)
        (show (512 * ((h : ℕ) / 512) + h % 512) % 7168 = h by omega))
    have c : tk (2 * t) (by omega) x = ⟨256 * t + (128 * (0 : Fin 2) + x), by omega⟩ :=
      Fin.ext (show 128 * (2 * t) + (x : ℕ) = 256 * t + (128 * 0 + x) by omega)
    rw [a, b, G19_at, c]
    unfold wterm
    refine congrArg₂ (· * ·) rfl (congrArg X.x (congrArg₂ ix2 (Fin.ext ?_) rfl))
    show 256 * t + (x : ℕ) = 256 * t + (128 * 0 + x); omega
  · have hx := x.2
    have a : (inW X ((h : ℕ) / 512)).d (2 * t + 1) (ix3 0 e x) = G19 X (ix3 ⟨2 * t + 1, by omega⟩ e x) :=
      congrArg (G19 X) (at3 _ _ _ _ (show (2 * t + 1 + 0) % 16 = 2 * t + 1 by omega) (show (0 + (e : ℕ)) % 256 = e by omega)
        (show (0 + (x : ℕ)) % 128 = x by omega))
    have b : (inW X ((h : ℕ) / 512)).x t (ix2 ⟨128 + x, by omega⟩ ⟨h % 512, by omega⟩) = X.x (ix2 ⟨256 * t + (128 + x), by omega⟩ h) :=
      congrArg X.x (at2 _ _ _ (show (256 * t + (128 + (x : ℕ))) % 2048 = 256 * t + (128 + x) by omega)
        (show (512 * ((h : ℕ) / 512) + h % 512) % 7168 = h by omega))
    have c : tk (2 * t + 1) (by omega) x = ⟨256 * t + (128 * (1 : Fin 2) + x), by omega⟩ :=
      Fin.ext (show 128 * (2 * t + 1) + (x : ℕ) = 256 * t + (128 * 1 + x) by omega)
    rw [a, b, G19_at, c]
    rfl

theorem G21_at (h : Fin 7168) (e : Fin 256) : G21 X (ix2 h e) = (tin X).dw h e := by
  have hh := h.2
  have he := e.2
  refine (congrArg (o_21 (inW X ((h : ℕ) / 512))) (at2 _ ⟨h % 512, by omega⟩ e ?_ ?_)).trans ?_
  · show ((h : ℕ) - 512 * ((h : ℕ) / 512)) % 512 = h % 512; omega
  · show ((e : ℕ) - 0) % 256 = e; omega
  rw [o21_at]
  rw [dotW_at X h e 0 (by norm_num), dotW_at X h e 1 (by norm_num), dotW_at X h e 2 (by norm_num), dotW_at X h e 3 (by norm_num),
    dotW_at X h e 4 (by norm_num), dotW_at X h e 5 (by norm_num), dotW_at X h e 6 (by norm_num), dotW_at X h e 7 (by norm_num)]
  show _ = ∑ T, wterm (tin X) h e T
  rw [sum_tile 8 256 2048 (by norm_num), Fin.sum_univ_eight]
  rfl

end Cert.Kernel.Hand

end
-- ==== Proof.Hand.KerRun.lean ====
/- What the kernel's run leaves in its results, of its argument arrays. -/
module

public import proofs.«01_k».proof.Proof.Hand.WholeKernel
public import proofs.«01_k».proof.Proof.Hand.Kernel.Run

@[expose] public section

set_option maxRecDepth 65536

noncomputable section

namespace Cert.Kernel.Hand

open Cert.Kernel Cert.Kernel.Gen
open Idealize.ShloMosaic Idealize.ShloMosaic.TcCoe Idealize.SL.Sem
open Cert.Router

section

variable {F : FTy → Type} [FloatOps F]
variable (m : (ℓ : Loc nD τ sig) → Buf (Elt F) ℓ) (ρ : Dev nD → PrngReg)

theorem V_main_v0 (c : Dev nD) : V m c main_v0 = shapeCast S2048x7168 (m ((c : Thread nD τ).loc main_arg0)) shapeCasts_S16x128x7168_S2048x7168 := by
  show StableHlo.after hostOps0 _ (Proc.devRef .tc main_v0) = _
  after_results
  rfl

theorem V_main_v1 (c : Dev nD) : V m c main_v1 = transpose S16x8x128 [0, 2, 1] (m ((c : Thread nD τ).loc main_arg3)) transposes_S16x128x8_S16x8x128_0_2_1 := by
  show StableHlo.after hostOps0 _ (Proc.devRef .tc main_v1) = _
  after_results
  all_goals rfl

theorem V_main_v2 (c : Dev nD) : V m c main_v2 = transpose S16x8x128 [0, 2, 1] (m ((c : Thread nD τ).loc main_arg4)) transposes_S16x128x8_S16x8x128_0_2_1 := by
  show StableHlo.after hostOps0 _ (Proc.devRef .tc main_v2) = _
  after_results
  all_goals rfl

/-- The run, each result named and the arguments unchanged. -/
theorem run_values : θ_run (defs (F := F)) (onTc (τ := τ) (main (F := F))) ⟨m, fun _ => 0, ρ⟩ (fun r => ∀ c : Dev nD,
      r.2.mem ((c.tc : Thread nD τ).loc main_v3_0) = G5 (XIn m c)
      ∧ r.2.mem ((c.tc : Thread nD τ).loc main_v3_1) = G21 (XIn m c)
      ∧ r.2.mem ((c.tc : Thread nD τ).loc main_v3_2) = G22 (XIn m c)
      ∧ r.2.mem ((c.tc : Thread nD τ).loc main_v3_3) = G23 (XIn m c)
      ∧ r.2.mem ((c.tc : Thread nD τ).loc main_v3_4) = G24 (XIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
    (h.1.2 c main_v3_0 (by decide)).trans (GOut_0 m c),
    (h.1.2 c main_v3_1 (by decide)).trans (GOut_1 m c),
    (h.1.2 c main_v3_2 (by decide)).trans (GOut_2 m c),
    (h.1.2 c main_v3_3 (by decide)).trans (GOut_3 m c),
    (h.1.2 c main_v3_4 (by decide)).trans (GOut_4 m c),
    ((h.1.1 c).2 main_arg0 (Finset.mem_sdiff.mpr ⟨Pipeline.mem_restRefs_of main_arg0 (by decide) (by decide), by decide⟩)).trans (V_main_arg0 m c),
    ((h.1.1 c).2 main_arg1 (Finset.mem_sdiff.mpr ⟨Pipeline.mem_restRefs_of main_arg1 (by decide) (by decide), by decide⟩)).trans (V_main_arg1 m c),
    ((h.1.1 c).2 main_arg2 (Finset.mem_sdiff.mpr ⟨Pipeline.mem_restRefs_of main_arg2 (by decide) (by decide), by decide⟩)).trans (V_main_arg2 m c),
    ((h.1.1 c).2 main_arg3 (Finset.mem_sdiff.mpr ⟨Pipeline.mem_restRefs_of main_arg3 (by decide) (by decide), by decide⟩)).trans (V_main_arg3 m c),
    ((h.1.1 c).2 main_arg4 (Finset.mem_sdiff.mpr ⟨Pipeline.mem_restRefs_of main_arg4 (by decide) (by decide), by decide⟩)).trans (V_main_arg4 m c)⟩) (run_main m ρ)

end

/-! ## The inputs as numbers -/

theorem cast_x (a : Vec Ideal S16x128x7168 .fp8e4m3) (T : Fin 2048) (h : Fin 7168) :
    shapeCast S2048x7168 a shapeCasts_S16x128x7168_S2048x7168 (ix2 T h) = a (ix3 ⟨T / 128, by omega⟩ ⟨T % 128, by omega⟩ h) := by
  pointwise []

theorem cast_id (a : Vec Ideal S16x128x8 .i32) (n : Fin 16) (k : Fin 8) (l : Fin 128) :
    transpose S16x8x128 [0, 2, 1] a transposes_S16x128x8_S16x8x128_0_2_1 (ix3 n k l) = a (ix3 n l k) := by
  pointwise []

theorem cast_dg (a : Vec Ideal S16x128x8 .bf16) (n : Fin 16) (k : Fin 8) (l : Fin 128) :
    transpose S16x8x128 [0, 2, 1] a transposes_S16x128x8_S16x8x128_0_2_1 (ix3 n k l) = a (ix3 n l k) := by
  pointwise []

theorem tin_cast (a0 : Vec Ideal S16x128x7168 .fp8e4m3) (a1 : Vec Ideal S16x128 .f32) (a2 : Vec Ideal S7168x256 .bf16)
    (a3 : Vec Ideal S16x128x8 .i32) (a4 : Vec Ideal S16x128x8 .bf16) :
    tin ⟨shapeCast S2048x7168 a0 shapeCasts_S16x128x7168_S2048x7168, a2, transpose S16x8x128 [0, 2, 1] a3 transposes_S16x128x8_S16x8x128_0_2_1,
      transpose S16x8x128 [0, 2, 1] a4 transposes_S16x128x8_S16x8x128_0_2_1, a1⟩ = ain a0 a1 a2 a3 a4 := by
  have e0 := funext fun T => funext fun h => cast_x a0 T h
  have e3 := fun n k l => cast_id a3 n k l
  have e4 := fun n k l => cast_dg a4 n k l
  unfold tin ain
  simp only [e0, e3, e4]

theorem tin_eq (m : (ℓ : Loc nD τ sig) → Buf (Elt Ideal) ℓ) (c : Dev nD) :
    tin (XIn m c) = ain (m ((c : Thread nD τ).loc main_arg0)) (m ((c : Thread nD τ).loc main_arg1))
      (m ((c : Thread nD τ).loc main_arg2)) (m ((c : Thread nD τ).loc main_arg3)) (m ((c : Thread nD τ).loc main_arg4)) := by
  unfold XIn
  rw [V_main_v0, V_main_arg2, V_main_v1, V_main_v2, V_main_arg1]
  exact tin_cast _ _ _ _ _

end Cert.Kernel.Hand

end
-- ==== Proof.Hand.RouterReference.lean ====
/- The reference's values, read at one token. -/
module

public import proofs.«01_k».proof.Proof.Hand.Router
public import proofs.«01_k».proof.Proof.Gen.ReferenceIdeal.Value

@[expose] public section

set_option maxRecDepth 65536

noncomputable section

namespace Cert.ReferenceIdeal.Hand

open Cert.ReferenceIdeal Cert.ReferenceIdeal.Gen
open Idealize.ShloMosaic Idealize.ShloMosaic.TcCoe
open Cert.Router

variable (x0 : Vec Ideal S2048x7168 .fp8e4m3) (x1 : Vec Ideal S2048x1 .f32) (x2 : Vec Ideal S7168x256 .bf16)
  (x3 : Vec Ideal S2048x8 .i32) (x4 : Vec Ideal S2048x8 .bf16)

/-- The reference's inputs, as numbers. -/
def rin : TIn where
  x T h := x0 (ix2 T h)
  w h e := x2 (ix2 h e)
  id T k := x3 (ix2 T k)
  dg T k := x4 (ix2 T k)
  xs T := x1 (ix2 T 0)

/-- The selected logits of one token. -/
def rS (T : Fin 2048) : Fin 8 → EReal := fun k => selS ((rin x0 x1 x2 x3 x4).L T) ((rin x0 x1 x2 x3 x4).id T k) * (rin x0 x1 x2 x3 x4).xs T

theorem p9_at (T : Fin 2048) (e : Fin 256) : k0_pay9 x1 x2 x0 (ix2 T e) = (rin x0 x1 x2 x3 x4).L T e * (rin x0 x1 x2 x3 x4).xs T := by
  have h : k0_pay9 x1 x2 x0 (ix2 T e) = (∑ h, x0 (ix2 T h) * x2 (ix2 h e)) * x1 (ix2 T 0) := by
    pointwise [k0_pay9, k0_pay8, k0_pay6]
  rw [h]
  exact congrArg (· * x1 (ix2 T 0)) (Finset.sum_congr rfl fun h _ => mul_comm _ _)

theorem p24_at (T : Fin 2048) (e : Fin 256) : k0_pay24 x0 x1 x2 x3 x4 (ix2 T e) = iw e := by
  pointwise [k0_pay24, iw]
  all_goals rfl

theorem p10_at (T : Fin 2048) : k0_pay10 x1 x3 x2 x0 (ix2 T 0) = rS x0 x1 x2 x3 x4 T 0 := by
  unfold rS; rw [← selS_scale]
  have h := p9_at x0 x1 x2 x3 x4 T
  pointwise [k0_pay10, k0_pay7, selS, h, iw]
  all_goals rfl

theorem p11_at (T : Fin 2048) : k0_pay11 x1 x3 x2 x0 (ix2 T 0) = rS x0 x1 x2 x3 x4 T 1 := by
  unfold rS; rw [← selS_scale]
  have h := p9_at x0 x1 x2 x3 x4 T
  pointwise [k0_pay11, k0_pay7, selS, h, iw]
  all_goals rfl

theorem p12_at (T : Fin 2048) : k0_pay12 x1 x3 x2 x0 (ix2 T 0) = rS x0 x1 x2 x3 x4 T 2 := by
  unfold rS; rw [← selS_scale]
  have h := p9_at x0 x1 x2 x3 x4 T
  pointwise [k0_pay12, k0_pay7, selS, h, iw]
  all_goals rfl

theorem p13_at (T : Fin 2048) : k0_pay13 x1 x3 x2 x0 (ix2 T 0) = rS x0 x1 x2 x3 x4 T 3 := by
  unfold rS; rw [← selS_scale]
  have h := p9_at x0 x1 x2 x3 x4 T
  pointwise [k0_pay13, k0_pay7, selS, h, iw]
  all_goals rfl

theorem p14_at (T : Fin 2048) (e : Fin 256) : k0_pay14 (F := Ideal) x3 (ix2 T e) = IntOp.cmpi .eq ((rin x0 x1 x2 x3 x4).id T 4) (iw e) := by
  pointwise [k0_pay14, k0_pay7, iw]
  all_goals rfl

theorem hz : (![0, 0] : Fin 2 → ℕ) = fun _ => 0 := by decide

theorem p25_at (T : Fin 2048) (k : Fin 8) : k0_pay25 x0 x1 x2 x3 x4 (ix2 T k) = (rin x0 x1 x2 x3 x4).id T k := by
  unfold k0_pay25
  rw [View.ld_unit_zero hz]
  pointwise [k0_pay7]
  all_goals rfl

theorem p15_at (v3 : IVec S2048x8 32) (h3 : ∀ T k, v3 (ix2 T k) = (rin x0 x1 x2 x3 x4).id T k)
    (v11 : IVec S2048x256 32) (h11 : ∀ T e, v11 (ix2 T e) = iw e) (T : Fin 2048) (k : Fin 8) :
    k0_pay15 v3 (k0_pay9 x1 x2 x0) v11 (k0_pay10 x1 x3 x2 x0) (k0_pay11 x1 x3 x2 x0) (k0_pay12 x1 x3 x2 x0)
      (k0_pay13 x1 x3 x2 x0) (k0_pay14 (F := Ideal) x3) x4 (ix2 T k) = dsS (rS x0 x1 x2 x3 x4 T) ((rin x0 x1 x2 x3 x4).dg T) k := by
  have h9 := p9_at x0 x1 x2 x3 x4 T
  have h14 := p14_at x0 x1 x2 x3 x4 T
  have e4 : ∀ j : Fin 8, ∑ x, Scalar.select (IntOp.cmpi .eq ((rin x0 x1 x2 x3 x4).id T j) (iw x)) ((rin x0 x1 x2 x3 x4).L T x * (rin x0 x1 x2 x3 x4).xs T) 0
      = rS x0 x1 x2 x3 x4 T j := fun j => selS_scale _ _ _
  have hc : ∀ x : Fin 8, (if h : (x : ℕ) < 1 then k0_pay10 x1 x3 x2 x0 (ix2 T ⟨x, h⟩) else if h : (x : ℕ) - 1 < 1 then k0_pay11 x1 x3 x2 x0 (ix2 T ⟨x - 1, h⟩)
      else if h : (x : ℕ) - 1 - 1 < 1 then k0_pay12 x1 x3 x2 x0 (ix2 T ⟨x - 1 - 1, h⟩) else if h : (x : ℕ) - 1 - 1 - 1 < 1 then k0_pay13 x1 x3 x2 x0 (ix2 T ⟨x - 1 - 1 - 1, h⟩)
      else if h : (x : ℕ) - 1 - 1 - 1 - 1 < 1 then rS x0 x1 x2 x3 x4 T 4
      else if h : (x : ℕ) - 1 - 1 - 1 - 1 - 1 < 1 then rS x0 x1 x2 x3 x4 T 5
      else if h : (x : ℕ) - 1 - 1 - 1 - 1 - 1 - 1 < 1 then rS x0 x1 x2 x3 x4 T 6
      else rS x0 x1 x2 x3 x4 T 7) = rS x0 x1 x2 x3 x4 T x := by
    intro x
    fin_cases x
    · exact p10_at x0 x1 x2 x3 x4 T
    · exact p11_at x0 x1 x2 x3 x4 T
    · exact p12_at x0 x1 x2 x3 x4 T
    · exact p13_at x0 x1 x2 x3 x4 T
    all_goals rfl
  pointwise [k0_pay15, dsS, gS, h9, h14, h3, h11, e4]
  simp only [hc]
  all_goals rfl

theorem p26_at (T : Fin 2048) (k : Fin 8) :
    k0_pay26 x0 x1 x2 x3 x4 (ix2 T k) = dsS (rS x0 x1 x2 x3 x4 T) ((rin x0 x1 x2 x3 x4).dg T) k := by
  have l0 : View.ld x0 r0_3 = x0 := View.ld_unit_zero hz _ _
  have l1 : View.ld x1 r0_0 = x1 := View.ld_unit_zero hz _ _
  have l2 : View.ld x2 r0_2 = x2 := View.ld_unit_zero hz _ _
  have l3 : View.ld x3 r0_1 = x3 := View.ld_unit_zero hz _ _
  have l4 : View.ld x4 r0_1 = x4 := View.ld_unit_zero hz _ _
  unfold k0_pay26
  rw [l0, l1, l2, l3, l4]
  exact p15_at x0 x1 x2 x3 x4 _ (p25_at x0 x1 x2 x3 x4) _ (p24_at x0 x1 x2 x3 x4) T k

theorem p29_at (T : Fin 2048) (e : Fin 256) : k0_pay29 x0 x1 x2 x3 x4 (ix2 T e) = (rin x0 x1 x2 x3 x4).D T e := by
  have h26 := p26_at x0 x1 x2 x3 x4 T
  have h25 := p25_at x0 x1 x2 x3 x4 T
  have h24 := p24_at x0 x1 x2 x3 x4 T
  pointwise [k0_pay29, k0_pay18, k0_pay27, k0_pay16, k0_pay28, k0_pay17, TIn.D, dlS, h26, h25, h24]
  all_goals rfl

theorem p30_at (T : Fin 2048) : k0_pay30 x0 x1 x2 x3 x4 (ix2 T 0) = (rin x0 x1 x2 x3 x4).A T := by
  have h29 := p29_at x0 x1 x2 x3 x4 T
  unfold k0_pay29 at h29
  pointwise [k0_pay30, k0_pay19, TIn.A, amS, h29]
  all_goals rfl

theorem p20_at (a : FVec Ideal S2048x1 .f32) (T : Fin 2048) :
    k0_pay20 a (Scalar.ofBits .f32 0x37924925#32) (ix2 T 0) = Quant.eR (vS (a (ix2 T 0))) := rfl

theorem p21_at (a : FVec Ideal S2048x1 .f32) (T : Fin 2048) :
    k0_pay21 a (Scalar.ofBits .f32 0x37924925#32) (ix2 T 0) = scS (a (ix2 T 0)) := rfl

theorem p22_at (d : FVec Ideal S2048x256 .f32) (a : FVec Ideal S2048x1 .f32) (T : Fin 2048) (e : Fin 256) :
    k0_pay22 d a (Scalar.ofBits .f32 0x37924925#32) (ix2 T e) =
      max (Ideal.ofBits .f32 3344957440#32) (d (ix2 T e) * ivS (a (ix2 T 0))) := by
  rw [ivS, ← p20_at]
  pointwise [k0_pay22, Quant.ldR]
  all_goals rfl

theorem p31_at (T : Fin 2048) : k0_pay31 x0 x1 x2 x3 x4 (ix2 T 0) = scS ((rin x0 x1 x2 x3 x4).A T) := by
  rw [← p30_at]
  exact p21_at _ T

theorem p32_at (T : Fin 2048) (e : Fin 256) : k0_pay32 x0 x1 x2 x3 x4 (ix2 T e) =
    max (Ideal.ofBits .f32 3344957440#32) ((rin x0 x1 x2 x3 x4).D T e * ivS ((rin x0 x1 x2 x3 x4).A T)) := by
  rw [← p30_at, ← p29_at]
  exact p22_at _ _ T e

theorem p1_at (T : Fin 2048) (e : Fin 256) :
    k0_pay1 (k0_pay32 x0 x1 x2 x3 x4) (k0_pay33 x0 x1 x2 x3 x4) (ix2 T e) = (rin x0 x1 x2 x3 x4).C T e := by
  have h := p32_at x0 x1 x2 x3 x4 T e
  pointwise [k0_pay1, k0_pay33, k0_pay23, TIn.C, cdS, h]
  all_goals rfl

/-! ## The results -/

theorem out5_at (T : Fin 2048) (h : Fin 7168) : out0_5 x0 x1 x2 x3 x4 (ix2 T h) = (rin x0 x1 x2 x3 x4).dx T h := by
  unfold out0_5
  rw [View.canon_unit_zero hz, View.ld_unit_zero hz]
  have h1 := p1_at x0 x1 x2 x3 x4 T
  have h31 := p31_at x0 x1 x2 x3 x4 T
  pointwise [k0_pay3, k0_pay2, TIn.dx, h1, h31]
  all_goals rfl

theorem out6_at (h : Fin 7168) (e : Fin 256) : out0_6 x0 x1 x2 x3 x4 (ix2 h e) = (rin x0 x1 x2 x3 x4).dw h e := by
  unfold out0_6
  rw [View.canon_unit_zero hz, View.ld_unit_zero hz, View.ld_unit_zero hz]
  have h1 := p1_at x0 x1 x2 x3 x4
  have h31 := p31_at x0 x1 x2 x3 x4
  unfold TIn.dw
  rw [Finset.sum_congr rfl fun T _ => mul_comm _ _]
  pointwise [k0_pay4, k0_pay2, k0_pay6, k0_pay8, h1, h31]
  all_goals rfl

theorem out7_at (T : Fin 2048) (e : Fin 256) : out0_7 x0 x1 x2 x3 x4 (ix2 T e) = (rin x0 x1 x2 x3 x4).D T e := by
  unfold out0_7
  rw [View.canon_unit_zero hz]
  exact p29_at x0 x1 x2 x3 x4 T e

theorem out8_at (T : Fin 2048) (e : Fin 256) : out0_8 x0 x1 x2 x3 x4 (ix2 T e) = (rin x0 x1 x2 x3 x4).C T e := by
  unfold out0_8
  rw [View.canon_unit_zero hz]
  exact p1_at x0 x1 x2 x3 x4 T e

theorem out9_at (n : Fin 16) (l : Fin 128) : out0_9 x0 x1 x2 x3 x4 (ix2 n l) =
    scS ((rin x0 x1 x2 x3 x4).A ⟨128 * n + l, by have := n.2; have := l.2; omega⟩) := by
  unfold out0_9
  rw [View.canon_unit_zero hz, ← p31_at]
  have h := n.2
  have h' := l.2
  generalize k0_pay31 x0 x1 x2 x3 x4 = a
  pointwise [k0_pay5]
  refine congrArg a (congrArg₂ ix2 (Fin.ext ?_) rfl)
  show (n : ℕ) * 128 + l = 128 * n + l
  omega

end Cert.ReferenceIdeal.Hand

end
-- ==== Proof.Hand.RefRun.lean ====
/- What the reference's run leaves in its result arrays, of its argument arrays. -/
module

public import proofs.«01_k».proof.Proof.Hand.RouterReference

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem
open Cert.Router

/-- The only grid point. -/
def t₀ : Fin cfg0.N := ⟨0, by decide⟩

section

variable {F : FTy → Type} [FloatOps F]
variable (m : (ℓ : Loc nD τ sig) → Buf (Elt F) ℓ)

theorem iblk0 (c : Dev nD) : iblk m c 0 t₀ = V m c main_v0 := by
  have hz : (fun a => (win0_0.index t₀) a * main_v0.ty.shape.size a) = fun _ => 0 := funext fun a => by fin_cases a <;> rfl
  exact Memref.read_access_unit_zero (Elt F) main_v0 hz (fun a => by fin_cases a <;> decide) _

theorem iblk1 (c : Dev nD) : iblk m c 1 t₀ = V m c main_v1 := by
  have hz : (fun a => (win0_1.index t₀) a * main_v1.ty.shape.size a) = fun _ => 0 := funext fun a => by fin_cases a <;> rfl
  exact Memref.read_access_unit_zero (Elt F) main_v1 hz (fun a => by fin_cases a <;> decide) _

theorem iblk2 (c : Dev nD) : iblk m c 2 t₀ = V m c main_arg2 := by
  have hz : (fun a => (win0_2.index t₀) a * main_arg2.ty.shape.size a) = fun _ => 0 := funext fun a => by fin_cases a <;> rfl
  exact Memref.read_access_unit_zero (Elt F) main_arg2 hz (fun a => by fin_cases a <;> decide) _

theorem iblk3 (c : Dev nD) : iblk m c 3 t₀ = V m c main_v2 := by
  have hz : (fun a => (win0_3.index t₀) a * main_v2.ty.shape.size a) = fun _ => 0 := funext fun a => by fin_cases a <;> rfl
  exact Memref.read_access_unit_zero (Elt F) main_v2 hz (fun a => by fin_cases a <;> decide) _

theorem iblk4 (c : Dev nD) : iblk m c 4 t₀ = V m c main_v3 := by
  have hz : (fun a => (win0_4.index t₀) a * main_v3.ty.shape.size a) = fun _ => 0 := funext fun a => by fin_cases a <;> rfl
  exact Memref.read_access_unit_zero (Elt F) main_v3 hz (fun a => by fin_cases a <;> decide) _

theorem final5 (c : Dev nD) : (dats m 0 c).arrAt 5 cfg0.N = out0_5 (V m c main_v0) (V m c main_v1) (V m c main_arg2) (V m c main_v2) (V m c main_v3) := by
  have ho := Value.blocks5 m c t₀ (by decide)
  have hz : (fun a => (win0_5.index t₀) a * main_v4_0.ty.shape.size a) = fun _ => 0 := funext fun a => by fin_cases a <;> rfl
  have hr := fun f => Memref.read_access_unit_zero (Elt F) main_v4_0 hz (fun a => by fin_cases a <;> decide) f
  rw [hr] at ho
  rw [ho]
  show (cfg0.win 5).cut _ ((dats m 0 c).after 5 t₀) = _
  rw [after0_5, iblk0, iblk1, iblk2, iblk3, iblk4]
  rfl

theorem final6 (c : Dev nD) : (dats m 0 c).arrAt 6 cfg0.N = out0_6 (V m c main_v0) (V m c main_v1) (V m c main_arg2) (V m c main_v2) (V m c main_v3) := by
  have ho := Value.blocks6 m c t₀ (by decide)
  have hz : (fun a => (win0_6.index t₀) a * main_v4_1.ty.shape.size a) = fun _ => 0 := funext fun a => by fin_cases a <;> rfl
  have hr := fun f => Memref.read_access_unit_zero (Elt F) main_v4_1 hz (fun a => by fin_cases a <;> decide) f
  rw [hr] at ho
  rw [ho]
  show (cfg0.win 6).cut _ ((dats m 0 c).after 6 t₀) = _
  rw [after0_6, iblk0, iblk1, iblk2, iblk3, iblk4]
  rfl

theorem final7 (c : Dev nD) : (dats m 0 c).arrAt 7 cfg0.N = out0_7 (V m c main_v0) (V m c main_v1) (V m c main_arg2) (V m c main_v2) (V m c main_v3) := by
  have ho := Value.blocks7 m c t₀ (by decide)
  have hz : (fun a => (win0_7.index t₀) a * main_v4_2.ty.shape.size a) = fun _ => 0 := funext fun a => by fin_cases a <;> rfl
  have hr := fun f => Memref.read_access_unit_zero (Elt F) main_v4_2 hz (fun a => by fin_cases a <;> decide) f
  rw [hr] at ho
  rw [ho]
  show (cfg0.win 7).cut _ ((dats m 0 c).after 7 t₀) = _
  rw [after0_7, iblk0, iblk1, iblk2, iblk3, iblk4]
  rfl

theorem final8 (c : Dev nD) : (dats m 0 c).arrAt 8 cfg0.N = out0_8 (V m c main_v0) (V m c main_v1) (V m c main_arg2) (V m c main_v2) (V m c main_v3) := by
  have ho := Value.blocks8 m c t₀ (by decide)
  have hz : (fun a => (win0_8.index t₀) a * main_v4_3.ty.shape.size a) = fun _ => 0 := funext fun a => by fin_cases a <;> rfl
  have hr := fun f => Memref.read_access_unit_zero (Elt F) main_v4_3 hz (fun a => by fin_cases a <;> decide) f
  rw [hr] at ho
  rw [ho]
  show (cfg0.win 8).cut _ ((dats m 0 c).after 8 t₀) = _
  rw [after0_8, iblk0, iblk1, iblk2, iblk3, iblk4]
  rfl

theorem final9 (c : Dev nD) : (dats m 0 c).arrAt 9 cfg0.N = out0_9 (V m c main_v0) (V m c main_v1) (V m c main_arg2) (V m c main_v2) (V m c main_v3) := by
  have ho := Value.blocks9 m c t₀ (by decide)
  have hz : (fun a => (win0_9.index t₀) a * main_v4_4.ty.shape.size a) = fun _ => 0 := funext fun a => by fin_cases a <;> rfl
  have hr := fun f => Memref.read_access_unit_zero (Elt F) main_v4_4 hz (fun a => by fin_cases a <;> decide) f
  rw [hr] at ho
  rw [ho]
  show (cfg0.win 9).cut _ ((dats m 0 c).after 9 t₀) = _
  rw [after0_9, iblk0, iblk1, iblk2, iblk3, iblk4]
  rfl

theorem V_main_v0 (c : Dev nD) : V m c main_v0 = shapeCast S2048x7168 (m ((c : Thread nD τ).loc main_arg0)) shapeCasts_S16x128x7168_S2048x7168 := by
  show StableHlo.after hostOps0 _ (Proc.devRef .tc main_v0) = _
  after_results
  rfl

theorem V_main_v1 (c : Dev nD) : V m c main_v1 = shapeCast S2048x1 (m ((c : Thread nD τ).loc main_arg1)) shapeCasts_S16x128_S2048x1 := by
  show StableHlo.after hostOps0 _ (Proc.devRef .tc main_v1) = _
  after_results
  rfl

theorem V_main_v2 (c : Dev nD) : V m c main_v2 = shapeCast S2048x8 (m ((c : Thread nD τ).loc main_arg3)) shapeCasts_S16x128x8_S2048x8 := by
  show StableHlo.after hostOps0 _ (Proc.devRef .tc main_v2) = _
  after_results
  rfl

theorem V_main_v3 (c : Dev nD) : V m c main_v3 = shapeCast S2048x8 (m ((c : Thread nD τ).loc main_arg4)) shapeCasts_S16x128x8_S2048x8 := by
  show StableHlo.after hostOps0 _ (Proc.devRef .tc main_v3) = _
  after_results
  rfl

end

/-! ## The reshapes -/

theorem cast_x (a : Vec Ideal S16x128x7168 .fp8e4m3) (T : Fin 2048) (h : Fin 7168) :
    shapeCast S2048x7168 a shapeCasts_S16x128x7168_S2048x7168 (ix2 T h) = a (ix3 ⟨T / 128, by omega⟩ ⟨T % 128, by omega⟩ h) := by
  pointwise []

theorem cast_xs (a : Vec Ideal S16x128 .f32) (T : Fin 2048) :
    shapeCast S2048x1 a shapeCasts_S16x128_S2048x1 (ix2 T 0) = a (ix2 ⟨T / 128, by omega⟩ ⟨T % 128, by omega⟩) := by
  pointwise []

theorem cast_id (a : Vec Ideal S16x128x8 .i32) (T : Fin 2048) (k : Fin 8) :
    shapeCast S2048x8 a shapeCasts_S16x128x8_S2048x8 (ix2 T k) = a (ix3 ⟨T / 128, by omega⟩ ⟨T % 128, by omega⟩ k) := by
  pointwise []

theorem cast_dg (a : Vec Ideal S16x128x8 .bf16) (T : Fin 2048) (k : Fin 8) :
    shapeCast S2048x8 a shapeCasts_S16x128x8_S2048x8 (ix2 T k) = a (ix3 ⟨T / 128, by omega⟩ ⟨T % 128, by omega⟩ k) := by
  pointwise []

theorem rin_cast (a0 : Vec Ideal S16x128x7168 .fp8e4m3) (a1 : Vec Ideal S16x128 .f32) (a2 : Vec Ideal S7168x256 .bf16)
    (a3 : Vec Ideal S16x128x8 .i32) (a4 : Vec Ideal S16x128x8 .bf16) :
    rin (shapeCast S2048x7168 a0 shapeCasts_S16x128x7168_S2048x7168) (shapeCast S2048x1 a1 shapeCasts_S16x128_S2048x1) a2
      (shapeCast S2048x8 a3 shapeCasts_S16x128x8_S2048x8) (shapeCast S2048x8 a4 shapeCasts_S16x128x8_S2048x8) = ain a0 a1 a2 a3 a4 := by
  have e0 := funext fun T => funext fun h => cast_x a0 T h
  have e1 := funext fun T => cast_xs a1 T
  have e3 := funext fun T => funext fun h => cast_id a3 T h
  have e4 := funext fun T => funext fun h => cast_dg a4 T h
  unfold rin ain
  rw [e0, e1, e3, e4]

variable (m : (ℓ : Loc nD τ sig) → Buf (Elt Ideal) ℓ)

/-- The inputs of the run on core `c`, as numbers. -/
theorem rin_eq (c : Dev nD) :
    rin (V m c main_v0) (V m c main_v1) (V m c main_arg2) (V m c main_v2) (V m c main_v3) = ain (m ((c : Thread nD τ).loc main_arg0)) (m ((c : Thread nD τ).loc main_arg1))
      (m ((c : Thread nD τ).loc main_arg2)) (m ((c : Thread nD τ).loc main_arg3)) (m ((c : Thread nD τ).loc main_arg4)) := by
  rw [V_main_v0, V_main_v1, V_main_arg2, V_main_v2, V_main_v3]
  exact rin_cast _ _ _ _ _

end Cert.ReferenceIdeal.Hand

end
-- ==== Proof.Hand.Whole.lean ====
/- Kernel and reference compute the same five results over the extended reals. -/
module

public import proofs.«01_k».proof.Defs
public import proofs.«01_k».proof.Proof.Gen.KernelIdeal
public import proofs.«01_k».proof.Proof.Hand.KerRun
public import proofs.«01_k».proof.Proof.Hand.RefRun

@[expose] public section

set_option maxRecDepth 65536

noncomputable section

namespace Cert.KernelIdeal.Hand

open Cert.KernelIdeal
open Idealize.ShloMosaic Idealize.ShloMosaic.TcCoe Idealize.SL.Sem
open Cert.Kernel.Hand (G5 G21 G22 G23 G24 XIn)

/-- The ideal program's run, each result named and the arguments unchanged. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = G5 (XIn (F := Ideal) m c)
      ∧ r.2.mem ((c.tc : Thread nD τ).loc main_v3_1) = G21 (XIn (F := Ideal) m c)
      ∧ r.2.mem ((c.tc : Thread nD τ).loc main_v3_2) = G22 (XIn (F := Ideal) m c)
      ∧ r.2.mem ((c.tc : Thread nD τ).loc main_v3_3) = G23 (XIn (F := Ideal) m c)
      ∧ r.2.mem ((c.tc : Thread nD τ).loc main_v3_4) = G24 (XIn (F := Ideal) m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Cert.Kernel.Hand.run_values (F := Ideal) m ρ

end Cert.KernelIdeal.Hand

namespace Cert.Whole

open Idealize.ShloMosaic Idealize.ShloMosaic.TcCoe Idealize.SL.Sem
open Cert.Kernel.Hand
open Cert.Router

theorem ext2 {n0 n1 : ℕ} {α : Type} (f g : (⟨2, ![n0, n1]⟩ : Shape).Idx → α) (h : ∀ a b, f (ix2 a b) = g (ix2 a b)) : f = g :=
  funext fun i => (congrArg f (eq_ix2 i)).trans ((h _ _).trans (congrArg g (eq_ix2 i)).symm)

variable (X : GIn Ideal)
variable (x0 : Vec Ideal Cert.ReferenceIdeal.S2048x7168 .fp8e4m3) (x1 : Vec Ideal Cert.ReferenceIdeal.S2048x1 .f32)
  (x2 : Vec Ideal Cert.ReferenceIdeal.S7168x256 .bf16) (x3 : Vec Ideal Cert.ReferenceIdeal.S2048x8 .i32)
  (x4 : Vec Ideal Cert.ReferenceIdeal.S2048x8 .bf16)
variable (h : Cert.ReferenceIdeal.Hand.rin x0 x1 x2 x3 x4 = tin X)

include h

theorem same5 : Cert.ReferenceIdeal.Gen.out0_5 x0 x1 x2 x3 x4 = G5 X := by
  refine ext2 _ _ fun a b => ?_
  rw [Cert.ReferenceIdeal.Hand.out5_at, G5_at, h]

theorem same6 : Cert.ReferenceIdeal.Gen.out0_6 x0 x1 x2 x3 x4 = G21 X := by
  refine ext2 _ _ fun a b => ?_
  rw [Cert.ReferenceIdeal.Hand.out6_at, G21_at, h]

theorem same7 : Cert.ReferenceIdeal.Gen.out0_7 x0 x1 x2 x3 x4 = G22 X := by
  refine ext2 _ _ fun a b => ?_
  rw [Cert.ReferenceIdeal.Hand.out7_at, G22_at, h]

theorem same8 : Cert.ReferenceIdeal.Gen.out0_8 x0 x1 x2 x3 x4 = G23 X := by
  refine ext2 _ _ fun a b => ?_
  rw [Cert.ReferenceIdeal.Hand.out8_at, G23_at, h]

theorem same9 : Cert.ReferenceIdeal.Gen.out0_9 x0 x1 x2 x3 x4 = G24 X := by
  refine ext2 _ _ fun a b => ?_
  rw [Cert.ReferenceIdeal.Hand.out9_at, G24_at, h]
  rfl

omit h

theorem algebraic : Cert.algebraic_KernelIdeal_ReferenceIdeal (hKernelIdeal := Cert.KernelIdeal.Gen.facts)
    (hReferenceIdeal := Cert.ReferenceIdeal.Gen.facts) := by
  intro m g m' g' _ hm
  have hin : ∀ c, Cert.ReferenceIdeal.Hand.rin (Cert.ReferenceIdeal.Gen.V m' c Cert.ReferenceIdeal.main_v0)
      (Cert.ReferenceIdeal.Gen.V m' c Cert.ReferenceIdeal.main_v1) (Cert.ReferenceIdeal.Gen.V m' c Cert.ReferenceIdeal.main_arg2)
      (Cert.ReferenceIdeal.Gen.V m' c Cert.ReferenceIdeal.main_v2) (Cert.ReferenceIdeal.Gen.V m' c Cert.ReferenceIdeal.main_v3)
      = tin (XIn (F := Ideal) m c) := by
    intro c
    obtain ⟨h0, h1, h2, h3, h4⟩ := hm c
    refine (Cert.ReferenceIdeal.Hand.rin_eq m' c).trans (Eq.trans ?_ (Cert.Kernel.Hand.tin_eq m c).symm)
    rw [h0, h1, h2, h3, h4]
  refine ⟨fun c => G5 (XIn (F := Ideal) m c), fun c => G21 (XIn (F := Ideal) m c), fun c => G22 (XIn (F := Ideal) m c),
    fun c => G23 (XIn (F := Ideal) m c), fun c => G24 (XIn (F := Ideal) m c), Cert.KernelIdeal.Hand.run_values m g, ?_⟩
  refine (θ_run _ _ _).mono (fun r h c => ?_) (Cert.ReferenceIdeal.Value.run_blocks m' g')
  obtain ⟨h5, h6, h7, h8, h9, ha⟩ := h c
  exact ⟨h5.trans ((Cert.ReferenceIdeal.Hand.final5 m' c).trans (same5 _ _ _ _ _ _ (hin c))),
    h6.trans ((Cert.ReferenceIdeal.Hand.final6 m' c).trans (same6 _ _ _ _ _ _ (hin c))),
    h7.trans ((Cert.ReferenceIdeal.Hand.final7 m' c).trans (same7 _ _ _ _ _ _ (hin c))),
    h8.trans ((Cert.ReferenceIdeal.Hand.final8 m' c).trans (same8 _ _ _ _ _ _ (hin c))),
    h9.trans ((Cert.ReferenceIdeal.Hand.final9 m' c).trans (same9 _ _ _ _ _ _ (hin c))), ha⟩

end Cert.Whole

end
-- ==== Proof.lean ====
/- The proof of the claims stated in Defs: the frames of the three programs, that the ideal program is the
   kernel over the extended reals, and that it computes there what the reference computes. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Hand.Ideal
public import proofs.«01_k».proof.Proof.Hand.Whole

@[expose] public section

set_option maxRecDepth 65536

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  Cert.Whole.algebraic⟩

end Cert.Proof
